-- ==== Defs.lean ====
def Pre_Dots [hPre_in_field : Cert.Pre_in_field.Facts] (m : (ℓ : Loc Cert.Dots.nD Cert.Dots.τ Cert.Dots.sig) → Buf (Elt Bits) ℓ) : Prop :=
  ∀ c : Dev Cert.Dots.nD,
    (Cert.Pre_in_field.fn (F := Bits) (m ((c.tc : Thread Cert.Dots.nD Cert.Dots.τ).loc Cert.Dots.main_arg0)) (m ((c.tc : Thread Cert.Dots.nD Cert.Dots.τ).loc Cert.Dots.main_arg1))) = (fun _ => 1#1)

def Pre_DotsIdeal [hPre_in_field : Cert.Pre_in_field.Facts] (m : (ℓ : Loc Cert.DotsIdeal.nD Cert.DotsIdeal.τ Cert.DotsIdeal.sig) → Buf (Elt Ideal) ℓ) : Prop :=
  ∀ c : Dev Cert.DotsIdeal.nD,
    (Cert.Pre_in_field.fn (F := Ideal) (m ((c.tc : Thread Cert.DotsIdeal.nD Cert.DotsIdeal.τ).loc Cert.DotsIdeal.main_arg0)) (m ((c.tc : Thread Cert.DotsIdeal.nD Cert.DotsIdeal.τ).loc Cert.DotsIdeal.main_arg1))) = (fun _ => 1#1)

def Pre_DotsRefIdeal (m : (ℓ : Loc Cert.DotsRefIdeal.nD Cert.DotsRefIdeal.τ Cert.DotsRefIdeal.sig) → Buf (Elt Ideal) ℓ) : Prop :=
  True

def Pre_DotsRefIdeal_in_field [hPre_in_field : Cert.Pre_in_field.Facts] (m : (ℓ : Loc Cert.DotsRefIdeal.nD Cert.DotsRefIdeal.τ Cert.DotsRefIdeal.sig) → Buf (Elt Ideal) ℓ) : Prop :=
  ∀ c : Dev Cert.DotsRefIdeal.nD,
    (Cert.Pre_in_field.fn (F := Ideal) (m ((c.tc : Thread Cert.DotsRefIdeal.nD Cert.DotsRefIdeal.τ).loc Cert.DotsRefIdeal.main_arg0)) (m ((c.tc : Thread Cert.DotsRefIdeal.nD Cert.DotsRefIdeal.τ).loc Cert.DotsRefIdeal.main_arg1))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Dots [hDots : Cert.Dots.Facts] [hPre_in_field : Cert.Pre_in_field.Facts] : Prop :=
  ∀ (m : (ℓ : Loc Cert.Dots.nD Cert.Dots.τ Cert.Dots.sig) → Buf (Elt Bits) ℓ) (g : Dev Cert.Dots.nD → PrngReg), Pre_Dots m →
    θ_run (Cert.Dots.defs (F := Bits)) (onTc (τ := Cert.Dots.τ) (Cert.Dots.main (F := Bits))) ⟨m, fun _ => 0, g⟩ (fun r => (∀ c : Dev Cert.Dots.nD,
      r.2.mem ((c.tc : Thread Cert.Dots.nD Cert.Dots.τ).loc Cert.Dots.main_arg0) = m ((c.tc : Thread Cert.Dots.nD Cert.Dots.τ).loc Cert.Dots.main_arg0)
      ∧ r.2.mem ((c.tc : Thread Cert.Dots.nD Cert.Dots.τ).loc Cert.Dots.main_arg1) = m ((c.tc : Thread Cert.Dots.nD Cert.Dots.τ).loc Cert.Dots.main_arg1))
      ∧ r.2.sem = fun _ => 0)

def quiescent_DotsIdeal [hDotsIdeal : Cert.DotsIdeal.Facts] [hPre_in_field : Cert.Pre_in_field.Facts] : Prop :=
  ∀ (m : (ℓ : Loc Cert.DotsIdeal.nD Cert.DotsIdeal.τ Cert.DotsIdeal.sig) → Buf (Elt Ideal) ℓ) (g : Dev Cert.DotsIdeal.nD → PrngReg), Pre_DotsIdeal m →
    θ_run (Cert.DotsIdeal.defs (F := Ideal)) (onTc (τ := Cert.DotsIdeal.τ) (Cert.DotsIdeal.main (F := Ideal))) ⟨m, fun _ => 0, g⟩ (fun r => (∀ c : Dev Cert.DotsIdeal.nD,
      r.2.mem ((c.tc : Thread Cert.DotsIdeal.nD Cert.DotsIdeal.τ).loc Cert.DotsIdeal.main_arg0) = m ((c.tc : Thread Cert.DotsIdeal.nD Cert.DotsIdeal.τ).loc Cert.DotsIdeal.main_arg0)
      ∧ r.2.mem ((c.tc : Thread Cert.DotsIdeal.nD Cert.DotsIdeal.τ).loc Cert.DotsIdeal.main_arg1) = m ((c.tc : Thread Cert.DotsIdeal.nD Cert.DotsIdeal.τ).loc Cert.DotsIdeal.main_arg1))
      ∧ r.2.sem = fun _ => 0)

def quiescent_DotsRefIdeal [hDotsRefIdeal : Cert.DotsRefIdeal.Facts] : Prop :=
  ∀ (m : (ℓ : Loc Cert.DotsRefIdeal.nD Cert.DotsRefIdeal.τ Cert.DotsRefIdeal.sig) → Buf (Elt Ideal) ℓ) (g : Dev Cert.DotsRefIdeal.nD → PrngReg), Pre_DotsRefIdeal m →
    θ_run (Cert.DotsRefIdeal.defs (F := Ideal)) (onTc (τ := Cert.DotsRefIdeal.τ) (Cert.DotsRefIdeal.main (F := Ideal))) ⟨m, fun _ => 0, g⟩ (fun r => (∀ c : Dev Cert.DotsRefIdeal.nD,
      r.2.mem ((c.tc : Thread Cert.DotsRefIdeal.nD Cert.DotsRefIdeal.τ).loc Cert.DotsRefIdeal.main_arg0) = m ((c.tc : Thread Cert.DotsRefIdeal.nD Cert.DotsRefIdeal.τ).loc Cert.DotsRefIdeal.main_arg0)
      ∧ r.2.mem ((c.tc : Thread Cert.DotsRefIdeal.nD Cert.DotsRefIdeal.τ).loc Cert.DotsRefIdeal.main_arg1) = m ((c.tc : Thread Cert.DotsRefIdeal.nD Cert.DotsRefIdeal.τ).loc Cert.DotsRefIdeal.main_arg1))
      ∧ r.2.sem = fun _ => 0)

def quiescent_DotsRefIdeal_pre_in_field [hDotsRefIdeal : Cert.DotsRefIdeal.Facts] [hPre_in_field : Cert.Pre_in_field.Facts] : Prop :=
  ∀ (m : (ℓ : Loc Cert.DotsRefIdeal.nD Cert.DotsRefIdeal.τ Cert.DotsRefIdeal.sig) → Buf (Elt Ideal) ℓ) (g : Dev Cert.DotsRefIdeal.nD → PrngReg), Pre_DotsRefIdeal_in_field m →
    θ_run (Cert.DotsRefIdeal.defs (F := Ideal)) (onTc (τ := Cert.DotsRefIdeal.τ) (Cert.DotsRefIdeal.main (F := Ideal))) ⟨m, fun _ => 0, g⟩ (fun r => (∀ c : Dev Cert.DotsRefIdeal.nD,
      r.2.mem ((c.tc : Thread Cert.DotsRefIdeal.nD Cert.DotsRefIdeal.τ).loc Cert.DotsRefIdeal.main_arg0) = m ((c.tc : Thread Cert.DotsRefIdeal.nD Cert.DotsRefIdeal.τ).loc Cert.DotsRefIdeal.main_arg0)
      ∧ r.2.mem ((c.tc : Thread Cert.DotsRefIdeal.nD Cert.DotsRefIdeal.τ).loc Cert.DotsRefIdeal.main_arg1) = m ((c.tc : Thread Cert.DotsRefIdeal.nD Cert.DotsRefIdeal.τ).loc Cert.DotsRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
      ∧ r.2.sem = fun _ => 0)

def preserves_Dots_DotsIdeal : Prop :=
  True

def algebraic_DotsIdeal_DotsRefIdeal [hDotsIdeal : Cert.DotsIdeal.Facts] [hDotsRefIdeal : Cert.DotsRefIdeal.Facts] [hPre_in_field : Cert.Pre_in_field.Facts] : Prop :=
  ∀ (m : (ℓ : Loc Cert.DotsIdeal.nD Cert.DotsIdeal.τ Cert.DotsIdeal.sig) → Buf (Elt Ideal) ℓ) (g : Dev Cert.DotsIdeal.nD → PrngReg)
    (m' : (ℓ : Loc Cert.DotsRefIdeal.nD Cert.DotsRefIdeal.τ Cert.DotsRefIdeal.sig) → Buf (Elt Ideal) ℓ) (g' : Dev Cert.DotsRefIdeal.nD → PrngReg), Pre_DotsIdeal m →
    (∀ c : Dev Cert.DotsIdeal.nD,
      m' ((c.tc : Thread Cert.DotsRefIdeal.nD Cert.DotsRefIdeal.τ).loc Cert.DotsRefIdeal.main_arg0) = m ((c.tc : Thread Cert.DotsIdeal.nD Cert.DotsIdeal.τ).loc Cert.DotsIdeal.main_arg0)
      ∧ m' ((c.tc : Thread Cert.DotsRefIdeal.nD Cert.DotsRefIdeal.τ).loc Cert.DotsRefIdeal.main_arg1) = m ((c.tc : Thread Cert.DotsIdeal.nD Cert.DotsIdeal.τ).loc Cert.DotsIdeal.main_arg1)) →
    ∃ (v0 : (c : Dev Cert.DotsIdeal.nD) → Buf (Elt Ideal) ((c.tc : Thread Cert.DotsIdeal.nD Cert.DotsIdeal.τ).loc Cert.DotsIdeal.main_v2)),
      θ_run (Cert.DotsIdeal.defs (F := Ideal)) (onTc (τ := Cert.DotsIdeal.τ) (Cert.DotsIdeal.main (F := Ideal))) ⟨m, fun _ => 0, g⟩ (fun r => ∀ c : Dev Cert.DotsIdeal.nD,
          r.2.mem ((c.tc : Thread Cert.DotsIdeal.nD Cert.DotsIdeal.τ).loc Cert.DotsIdeal.main_v2) = v0 c
          ∧ r.2.mem ((c.tc : Thread Cert.DotsIdeal.nD Cert.DotsIdeal.τ).loc Cert.DotsIdeal.main_arg0) = m ((c.tc : Thread Cert.DotsIdeal.nD Cert.DotsIdeal.τ).loc Cert.DotsIdeal.main_arg0)
          ∧ r.2.mem ((c.tc : Thread Cert.DotsIdeal.nD Cert.DotsIdeal.τ).loc Cert.DotsIdeal.main_arg1) = m ((c.tc : Thread Cert.DotsIdeal.nD Cert.DotsIdeal.τ).loc Cert.DotsIdeal.main_arg1))
      ∧ θ_run (Cert.DotsRefIdeal.defs (F := Ideal)) (onTc (τ := Cert.DotsRefIdeal.τ) (Cert.DotsRefIdeal.main (F := Ideal))) ⟨m', fun _ => 0, g'⟩ (fun r => ∀ c : Dev Cert.DotsRefIdeal.nD,
          r.2.mem ((c.tc : Thread Cert.DotsRefIdeal.nD Cert.DotsRefIdeal.τ).loc Cert.DotsRefIdeal.main_v35) = v0 c
          ∧ r.2.mem ((c.tc : Thread Cert.DotsRefIdeal.nD Cert.DotsRefIdeal.τ).loc Cert.DotsRefIdeal.main_arg0) = m' ((c.tc : Thread Cert.DotsRefIdeal.nD Cert.DotsRefIdeal.τ).loc Cert.DotsRefIdeal.main_arg0)
          ∧ r.2.mem ((c.tc : Thread Cert.DotsRefIdeal.nD Cert.DotsRefIdeal.τ).loc Cert.DotsRefIdeal.main_arg1) = m' ((c.tc : Thread Cert.DotsRefIdeal.nD Cert.DotsRefIdeal.τ).loc Cert.DotsRefIdeal.main_arg1))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v38) = v0 c
          ∧ r.2.mem ((c.tc : Thread Cert.CombineRefIdeal.nD Cert.CombineRefIdeal.τ).loc Cert.CombineRefIdeal.main_v22) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2))

def Claim : Prop :=
  ∃ (hDots : Cert.Dots.Facts) (hDotsIdeal : Cert.DotsIdeal.Facts) (hDotsRefIdeal : Cert.DotsRefIdeal.Facts) (hCombine : Cert.Combine.Facts) (hCombineIdeal : Cert.CombineIdeal.Facts) (hCombineRefIdeal : Cert.CombineRefIdeal.Facts) (hPre_in_field : Cert.Pre_in_field.Facts),
    quiescent_Dots (hDots := hDots) (hPre_in_field := hPre_in_field)
    ∧ quiescent_DotsIdeal (hDotsIdeal := hDotsIdeal) (hPre_in_field := hPre_in_field)
    ∧ quiescent_DotsRefIdeal (hDotsRefIdeal := hDotsRefIdeal)
    ∧ quiescent_DotsRefIdeal_pre_in_field (hDotsRefIdeal := hDotsRefIdeal) (hPre_in_field := hPre_in_field)
    ∧ quiescent_Combine (hCombine := hCombine)
    ∧ quiescent_CombineIdeal (hCombineIdeal := hCombineIdeal)
    ∧ quiescent_CombineRefIdeal (hCombineRefIdeal := hCombineRefIdeal)
    ∧ preserves_Dots_DotsIdeal
    ∧ algebraic_DotsIdeal_DotsRefIdeal (hDotsIdeal := hDotsIdeal) (hDotsRefIdeal := hDotsRefIdeal) (hPre_in_field := hPre_in_field)
    ∧ preserves_Combine_CombineIdeal
    ∧ algebraic_CombineIdeal_CombineRefIdeal (hCombineIdeal := hCombineIdeal) (hCombineRefIdeal := hCombineRefIdeal)
-- ==== Pre_in_field.lean ====
abbrev S8x256x24 : Shape := ⟨3, ![8, 256, 24]⟩
abbrev S720000x480 : Shape := ⟨2, ![720000, 480]⟩
abbrev S24 : Shape := ⟨1, ![24]⟩
abbrev S_ : Shape := ⟨0, ![]⟩
abbrev S1x1x24 : Shape := ⟨3, ![1, 1, 24]⟩

class Facts : Prop where
  bcast_S_S24 : S_.BroadcastsInDim S24 (![] : Fin 0 → Fin S24.rank)
  bcast_S24_S1x1x24_2 : S24.BroadcastsInDim S1x1x24 (![2] : Fin 1 → Fin S1x1x24.rank)
  bcast_S1x1x24_S8x256x24_0_1_2 : S1x1x24.BroadcastsInDim S8x256x24 (![0, 1, 2] : Fin 3 → Fin S8x256x24.rank)

variable [Facts]

def fn {F : FTy → Type} [FloatOps F] (main_arg0 : IVec S8x256x24 32) (main_arg1 : IVec S720000x480 8) : IVec S8x256x24 1 :=
  let main_v0 : IVec S24 32 := iotaInDim S24 32 0
  let main_c : IVec S_ 32 := constantI S_ 32 30000#32
  let main_v1 : IVec S24 32 := broadcastInDim S24 ![] bcast_S_S24 main_c
  let main_v2 : IVec S24 32 := muli main_v1 main_v0
  let main_v3 : IVec S1x1x24 32 := broadcastInDim S1x1x24 ![2] bcast_S24_S1x1x24_2 main_v2
  let main_v4 : IVec S8x256x24 32 := broadcastInDim S8x256x24 ![0, 1, 2] bcast_S1x1x24_S8x256x24_0_1_2 main_v3
  let main_v5 : IVec S8x256x24 1 := cmpi .sge main_arg0 main_v4
  let main_c_0 : IVec S_ 32 := constantI S_ 32 30000#32
  let main_v6 : IVec S24 32 := broadcastInDim S24 ![] bcast_S_S24 main_c_0
  let main_v7 : IVec S24 32 := addi main_v2 main_v6
  let main_v8 : IVec S1x1x24 32 := broadcastInDim S1x1x24 ![2] bcast_S24_S1x1x24_2 main_v7
  let main_v9 : IVec S8x256x24 32 := broadcastInDim S8x256x24 ![0, 1, 2] bcast_S1x1x24_S8x256x24_0_1_2 main_v8
  let main_v10 : IVec S8x256x24 1 := cmpi .slt main_arg0 main_v9
  let main_v11 : IVec S8x256x24 1 := andi main_v5 main_v10
  main_v11
-- ==== Dots.lean ====
abbrev S8x256x24 : Shape := ⟨3, ![8, 256, 24]⟩
abbrev S720000x480 : Shape := ⟨2, ![720000, 480]⟩
abbrev S8x24x256 : Shape := ⟨3, ![8, 24, 256]⟩
abbrev S480x720000 : Shape := ⟨2, ![480, 720000]⟩
abbrev S4416x128 : Shape := ⟨2, ![4416, 128]⟩
abbrev S4x480x7552 : Shape := ⟨3, ![4, 480, 7552]⟩
abbrev S30208x128 : Shape := ⟨2, ![30208, 128]⟩
abbrev S2048x128 : Shape := ⟨2, ![2048, 128]⟩
abbrev S2040x128 : Shape := ⟨2, ![2040, 128]⟩
abbrev S11520x128 : Shape := ⟨2, ![11520, 128]⟩
abbrev S384x128 : Shape := ⟨2, ![384, 128]⟩
abbrev S4 : Shape := ⟨1, ![4]⟩
abbrev S_ : Shape := ⟨0, ![]⟩
abbrev S1 : Shape := ⟨1, ![1]⟩
abbrev S1x32x7552 : Shape := ⟨3, ![1, 32, 7552]⟩
abbrev S32x7552 : Shape := ⟨2, ![32, 7552]⟩
abbrev S8x128 : Shape := ⟨2, ![8, 128]⟩
abbrev S1x8x128 : Shape := ⟨3, ![1, 8, 128]⟩
abbrev S1x480x128 : Shape := ⟨3, ![1, 480, 128]⟩
abbrev S480x128 : Shape := ⟨2, ![480, 128]⟩
abbrev S120x128 : Shape := ⟨2, ![120, 128]⟩
abbrev S128x120 : Shape := ⟨2, ![128, 120]⟩
abbrev S1x1 : Shape := ⟨2, ![1, 1]⟩
abbrev S1x128 : Shape := ⟨2, ![1, 128]⟩
abbrev S128x128 : Shape := ⟨2, ![128, 128]⟩
abbrev S16x128 : Shape := ⟨2, ![16, 128]⟩

abbrev nBuf : Space → Nat
  | .hbm => 5
  | .vmem => 9
  | .smem => 1
  | _ => 0

abbrev bufTy : (tb : Table) → Fin (tcTables nBuf tb) → BufTy
  | .hbm, ⟨0, _⟩ => ⟨S8x256x24, .i32⟩
  | .hbm, ⟨1, _⟩ => ⟨S720000x480, .i8⟩
  | .hbm, ⟨2, _⟩ => ⟨S8x24x256, .i32⟩
  | .hbm, ⟨3, _⟩ => ⟨S480x720000, .i8⟩
  | .hbm, ⟨4, _⟩ => ⟨S4416x128, .f32⟩
  | .local _ .vmem, ⟨0, _⟩ => ⟨S8x24x256, .i32⟩
  | .local _ .vmem, ⟨1, _⟩ => ⟨S4416x128, .f32⟩
  | .local _ .vmem, ⟨2, _⟩ => ⟨S4x480x7552, .i8⟩
  | .local _ .vmem, ⟨3, _⟩ => ⟨S30208x128, .i32⟩
  | .local _ .vmem, ⟨4, _⟩ => ⟨S30208x128, .i32⟩
  | .local _ .vmem, ⟨5, _⟩ => ⟨S2048x128, .i32⟩
  | .local _ .vmem, ⟨6, _⟩ => ⟨S2040x128, .i32⟩
  | .local _ .vmem, ⟨7, _⟩ => ⟨S11520x128, .i32⟩
  | .local _ .vmem, ⟨8, _⟩ => ⟨S384x128, .i32⟩
  | .local _ .smem, ⟨0, _⟩ => ⟨S384x128, .i32⟩
  | _, _ => ⟨S8x256x24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
@[reducible] def k0_t2_loop : Scf.Loop 32 :=
  let c0_i32_52 : BitVec 32 := 0#32
  let c15_i32 : BitVec 32 := 15#32
  let v29 : BitVec 32 := Scalar.addi c0_i32_52 c15_i32
  let c1_i32_53 : BitVec 32 := 1#32
  ⟨c0_i32_52, v29, c1_i32_53⟩
def k0_mult1 (k0_t1 : Fin k0_t1_loop.trips) : BitVec 32 :=
  let c0_i32_57 : BitVec 32 := 0#32
  let c5389_i32 : BitVec 32 := 5389#32
  let v32 : BitVec 32 := Scalar.minsi c0_i32_57 c5389_i32
  let c128_i32 : BitVec 32 := 128#32
  let v33 : BitVec 32 := Scalar.muli v32 c128_i32
  let c0_i32_51 : BitVec 32 := 0#32
  let c0_i32 : BitVec 32 := 0#32
  let c1_i32 : BitVec 32 := 1#32
  let arg13 : BitVec 32 := Scf.iv c0_i32 c1_i32 k0_t1
  let c1_i32_50 : BitVec 32 := 1#32
  let v27 : BitVec 32 := Scalar.muli arg13 c1_i32_50
  let v28 : BitVec 32 := Scalar.addi c0_i32_51 v27
  let c7552_i32 : BitVec 32 := 7552#32
  let v34 : BitVec 32 := Scalar.muli v28 c7552_i32
  let v35 : BitVec 32 := Scalar.addi v33 v34
  v35
def k0_mult2 (k0_t2 : Fin k0_t2_loop.trips) : BitVec 32 :=
  let c0_i32_56 : BitVec 32 := 0#32
  let c0_i32_52 : BitVec 32 := 0#32
  let c1_i32_53 : BitVec 32 := 1#32
  let arg14 : BitVec 32 := Scf.iv c0_i32_52 c1_i32_53 k0_t2
  let c1_i32_55 : BitVec 32 := 1#32
  let v30 : BitVec 32 := Scalar.muli arg14 c1_i32_55
  let v31 : BitVec 32 := Scalar.addi c0_i32_56 v30
  let c8_i32 : BitVec 32 := 8#32
  let v37 : BitVec 32 := Scalar.muli v31 c8_i32
  let c4_i32_58 : BitVec 32 := 4#32
  let v38 : BitVec 32 := Scalar.muli v37 c4_i32_58
  v38
def k0_off1 (k0_t1 : Fin k0_t1_loop.trips) : Fin 1 → Nat :=
  let c0_i32_51 : BitVec 32 := 0#32
  let c0_i32 : BitVec 32 := 0#32
  let c1_i32 : BitVec 32 := 1#32
  let arg13 : BitVec 32 := Scf.iv c0_i32 c1_i32 k0_t1
  let c1_i32_50 : BitVec 32 := 1#32
  let v27 : BitVec 32 := Scalar.muli arg13 c1_i32_50
  let v28 : BitVec 32 := Scalar.addi c0_i32_51 v27
  ![v28.toNat]
def k0_off2 (k0_t1 : Fin k0_t1_loop.trips) (k0_t2 : Fin k0_t2_loop.trips) : Fin 3 → Nat :=
  let c0_i32_51 : BitVec 32 := 0#32
  let c0_i32 : BitVec 32 := 0#32
  let c1_i32 : BitVec 32 := 1#32
  let arg13 : BitVec 32 := Scf.iv c0_i32 c1_i32 k0_t1
  let c1_i32_50 : BitVec 32 := 1#32
  let v27 : BitVec 32 := Scalar.muli arg13 c1_i32_50
  let v28 : BitVec 32 := Scalar.addi c0_i32_51 v27
  let c0_i32_56 : BitVec 32 := 0#32
  let c0_i32_52 : BitVec 32 := 0#32
  let c1_i32_53 : BitVec 32 := 1#32
  let arg14 : BitVec 32 := Scf.iv c0_i32_52 c1_i32_53 k0_t2
  let c1_i32_55 : BitVec 32 := 1#32
  let v30 : BitVec 32 := Scalar.muli arg14 c1_i32_55
  let v31 : BitVec 32 := Scalar.addi c0_i32_56 v30
  let c8_i32 : BitVec 32 := 8#32
  let v37 : BitVec 32 := Scalar.muli v31 c8_i32
  let c4_i32_58 : BitVec 32 := 4#32
  let v38 : BitVec 32 := Scalar.muli v37 c4_i32_58
  let v39 : BitVec 32 := v38
  let c0_i32_59 : BitVec 32 := 0#32
  ![v28.toNat, v39.toNat, 0]
def k0_off3 (k0_t1 : Fin k0_t1_loop.trips) (k0_t2 : Fin k0_t2_loop.trips) : Fin 2 → Nat :=
  let c0_i32_56 : BitVec 32 := 0#32
  let c0_i32_52 : BitVec 32 := 0#32
  let c1_i32_53 : BitVec 32 := 1#32
  let arg14 : BitVec 32 := Scf.iv c0_i32_52 c1_i32_53 k0_t2
  let c1_i32_55 : BitVec 32 := 1#32
  let v30 : BitVec 32 := Scalar.muli arg14 c1_i32_55
  let v31 : BitVec 32 := Scalar.addi c0_i32_56 v30
  let c8_i32 : BitVec 32 := 8#32
  let v37 : BitVec 32 := Scalar.muli v31 c8_i32
  let c4_i32_58 : BitVec 32 := 4#32
  let v38 : BitVec 32 := Scalar.muli v37 c4_i32_58
  let v39 : BitVec 32 := v38
  let c0_i32_57 : BitVec 32 := 0#32
  let c5389_i32 : BitVec 32 := 5389#32
  let v32 : BitVec 32 := Scalar.minsi c0_i32_57 c5389_i32
  let c128_i32 : BitVec 32 := 128#32
  let v33 : BitVec 32 := Scalar.muli v32 c128_i32
  let c0_i32_51 : BitVec 32 := 0#32
  let c0_i32 : BitVec 32 := 0#32
  let c1_i32 : BitVec 32 := 1#32
  let arg13 : BitVec 32 := Scf.iv c0_i32 c1_i32 k0_t1
  let c1_i32_50 : BitVec 32 := 1#32
  let v27 : BitVec 32 := Scalar.muli arg13 c1_i32_50
  let v28 : BitVec 32 := Scalar.addi c0_i32_51 v27
  let c7552_i32 : BitVec 32 := 7552#32
  let v34 : BitVec 32 := Scalar.muli v28 c7552_i32
  let v35 : BitVec 32 := Scalar.addi v33 v34
  let v36 : BitVec 32 := v35
  ![v39.toNat, v36.toNat]
@[reducible] def k0_t3_loop : Scf.Loop 32 :=
  let c0_i32_1 : BitVec 32 := 0#32
  let c16_i32 : BitVec 32 := 16#32
  let v2 : BitVec 32 := Scalar.addi c0_i32_1 c16_i32
  let c1_i32_2 : BitVec 32 := 1#32
  ⟨c0_i32_1, v2, c1_i32_2⟩
def k0_mult3 (k0_t3 : Fin k0_t3_loop.trips) : BitVec 32 :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32 : BitVec 32 := 8#32
  let v29 : BitVec 32 := Scalar.divsi v28 c8_i32
  let c128_i32_61 : BitVec 32 := 128#32
  let v63 : BitVec 32 := Scalar.muli v29 c128_i32_61
  v63
def k0_off4 (k0_t3 : Fin k0_t3_loop.trips) : Fin 3 → Nat :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32_52 : BitVec 32 := 8#32
  let v30 : BitVec 32 := Scalar.remsi v28 c8_i32_52
  let v65 : Index := Scalar.indexCast v30
  let c0 : Index := 0#32
  let c8_i32 : BitVec 32 := 8#32
  let v29 : BitVec 32 := Scalar.divsi v28 c8_i32
  let c128_i32_61 : BitVec 32 := 128#32
  let v63 : BitVec 32 := Scalar.muli v29 c128_i32_61
  let v64 : BitVec 32 := v63
  let v66 : Index := Scalar.indexCast v64
  ![v65.toNat, 0, v66.toNat]
def k0_off5 (k0_t3 : Fin k0_t3_loop.trips) (c0_i32_62 : BitVec 32) : Fin 2 → Nat :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let v70 : BitVec 32 := Scalar.addi c0_i32_62 v28
  let v71 : Index := Scalar.indexCast v70
  let c0_63 : Index := 0#32
  ![v71.toNat, 0]
def k0_mult4 (k0_t3 : Fin k0_t3_loop.trips) : BitVec 32 :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32 : BitVec 32 := 8#32
  let v29 : BitVec 32 := Scalar.divsi v28 c8_i32
  let c128_i32_75 : BitVec 32 := 128#32
  let v107 : BitVec 32 := Scalar.muli v29 c128_i32_75
  v107
def k0_off6 (k0_t3 : Fin k0_t3_loop.trips) : Fin 3 → Nat :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32_52 : BitVec 32 := 8#32
  let v30 : BitVec 32 := Scalar.remsi v28 c8_i32_52
  let v109 : Index := Scalar.indexCast v30
  let c8 : Index := 8#32
  let c8_i32 : BitVec 32 := 8#32
  let v29 : BitVec 32 := Scalar.divsi v28 c8_i32
  let c128_i32_75 : BitVec 32 := 128#32
  let v107 : BitVec 32 := Scalar.muli v29 c128_i32_75
  let v108 : BitVec 32 := v107
  let v110 : Index := Scalar.indexCast v108
  ![v109.toNat, 8, v110.toNat]
def k0_mult5 (k0_t3 : Fin k0_t3_loop.trips) : BitVec 32 :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32 : BitVec 32 := 8#32
  let v29 : BitVec 32 := Scalar.divsi v28 c8_i32
  let c128_i32_89 : BitVec 32 := 128#32
  let v151 : BitVec 32 := Scalar.muli v29 c128_i32_89
  v151
def k0_off7 (k0_t3 : Fin k0_t3_loop.trips) : Fin 3 → Nat :=
  let c0_i32_51 : BitVec 32 := 0#32
  let c0_i32_1 : BitVec 32 := 0#32
  let c1_i32_2 : BitVec 32 := 1#32
  let arg13 : BitVec 32 := Scf.iv c0_i32_1 c1_i32_2 k0_t3
  let c1_i32_50 : BitVec 32 := 1#32
  let v27 : BitVec 32 := Scalar.muli arg13 c1_i32_50
  let v28 : BitVec 32 := Scalar.addi c0_i32_51 v27
  let c8_i32_52 : BitVec 32 := 8#32
  let v30 : BitVec 32 := Scalar.remsi v28 c8_i32_52
  let v153 : Index := Scalar.indexCast v30
  let c16 : Index := 16#32
  let c8_i32 : BitVec 32 := 8#32
  let v29 : BitVec 32 := Scalar.divsi v28 c8_i32
  let c128_i32_89 : BitVec 32 := 128#32
  let v151 : BitVec 32 := Scalar.muli v29 c128_i32_89
  let v152 : BitVec 32 := v151
  let v154 : Index := Scalar.indexCast v152
  ![v153.toNat, 16, v154.toNat]
@[reducible] def k0_t4_loop : Scf.Loop 32 :=
  let c0_i32_4 : BitVec 32 := 0#32
  let c4_i32_5 : BitVec 32 := 4#32
  let v3 : BitVec 32 := Scalar.addi c0_i32_4 c4_i32_5
  let c1_i32_6 : BitVec 32 := 1#32
  ⟨c0_i32_4, v3, c1_i32_6⟩
@[reducible] def k0_t5_loop : Scf.Loop 32 :=
  let c0_i32_52 : BitVec 32 := 0#32
  let c15_i32 : BitVec 32 := 15#32
  let v29 : BitVec 32 := Scalar.addi c0_i32_52 c15_i32
  let c1_i32_53 : BitVec 32 := 1#32
  ⟨c0_i32_52, v29, c1_i32_53⟩
def k0_mult6 (k0_t4 : Fin k0_t4_loop.trips) : BitVec 32 :=
  let c0_i32_64 : BitVec 32 := 0#32
  let c5389_i32 : BitVec 32 := 5389#32
  let v34 : BitVec 32 := Scalar.minsi c0_i32_64 c5389_i32
  let c128_i32 : BitVec 32 := 128#32
  let v35 : BitVec 32 := Scalar.muli v34 c128_i32
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c7552_i32 : BitVec 32 := 7552#32
  let v36 : BitVec 32 := Scalar.muli v28 c7552_i32
  let v37 : BitVec 32 := Scalar.addi v35 v36
  v37
def k0_mult7 (k0_t5 : Fin k0_t5_loop.trips) : BitVec 32 :=
  let c0_i32_63 : BitVec 32 := 0#32
  let c0_i32_52 : BitVec 32 := 0#32
  let c1_i32_53 : BitVec 32 := 1#32
  let arg14 : BitVec 32 := Scf.iv c0_i32_52 c1_i32_53 k0_t5
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_65 : BitVec 32 := 4#32
  let v40 : BitVec 32 := Scalar.muli v39 c4_i32_65
  v40
def k0_off8 (k0_t4 : Fin k0_t4_loop.trips) : Fin 1 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  ![v28.toNat]
def k0_off9 (k0_t4 : Fin k0_t4_loop.trips) (k0_t5 : Fin k0_t5_loop.trips) : Fin 3 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c0_i32_63 : BitVec 32 := 0#32
  let c0_i32_52 : BitVec 32 := 0#32
  let c1_i32_53 : BitVec 32 := 1#32
  let arg14 : BitVec 32 := Scf.iv c0_i32_52 c1_i32_53 k0_t5
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_65 : BitVec 32 := 4#32
  let v40 : BitVec 32 := Scalar.muli v39 c4_i32_65
  let v41 : BitVec 32 := v40
  let c0_i32_66 : BitVec 32 := 0#32
  ![v28.toNat, v41.toNat, 0]
def k0_off10 (k0_t4 : Fin k0_t4_loop.trips) (k0_t5 : Fin k0_t5_loop.trips) : Fin 2 → Nat :=
  let c0_i32_63 : BitVec 32 := 0#32
  let c0_i32_52 : BitVec 32 := 0#32
  let c1_i32_53 : BitVec 32 := 1#32
  let arg14 : BitVec 32 := Scf.iv c0_i32_52 c1_i32_53 k0_t5
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_65 : BitVec 32 := 4#32
  let v40 : BitVec 32 := Scalar.muli v39 c4_i32_65
  let v41 : BitVec 32 := v40
  let c0_i32_64 : BitVec 32 := 0#32
  let c5389_i32 : BitVec 32 := 5389#32
  let v34 : BitVec 32 := Scalar.minsi c0_i32_64 c5389_i32
  let c128_i32 : BitVec 32 := 128#32
  let v35 : BitVec 32 := Scalar.muli v34 c128_i32
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c7552_i32 : BitVec 32 := 7552#32
  let v36 : BitVec 32 := Scalar.muli v28 c7552_i32
  let v37 : BitVec 32 := Scalar.addi v35 v36
  let v38 : BitVec 32 := v37
  ![v41.toNat, v38.toNat]
@[reducible] def k0_t6_loop : Scf.Loop 32 :=
  let c0_i32_55 : BitVec 32 := 0#32
  let c59_i32 : BitVec 32 := 59#32
  let v30 : BitVec 32 := Scalar.addi c0_i32_55 c59_i32
  let c1_i32_56 : BitVec 32 := 1#32
  ⟨c0_i32_55, v30, c1_i32_56⟩
def k0_mult8 (k0_t6 : Fin k0_t6_loop.trips) : BitVec 32 :=
  let c0_i32_63 : BitVec 32 := 0#32
  let c0_i32_55 : BitVec 32 := 0#32
  let c1_i32_56 : BitVec 32 := 1#32
  let arg14 : BitVec 32 := Scf.iv c0_i32_55 c1_i32_56 k0_t6
  let c1_i32_62 : BitVec 32 := 1#32
  let v32 : BitVec 32 := Scalar.muli arg14 c1_i32_62
  let v33 : BitVec 32 := Scalar.addi c0_i32_63 v32
  let c128_i32 : BitVec 32 := 128#32
  let v34 : BitVec 32 := Scalar.muli v33 c128_i32
  v34
def k0_off11 (k0_t4 : Fin k0_t4_loop.trips) (k0_t6 : Fin k0_t6_loop.trips) : Fin 3 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let v36 : Index := Scalar.indexCast v28
  let c0 : Index := 0#32
  let c0_i32_63 : BitVec 32 := 0#32
  let c0_i32_55 : BitVec 32 := 0#32
  let c1_i32_56 : BitVec 32 := 1#32
  let arg14 : BitVec 32 := Scf.iv c0_i32_55 c1_i32_56 k0_t6
  let c1_i32_62 : BitVec 32 := 1#32
  let v32 : BitVec 32 := Scalar.muli arg14 c1_i32_62
  let v33 : BitVec 32 := Scalar.addi c0_i32_63 v32
  let c128_i32 : BitVec 32 := 128#32
  let v34 : BitVec 32 := Scalar.muli v33 c128_i32
  let v35 : BitVec 32 := v34
  let v37 : Index := Scalar.indexCast v35
  ![v36.toNat, 0, v37.toNat]
def k0_mult9 (k0_t4 : Fin k0_t4_loop.trips) (k0_t6 : Fin k0_t6_loop.trips) : BitVec 32 :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c59_i32_64 : BitVec 32 := 59#32
  let v41 : BitVec 32 := Scalar.muli v28 c59_i32_64
  let c0_i32_63 : BitVec 32 := 0#32
  let c0_i32_55 : BitVec 32 := 0#32
  let c1_i32_56 : BitVec 32 := 1#32
  let arg14 : BitVec 32 := Scf.iv c0_i32_55 c1_i32_56 k0_t6
  let c1_i32_62 : BitVec 32 := 1#32
  let v32 : BitVec 32 := Scalar.muli arg14 c1_i32_62
  let v33 : BitVec 32 := Scalar.addi c0_i32_63 v32
  let v42 : BitVec 32 := Scalar.addi v41 v33
  let c128_i32_65 : BitVec 32 := 128#32
  let v43 : BitVec 32 := Scalar.muli v42 c128_i32_65
  v43
def k0_off12 (k0_t4 : Fin k0_t4_loop.trips) (k0_t6 : Fin k0_t6_loop.trips) : Fin 2 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c59_i32_64 : BitVec 32 := 59#32
  let v41 : BitVec 32 := Scalar.muli v28 c59_i32_64
  let c0_i32_63 : BitVec 32 := 0#32
  let c0_i32_55 : BitVec 32 := 0#32
  let c1_i32_56 : BitVec 32 := 1#32
  let arg14 : BitVec 32 := Scf.iv c0_i32_55 c1_i32_56 k0_t6
  let c1_i32_62 : BitVec 32 := 1#32
  let v32 : BitVec 32 := Scalar.muli arg14 c1_i32_62
  let v33 : BitVec 32 := Scalar.addi c0_i32_63 v32
  let v42 : BitVec 32 := Scalar.addi v41 v33
  let c128_i32_65 : BitVec 32 := 128#32
  let v43 : BitVec 32 := Scalar.muli v42 c128_i32_65
  let v44 : BitVec 32 := v43
  let v46 : Index := Scalar.indexCast v44
  let c0_66 : Index := 0#32
  ![v46.toNat, 0]
@[reducible] def k0_t7_loop : Scf.Loop 32 :=
  let c0_i32_58 : BitVec 32 := 0#32
  let c15_i32_59 : BitVec 32 := 15#32
  let v31 : BitVec 32 := Scalar.addi c0_i32_58 c15_i32_59
  let c1_i32_60 : BitVec 32 := 1#32
  ⟨c0_i32_58, v31, c1_i32_60⟩
def k0_mult10 (k0_t4 : Fin k0_t4_loop.trips) : BitVec 32 :=
  let c234_i32 : BitVec 32 := 234#32
  let c5389_i32 : BitVec 32 := 5389#32
  let v34 : BitVec 32 := Scalar.minsi c234_i32 c5389_i32
  let c128_i32 : BitVec 32 := 128#32
  let v35 : BitVec 32 := Scalar.muli v34 c128_i32
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c7552_i32 : BitVec 32 := 7552#32
  let v36 : BitVec 32 := Scalar.muli v28 c7552_i32
  let v37 : BitVec 32 := Scalar.addi v35 v36
  v37
def k0_mult11 (k0_t7 : Fin k0_t7_loop.trips) : BitVec 32 :=
  let c0_i32_63 : BitVec 32 := 0#32
  let c0_i32_58 : BitVec 32 := 0#32
  let c1_i32_60 : BitVec 32 := 1#32
  let arg14 : BitVec 32 := Scf.iv c0_i32_58 c1_i32_60 k0_t7
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_64 : BitVec 32 := 4#32
  let v40 : BitVec 32 := Scalar.muli v39 c4_i32_64
  v40
def k0_off13 (k0_t4 : Fin k0_t4_loop.trips) : Fin 1 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  ![v28.toNat]
def k0_off14 (k0_t4 : Fin k0_t4_loop.trips) (k0_t7 : Fin k0_t7_loop.trips) : Fin 3 → Nat :=
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c0_i32_63 : BitVec 32 := 0#32
  let c0_i32_58 : BitVec 32 := 0#32
  let c1_i32_60 : BitVec 32 := 1#32
  let arg14 : BitVec 32 := Scf.iv c0_i32_58 c1_i32_60 k0_t7
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_64 : BitVec 32 := 4#32
  let v40 : BitVec 32 := Scalar.muli v39 c4_i32_64
  let v41 : BitVec 32 := v40
  let c0_i32_65 : BitVec 32 := 0#32
  ![v28.toNat, v41.toNat, 0]
def k0_off15 (k0_t4 : Fin k0_t4_loop.trips) (k0_t7 : Fin k0_t7_loop.trips) : Fin 2 → Nat :=
  let c0_i32_63 : BitVec 32 := 0#32
  let c0_i32_58 : BitVec 32 := 0#32
  let c1_i32_60 : BitVec 32 := 1#32
  let arg14 : BitVec 32 := Scf.iv c0_i32_58 c1_i32_60 k0_t7
  let c1_i32_62 : BitVec 32 := 1#32
  let v32 : BitVec 32 := Scalar.muli arg14 c1_i32_62
  let v33 : BitVec 32 := Scalar.addi c0_i32_63 v32
  let c8_i32 : BitVec 32 := 8#32
  let v39 : BitVec 32 := Scalar.muli v33 c8_i32
  let c4_i32_64 : BitVec 32 := 4#32
  let v40 : BitVec 32 := Scalar.muli v39 c4_i32_64
  let v41 : BitVec 32 := v40
  let c234_i32 : BitVec 32 := 234#32
  let c5389_i32 : BitVec 32 := 5389#32
  let v34 : BitVec 32 := Scalar.minsi c234_i32 c5389_i32
  let c128_i32 : BitVec 32 := 128#32
  let v35 : BitVec 32 := Scalar.muli v34 c128_i32
  let c0_i32_51 : BitVec 32 := 0#32
  let c0_i32_4 : BitVec 32 := 0#32
  let c1_i32_6 : BitVec 32 := 1#32
  let arg13 : BitVec 32 := Scf.iv c0_i32_4 c1_i32_6 k0_t4
  let c1_i32_50 : BitVec 32 := 1#32
  let v27 : BitVec 32 := Scalar.muli arg13 c1_i32_50
  let v28 : BitVec 32 := Scalar.addi c0_i32_51 v27
  let c7552_i32 : BitVec 32 := 7552#32
  let v36 : BitVec 32 := Scalar.muli v28 c7552_i32
  let v37 : BitVec 32 := Scalar.addi v35 v36
  let v38 : BitVec 32 := v37
  ![v41.toNat, v38.toNat]
@[reducible] def k0_t8_loop : Scf.Loop 32 :=
  let c0_i32_8 : BitVec 32 := 0#32
  let c11_i32 : BitVec 32 := 11#32
  let v4 : BitVec 32 := Scalar.addi c0_i32_8 c11_i32
  let c1_i32_9 : BitVec 32 := 1#32
  ⟨c0_i32_8, v4, c1_i32_9⟩
@[reducible] def k0_t9_loop : Scf.Loop 32 :=
  let c0_i32_53 : BitVec 32 := 0#32
  let c4_i32_54 : BitVec 32 := 4#32
  let v31 : BitVec 32 := Scalar.addi c0_i32_53 c4_i32_54
  let c1_i32_55 : BitVec 32 := 1#32
  ⟨c0_i32_53, v31, c1_i32_55⟩
@[reducible] def k0_t10_loop : Scf.Loop 32 :=
  let c0_i32_114 : BitVec 32 := 0#32
  let c15_i32 : BitVec 32 := 15#32
  let v79 : BitVec 32 := Scalar.addi c0_i32_114 c15_i32
  let c1_i32_115 : BitVec 32 := 1#32
  ⟨c0_i32_114, v79, c1_i32_115⟩
def k0_mult12 (k0_t8 : Fin k0_t8_loop.trips) (k0_t9 : Fin k0_t9_loop.trips) : BitVec 32 :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c30000_i32 : BitVec 32 := 30000#32
  let v87 : BitVec 32 := Scalar.muli v30 c30000_i32
  let c0_i32_125 : BitVec 32 := 0#32
  let v89 : BitVec 1 := Scalar.cmpi .sgt v87 c0_i32_125
  let v90 : BitVec 32 := Scalar.extui v89
  let c0_i32_126 : BitVec 32 := 0#32
  let v91 : BitVec 1 := Scalar.cmpi .slt v87 c0_i32_126
  let v92 : BitVec 32 := Scalar.extui v91
  let v93 : BitVec 32 := Scalar.subi v90 v92
  let c128_i32 : BitVec 32 := 128#32
  let c0_i32_127 : BitVec 32 := 0#32
  let v94 : BitVec 1 := Scalar.cmpi .sgt c128_i32 c0_i32_127
  let v95 : BitVec 32 := Scalar.extui v94
  let c0_i32_128 : BitVec 32 := 0#32
  let v96 : BitVec 1 := Scalar.cmpi .slt c128_i32 c0_i32_128
  let v97 : BitVec 32 := Scalar.extui v96
  let v98 : BitVec 32 := Scalar.subi v95 v97
  let v99 : BitVec 1 := Scalar.cmpi .ne v93 v98
  let v100 : BitVec 32 := Scalar.remsi v87 c128_i32
  let c0_i32_129 : BitVec 32 := 0#32
  let v101 : BitVec 1 := Scalar.cmpi .ne v100 c0_i32_129
  let v102 : BitVec 1 := Scalar.andi v99 v101
  let v88 : BitVec 32 := Scalar.divsi v87 c128_i32
  let c1_i32_130 : BitVec 32 := 1#32
  let v103 : BitVec 32 := Scalar.subi v88 c1_i32_130
  let v104 : BitVec 32 := Scalar.select v102 v103 v88
  let c5389_i32 : BitVec 32 := 5389#32
  let v105 : BitVec 32 := Scalar.minsi v104 c5389_i32
  let c128_i32_131 : BitVec 32 := 128#32
  let v106 : BitVec 32 := Scalar.muli v105 c128_i32_131
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c7552_i32 : BitVec 32 := 7552#32
  let v107 : BitVec 32 := Scalar.muli v78 c7552_i32
  let v108 : BitVec 32 := Scalar.addi v106 v107
  v108
def k0_mult13 (k0_t10 : Fin k0_t10_loop.trips) : BitVec 32 :=
  let c0_i32_124 : BitVec 32 := 0#32
  let c0_i32_114 : BitVec 32 := 0#32
  let c1_i32_115 : BitVec 32 := 1#32
  let arg15 : BitVec 32 := Scf.iv c0_i32_114 c1_i32_115 k0_t10
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  v111
def k0_off16 (k0_t9 : Fin k0_t9_loop.trips) : Fin 1 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  ![v78.toNat]
def k0_off17 (k0_t9 : Fin k0_t9_loop.trips) (k0_t10 : Fin k0_t10_loop.trips) : Fin 3 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c0_i32_124 : BitVec 32 := 0#32
  let c0_i32_114 : BitVec 32 := 0#32
  let c1_i32_115 : BitVec 32 := 1#32
  let arg15 : BitVec 32 := Scf.iv c0_i32_114 c1_i32_115 k0_t10
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  let v112 : BitVec 32 := v111
  let c0_i32_133 : BitVec 32 := 0#32
  ![v78.toNat, v112.toNat, 0]
def k0_off18 (k0_t8 : Fin k0_t8_loop.trips) (k0_t9 : Fin k0_t9_loop.trips) (k0_t10 : Fin k0_t10_loop.trips) : Fin 2 → Nat :=
  let c0_i32_124 : BitVec 32 := 0#32
  let c0_i32_114 : BitVec 32 := 0#32
  let c1_i32_115 : BitVec 32 := 1#32
  let arg15 : BitVec 32 := Scf.iv c0_i32_114 c1_i32_115 k0_t10
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  let v112 : BitVec 32 := v111
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c30000_i32 : BitVec 32 := 30000#32
  let v87 : BitVec 32 := Scalar.muli v30 c30000_i32
  let c0_i32_125 : BitVec 32 := 0#32
  let v89 : BitVec 1 := Scalar.cmpi .sgt v87 c0_i32_125
  let v90 : BitVec 32 := Scalar.extui v89
  let c0_i32_126 : BitVec 32 := 0#32
  let v91 : BitVec 1 := Scalar.cmpi .slt v87 c0_i32_126
  let v92 : BitVec 32 := Scalar.extui v91
  let v93 : BitVec 32 := Scalar.subi v90 v92
  let c128_i32 : BitVec 32 := 128#32
  let c0_i32_127 : BitVec 32 := 0#32
  let v94 : BitVec 1 := Scalar.cmpi .sgt c128_i32 c0_i32_127
  let v95 : BitVec 32 := Scalar.extui v94
  let c0_i32_128 : BitVec 32 := 0#32
  let v96 : BitVec 1 := Scalar.cmpi .slt c128_i32 c0_i32_128
  let v97 : BitVec 32 := Scalar.extui v96
  let v98 : BitVec 32 := Scalar.subi v95 v97
  let v99 : BitVec 1 := Scalar.cmpi .ne v93 v98
  let v100 : BitVec 32 := Scalar.remsi v87 c128_i32
  let c0_i32_129 : BitVec 32 := 0#32
  let v101 : BitVec 1 := Scalar.cmpi .ne v100 c0_i32_129
  let v102 : BitVec 1 := Scalar.andi v99 v101
  let v88 : BitVec 32 := Scalar.divsi v87 c128_i32
  let c1_i32_130 : BitVec 32 := 1#32
  let v103 : BitVec 32 := Scalar.subi v88 c1_i32_130
  let v104 : BitVec 32 := Scalar.select v102 v103 v88
  let c5389_i32 : BitVec 32 := 5389#32
  let v105 : BitVec 32 := Scalar.minsi v104 c5389_i32
  let c128_i32_131 : BitVec 32 := 128#32
  let v106 : BitVec 32 := Scalar.muli v105 c128_i32_131
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c7552_i32 : BitVec 32 := 7552#32
  let v107 : BitVec 32 := Scalar.muli v78 c7552_i32
  let v108 : BitVec 32 := Scalar.addi v106 v107
  let v109 : BitVec 32 := v108
  ![v112.toNat, v109.toNat]
@[reducible] def k0_t11_loop : Scf.Loop 32 :=
  let c0_i32_117 : BitVec 32 := 0#32
  let c59_i32 : BitVec 32 := 59#32
  let v80 : BitVec 32 := Scalar.addi c0_i32_117 c59_i32
  let c1_i32_118 : BitVec 32 := 1#32
  ⟨c0_i32_117, v80, c1_i32_118⟩
def k0_mult14 (k0_t11 : Fin k0_t11_loop.trips) : BitVec 32 :=
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let c128_i32 : BitVec 32 := 128#32
  let v87 : BitVec 32 := Scalar.muli v86 c128_i32
  v87
def k0_off19 (k0_t9 : Fin k0_t9_loop.trips) (k0_t11 : Fin k0_t11_loop.trips) : Fin 3 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let v89 : Index := Scalar.indexCast v78
  let c0 : Index := 0#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let c128_i32 : BitVec 32 := 128#32
  let v87 : BitVec 32 := Scalar.muli v86 c128_i32
  let v88 : BitVec 32 := v87
  let v90 : Index := Scalar.indexCast v88
  ![v89.toNat, 0, v90.toNat]
def k0_mult15 (k0_t9 : Fin k0_t9_loop.trips) (k0_t11 : Fin k0_t11_loop.trips) : BitVec 32 :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c59_i32_125 : BitVec 32 := 59#32
  let v94 : BitVec 32 := Scalar.muli v78 c59_i32_125
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v95 : BitVec 32 := Scalar.addi v94 v86
  let c128_i32_126 : BitVec 32 := 128#32
  let v96 : BitVec 32 := Scalar.muli v95 c128_i32_126
  v96
def k0_off20 (k0_t9 : Fin k0_t9_loop.trips) (k0_t11 : Fin k0_t11_loop.trips) : Fin 2 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c59_i32_125 : BitVec 32 := 59#32
  let v94 : BitVec 32 := Scalar.muli v78 c59_i32_125
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v95 : BitVec 32 := Scalar.addi v94 v86
  let c128_i32_126 : BitVec 32 := 128#32
  let v96 : BitVec 32 := Scalar.muli v95 c128_i32_126
  let v97 : BitVec 32 := v96
  let v99 : Index := Scalar.indexCast v97
  let c0_127 : Index := 0#32
  ![v99.toNat, 0]
@[reducible] def k0_t12_loop (k0_t11 : Fin k0_t11_loop.trips) : Scf.Loop 32 :=
  let c0_i32_137 : BitVec 32 := 0#32
  let c512_i32_131 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let c512_i32 : BitVec 32 := 512#32
  let v104 : BitVec 32 := Scalar.muli c512_i32 v86
  let c59_i32_129 : BitVec 32 := 59#32
  let v105 : BitVec 32 := Scalar.divsi v104 c59_i32_129
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_139 : BitVec 32 := 1#32
  ⟨c0_i32_137, v117, c1_i32_139⟩
def k0_off21 (k0_t8 : Fin k0_t8_loop.trips) (k0_t9 : Fin k0_t9_loop.trips) (k0_t11 : Fin k0_t11_loop.trips) (k0_t12 : Fin (k0_t12_loop k0_t11).trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_128 : BitVec 32 := 1#32
  let v103 : BitVec 32 := Scalar.subi v30 c1_i32_128
  let c16_i32_144 : BitVec 32 := 16#32
  let v124 : BitVec 32 := Scalar.muli v103 c16_i32_144
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c1_i32_139 : BitVec 32 := 1#32
  let arg16 : BitVec 32 := Scf.iv c0_i32_137 c1_i32_139 k0_t12
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let v125 : BitVec 32 := Scalar.addi v124 v122
  let v126 : Index := Scalar.indexCast v125
  let c128_i32_143 : BitVec 32 := 128#32
  let v123 : BitVec 32 := Scalar.remsi v119 c128_i32_143
  let v127 : Index := Scalar.indexCast v123
  ![v126.toNat, v127.toNat]
def k0_off22 (v128 : BitVec 32) : Fin 2 → Nat :=
  let v129 : Index := Scalar.indexCast v128
  let c0_145 : Index := 0#32
  ![v129.toNat, 0]

def k0_chk1 (v128 : BitVec 32) : Prop :=
  (∀ a, (k0_off22 v128) a + S1x128.size a ≤ S30208x128.size a)
theorem k0_off22_inb : ∀ (v128 : BitVec 32) (k0_hw1 : k0_chk1 v128), ∀ a, (k0_off22 v128) a + S1x128.size a ≤ S30208x128.size a := fun v128 k0_hw1 => k0_hw1

def k0_off23 (k0_t9 : Fin k0_t9_loop.trips) (k0_t11 : Fin k0_t11_loop.trips) (k0_t12 : Fin (k0_t12_loop k0_t11).trips) : Fin 2 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c1_i32_139 : BitVec 32 := 1#32
  let arg16 : BitVec 32 := Scf.iv c0_i32_137 c1_i32_139 k0_t12
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let c128_i32_146 : BitVec 32 := 128#32
  let v131 : BitVec 32 := Scalar.muli v122 c128_i32_146
  let c128_i32_143 : BitVec 32 := 128#32
  let v123 : BitVec 32 := Scalar.remsi v119 c128_i32_143
  let v132 : BitVec 32 := Scalar.addi v131 v123
  let v133 : Index := Scalar.indexCast v132
  let c0_147 : Index := 0#32
  ![v133.toNat, 0]
@[reducible] def k0_t13_loop (k0_t11 : Fin k0_t11_loop.trips) : Scf.Loop 32 :=
  let c0_i32_137 : BitVec 32 := 0#32
  let c512_i32_131 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let c512_i32 : BitVec 32 := 512#32
  let v104 : BitVec 32 := Scalar.muli c512_i32 v86
  let c59_i32_129 : BitVec 32 := 59#32
  let v105 : BitVec 32 := Scalar.divsi v104 c59_i32_129
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let v114 : BitVec 32 := Scalar.addi c0_i32_137 v113
  let c1_i32_140 : BitVec 32 := 1#32
  ⟨v117, v114, c1_i32_140⟩
def k0_off24 (k0_t8 : Fin k0_t8_loop.trips) (k0_t9 : Fin k0_t9_loop.trips) (k0_t11 : Fin k0_t11_loop.trips) (k0_t13 : Fin (k0_t13_loop k0_t11).trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_128 : BitVec 32 := 1#32
  let v103 : BitVec 32 := Scalar.subi v30 c1_i32_128
  let c16_i32_144 : BitVec 32 := 16#32
  let v124 : BitVec 32 := Scalar.muli v103 c16_i32_144
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c512_i32_131 : BitVec 32 := 512#32
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_140 : BitVec 32 := 1#32
  let arg16 : BitVec 32 := Scf.iv v117 c1_i32_140 k0_t13
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let v125 : BitVec 32 := Scalar.addi v124 v122
  let v126 : Index := Scalar.indexCast v125
  let c128_i32_143 : BitVec 32 := 128#32
  let v123 : BitVec 32 := Scalar.remsi v119 c128_i32_143
  let v127 : Index := Scalar.indexCast v123
  ![v126.toNat, v127.toNat]
def k0_off25 (v128 : BitVec 32) : Fin 2 → Nat :=
  let v129 : Index := Scalar.indexCast v128
  let c0_145 : Index := 0#32
  ![v129.toNat, 0]

def k0_chk2 (k0_t11 : Fin k0_t11_loop.trips) (k0_t13 : Fin (k0_t13_loop k0_t11).trips) (v128 : BitVec 32) : Prop :=
  (∀ a, (k0_off25 v128) a + S1x128.size a ≤ S30208x128.size a)
theorem k0_off25_inb : ∀ (k0_t11 : Fin k0_t11_loop.trips) (k0_t13 : Fin (k0_t13_loop k0_t11).trips) (v128 : BitVec 32) (k0_hw2 : k0_chk2 k0_t11 k0_t13 v128), ∀ a, (k0_off25 v128) a + S1x128.size a ≤ S30208x128.size a := fun k0_t11 k0_t13 v128 k0_hw2 => k0_hw2

def k0_off26 (k0_t9 : Fin k0_t9_loop.trips) (k0_t11 : Fin k0_t11_loop.trips) (k0_t13 : Fin (k0_t13_loop k0_t11).trips) : Fin 2 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t11
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c512_i32_131 : BitVec 32 := 512#32
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_140 : BitVec 32 := 1#32
  let arg16 : BitVec 32 := Scf.iv v117 c1_i32_140 k0_t13
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let c128_i32_146 : BitVec 32 := 128#32
  let v131 : BitVec 32 := Scalar.muli v122 c128_i32_146
  let c128_i32_143 : BitVec 32 := 128#32
  let v123 : BitVec 32 := Scalar.remsi v119 c128_i32_143
  let v132 : BitVec 32 := Scalar.addi v131 v123
  let v133 : Index := Scalar.indexCast v132
  let c0_147 : Index := 0#32
  ![v133.toNat, 0]
def k0_cond1 (k0_t8 : Fin k0_t8_loop.trips) : BitVec 1 :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_120 : BitVec 32 := 1#32
  let v81 : BitVec 32 := Scalar.addi v30 c1_i32_120
  let c24_i32_121 : BitVec 32 := 24#32
  let v82 : BitVec 1 := Scalar.cmpi .slt v81 c24_i32_121
  let v83 : BitVec 32 := Scalar.extui v82
  let c0_i32_122 : BitVec 32 := 0#32
  let v84 : BitVec 1 := Scalar.cmpi .ne v83 c0_i32_122
  v84

@[reducible] def k0_t14_loop : Scf.Loop 32 :=
  let c0_i32_124 : BitVec 32 := 0#32
  let c15_i32_125 : BitVec 32 := 15#32
  let v86 : BitVec 32 := Scalar.addi c0_i32_124 c15_i32_125
  let c1_i32_126 : BitVec 32 := 1#32
  ⟨c0_i32_124, v86, c1_i32_126⟩
def k0_mult16 (k0_t8 : Fin k0_t8_loop.trips) (k0_t9 : Fin k0_t9_loop.trips) : BitVec 32 :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_123 : BitVec 32 := 1#32
  let v85 : BitVec 32 := Scalar.addi v30 c1_i32_123
  let c30000_i32 : BitVec 32 := 30000#32
  let v89 : BitVec 32 := Scalar.muli v85 c30000_i32
  let c0_i32_130 : BitVec 32 := 0#32
  let v91 : BitVec 1 := Scalar.cmpi .sgt v89 c0_i32_130
  let v92 : BitVec 32 := Scalar.extui v91
  let c0_i32_131 : BitVec 32 := 0#32
  let v93 : BitVec 1 := Scalar.cmpi .slt v89 c0_i32_131
  let v94 : BitVec 32 := Scalar.extui v93
  let v95 : BitVec 32 := Scalar.subi v92 v94
  let c128_i32 : BitVec 32 := 128#32
  let c0_i32_132 : BitVec 32 := 0#32
  let v96 : BitVec 1 := Scalar.cmpi .sgt c128_i32 c0_i32_132
  let v97 : BitVec 32 := Scalar.extui v96
  let c0_i32_133 : BitVec 32 := 0#32
  let v98 : BitVec 1 := Scalar.cmpi .slt c128_i32 c0_i32_133
  let v99 : BitVec 32 := Scalar.extui v98
  let v100 : BitVec 32 := Scalar.subi v97 v99
  let v101 : BitVec 1 := Scalar.cmpi .ne v95 v100
  let v102 : BitVec 32 := Scalar.remsi v89 c128_i32
  let c0_i32_134 : BitVec 32 := 0#32
  let v103 : BitVec 1 := Scalar.cmpi .ne v102 c0_i32_134
  let v104 : BitVec 1 := Scalar.andi v101 v103
  let v90 : BitVec 32 := Scalar.divsi v89 c128_i32
  let c1_i32_135 : BitVec 32 := 1#32
  let v105 : BitVec 32 := Scalar.subi v90 c1_i32_135
  let v106 : BitVec 32 := Scalar.select v104 v105 v90
  let c5389_i32 : BitVec 32 := 5389#32
  let v107 : BitVec 32 := Scalar.minsi v106 c5389_i32
  let c128_i32_136 : BitVec 32 := 128#32
  let v108 : BitVec 32 := Scalar.muli v107 c128_i32_136
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c7552_i32 : BitVec 32 := 7552#32
  let v109 : BitVec 32 := Scalar.muli v78 c7552_i32
  let v110 : BitVec 32 := Scalar.addi v108 v109
  v110
def k0_mult17 (k0_t14 : Fin k0_t14_loop.trips) : BitVec 32 :=
  let c0_i32_129 : BitVec 32 := 0#32
  let c0_i32_124 : BitVec 32 := 0#32
  let c1_i32_126 : BitVec 32 := 1#32
  let arg15 : BitVec 32 := Scf.iv c0_i32_124 c1_i32_126 k0_t14
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  v113
def k0_off27 (k0_t9 : Fin k0_t9_loop.trips) : Fin 1 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  ![v78.toNat]
def k0_off28 (k0_t9 : Fin k0_t9_loop.trips) (k0_t14 : Fin k0_t14_loop.trips) : Fin 3 → Nat :=
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c0_i32_129 : BitVec 32 := 0#32
  let c0_i32_124 : BitVec 32 := 0#32
  let c1_i32_126 : BitVec 32 := 1#32
  let arg15 : BitVec 32 := Scf.iv c0_i32_124 c1_i32_126 k0_t14
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  let v114 : BitVec 32 := v113
  let c0_i32_138 : BitVec 32 := 0#32
  ![v78.toNat, v114.toNat, 0]
def k0_off29 (k0_t8 : Fin k0_t8_loop.trips) (k0_t9 : Fin k0_t9_loop.trips) (k0_t14 : Fin k0_t14_loop.trips) : Fin 2 → Nat :=
  let c0_i32_129 : BitVec 32 := 0#32
  let c0_i32_124 : BitVec 32 := 0#32
  let c1_i32_126 : BitVec 32 := 1#32
  let arg15 : BitVec 32 := Scf.iv c0_i32_124 c1_i32_126 k0_t14
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  let v114 : BitVec 32 := v113
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_123 : BitVec 32 := 1#32
  let v85 : BitVec 32 := Scalar.addi v30 c1_i32_123
  let c30000_i32 : BitVec 32 := 30000#32
  let v89 : BitVec 32 := Scalar.muli v85 c30000_i32
  let c0_i32_130 : BitVec 32 := 0#32
  let v91 : BitVec 1 := Scalar.cmpi .sgt v89 c0_i32_130
  let v92 : BitVec 32 := Scalar.extui v91
  let c0_i32_131 : BitVec 32 := 0#32
  let v93 : BitVec 1 := Scalar.cmpi .slt v89 c0_i32_131
  let v94 : BitVec 32 := Scalar.extui v93
  let v95 : BitVec 32 := Scalar.subi v92 v94
  let c128_i32 : BitVec 32 := 128#32
  let c0_i32_132 : BitVec 32 := 0#32
  let v96 : BitVec 1 := Scalar.cmpi .sgt c128_i32 c0_i32_132
  let v97 : BitVec 32 := Scalar.extui v96
  let c0_i32_133 : BitVec 32 := 0#32
  let v98 : BitVec 1 := Scalar.cmpi .slt c128_i32 c0_i32_133
  let v99 : BitVec 32 := Scalar.extui v98
  let v100 : BitVec 32 := Scalar.subi v97 v99
  let v101 : BitVec 1 := Scalar.cmpi .ne v95 v100
  let v102 : BitVec 32 := Scalar.remsi v89 c128_i32
  let c0_i32_134 : BitVec 32 := 0#32
  let v103 : BitVec 1 := Scalar.cmpi .ne v102 c0_i32_134
  let v104 : BitVec 1 := Scalar.andi v101 v103
  let v90 : BitVec 32 := Scalar.divsi v89 c128_i32
  let c1_i32_135 : BitVec 32 := 1#32
  let v105 : BitVec 32 := Scalar.subi v90 c1_i32_135
  let v106 : BitVec 32 := Scalar.select v104 v105 v90
  let c5389_i32 : BitVec 32 := 5389#32
  let v107 : BitVec 32 := Scalar.minsi v106 c5389_i32
  let c128_i32_136 : BitVec 32 := 128#32
  let v108 : BitVec 32 := Scalar.muli v107 c128_i32_136
  let c0_i32_113 : BitVec 32 := 0#32
  let c0_i32_53 : BitVec 32 := 0#32
  let c1_i32_55 : BitVec 32 := 1#32
  let arg14 : BitVec 32 := Scf.iv c0_i32_53 c1_i32_55 k0_t9
  let c1_i32_112 : BitVec 32 := 1#32
  let v77 : BitVec 32 := Scalar.muli arg14 c1_i32_112
  let v78 : BitVec 32 := Scalar.addi c0_i32_113 v77
  let c7552_i32 : BitVec 32 := 7552#32
  let v109 : BitVec 32 := Scalar.muli v78 c7552_i32
  let v110 : BitVec 32 := Scalar.addi v108 v109
  let v111 : BitVec 32 := v110
  ![v114.toNat, v111.toNat]
@[reducible] def k0_t15_loop : Scf.Loop 32 :=
  let c0_i32_58 : BitVec 32 := 0#32
  let c16_i32_59 : BitVec 32 := 16#32
  let v33 : BitVec 32 := Scalar.addi c0_i32_58 c16_i32_59
  let c1_i32_60 : BitVec 32 := 1#32
  ⟨c0_i32_58, v33, c1_i32_60⟩
def k0_mult18 (k0_t15 : Fin k0_t15_loop.trips) : BitVec 32 :=
  let c0_i32_113 : BitVec 32 := 0#32
  let c0_i32_58 : BitVec 32 := 0#32
  let c1_i32_60 : BitVec 32 := 1#32
  let arg14 : BitVec 32 := Scf.iv c0_i32_58 c1_i32_60 k0_t15
  let c1_i32_112 : BitVec 32 := 1#32
  let v77 : BitVec 32 := Scalar.muli arg14 c1_i32_112
  let v78 : BitVec 32 := Scalar.addi c0_i32_113 v77
  let c128_i32 : BitVec 32 := 128#32
  let v79 : BitVec 32 := Scalar.muli v78 c128_i32
  v79
def k0_off30 (k0_t15 : Fin k0_t15_loop.trips) : Fin 2 → Nat :=
  let c0_i32_113 : BitVec 32 := 0#32
  let c0_i32_58 : BitVec 32 := 0#32
  let c1_i32_60 : BitVec 32 := 1#32
  let arg14 : BitVec 32 := Scf.iv c0_i32_58 c1_i32_60 k0_t15
  let c1_i32_112 : BitVec 32 := 1#32
  let v77 : BitVec 32 := Scalar.muli arg14 c1_i32_112
  let v78 : BitVec 32 := Scalar.addi c0_i32_113 v77
  let c128_i32 : BitVec 32 := 128#32
  let v79 : BitVec 32 := Scalar.muli v78 c128_i32
  let v80 : BitVec 32 := v79
  let v81 : Index := Scalar.indexCast v80
  let c0 : Index := 0#32
  ![v81.toNat, 0]
def k0_off31 (k0_t15 : Fin k0_t15_loop.trips) (c0_i32_114 : BitVec 32) : Fin 2 → Nat :=
  let c0_i32_113 : BitVec 32 := 0#32
  let c0_i32_58 : BitVec 32 := 0#32
  let c1_i32_60 : BitVec 32 := 1#32
  let arg14 : BitVec 32 := Scf.iv c0_i32_58 c1_i32_60 k0_t15
  let c1_i32_112 : BitVec 32 := 1#32
  let v77 : BitVec 32 := Scalar.muli arg14 c1_i32_112
  let v78 : BitVec 32 := Scalar.addi c0_i32_113 v77
  let v85 : BitVec 32 := Scalar.addi c0_i32_114 v78
  let v86 : Index := Scalar.indexCast v85
  let c0_115 : Index := 0#32
  ![v86.toNat, 0]
@[reducible] def k0_t16_loop (k0_t8 : Fin k0_t8_loop.trips) : Scf.Loop 32 :=
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_70 : BitVec 32 := 1#32
  ⟨c0_i32_68, v42, c1_i32_70⟩
@[reducible] def k0_t17_loop : Scf.Loop 32 :=
  let c0_i32_122 : BitVec 32 := 0#32
  let c5_i32_123 : BitVec 32 := 5#32
  let v95 : BitVec 32 := Scalar.addi c0_i32_122 c5_i32_123
  let c1_i32_124 : BitVec 32 := 1#32
  ⟨c0_i32_122, v95, c1_i32_124⟩
def k0_mult19 (k0_t8 : Fin k0_t8_loop.trips) (k0_t16 : Fin (k0_t16_loop k0_t8).trips) (k0_t17 : Fin k0_t17_loop.trips) : BitVec 32 :=
  let c0_i32_67 : BitVec 32 := 0#32
  let c0_i32_68 : BitVec 32 := 0#32
  let c1_i32_70 : BitVec 32 := 1#32
  let arg14 : BitVec 32 := Scf.iv c0_i32_68 c1_i32_70 k0_t16
  let c1_i32_66 : BitVec 32 := 1#32
  let v77 : BitVec 32 := Scalar.muli arg14 c1_i32_66
  let v78 : BitVec 32 := Scalar.addi c0_i32_67 v77
  let c12_i32_116 : BitVec 32 := 12#32
  let v85 : BitVec 1 := Scalar.cmpi .slt v78 c12_i32_116
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_117 : BitVec 32 := 12#32
  let v86 : BitVec 1 := Scalar.cmpi .sge v32 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v32 c12_i32_114
  let c12_i32_115 : BitVec 32 := 12#32
  let v83 : BitVec 32 := Scalar.subi v32 c12_i32_115
  let v84 : BitVec 32 := Scalar.select v82 v32 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t17
  let v124 : BitVec 32 := Scalar.addi v93 arg15
  let c16_i32_135 : BitVec 32 := 16#32
  let v125 : BitVec 32 := Scalar.muli v124 c16_i32_135
  v125
def k0_off32 (k0_t8 : Fin k0_t8_loop.trips) (k0_t16 : Fin (k0_t16_loop k0_t8).trips) (k0_t17 : Fin k0_t17_loop.trips) : Fin 2 → Nat :=
  let c0_i32_67 : BitVec 32 := 0#32
  let c0_i32_68 : BitVec 32 := 0#32
  let c1_i32_70 : BitVec 32 := 1#32
  let arg14 : BitVec 32 := Scf.iv c0_i32_68 c1_i32_70 k0_t16
  let c1_i32_66 : BitVec 32 := 1#32
  let v77 : BitVec 32 := Scalar.muli arg14 c1_i32_66
  let v78 : BitVec 32 := Scalar.addi c0_i32_67 v77
  let c12_i32_116 : BitVec 32 := 12#32
  let v85 : BitVec 1 := Scalar.cmpi .slt v78 c12_i32_116
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_117 : BitVec 32 := 12#32
  let v86 : BitVec 1 := Scalar.cmpi .sge v32 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v32 c12_i32_114
  let c12_i32_115 : BitVec 32 := 12#32
  let v83 : BitVec 32 := Scalar.subi v32 c12_i32_115
  let v84 : BitVec 32 := Scalar.select v82 v32 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t17
  let v124 : BitVec 32 := Scalar.addi v93 arg15
  let c16_i32_135 : BitVec 32 := 16#32
  let v125 : BitVec 32 := Scalar.muli v124 c16_i32_135
  let v126 : BitVec 32 := v125
  let v127 : Index := Scalar.indexCast v126
  let c0_136 : Index := 0#32
  ![v127.toNat, 0]
def k0_off33 (k0_t8 : Fin k0_t8_loop.trips) (k0_t16 : Fin (k0_t16_loop k0_t8).trips) (k0_t17 : Fin k0_t17_loop.trips) : Fin 2 → Nat :=
  let c0_i32_67 : BitVec 32 := 0#32
  let c0_i32_68 : BitVec 32 := 0#32
  let c1_i32_70 : BitVec 32 := 1#32
  let arg14 : BitVec 32 := Scf.iv c0_i32_68 c1_i32_70 k0_t16
  let c1_i32_66 : BitVec 32 := 1#32
  let v77 : BitVec 32 := Scalar.muli arg14 c1_i32_66
  let v78 : BitVec 32 := Scalar.addi c0_i32_67 v77
  let c5_i32_137 : BitVec 32 := 5#32
  let v129 : BitVec 32 := Scalar.muli v78 c5_i32_137
  let c0_i32_122 : BitVec 32 := 0#32
  let c1_i32_124 : BitVec 32 := 1#32
  let arg15 : BitVec 32 := Scf.iv c0_i32_122 c1_i32_124 k0_t17
  let v130 : BitVec 32 := Scalar.addi v129 arg15
  let c17_i32 : BitVec 32 := 17#32
  let v131 : BitVec 32 := Scalar.muli v130 c17_i32
  let v132 : Index := Scalar.indexCast v131
  let c0_138 : Index := 0#32
  ![v132.toNat, 0]
def k0_mult20 (k0_t8 : Fin k0_t8_loop.trips) (k0_t16 : Fin (k0_t16_loop k0_t8).trips) : BitVec 32 :=
  let c0_i32_67 : BitVec 32 := 0#32
  let c0_i32_68 : BitVec 32 := 0#32
  let c1_i32_70 : BitVec 32 := 1#32
  let arg14 : BitVec 32 := Scf.iv c0_i32_68 c1_i32_70 k0_t16
  let c1_i32_66 : BitVec 32 := 1#32
  let v77 : BitVec 32 := Scalar.muli arg14 c1_i32_66
  let v78 : BitVec 32 := Scalar.addi c0_i32_67 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let v117 : BitVec 32 := Scalar.addi v116 v32
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  v120
def k0_off34 (k0_t8 : Fin k0_t8_loop.trips) (k0_t16 : Fin (k0_t16_loop k0_t8).trips) : Fin 2 → Nat :=
  let c0_i32_67 : BitVec 32 := 0#32
  let c0_i32_68 : BitVec 32 := 0#32
  let c1_i32_70 : BitVec 32 := 1#32
  let arg14 : BitVec 32 := Scf.iv c0_i32_68 c1_i32_70 k0_t16
  let c1_i32_66 : BitVec 32 := 1#32
  let v77 : BitVec 32 := Scalar.muli arg14 c1_i32_66
  let v78 : BitVec 32 := Scalar.addi c0_i32_67 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let v117 : BitVec 32 := Scalar.addi v116 v32
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  let v121 : BitVec 32 := v120
  let v122 : Index := Scalar.indexCast v121
  let c0 : Index := 0#32
  ![v122.toNat, 0]
@[reducible] def k0_t18_loop (k0_t8 : Fin k0_t8_loop.trips) : Scf.Loop 32 :=
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let v39 : BitVec 32 := Scalar.addi c0_i32_68 v38
  let c1_i32_71 : BitVec 32 := 1#32
  ⟨v42, v39, c1_i32_71⟩
@[reducible] def k0_t19_loop : Scf.Loop 32 :=
  let c0_i32_122 : BitVec 32 := 0#32
  let c5_i32_123 : BitVec 32 := 5#32
  let v95 : BitVec 32 := Scalar.addi c0_i32_122 c5_i32_123
  let c1_i32_124 : BitVec 32 := 1#32
  ⟨c0_i32_122, v95, c1_i32_124⟩
def k0_mult21 (k0_t8 : Fin k0_t8_loop.trips) (k0_t18 : Fin (k0_t18_loop k0_t8).trips) (k0_t19 : Fin k0_t19_loop.trips) : BitVec 32 :=
  let c0_i32_67 : BitVec 32 := 0#32
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_71 : BitVec 32 := 1#32
  let arg14 : BitVec 32 := Scf.iv v42 c1_i32_71 k0_t18
  let c1_i32_66 : BitVec 32 := 1#32
  let v77 : BitVec 32 := Scalar.muli arg14 c1_i32_66
  let v78 : BitVec 32 := Scalar.addi c0_i32_67 v77
  let c12_i32_116 : BitVec 32 := 12#32
  let v85 : BitVec 1 := Scalar.cmpi .slt v78 c12_i32_116
  let c12_i32_117 : BitVec 32 := 12#32
  let v86 : BitVec 1 := Scalar.cmpi .sge v32 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v32 c12_i32_114
  let c12_i32_115 : BitVec 32 := 12#32
  let v83 : BitVec 32 := Scalar.subi v32 c12_i32_115
  let v84 : BitVec 32 := Scalar.select v82 v32 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t19
  let v124 : BitVec 32 := Scalar.addi v93 arg15
  let c16_i32_135 : BitVec 32 := 16#32
  let v125 : BitVec 32 := Scalar.muli v124 c16_i32_135
  v125
def k0_off35 (k0_t8 : Fin k0_t8_loop.trips) (k0_t18 : Fin (k0_t18_loop k0_t8).trips) (k0_t19 : Fin k0_t19_loop.trips) : Fin 2 → Nat :=
  let c0_i32_67 : BitVec 32 := 0#32
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_71 : BitVec 32 := 1#32
  let arg14 : BitVec 32 := Scf.iv v42 c1_i32_71 k0_t18
  let c1_i32_66 : BitVec 32 := 1#32
  let v77 : BitVec 32 := Scalar.muli arg14 c1_i32_66
  let v78 : BitVec 32 := Scalar.addi c0_i32_67 v77
  let c12_i32_116 : BitVec 32 := 12#32
  let v85 : BitVec 1 := Scalar.cmpi .slt v78 c12_i32_116
  let c12_i32_117 : BitVec 32 := 12#32
  let v86 : BitVec 1 := Scalar.cmpi .sge v32 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v32 c12_i32_114
  let c12_i32_115 : BitVec 32 := 12#32
  let v83 : BitVec 32 := Scalar.subi v32 c12_i32_115
  let v84 : BitVec 32 := Scalar.select v82 v32 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t19
  let v124 : BitVec 32 := Scalar.addi v93 arg15
  let c16_i32_135 : BitVec 32 := 16#32
  let v125 : BitVec 32 := Scalar.muli v124 c16_i32_135
  let v126 : BitVec 32 := v125
  let v127 : Index := Scalar.indexCast v126
  let c0_136 : Index := 0#32
  ![v127.toNat, 0]
def k0_off36 (k0_t8 : Fin k0_t8_loop.trips) (k0_t18 : Fin (k0_t18_loop k0_t8).trips) (k0_t19 : Fin k0_t19_loop.trips) : Fin 2 → Nat :=
  let c0_i32_67 : BitVec 32 := 0#32
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_71 : BitVec 32 := 1#32
  let arg14 : BitVec 32 := Scf.iv v42 c1_i32_71 k0_t18
  let c1_i32_66 : BitVec 32 := 1#32
  let v77 : BitVec 32 := Scalar.muli arg14 c1_i32_66
  let v78 : BitVec 32 := Scalar.addi c0_i32_67 v77
  let c5_i32_137 : BitVec 32 := 5#32
  let v129 : BitVec 32 := Scalar.muli v78 c5_i32_137
  let c0_i32_122 : BitVec 32 := 0#32
  let c1_i32_124 : BitVec 32 := 1#32
  let arg15 : BitVec 32 := Scf.iv c0_i32_122 c1_i32_124 k0_t19
  let v130 : BitVec 32 := Scalar.addi v129 arg15
  let c17_i32 : BitVec 32 := 17#32
  let v131 : BitVec 32 := Scalar.muli v130 c17_i32
  let v132 : Index := Scalar.indexCast v131
  let c0_138 : Index := 0#32
  ![v132.toNat, 0]
def k0_mult22 (k0_t8 : Fin k0_t8_loop.trips) (k0_t18 : Fin (k0_t18_loop k0_t8).trips) : BitVec 32 :=
  let c0_i32_67 : BitVec 32 := 0#32
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_71 : BitVec 32 := 1#32
  let arg14 : BitVec 32 := Scf.iv v42 c1_i32_71 k0_t18
  let c1_i32_66 : BitVec 32 := 1#32
  let v77 : BitVec 32 := Scalar.muli arg14 c1_i32_66
  let v78 : BitVec 32 := Scalar.addi c0_i32_67 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let v117 : BitVec 32 := Scalar.addi v116 v32
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  v120
def k0_off37 (k0_t8 : Fin k0_t8_loop.trips) (k0_t18 : Fin (k0_t18_loop k0_t8).trips) : Fin 2 → Nat :=
  let c0_i32_67 : BitVec 32 := 0#32
  let c0_i32_68 : BitVec 32 := 0#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c0_i32_62 : BitVec 32 := 0#32
  let v34 : BitVec 32 := Scalar.subi v32 c0_i32_62
  let c1_i32_63 : BitVec 32 := 1#32
  let c1_i32_64 : BitVec 32 := 1#32
  let v35 : BitVec 32 := Scalar.subi c1_i32_63 c1_i32_64
  let v36 : BitVec 32 := Scalar.addi v34 v35
  let c1_i32_65 : BitVec 32 := 1#32
  let v37 : BitVec 32 := Scalar.divsi v36 c1_i32_65
  let v38 : BitVec 32 := Scalar.subi v37 c0_i32_68
  let c1_i32_69 : BitVec 32 := 1#32
  let v40 : BitVec 32 := Scalar.divsi v38 c1_i32_69
  let v41 : BitVec 32 := Scalar.muli v40 c1_i32_69
  let v42 : BitVec 32 := Scalar.addi c0_i32_68 v41
  let c1_i32_71 : BitVec 32 := 1#32
  let arg14 : BitVec 32 := Scf.iv v42 c1_i32_71 k0_t18
  let c1_i32_66 : BitVec 32 := 1#32
  let v77 : BitVec 32 := Scalar.muli arg14 c1_i32_66
  let v78 : BitVec 32 := Scalar.addi c0_i32_67 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let v117 : BitVec 32 := Scalar.addi v116 v32
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  let v121 : BitVec 32 := v120
  let v122 : Index := Scalar.indexCast v121
  let c0 : Index := 0#32
  ![v122.toNat, 0]
@[reducible] def k0_t20_loop (k0_t8 : Fin k0_t8_loop.trips) : Scf.Loop 32 :=
  let c0_i32_77 : BitVec 32 := 0#32
  let c24_i32 : BitVec 32 := 24#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c1_i32_72 : BitVec 32 := 1#32
  let v43 : BitVec 32 := Scalar.addi v32 c1_i32_72
  let v44 : BitVec 32 := Scalar.subi c24_i32 v43
  let c1_i32_73 : BitVec 32 := 1#32
  let c1_i32_74 : BitVec 32 := 1#32
  let v45 : BitVec 32 := Scalar.subi c1_i32_73 c1_i32_74
  let v46 : BitVec 32 := Scalar.addi v44 v45
  let c1_i32_75 : BitVec 32 := 1#32
  let v47 : BitVec 32 := Scalar.divsi v46 c1_i32_75
  let v48 : BitVec 32 := Scalar.subi v47 c0_i32_77
  let c1_i32_78 : BitVec 32 := 1#32
  let v50 : BitVec 32 := Scalar.divsi v48 c1_i32_78
  let v51 : BitVec 32 := Scalar.muli v50 c1_i32_78
  let v52 : BitVec 32 := Scalar.addi c0_i32_77 v51
  let c1_i32_79 : BitVec 32 := 1#32
  ⟨c0_i32_77, v52, c1_i32_79⟩
@[reducible] def k0_t21_loop : Scf.Loop 32 :=
  let c0_i32_121 : BitVec 32 := 0#32
  let c5_i32_122 : BitVec 32 := 5#32
  let v94 : BitVec 32 := Scalar.addi c0_i32_121 c5_i32_122
  let c1_i32_123 : BitVec 32 := 1#32
  ⟨c0_i32_121, v94, c1_i32_123⟩
def k0_off38 (k0_t8 : Fin k0_t8_loop.trips) (k0_t20 : Fin (k0_t20_loop k0_t8).trips) (k0_t21 : Fin k0_t21_loop.trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c1_i32_72 : BitVec 32 := 1#32
  let v43 : BitVec 32 := Scalar.addi v32 c1_i32_72
  let c0_i32_77 : BitVec 32 := 0#32
  let c1_i32_79 : BitVec 32 := 1#32
  let arg14 : BitVec 32 := Scf.iv c0_i32_77 c1_i32_79 k0_t20
  let c1_i32_76 : BitVec 32 := 1#32
  let v77 : BitVec 32 := Scalar.muli arg14 c1_i32_76
  let v78 : BitVec 32 := Scalar.addi v43 v77
  let c5_i32_127 : BitVec 32 := 5#32
  let v97 : BitVec 32 := Scalar.muli v78 c5_i32_127
  let c0_i32_126 : BitVec 32 := 0#32
  let c0_i32_121 : BitVec 32 := 0#32
  let c1_i32_123 : BitVec 32 := 1#32
  let arg15 : BitVec 32 := Scf.iv c0_i32_121 c1_i32_123 k0_t21
  let c1_i32_125 : BitVec 32 := 1#32
  let v95 : BitVec 32 := Scalar.muli arg15 c1_i32_125
  let v96 : BitVec 32 := Scalar.addi c0_i32_126 v95
  let v98 : BitVec 32 := Scalar.addi v97 v96
  let c17_i32 : BitVec 32 := 17#32
  let v99 : BitVec 32 := Scalar.muli v98 c17_i32
  let v100 : Index := Scalar.indexCast v99
  let c0 : Index := 0#32
  ![v100.toNat, 0]
def k0_mult23 (k0_t8 : Fin k0_t8_loop.trips) (k0_t20 : Fin (k0_t20_loop k0_t8).trips) (k0_t21 : Fin k0_t21_loop.trips) : BitVec 32 :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_116 : BitVec 32 := 12#32
  let v85 : BitVec 1 := Scalar.cmpi .slt v32 c12_i32_116
  let c1_i32_72 : BitVec 32 := 1#32
  let v43 : BitVec 32 := Scalar.addi v32 c1_i32_72
  let c0_i32_77 : BitVec 32 := 0#32
  let c1_i32_79 : BitVec 32 := 1#32
  let arg14 : BitVec 32 := Scf.iv c0_i32_77 c1_i32_79 k0_t20
  let c1_i32_76 : BitVec 32 := 1#32
  let v77 : BitVec 32 := Scalar.muli arg14 c1_i32_76
  let v78 : BitVec 32 := Scalar.addi v43 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v32 c12_i32_112
  let c12_i32_113 : BitVec 32 := 12#32
  let v80 : BitVec 32 := Scalar.subi v32 c12_i32_113
  let v81 : BitVec 32 := Scalar.select v79 v32 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t21
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  v103
def k0_off39 (k0_t8 : Fin k0_t8_loop.trips) (k0_t20 : Fin (k0_t20_loop k0_t8).trips) (k0_t21 : Fin k0_t21_loop.trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_116 : BitVec 32 := 12#32
  let v85 : BitVec 1 := Scalar.cmpi .slt v32 c12_i32_116
  let c1_i32_72 : BitVec 32 := 1#32
  let v43 : BitVec 32 := Scalar.addi v32 c1_i32_72
  let c0_i32_77 : BitVec 32 := 0#32
  let c1_i32_79 : BitVec 32 := 1#32
  let arg14 : BitVec 32 := Scf.iv c0_i32_77 c1_i32_79 k0_t20
  let c1_i32_76 : BitVec 32 := 1#32
  let v77 : BitVec 32 := Scalar.muli arg14 c1_i32_76
  let v78 : BitVec 32 := Scalar.addi v43 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v32 c12_i32_112
  let c12_i32_113 : BitVec 32 := 12#32
  let v80 : BitVec 32 := Scalar.subi v32 c12_i32_113
  let v81 : BitVec 32 := Scalar.select v79 v32 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t21
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  let v104 : BitVec 32 := v103
  let v105 : Index := Scalar.indexCast v104
  let c0_129 : Index := 0#32
  ![v105.toNat, 0]
@[reducible] def k0_t22_loop (k0_t8 : Fin k0_t8_loop.trips) : Scf.Loop 32 :=
  let c0_i32_77 : BitVec 32 := 0#32
  let c24_i32 : BitVec 32 := 24#32
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c1_i32_72 : BitVec 32 := 1#32
  let v43 : BitVec 32 := Scalar.addi v32 c1_i32_72
  let v44 : BitVec 32 := Scalar.subi c24_i32 v43
  let c1_i32_73 : BitVec 32 := 1#32
  let c1_i32_74 : BitVec 32 := 1#32
  let v45 : BitVec 32 := Scalar.subi c1_i32_73 c1_i32_74
  let v46 : BitVec 32 := Scalar.addi v44 v45
  let c1_i32_75 : BitVec 32 := 1#32
  let v47 : BitVec 32 := Scalar.divsi v46 c1_i32_75
  let v48 : BitVec 32 := Scalar.subi v47 c0_i32_77
  let c1_i32_78 : BitVec 32 := 1#32
  let v50 : BitVec 32 := Scalar.divsi v48 c1_i32_78
  let v51 : BitVec 32 := Scalar.muli v50 c1_i32_78
  let v52 : BitVec 32 := Scalar.addi c0_i32_77 v51
  let v49 : BitVec 32 := Scalar.addi c0_i32_77 v48
  let c1_i32_80 : BitVec 32 := 1#32
  ⟨v52, v49, c1_i32_80⟩
@[reducible] def k0_t23_loop : Scf.Loop 32 :=
  let c0_i32_121 : BitVec 32 := 0#32
  let c5_i32_122 : BitVec 32 := 5#32
  let v94 : BitVec 32 := Scalar.addi c0_i32_121 c5_i32_122
  let c1_i32_123 : BitVec 32 := 1#32
  ⟨c0_i32_121, v94, c1_i32_123⟩
def k0_off40 (k0_t8 : Fin k0_t8_loop.trips) (k0_t22 : Fin (k0_t22_loop k0_t8).trips) (k0_t23 : Fin k0_t23_loop.trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c1_i32_72 : BitVec 32 := 1#32
  let v43 : BitVec 32 := Scalar.addi v32 c1_i32_72
  let c0_i32_77 : BitVec 32 := 0#32
  let c24_i32 : BitVec 32 := 24#32
  let v44 : BitVec 32 := Scalar.subi c24_i32 v43
  let c1_i32_73 : BitVec 32 := 1#32
  let c1_i32_74 : BitVec 32 := 1#32
  let v45 : BitVec 32 := Scalar.subi c1_i32_73 c1_i32_74
  let v46 : BitVec 32 := Scalar.addi v44 v45
  let c1_i32_75 : BitVec 32 := 1#32
  let v47 : BitVec 32 := Scalar.divsi v46 c1_i32_75
  let v48 : BitVec 32 := Scalar.subi v47 c0_i32_77
  let c1_i32_78 : BitVec 32 := 1#32
  let v50 : BitVec 32 := Scalar.divsi v48 c1_i32_78
  let v51 : BitVec 32 := Scalar.muli v50 c1_i32_78
  let v52 : BitVec 32 := Scalar.addi c0_i32_77 v51
  let c1_i32_80 : BitVec 32 := 1#32
  let arg14 : BitVec 32 := Scf.iv v52 c1_i32_80 k0_t22
  let c1_i32_76 : BitVec 32 := 1#32
  let v77 : BitVec 32 := Scalar.muli arg14 c1_i32_76
  let v78 : BitVec 32 := Scalar.addi v43 v77
  let c5_i32_127 : BitVec 32 := 5#32
  let v97 : BitVec 32 := Scalar.muli v78 c5_i32_127
  let c0_i32_126 : BitVec 32 := 0#32
  let c0_i32_121 : BitVec 32 := 0#32
  let c1_i32_123 : BitVec 32 := 1#32
  let arg15 : BitVec 32 := Scf.iv c0_i32_121 c1_i32_123 k0_t23
  let c1_i32_125 : BitVec 32 := 1#32
  let v95 : BitVec 32 := Scalar.muli arg15 c1_i32_125
  let v96 : BitVec 32 := Scalar.addi c0_i32_126 v95
  let v98 : BitVec 32 := Scalar.addi v97 v96
  let c17_i32 : BitVec 32 := 17#32
  let v99 : BitVec 32 := Scalar.muli v98 c17_i32
  let v100 : Index := Scalar.indexCast v99
  let c0 : Index := 0#32
  ![v100.toNat, 0]
def k0_mult24 (k0_t8 : Fin k0_t8_loop.trips) (k0_t22 : Fin (k0_t22_loop k0_t8).trips) (k0_t23 : Fin k0_t23_loop.trips) : BitVec 32 :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_116 : BitVec 32 := 12#32
  let v85 : BitVec 1 := Scalar.cmpi .slt v32 c12_i32_116
  let c1_i32_72 : BitVec 32 := 1#32
  let v43 : BitVec 32 := Scalar.addi v32 c1_i32_72
  let c0_i32_77 : BitVec 32 := 0#32
  let c24_i32 : BitVec 32 := 24#32
  let v44 : BitVec 32 := Scalar.subi c24_i32 v43
  let c1_i32_73 : BitVec 32 := 1#32
  let c1_i32_74 : BitVec 32 := 1#32
  let v45 : BitVec 32 := Scalar.subi c1_i32_73 c1_i32_74
  let v46 : BitVec 32 := Scalar.addi v44 v45
  let c1_i32_75 : BitVec 32 := 1#32
  let v47 : BitVec 32 := Scalar.divsi v46 c1_i32_75
  let v48 : BitVec 32 := Scalar.subi v47 c0_i32_77
  let c1_i32_78 : BitVec 32 := 1#32
  let v50 : BitVec 32 := Scalar.divsi v48 c1_i32_78
  let v51 : BitVec 32 := Scalar.muli v50 c1_i32_78
  let v52 : BitVec 32 := Scalar.addi c0_i32_77 v51
  let c1_i32_80 : BitVec 32 := 1#32
  let arg14 : BitVec 32 := Scf.iv v52 c1_i32_80 k0_t22
  let c1_i32_76 : BitVec 32 := 1#32
  let v77 : BitVec 32 := Scalar.muli arg14 c1_i32_76
  let v78 : BitVec 32 := Scalar.addi v43 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v32 c12_i32_112
  let c12_i32_113 : BitVec 32 := 12#32
  let v80 : BitVec 32 := Scalar.subi v32 c12_i32_113
  let v81 : BitVec 32 := Scalar.select v79 v32 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t23
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  v103
def k0_off41 (k0_t8 : Fin k0_t8_loop.trips) (k0_t22 : Fin (k0_t22_loop k0_t8).trips) (k0_t23 : Fin k0_t23_loop.trips) : Fin 2 → Nat :=
  let c2_i32 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v29 : BitVec 32 := Scalar.muli c2_i32 v28
  let c1_i32_52 : BitVec 32 := 1#32
  let v30 : BitVec 32 := Scalar.addi v29 c1_i32_52
  let c1_i32_57 : BitVec 32 := 1#32
  let v32 : BitVec 32 := Scalar.subi v30 c1_i32_57
  let c12_i32_116 : BitVec 32 := 12#32
  let v85 : BitVec 1 := Scalar.cmpi .slt v32 c12_i32_116
  let c1_i32_72 : BitVec 32 := 1#32
  let v43 : BitVec 32 := Scalar.addi v32 c1_i32_72
  let c0_i32_77 : BitVec 32 := 0#32
  let c24_i32 : BitVec 32 := 24#32
  let v44 : BitVec 32 := Scalar.subi c24_i32 v43
  let c1_i32_73 : BitVec 32 := 1#32
  let c1_i32_74 : BitVec 32 := 1#32
  let v45 : BitVec 32 := Scalar.subi c1_i32_73 c1_i32_74
  let v46 : BitVec 32 := Scalar.addi v44 v45
  let c1_i32_75 : BitVec 32 := 1#32
  let v47 : BitVec 32 := Scalar.divsi v46 c1_i32_75
  let v48 : BitVec 32 := Scalar.subi v47 c0_i32_77
  let c1_i32_78 : BitVec 32 := 1#32
  let v50 : BitVec 32 := Scalar.divsi v48 c1_i32_78
  let v51 : BitVec 32 := Scalar.muli v50 c1_i32_78
  let v52 : BitVec 32 := Scalar.addi c0_i32_77 v51
  let c1_i32_80 : BitVec 32 := 1#32
  let arg14 : BitVec 32 := Scf.iv v52 c1_i32_80 k0_t22
  let c1_i32_76 : BitVec 32 := 1#32
  let v77 : BitVec 32 := Scalar.muli arg14 c1_i32_76
  let v78 : BitVec 32 := Scalar.addi v43 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v32 c12_i32_112
  let c12_i32_113 : BitVec 32 := 12#32
  let v80 : BitVec 32 := Scalar.subi v32 c12_i32_113
  let v81 : BitVec 32 := Scalar.select v79 v32 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t23
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  let v104 : BitVec 32 := v103
  let v105 : Index := Scalar.indexCast v104
  let c0_129 : Index := 0#32
  ![v105.toNat, 0]
@[reducible] def k0_t24_loop : Scf.Loop 32 :=
  let c0_i32_83 : BitVec 32 := 0#32
  let c4_i32_84 : BitVec 32 := 4#32
  let v55 : BitVec 32 := Scalar.addi c0_i32_83 c4_i32_84
  let c1_i32_85 : BitVec 32 := 1#32
  ⟨c0_i32_83, v55, c1_i32_85⟩
@[reducible] def k0_t25_loop : Scf.Loop 32 :=
  let c0_i32_114 : BitVec 32 := 0#32
  let c15_i32 : BitVec 32 := 15#32
  let v79 : BitVec 32 := Scalar.addi c0_i32_114 c15_i32
  let c1_i32_115 : BitVec 32 := 1#32
  ⟨c0_i32_114, v79, c1_i32_115⟩
def k0_mult25 (k0_t8 : Fin k0_t8_loop.trips) (k0_t24 : Fin k0_t24_loop.trips) : BitVec 32 :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c30000_i32 : BitVec 32 := 30000#32
  let v87 : BitVec 32 := Scalar.muli v54 c30000_i32
  let c0_i32_125 : BitVec 32 := 0#32
  let v89 : BitVec 1 := Scalar.cmpi .sgt v87 c0_i32_125
  let v90 : BitVec 32 := Scalar.extui v89
  let c0_i32_126 : BitVec 32 := 0#32
  let v91 : BitVec 1 := Scalar.cmpi .slt v87 c0_i32_126
  let v92 : BitVec 32 := Scalar.extui v91
  let v93 : BitVec 32 := Scalar.subi v90 v92
  let c128_i32 : BitVec 32 := 128#32
  let c0_i32_127 : BitVec 32 := 0#32
  let v94 : BitVec 1 := Scalar.cmpi .sgt c128_i32 c0_i32_127
  let v95 : BitVec 32 := Scalar.extui v94
  let c0_i32_128 : BitVec 32 := 0#32
  let v96 : BitVec 1 := Scalar.cmpi .slt c128_i32 c0_i32_128
  let v97 : BitVec 32 := Scalar.extui v96
  let v98 : BitVec 32 := Scalar.subi v95 v97
  let v99 : BitVec 1 := Scalar.cmpi .ne v93 v98
  let v100 : BitVec 32 := Scalar.remsi v87 c128_i32
  let c0_i32_129 : BitVec 32 := 0#32
  let v101 : BitVec 1 := Scalar.cmpi .ne v100 c0_i32_129
  let v102 : BitVec 1 := Scalar.andi v99 v101
  let v88 : BitVec 32 := Scalar.divsi v87 c128_i32
  let c1_i32_130 : BitVec 32 := 1#32
  let v103 : BitVec 32 := Scalar.subi v88 c1_i32_130
  let v104 : BitVec 32 := Scalar.select v102 v103 v88
  let c5389_i32 : BitVec 32 := 5389#32
  let v105 : BitVec 32 := Scalar.minsi v104 c5389_i32
  let c128_i32_131 : BitVec 32 := 128#32
  let v106 : BitVec 32 := Scalar.muli v105 c128_i32_131
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c7552_i32 : BitVec 32 := 7552#32
  let v107 : BitVec 32 := Scalar.muli v78 c7552_i32
  let v108 : BitVec 32 := Scalar.addi v106 v107
  v108
def k0_mult26 (k0_t25 : Fin k0_t25_loop.trips) : BitVec 32 :=
  let c0_i32_124 : BitVec 32 := 0#32
  let c0_i32_114 : BitVec 32 := 0#32
  let c1_i32_115 : BitVec 32 := 1#32
  let arg15 : BitVec 32 := Scf.iv c0_i32_114 c1_i32_115 k0_t25
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  v111
def k0_off42 (k0_t24 : Fin k0_t24_loop.trips) : Fin 1 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  ![v78.toNat]
def k0_off43 (k0_t24 : Fin k0_t24_loop.trips) (k0_t25 : Fin k0_t25_loop.trips) : Fin 3 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c0_i32_124 : BitVec 32 := 0#32
  let c0_i32_114 : BitVec 32 := 0#32
  let c1_i32_115 : BitVec 32 := 1#32
  let arg15 : BitVec 32 := Scf.iv c0_i32_114 c1_i32_115 k0_t25
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  let v112 : BitVec 32 := v111
  let c0_i32_133 : BitVec 32 := 0#32
  ![v78.toNat, v112.toNat, 0]
def k0_off44 (k0_t8 : Fin k0_t8_loop.trips) (k0_t24 : Fin k0_t24_loop.trips) (k0_t25 : Fin k0_t25_loop.trips) : Fin 2 → Nat :=
  let c0_i32_124 : BitVec 32 := 0#32
  let c0_i32_114 : BitVec 32 := 0#32
  let c1_i32_115 : BitVec 32 := 1#32
  let arg15 : BitVec 32 := Scf.iv c0_i32_114 c1_i32_115 k0_t25
  let c1_i32_123 : BitVec 32 := 1#32
  let v85 : BitVec 32 := Scalar.muli arg15 c1_i32_123
  let v86 : BitVec 32 := Scalar.addi c0_i32_124 v85
  let c8_i32 : BitVec 32 := 8#32
  let v110 : BitVec 32 := Scalar.muli v86 c8_i32
  let c4_i32_132 : BitVec 32 := 4#32
  let v111 : BitVec 32 := Scalar.muli v110 c4_i32_132
  let v112 : BitVec 32 := v111
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c30000_i32 : BitVec 32 := 30000#32
  let v87 : BitVec 32 := Scalar.muli v54 c30000_i32
  let c0_i32_125 : BitVec 32 := 0#32
  let v89 : BitVec 1 := Scalar.cmpi .sgt v87 c0_i32_125
  let v90 : BitVec 32 := Scalar.extui v89
  let c0_i32_126 : BitVec 32 := 0#32
  let v91 : BitVec 1 := Scalar.cmpi .slt v87 c0_i32_126
  let v92 : BitVec 32 := Scalar.extui v91
  let v93 : BitVec 32 := Scalar.subi v90 v92
  let c128_i32 : BitVec 32 := 128#32
  let c0_i32_127 : BitVec 32 := 0#32
  let v94 : BitVec 1 := Scalar.cmpi .sgt c128_i32 c0_i32_127
  let v95 : BitVec 32 := Scalar.extui v94
  let c0_i32_128 : BitVec 32 := 0#32
  let v96 : BitVec 1 := Scalar.cmpi .slt c128_i32 c0_i32_128
  let v97 : BitVec 32 := Scalar.extui v96
  let v98 : BitVec 32 := Scalar.subi v95 v97
  let v99 : BitVec 1 := Scalar.cmpi .ne v93 v98
  let v100 : BitVec 32 := Scalar.remsi v87 c128_i32
  let c0_i32_129 : BitVec 32 := 0#32
  let v101 : BitVec 1 := Scalar.cmpi .ne v100 c0_i32_129
  let v102 : BitVec 1 := Scalar.andi v99 v101
  let v88 : BitVec 32 := Scalar.divsi v87 c128_i32
  let c1_i32_130 : BitVec 32 := 1#32
  let v103 : BitVec 32 := Scalar.subi v88 c1_i32_130
  let v104 : BitVec 32 := Scalar.select v102 v103 v88
  let c5389_i32 : BitVec 32 := 5389#32
  let v105 : BitVec 32 := Scalar.minsi v104 c5389_i32
  let c128_i32_131 : BitVec 32 := 128#32
  let v106 : BitVec 32 := Scalar.muli v105 c128_i32_131
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c7552_i32 : BitVec 32 := 7552#32
  let v107 : BitVec 32 := Scalar.muli v78 c7552_i32
  let v108 : BitVec 32 := Scalar.addi v106 v107
  let v109 : BitVec 32 := v108
  ![v112.toNat, v109.toNat]
@[reducible] def k0_t26_loop : Scf.Loop 32 :=
  let c0_i32_117 : BitVec 32 := 0#32
  let c59_i32 : BitVec 32 := 59#32
  let v80 : BitVec 32 := Scalar.addi c0_i32_117 c59_i32
  let c1_i32_118 : BitVec 32 := 1#32
  ⟨c0_i32_117, v80, c1_i32_118⟩
def k0_mult27 (k0_t26 : Fin k0_t26_loop.trips) : BitVec 32 :=
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let c128_i32 : BitVec 32 := 128#32
  let v87 : BitVec 32 := Scalar.muli v86 c128_i32
  v87
def k0_off45 (k0_t24 : Fin k0_t24_loop.trips) (k0_t26 : Fin k0_t26_loop.trips) : Fin 3 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let v89 : Index := Scalar.indexCast v78
  let c0 : Index := 0#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let c128_i32 : BitVec 32 := 128#32
  let v87 : BitVec 32 := Scalar.muli v86 c128_i32
  let v88 : BitVec 32 := v87
  let v90 : Index := Scalar.indexCast v88
  ![v89.toNat, 0, v90.toNat]
def k0_mult28 (k0_t24 : Fin k0_t24_loop.trips) (k0_t26 : Fin k0_t26_loop.trips) : BitVec 32 :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c59_i32_125 : BitVec 32 := 59#32
  let v94 : BitVec 32 := Scalar.muli v78 c59_i32_125
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v95 : BitVec 32 := Scalar.addi v94 v86
  let c128_i32_126 : BitVec 32 := 128#32
  let v96 : BitVec 32 := Scalar.muli v95 c128_i32_126
  v96
def k0_off46 (k0_t24 : Fin k0_t24_loop.trips) (k0_t26 : Fin k0_t26_loop.trips) : Fin 2 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c59_i32_125 : BitVec 32 := 59#32
  let v94 : BitVec 32 := Scalar.muli v78 c59_i32_125
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v95 : BitVec 32 := Scalar.addi v94 v86
  let c128_i32_126 : BitVec 32 := 128#32
  let v96 : BitVec 32 := Scalar.muli v95 c128_i32_126
  let v97 : BitVec 32 := v96
  let v99 : Index := Scalar.indexCast v97
  let c0_127 : Index := 0#32
  ![v99.toNat, 0]
@[reducible] def k0_t27_loop (k0_t26 : Fin k0_t26_loop.trips) : Scf.Loop 32 :=
  let c0_i32_137 : BitVec 32 := 0#32
  let c512_i32_131 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let c512_i32 : BitVec 32 := 512#32
  let v104 : BitVec 32 := Scalar.muli c512_i32 v86
  let c59_i32_129 : BitVec 32 := 59#32
  let v105 : BitVec 32 := Scalar.divsi v104 c59_i32_129
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_139 : BitVec 32 := 1#32
  ⟨c0_i32_137, v117, c1_i32_139⟩
def k0_off47 (k0_t8 : Fin k0_t8_loop.trips) (k0_t24 : Fin k0_t24_loop.trips) (k0_t26 : Fin k0_t26_loop.trips) (k0_t27 : Fin (k0_t27_loop k0_t26).trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_128 : BitVec 32 := 1#32
  let v103 : BitVec 32 := Scalar.subi v54 c1_i32_128
  let c16_i32_144 : BitVec 32 := 16#32
  let v124 : BitVec 32 := Scalar.muli v103 c16_i32_144
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c1_i32_139 : BitVec 32 := 1#32
  let arg16 : BitVec 32 := Scf.iv c0_i32_137 c1_i32_139 k0_t27
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let v125 : BitVec 32 := Scalar.addi v124 v122
  let v126 : Index := Scalar.indexCast v125
  let c128_i32_143 : BitVec 32 := 128#32
  let v123 : BitVec 32 := Scalar.remsi v119 c128_i32_143
  let v127 : Index := Scalar.indexCast v123
  ![v126.toNat, v127.toNat]
def k0_off48 (v128 : BitVec 32) : Fin 2 → Nat :=
  let v129 : Index := Scalar.indexCast v128
  let c0_145 : Index := 0#32
  ![v129.toNat, 0]

def k0_chk3 (v128 : BitVec 32) : Prop :=
  (∀ a, (k0_off48 v128) a + S1x128.size a ≤ S30208x128.size a)
theorem k0_off48_inb : ∀ (v128 : BitVec 32) (k0_hw3 : k0_chk3 v128), ∀ a, (k0_off48 v128) a + S1x128.size a ≤ S30208x128.size a := fun v128 k0_hw3 => k0_hw3

def k0_off49 (k0_t24 : Fin k0_t24_loop.trips) (k0_t26 : Fin k0_t26_loop.trips) (k0_t27 : Fin (k0_t27_loop k0_t26).trips) : Fin 2 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c1_i32_139 : BitVec 32 := 1#32
  let arg16 : BitVec 32 := Scf.iv c0_i32_137 c1_i32_139 k0_t27
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let c128_i32_146 : BitVec 32 := 128#32
  let v131 : BitVec 32 := Scalar.muli v122 c128_i32_146
  let c128_i32_143 : BitVec 32 := 128#32
  let v123 : BitVec 32 := Scalar.remsi v119 c128_i32_143
  let v132 : BitVec 32 := Scalar.addi v131 v123
  let v133 : Index := Scalar.indexCast v132
  let c0_147 : Index := 0#32
  ![v133.toNat, 0]
@[reducible] def k0_t28_loop (k0_t26 : Fin k0_t26_loop.trips) : Scf.Loop 32 :=
  let c0_i32_137 : BitVec 32 := 0#32
  let c512_i32_131 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let c512_i32 : BitVec 32 := 512#32
  let v104 : BitVec 32 := Scalar.muli c512_i32 v86
  let c59_i32_129 : BitVec 32 := 59#32
  let v105 : BitVec 32 := Scalar.divsi v104 c59_i32_129
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let v114 : BitVec 32 := Scalar.addi c0_i32_137 v113
  let c1_i32_140 : BitVec 32 := 1#32
  ⟨v117, v114, c1_i32_140⟩
def k0_off50 (k0_t8 : Fin k0_t8_loop.trips) (k0_t24 : Fin k0_t24_loop.trips) (k0_t26 : Fin k0_t26_loop.trips) (k0_t28 : Fin (k0_t28_loop k0_t26).trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_128 : BitVec 32 := 1#32
  let v103 : BitVec 32 := Scalar.subi v54 c1_i32_128
  let c16_i32_144 : BitVec 32 := 16#32
  let v124 : BitVec 32 := Scalar.muli v103 c16_i32_144
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c512_i32_131 : BitVec 32 := 512#32
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_140 : BitVec 32 := 1#32
  let arg16 : BitVec 32 := Scf.iv v117 c1_i32_140 k0_t28
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let v125 : BitVec 32 := Scalar.addi v124 v122
  let v126 : Index := Scalar.indexCast v125
  let c128_i32_143 : BitVec 32 := 128#32
  let v123 : BitVec 32 := Scalar.remsi v119 c128_i32_143
  let v127 : Index := Scalar.indexCast v123
  ![v126.toNat, v127.toNat]
def k0_off51 (v128 : BitVec 32) : Fin 2 → Nat :=
  let v129 : Index := Scalar.indexCast v128
  let c0_145 : Index := 0#32
  ![v129.toNat, 0]

def k0_chk4 (k0_t26 : Fin k0_t26_loop.trips) (k0_t28 : Fin (k0_t28_loop k0_t26).trips) (v128 : BitVec 32) : Prop :=
  (∀ a, (k0_off51 v128) a + S1x128.size a ≤ S30208x128.size a)
theorem k0_off51_inb : ∀ (k0_t26 : Fin k0_t26_loop.trips) (k0_t28 : Fin (k0_t28_loop k0_t26).trips) (v128 : BitVec 32) (k0_hw4 : k0_chk4 k0_t26 k0_t28 v128), ∀ a, (k0_off51 v128) a + S1x128.size a ≤ S30208x128.size a := fun k0_t26 k0_t28 v128 k0_hw4 => k0_hw4

def k0_off52 (k0_t24 : Fin k0_t24_loop.trips) (k0_t26 : Fin k0_t26_loop.trips) (k0_t28 : Fin (k0_t28_loop k0_t26).trips) : Fin 2 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c4_i32_141 : BitVec 32 := 4#32
  let v120 : BitVec 32 := Scalar.muli v78 c4_i32_141
  let c512_i32 : BitVec 32 := 512#32
  let c0_i32_124 : BitVec 32 := 0#32
  let c0_i32_117 : BitVec 32 := 0#32
  let c1_i32_118 : BitVec 32 := 1#32
  let arg15 : BitVec 32 := Scf.iv c0_i32_117 c1_i32_118 k0_t26
  let c1_i32_123 : BitVec 32 := 1#32
  let v85 : BitVec 32 := Scalar.muli arg15 c1_i32_123
  let v86 : BitVec 32 := Scalar.addi c0_i32_124 v85
  let v104 : BitVec 32 := Scalar.muli c512_i32 v86
  let c59_i32_129 : BitVec 32 := 59#32
  let v105 : BitVec 32 := Scalar.divsi v104 c59_i32_129
  let c0_i32_137 : BitVec 32 := 0#32
  let c512_i32_131 : BitVec 32 := 512#32
  let c1_i32_130 : BitVec 32 := 1#32
  let v106 : BitVec 32 := Scalar.addi v86 c1_i32_130
  let v107 : BitVec 32 := Scalar.muli c512_i32_131 v106
  let c59_i32_132 : BitVec 32 := 59#32
  let v108 : BitVec 32 := Scalar.divsi v107 c59_i32_132
  let v109 : BitVec 32 := Scalar.subi v108 v105
  let c1_i32_133 : BitVec 32 := 1#32
  let c1_i32_134 : BitVec 32 := 1#32
  let v110 : BitVec 32 := Scalar.subi c1_i32_133 c1_i32_134
  let v111 : BitVec 32 := Scalar.addi v109 v110
  let c1_i32_135 : BitVec 32 := 1#32
  let v112 : BitVec 32 := Scalar.divsi v111 c1_i32_135
  let v113 : BitVec 32 := Scalar.subi v112 c0_i32_137
  let c1_i32_138 : BitVec 32 := 1#32
  let v115 : BitVec 32 := Scalar.divsi v113 c1_i32_138
  let v116 : BitVec 32 := Scalar.muli v115 c1_i32_138
  let v117 : BitVec 32 := Scalar.addi c0_i32_137 v116
  let c1_i32_140 : BitVec 32 := 1#32
  let arg16 : BitVec 32 := Scf.iv v117 c1_i32_140 k0_t28
  let c1_i32_136 : BitVec 32 := 1#32
  let v118 : BitVec 32 := Scalar.muli arg16 c1_i32_136
  let v119 : BitVec 32 := Scalar.addi v105 v118
  let c128_i32_142 : BitVec 32 := 128#32
  let v121 : BitVec 32 := Scalar.divsi v119 c128_i32_142
  let v122 : BitVec 32 := Scalar.addi v120 v121
  let c128_i32_146 : BitVec 32 := 128#32
  let v131 : BitVec 32 := Scalar.muli v122 c128_i32_146
  let c128_i32_143 : BitVec 32 := 128#32
  let v123 : BitVec 32 := Scalar.remsi v119 c128_i32_143
  let v132 : BitVec 32 := Scalar.addi v131 v123
  let v133 : Index := Scalar.indexCast v132
  let c0_147 : Index := 0#32
  ![v133.toNat, 0]
def k0_cond2 (k0_t8 : Fin k0_t8_loop.trips) : BitVec 1 :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_120 : BitVec 32 := 1#32
  let v81 : BitVec 32 := Scalar.addi v54 c1_i32_120
  let c24_i32_121 : BitVec 32 := 24#32
  let v82 : BitVec 1 := Scalar.cmpi .slt v81 c24_i32_121
  let v83 : BitVec 32 := Scalar.extui v82
  let c0_i32_122 : BitVec 32 := 0#32
  let v84 : BitVec 1 := Scalar.cmpi .ne v83 c0_i32_122
  v84

@[reducible] def k0_t29_loop : Scf.Loop 32 :=
  let c0_i32_124 : BitVec 32 := 0#32
  let c15_i32_125 : BitVec 32 := 15#32
  let v86 : BitVec 32 := Scalar.addi c0_i32_124 c15_i32_125
  let c1_i32_126 : BitVec 32 := 1#32
  ⟨c0_i32_124, v86, c1_i32_126⟩
def k0_mult29 (k0_t8 : Fin k0_t8_loop.trips) (k0_t24 : Fin k0_t24_loop.trips) : BitVec 32 :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_123 : BitVec 32 := 1#32
  let v85 : BitVec 32 := Scalar.addi v54 c1_i32_123
  let c30000_i32 : BitVec 32 := 30000#32
  let v89 : BitVec 32 := Scalar.muli v85 c30000_i32
  let c0_i32_130 : BitVec 32 := 0#32
  let v91 : BitVec 1 := Scalar.cmpi .sgt v89 c0_i32_130
  let v92 : BitVec 32 := Scalar.extui v91
  let c0_i32_131 : BitVec 32 := 0#32
  let v93 : BitVec 1 := Scalar.cmpi .slt v89 c0_i32_131
  let v94 : BitVec 32 := Scalar.extui v93
  let v95 : BitVec 32 := Scalar.subi v92 v94
  let c128_i32 : BitVec 32 := 128#32
  let c0_i32_132 : BitVec 32 := 0#32
  let v96 : BitVec 1 := Scalar.cmpi .sgt c128_i32 c0_i32_132
  let v97 : BitVec 32 := Scalar.extui v96
  let c0_i32_133 : BitVec 32 := 0#32
  let v98 : BitVec 1 := Scalar.cmpi .slt c128_i32 c0_i32_133
  let v99 : BitVec 32 := Scalar.extui v98
  let v100 : BitVec 32 := Scalar.subi v97 v99
  let v101 : BitVec 1 := Scalar.cmpi .ne v95 v100
  let v102 : BitVec 32 := Scalar.remsi v89 c128_i32
  let c0_i32_134 : BitVec 32 := 0#32
  let v103 : BitVec 1 := Scalar.cmpi .ne v102 c0_i32_134
  let v104 : BitVec 1 := Scalar.andi v101 v103
  let v90 : BitVec 32 := Scalar.divsi v89 c128_i32
  let c1_i32_135 : BitVec 32 := 1#32
  let v105 : BitVec 32 := Scalar.subi v90 c1_i32_135
  let v106 : BitVec 32 := Scalar.select v104 v105 v90
  let c5389_i32 : BitVec 32 := 5389#32
  let v107 : BitVec 32 := Scalar.minsi v106 c5389_i32
  let c128_i32_136 : BitVec 32 := 128#32
  let v108 : BitVec 32 := Scalar.muli v107 c128_i32_136
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c7552_i32 : BitVec 32 := 7552#32
  let v109 : BitVec 32 := Scalar.muli v78 c7552_i32
  let v110 : BitVec 32 := Scalar.addi v108 v109
  v110
def k0_mult30 (k0_t29 : Fin k0_t29_loop.trips) : BitVec 32 :=
  let c0_i32_129 : BitVec 32 := 0#32
  let c0_i32_124 : BitVec 32 := 0#32
  let c1_i32_126 : BitVec 32 := 1#32
  let arg15 : BitVec 32 := Scf.iv c0_i32_124 c1_i32_126 k0_t29
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  v113
def k0_off53 (k0_t24 : Fin k0_t24_loop.trips) : Fin 1 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  ![v78.toNat]
def k0_off54 (k0_t24 : Fin k0_t24_loop.trips) (k0_t29 : Fin k0_t29_loop.trips) : Fin 3 → Nat :=
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c0_i32_129 : BitVec 32 := 0#32
  let c0_i32_124 : BitVec 32 := 0#32
  let c1_i32_126 : BitVec 32 := 1#32
  let arg15 : BitVec 32 := Scf.iv c0_i32_124 c1_i32_126 k0_t29
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  let v114 : BitVec 32 := v113
  let c0_i32_138 : BitVec 32 := 0#32
  ![v78.toNat, v114.toNat, 0]
def k0_off55 (k0_t8 : Fin k0_t8_loop.trips) (k0_t24 : Fin k0_t24_loop.trips) (k0_t29 : Fin k0_t29_loop.trips) : Fin 2 → Nat :=
  let c0_i32_129 : BitVec 32 := 0#32
  let c0_i32_124 : BitVec 32 := 0#32
  let c1_i32_126 : BitVec 32 := 1#32
  let arg15 : BitVec 32 := Scf.iv c0_i32_124 c1_i32_126 k0_t29
  let c1_i32_128 : BitVec 32 := 1#32
  let v87 : BitVec 32 := Scalar.muli arg15 c1_i32_128
  let v88 : BitVec 32 := Scalar.addi c0_i32_129 v87
  let c8_i32 : BitVec 32 := 8#32
  let v112 : BitVec 32 := Scalar.muli v88 c8_i32
  let c4_i32_137 : BitVec 32 := 4#32
  let v113 : BitVec 32 := Scalar.muli v112 c4_i32_137
  let v114 : BitVec 32 := v113
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_123 : BitVec 32 := 1#32
  let v85 : BitVec 32 := Scalar.addi v54 c1_i32_123
  let c30000_i32 : BitVec 32 := 30000#32
  let v89 : BitVec 32 := Scalar.muli v85 c30000_i32
  let c0_i32_130 : BitVec 32 := 0#32
  let v91 : BitVec 1 := Scalar.cmpi .sgt v89 c0_i32_130
  let v92 : BitVec 32 := Scalar.extui v91
  let c0_i32_131 : BitVec 32 := 0#32
  let v93 : BitVec 1 := Scalar.cmpi .slt v89 c0_i32_131
  let v94 : BitVec 32 := Scalar.extui v93
  let v95 : BitVec 32 := Scalar.subi v92 v94
  let c128_i32 : BitVec 32 := 128#32
  let c0_i32_132 : BitVec 32 := 0#32
  let v96 : BitVec 1 := Scalar.cmpi .sgt c128_i32 c0_i32_132
  let v97 : BitVec 32 := Scalar.extui v96
  let c0_i32_133 : BitVec 32 := 0#32
  let v98 : BitVec 1 := Scalar.cmpi .slt c128_i32 c0_i32_133
  let v99 : BitVec 32 := Scalar.extui v98
  let v100 : BitVec 32 := Scalar.subi v97 v99
  let v101 : BitVec 1 := Scalar.cmpi .ne v95 v100
  let v102 : BitVec 32 := Scalar.remsi v89 c128_i32
  let c0_i32_134 : BitVec 32 := 0#32
  let v103 : BitVec 1 := Scalar.cmpi .ne v102 c0_i32_134
  let v104 : BitVec 1 := Scalar.andi v101 v103
  let v90 : BitVec 32 := Scalar.divsi v89 c128_i32
  let c1_i32_135 : BitVec 32 := 1#32
  let v105 : BitVec 32 := Scalar.subi v90 c1_i32_135
  let v106 : BitVec 32 := Scalar.select v104 v105 v90
  let c5389_i32 : BitVec 32 := 5389#32
  let v107 : BitVec 32 := Scalar.minsi v106 c5389_i32
  let c128_i32_136 : BitVec 32 := 128#32
  let v108 : BitVec 32 := Scalar.muli v107 c128_i32_136
  let c0_i32_113 : BitVec 32 := 0#32
  let c0_i32_83 : BitVec 32 := 0#32
  let c1_i32_85 : BitVec 32 := 1#32
  let arg14 : BitVec 32 := Scf.iv c0_i32_83 c1_i32_85 k0_t24
  let c1_i32_112 : BitVec 32 := 1#32
  let v77 : BitVec 32 := Scalar.muli arg14 c1_i32_112
  let v78 : BitVec 32 := Scalar.addi c0_i32_113 v77
  let c7552_i32 : BitVec 32 := 7552#32
  let v109 : BitVec 32 := Scalar.muli v78 c7552_i32
  let v110 : BitVec 32 := Scalar.addi v108 v109
  let v111 : BitVec 32 := v110
  ![v114.toNat, v111.toNat]
@[reducible] def k0_t30_loop : Scf.Loop 32 :=
  let c0_i32_88 : BitVec 32 := 0#32
  let c16_i32_89 : BitVec 32 := 16#32
  let v57 : BitVec 32 := Scalar.addi c0_i32_88 c16_i32_89
  let c1_i32_90 : BitVec 32 := 1#32
  ⟨c0_i32_88, v57, c1_i32_90⟩
def k0_mult31 (k0_t30 : Fin k0_t30_loop.trips) : BitVec 32 :=
  let c0_i32_113 : BitVec 32 := 0#32
  let c0_i32_88 : BitVec 32 := 0#32
  let c1_i32_90 : BitVec 32 := 1#32
  let arg14 : BitVec 32 := Scf.iv c0_i32_88 c1_i32_90 k0_t30
  let c1_i32_112 : BitVec 32 := 1#32
  let v77 : BitVec 32 := Scalar.muli arg14 c1_i32_112
  let v78 : BitVec 32 := Scalar.addi c0_i32_113 v77
  let c128_i32 : BitVec 32 := 128#32
  let v79 : BitVec 32 := Scalar.muli v78 c128_i32
  v79
def k0_off56 (k0_t30 : Fin k0_t30_loop.trips) : Fin 2 → Nat :=
  let c0_i32_113 : BitVec 32 := 0#32
  let c0_i32_88 : BitVec 32 := 0#32
  let c1_i32_90 : BitVec 32 := 1#32
  let arg14 : BitVec 32 := Scf.iv c0_i32_88 c1_i32_90 k0_t30
  let c1_i32_112 : BitVec 32 := 1#32
  let v77 : BitVec 32 := Scalar.muli arg14 c1_i32_112
  let v78 : BitVec 32 := Scalar.addi c0_i32_113 v77
  let c128_i32 : BitVec 32 := 128#32
  let v79 : BitVec 32 := Scalar.muli v78 c128_i32
  let v80 : BitVec 32 := v79
  let v81 : Index := Scalar.indexCast v80
  let c0 : Index := 0#32
  ![v81.toNat, 0]
def k0_off57 (k0_t30 : Fin k0_t30_loop.trips) (c0_i32_114 : BitVec 32) : Fin 2 → Nat :=
  let c0_i32_113 : BitVec 32 := 0#32
  let c0_i32_88 : BitVec 32 := 0#32
  let c1_i32_90 : BitVec 32 := 1#32
  let arg14 : BitVec 32 := Scf.iv c0_i32_88 c1_i32_90 k0_t30
  let c1_i32_112 : BitVec 32 := 1#32
  let v77 : BitVec 32 := Scalar.muli arg14 c1_i32_112
  let v78 : BitVec 32 := Scalar.addi c0_i32_113 v77
  let v85 : BitVec 32 := Scalar.addi c0_i32_114 v78
  let v86 : Index := Scalar.indexCast v85
  let c0_115 : Index := 0#32
  ![v86.toNat, 0]
@[reducible] def k0_t31_loop (k0_t8 : Fin k0_t8_loop.trips) : Scf.Loop 32 :=
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_100 : BitVec 32 := 1#32
  ⟨c0_i32_98, v66, c1_i32_100⟩
@[reducible] def k0_t32_loop : Scf.Loop 32 :=
  let c0_i32_122 : BitVec 32 := 0#32
  let c5_i32_123 : BitVec 32 := 5#32
  let v95 : BitVec 32 := Scalar.addi c0_i32_122 c5_i32_123
  let c1_i32_124 : BitVec 32 := 1#32
  ⟨c0_i32_122, v95, c1_i32_124⟩
def k0_mult32 (k0_t8 : Fin k0_t8_loop.trips) (k0_t31 : Fin (k0_t31_loop k0_t8).trips) (k0_t32 : Fin k0_t32_loop.trips) : BitVec 32 :=
  let c0_i32_97 : BitVec 32 := 0#32
  let c0_i32_98 : BitVec 32 := 0#32
  let c1_i32_100 : BitVec 32 := 1#32
  let arg14 : BitVec 32 := Scf.iv c0_i32_98 c1_i32_100 k0_t31
  let c1_i32_96 : BitVec 32 := 1#32
  let v77 : BitVec 32 := Scalar.muli arg14 c1_i32_96
  let v78 : BitVec 32 := Scalar.addi c0_i32_97 v77
  let c12_i32_116 : BitVec 32 := 12#32
  let v85 : BitVec 1 := Scalar.cmpi .slt v78 c12_i32_116
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_117 : BitVec 32 := 12#32
  let v86 : BitVec 1 := Scalar.cmpi .sge v56 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v56 c12_i32_114
  let c12_i32_115 : BitVec 32 := 12#32
  let v83 : BitVec 32 := Scalar.subi v56 c12_i32_115
  let v84 : BitVec 32 := Scalar.select v82 v56 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t32
  let v124 : BitVec 32 := Scalar.addi v93 arg15
  let c16_i32_135 : BitVec 32 := 16#32
  let v125 : BitVec 32 := Scalar.muli v124 c16_i32_135
  v125
def k0_off58 (k0_t8 : Fin k0_t8_loop.trips) (k0_t31 : Fin (k0_t31_loop k0_t8).trips) (k0_t32 : Fin k0_t32_loop.trips) : Fin 2 → Nat :=
  let c0_i32_97 : BitVec 32 := 0#32
  let c0_i32_98 : BitVec 32 := 0#32
  let c1_i32_100 : BitVec 32 := 1#32
  let arg14 : BitVec 32 := Scf.iv c0_i32_98 c1_i32_100 k0_t31
  let c1_i32_96 : BitVec 32 := 1#32
  let v77 : BitVec 32 := Scalar.muli arg14 c1_i32_96
  let v78 : BitVec 32 := Scalar.addi c0_i32_97 v77
  let c12_i32_116 : BitVec 32 := 12#32
  let v85 : BitVec 1 := Scalar.cmpi .slt v78 c12_i32_116
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_117 : BitVec 32 := 12#32
  let v86 : BitVec 1 := Scalar.cmpi .sge v56 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v56 c12_i32_114
  let c12_i32_115 : BitVec 32 := 12#32
  let v83 : BitVec 32 := Scalar.subi v56 c12_i32_115
  let v84 : BitVec 32 := Scalar.select v82 v56 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t32
  let v124 : BitVec 32 := Scalar.addi v93 arg15
  let c16_i32_135 : BitVec 32 := 16#32
  let v125 : BitVec 32 := Scalar.muli v124 c16_i32_135
  let v126 : BitVec 32 := v125
  let v127 : Index := Scalar.indexCast v126
  let c0_136 : Index := 0#32
  ![v127.toNat, 0]
def k0_off59 (k0_t8 : Fin k0_t8_loop.trips) (k0_t31 : Fin (k0_t31_loop k0_t8).trips) (k0_t32 : Fin k0_t32_loop.trips) : Fin 2 → Nat :=
  let c0_i32_97 : BitVec 32 := 0#32
  let c0_i32_98 : BitVec 32 := 0#32
  let c1_i32_100 : BitVec 32 := 1#32
  let arg14 : BitVec 32 := Scf.iv c0_i32_98 c1_i32_100 k0_t31
  let c1_i32_96 : BitVec 32 := 1#32
  let v77 : BitVec 32 := Scalar.muli arg14 c1_i32_96
  let v78 : BitVec 32 := Scalar.addi c0_i32_97 v77
  let c5_i32_137 : BitVec 32 := 5#32
  let v129 : BitVec 32 := Scalar.muli v78 c5_i32_137
  let c0_i32_122 : BitVec 32 := 0#32
  let c1_i32_124 : BitVec 32 := 1#32
  let arg15 : BitVec 32 := Scf.iv c0_i32_122 c1_i32_124 k0_t32
  let v130 : BitVec 32 := Scalar.addi v129 arg15
  let c17_i32 : BitVec 32 := 17#32
  let v131 : BitVec 32 := Scalar.muli v130 c17_i32
  let v132 : Index := Scalar.indexCast v131
  let c0_138 : Index := 0#32
  ![v132.toNat, 0]
def k0_mult33 (k0_t8 : Fin k0_t8_loop.trips) (k0_t31 : Fin (k0_t31_loop k0_t8).trips) : BitVec 32 :=
  let c0_i32_97 : BitVec 32 := 0#32
  let c0_i32_98 : BitVec 32 := 0#32
  let c1_i32_100 : BitVec 32 := 1#32
  let arg14 : BitVec 32 := Scf.iv c0_i32_98 c1_i32_100 k0_t31
  let c1_i32_96 : BitVec 32 := 1#32
  let v77 : BitVec 32 := Scalar.muli arg14 c1_i32_96
  let v78 : BitVec 32 := Scalar.addi c0_i32_97 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let v117 : BitVec 32 := Scalar.addi v116 v56
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  v120
def k0_off60 (k0_t8 : Fin k0_t8_loop.trips) (k0_t31 : Fin (k0_t31_loop k0_t8).trips) : Fin 2 → Nat :=
  let c0_i32_97 : BitVec 32 := 0#32
  let c0_i32_98 : BitVec 32 := 0#32
  let c1_i32_100 : BitVec 32 := 1#32
  let arg14 : BitVec 32 := Scf.iv c0_i32_98 c1_i32_100 k0_t31
  let c1_i32_96 : BitVec 32 := 1#32
  let v77 : BitVec 32 := Scalar.muli arg14 c1_i32_96
  let v78 : BitVec 32 := Scalar.addi c0_i32_97 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let v117 : BitVec 32 := Scalar.addi v116 v56
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  let v121 : BitVec 32 := v120
  let v122 : Index := Scalar.indexCast v121
  let c0 : Index := 0#32
  ![v122.toNat, 0]
@[reducible] def k0_t33_loop (k0_t8 : Fin k0_t8_loop.trips) : Scf.Loop 32 :=
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let v63 : BitVec 32 := Scalar.addi c0_i32_98 v62
  let c1_i32_101 : BitVec 32 := 1#32
  ⟨v66, v63, c1_i32_101⟩
@[reducible] def k0_t34_loop : Scf.Loop 32 :=
  let c0_i32_122 : BitVec 32 := 0#32
  let c5_i32_123 : BitVec 32 := 5#32
  let v95 : BitVec 32 := Scalar.addi c0_i32_122 c5_i32_123
  let c1_i32_124 : BitVec 32 := 1#32
  ⟨c0_i32_122, v95, c1_i32_124⟩
def k0_mult34 (k0_t8 : Fin k0_t8_loop.trips) (k0_t33 : Fin (k0_t33_loop k0_t8).trips) (k0_t34 : Fin k0_t34_loop.trips) : BitVec 32 :=
  let c0_i32_97 : BitVec 32 := 0#32
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_101 : BitVec 32 := 1#32
  let arg14 : BitVec 32 := Scf.iv v66 c1_i32_101 k0_t33
  let c1_i32_96 : BitVec 32 := 1#32
  let v77 : BitVec 32 := Scalar.muli arg14 c1_i32_96
  let v78 : BitVec 32 := Scalar.addi c0_i32_97 v77
  let c12_i32_116 : BitVec 32 := 12#32
  let v85 : BitVec 1 := Scalar.cmpi .slt v78 c12_i32_116
  let c12_i32_117 : BitVec 32 := 12#32
  let v86 : BitVec 1 := Scalar.cmpi .sge v56 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v56 c12_i32_114
  let c12_i32_115 : BitVec 32 := 12#32
  let v83 : BitVec 32 := Scalar.subi v56 c12_i32_115
  let v84 : BitVec 32 := Scalar.select v82 v56 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t34
  let v124 : BitVec 32 := Scalar.addi v93 arg15
  let c16_i32_135 : BitVec 32 := 16#32
  let v125 : BitVec 32 := Scalar.muli v124 c16_i32_135
  v125
def k0_off61 (k0_t8 : Fin k0_t8_loop.trips) (k0_t33 : Fin (k0_t33_loop k0_t8).trips) (k0_t34 : Fin k0_t34_loop.trips) : Fin 2 → Nat :=
  let c0_i32_97 : BitVec 32 := 0#32
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_101 : BitVec 32 := 1#32
  let arg14 : BitVec 32 := Scf.iv v66 c1_i32_101 k0_t33
  let c1_i32_96 : BitVec 32 := 1#32
  let v77 : BitVec 32 := Scalar.muli arg14 c1_i32_96
  let v78 : BitVec 32 := Scalar.addi c0_i32_97 v77
  let c12_i32_116 : BitVec 32 := 12#32
  let v85 : BitVec 1 := Scalar.cmpi .slt v78 c12_i32_116
  let c12_i32_117 : BitVec 32 := 12#32
  let v86 : BitVec 1 := Scalar.cmpi .sge v56 c12_i32_117
  let v87 : BitVec 1 := Scalar.andi v85 v86
  let c12_i32_112 : BitVec 32 := 12#32
  let v79 : BitVec 1 := Scalar.cmpi .slt v78 c12_i32_112
  let c12_i32_113 : BitVec 32 := 12#32
  let v80 : BitVec 32 := Scalar.subi v78 c12_i32_113
  let v81 : BitVec 32 := Scalar.select v79 v78 v80
  let c12_i32_118 : BitVec 32 := 12#32
  let v88 : BitVec 32 := Scalar.muli v81 c12_i32_118
  let c12_i32_114 : BitVec 32 := 12#32
  let v82 : BitVec 1 := Scalar.cmpi .slt v56 c12_i32_114
  let c12_i32_115 : BitVec 32 := 12#32
  let v83 : BitVec 32 := Scalar.subi v56 c12_i32_115
  let v84 : BitVec 32 := Scalar.select v82 v56 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_122 : BitVec 32 := 0#32
  let c1_i32_124 : BitVec 32 := 1#32
  let arg15 : BitVec 32 := Scf.iv c0_i32_122 c1_i32_124 k0_t34
  let v124 : BitVec 32 := Scalar.addi v93 arg15
  let c16_i32_135 : BitVec 32 := 16#32
  let v125 : BitVec 32 := Scalar.muli v124 c16_i32_135
  let v126 : BitVec 32 := v125
  let v127 : Index := Scalar.indexCast v126
  let c0_136 : Index := 0#32
  ![v127.toNat, 0]
def k0_off62 (k0_t8 : Fin k0_t8_loop.trips) (k0_t33 : Fin (k0_t33_loop k0_t8).trips) (k0_t34 : Fin k0_t34_loop.trips) : Fin 2 → Nat :=
  let c0_i32_97 : BitVec 32 := 0#32
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_101 : BitVec 32 := 1#32
  let arg14 : BitVec 32 := Scf.iv v66 c1_i32_101 k0_t33
  let c1_i32_96 : BitVec 32 := 1#32
  let v77 : BitVec 32 := Scalar.muli arg14 c1_i32_96
  let v78 : BitVec 32 := Scalar.addi c0_i32_97 v77
  let c5_i32_137 : BitVec 32 := 5#32
  let v129 : BitVec 32 := Scalar.muli v78 c5_i32_137
  let c0_i32_122 : BitVec 32 := 0#32
  let c1_i32_124 : BitVec 32 := 1#32
  let arg15 : BitVec 32 := Scf.iv c0_i32_122 c1_i32_124 k0_t34
  let v130 : BitVec 32 := Scalar.addi v129 arg15
  let c17_i32 : BitVec 32 := 17#32
  let v131 : BitVec 32 := Scalar.muli v130 c17_i32
  let v132 : Index := Scalar.indexCast v131
  let c0_138 : Index := 0#32
  ![v132.toNat, 0]
def k0_mult35 (k0_t8 : Fin k0_t8_loop.trips) (k0_t33 : Fin (k0_t33_loop k0_t8).trips) : BitVec 32 :=
  let c0_i32_97 : BitVec 32 := 0#32
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_101 : BitVec 32 := 1#32
  let arg14 : BitVec 32 := Scf.iv v66 c1_i32_101 k0_t33
  let c1_i32_96 : BitVec 32 := 1#32
  let v77 : BitVec 32 := Scalar.muli arg14 c1_i32_96
  let v78 : BitVec 32 := Scalar.addi c0_i32_97 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let v117 : BitVec 32 := Scalar.addi v116 v56
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  v120
def k0_off63 (k0_t8 : Fin k0_t8_loop.trips) (k0_t33 : Fin (k0_t33_loop k0_t8).trips) : Fin 2 → Nat :=
  let c0_i32_97 : BitVec 32 := 0#32
  let c0_i32_98 : BitVec 32 := 0#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c0_i32_92 : BitVec 32 := 0#32
  let v58 : BitVec 32 := Scalar.subi v56 c0_i32_92
  let c1_i32_93 : BitVec 32 := 1#32
  let c1_i32_94 : BitVec 32 := 1#32
  let v59 : BitVec 32 := Scalar.subi c1_i32_93 c1_i32_94
  let v60 : BitVec 32 := Scalar.addi v58 v59
  let c1_i32_95 : BitVec 32 := 1#32
  let v61 : BitVec 32 := Scalar.divsi v60 c1_i32_95
  let v62 : BitVec 32 := Scalar.subi v61 c0_i32_98
  let c1_i32_99 : BitVec 32 := 1#32
  let v64 : BitVec 32 := Scalar.divsi v62 c1_i32_99
  let v65 : BitVec 32 := Scalar.muli v64 c1_i32_99
  let v66 : BitVec 32 := Scalar.addi c0_i32_98 v65
  let c1_i32_101 : BitVec 32 := 1#32
  let arg14 : BitVec 32 := Scf.iv v66 c1_i32_101 k0_t33
  let c1_i32_96 : BitVec 32 := 1#32
  let v77 : BitVec 32 := Scalar.muli arg14 c1_i32_96
  let v78 : BitVec 32 := Scalar.addi c0_i32_97 v77
  let c47_i32 : BitVec 32 := 47#32
  let v98 : BitVec 32 := Scalar.subi c47_i32 v78
  let v99 : BitVec 32 := Scalar.muli v78 v98
  let c0_i32_127 : BitVec 32 := 0#32
  let v101 : BitVec 1 := Scalar.cmpi .sgt v99 c0_i32_127
  let v102 : BitVec 32 := Scalar.extui v101
  let c0_i32_128 : BitVec 32 := 0#32
  let v103 : BitVec 1 := Scalar.cmpi .slt v99 c0_i32_128
  let v104 : BitVec 32 := Scalar.extui v103
  let v105 : BitVec 32 := Scalar.subi v102 v104
  let c2_i32_126 : BitVec 32 := 2#32
  let c0_i32_129 : BitVec 32 := 0#32
  let v106 : BitVec 1 := Scalar.cmpi .sgt c2_i32_126 c0_i32_129
  let v107 : BitVec 32 := Scalar.extui v106
  let c0_i32_130 : BitVec 32 := 0#32
  let v108 : BitVec 1 := Scalar.cmpi .slt c2_i32_126 c0_i32_130
  let v109 : BitVec 32 := Scalar.extui v108
  let v110 : BitVec 32 := Scalar.subi v107 v109
  let v111 : BitVec 1 := Scalar.cmpi .ne v105 v110
  let v112 : BitVec 32 := Scalar.remsi v99 c2_i32_126
  let c0_i32_131 : BitVec 32 := 0#32
  let v113 : BitVec 1 := Scalar.cmpi .ne v112 c0_i32_131
  let v114 : BitVec 1 := Scalar.andi v111 v113
  let v100 : BitVec 32 := Scalar.divsi v99 c2_i32_126
  let c1_i32_132 : BitVec 32 := 1#32
  let v115 : BitVec 32 := Scalar.subi v100 c1_i32_132
  let v116 : BitVec 32 := Scalar.select v114 v115 v100
  let v117 : BitVec 32 := Scalar.addi v116 v56
  let v118 : BitVec 32 := Scalar.subi v117 v78
  let c1_i32_133 : BitVec 32 := 1#32
  let v119 : BitVec 32 := Scalar.subi v118 c1_i32_133
  let c16_i32_134 : BitVec 32 := 16#32
  let v120 : BitVec 32 := Scalar.muli v119 c16_i32_134
  let v121 : BitVec 32 := v120
  let v122 : Index := Scalar.indexCast v121
  let c0 : Index := 0#32
  ![v122.toNat, 0]
@[reducible] def k0_t35_loop (k0_t8 : Fin k0_t8_loop.trips) : Scf.Loop 32 :=
  let c0_i32_108 : BitVec 32 := 0#32
  let c24_i32_103 : BitVec 32 := 24#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c1_i32_102 : BitVec 32 := 1#32
  let v67 : BitVec 32 := Scalar.addi v56 c1_i32_102
  let v68 : BitVec 32 := Scalar.subi c24_i32_103 v67
  let c1_i32_104 : BitVec 32 := 1#32
  let c1_i32_105 : BitVec 32 := 1#32
  let v69 : BitVec 32 := Scalar.subi c1_i32_104 c1_i32_105
  let v70 : BitVec 32 := Scalar.addi v68 v69
  let c1_i32_106 : BitVec 32 := 1#32
  let v71 : BitVec 32 := Scalar.divsi v70 c1_i32_106
  let v72 : BitVec 32 := Scalar.subi v71 c0_i32_108
  let c1_i32_109 : BitVec 32 := 1#32
  let v74 : BitVec 32 := Scalar.divsi v72 c1_i32_109
  let v75 : BitVec 32 := Scalar.muli v74 c1_i32_109
  let v76 : BitVec 32 := Scalar.addi c0_i32_108 v75
  let c1_i32_110 : BitVec 32 := 1#32
  ⟨c0_i32_108, v76, c1_i32_110⟩
@[reducible] def k0_t36_loop : Scf.Loop 32 :=
  let c0_i32_121 : BitVec 32 := 0#32
  let c5_i32_122 : BitVec 32 := 5#32
  let v94 : BitVec 32 := Scalar.addi c0_i32_121 c5_i32_122
  let c1_i32_123 : BitVec 32 := 1#32
  ⟨c0_i32_121, v94, c1_i32_123⟩
def k0_off64 (k0_t8 : Fin k0_t8_loop.trips) (k0_t35 : Fin (k0_t35_loop k0_t8).trips) (k0_t36 : Fin k0_t36_loop.trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c1_i32_102 : BitVec 32 := 1#32
  let v67 : BitVec 32 := Scalar.addi v56 c1_i32_102
  let c0_i32_108 : BitVec 32 := 0#32
  let c1_i32_110 : BitVec 32 := 1#32
  let arg14 : BitVec 32 := Scf.iv c0_i32_108 c1_i32_110 k0_t35
  let c1_i32_107 : BitVec 32 := 1#32
  let v77 : BitVec 32 := Scalar.muli arg14 c1_i32_107
  let v78 : BitVec 32 := Scalar.addi v67 v77
  let c5_i32_127 : BitVec 32 := 5#32
  let v97 : BitVec 32 := Scalar.muli v78 c5_i32_127
  let c0_i32_126 : BitVec 32 := 0#32
  let c0_i32_121 : BitVec 32 := 0#32
  let c1_i32_123 : BitVec 32 := 1#32
  let arg15 : BitVec 32 := Scf.iv c0_i32_121 c1_i32_123 k0_t36
  let c1_i32_125 : BitVec 32 := 1#32
  let v95 : BitVec 32 := Scalar.muli arg15 c1_i32_125
  let v96 : BitVec 32 := Scalar.addi c0_i32_126 v95
  let v98 : BitVec 32 := Scalar.addi v97 v96
  let c17_i32 : BitVec 32 := 17#32
  let v99 : BitVec 32 := Scalar.muli v98 c17_i32
  let v100 : Index := Scalar.indexCast v99
  let c0 : Index := 0#32
  ![v100.toNat, 0]
def k0_mult36 (k0_t8 : Fin k0_t8_loop.trips) (k0_t35 : Fin (k0_t35_loop k0_t8).trips) (k0_t36 : Fin k0_t36_loop.trips) : BitVec 32 :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_116 : BitVec 32 := 12#32
  let v85 : BitVec 1 := Scalar.cmpi .slt v56 c12_i32_116
  let c1_i32_102 : BitVec 32 := 1#32
  let v67 : BitVec 32 := Scalar.addi v56 c1_i32_102
  let c0_i32_108 : BitVec 32 := 0#32
  let c1_i32_110 : BitVec 32 := 1#32
  let arg14 : BitVec 32 := Scf.iv c0_i32_108 c1_i32_110 k0_t35
  let c1_i32_107 : BitVec 32 := 1#32
  let v77 : BitVec 32 := Scalar.muli arg14 c1_i32_107
  let v78 : BitVec 32 := Scalar.addi v67 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v56 c12_i32_112
  let c12_i32_113 : BitVec 32 := 12#32
  let v80 : BitVec 32 := Scalar.subi v56 c12_i32_113
  let v81 : BitVec 32 := Scalar.select v79 v56 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t36
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  v103
def k0_off65 (k0_t8 : Fin k0_t8_loop.trips) (k0_t35 : Fin (k0_t35_loop k0_t8).trips) (k0_t36 : Fin k0_t36_loop.trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_116 : BitVec 32 := 12#32
  let v85 : BitVec 1 := Scalar.cmpi .slt v56 c12_i32_116
  let c1_i32_102 : BitVec 32 := 1#32
  let v67 : BitVec 32 := Scalar.addi v56 c1_i32_102
  let c0_i32_108 : BitVec 32 := 0#32
  let c1_i32_110 : BitVec 32 := 1#32
  let arg14 : BitVec 32 := Scf.iv c0_i32_108 c1_i32_110 k0_t35
  let c1_i32_107 : BitVec 32 := 1#32
  let v77 : BitVec 32 := Scalar.muli arg14 c1_i32_107
  let v78 : BitVec 32 := Scalar.addi v67 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v56 c12_i32_112
  let c12_i32_113 : BitVec 32 := 12#32
  let v80 : BitVec 32 := Scalar.subi v56 c12_i32_113
  let v81 : BitVec 32 := Scalar.select v79 v56 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t36
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  let v104 : BitVec 32 := v103
  let v105 : Index := Scalar.indexCast v104
  let c0_129 : Index := 0#32
  ![v105.toNat, 0]
@[reducible] def k0_t37_loop (k0_t8 : Fin k0_t8_loop.trips) : Scf.Loop 32 :=
  let c0_i32_108 : BitVec 32 := 0#32
  let c24_i32_103 : BitVec 32 := 24#32
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c1_i32_102 : BitVec 32 := 1#32
  let v67 : BitVec 32 := Scalar.addi v56 c1_i32_102
  let v68 : BitVec 32 := Scalar.subi c24_i32_103 v67
  let c1_i32_104 : BitVec 32 := 1#32
  let c1_i32_105 : BitVec 32 := 1#32
  let v69 : BitVec 32 := Scalar.subi c1_i32_104 c1_i32_105
  let v70 : BitVec 32 := Scalar.addi v68 v69
  let c1_i32_106 : BitVec 32 := 1#32
  let v71 : BitVec 32 := Scalar.divsi v70 c1_i32_106
  let v72 : BitVec 32 := Scalar.subi v71 c0_i32_108
  let c1_i32_109 : BitVec 32 := 1#32
  let v74 : BitVec 32 := Scalar.divsi v72 c1_i32_109
  let v75 : BitVec 32 := Scalar.muli v74 c1_i32_109
  let v76 : BitVec 32 := Scalar.addi c0_i32_108 v75
  let v73 : BitVec 32 := Scalar.addi c0_i32_108 v72
  let c1_i32_111 : BitVec 32 := 1#32
  ⟨v76, v73, c1_i32_111⟩
@[reducible] def k0_t38_loop : Scf.Loop 32 :=
  let c0_i32_121 : BitVec 32 := 0#32
  let c5_i32_122 : BitVec 32 := 5#32
  let v94 : BitVec 32 := Scalar.addi c0_i32_121 c5_i32_122
  let c1_i32_123 : BitVec 32 := 1#32
  ⟨c0_i32_121, v94, c1_i32_123⟩
def k0_off66 (k0_t8 : Fin k0_t8_loop.trips) (k0_t37 : Fin (k0_t37_loop k0_t8).trips) (k0_t38 : Fin k0_t38_loop.trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c1_i32_102 : BitVec 32 := 1#32
  let v67 : BitVec 32 := Scalar.addi v56 c1_i32_102
  let c0_i32_108 : BitVec 32 := 0#32
  let c24_i32_103 : BitVec 32 := 24#32
  let v68 : BitVec 32 := Scalar.subi c24_i32_103 v67
  let c1_i32_104 : BitVec 32 := 1#32
  let c1_i32_105 : BitVec 32 := 1#32
  let v69 : BitVec 32 := Scalar.subi c1_i32_104 c1_i32_105
  let v70 : BitVec 32 := Scalar.addi v68 v69
  let c1_i32_106 : BitVec 32 := 1#32
  let v71 : BitVec 32 := Scalar.divsi v70 c1_i32_106
  let v72 : BitVec 32 := Scalar.subi v71 c0_i32_108
  let c1_i32_109 : BitVec 32 := 1#32
  let v74 : BitVec 32 := Scalar.divsi v72 c1_i32_109
  let v75 : BitVec 32 := Scalar.muli v74 c1_i32_109
  let v76 : BitVec 32 := Scalar.addi c0_i32_108 v75
  let c1_i32_111 : BitVec 32 := 1#32
  let arg14 : BitVec 32 := Scf.iv v76 c1_i32_111 k0_t37
  let c1_i32_107 : BitVec 32 := 1#32
  let v77 : BitVec 32 := Scalar.muli arg14 c1_i32_107
  let v78 : BitVec 32 := Scalar.addi v67 v77
  let c5_i32_127 : BitVec 32 := 5#32
  let v97 : BitVec 32 := Scalar.muli v78 c5_i32_127
  let c0_i32_126 : BitVec 32 := 0#32
  let c0_i32_121 : BitVec 32 := 0#32
  let c1_i32_123 : BitVec 32 := 1#32
  let arg15 : BitVec 32 := Scf.iv c0_i32_121 c1_i32_123 k0_t38
  let c1_i32_125 : BitVec 32 := 1#32
  let v95 : BitVec 32 := Scalar.muli arg15 c1_i32_125
  let v96 : BitVec 32 := Scalar.addi c0_i32_126 v95
  let v98 : BitVec 32 := Scalar.addi v97 v96
  let c17_i32 : BitVec 32 := 17#32
  let v99 : BitVec 32 := Scalar.muli v98 c17_i32
  let v100 : Index := Scalar.indexCast v99
  let c0 : Index := 0#32
  ![v100.toNat, 0]
def k0_mult37 (k0_t8 : Fin k0_t8_loop.trips) (k0_t37 : Fin (k0_t37_loop k0_t8).trips) (k0_t38 : Fin k0_t38_loop.trips) : BitVec 32 :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_116 : BitVec 32 := 12#32
  let v85 : BitVec 1 := Scalar.cmpi .slt v56 c12_i32_116
  let c1_i32_102 : BitVec 32 := 1#32
  let v67 : BitVec 32 := Scalar.addi v56 c1_i32_102
  let c0_i32_108 : BitVec 32 := 0#32
  let c24_i32_103 : BitVec 32 := 24#32
  let v68 : BitVec 32 := Scalar.subi c24_i32_103 v67
  let c1_i32_104 : BitVec 32 := 1#32
  let c1_i32_105 : BitVec 32 := 1#32
  let v69 : BitVec 32 := Scalar.subi c1_i32_104 c1_i32_105
  let v70 : BitVec 32 := Scalar.addi v68 v69
  let c1_i32_106 : BitVec 32 := 1#32
  let v71 : BitVec 32 := Scalar.divsi v70 c1_i32_106
  let v72 : BitVec 32 := Scalar.subi v71 c0_i32_108
  let c1_i32_109 : BitVec 32 := 1#32
  let v74 : BitVec 32 := Scalar.divsi v72 c1_i32_109
  let v75 : BitVec 32 := Scalar.muli v74 c1_i32_109
  let v76 : BitVec 32 := Scalar.addi c0_i32_108 v75
  let c1_i32_111 : BitVec 32 := 1#32
  let arg14 : BitVec 32 := Scf.iv v76 c1_i32_111 k0_t37
  let c1_i32_107 : BitVec 32 := 1#32
  let v77 : BitVec 32 := Scalar.muli arg14 c1_i32_107
  let v78 : BitVec 32 := Scalar.addi v67 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v56 c12_i32_112
  let c12_i32_113 : BitVec 32 := 12#32
  let v80 : BitVec 32 := Scalar.subi v56 c12_i32_113
  let v81 : BitVec 32 := Scalar.select v79 v56 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t38
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  v103
def k0_off67 (k0_t8 : Fin k0_t8_loop.trips) (k0_t37 : Fin (k0_t37_loop k0_t8).trips) (k0_t38 : Fin k0_t38_loop.trips) : Fin 2 → Nat :=
  let c2_i32_81 : BitVec 32 := 2#32
  let c0_i32_51 : BitVec 32 := 0#32
  let c0_i32_8 : BitVec 32 := 0#32
  let c1_i32_9 : BitVec 32 := 1#32
  let arg13 : BitVec 32 := Scf.iv c0_i32_8 c1_i32_9 k0_t8
  let c1_i32_50 : BitVec 32 := 1#32
  let v27 : BitVec 32 := Scalar.muli arg13 c1_i32_50
  let v28 : BitVec 32 := Scalar.addi c0_i32_51 v27
  let v53 : BitVec 32 := Scalar.muli c2_i32_81 v28
  let c2_i32_82 : BitVec 32 := 2#32
  let v54 : BitVec 32 := Scalar.addi v53 c2_i32_82
  let c1_i32_87 : BitVec 32 := 1#32
  let v56 : BitVec 32 := Scalar.subi v54 c1_i32_87
  let c12_i32_116 : BitVec 32 := 12#32
  let v85 : BitVec 1 := Scalar.cmpi .slt v56 c12_i32_116
  let c1_i32_102 : BitVec 32 := 1#32
  let v67 : BitVec 32 := Scalar.addi v56 c1_i32_102
  let c0_i32_108 : BitVec 32 := 0#32
  let c24_i32_103 : BitVec 32 := 24#32
  let v68 : BitVec 32 := Scalar.subi c24_i32_103 v67
  let c1_i32_104 : BitVec 32 := 1#32
  let c1_i32_105 : BitVec 32 := 1#32
  let v69 : BitVec 32 := Scalar.subi c1_i32_104 c1_i32_105
  let v70 : BitVec 32 := Scalar.addi v68 v69
  let c1_i32_106 : BitVec 32 := 1#32
  let v71 : BitVec 32 := Scalar.divsi v70 c1_i32_106
  let v72 : BitVec 32 := Scalar.subi v71 c0_i32_108
  let c1_i32_109 : BitVec 32 := 1#32
  let v74 : BitVec 32 := Scalar.divsi v72 c1_i32_109
  let v75 : BitVec 32 := Scalar.muli v74 c1_i32_109
  let v76 : BitVec 32 := Scalar.addi c0_i32_108 v75
  let c1_i32_111 : BitVec 32 := 1#32
  let arg14 : BitVec 32 := Scf.iv v76 c1_i32_111 k0_t37
  let c1_i32_107 : BitVec 32 := 1#32
  let v77 : BitVec 32 := Scalar.muli arg14 c1_i32_107
  let v78 : BitVec 32 := Scalar.addi v67 v77
  let c12_i32_117 : BitVec 32 := 12#32
  let v86 : BitVec 1 := Scalar.cmpi .sge v78 c12_i32_117
  let v87 : BitVec 1 := Scalar.andi v85 v86
  let c12_i32_112 : BitVec 32 := 12#32
  let v79 : BitVec 1 := Scalar.cmpi .slt v56 c12_i32_112
  let c12_i32_113 : BitVec 32 := 12#32
  let v80 : BitVec 32 := Scalar.subi v56 c12_i32_113
  let v81 : BitVec 32 := Scalar.select v79 v56 v80
  let c12_i32_118 : BitVec 32 := 12#32
  let v88 : BitVec 32 := Scalar.muli v81 c12_i32_118
  let c12_i32_114 : BitVec 32 := 12#32
  let v82 : BitVec 1 := Scalar.cmpi .slt v78 c12_i32_114
  let c12_i32_115 : BitVec 32 := 12#32
  let v83 : BitVec 32 := Scalar.subi v78 c12_i32_115
  let v84 : BitVec 32 := Scalar.select v82 v78 v83
  let v89 : BitVec 32 := Scalar.addi v88 v84
  let c12_i32_119 : BitVec 32 := 12#32
  let v90 : BitVec 32 := Scalar.muli v84 c12_i32_119
  let v91 : BitVec 32 := Scalar.addi v90 v81
  let v92 : BitVec 32 := Scalar.select v87 v89 v91
  let c5_i32_120 : BitVec 32 := 5#32
  let v93 : BitVec 32 := Scalar.muli v92 c5_i32_120
  let c0_i32_126 : BitVec 32 := 0#32
  let c0_i32_121 : BitVec 32 := 0#32
  let c1_i32_123 : BitVec 32 := 1#32
  let arg15 : BitVec 32 := Scf.iv c0_i32_121 c1_i32_123 k0_t38
  let c1_i32_125 : BitVec 32 := 1#32
  let v95 : BitVec 32 := Scalar.muli arg15 c1_i32_125
  let v96 : BitVec 32 := Scalar.addi c0_i32_126 v95
  let v102 : BitVec 32 := Scalar.addi v93 v96
  let c16_i32_128 : BitVec 32 := 16#32
  let v103 : BitVec 32 := Scalar.muli v102 c16_i32_128
  let v104 : BitVec 32 := v103
  let v105 : Index := Scalar.indexCast v104
  let c0_129 : Index := 0#32
  ![v105.toNat, 0]
@[reducible] def k0_t39_loop : Scf.Loop 32 :=
  let c0_i32_11 : BitVec 32 := 0#32
  let c4_i32_12 : BitVec 32 := 4#32
  let v5 : BitVec 32 := Scalar.addi c0_i32_11 c4_i32_12
  let c1_i32_13 : BitVec 32 := 1#32
  ⟨c0_i32_11, v5, c1_i32_13⟩
@[reducible] def k0_t40_loop : Scf.Loop 32 :=
  let c0_i32_52 : BitVec 32 := 0#32
  let c15_i32 : BitVec 32 := 15#32
  let v29 : BitVec 32 := Scalar.addi c0_i32_52 c15_i32
  let c1_i32_53 : BitVec 32 := 1#32
  ⟨c0_i32_52, v29, c1_i32_53⟩
def k0_mult38 (k0_t39 : Fin k0_t39_loop.trips) : BitVec 32 :=
  let c5390_i32 : BitVec 32 := 5390#32
  let c5389_i32 : BitVec 32 := 5389#32
  let v33 : BitVec 32 := Scalar.minsi c5390_i32 c5389_i32
  let c128_i32 : BitVec 32 := 128#32
  let v34 : BitVec 32 := Scalar.muli v33 c128_i32
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c7552_i32 : BitVec 32 := 7552#32
  let v35 : BitVec 32 := Scalar.muli v28 c7552_i32
  let v36 : BitVec 32 := Scalar.addi v34 v35
  v36
def k0_mult39 (k0_t40 : Fin k0_t40_loop.trips) : BitVec 32 :=
  let c0_i32_59 : BitVec 32 := 0#32
  let c0_i32_52 : BitVec 32 := 0#32
  let c1_i32_53 : BitVec 32 := 1#32
  let arg14 : BitVec 32 := Scf.iv c0_i32_52 c1_i32_53 k0_t40
  let c1_i32_58 : BitVec 32 := 1#32
  let v31 : BitVec 32 := Scalar.muli arg14 c1_i32_58
  let v32 : BitVec 32 := Scalar.addi c0_i32_59 v31
  let c8_i32 : BitVec 32 := 8#32
  let v38 : BitVec 32 := Scalar.muli v32 c8_i32
  let c4_i32_60 : BitVec 32 := 4#32
  let v39 : BitVec 32 := Scalar.muli v38 c4_i32_60
  v39
def k0_off68 (k0_t39 : Fin k0_t39_loop.trips) : Fin 1 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  ![v28.toNat]
def k0_off69 (k0_t39 : Fin k0_t39_loop.trips) (k0_t40 : Fin k0_t40_loop.trips) : Fin 3 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c0_i32_59 : BitVec 32 := 0#32
  let c0_i32_52 : BitVec 32 := 0#32
  let c1_i32_53 : BitVec 32 := 1#32
  let arg14 : BitVec 32 := Scf.iv c0_i32_52 c1_i32_53 k0_t40
  let c1_i32_58 : BitVec 32 := 1#32
  let v31 : BitVec 32 := Scalar.muli arg14 c1_i32_58
  let v32 : BitVec 32 := Scalar.addi c0_i32_59 v31
  let c8_i32 : BitVec 32 := 8#32
  let v38 : BitVec 32 := Scalar.muli v32 c8_i32
  let c4_i32_60 : BitVec 32 := 4#32
  let v39 : BitVec 32 := Scalar.muli v38 c4_i32_60
  let v40 : BitVec 32 := v39
  let c0_i32_61 : BitVec 32 := 0#32
  ![v28.toNat, v40.toNat, 0]
def k0_off70 (k0_t39 : Fin k0_t39_loop.trips) (k0_t40 : Fin k0_t40_loop.trips) : Fin 2 → Nat :=
  let c0_i32_59 : BitVec 32 := 0#32
  let c0_i32_52 : BitVec 32 := 0#32
  let c1_i32_53 : BitVec 32 := 1#32
  let arg14 : BitVec 32 := Scf.iv c0_i32_52 c1_i32_53 k0_t40
  let c1_i32_58 : BitVec 32 := 1#32
  let v31 : BitVec 32 := Scalar.muli arg14 c1_i32_58
  let v32 : BitVec 32 := Scalar.addi c0_i32_59 v31
  let c8_i32 : BitVec 32 := 8#32
  let v38 : BitVec 32 := Scalar.muli v32 c8_i32
  let c4_i32_60 : BitVec 32 := 4#32
  let v39 : BitVec 32 := Scalar.muli v38 c4_i32_60
  let v40 : BitVec 32 := v39
  let c5390_i32 : BitVec 32 := 5390#32
  let c5389_i32 : BitVec 32 := 5389#32
  let v33 : BitVec 32 := Scalar.minsi c5390_i32 c5389_i32
  let c128_i32 : BitVec 32 := 128#32
  let v34 : BitVec 32 := Scalar.muli v33 c128_i32
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c7552_i32 : BitVec 32 := 7552#32
  let v35 : BitVec 32 := Scalar.muli v28 c7552_i32
  let v36 : BitVec 32 := Scalar.addi v34 v35
  let v37 : BitVec 32 := v36
  ![v40.toNat, v37.toNat]
@[reducible] def k0_t41_loop : Scf.Loop 32 :=
  let c0_i32_55 : BitVec 32 := 0#32
  let c59_i32 : BitVec 32 := 59#32
  let v30 : BitVec 32 := Scalar.addi c0_i32_55 c59_i32
  let c1_i32_56 : BitVec 32 := 1#32
  ⟨c0_i32_55, v30, c1_i32_56⟩
def k0_mult40 (k0_t41 : Fin k0_t41_loop.trips) : BitVec 32 :=
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let c128_i32 : BitVec 32 := 128#32
  let v33 : BitVec 32 := Scalar.muli v32 c128_i32
  v33
def k0_off71 (k0_t39 : Fin k0_t39_loop.trips) (k0_t41 : Fin k0_t41_loop.trips) : Fin 3 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let v35 : Index := Scalar.indexCast v28
  let c0 : Index := 0#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let c128_i32 : BitVec 32 := 128#32
  let v33 : BitVec 32 := Scalar.muli v32 c128_i32
  let v34 : BitVec 32 := v33
  let v36 : Index := Scalar.indexCast v34
  ![v35.toNat, 0, v36.toNat]
def k0_mult41 (k0_t39 : Fin k0_t39_loop.trips) (k0_t41 : Fin k0_t41_loop.trips) : BitVec 32 :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c59_i32_60 : BitVec 32 := 59#32
  let v40 : BitVec 32 := Scalar.muli v28 c59_i32_60
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v41 : BitVec 32 := Scalar.addi v40 v32
  let c128_i32_61 : BitVec 32 := 128#32
  let v42 : BitVec 32 := Scalar.muli v41 c128_i32_61
  v42
def k0_off72 (k0_t39 : Fin k0_t39_loop.trips) (k0_t41 : Fin k0_t41_loop.trips) : Fin 2 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c59_i32_60 : BitVec 32 := 59#32
  let v40 : BitVec 32 := Scalar.muli v28 c59_i32_60
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v41 : BitVec 32 := Scalar.addi v40 v32
  let c128_i32_61 : BitVec 32 := 128#32
  let v42 : BitVec 32 := Scalar.muli v41 c128_i32_61
  let v43 : BitVec 32 := v42
  let v45 : Index := Scalar.indexCast v43
  let c0_62 : Index := 0#32
  ![v45.toNat, 0]
@[reducible] def k0_t42_loop (k0_t41 : Fin k0_t41_loop.trips) : Scf.Loop 32 :=
  let c0_i32_71 : BitVec 32 := 0#32
  let c512_i32_65 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let c1_i32_64 : BitVec 32 := 1#32
  let v51 : BitVec 32 := Scalar.addi v32 c1_i32_64
  let v52 : BitVec 32 := Scalar.muli c512_i32_65 v51
  let c59_i32_66 : BitVec 32 := 59#32
  let v53 : BitVec 32 := Scalar.divsi v52 c59_i32_66
  let c512_i32 : BitVec 32 := 512#32
  let v49 : BitVec 32 := Scalar.muli c512_i32 v32
  let c59_i32_63 : BitVec 32 := 59#32
  let v50 : BitVec 32 := Scalar.divsi v49 c59_i32_63
  let v54 : BitVec 32 := Scalar.subi v53 v50
  let c1_i32_67 : BitVec 32 := 1#32
  let c1_i32_68 : BitVec 32 := 1#32
  let v55 : BitVec 32 := Scalar.subi c1_i32_67 c1_i32_68
  let v56 : BitVec 32 := Scalar.addi v54 v55
  let c1_i32_69 : BitVec 32 := 1#32
  let v57 : BitVec 32 := Scalar.divsi v56 c1_i32_69
  let v58 : BitVec 32 := Scalar.subi v57 c0_i32_71
  let c1_i32_72 : BitVec 32 := 1#32
  let v60 : BitVec 32 := Scalar.divsi v58 c1_i32_72
  let v61 : BitVec 32 := Scalar.muli v60 c1_i32_72
  let v62 : BitVec 32 := Scalar.addi c0_i32_71 v61
  let c1_i32_73 : BitVec 32 := 1#32
  ⟨c0_i32_71, v62, c1_i32_73⟩
def k0_off73 (k0_t39 : Fin k0_t39_loop.trips) (k0_t41 : Fin k0_t41_loop.trips) (k0_t42 : Fin (k0_t42_loop k0_t41).trips) : Fin 2 → Nat :=
  let c352_i32 : BitVec 32 := 352#32
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c4_i32_75 : BitVec 32 := 4#32
  let v65 : BitVec 32 := Scalar.muli v28 c4_i32_75
  let c512_i32 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v49 : BitVec 32 := Scalar.muli c512_i32 v32
  let c59_i32_63 : BitVec 32 := 59#32
  let v50 : BitVec 32 := Scalar.divsi v49 c59_i32_63
  let c0_i32_71 : BitVec 32 := 0#32
  let c1_i32_73 : BitVec 32 := 1#32
  let arg15 : BitVec 32 := Scf.iv c0_i32_71 c1_i32_73 k0_t42
  let c1_i32_70 : BitVec 32 := 1#32
  let v63 : BitVec 32 := Scalar.muli arg15 c1_i32_70
  let v64 : BitVec 32 := Scalar.addi v50 v63
  let c128_i32_76 : BitVec 32 := 128#32
  let v66 : BitVec 32 := Scalar.divsi v64 c128_i32_76
  let v67 : BitVec 32 := Scalar.addi v65 v66
  let v69 : BitVec 32 := Scalar.addi c352_i32 v67
  let v70 : Index := Scalar.indexCast v69
  let c128_i32_77 : BitVec 32 := 128#32
  let v68 : BitVec 32 := Scalar.remsi v64 c128_i32_77
  let v71 : Index := Scalar.indexCast v68
  ![v70.toNat, v71.toNat]
def k0_off74 (v72 : BitVec 32) : Fin 2 → Nat :=
  let v73 : Index := Scalar.indexCast v72
  let c0_78 : Index := 0#32
  ![v73.toNat, 0]

def k0_chk5 (v72 : BitVec 32) : Prop :=
  (∀ a, (k0_off74 v72) a + S1x128.size a ≤ S30208x128.size a)
theorem k0_off74_inb : ∀ (v72 : BitVec 32) (k0_hw5 : k0_chk5 v72), ∀ a, (k0_off74 v72) a + S1x128.size a ≤ S30208x128.size a := fun v72 k0_hw5 => k0_hw5

def k0_off75 (k0_t39 : Fin k0_t39_loop.trips) (k0_t41 : Fin k0_t41_loop.trips) (k0_t42 : Fin (k0_t42_loop k0_t41).trips) : Fin 2 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c4_i32_75 : BitVec 32 := 4#32
  let v65 : BitVec 32 := Scalar.muli v28 c4_i32_75
  let c512_i32 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v49 : BitVec 32 := Scalar.muli c512_i32 v32
  let c59_i32_63 : BitVec 32 := 59#32
  let v50 : BitVec 32 := Scalar.divsi v49 c59_i32_63
  let c0_i32_71 : BitVec 32 := 0#32
  let c1_i32_73 : BitVec 32 := 1#32
  let arg15 : BitVec 32 := Scf.iv c0_i32_71 c1_i32_73 k0_t42
  let c1_i32_70 : BitVec 32 := 1#32
  let v63 : BitVec 32 := Scalar.muli arg15 c1_i32_70
  let v64 : BitVec 32 := Scalar.addi v50 v63
  let c128_i32_76 : BitVec 32 := 128#32
  let v66 : BitVec 32 := Scalar.divsi v64 c128_i32_76
  let v67 : BitVec 32 := Scalar.addi v65 v66
  let c128_i32_79 : BitVec 32 := 128#32
  let v75 : BitVec 32 := Scalar.muli v67 c128_i32_79
  let c128_i32_77 : BitVec 32 := 128#32
  let v68 : BitVec 32 := Scalar.remsi v64 c128_i32_77
  let v76 : BitVec 32 := Scalar.addi v75 v68
  let v77 : Index := Scalar.indexCast v76
  let c0_80 : Index := 0#32
  ![v77.toNat, 0]
@[reducible] def k0_t43_loop (k0_t41 : Fin k0_t41_loop.trips) : Scf.Loop 32 :=
  let c0_i32_71 : BitVec 32 := 0#32
  let c512_i32_65 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let c1_i32_64 : BitVec 32 := 1#32
  let v51 : BitVec 32 := Scalar.addi v32 c1_i32_64
  let v52 : BitVec 32 := Scalar.muli c512_i32_65 v51
  let c59_i32_66 : BitVec 32 := 59#32
  let v53 : BitVec 32 := Scalar.divsi v52 c59_i32_66
  let c512_i32 : BitVec 32 := 512#32
  let v49 : BitVec 32 := Scalar.muli c512_i32 v32
  let c59_i32_63 : BitVec 32 := 59#32
  let v50 : BitVec 32 := Scalar.divsi v49 c59_i32_63
  let v54 : BitVec 32 := Scalar.subi v53 v50
  let c1_i32_67 : BitVec 32 := 1#32
  let c1_i32_68 : BitVec 32 := 1#32
  let v55 : BitVec 32 := Scalar.subi c1_i32_67 c1_i32_68
  let v56 : BitVec 32 := Scalar.addi v54 v55
  let c1_i32_69 : BitVec 32 := 1#32
  let v57 : BitVec 32 := Scalar.divsi v56 c1_i32_69
  let v58 : BitVec 32 := Scalar.subi v57 c0_i32_71
  let c1_i32_72 : BitVec 32 := 1#32
  let v60 : BitVec 32 := Scalar.divsi v58 c1_i32_72
  let v61 : BitVec 32 := Scalar.muli v60 c1_i32_72
  let v62 : BitVec 32 := Scalar.addi c0_i32_71 v61
  let v59 : BitVec 32 := Scalar.addi c0_i32_71 v58
  let c1_i32_74 : BitVec 32 := 1#32
  ⟨v62, v59, c1_i32_74⟩
def k0_off76 (k0_t39 : Fin k0_t39_loop.trips) (k0_t41 : Fin k0_t41_loop.trips) (k0_t43 : Fin (k0_t43_loop k0_t41).trips) : Fin 2 → Nat :=
  let c352_i32 : BitVec 32 := 352#32
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c4_i32_75 : BitVec 32 := 4#32
  let v65 : BitVec 32 := Scalar.muli v28 c4_i32_75
  let c512_i32 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v49 : BitVec 32 := Scalar.muli c512_i32 v32
  let c59_i32_63 : BitVec 32 := 59#32
  let v50 : BitVec 32 := Scalar.divsi v49 c59_i32_63
  let c0_i32_71 : BitVec 32 := 0#32
  let c512_i32_65 : BitVec 32 := 512#32
  let c1_i32_64 : BitVec 32 := 1#32
  let v51 : BitVec 32 := Scalar.addi v32 c1_i32_64
  let v52 : BitVec 32 := Scalar.muli c512_i32_65 v51
  let c59_i32_66 : BitVec 32 := 59#32
  let v53 : BitVec 32 := Scalar.divsi v52 c59_i32_66
  let v54 : BitVec 32 := Scalar.subi v53 v50
  let c1_i32_67 : BitVec 32 := 1#32
  let c1_i32_68 : BitVec 32 := 1#32
  let v55 : BitVec 32 := Scalar.subi c1_i32_67 c1_i32_68
  let v56 : BitVec 32 := Scalar.addi v54 v55
  let c1_i32_69 : BitVec 32 := 1#32
  let v57 : BitVec 32 := Scalar.divsi v56 c1_i32_69
  let v58 : BitVec 32 := Scalar.subi v57 c0_i32_71
  let c1_i32_72 : BitVec 32 := 1#32
  let v60 : BitVec 32 := Scalar.divsi v58 c1_i32_72
  let v61 : BitVec 32 := Scalar.muli v60 c1_i32_72
  let v62 : BitVec 32 := Scalar.addi c0_i32_71 v61
  let c1_i32_74 : BitVec 32 := 1#32
  let arg15 : BitVec 32 := Scf.iv v62 c1_i32_74 k0_t43
  let c1_i32_70 : BitVec 32 := 1#32
  let v63 : BitVec 32 := Scalar.muli arg15 c1_i32_70
  let v64 : BitVec 32 := Scalar.addi v50 v63
  let c128_i32_76 : BitVec 32 := 128#32
  let v66 : BitVec 32 := Scalar.divsi v64 c128_i32_76
  let v67 : BitVec 32 := Scalar.addi v65 v66
  let v69 : BitVec 32 := Scalar.addi c352_i32 v67
  let v70 : Index := Scalar.indexCast v69
  let c128_i32_77 : BitVec 32 := 128#32
  let v68 : BitVec 32 := Scalar.remsi v64 c128_i32_77
  let v71 : Index := Scalar.indexCast v68
  ![v70.toNat, v71.toNat]
def k0_off77 (v72 : BitVec 32) : Fin 2 → Nat :=
  let v73 : Index := Scalar.indexCast v72
  let c0_78 : Index := 0#32
  ![v73.toNat, 0]

def k0_chk6 (k0_t41 : Fin k0_t41_loop.trips) (k0_t43 : Fin (k0_t43_loop k0_t41).trips) (v72 : BitVec 32) : Prop :=
  (∀ a, (k0_off77 v72) a + S1x128.size a ≤ S30208x128.size a)
theorem k0_off77_inb : ∀ (k0_t41 : Fin k0_t41_loop.trips) (k0_t43 : Fin (k0_t43_loop k0_t41).trips) (v72 : BitVec 32) (k0_hw6 : k0_chk6 k0_t41 k0_t43 v72), ∀ a, (k0_off77 v72) a + S1x128.size a ≤ S30208x128.size a := fun k0_t41 k0_t43 v72 k0_hw6 => k0_hw6

def k0_off78 (k0_t39 : Fin k0_t39_loop.trips) (k0_t41 : Fin k0_t41_loop.trips) (k0_t43 : Fin (k0_t43_loop k0_t41).trips) : Fin 2 → Nat :=
  let c0_i32_51 : BitVec 32 := 0#32
  let c0_i32_11 : BitVec 32 := 0#32
  let c1_i32_13 : BitVec 32 := 1#32
  let arg13 : BitVec 32 := Scf.iv c0_i32_11 c1_i32_13 k0_t39
  let c1_i32_50 : BitVec 32 := 1#32
  let v27 : BitVec 32 := Scalar.muli arg13 c1_i32_50
  let v28 : BitVec 32 := Scalar.addi c0_i32_51 v27
  let c4_i32_75 : BitVec 32 := 4#32
  let v65 : BitVec 32 := Scalar.muli v28 c4_i32_75
  let c512_i32 : BitVec 32 := 512#32
  let c0_i32_59 : BitVec 32 := 0#32
  let c0_i32_55 : BitVec 32 := 0#32
  let c1_i32_56 : BitVec 32 := 1#32
  let arg14 : BitVec 32 := Scf.iv c0_i32_55 c1_i32_56 k0_t41
  let c1_i32_58 : BitVec 32 := 1#32
  let v31 : BitVec 32 := Scalar.muli arg14 c1_i32_58
  let v32 : BitVec 32 := Scalar.addi c0_i32_59 v31
  let v49 : BitVec 32 := Scalar.muli c512_i32 v32
  let c59_i32_63 : BitVec 32 := 59#32
  let v50 : BitVec 32 := Scalar.divsi v49 c59_i32_63
  let c0_i32_71 : BitVec 32 := 0#32
  let c512_i32_65 : BitVec 32 := 512#32
  let c1_i32_64 : BitVec 32 := 1#32
  let v51 : BitVec 32 := Scalar.addi v32 c1_i32_64
  let v52 : BitVec 32 := Scalar.muli c512_i32_65 v51
  let c59_i32_66 : BitVec 32 := 59#32
  let v53 : BitVec 32 := Scalar.divsi v52 c59_i32_66
  let v54 : BitVec 32 := Scalar.subi v53 v50
  let c1_i32_67 : BitVec 32 := 1#32
  let c1_i32_68 : BitVec 32 := 1#32
  let v55 : BitVec 32 := Scalar.subi c1_i32_67 c1_i32_68
  let v56 : BitVec 32 := Scalar.addi v54 v55
  let c1_i32_69 : BitVec 32 := 1#32
  let v57 : BitVec 32 := Scalar.divsi v56 c1_i32_69
  let v58 : BitVec 32 := Scalar.subi v57 c0_i32_71
  let c1_i32_72 : BitVec 32 := 1#32
  let v60 : BitVec 32 := Scalar.divsi v58 c1_i32_72
  let v61 : BitVec 32 := Scalar.muli v60 c1_i32_72
  let v62 : BitVec 32 := Scalar.addi c0_i32_71 v61
  let c1_i32_74 : BitVec 32 := 1#32
  let arg15 : BitVec 32 := Scf.iv v62 c1_i32_74 k0_t43
  let c1_i32_70 : BitVec 32 := 1#32
  let v63 : BitVec 32 := Scalar.muli arg15 c1_i32_70
  let v64 : BitVec 32 := Scalar.addi v50 v63
  let c128_i32_76 : BitVec 32 := 128#32
  let v66 : BitVec 32 := Scalar.divsi v64 c128_i32_76
  let v67 : BitVec 32 := Scalar.addi v65 v66
  let c128_i32_79 : BitVec 32 := 128#32
  let v75 : BitVec 32 := Scalar.muli v67 c128_i32_79
  let c128_i32_77 : BitVec 32 := 128#32
  let v68 : BitVec 32 := Scalar.remsi v64 c128_i32_77
  let v76 : BitVec 32 := Scalar.addi v75 v68
  let v77 : Index := Scalar.indexCast v76
  let c0_80 : Index := 0#32
  ![v77.toNat, 0]
@[reducible] def k0_t44_loop : Scf.Loop 32 :=
  let c0_i32_15 : BitVec 32 := 0#32
  let c16_i32_16 : BitVec 32 := 16#32
  let v6 : BitVec 32 := Scalar.addi c0_i32_15 c16_i32_16
  let c1_i32_17 : BitVec 32 := 1#32
  ⟨c0_i32_15, v6, c1_i32_17⟩
def k0_mult42 (k0_t44 : Fin k0_t44_loop.trips) : BitVec 32 :=
  let c0_i32_51 : BitVec 32 := 0#32
  let c0_i32_15 : BitVec 32 := 0#32
  let c1_i32_17 : BitVec 32 := 1#32
  let arg13 : BitVec 32 := Scf.iv c0_i32_15 c1_i32_17 k0_t44
  let c1_i32_50 : BitVec 32 := 1#32
  let v27 : BitVec 32 := Scalar.muli arg13 c1_i32_50
  let v28 : BitVec 32 := Scalar.addi c0_i32_51 v27
  let c128_i32 : BitVec 32 := 128#32
  let v29 : BitVec 32 := Scalar.muli v28 c128_i32
  v29
def k0_off79 (k0_t44 : Fin k0_t44_loop.trips) : Fin 2 → Nat :=
  let c0_i32_51 : BitVec 32 := 0#32
  let c0_i32_15 : BitVec 32 := 0#32
  let c1_i32_17 : BitVec 32 := 1#32
  let arg13 : BitVec 32 := Scf.iv c0_i32_15 c1_i32_17 k0_t44
  let c1_i32_50 : BitVec 32 := 1#32
  let v27 : BitVec 32 := Scalar.muli arg13 c1_i32_50
  let v28 : BitVec 32 := Scalar.addi c0_i32_51 v27
  let c128_i32 : BitVec 32 := 128#32
  let v29 : BitVec 32 := Scalar.muli v28 c128_i32
  let v30 : BitVec 32 := v29
  let v31 : Index := Scalar.indexCast v30
  let c0 : Index := 0#32
  ![v31.toNat, 0]
def k0_off80 (k0_t44 : Fin k0_t44_loop.trips) (c0_i32_52 : BitVec 32) : Fin 2 → Nat :=
  let c0_i32_51 : BitVec 32 := 0#32
  let c0_i32_15 : BitVec 32 := 0#32
  let c1_i32_17 : BitVec 32 := 1#32
  let arg13 : BitVec 32 := Scf.iv c0_i32_15 c1_i32_17 k0_t44
  let c1_i32_50 : BitVec 32 := 1#32
  let v27 : BitVec 32 := Scalar.muli arg13 c1_i32_50
  let v28 : BitVec 32 := Scalar.addi c0_i32_51 v27
  let v35 : BitVec 32 := Scalar.addi c0_i32_52 v28
  let v36 : Index := Scalar.indexCast v35
  let c0_53 : Index := 0#32
  ![v36.toNat, 0]
@[reducible] def k0_t45_loop : Scf.Loop 32 :=
  let c0_i32_19 : BitVec 32 := 0#32
  let c22_i32 : BitVec 32 := 22#32
  let v7 : BitVec 32 := Scalar.addi c0_i32_19 c22_i32
  let c1_i32_20 : BitVec 32 := 1#32
  ⟨c0_i32_19, v7, c1_i32_20⟩
@[reducible] def k0_t46_loop : Scf.Loop 32 :=
  let c0_i32_62 : BitVec 32 := 0#32
  let c5_i32_63 : BitVec 32 := 5#32
  let v42 : BitVec 32 := Scalar.addi c0_i32_62 c5_i32_63
  let c1_i32_64 : BitVec 32 := 1#32
  ⟨c0_i32_62, v42, c1_i32_64⟩
def k0_mult43 (k0_t45 : Fin k0_t45_loop.trips) (k0_t46 : Fin k0_t46_loop.trips) : BitVec 32 :=
  let c0_i32_51 : BitVec 32 := 0#32
  let c0_i32_19 : BitVec 32 := 0#32
  let c1_i32_20 : BitVec 32 := 1#32
  let arg13 : BitVec 32 := Scf.iv c0_i32_19 c1_i32_20 k0_t45
  let c1_i32_50 : BitVec 32 := 1#32
  let v27 : BitVec 32 := Scalar.muli arg13 c1_i32_50
  let v28 : BitVec 32 := Scalar.addi c0_i32_51 v27
  let c12_i32_57 : BitVec 32 := 12#32
  let v33 : BitVec 1 := Scalar.cmpi .slt v28 c12_i32_57
  let v_true : BitVec 1 := 1#1
  let v34 : BitVec 1 := Scalar.andi v33 v_true
  let c12_i32_52 : BitVec 32 := 12#32
  let v29 : BitVec 1 := Scalar.cmpi .slt v28 c12_i32_52
  let c12_i32_53 : BitVec 32 := 12#32
  let v30 : BitVec 32 := Scalar.subi v28 c12_i32_53
  let v31 : BitVec 32 := Scalar.select v29 v28 v30
  let c12_i32_58 : BitVec 32 := 12#32
  let v35 : BitVec 32 := Scalar.muli v31 c12_i32_58
  let false_54 : BitVec 1 := 0#1
  let c22_i32_55 : BitVec 32 := 22#32
  let c10_i32_56 : BitVec 32 := 10#32
  let v32 : BitVec 32 := Scalar.select false_54 c22_i32_55 c10_i32_56
  let v36 : BitVec 32 := Scalar.addi v35 v32
  let c12_i32_59 : BitVec 32 := 12#32
  let v37 : BitVec 32 := Scalar.muli v32 c12_i32_59
  let v38 : BitVec 32 := Scalar.addi v37 v31
  let v39 : BitVec 32 := Scalar.select v34 v36 v38
  let c5_i32_60 : BitVec 32 := 5#32
  let v40 : BitVec 32 := Scalar.muli v39 c5_i32_60
  let c0_i32_62 : BitVec 32 := 0#32
  let c1_i32_64 : BitVec 32 := 1#32
  let arg14 : BitVec 32 := Scf.iv c0_i32_62 c1_i32_64 k0_t46
  let v71 : BitVec 32 := Scalar.addi v40 arg14
  let c16_i32_75 : BitVec 32 := 16#32
  let v72 : BitVec 32 := Scalar.muli v71 c16_i32_75
  v72
def k0_off81 (k0_t45 : Fin k0_t45_loop.trips) (k0_t46 : Fin k0_t46_loop.trips) : Fin 2 → Nat :=
  let c0_i32_51 : BitVec 32 := 0#32
  let c0_i32_19 : BitVec 32 := 0#32
  let c1_i32_20 : BitVec 32 := 1#32
  let arg13 : BitVec 32 := Scf.iv c0_i32_19 c1_i32_20 k0_t45
  let c1_i32_50 : BitVec 32 := 1#32
  let v27 : BitVec 32 := Scalar.muli arg13 c1_i32_50
  let v28 : BitVec 32 := Scalar.addi c0_i32_51 v27
  let c12_i32_57 : BitVec 32 := 12#32
  let v33 : BitVec 1 := Scalar.cmpi .slt v28 c12_i32_57
  let v_true : BitVec 1 := 1#1
  let v34 : BitVec 1 := Scalar.andi v33 v_true
  let c12_i32_52 : BitVec 32 := 12#32
  let v29 : BitVec 1 := Scalar.cmpi .slt v28 c12_i32_52
  let c12_i32_53 : BitVec 32 := 12#32
  let v30 : BitVec 32 := Scalar.subi v28 c12_i32_53
  let v31 : BitVec 32 := Scalar.select v29 v28 v30
  let c12_i32_58 : BitVec 32 := 12#32
  let v35 : BitVec 32 := Scalar.muli v31 c12_i32_58
  let false_54 : BitVec 1 := 0#1
  let c22_i32_55 : BitVec 32 := 22#32
  let c10_i32_56 : BitVec 32 := 10#32
  let v32 : BitVec 32 := Scalar.select false_54 c22_i32_55 c10_i32_56
  let v36 : BitVec 32 := Scalar.addi v35 v32
  let c12_i32_59 : BitVec 32 := 12#32
  let v37 : BitVec 32 := Scalar.muli v32 c12_i32_59
  let v38 : BitVec 32 := Scalar.addi v37 v31
  let v39 : BitVec 32 := Scalar.select v34 v36 v38
  let c5_i32_60 : BitVec 32 := 5#32
  let v40 : BitVec 32 := Scalar.muli v39 c5_i32_60
  let c0_i32_62 : BitVec 32 := 0#32
  let c1_i32_64 : BitVec 32 := 1#32
  let arg14 : BitVec 32 := Scf.iv c0_i32_62 c1_i32_64 k0_t46
  let v71 : BitVec 32 := Scalar.addi v40 arg14
  let c16_i32_75 : BitVec 32 := 16#32
  let v72 : BitVec 32 := Scalar.muli v71 c16_i32_75
  let v73 : BitVec 32 := v72
  let v74 : Index := Scalar.indexCast v73
  let c0_76 : Index := 0#32
  ![v74.toNat, 0]
def k0_off82 (k0_t45 : Fin k0_t45_loop.trips) (k0_t46 : Fin k0_t46_loop.trips) : Fin 2 → Nat :=
  let c0_i32_51 : BitVec 32 := 0#32
  let c0_i32_19 : BitVec 32 := 0#32
  let c1_i32_20 : BitVec 32 := 1#32
  let arg13 : BitVec 32 := Scf.iv c0_i32_19 c1_i32_20 k0_t45
  let c1_i32_50 : BitVec 32 := 1#32
  let v27 : BitVec 32 := Scalar.muli arg13 c1_i32_50
  let v28 : BitVec 32 := Scalar.addi c0_i32_51 v27
  let c5_i32_77 : BitVec 32 := 5#32
  let v76 : BitVec 32 := Scalar.muli v28 c5_i32_77
  let c0_i32_62 : BitVec 32 := 0#32
  let c1_i32_64 : BitVec 32 := 1#32
  let arg14 : BitVec 32 := Scf.iv c0_i32_62 c1_i32_64 k0_t46
  let v77 : BitVec 32 := Scalar.addi v76 arg14
  let c17_i32 : BitVec 32 := 17#32
  let v78 : BitVec 32 := Scalar.muli v77 c17_i32
  let v79 : Index := Scalar.indexCast v78
  let c0_78 : Index := 0#32
  ![v79.toNat, 0]
def k0_mult44 (k0_t45 : Fin k0_t45_loop.trips) : BitVec 32 :=
  let c0_i32_51 : BitVec 32 := 0#32
  let c0_i32_19 : BitVec 32 := 0#32
  let c1_i32_20 : BitVec 32 := 1#32
  let arg13 : BitVec 32 := Scf.iv c0_i32_19 c1_i32_20 k0_t45
  let c1_i32_50 : BitVec 32 := 1#32
  let v27 : BitVec 32 := Scalar.muli arg13 c1_i32_50
  let v28 : BitVec 32 := Scalar.addi c0_i32_51 v27
  let c47_i32 : BitVec 32 := 47#32
  let v45 : BitVec 32 := Scalar.subi c47_i32 v28
  let v46 : BitVec 32 := Scalar.muli v28 v45
  let c0_i32_66 : BitVec 32 := 0#32
  let v48 : BitVec 1 := Scalar.cmpi .sgt v46 c0_i32_66
  let v49 : BitVec 32 := Scalar.extui v48
  let c0_i32_67 : BitVec 32 := 0#32
  let v50 : BitVec 1 := Scalar.cmpi .slt v46 c0_i32_67
  let v51 : BitVec 32 := Scalar.extui v50
  let v52 : BitVec 32 := Scalar.subi v49 v51
  let c2_i32 : BitVec 32 := 2#32
  let c0_i32_68 : BitVec 32 := 0#32
  let v53 : BitVec 1 := Scalar.cmpi .sgt c2_i32 c0_i32_68
  let v54 : BitVec 32 := Scalar.extui v53
  let c0_i32_69 : BitVec 32 := 0#32
  let v55 : BitVec 1 := Scalar.cmpi .slt c2_i32 c0_i32_69
  let v56 : BitVec 32 := Scalar.extui v55
  let v57 : BitVec 32 := Scalar.subi v54 v56
  let v58 : BitVec 1 := Scalar.cmpi .ne v52 v57
  let v59 : BitVec 32 := Scalar.remsi v46 c2_i32
  let c0_i32_70 : BitVec 32 := 0#32
  let v60 : BitVec 1 := Scalar.cmpi .ne v59 c0_i32_70
  let v61 : BitVec 1 := Scalar.andi v58 v60
  let v47 : BitVec 32 := Scalar.divsi v46 c2_i32
  let c1_i32_71 : BitVec 32 := 1#32
  let v62 : BitVec 32 := Scalar.subi v47 c1_i32_71
  let v63 : BitVec 32 := Scalar.select v61 v62 v47
  let c22_i32_72 : BitVec 32 := 22#32
  let v64 : BitVec 32 := Scalar.addi v63 c22_i32_72
  let v65 : BitVec 32 := Scalar.subi v64 v28
  let c1_i32_73 : BitVec 32 := 1#32
  let v66 : BitVec 32 := Scalar.subi v65 c1_i32_73
  let c16_i32_74 : BitVec 32 := 16#32
  let v67 : BitVec 32 := Scalar.muli v66 c16_i32_74
  v67
def k0_off83 (k0_t45 : Fin k0_t45_loop.trips) : Fin 2 → Nat :=
  let c0_i32_51 : BitVec 32 := 0#32
  let c0_i32_19 : BitVec 32 := 0#32
  let c1_i32_20 : BitVec 32 := 1#32
  let arg13 : BitVec 32 := Scf.iv c0_i32_19 c1_i32_20 k0_t45
  let c1_i32_50 : BitVec 32 := 1#32
  let v27 : BitVec 32 := Scalar.muli arg13 c1_i32_50
  let v28 : BitVec 32 := Scalar.addi c0_i32_51 v27
  let c47_i32 : BitVec 32 := 47#32
  let v45 : BitVec 32 := Scalar.subi c47_i32 v28
  let v46 : BitVec 32 := Scalar.muli v28 v45
  let c0_i32_66 : BitVec 32 := 0#32
  let v48 : BitVec 1 := Scalar.cmpi .sgt v46 c0_i32_66
  let v49 : BitVec 32 := Scalar.extui v48
  let c0_i32_67 : BitVec 32 := 0#32
  let v50 : BitVec 1 := Scalar.cmpi .slt v46 c0_i32_67
  let v51 : BitVec 32 := Scalar.extui v50
  let v52 : BitVec 32 := Scalar.subi v49 v51
  let c2_i32 : BitVec 32 := 2#32
  let c0_i32_68 : BitVec 32 := 0#32
  let v53 : BitVec 1 := Scalar.cmpi .sgt c2_i32 c0_i32_68
  let v54 : BitVec 32 := Scalar.extui v53
  let c0_i32_69 : BitVec 32 := 0#32
  let v55 : BitVec 1 := Scalar.cmpi .slt c2_i32 c0_i32_69
  let v56 : BitVec 32 := Scalar.extui v55
  let v57 : BitVec 32 := Scalar.subi v54 v56
  let v58 : BitVec 1 := Scalar.cmpi .ne v52 v57
  let v59 : BitVec 32 := Scalar.remsi v46 c2_i32
  let c0_i32_70 : BitVec 32 := 0#32
  let v60 : BitVec 1 := Scalar.cmpi .ne v59 c0_i32_70
  let v61 : BitVec 1 := Scalar.andi v58 v60
  let v47 : BitVec 32 := Scalar.divsi v46 c2_i32
  let c1_i32_71 : BitVec 32 := 1#32
  let v62 : BitVec 32 := Scalar.subi v47 c1_i32_71
  let v63 : BitVec 32 := Scalar.select v61 v62 v47
  let c22_i32_72 : BitVec 32 := 22#32
  let v64 : BitVec 32 := Scalar.addi v63 c22_i32_72
  let v65 : BitVec 32 := Scalar.subi v64 v28
  let c1_i32_73 : BitVec 32 := 1#32
  let v66 : BitVec 32 := Scalar.subi v65 c1_i32_73
  let c16_i32_74 : BitVec 32 := 16#32
  let v67 : BitVec 32 := Scalar.muli v66 c16_i32_74
  let v68 : BitVec 32 := v67
  let v69 : Index := Scalar.indexCast v68
  let c0 : Index := 0#32
  ![v69.toNat, 0]
@[reducible] def k0_t47_loop : Scf.Loop 32 :=
  let c0_i32_30 : BitVec 32 := 0#32
  let c5_i32_31 : BitVec 32 := 5#32
  let v22 : BitVec 32 := Scalar.addi c0_i32_30 c5_i32_31
  let c1_i32_32 : BitVec 32 := 1#32
  ⟨c0_i32_30, v22, c1_i32_32⟩
def k0_off84 (k0_t47 : Fin k0_t47_loop.trips) : Fin 2 → Nat :=
  let c23_i32 : BitVec 32 := 23#32
  let c0_i32_22 : BitVec 32 := 0#32
  let c1_i32_23 : BitVec 32 := 1#32
  let v8 : BitVec 32 := Scalar.muli c0_i32_22 c1_i32_23
  let v9 : BitVec 32 := Scalar.addi c23_i32 v8
  let c5_i32_52 : BitVec 32 := 5#32
  let v29 : BitVec 32 := Scalar.muli v9 c5_i32_52
  let c0_i32_51 : BitVec 32 := 0#32
  let c0_i32_30 : BitVec 32 := 0#32
  let c1_i32_32 : BitVec 32 := 1#32
  let arg13 : BitVec 32 := Scf.iv c0_i32_30 c1_i32_32 k0_t47
  let c1_i32_50 : BitVec 32 := 1#32
  let v27 : BitVec 32 := Scalar.muli arg13 c1_i32_50
  let v28 : BitVec 32 := Scalar.addi c0_i32_51 v27
  let v30 : BitVec 32 := Scalar.addi v29 v28
  let c17_i32 : BitVec 32 := 17#32
  let v31 : BitVec 32 := Scalar.muli v30 c17_i32
  let v32 : Index := Scalar.indexCast v31
  let c0 : Index := 0#32
  ![v32.toNat, 0]
def k0_mult45 (k0_t47 : Fin k0_t47_loop.trips) : BitVec 32 :=
  let false_27 : BitVec 1 := 0#1
  let c23_i32 : BitVec 32 := 23#32
  let c0_i32_22 : BitVec 32 := 0#32
  let c1_i32_23 : BitVec 32 := 1#32
  let v8 : BitVec 32 := Scalar.muli c0_i32_22 c1_i32_23
  let v9 : BitVec 32 := Scalar.addi c23_i32 v8
  let c12_i32_26 : BitVec 32 := 12#32
  let v14 : BitVec 1 := Scalar.cmpi .sge v9 c12_i32_26
  let v15 : BitVec 1 := Scalar.andi false_27 v14
  let v_false : BitVec 1 := 0#1
  let c22_i32_24 : BitVec 32 := 22#32
  let c10_i32 : BitVec 32 := 10#32
  let v10 : BitVec 32 := Scalar.select v_false c22_i32_24 c10_i32
  let c12_i32_28 : BitVec 32 := 12#32
  let v16 : BitVec 32 := Scalar.muli v10 c12_i32_28
  let c12_i32 : BitVec 32 := 12#32
  let v11 : BitVec 1 := Scalar.cmpi .slt v9 c12_i32
  let c12_i32_25 : BitVec 32 := 12#32
  let v12 : BitVec 32 := Scalar.subi v9 c12_i32_25
  let v13 : BitVec 32 := Scalar.select v11 v9 v12
  let v17 : BitVec 32 := Scalar.addi v16 v13
  let c12_i32_29 : BitVec 32 := 12#32
  let v18 : BitVec 32 := Scalar.muli v13 c12_i32_29
  let v19 : BitVec 32 := Scalar.addi v18 v10
  let v20 : BitVec 32 := Scalar.select v15 v17 v19
  let c5_i32 : BitVec 32 := 5#32
  let v21 : BitVec 32 := Scalar.muli v20 c5_i32
  let c0_i32_51 : BitVec 32 := 0#32
  let c0_i32_30 : BitVec 32 := 0#32
  let c1_i32_32 : BitVec 32 := 1#32
  let arg13 : BitVec 32 := Scf.iv c0_i32_30 c1_i32_32 k0_t47
  let c1_i32_50 : BitVec 32 := 1#32
  let v27 : BitVec 32 := Scalar.muli arg13 c1_i32_50
  let v28 : BitVec 32 := Scalar.addi c0_i32_51 v27
  let v34 : BitVec 32 := Scalar.addi v21 v28
  let c16_i32_53 : BitVec 32 := 16#32
  let v35 : BitVec 32 := Scalar.muli v34 c16_i32_53
  v35
def k0_off85 (k0_t47 : Fin k0_t47_loop.trips) : Fin 2 → Nat :=
  let false_27 : BitVec 1 := 0#1
  let c23_i32 : BitVec 32 := 23#32
  let c0_i32_22 : BitVec 32 := 0#32
  let c1_i32_23 : BitVec 32 := 1#32
  let v8 : BitVec 32 := Scalar.muli c0_i32_22 c1_i32_23
  let v9 : BitVec 32 := Scalar.addi c23_i32 v8
  let c12_i32_26 : BitVec 32 := 12#32
  let v14 : BitVec 1 := Scalar.cmpi .sge v9 c12_i32_26
  let v15 : BitVec 1 := Scalar.andi false_27 v14
  let v_false : BitVec 1 := 0#1
  let c22_i32_24 : BitVec 32 := 22#32
  let c10_i32 : BitVec 32 := 10#32
  let v10 : BitVec 32 := Scalar.select v_false c22_i32_24 c10_i32
  let c12_i32_28 : BitVec 32 := 12#32
  let v16 : BitVec 32 := Scalar.muli v10 c12_i32_28
  let c12_i32 : BitVec 32 := 12#32
  let v11 : BitVec 1 := Scalar.cmpi .slt v9 c12_i32
  let c12_i32_25 : BitVec 32 := 12#32
  let v12 : BitVec 32 := Scalar.subi v9 c12_i32_25
  let v13 : BitVec 32 := Scalar.select v11 v9 v12
  let v17 : BitVec 32 := Scalar.addi v16 v13
  let c12_i32_29 : BitVec 32 := 12#32
  let v18 : BitVec 32 := Scalar.muli v13 c12_i32_29
  let v19 : BitVec 32 := Scalar.addi v18 v10
  let v20 : BitVec 32 := Scalar.select v15 v17 v19
  let c5_i32 : BitVec 32 := 5#32
  let v21 : BitVec 32 := Scalar.muli v20 c5_i32
  let c0_i32_51 : BitVec 32 := 0#32
  let c0_i32_30 : BitVec 32 := 0#32
  let c1_i32_32 : BitVec 32 := 1#32
  let arg13 : BitVec 32 := Scf.iv c0_i32_30 c1_i32_32 k0_t47
  let c1_i32_50 : BitVec 32 := 1#32
  let v27 : BitVec 32 := Scalar.muli arg13 c1_i32_50
  let v28 : BitVec 32 := Scalar.addi c0_i32_51 v27
  let v34 : BitVec 32 := Scalar.addi v21 v28
  let c16_i32_53 : BitVec 32 := 16#32
  let v35 : BitVec 32 := Scalar.muli v34 c16_i32_53
  let v36 : BitVec 32 := v35
  let v37 : Index := Scalar.indexCast v36
  let c0_54 : Index := 0#32
  ![v37.toNat, 0]
@[reducible] def k0_t48_loop : Scf.Loop 32 :=
  let c0_i32_35 : BitVec 32 := 0#32
  let c4_i32_36 : BitVec 32 := 4#32
  let v23 : BitVec 32 := Scalar.addi c0_i32_35 c4_i32_36
  let c1_i32_37 : BitVec 32 := 1#32
  ⟨c0_i32_35, v23, c1_i32_37⟩
@[reducible] def k0_t49_loop : Scf.Loop 32 :=
  let c0_i32_52 : BitVec 32 := 0#32
  let c512_i32 : BitVec 32 := 512#32
  let v29 : BitVec 32 := Scalar.addi c0_i32_52 c512_i32
  let c1_i32_53 : BitVec 32 := 1#32
  ⟨c0_i32_52, v29, c1_i32_53⟩
def k0_off86 (k0_t48 : Fin k0_t48_loop.trips) (k0_t49 : Fin k0_t49_loop.trips) : Fin 2 → Nat :=
  let c368_i32 : BitVec 32 := 368#32
  let c0_i32_51 : BitVec 32 := 0#32
  let c0_i32_35 : BitVec 32 := 0#32
  let c1_i32_37 : BitVec 32 := 1#32
  let arg13 : BitVec 32 := Scf.iv c0_i32_35 c1_i32_37 k0_t48
  let c1_i32_50 : BitVec 32 := 1#32
  let v27 : BitVec 32 := Scalar.muli arg13 c1_i32_50
  let v28 : BitVec 32 := Scalar.addi c0_i32_51 v27
  let c4_i32_57 : BitVec 32 := 4#32
  let v32 : BitVec 32 := Scalar.muli v28 c4_i32_57
  let c0_i32_56 : BitVec 32 := 0#32
  let c0_i32_52 : BitVec 32 := 0#32
  let c1_i32_53 : BitVec 32 := 1#32
  let arg14 : BitVec 32 := Scf.iv c0_i32_52 c1_i32_53 k0_t49
  let c1_i32_55 : BitVec 32 := 1#32
  let v30 : BitVec 32 := Scalar.muli arg14 c1_i32_55
  let v31 : BitVec 32 := Scalar.addi c0_i32_56 v30
  let c128_i32 : BitVec 32 := 128#32
  let v33 : BitVec 32 := Scalar.divsi v31 c128_i32
  let v34 : BitVec 32 := Scalar.addi v32 v33
  let v36 : BitVec 32 := Scalar.addi c368_i32 v34
  let v37 : Index := Scalar.indexCast v36
  let c128_i32_58 : BitVec 32 := 128#32
  let v35 : BitVec 32 := Scalar.remsi v31 c128_i32_58
  let v38 : Index := Scalar.indexCast v35
  ![v37.toNat, v38.toNat]
def k0_off87 (v39 : BitVec 32) : Fin 2 → Nat :=
  let v40 : Index := Scalar.indexCast v39
  let c0 : Index := 0#32
  ![v40.toNat, 0]

def k0_chk7 (v39 : BitVec 32) : Prop :=
  (∀ a, (k0_off87 v39) a + S1x128.size a ≤ S30208x128.size a)
theorem k0_off87_inb : ∀ (v39 : BitVec 32) (k0_hw7 : k0_chk7 v39), ∀ a, (k0_off87 v39) a + S1x128.size a ≤ S30208x128.size a := fun v39 k0_hw7 => k0_hw7

def k0_off88 (k0_t48 : Fin k0_t48_loop.trips) (k0_t49 : Fin k0_t49_loop.trips) : Fin 2 → Nat :=
  let c0_i32_51 : BitVec 32 := 0#32
  let c0_i32_35 : BitVec 32 := 0#32
  let c1_i32_37 : BitVec 32 := 1#32
  let arg13 : BitVec 32 := Scf.iv c0_i32_35 c1_i32_37 k0_t48
  let c1_i32_50 : BitVec 32 := 1#32
  let v27 : BitVec 32 := Scalar.muli arg13 c1_i32_50
  let v28 : BitVec 32 := Scalar.addi c0_i32_51 v27
  let c4_i32_57 : BitVec 32 := 4#32
  let v32 : BitVec 32 := Scalar.muli v28 c4_i32_57
  let c0_i32_56 : BitVec 32 := 0#32
  let c0_i32_52 : BitVec 32 := 0#32
  let c1_i32_53 : BitVec 32 := 1#32
  let arg14 : BitVec 32 := Scf.iv c0_i32_52 c1_i32_53 k0_t49
  let c1_i32_55 : BitVec 32 := 1#32
  let v30 : BitVec 32 := Scalar.muli arg14 c1_i32_55
  let v31 : BitVec 32 := Scalar.addi c0_i32_56 v30
  let c128_i32 : BitVec 32 := 128#32
  let v33 : BitVec 32 := Scalar.divsi v31 c128_i32
  let v34 : BitVec 32 := Scalar.addi v32 v33
  let c128_i32_59 : BitVec 32 := 128#32
  let v42 : BitVec 32 := Scalar.muli v34 c128_i32_59
  let c128_i32_58 : BitVec 32 := 128#32
  let v35 : BitVec 32 := Scalar.remsi v31 c128_i32_58
  let v43 : BitVec 32 := Scalar.addi v42 v35
  let v44 : Index := Scalar.indexCast v43
  let c0_60 : Index := 0#32
  ![v44.toNat, 0]
@[reducible] def k0_t50_loop : Scf.Loop 32 :=
  let c0_i32_39 : BitVec 32 := 0#32
  let c16_i32_40 : BitVec 32 := 16#32
  let v24 : BitVec 32 := Scalar.addi c0_i32_39 c16_i32_40
  let c1_i32_41 : BitVec 32 := 1#32
  ⟨c0_i32_39, v24, c1_i32_41⟩
def k0_mult46 (k0_t50 : Fin k0_t50_loop.trips) : BitVec 32 :=
  let c0_i32_51 : BitVec 32 := 0#32
  let c0_i32_39 : BitVec 32 := 0#32
  let c1_i32_41 : BitVec 32 := 1#32
  let arg13 : BitVec 32 := Scf.iv c0_i32_39 c1_i32_41 k0_t50
  let c1_i32_50 : BitVec 32 := 1#32
  let v27 : BitVec 32 := Scalar.muli arg13 c1_i32_50
  let v28 : BitVec 32 := Scalar.addi c0_i32_51 v27
  let c128_i32 : BitVec 32 := 128#32
  let v29 : BitVec 32 := Scalar.muli v28 c128_i32
  v29
def k0_off89 (k0_t50 : Fin k0_t50_loop.trips) : Fin 2 → Nat :=
  let c0_i32_51 : BitVec 32 := 0#32
  let c0_i32_39 : BitVec 32 := 0#32
  let c1_i32_41 : BitVec 32 := 1#32
  let arg13 : BitVec 32 := Scf.iv c0_i32_39 c1_i32_41 k0_t50
  let c1_i32_50 : BitVec 32 := 1#32
  let v27 : BitVec 32 := Scalar.muli arg13 c1_i32_50
  let v28 : BitVec 32 := Scalar.addi c0_i32_51 v27
  let c128_i32 : BitVec 32 := 128#32
  let v29 : BitVec 32 := Scalar.muli v28 c128_i32
  let v30 : BitVec 32 := v29
  let v31 : Index := Scalar.indexCast v30
  let c0 : Index := 0#32
  ![v31.toNat, 0]
def k0_off90 (k0_t50 : Fin k0_t50_loop.trips) (c0_i32_52 : BitVec 32) : Fin 2 → Nat :=
  let c0_i32_51 : BitVec 32 := 0#32
  let c0_i32_39 : BitVec 32 := 0#32
  let c1_i32_41 : BitVec 32 := 1#32
  let arg13 : BitVec 32 := Scf.iv c0_i32_39 c1_i32_41 k0_t50
  let c1_i32_50 : BitVec 32 := 1#32
  let v27 : BitVec 32 := Scalar.muli arg13 c1_i32_50
  let v28 : BitVec 32 := Scalar.addi c0_i32_51 v27
  let v35 : BitVec 32 := Scalar.addi c0_i32_52 v28
  let v36 : Index := Scalar.indexCast v35
  let c0_53 : Index := 0#32
  ![v36.toNat, 0]
@[reducible] def k0_t51_loop : Scf.Loop 32 :=
  let c0_i32_43 : BitVec 32 := 0#32
  let c23_i32_44 : BitVec 32 := 23#32
  let v25 : BitVec 32 := Scalar.addi c0_i32_43 c23_i32_44
  let c1_i32_45 : BitVec 32 := 1#32
  ⟨c0_i32_43, v25, c1_i32_45⟩
@[reducible] def k0_t52_loop : Scf.Loop 32 :=
  let c0_i32_62 : BitVec 32 := 0#32
  let c5_i32_63 : BitVec 32 := 5#32
  let v42 : BitVec 32 := Scalar.addi c0_i32_62 c5_i32_63
  let c1_i32_64 : BitVec 32 := 1#32
  ⟨c0_i32_62, v42, c1_i32_64⟩
def k0_mult47 (k0_t51 : Fin k0_t51_loop.trips) (k0_t52 : Fin k0_t52_loop.trips) : BitVec 32 :=
  let c0_i32_51 : BitVec 32 := 0#32
  let c0_i32_43 : BitVec 32 := 0#32
  let c1_i32_45 : BitVec 32 := 1#32
  let arg13 : BitVec 32 := Scf.iv c0_i32_43 c1_i32_45 k0_t51
  let c1_i32_50 : BitVec 32 := 1#32
  let v27 : BitVec 32 := Scalar.muli arg13 c1_i32_50
  let v28 : BitVec 32 := Scalar.addi c0_i32_51 v27
  let c12_i32_57 : BitVec 32 := 12#32
  let v33 : BitVec 1 := Scalar.cmpi .slt v28 c12_i32_57
  let v_true : BitVec 1 := 1#1
  let v34 : BitVec 1 := Scalar.andi v33 v_true
  let c12_i32_52 : BitVec 32 := 12#32
  let v29 : BitVec 1 := Scalar.cmpi .slt v28 c12_i32_52
  let c12_i32_53 : BitVec 32 := 12#32
  let v30 : BitVec 32 := Scalar.subi v28 c12_i32_53
  let v31 : BitVec 32 := Scalar.select v29 v28 v30
  let c12_i32_58 : BitVec 32 := 12#32
  let v35 : BitVec 32 := Scalar.muli v31 c12_i32_58
  let false_54 : BitVec 1 := 0#1
  let c23_i32_55 : BitVec 32 := 23#32
  let c11_i32_56 : BitVec 32 := 11#32
  let v32 : BitVec 32 := Scalar.select false_54 c23_i32_55 c11_i32_56
  let v36 : BitVec 32 := Scalar.addi v35 v32
  let c12_i32_59 : BitVec 32 := 12#32
  let v37 : BitVec 32 := Scalar.muli v32 c12_i32_59
  let v38 : BitVec 32 := Scalar.addi v37 v31
  let v39 : BitVec 32 := Scalar.select v34 v36 v38
  let c5_i32_60 : BitVec 32 := 5#32
  let v40 : BitVec 32 := Scalar.muli v39 c5_i32_60
  let c0_i32_62 : BitVec 32 := 0#32
  let c1_i32_64 : BitVec 32 := 1#32
  let arg14 : BitVec 32 := Scf.iv c0_i32_62 c1_i32_64 k0_t52
  let v71 : BitVec 32 := Scalar.addi v40 arg14
  let c16_i32_75 : BitVec 32 := 16#32
  let v72 : BitVec 32 := Scalar.muli v71 c16_i32_75
  v72
def k0_off91 (k0_t51 : Fin k0_t51_loop.trips) (k0_t52 : Fin k0_t52_loop.trips) : Fin 2 → Nat :=
  let c0_i32_51 : BitVec 32 := 0#32
  let c0_i32_43 : BitVec 32 := 0#32
  let c1_i32_45 : BitVec 32 := 1#32
  let arg13 : BitVec 32 := Scf.iv c0_i32_43 c1_i32_45 k0_t51
  let c1_i32_50 : BitVec 32 := 1#32
  let v27 : BitVec 32 := Scalar.muli arg13 c1_i32_50
  let v28 : BitVec 32 := Scalar.addi c0_i32_51 v27
  let c12_i32_57 : BitVec 32 := 12#32
  let v33 : BitVec 1 := Scalar.cmpi .slt v28 c12_i32_57
  let v_true : BitVec 1 := 1#1
  let v34 : BitVec 1 := Scalar.andi v33 v_true
  let c12_i32_52 : BitVec 32 := 12#32
  let v29 : BitVec 1 := Scalar.cmpi .slt v28 c12_i32_52
  let c12_i32_53 : BitVec 32 := 12#32
  let v30 : BitVec 32 := Scalar.subi v28 c12_i32_53
  let v31 : BitVec 32 := Scalar.select v29 v28 v30
  let c12_i32_58 : BitVec 32 := 12#32
  let v35 : BitVec 32 := Scalar.muli v31 c12_i32_58
  let false_54 : BitVec 1 := 0#1
  let c23_i32_55 : BitVec 32 := 23#32
  let c11_i32_56 : BitVec 32 := 11#32
  let v32 : BitVec 32 := Scalar.select false_54 c23_i32_55 c11_i32_56
  let v36 : BitVec 32 := Scalar.addi v35 v32
  let c12_i32_59 : BitVec 32 := 12#32
  let v37 : BitVec 32 := Scalar.muli v32 c12_i32_59
  let v38 : BitVec 32 := Scalar.addi v37 v31
  let v39 : BitVec 32 := Scalar.select v34 v36 v38
  let c5_i32_60 : BitVec 32 := 5#32
  let v40 : BitVec 32 := Scalar.muli v39 c5_i32_60
  let c0_i32_62 : BitVec 32 := 0#32
  let c1_i32_64 : BitVec 32 := 1#32
  let arg14 : BitVec 32 := Scf.iv c0_i32_62 c1_i32_64 k0_t52
  let v71 : BitVec 32 := Scalar.addi v40 arg14
  let c16_i32_75 : BitVec 32 := 16#32
  let v72 : BitVec 32 := Scalar.muli v71 c16_i32_75
  let v73 : BitVec 32 := v72
  let v74 : Index := Scalar.indexCast v73
  let c0_76 : Index := 0#32
  ![v74.toNat, 0]
def k0_off92 (k0_t51 : Fin k0_t51_loop.trips) (k0_t52 : Fin k0_t52_loop.trips) : Fin 2 → Nat :=
  let c0_i32_51 : BitVec 32 := 0#32
  let c0_i32_43 : BitVec 32 := 0#32
  let c1_i32_45 : BitVec 32 := 1#32
  let arg13 : BitVec 32 := Scf.iv c0_i32_43 c1_i32_45 k0_t51
  let c1_i32_50 : BitVec 32 := 1#32
  let v27 : BitVec 32 := Scalar.muli arg13 c1_i32_50
  let v28 : BitVec 32 := Scalar.addi c0_i32_51 v27
  let c5_i32_77 : BitVec 32 := 5#32
  let v76 : BitVec 32 := Scalar.muli v28 c5_i32_77
  let c0_i32_62 : BitVec 32 := 0#32
  let c1_i32_64 : BitVec 32 := 1#32
  let arg14 : BitVec 32 := Scf.iv c0_i32_62 c1_i32_64 k0_t52
  let v77 : BitVec 32 := Scalar.addi v76 arg14
  let c17_i32 : BitVec 32 := 17#32
  let v78 : BitVec 32 := Scalar.muli v77 c17_i32
  let v79 : Index := Scalar.indexCast v78
  let c0_78 : Index := 0#32
  ![v79.toNat, 0]
def k0_mult48 (k0_t51 : Fin k0_t51_loop.trips) : BitVec 32 :=
  let c0_i32_51 : BitVec 32 := 0#32
  let c0_i32_43 : BitVec 32 := 0#32
  let c1_i32_45 : BitVec 32 := 1#32
  let arg13 : BitVec 32 := Scf.iv c0_i32_43 c1_i32_45 k0_t51
  let c1_i32_50 : BitVec 32 := 1#32
  let v27 : BitVec 32 := Scalar.muli arg13 c1_i32_50
  let v28 : BitVec 32 := Scalar.addi c0_i32_51 v27
  let c47_i32 : BitVec 32 := 47#32
  let v45 : BitVec 32 := Scalar.subi c47_i32 v28
  let v46 : BitVec 32 := Scalar.muli v28 v45
  let c0_i32_66 : BitVec 32 := 0#32
  let v48 : BitVec 1 := Scalar.cmpi .sgt v46 c0_i32_66
  let v49 : BitVec 32 := Scalar.extui v48
  let c0_i32_67 : BitVec 32 := 0#32
  let v50 : BitVec 1 := Scalar.cmpi .slt v46 c0_i32_67
  let v51 : BitVec 32 := Scalar.extui v50
  let v52 : BitVec 32 := Scalar.subi v49 v51
  let c2_i32 : BitVec 32 := 2#32
  let c0_i32_68 : BitVec 32 := 0#32
  let v53 : BitVec 1 := Scalar.cmpi .sgt c2_i32 c0_i32_68
  let v54 : BitVec 32 := Scalar.extui v53
  let c0_i32_69 : BitVec 32 := 0#32
  let v55 : BitVec 1 := Scalar.cmpi .slt c2_i32 c0_i32_69
  let v56 : BitVec 32 := Scalar.extui v55
  let v57 : BitVec 32 := Scalar.subi v54 v56
  let v58 : BitVec 1 := Scalar.cmpi .ne v52 v57
  let v59 : BitVec 32 := Scalar.remsi v46 c2_i32
  let c0_i32_70 : BitVec 32 := 0#32
  let v60 : BitVec 1 := Scalar.cmpi .ne v59 c0_i32_70
  let v61 : BitVec 1 := Scalar.andi v58 v60
  let v47 : BitVec 32 := Scalar.divsi v46 c2_i32
  let c1_i32_71 : BitVec 32 := 1#32
  let v62 : BitVec 32 := Scalar.subi v47 c1_i32_71
  let v63 : BitVec 32 := Scalar.select v61 v62 v47
  let c23_i32_72 : BitVec 32 := 23#32
  let v64 : BitVec 32 := Scalar.addi v63 c23_i32_72
  let v65 : BitVec 32 := Scalar.subi v64 v28
  let c1_i32_73 : BitVec 32 := 1#32
  let v66 : BitVec 32 := Scalar.subi v65 c1_i32_73
  let c16_i32_74 : BitVec 32 := 16#32
  let v67 : BitVec 32 := Scalar.muli v66 c16_i32_74
  v67
def k0_off93 (k0_t51 : Fin k0_t51_loop.trips) : Fin 2 → Nat :=
  let c0_i32_51 : BitVec 32 := 0#32
  let c0_i32_43 : BitVec 32 := 0#32
  let c1_i32_45 : BitVec 32 := 1#32
  let arg13 : BitVec 32 := Scf.iv c0_i32_43 c1_i32_45 k0_t51
  let c1_i32_50 : BitVec 32 := 1#32
  let v27 : BitVec 32 := Scalar.muli arg13 c1_i32_50
  let v28 : BitVec 32 := Scalar.addi c0_i32_51 v27
  let c47_i32 : BitVec 32 := 47#32
  let v45 : BitVec 32 := Scalar.subi c47_i32 v28
  let v46 : BitVec 32 := Scalar.muli v28 v45
  let c0_i32_66 : BitVec 32 := 0#32
  let v48 : BitVec 1 := Scalar.cmpi .sgt v46 c0_i32_66
  let v49 : BitVec 32 := Scalar.extui v48
  let c0_i32_67 : BitVec 32 := 0#32
  let v50 : BitVec 1 := Scalar.cmpi .slt v46 c0_i32_67
  let v51 : BitVec 32 := Scalar.extui v50
  let v52 : BitVec 32 := Scalar.subi v49 v51
  let c2_i32 : BitVec 32 := 2#32
  let c0_i32_68 : BitVec 32 := 0#32
  let v53 : BitVec 1 := Scalar.cmpi .sgt c2_i32 c0_i32_68
  let v54 : BitVec 32 := Scalar.extui v53
  let c0_i32_69 : BitVec 32 := 0#32
  let v55 : BitVec 1 := Scalar.cmpi .slt c2_i32 c0_i32_69
  let v56 : BitVec 32 := Scalar.extui v55
  let v57 : BitVec 32 := Scalar.subi v54 v56
  let v58 : BitVec 1 := Scalar.cmpi .ne v52 v57
  let v59 : BitVec 32 := Scalar.remsi v46 c2_i32
  let c0_i32_70 : BitVec 32 := 0#32
  let v60 : BitVec 1 := Scalar.cmpi .ne v59 c0_i32_70
  let v61 : BitVec 1 := Scalar.andi v58 v60
  let v47 : BitVec 32 := Scalar.divsi v46 c2_i32
  let c1_i32_71 : BitVec 32 := 1#32
  let v62 : BitVec 32 := Scalar.subi v47 c1_i32_71
  let v63 : BitVec 32 := Scalar.select v61 v62 v47
  let c23_i32_72 : BitVec 32 := 23#32
  let v64 : BitVec 32 := Scalar.addi v63 c23_i32_72
  let v65 : BitVec 32 := Scalar.subi v64 v28
  let c1_i32_73 : BitVec 32 := 1#32
  let v66 : BitVec 32 := Scalar.subi v65 c1_i32_73
  let c16_i32_74 : BitVec 32 := 16#32
  let v67 : BitVec 32 := Scalar.muli v66 c16_i32_74
  let v68 : BitVec 32 := v67
  let v69 : Index := Scalar.indexCast v68
  let c0 : Index := 0#32
  ![v69.toNat, 0]
abbrev stage0_0 : Fin 1 → Memref sig .tc .vmem S8x24x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4416x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== DotsRefIdeal.lean ====
abbrev S8x256x24 : Shape := ⟨3, ![8, 256, 24]⟩
abbrev S720000x480 : Shape := ⟨2, ![720000, 480]⟩
abbrev S276 : Shape := ⟨1, ![276]⟩
abbrev S_ : Shape := ⟨0, ![]⟩
abbrev S8x256x24x1 : Shape := ⟨4, ![8, 256, 24, 1]⟩
abbrev S8x256x24x480 : Shape := ⟨4, ![8, 256, 24, 480]⟩
abbrev S8x256x24x24x20 : Shape := ⟨5, ![8, 256, 24, 24, 20]⟩
abbrev S276x1 : Shape := ⟨2, ![276, 1]⟩
abbrev S276x2 : Shape := ⟨2, ![276, 2]⟩
abbrev S8x256x276x20 : Shape := ⟨4, ![8, 256, 276, 20]⟩
abbrev S8x256x276 : Shape := ⟨3, ![8, 256, 276]⟩
abbrev S8x2x128x276 : Shape := ⟨4, ![8, 2, 128, 276]⟩
abbrev S276x2x8x128 : Shape := ⟨4, ![276, 2, 8, 128]⟩
abbrev S4416x128 : Shape := ⟨2, ![4416, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x256x24, .i32⟩
  | .hbm, ⟨1, _⟩ => ⟨S720000x480, .i8⟩
  | .hbm, ⟨2, _⟩ => ⟨S276, .i32⟩
  | .hbm, ⟨3, _⟩ => ⟨S276, .i1⟩
  | .hbm, ⟨4, _⟩ => ⟨S276, .i32⟩
  | .hbm, ⟨5, _⟩ => ⟨S276, .i1⟩
  | .hbm, ⟨6, _⟩ => ⟨S276, .i1⟩
  | .hbm, ⟨7, _⟩ => ⟨S276, .i1⟩
  | .hbm, ⟨8, _⟩ => ⟨S_, .i32⟩
  | .hbm, ⟨9, _⟩ => ⟨S8x256x24, .i32⟩
  | .hbm, ⟨10, _⟩ => ⟨S8x256x24, .i1⟩
  | .hbm, ⟨11, _⟩ => ⟨S_, .i32⟩
  | .hbm, ⟨12, _⟩ => ⟨S8x256x24, .i32⟩
  | .hbm, ⟨13, _⟩ => ⟨S8x256x24, .i32⟩
  | .hbm, ⟨14, _⟩ => ⟨S8x256x24, .i32⟩
  | .hbm, ⟨15, _⟩ => ⟨S8x256x24x1, .i32⟩
  | .hbm, ⟨16, _⟩ => ⟨S8x256x24x480, .i8⟩
  | .hbm, ⟨17, _⟩ => ⟨S8x256x24x24x20, .i8⟩
  | .hbm, ⟨18, _⟩ => ⟨S_, .i32⟩
  | .hbm, ⟨19, _⟩ => ⟨S276, .i32⟩
  | .hbm, ⟨20, _⟩ => ⟨S276, .i32⟩
  | .hbm, ⟨21, _⟩ => ⟨S276, .i32⟩
  | .hbm, ⟨22, _⟩ => ⟨S_, .i32⟩
  | .hbm, ⟨23, _⟩ => ⟨S276, .i32⟩
  | .hbm, ⟨24, _⟩ => ⟨S276, .i32⟩
  | .hbm, ⟨25, _⟩ => ⟨S276, .i32⟩
  | .hbm, ⟨26, _⟩ => ⟨S276x1, .i32⟩
  | .hbm, ⟨27, _⟩ => ⟨S276x1, .i32⟩
  | .hbm, ⟨28, _⟩ => ⟨S276x2, .i32⟩
  | .hbm, ⟨29, _⟩ => ⟨S8x256x276x20, .i8⟩
  | .hbm, ⟨30, _⟩ => ⟨S8x256x276x20, .i32⟩
  | .hbm, ⟨31, _⟩ => ⟨S8x256x276x20, .bf16⟩
  | .hbm, ⟨32, _⟩ => ⟨S_, .i32⟩
  | .hbm, ⟨33, _⟩ => ⟨S276, .i32⟩
  | .hbm, ⟨34, _⟩ => ⟨S276, .i32⟩
  | .hbm, ⟨35, _⟩ => ⟨S276, .i32⟩
  | .hbm, ⟨36, _⟩ => ⟨S_, .i32⟩
  | .hbm, ⟨37, _⟩ => ⟨S276, .i32⟩
  | .hbm, ⟨38, _⟩ => ⟨S276, .i32⟩
  | .hbm, ⟨39, _⟩ => ⟨S276, .i32⟩
  | .hbm, ⟨40, _⟩ => ⟨S276x1, .i32⟩
  | .hbm, ⟨41, _⟩ => ⟨S276x1, .i32⟩
  | .hbm, ⟨42, _⟩ => ⟨S276x2, .i32⟩
  | .hbm, ⟨43, _⟩ => ⟨S8x256x276x20, .i8⟩
  | .hbm, ⟨44, _⟩ => ⟨S8x256x276x20, .i32⟩
  | .hbm, ⟨45, _⟩ => ⟨S8x256x276x20, .bf16⟩
  | .hbm, ⟨46, _⟩ => ⟨S8x256x276, .f32⟩
  | .hbm, ⟨47, _⟩ => ⟨S8x2x128x276, .f32⟩
  | .hbm, ⟨48, _⟩ => ⟨S276x2x8x128, .f32⟩
  | .hbm, ⟨49, _⟩ => ⟨S4416x128, .f32⟩
  | _, _ => ⟨S8x256x24, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_c_5 : Ref sig .tc := ⟨.hbm, 8, rfl⟩
abbrev main_v0 : Ref sig .tc := ⟨.hbm, 9, rfl⟩
abbrev main_v1 : Ref sig .tc := ⟨.hbm, 10, rfl⟩
abbrev main_c_6 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_8 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_9 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_10 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Combine.lean ====
abbrev S1 : Shape := ⟨1, ![1]⟩
abbrev S276x8x256 : Shape := ⟨3, ![276, 8, 256]⟩
abbrev S576x8x256 : Shape := ⟨3, ![576, 8, 256]⟩
abbrev S8x256 : Shape := ⟨2, ![8, 256]⟩
abbrev S1x8x256 : Shape := ⟨3, ![1, 8, 256]⟩

abbrev nBuf : Space → Nat
  | .hbm => 5
  | .vmem => 5
  | .smem => 1
  | _ => 0

abbrev bufTy : (tb : Table) → Fin (tcTables nBuf tb) → BufTy
  | .hbm, ⟨0, _⟩ => ⟨S1, .f32⟩
  | .hbm, ⟨1, _⟩ => ⟨S276x8x256, .f32⟩
  | .hbm, ⟨2, _⟩ => ⟨S576x8x256, .f32⟩
  | .hbm, ⟨3, _⟩ => ⟨S8x256, .f32⟩
  | .hbm, ⟨4, _⟩ => ⟨S276x8x256, .f32⟩
  | .local _ .vmem, ⟨0, _⟩ => ⟨S276x8x256, .f32⟩
  | .local _ .vmem, ⟨1, _⟩ => ⟨S576x8x256, .f32⟩
  | .local _ .vmem, ⟨2, _⟩ => ⟨S8x256, .f32⟩
  | .local _ .vmem, ⟨3, _⟩ => ⟨S276x8x256, .f32⟩
  | .local _ .vmem, ⟨4, _⟩ => ⟨S8x256, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c24_i32 : BitVec 32 := 24#32
  let v172 : BitVec 32 := Scalar.addi c0_i32 c24_i32
  let c1_i32 : BitVec 32 := 1#32
  ⟨c0_i32, v172, c1_i32⟩
@[reducible] def k0_t2_loop (k0_t1 : Fin k0_t1_loop.trips) : Scf.Loop 32 :=
  let c0_i32_160 : BitVec 32 := 0#32
  let c24_i32_155 : BitVec 32 := 24#32
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c1_i32_154 : BitVec 32 := 1#32
  let v180 : BitVec 32 := Scalar.addi v179 c1_i32_154
  let v181 : BitVec 32 := Scalar.subi c24_i32_155 v180
  let c1_i32_156 : BitVec 32 := 1#32
  let c1_i32_157 : BitVec 32 := 1#32
  let v182 : BitVec 32 := Scalar.subi c1_i32_156 c1_i32_157
  let v183 : BitVec 32 := Scalar.addi v181 v182
  let c1_i32_158 : BitVec 32 := 1#32
  let v184 : BitVec 32 := Scalar.divsi v183 c1_i32_158
  let v185 : BitVec 32 := Scalar.subi v184 c0_i32_160
  let c1_i32_161 : BitVec 32 := 1#32
  let v187 : BitVec 32 := Scalar.divsi v185 c1_i32_161
  let v188 : BitVec 32 := Scalar.muli v187 c1_i32_161
  let v189 : BitVec 32 := Scalar.addi c0_i32_160 v188
  let c1_i32_162 : BitVec 32 := 1#32
  ⟨c0_i32_160, v189, c1_i32_162⟩
def k0_off1 (k0_t1 : Fin k0_t1_loop.trips) (k0_t2 : Fin (k0_t2_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c47_i32 : BitVec 32 := 47#32
  let v192 : BitVec 32 := Scalar.subi c47_i32 v179
  let v193 : BitVec 32 := Scalar.muli v179 v192
  let c0_i32_164 : BitVec 32 := 0#32
  let v195 : BitVec 1 := Scalar.cmpi .sgt v193 c0_i32_164
  let v196 : BitVec 32 := Scalar.extui v195
  let c0_i32_165 : BitVec 32 := 0#32
  let v197 : BitVec 1 := Scalar.cmpi .slt v193 c0_i32_165
  let v198 : BitVec 32 := Scalar.extui v197
  let v199 : BitVec 32 := Scalar.subi v196 v198
  let c2_i32 : BitVec 32 := 2#32
  let c0_i32_166 : BitVec 32 := 0#32
  let v200 : BitVec 1 := Scalar.cmpi .sgt c2_i32 c0_i32_166
  let v201 : BitVec 32 := Scalar.extui v200
  let c0_i32_167 : BitVec 32 := 0#32
  let v202 : BitVec 1 := Scalar.cmpi .slt c2_i32 c0_i32_167
  let v203 : BitVec 32 := Scalar.extui v202
  let v204 : BitVec 32 := Scalar.subi v201 v203
  let v205 : BitVec 1 := Scalar.cmpi .ne v199 v204
  let v206 : BitVec 32 := Scalar.remsi v193 c2_i32
  let c0_i32_168 : BitVec 32 := 0#32
  let v207 : BitVec 1 := Scalar.cmpi .ne v206 c0_i32_168
  let v208 : BitVec 1 := Scalar.andi v205 v207
  let v194 : BitVec 32 := Scalar.divsi v193 c2_i32
  let c1_i32_169 : BitVec 32 := 1#32
  let v209 : BitVec 32 := Scalar.subi v194 c1_i32_169
  let v210 : BitVec 32 := Scalar.select v208 v209 v194
  let c1_i32_154 : BitVec 32 := 1#32
  let v180 : BitVec 32 := Scalar.addi v179 c1_i32_154
  let c0_i32_160 : BitVec 32 := 0#32
  let c1_i32_162 : BitVec 32 := 1#32
  let arg7 : BitVec 32 := Scf.iv c0_i32_160 c1_i32_162 k0_t2
  let c1_i32_159 : BitVec 32 := 1#32
  let v190 : BitVec 32 := Scalar.muli arg7 c1_i32_159
  let v191 : BitVec 32 := Scalar.addi v180 v190
  let v211 : BitVec 32 := Scalar.addi v210 v191
  let v212 : BitVec 32 := Scalar.subi v211 v179
  let c1_i32_170 : BitVec 32 := 1#32
  let v213 : BitVec 32 := Scalar.subi v212 c1_i32_170
  let v214 : Index := Scalar.indexCast v213
  let c0_171 : Index := 0#32
  let c0_172 : Index := 0#32
  ![v214.toNat, 0, 0]
def k0_off2 (k0_t1 : Fin k0_t1_loop.trips) (k0_t2 : Fin (k0_t2_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c24_i32_173 : BitVec 32 := 24#32
  let v217 : BitVec 32 := Scalar.muli v179 c24_i32_173
  let c1_i32_154 : BitVec 32 := 1#32
  let v180 : BitVec 32 := Scalar.addi v179 c1_i32_154
  let c0_i32_160 : BitVec 32 := 0#32
  let c1_i32_162 : BitVec 32 := 1#32
  let arg7 : BitVec 32 := Scf.iv c0_i32_160 c1_i32_162 k0_t2
  let c1_i32_159 : BitVec 32 := 1#32
  let v190 : BitVec 32 := Scalar.muli arg7 c1_i32_159
  let v191 : BitVec 32 := Scalar.addi v180 v190
  let v218 : BitVec 32 := Scalar.addi v217 v191
  let v219 : Index := Scalar.indexCast v218
  let c0_174 : Index := 0#32
  let c0_175 : Index := 0#32
  ![v219.toNat, 0, 0]
def k0_off3 (k0_t1 : Fin k0_t1_loop.trips) (k0_t2 : Fin (k0_t2_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c1_i32_154 : BitVec 32 := 1#32
  let v180 : BitVec 32 := Scalar.addi v179 c1_i32_154
  let c0_i32_160 : BitVec 32 := 0#32
  let c1_i32_162 : BitVec 32 := 1#32
  let arg7 : BitVec 32 := Scf.iv c0_i32_160 c1_i32_162 k0_t2
  let c1_i32_159 : BitVec 32 := 1#32
  let v190 : BitVec 32 := Scalar.muli arg7 c1_i32_159
  let v191 : BitVec 32 := Scalar.addi v180 v190
  let c24_i32_176 : BitVec 32 := 24#32
  let v223 : BitVec 32 := Scalar.muli v191 c24_i32_176
  let v224 : BitVec 32 := Scalar.addi v223 v179
  let v225 : Index := Scalar.indexCast v224
  let c0_177 : Index := 0#32
  let c0_178 : Index := 0#32
  ![v225.toNat, 0, 0]
@[reducible] def k0_t3_loop (k0_t1 : Fin k0_t1_loop.trips) : Scf.Loop 32 :=
  let c0_i32_160 : BitVec 32 := 0#32
  let c24_i32_155 : BitVec 32 := 24#32
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c1_i32_154 : BitVec 32 := 1#32
  let v180 : BitVec 32 := Scalar.addi v179 c1_i32_154
  let v181 : BitVec 32 := Scalar.subi c24_i32_155 v180
  let c1_i32_156 : BitVec 32 := 1#32
  let c1_i32_157 : BitVec 32 := 1#32
  let v182 : BitVec 32 := Scalar.subi c1_i32_156 c1_i32_157
  let v183 : BitVec 32 := Scalar.addi v181 v182
  let c1_i32_158 : BitVec 32 := 1#32
  let v184 : BitVec 32 := Scalar.divsi v183 c1_i32_158
  let v185 : BitVec 32 := Scalar.subi v184 c0_i32_160
  let c1_i32_161 : BitVec 32 := 1#32
  let v187 : BitVec 32 := Scalar.divsi v185 c1_i32_161
  let v188 : BitVec 32 := Scalar.muli v187 c1_i32_161
  let v189 : BitVec 32 := Scalar.addi c0_i32_160 v188
  let v186 : BitVec 32 := Scalar.addi c0_i32_160 v185
  let c1_i32_163 : BitVec 32 := 1#32
  ⟨v189, v186, c1_i32_163⟩
def k0_off4 (k0_t1 : Fin k0_t1_loop.trips) (k0_t3 : Fin (k0_t3_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c47_i32 : BitVec 32 := 47#32
  let v192 : BitVec 32 := Scalar.subi c47_i32 v179
  let v193 : BitVec 32 := Scalar.muli v179 v192
  let c0_i32_164 : BitVec 32 := 0#32
  let v195 : BitVec 1 := Scalar.cmpi .sgt v193 c0_i32_164
  let v196 : BitVec 32 := Scalar.extui v195
  let c0_i32_165 : BitVec 32 := 0#32
  let v197 : BitVec 1 := Scalar.cmpi .slt v193 c0_i32_165
  let v198 : BitVec 32 := Scalar.extui v197
  let v199 : BitVec 32 := Scalar.subi v196 v198
  let c2_i32 : BitVec 32 := 2#32
  let c0_i32_166 : BitVec 32 := 0#32
  let v200 : BitVec 1 := Scalar.cmpi .sgt c2_i32 c0_i32_166
  let v201 : BitVec 32 := Scalar.extui v200
  let c0_i32_167 : BitVec 32 := 0#32
  let v202 : BitVec 1 := Scalar.cmpi .slt c2_i32 c0_i32_167
  let v203 : BitVec 32 := Scalar.extui v202
  let v204 : BitVec 32 := Scalar.subi v201 v203
  let v205 : BitVec 1 := Scalar.cmpi .ne v199 v204
  let v206 : BitVec 32 := Scalar.remsi v193 c2_i32
  let c0_i32_168 : BitVec 32 := 0#32
  let v207 : BitVec 1 := Scalar.cmpi .ne v206 c0_i32_168
  let v208 : BitVec 1 := Scalar.andi v205 v207
  let v194 : BitVec 32 := Scalar.divsi v193 c2_i32
  let c1_i32_169 : BitVec 32 := 1#32
  let v209 : BitVec 32 := Scalar.subi v194 c1_i32_169
  let v210 : BitVec 32 := Scalar.select v208 v209 v194
  let c1_i32_154 : BitVec 32 := 1#32
  let v180 : BitVec 32 := Scalar.addi v179 c1_i32_154
  let c0_i32_160 : BitVec 32 := 0#32
  let c24_i32_155 : BitVec 32 := 24#32
  let v181 : BitVec 32 := Scalar.subi c24_i32_155 v180
  let c1_i32_156 : BitVec 32 := 1#32
  let c1_i32_157 : BitVec 32 := 1#32
  let v182 : BitVec 32 := Scalar.subi c1_i32_156 c1_i32_157
  let v183 : BitVec 32 := Scalar.addi v181 v182
  let c1_i32_158 : BitVec 32 := 1#32
  let v184 : BitVec 32 := Scalar.divsi v183 c1_i32_158
  let v185 : BitVec 32 := Scalar.subi v184 c0_i32_160
  let c1_i32_161 : BitVec 32 := 1#32
  let v187 : BitVec 32 := Scalar.divsi v185 c1_i32_161
  let v188 : BitVec 32 := Scalar.muli v187 c1_i32_161
  let v189 : BitVec 32 := Scalar.addi c0_i32_160 v188
  let c1_i32_163 : BitVec 32 := 1#32
  let arg7 : BitVec 32 := Scf.iv v189 c1_i32_163 k0_t3
  let c1_i32_159 : BitVec 32 := 1#32
  let v190 : BitVec 32 := Scalar.muli arg7 c1_i32_159
  let v191 : BitVec 32 := Scalar.addi v180 v190
  let v211 : BitVec 32 := Scalar.addi v210 v191
  let v212 : BitVec 32 := Scalar.subi v211 v179
  let c1_i32_170 : BitVec 32 := 1#32
  let v213 : BitVec 32 := Scalar.subi v212 c1_i32_170
  let v214 : Index := Scalar.indexCast v213
  let c0_171 : Index := 0#32
  let c0_172 : Index := 0#32
  ![v214.toNat, 0, 0]
def k0_off5 (k0_t1 : Fin k0_t1_loop.trips) (k0_t3 : Fin (k0_t3_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c24_i32_173 : BitVec 32 := 24#32
  let v217 : BitVec 32 := Scalar.muli v179 c24_i32_173
  let c1_i32_154 : BitVec 32 := 1#32
  let v180 : BitVec 32 := Scalar.addi v179 c1_i32_154
  let c0_i32_160 : BitVec 32 := 0#32
  let c24_i32_155 : BitVec 32 := 24#32
  let v181 : BitVec 32 := Scalar.subi c24_i32_155 v180
  let c1_i32_156 : BitVec 32 := 1#32
  let c1_i32_157 : BitVec 32 := 1#32
  let v182 : BitVec 32 := Scalar.subi c1_i32_156 c1_i32_157
  let v183 : BitVec 32 := Scalar.addi v181 v182
  let c1_i32_158 : BitVec 32 := 1#32
  let v184 : BitVec 32 := Scalar.divsi v183 c1_i32_158
  let v185 : BitVec 32 := Scalar.subi v184 c0_i32_160
  let c1_i32_161 : BitVec 32 := 1#32
  let v187 : BitVec 32 := Scalar.divsi v185 c1_i32_161
  let v188 : BitVec 32 := Scalar.muli v187 c1_i32_161
  let v189 : BitVec 32 := Scalar.addi c0_i32_160 v188
  let c1_i32_163 : BitVec 32 := 1#32
  let arg7 : BitVec 32 := Scf.iv v189 c1_i32_163 k0_t3
  let c1_i32_159 : BitVec 32 := 1#32
  let v190 : BitVec 32 := Scalar.muli arg7 c1_i32_159
  let v191 : BitVec 32 := Scalar.addi v180 v190
  let v218 : BitVec 32 := Scalar.addi v217 v191
  let v219 : Index := Scalar.indexCast v218
  let c0_174 : Index := 0#32
  let c0_175 : Index := 0#32
  ![v219.toNat, 0, 0]
def k0_off6 (k0_t1 : Fin k0_t1_loop.trips) (k0_t3 : Fin (k0_t3_loop k0_t1).trips) : Fin 3 → Nat :=
  let c0_i32_153 : BitVec 32 := 0#32
  let c0_i32 : BitVec 32 := 0#32
  let c1_i32 : BitVec 32 := 1#32
  let arg6 : BitVec 32 := Scf.iv c0_i32 c1_i32 k0_t1
  let c1_i32_152 : BitVec 32 := 1#32
  let v178 : BitVec 32 := Scalar.muli arg6 c1_i32_152
  let v179 : BitVec 32 := Scalar.addi c0_i32_153 v178
  let c1_i32_154 : BitVec 32 := 1#32
  let v180 : BitVec 32 := Scalar.addi v179 c1_i32_154
  let c0_i32_160 : BitVec 32 := 0#32
  let c24_i32_155 : BitVec 32 := 24#32
  let v181 : BitVec 32 := Scalar.subi c24_i32_155 v180
  let c1_i32_156 : BitVec 32 := 1#32
  let c1_i32_157 : BitVec 32 := 1#32
  let v182 : BitVec 32 := Scalar.subi c1_i32_156 c1_i32_157
  let v183 : BitVec 32 := Scalar.addi v181 v182
  let c1_i32_158 : BitVec 32 := 1#32
  let v184 : BitVec 32 := Scalar.divsi v183 c1_i32_158
  let v185 : BitVec 32 := Scalar.subi v184 c0_i32_160
  let c1_i32_161 : BitVec 32 := 1#32
  let v187 : BitVec 32 := Scalar.divsi v185 c1_i32_161
  let v188 : BitVec 32 := Scalar.muli v187 c1_i32_161
  let v189 : BitVec 32 := Scalar.addi c0_i32_160 v188
  let c1_i32_163 : BitVec 32 := 1#32
  let arg7 : BitVec 32 := Scf.iv v189 c1_i32_163 k0_t3
  let c1_i32_159 : BitVec 32 := 1#32
  let v190 : BitVec 32 := Scalar.muli arg7 c1_i32_159
  let v191 : BitVec 32 := Scalar.addi v180 v190
  let c24_i32_176 : BitVec 32 := 24#32
  let v223 : BitVec 32 := Scalar.muli v191 c24_i32_176
  let v224 : BitVec 32 := Scalar.addi v223 v179
  let v225 : Index := Scalar.indexCast v224
  let c0_177 : Index := 0#32
  let c0_178 : Index := 0#32
  ![v225.toNat, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S276x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S576x8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S276x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== CombineRefIdeal.lean ====
abbrev S1 : Shape := ⟨1, ![1]⟩
abbrev S276x8x256 : Shape := ⟨3, ![276, 8, 256]⟩
abbrev S576x8x256 : Shape := ⟨3, ![576, 8, 256]⟩
abbrev S276 : Shape := ⟨1, ![276]⟩
abbrev S24 : Shape := ⟨1, ![24]⟩
abbrev S24x24x8x256 : Shape := ⟨4, ![24, 24, 8, 256]⟩
abbrev S_ : Shape := ⟨0, ![]⟩
abbrev S276x1 : Shape := ⟨2, ![276, 1]⟩
abbrev S276x2 : Shape := ⟨2, ![276, 2]⟩
abbrev S24x1 : Shape := ⟨2, ![24, 1]⟩
abbrev S24x2 : Shape := ⟨2, ![24, 2]⟩
abbrev S24x8x256 : Shape := ⟨3, ![24, 8, 256]⟩
abbrev S8x256 : Shape := ⟨2, ![8, 256]⟩

abbrev nBuf : Space → Nat
  | .hbm => 59
  | .vmem => 0
  | .smem => 0
  | _ => 0

abbrev bufTy : (tb : Table) → Fin (tcTables nBuf tb) → BufTy
  | .hbm, ⟨0, _⟩ => ⟨S1, .f32⟩
  | .hbm, ⟨1, _⟩ => ⟨S276x8x256, .f32⟩
  | .hbm, ⟨2, _⟩ => ⟨S576x8x256, .f32⟩
  | .hbm, ⟨3, _⟩ => ⟨S276, .i32⟩
  | .hbm, ⟨4, _⟩ => ⟨S276, .i1⟩
  | .hbm, ⟨5, _⟩ => ⟨S276, .i32⟩
  | .hbm, ⟨6, _⟩ => ⟨S276, .i1⟩
  | .hbm, ⟨7, _⟩ => ⟨S276, .i1⟩
  | .hbm, ⟨8, _⟩ => ⟨S276, .i1⟩
  | .hbm, ⟨9, _⟩ => ⟨S24, .i32⟩
  | .hbm, ⟨10, _⟩ => ⟨S24, .i1⟩
  | .hbm, ⟨11, _⟩ => ⟨S24, .i1⟩
  | .hbm, ⟨12, _⟩ => ⟨S24x24x8x256, .f32⟩
  | .hbm, ⟨13, _⟩ => ⟨S_, .i32⟩
  | .hbm, ⟨14, _⟩ => ⟨S276, .i32⟩
  | .hbm, ⟨15, _⟩ => ⟨S276, .i32⟩
  | .hbm, ⟨16, _⟩ => ⟨S276, .i32⟩
  | .hbm, ⟨17, _⟩ => ⟨S_, .i32⟩
  | .hbm, ⟨18, _⟩ => ⟨S276, .i32⟩
  | .hbm, ⟨19, _⟩ => ⟨S276, .i32⟩
  | .hbm, ⟨20, _⟩ => ⟨S276, .i32⟩
  | .hbm, ⟨21, _⟩ => ⟨S276x1, .i32⟩
  | .hbm, ⟨22, _⟩ => ⟨S276x1, .i32⟩
  | .hbm, ⟨23, _⟩ => ⟨S276x2, .i32⟩
  | .hbm, ⟨24, _⟩ => ⟨S276x8x256, .f32⟩
  | .hbm, ⟨25, _⟩ => ⟨S276x8x256, .f32⟩
  | .hbm, ⟨26, _⟩ => ⟨S_, .i32⟩
  | .hbm, ⟨27, _⟩ => ⟨S276, .i32⟩
  | .hbm, ⟨28, _⟩ => ⟨S276, .i32⟩
  | .hbm, ⟨29, _⟩ => ⟨S276, .i32⟩
  | .hbm, ⟨30, _⟩ => ⟨S_, .i32⟩
  | .hbm, ⟨31, _⟩ => ⟨S276, .i32⟩
  | .hbm, ⟨32, _⟩ => ⟨S276, .i32⟩
  | .hbm, ⟨33, _⟩ => ⟨S276, .i32⟩
  | .hbm, ⟨34, _⟩ => ⟨S276x1, .i32⟩
  | .hbm, ⟨35, _⟩ => ⟨S276x1, .i32⟩
  | .hbm, ⟨36, _⟩ => ⟨S276x2, .i32⟩
  | .hbm, ⟨37, _⟩ => ⟨S276x8x256, .f32⟩
  | .hbm, ⟨38, _⟩ => ⟨S276x8x256, .f32⟩
  | .hbm, ⟨39, _⟩ => ⟨S_, .i32⟩
  | .hbm, ⟨40, _⟩ => ⟨S24, .i32⟩
  | .hbm, ⟨41, _⟩ => ⟨S24, .i32⟩
  | .hbm, ⟨42, _⟩ => ⟨S24, .i32⟩
  | .hbm, ⟨43, _⟩ => ⟨S_, .i32⟩
  | .hbm, ⟨44, _⟩ => ⟨S24, .i32⟩
  | .hbm, ⟨45, _⟩ => ⟨S24, .i32⟩
  | .hbm, ⟨46, _⟩ => ⟨S24, .i32⟩
  | .hbm, ⟨47, _⟩ => ⟨S24x1, .i32⟩
  | .hbm, ⟨48, _⟩ => ⟨S24x1, .i32⟩
  | .hbm, ⟨49, _⟩ => ⟨S24x2, .i32⟩
  | .hbm, ⟨50, _⟩ => ⟨S24x8x256, .f32⟩
  | .hbm, ⟨51, _⟩ => ⟨S_, .f32⟩
  | .hbm, ⟨52, _⟩ => ⟨S8x256, .f32⟩
  | .hbm, ⟨53, _⟩ => ⟨S_, .f32⟩
  | .hbm, ⟨54, _⟩ => ⟨S8x256, .f32⟩
  | .hbm, ⟨55, _⟩ => ⟨S8x256, .f32⟩
  | .hbm, ⟨56, _⟩ => ⟨S_, .f32⟩
  | .hbm, ⟨57, _⟩ => ⟨S8x256, .f32⟩
  | .hbm, ⟨58, _⟩ => ⟨S8x256, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_c_5 : Ref sig .tc := ⟨.hbm, 9, rfl⟩
abbrev main_c_6 : Ref sig .tc := ⟨.hbm, 10, rfl⟩
abbrev main_c_7 : Ref sig .tc := ⟨.hbm, 11, rfl⟩
abbrev main_v0 : Ref sig .tc := ⟨.hbm, 12, rfl⟩
abbrev main_c_8 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_9 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_10 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_11 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_12 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_13 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_14 : Ref sig .tc := ⟨.hbm, 56, rfl⟩
abbrev main_v37 : Ref sig .tc := ⟨.hbm, 57, rfl⟩
abbrev main_v38 : Ref sig .tc := ⟨.hbm, 58, rfl⟩

abbrev nD : Nat := 1
abbrev τ : Topo := Topo.v7x

variable {F : FTy → Type} [FloatOps F]
-- ==== Proof.CombineKernel.lean ====
module

public import proofs.«01_k».proof.Proof.Gen.Combine.Frame
public import proofs.«01_k».proof.Proof.Gen.Combine.Skeleton
public import Idealize.ShloMosaic.Lib.VecWindow
public import Idealize.ShloMosaic.Lib.WritesUnit
public import Idealize.ShloMosaic.Lib.Pointwise
public import Idealize.ShloMosaic.Lib.ValueLayout
public import Idealize.ShloMosaic.Lib.Exec

@[expose] public section

set_option maxRecDepth 16384

noncomputable section

namespace Cert.Proof.Combine

open Cert.Combine Cert.Combine.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the combine call computes, row by row -/

/-- Number of pairs `(a, b)`, `a < b < 24`, whose first field is below `f`. -/
def base (f : ℕ) : ℕ := 23 * f - f * (f - 1) / 2

/-- The first field of pair number `p`: how many fields `f ≥ 1` have their first pair at or before `p`. -/
def fstOf (p : ℕ) : ℕ := ((List.range 23).filter fun f => base (f + 1) ≤ p).length

/-- The second field of pair number `p`. -/
def sndOf (p : ℕ) : ℕ := fstOf p + 1 + (p - base (fstOf p))

/-- Row `p` of the dot products. -/
def dotRow (X : S276x8x256.Idx → Elt F .f32) (p : ℕ) : FVec F S8x256 .f32 :=
  fun j => X (ValueIdx.ix3 (⟨p % 276, Nat.mod_lt _ (by decide)⟩ : Fin 276) (j 0) (j 1))

/-- Row `r` of the scaled rows. -/
def scaRow (X : S576x8x256.Idx → Elt F .f32) (r : ℕ) : FVec F S8x256 .f32 :=
  fun j => X (ValueIdx.ix3 (⟨r % 576, Nat.mod_lt _ (by decide)⟩ : Fin 576) (j 0) (j 1))

/-- Pair `p`'s interaction: its dot product times the two fields' scaled factors. -/
def pairRow (X1 : S276x8x256.Idx → Elt F .f32) (X2 : S576x8x256.Idx → Elt F .f32) (p : ℕ) : FVec F S8x256 .f32 :=
  mulf (mulf (dotRow X1 p) (scaRow X2 (24 * fstOf p + sndOf p))) (scaRow X2 (24 * sndOf p + fstOf p))

/-- The sum of the first `n` fields' linear terms (the diagonal rows), in the kernel's order. -/
def linSum (X2 : S576x8x256.Idx → Elt F .f32) : ℕ → FVec F S8x256 .f32
  | 0 => broadcast S8x256 (Scalar.ofBits .f32 0x00000000#32)
  | n + 1 => addf (linSum X2 n) (scaRow X2 (25 * n))

/-- All linear terms and the interactions of the first `n` pairs, in the kernel's order. -/
def total (X1 : S276x8x256.Idx → Elt F .f32) (X2 : S576x8x256.Idx → Elt F .f32) : ℕ → FVec F S8x256 .f32
  | 0 => linSum X2 24
  | n + 1 => addf (total X1 X2 n) (pairRow X1 X2 n)

/-- The first `n` rows of the pair array are the first `n` interactions. -/
def PairsTo (X1 : S276x8x256.Idx → Elt F .f32) (X2 : S576x8x256.Idx → Elt F .f32) (n : ℕ) (Y : S276x8x256.Idx → Elt F .f32) : Prop :=
  ∀ p, p < n → p < 276 → dotRow Y p = pairRow X1 X2 p

/-- A one-row window of the dot products, its unit axis dropped, is that row. -/
theorem cast_dot (X : S276x8x256.Idx → Elt F .f32) (r : ℕ) (hr : r < 276) (inb) (h) :
    shapeCast S8x256 (VecWindow.window X ![r, 0, 0] S1x8x256.size inb) h = dotRow X r := by
  funext j
  unfold dotRow
  rw [ValueIdx.eq_ix2 j]
  refine (ValueIdx.shapeCast_1ab_ab_apply _ h (j 0) (j 1)).trans ?_
  unfold VecWindow.window
  refine congrArg X (funext fun a => Fin.ext ?_)
  match a with
  | ⟨0, _⟩ => show r + 1 * 0 = r % _; rw [Nat.mod_eq_of_lt hr]; omega
  | ⟨1, _⟩ => show 0 + 1 * (j 0).val = (j 0).val; omega
  | ⟨2, _⟩ => show 0 + 1 * (j 1).val = (j 1).val; omega

/-- A one-row window of the scaled rows, its unit axis dropped, is that row. -/
theorem cast_sca (X : S576x8x256.Idx → Elt F .f32) (r : ℕ) (hr : r < 576) (inb) (h) :
    shapeCast S8x256 (VecWindow.window X ![r, 0, 0] S1x8x256.size inb) h = scaRow X r := by
  funext j
  unfold scaRow
  rw [ValueIdx.eq_ix2 j]
  refine (ValueIdx.shapeCast_1ab_ab_apply _ h (j 0) (j 1)).trans ?_
  unfold VecWindow.window
  refine congrArg X (funext fun a => Fin.ext ?_)
  match a with
  | ⟨0, _⟩ => show r + 1 * 0 = r % _; rw [Nat.mod_eq_of_lt hr]; omega
  | ⟨1, _⟩ => show 0 + 1 * (j 0).val = (j 0).val; omega
  | ⟨2, _⟩ => show 0 + 1 * (j 1).val = (j 1).val; omega

/-- The same of a load of that window. -/
theorem cast_sca_load {κ : Kind} {sp : Space} (v : View sig κ sp S576x8x256 .f32) (f : v.ty.Contents (Elt F)) (r : ℕ) (inb) (h) :
    shapeCast S8x256 (v.readAt (Elt F) (Rect.unit (s := S576x8x256) ![r, 0, 0] S1x8x256.size inb).toLoadRect f) h = scaRow (v.read (Elt F) f) r := by
  have hr : r < 576 := by have := inb 0; change r + 1 ≤ 576 at this; omega
  rw [View.readAt_unit v f inb rfl inb]
  exact cast_sca _ r hr inb h

/-- Storing row `p` of the pair array and no other extends the rows written by one. -/
theorem PairsTo.succ {X1 : S276x8x256.Idx → Elt F .f32} {X2 : S576x8x256.Idx → Elt F .f32} {p : ℕ} {Y : S276x8x256.Idx → Elt F .f32}
    (hY : PairsTo X1 X2 p Y) (hp : p < 276) (h) :
    PairsTo X1 X2 (p + 1) (VecWindow.put Y ![p, 0, 0] S1x8x256.size (shapeCast S1x8x256 (pairRow X1 X2 p) h)) := by
  intro q hq hq'
  funext j
  by_cases e : q = p
  · subst e
    unfold dotRow VecWindow.put
    have hin : ∀ a : Fin 3, (![q, 0, 0] : Fin 3 → ℕ) a ≤ ((ValueIdx.ix3 (⟨q % 276, Nat.mod_lt _ (by decide)⟩ : Fin 276) (j 0) (j 1) : S276x8x256.Idx) a).val
        ∧ ((ValueIdx.ix3 (⟨q % 276, Nat.mod_lt _ (by decide)⟩ : Fin 276) (j 0) (j 1) : S276x8x256.Idx) a).val < (![q, 0, 0] : Fin 3 → ℕ) a + S1x8x256.size a := by
      intro a
      match a with
      | ⟨0, _⟩ => show q ≤ q % 276 ∧ q % 276 < q + 1; rw [Nat.mod_eq_of_lt hp]; omega
      | ⟨1, _⟩ => exact ⟨Nat.zero_le _, by show (j 0).val < 0 + 8; have := (j 0).isLt; change (j 0).val < 8 at this; omega⟩
      | ⟨2, _⟩ => exact ⟨Nat.zero_le _, by show (j 1).val < 0 + 256; have := (j 1).isLt; change (j 1).val < 256 at this; omega⟩
    rw [dif_pos hin]
    rw [show (Rect.unitLocal (s := S276x8x256) (off := ![q, 0, 0]) (size := S1x8x256.size) _ hin) = ValueIdx.ix3 (0 : Fin 1) (j 0) (j 1) from
      funext fun a => Fin.ext (by
        match a with
        | ⟨0, _⟩ => show q % 276 - q = 0; rw [Nat.mod_eq_of_lt hp]; omega
        | ⟨1, _⟩ => rfl
        | ⟨2, _⟩ => rfl)]
    refine (ValueIdx.shapeCast_ab_1ab_apply _ h 0 (j 0) (j 1)).trans ?_
    exact congrArg (pairRow X1 X2 q) (ValueIdx.eq_ix2 j).symm
  · have hlt : q < p := by omega
    rw [← hY q hlt hq']
    unfold dotRow VecWindow.put
    rw [dif_neg]
    intro hall
    have h0 : p ≤ q % 276 := (hall (0 : Fin 3)).1
    rw [Nat.mod_eq_of_lt hq'] at h0
    omega

/-! ## Where the loops read and write -/

theorem trips1 : k0_t1_loop.trips = 24 := by decide
theorem trips2 (t : Fin k0_t1_loop.trips) : (k0_t2_loop t).trips = 23 - t.val := by revert t; decide +kernel
theorem trips3 (t : Fin k0_t1_loop.trips) : (k0_t3_loop t).trips = 0 := by revert t; decide +kernel
theorem off1_eq (t : Fin k0_t1_loop.trips) (k : Fin (k0_t2_loop t).trips) : k0_off1 t k = ![base t.val + k.val, 0, 0] := by
  revert t; decide +kernel
theorem off2_eq (t : Fin k0_t1_loop.trips) (k : Fin (k0_t2_loop t).trips) :
    k0_off2 t k = ![24 * fstOf (base t.val + k.val) + sndOf (base t.val + k.val), 0, 0] := by revert t; decide +kernel
theorem off3_eq (t : Fin k0_t1_loop.trips) (k : Fin (k0_t2_loop t).trips) :
    k0_off3 t k = ![24 * sndOf (base t.val + k.val) + fstOf (base t.val + k.val), 0, 0] := by revert t; decide +kernel
theorem base_succ (t : Fin k0_t1_loop.trips) : base (t.val + 1) = base t.val + (k0_t2_loop t).trips := by revert t; decide +kernel
theorem pair_lt (t : Fin k0_t1_loop.trips) (k : Fin (k0_t2_loop t).trips) : base t.val + k.val < 276 := by revert t; decide +kernel
theorem row2_lt (t : Fin k0_t1_loop.trips) (k : Fin (k0_t2_loop t).trips) : 24 * fstOf (base t.val + k.val) + sndOf (base t.val + k.val) < 576 := by
  revert t; decide +kernel
theorem row3_lt (t : Fin k0_t1_loop.trips) (k : Fin (k0_t2_loop t).trips) : 24 * sndOf (base t.val + k.val) + fstOf (base t.val + k.val) < 576 := by
  revert t; decide +kernel

/-! ## The inner loop -/

/-- Before trip `n` of the loop over the pairs, counted from the first pair: the inputs unchanged, the rows before
    `n` of the pair array written, the running total over those pairs. -/
def Inv (c : Dev nD) (arg1 : Memref sig .tc .vmem S276x8x256 .f32) (arg2 : Memref sig .tc .vmem S576x8x256 .f32)
    (arg4 : Memref sig .tc .vmem S276x8x256 .f32) (arg5 : Memref sig .tc .vmem S8x256 .f32)
    (X1 : BufTy.Contents (Elt F) arg1.view.ty) (X2 : BufTy.Contents (Elt F) arg2.view.ty) (n : ℕ) : sProp 𝕄 :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f)
        ∗ ⌜PairsTo (arg1.view.read (Elt F) X1) (arg2.view.read (Elt F) X2) n (arg4.view.read (Elt F) f)⌝)
    ∗ (∃ f, (arg5.view.loc (c : Thread nD τ) ↦[arg5.view.set]{fullShare} f)
        ∗ ⌜arg5.view.read (Elt F) f = total (arg1.view.read (Elt F) X1) (arg2.view.read (Elt F) X2) n⌝))

/-- One trip of the inner loop: pair `base t + k` is computed, stored and added. -/
theorem trip2 (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X1 : BufTy.Contents (Elt F) arg1.view.ty) (X2 : BufTy.Contents (Elt F) arg2.view.ty) (t : Fin k0_t1_loop.trips) (v179 v180 : BitVec 32)
    (k : Fin (k0_t2_loop t).trips) :
    Inv (F := F) c arg1 arg2 arg4 arg5 X1 X2 (base t.val + k.val)
    ⊢ wp frame (wpE (defs₀ (F := F)) Variants.none (c : Thread nD τ) none) Set.univ (k0_t2_body (F := F) arg0 harg0 arg1 harg1 arg2 harg2 arg3 harg3 arg4 harg4 arg5 harg5 t v179 v180 k PUnit.unit)
        (fun _ => Inv (F := F) c arg1 arg2 arg4 arg5 X1 X2 (base t.val + (k.val + 1))) := by
  unfold k0_t2_body Inv
  iintro ⟨H1, H2, ⟨%f4, H4, %h4⟩, ⟨%f5, H5, %h5⟩⟩
  sl_exec
  sl_step
  have hp := pair_lt t k
  have hr2 := row2_lt t k
  have hr3 := row3_lt t k
  have e1 : trip2.sl.r arg1 arg2 X1 X2 t k = pairRow (arg1.view.read (Elt F) X1) (arg2.view.read (Elt F) X2) (base t.val + k.val) := by
    unfold trip2.sl.r k0_pay7 pairRow
    rw [View.readAt_unit _ _ _ (off1_eq t k) (by rw [← off1_eq]; exact k0_off1_inb t k), View.readAt_unit _ _ _ (off2_eq t k) (by rw [← off2_eq]; exact k0_off2_inb t k),
      View.readAt_unit _ _ _ (off3_eq t k) (by rw [← off3_eq]; exact k0_off3_inb t k)]
    rw [cast_dot _ _ hp, cast_sca _ _ hr2, cast_sca _ _ hr3]
  rw [e1]
  isplitl [H1]; · iexact H1
  isplitl [H2]; · iexact H2
  isplitl [H4]
  · iexists _; isplitl [H4]; · iexact H4
    ipureintro
    rw [View.read_writes_cons_put _ _ _ _ _ (off1_eq t k)]
    exact h4.succ hp _
  · iexists _; isplitl [H5]; · iexact H5
    ipureintro
    rw [View.read_writes_full, View.readAt_full, h5]
    simp only [k0_pay3, shapeCast_self]
    rfl

/-- One trip of the outer loop: all pairs of one first field. -/
theorem trip1 (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X1 : BufTy.Contents (Elt F) arg1.view.ty) (X2 : BufTy.Contents (Elt F) arg2.view.ty) (t : Fin k0_t1_loop.trips) :
    Inv (F := F) c arg1 arg2 arg4 arg5 X1 X2 (base t.val)
    ⊢ wp frame (wpE (defs₀ (F := F)) Variants.none (c : Thread nD τ) none) Set.univ (k0_t1_body (F := F) arg0 harg0 arg1 harg1 arg2 harg2 arg3 harg3 arg4 harg4 arg5 harg5 t PUnit.unit)
        (fun _ => Inv (F := F) c arg1 arg2 arg4 arg5 X1 X2 (base (t.val + 1))) := by
  unfold k0_t1_body
  iintro H
  sl_exec
  sl_for (fun k _ => Inv (F := F) c arg1 arg2 arg4 arg5 X1 X2 (base t.val + k)) $$ [H]
  case region => exact fun k _ => trip2 c arg0 harg0 arg1 harg1 arg2 harg2 arg3 harg3 arg4 harg4 arg5 harg5 X1 X2 t _ _ k
  · iexact H
  iintro %_ H
  have htr := trips3 t
  sl_exec
  sl_step
  rw [base_succ]
  iexact H

/-- The combine kernel: from any contents of its outputs and its accumulator, the pair array ends holding every
    pair's interaction and the logits the bias plus the accumulated sum; the inputs stay as they were. -/
theorem kernelRun (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X0 : BufTy.Contents (Elt F) arg0.view.ty) (X1 : BufTy.Contents (Elt F) arg1.view.ty) (X2 : BufTy.Contents (Elt F) arg2.view.ty)
    (g3 : BufTy.Contents (Elt F) arg3.view.ty) (g4 : BufTy.Contents (Elt F) arg4.view.ty) (g5 : BufTy.Contents (Elt F) arg5.view.ty) :
    iprop((arg0.view.loc (c : Thread nD τ) ↦[arg0.view.set]{fullShare} X0) ∗ (arg1.view.loc (c : Thread nD τ) ↦[arg1.view.set]{fullShare} X1)
      ∗ (arg2.view.loc (c : Thread nD τ) ↦[arg2.view.set]{fullShare} X2) ∗ (arg3.view.loc (c : Thread nD τ) ↦[arg3.view.set]{fullShare} g3)
      ∗ (arg4.view.loc (c : Thread nD τ) ↦[arg4.view.set]{fullShare} g4) ∗ (arg5.view.loc (c : Thread nD τ) ↦[arg5.view.set]{fullShare} g5))
    ⊢ wp frame (wpE (defs₀ (F := F)) Variants.none (c : Thread nD τ) none) Set.univ (cc0_ffm_combine (F := F) arg0 harg0 arg1 harg1 arg2 harg2 arg3 harg3 arg4 harg4 arg5 harg5)
        (fun _ => iprop((arg0.view.loc (c : Thread nD τ) ↦[arg0.view.set]{fullShare} X0)
          ∗ Inv (F := F) c arg1 arg2 arg4 arg5 X1 X2 276
          ∗ (∃ f, (arg3.view.loc (c : Thread nD τ) ↦[arg3.view.set]{fullShare} f)
              ∗ ⌜arg3.view.read (Elt F) f = k0_pay6 (arg0.view.read (Elt F) X0 (ValueIdx.ix1 (0 : Fin 1))) (total (arg1.view.read (Elt F) X1) (arg2.view.read (Elt F) X2) 276)⌝))) := by
  rw [cc0_ffm_combine_eq_skeleton]
  unfold cc0_ffm_combine_skel
  iintro ⟨H0, H1, H2, H3, H4, H5⟩
  sl_exec
  have w1 : kernelRun.sl.v11 arg2 arg5 X2 = linSum (arg2.view.read (Elt F) X2) 1 := by
    unfold kernelRun.sl.v11 kernelRun.sl.H5_2 kernelRun.sl.v4 kernelRun.sl.H5_1
    rw [View.readCov_full, View.readCov_full]
    simp only [k0_pay10, shapeCast_self]
    rw [show k0_pay9 (F := F) = linSum (arg2.view.read (Elt F) X2) 0 from shapeCast_self _ _]
    exact congrArg (addf _) (cast_sca_load arg2.view X2 0 _ _)
  have w2 : kernelRun.sl.v18 arg2 arg5 X2 = linSum (arg2.view.read (Elt F) X2) 2 := by
    unfold kernelRun.sl.v18 kernelRun.sl.H5_3
    rw [View.readCov_full]
    simp only [k0_pay11, shapeCast_self, w1]
    exact congrArg (addf _) (cast_sca_load arg2.view X2 25 _ _)
  have w3 : kernelRun.sl.v25 arg2 arg5 X2 = linSum (arg2.view.read (Elt F) X2) 3 := by
    unfold kernelRun.sl.v25 kernelRun.sl.H5_4
    rw [View.readCov_full]
    simp only [k0_pay12, shapeCast_self, w2]
    exact congrArg (addf _) (cast_sca_load arg2.view X2 50 _ _)
  have w4 : kernelRun.sl.v32 arg2 arg5 X2 = linSum (arg2.view.read (Elt F) X2) 4 := by
    unfold kernelRun.sl.v32 kernelRun.sl.H5_5
    rw [View.readCov_full]
    simp only [k0_pay13, shapeCast_self, w3]
    exact congrArg (addf _) (cast_sca_load arg2.view X2 75 _ _)
  have w5 : kernelRun.sl.v39 arg2 arg5 X2 = linSum (arg2.view.read (Elt F) X2) 5 := by
    unfold kernelRun.sl.v39 kernelRun.sl.H5_6
    rw [View.readCov_full]
    simp only [k0_pay14, shapeCast_self, w4]
    exact congrArg (addf _) (cast_sca_load arg2.view X2 100 _ _)
  have w6 : kernelRun.sl.v46 arg2 arg5 X2 = linSum (arg2.view.read (Elt F) X2) 6 := by
    unfold kernelRun.sl.v46 kernelRun.sl.H5_7
    rw [View.readCov_full]
    simp only [k0_pay15, shapeCast_self, w5]
    exact congrArg (addf _) (cast_sca_load arg2.view X2 125 _ _)
  have w7 : kernelRun.sl.v53 arg2 arg5 X2 = linSum (arg2.view.read (Elt F) X2) 7 := by
    unfold kernelRun.sl.v53 kernelRun.sl.H5_8
    rw [View.readCov_full]
    simp only [k0_pay16, shapeCast_self, w6]
    exact congrArg (addf _) (cast_sca_load arg2.view X2 150 _ _)
  have w8 : kernelRun.sl.v60 arg2 arg5 X2 = linSum (arg2.view.read (Elt F) X2) 8 := by
    unfold kernelRun.sl.v60 kernelRun.sl.H5_9
    rw [View.readCov_full]
    simp only [k0_pay17, shapeCast_self, w7]
    exact congrArg (addf _) (cast_sca_load arg2.view X2 175 _ _)
  have w9 : kernelRun.sl.v67 arg2 arg5 X2 = linSum (arg2.view.read (Elt F) X2) 9 := by
    unfold kernelRun.sl.v67 kernelRun.sl.H5_10
    rw [View.readCov_full]
    simp only [k0_pay18, shapeCast_self, w8]
    exact congrArg (addf _) (cast_sca_load arg2.view X2 200 _ _)
  have w10 : kernelRun.sl.v74 arg2 arg5 X2 = linSum (arg2.view.read (Elt F) X2) 10 := by
    unfold kernelRun.sl.v74 kernelRun.sl.H5_11
    rw [View.readCov_full]
    simp only [k0_pay19, shapeCast_self, w9]
    exact congrArg (addf _) (cast_sca_load arg2.view X2 225 _ _)
  have w11 : kernelRun.sl.v81 arg2 arg5 X2 = linSum (arg2.view.read (Elt F) X2) 11 := by
    unfold kernelRun.sl.v81 kernelRun.sl.H5_12
    rw [View.readCov_full]
    simp only [k0_pay20, shapeCast_self, w10]
    exact congrArg (addf _) (cast_sca_load arg2.view X2 250 _ _)
  have w12 : kernelRun.sl.v88 arg2 arg5 X2 = linSum (arg2.view.read (Elt F) X2) 12 := by
    unfold kernelRun.sl.v88 kernelRun.sl.H5_13
    rw [View.readCov_full]
    simp only [k0_pay21, shapeCast_self, w11]
    exact congrArg (addf _) (cast_sca_load arg2.view X2 275 _ _)
  have w13 : kernelRun.sl.v95 arg2 arg5 X2 = linSum (arg2.view.read (Elt F) X2) 13 := by
    unfold kernelRun.sl.v95 kernelRun.sl.H5_14
    rw [View.readCov_full]
    simp only [k0_pay22, shapeCast_self, w12]
    exact congrArg (addf _) (cast_sca_load arg2.view X2 300 _ _)
  have w14 : kernelRun.sl.v102 arg2 arg5 X2 = linSum (arg2.view.read (Elt F) X2) 14 := by
    unfold kernelRun.sl.v102 kernelRun.sl.H5_15
    rw [View.readCov_full]
    simp only [k0_pay23, shapeCast_self, w13]
    exact congrArg (addf _) (cast_sca_load arg2.view X2 325 _ _)
  have w15 : kernelRun.sl.v109 arg2 arg5 X2 = linSum (arg2.view.read (Elt F) X2) 15 := by
    unfold kernelRun.sl.v109 kernelRun.sl.H5_16
    rw [View.readCov_full]
    simp only [k0_pay24, shapeCast_self, w14]
    exact congrArg (addf _) (cast_sca_load arg2.view X2 350 _ _)
  have w16 : kernelRun.sl.v116 arg2 arg5 X2 = linSum (arg2.view.read (Elt F) X2) 16 := by
    unfold kernelRun.sl.v116 kernelRun.sl.H5_17
    rw [View.readCov_full]
    simp only [k0_pay25, shapeCast_self, w15]
    exact congrArg (addf _) (cast_sca_load arg2.view X2 375 _ _)
  have w17 : kernelRun.sl.v123 arg2 arg5 X2 = linSum (arg2.view.read (Elt F) X2) 17 := by
    unfold kernelRun.sl.v123 kernelRun.sl.H5_18
    rw [View.readCov_full]
    simp only [k0_pay26, shapeCast_self, w16]
    exact congrArg (addf _) (cast_sca_load arg2.view X2 400 _ _)
  have w18 : kernelRun.sl.v130 arg2 arg5 X2 = linSum (arg2.view.read (Elt F) X2) 18 := by
    unfold kernelRun.sl.v130 kernelRun.sl.H5_19
    rw [View.readCov_full]
    simp only [k0_pay27, shapeCast_self, w17]
    exact congrArg (addf _) (cast_sca_load arg2.view X2 425 _ _)
  have w19 : kernelRun.sl.v137 arg2 arg5 X2 = linSum (arg2.view.read (Elt F) X2) 19 := by
    unfold kernelRun.sl.v137 kernelRun.sl.H5_20
    rw [View.readCov_full]
    simp only [k0_pay28, shapeCast_self, w18]
    exact congrArg (addf _) (cast_sca_load arg2.view X2 450 _ _)
  have w20 : kernelRun.sl.v144 arg2 arg5 X2 = linSum (arg2.view.read (Elt F) X2) 20 := by
    unfold kernelRun.sl.v144 kernelRun.sl.H5_21
    rw [View.readCov_full]
    simp only [k0_pay29, shapeCast_self, w19]
    exact congrArg (addf _) (cast_sca_load arg2.view X2 475 _ _)
  have w21 : kernelRun.sl.v151 arg2 arg5 X2 = linSum (arg2.view.read (Elt F) X2) 21 := by
    unfold kernelRun.sl.v151 kernelRun.sl.H5_22
    rw [View.readCov_full]
    simp only [k0_pay30, shapeCast_self, w20]
    exact congrArg (addf _) (cast_sca_load arg2.view X2 500 _ _)
  have w22 : kernelRun.sl.v158 arg2 arg5 X2 = linSum (arg2.view.read (Elt F) X2) 22 := by
    unfold kernelRun.sl.v158 kernelRun.sl.H5_23
    rw [View.readCov_full]
    simp only [k0_pay31, shapeCast_self, w21]
    exact congrArg (addf _) (cast_sca_load arg2.view X2 525 _ _)
  have w23 : kernelRun.sl.v165 arg2 arg5 X2 = linSum (arg2.view.read (Elt F) X2) 23 := by
    unfold kernelRun.sl.v165 kernelRun.sl.H5_24
    rw [View.readCov_full]
    simp only [k0_pay32, shapeCast_self, w22]
    exact congrArg (addf _) (cast_sca_load arg2.view X2 550 _ _)
  have e5 : arg5.view.read (Elt F) (arg5.view.writes (Elt F) arg5.view.junk (kernelRun.sl.H5_25 arg2 arg5 X2)) = linSum (arg2.view.read (Elt F) X2) 24 := by
    unfold kernelRun.sl.H5_25
    rw [View.read_writes_full]
    simp only [k0_pay1, shapeCast_self, w23]
    exact congrArg (addf _) (cast_sca_load arg2.view X2 575 _ _)
  sl_for (fun k _ => Inv (F := F) c arg1 arg2 arg4 arg5 X1 X2 (base k)) $$ [H1 H2 H4 H5]
  case region => exact fun k _ => trip1 c arg0 harg0 arg1 harg1 arg2 harg2 arg3 harg3 arg4 harg4 arg5 harg5 X1 X2 k
  · unfold Inv
    isplitl [H1]; · iexact H1
    isplitl [H2]; · iexact H2
    isplitl [H4]
    · iexists _; isplitl [H4]; · iexact H4
      ipureintro
      intro p hp
      exact absurd hp (Nat.not_lt_zero p)
    · iexists _; isplitl [H5]; · iexact H5
      ipureintro
      exact e5
  iintro %_ H
  unfold Inv
  icases H with ⟨H1, H2, ⟨%f4, H4, %h4⟩, ⟨%f5, H5, %h5⟩⟩
  sl_exec
  sl_step
  have eb : base (Scf.trips k0_t1_loop.lb k0_t1_loop.ub k0_t1_loop.st) = 276 := by decide +kernel
  rw [eb] at h4 h5
  isplitl [H0]; · iexact H0
  isplitl [H1 H2 H4 H5]
  · isplitl [H1]; · iexact H1
    isplitl [H2]; · iexact H2
    isplitl [H4]
    · iexists _; isplitl [H4]; · iexact H4
      ipureintro; exact h4
    · iexists _; isplitl [H5]; · iexact H5
      ipureintro; exact h5
  · iexists _; isplitl [H3]; · iexact H3
    ipureintro
    rw [View.read_writes_full, View.readAt_full, h5]
    refine congrArg (fun x => k0_pay6 x _) ?_
    sl_unfold_run_names
    rw [View.readAt_full]
    exact congrArg _ (funext fun a => Fin.ext (by
      match a with
      | ⟨0, _⟩ => rfl))

/-! ## The proof data and the run -/

/-- What the pair array holds at the end. -/
def pairsAll (X1 : S276x8x256.Idx → Elt F .f32) (X2 : S576x8x256.Idx → Elt F .f32) : S276x8x256.Idx → Elt F .f32 :=
  fun j => pairRow X1 X2 (j 0).val (ValueIdx.ix2 (j 1) (j 2))

theorem PairsTo.all {X1 : S276x8x256.Idx → Elt F .f32} {X2 : S576x8x256.Idx → Elt F .f32} {Y : S276x8x256.Idx → Elt F .f32}
    (h : PairsTo X1 X2 276 Y) : Y = pairsAll X1 X2 := by
  funext j
  have h0 : (j 0).val < 276 := (j 0).isLt
  unfold pairsAll
  rw [← h _ h0 h0]
  unfold dotRow
  refine congrArg Y (funext fun a => Fin.ext ?_)
  match a with
  | ⟨0, _⟩ => exact (Nat.mod_eq_of_lt h0).symm
  | ⟨1, _⟩ => rfl
  | ⟨2, _⟩ => rfl

variable (m : (ℓ : Loc nD τ sig) → Buf (Elt F) ℓ) (ρ : Dev nD → PrngReg)

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay6 (iblk m c 0 t (ValueIdx.ix1 (0 : Fin 1))) (total (iblk m c 1 t) (iblk m c 2 t) 276)
    | ⟨4, _⟩ => pairsAll (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t
    = k0_pay6 (iblk m c 0 t (ValueIdx.ix1 (0 : Fin 1))) (total (iblk m c 1 t) (iblk m c 2 t) 276) := by dsimp only [dats]
theorem after4 (c : Dev nD) (t : Fin cfg0.N) : (dats m 0 c).after 4 t = pairsAll (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The windows and the accumulator as the body finds them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- The windows and the accumulator as the body leaves them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The accumulator's array whole is the accumulator's view. -/
theorem scratch_eq (c : Dev nD) (g : BufTy.Contents (Elt F) (Memref.whole cc0_scratch0).view.ty) :
    (((c.tc : Thread nD τ).loc cc0_scratch0 ↦{fullShare} g) : sProp 𝕄)
      = ((Memref.whole cc0_scratch0).view.loc (c : Thread nD τ) ↦[(Memref.whole cc0_scratch0).view.set]{fullShare} g) := by
  rw [show (Memref.whole cc0_scratch0).view.set = Finset.univ from View.set_whole _]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3, after4]
  rw [show (dats m 0 c).Φ t.castSucc = Pipeline.ΦA spec0 c from rfl]
  simp only [before0, before1, before2]
  unfold Pipeline.ΦA
  rw [scopedRest0_eq]
  rw [show (dats m 0 c).owesAt () t.succ = (dats m 0 c).owesAt () t.castSucc from rfl]
  unfold owns
  iintro ⟨⟨⟨%g5, HS⟩, Hg⟩, HW, ⟨%d0, %f0, %h0, H0⟩, ⟨%d1, %f1, %h1, H1⟩, ⟨%d2, %f2, %h2, H2⟩, ⟨%d3, %f3, %h3, H3⟩, ⟨%d4, %f4, %h4, H4⟩⟩
  iapply (wp_wand_r Idealize.ShloMosaic.frame (wpE (defs₀ (F := F)) Variants.none (c : Thread nD τ) none) Set.univ)
  isplitl [H0 H1 H2 H3 H4 HS]
  · iapply (kernelRun c _ _ _ _ _ _ _ _ _ _ _ _ f0 f1 f2 f3 f4 g5)
    isplitl [H0]; · iexact H0
    isplitl [H1]; · iexact H1
    isplitl [H2]; · iexact H2
    isplitl [H3]; · iexact H3
    isplitl [H4]; · iexact H4
    rw [← scratch_eq]; iexact HS
  iintro %_ ⟨H0, HI, ⟨%e3, H3, %p3⟩⟩
  unfold Inv
  icases HI with ⟨H1, H2, ⟨%e4, H4, %p4⟩, ⟨%e5, HS, %p5⟩⟩
  isplitl [HS Hg]
  · isplitl [HS]
    · iexists e5; rw [scratch_eq]; iexact HS
    iexact Hg
  isplitl [HW]; · iexact HW
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists e3; isplitr
    · ipureintro; rw [← h0, ← h1, ← h2]; exact p3
    · iexact H3
  · iexists e4; isplitr
    · ipureintro; rw [← h1, ← h2]; exact p4.all
    · iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the proof data says, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The frame claim at any arithmetic: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.Proof.Combine

end
-- ==== Proof.CombineIdealKernel.lean ====
module

public import proofs.«01_k».proof.Proof.Gen.CombineIdeal.Frame
public import proofs.«01_k».proof.Proof.Gen.CombineIdeal.Skeleton
public import Idealize.ShloMosaic.Lib.VecWindow
public import Idealize.ShloMosaic.Lib.WritesUnit
public import Idealize.ShloMosaic.Lib.Pointwise
public import Idealize.ShloMosaic.Lib.ValueLayout
public import Idealize.ShloMosaic.Lib.Exec

@[expose] public section

set_option maxRecDepth 16384

noncomputable section

namespace Cert.Proof.CombineIdeal

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the combine call computes, row by row -/

/-- Number of pairs `(a, b)`, `a < b < 24`, whose first field is below `f`. -/
def base (f : ℕ) : ℕ := 23 * f - f * (f - 1) / 2

/-- The first field of pair number `p`: how many fields `f ≥ 1` have their first pair at or before `p`. -/
def fstOf (p : ℕ) : ℕ := ((List.range 23).filter fun f => base (f + 1) ≤ p).length

/-- The second field of pair number `p`. -/
def sndOf (p : ℕ) : ℕ := fstOf p + 1 + (p - base (fstOf p))

/-- Row `p` of the dot products. -/
def dotRow (X : S276x8x256.Idx → Elt F .f32) (p : ℕ) : FVec F S8x256 .f32 :=
  fun j => X (ValueIdx.ix3 (⟨p % 276, Nat.mod_lt _ (by decide)⟩ : Fin 276) (j 0) (j 1))

/-- Row `r` of the scaled rows. -/
def scaRow (X : S576x8x256.Idx → Elt F .f32) (r : ℕ) : FVec F S8x256 .f32 :=
  fun j => X (ValueIdx.ix3 (⟨r % 576, Nat.mod_lt _ (by decide)⟩ : Fin 576) (j 0) (j 1))

/-- Pair `p`'s interaction: its dot product times the two fields' scaled factors. -/
def pairRow (X1 : S276x8x256.Idx → Elt F .f32) (X2 : S576x8x256.Idx → Elt F .f32) (p : ℕ) : FVec F S8x256 .f32 :=
  mulf (mulf (dotRow X1 p) (scaRow X2 (24 * fstOf p + sndOf p))) (scaRow X2 (24 * sndOf p + fstOf p))

/-- The sum of the first `n` fields' linear terms (the diagonal rows), in the kernel's order. -/
def linSum (X2 : S576x8x256.Idx → Elt F .f32) : ℕ → FVec F S8x256 .f32
  | 0 => broadcast S8x256 (Scalar.ofBits .f32 0x00000000#32)
  | n + 1 => addf (linSum X2 n) (scaRow X2 (25 * n))

/-- All linear terms and the interactions of the first `n` pairs, in the kernel's order. -/
def total (X1 : S276x8x256.Idx → Elt F .f32) (X2 : S576x8x256.Idx → Elt F .f32) : ℕ → FVec F S8x256 .f32
  | 0 => linSum X2 24
  | n + 1 => addf (total X1 X2 n) (pairRow X1 X2 n)

/-- The first `n` rows of the pair array are the first `n` interactions. -/
def PairsTo (X1 : S276x8x256.Idx → Elt F .f32) (X2 : S576x8x256.Idx → Elt F .f32) (n : ℕ) (Y : S276x8x256.Idx → Elt F .f32) : Prop :=
  ∀ p, p < n → p < 276 → dotRow Y p = pairRow X1 X2 p

/-- A one-row window of the dot products, its unit axis dropped, is that row. -/
theorem cast_dot (X : S276x8x256.Idx → Elt F .f32) (r : ℕ) (hr : r < 276) (inb) (h) :
    shapeCast S8x256 (VecWindow.window X ![r, 0, 0] S1x8x256.size inb) h = dotRow X r := by
  funext j
  unfold dotRow
  rw [ValueIdx.eq_ix2 j]
  refine (ValueIdx.shapeCast_1ab_ab_apply _ h (j 0) (j 1)).trans ?_
  unfold VecWindow.window
  refine congrArg X (funext fun a => Fin.ext ?_)
  match a with
  | ⟨0, _⟩ => show r + 1 * 0 = r % _; rw [Nat.mod_eq_of_lt hr]; omega
  | ⟨1, _⟩ => show 0 + 1 * (j 0).val = (j 0).val; omega
  | ⟨2, _⟩ => show 0 + 1 * (j 1).val = (j 1).val; omega

/-- A one-row window of the scaled rows, its unit axis dropped, is that row. -/
theorem cast_sca (X : S576x8x256.Idx → Elt F .f32) (r : ℕ) (hr : r < 576) (inb) (h) :
    shapeCast S8x256 (VecWindow.window X ![r, 0, 0] S1x8x256.size inb) h = scaRow X r := by
  funext j
  unfold scaRow
  rw [ValueIdx.eq_ix2 j]
  refine (ValueIdx.shapeCast_1ab_ab_apply _ h (j 0) (j 1)).trans ?_
  unfold VecWindow.window
  refine congrArg X (funext fun a => Fin.ext ?_)
  match a with
  | ⟨0, _⟩ => show r + 1 * 0 = r % _; rw [Nat.mod_eq_of_lt hr]; omega
  | ⟨1, _⟩ => show 0 + 1 * (j 0).val = (j 0).val; omega
  | ⟨2, _⟩ => show 0 + 1 * (j 1).val = (j 1).val; omega

/-- The same of a load of that window. -/
theorem cast_sca_load {κ : Kind} {sp : Space} (v : View sig κ sp S576x8x256 .f32) (f : v.ty.Contents (Elt F)) (r : ℕ) (inb) (h) :
    shapeCast S8x256 (v.readAt (Elt F) (Rect.unit (s := S576x8x256) ![r, 0, 0] S1x8x256.size inb).toLoadRect f) h = scaRow (v.read (Elt F) f) r := by
  have hr : r < 576 := by have := inb 0; change r + 1 ≤ 576 at this; omega
  rw [View.readAt_unit v f inb rfl inb]
  exact cast_sca _ r hr inb h

/-- Storing row `p` of the pair array and no other extends the rows written by one. -/
theorem PairsTo.succ {X1 : S276x8x256.Idx → Elt F .f32} {X2 : S576x8x256.Idx → Elt F .f32} {p : ℕ} {Y : S276x8x256.Idx → Elt F .f32}
    (hY : PairsTo X1 X2 p Y) (hp : p < 276) (h) :
    PairsTo X1 X2 (p + 1) (VecWindow.put Y ![p, 0, 0] S1x8x256.size (shapeCast S1x8x256 (pairRow X1 X2 p) h)) := by
  intro q hq hq'
  funext j
  by_cases e : q = p
  · subst e
    unfold dotRow VecWindow.put
    have hin : ∀ a : Fin 3, (![q, 0, 0] : Fin 3 → ℕ) a ≤ ((ValueIdx.ix3 (⟨q % 276, Nat.mod_lt _ (by decide)⟩ : Fin 276) (j 0) (j 1) : S276x8x256.Idx) a).val
        ∧ ((ValueIdx.ix3 (⟨q % 276, Nat.mod_lt _ (by decide)⟩ : Fin 276) (j 0) (j 1) : S276x8x256.Idx) a).val < (![q, 0, 0] : Fin 3 → ℕ) a + S1x8x256.size a := by
      intro a
      match a with
      | ⟨0, _⟩ => show q ≤ q % 276 ∧ q % 276 < q + 1; rw [Nat.mod_eq_of_lt hp]; omega
      | ⟨1, _⟩ => exact ⟨Nat.zero_le _, by show (j 0).val < 0 + 8; have := (j 0).isLt; change (j 0).val < 8 at this; omega⟩
      | ⟨2, _⟩ => exact ⟨Nat.zero_le _, by show (j 1).val < 0 + 256; have := (j 1).isLt; change (j 1).val < 256 at this; omega⟩
    rw [dif_pos hin]
    rw [show (Rect.unitLocal (s := S276x8x256) (off := ![q, 0, 0]) (size := S1x8x256.size) _ hin) = ValueIdx.ix3 (0 : Fin 1) (j 0) (j 1) from
      funext fun a => Fin.ext (by
        match a with
        | ⟨0, _⟩ => show q % 276 - q = 0; rw [Nat.mod_eq_of_lt hp]; omega
        | ⟨1, _⟩ => rfl
        | ⟨2, _⟩ => rfl)]
    refine (ValueIdx.shapeCast_ab_1ab_apply _ h 0 (j 0) (j 1)).trans ?_
    exact congrArg (pairRow X1 X2 q) (ValueIdx.eq_ix2 j).symm
  · have hlt : q < p := by omega
    rw [← hY q hlt hq']
    unfold dotRow VecWindow.put
    rw [dif_neg]
    intro hall
    have h0 : p ≤ q % 276 := (hall (0 : Fin 3)).1
    rw [Nat.mod_eq_of_lt hq'] at h0
    omega

/-! ## Where the loops read and write -/

theorem trips1 : k0_t1_loop.trips = 24 := by decide
theorem trips2 (t : Fin k0_t1_loop.trips) : (k0_t2_loop t).trips = 23 - t.val := by revert t; decide +kernel
theorem trips3 (t : Fin k0_t1_loop.trips) : (k0_t3_loop t).trips = 0 := by revert t; decide +kernel
theorem off1_eq (t : Fin k0_t1_loop.trips) (k : Fin (k0_t2_loop t).trips) : k0_off1 t k = ![base t.val + k.val, 0, 0] := by
  revert t; decide +kernel
theorem off2_eq (t : Fin k0_t1_loop.trips) (k : Fin (k0_t2_loop t).trips) :
    k0_off2 t k = ![24 * fstOf (base t.val + k.val) + sndOf (base t.val + k.val), 0, 0] := by revert t; decide +kernel
theorem off3_eq (t : Fin k0_t1_loop.trips) (k : Fin (k0_t2_loop t).trips) :
    k0_off3 t k = ![24 * sndOf (base t.val + k.val) + fstOf (base t.val + k.val), 0, 0] := by revert t; decide +kernel
theorem base_succ (t : Fin k0_t1_loop.trips) : base (t.val + 1) = base t.val + (k0_t2_loop t).trips := by revert t; decide +kernel
theorem pair_lt (t : Fin k0_t1_loop.trips) (k : Fin (k0_t2_loop t).trips) : base t.val + k.val < 276 := by revert t; decide +kernel
theorem row2_lt (t : Fin k0_t1_loop.trips) (k : Fin (k0_t2_loop t).trips) : 24 * fstOf (base t.val + k.val) + sndOf (base t.val + k.val) < 576 := by
  revert t; decide +kernel
theorem row3_lt (t : Fin k0_t1_loop.trips) (k : Fin (k0_t2_loop t).trips) : 24 * sndOf (base t.val + k.val) + fstOf (base t.val + k.val) < 576 := by
  revert t; decide +kernel

/-! ## The inner loop -/

/-- Before trip `n` of the loop over the pairs, counted from the first pair: the inputs unchanged, the rows before
    `n` of the pair array written, the running total over those pairs. -/
def Inv (c : Dev nD) (arg1 : Memref sig .tc .vmem S276x8x256 .f32) (arg2 : Memref sig .tc .vmem S576x8x256 .f32)
    (arg4 : Memref sig .tc .vmem S276x8x256 .f32) (arg5 : Memref sig .tc .vmem S8x256 .f32)
    (X1 : BufTy.Contents (Elt F) arg1.view.ty) (X2 : BufTy.Contents (Elt F) arg2.view.ty) (n : ℕ) : sProp 𝕄 :=
  iprop((arg1.view.loc (c : Thread nD τ) ↦[arg1.view.set]{fullShare} X1) ∗ (arg2.view.loc (c : Thread nD τ) ↦[arg2.view.set]{fullShare} X2)
    ∗ (∃ f, (arg4.view.loc (c : Thread nD τ) ↦[arg4.view.set]{fullShare} f)
        ∗ ⌜PairsTo (arg1.view.read (Elt F) X1) (arg2.view.read (Elt F) X2) n (arg4.view.read (Elt F) f)⌝)
    ∗ (∃ f, (arg5.view.loc (c : Thread nD τ) ↦[arg5.view.set]{fullShare} f)
        ∗ ⌜arg5.view.read (Elt F) f = total (arg1.view.read (Elt F) X1) (arg2.view.read (Elt F) X2) n⌝))

/-- One trip of the inner loop: pair `base t + k` is computed, stored and added. -/
theorem trip2 (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X1 : BufTy.Contents (Elt F) arg1.view.ty) (X2 : BufTy.Contents (Elt F) arg2.view.ty) (t : Fin k0_t1_loop.trips) (v179 v180 : BitVec 32)
    (k : Fin (k0_t2_loop t).trips) :
    Inv (F := F) c arg1 arg2 arg4 arg5 X1 X2 (base t.val + k.val)
    ⊢ wp frame (wpE (defs₀ (F := F)) Variants.none (c : Thread nD τ) none) Set.univ (k0_t2_body (F := F) arg0 harg0 arg1 harg1 arg2 harg2 arg3 harg3 arg4 harg4 arg5 harg5 t v179 v180 k PUnit.unit)
        (fun _ => Inv (F := F) c arg1 arg2 arg4 arg5 X1 X2 (base t.val + (k.val + 1))) := by
  unfold k0_t2_body Inv
  iintro ⟨H1, H2, ⟨%f4, H4, %h4⟩, ⟨%f5, H5, %h5⟩⟩
  sl_exec
  sl_step
  have hp := pair_lt t k
  have hr2 := row2_lt t k
  have hr3 := row3_lt t k
  have e1 : trip2.sl.r arg1 arg2 X1 X2 t k = pairRow (arg1.view.read (Elt F) X1) (arg2.view.read (Elt F) X2) (base t.val + k.val) := by
    unfold trip2.sl.r k0_pay7 pairRow
    rw [View.readAt_unit _ _ _ (off1_eq t k) (by rw [← off1_eq]; exact k0_off1_inb t k), View.readAt_unit _ _ _ (off2_eq t k) (by rw [← off2_eq]; exact k0_off2_inb t k),
      View.readAt_unit _ _ _ (off3_eq t k) (by rw [← off3_eq]; exact k0_off3_inb t k)]
    rw [cast_dot _ _ hp, cast_sca _ _ hr2, cast_sca _ _ hr3]
  rw [e1]
  isplitl [H1]; · iexact H1
  isplitl [H2]; · iexact H2
  isplitl [H4]
  · iexists _; isplitl [H4]; · iexact H4
    ipureintro
    rw [View.read_writes_cons_put _ _ _ _ _ (off1_eq t k)]
    exact h4.succ hp _
  · iexists _; isplitl [H5]; · iexact H5
    ipureintro
    rw [View.read_writes_full, View.readAt_full, h5]
    simp only [k0_pay3, shapeCast_self]
    rfl

/-- One trip of the outer loop: all pairs of one first field. -/
theorem trip1 (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X1 : BufTy.Contents (Elt F) arg1.view.ty) (X2 : BufTy.Contents (Elt F) arg2.view.ty) (t : Fin k0_t1_loop.trips) :
    Inv (F := F) c arg1 arg2 arg4 arg5 X1 X2 (base t.val)
    ⊢ wp frame (wpE (defs₀ (F := F)) Variants.none (c : Thread nD τ) none) Set.univ (k0_t1_body (F := F) arg0 harg0 arg1 harg1 arg2 harg2 arg3 harg3 arg4 harg4 arg5 harg5 t PUnit.unit)
        (fun _ => Inv (F := F) c arg1 arg2 arg4 arg5 X1 X2 (base (t.val + 1))) := by
  unfold k0_t1_body
  iintro H
  sl_exec
  sl_for (fun k _ => Inv (F := F) c arg1 arg2 arg4 arg5 X1 X2 (base t.val + k)) $$ [H]
  case region => exact fun k _ => trip2 c arg0 harg0 arg1 harg1 arg2 harg2 arg3 harg3 arg4 harg4 arg5 harg5 X1 X2 t _ _ k
  · iexact H
  iintro %_ H
  have htr := trips3 t
  sl_exec
  sl_step
  rw [base_succ]
  iexact H

/-- The combine kernel: from any contents of its outputs and its accumulator, the pair array ends holding every
    pair's interaction and the logits the bias plus the accumulated sum; the inputs stay as they were. -/
theorem kernelRun (c : Dev nD) (arg0 : Memref sig .tc .smem S1 .f32) (harg0 : arg0.IsWhole) (arg1 : Memref sig .tc .vmem S276x8x256 .f32) (harg1 : arg1.IsWhole) (arg2 : Memref sig .tc .vmem S576x8x256 .f32) (harg2 : arg2.IsWhole) (arg3 : Memref sig .tc .vmem S8x256 .f32) (harg3 : arg3.IsWhole) (arg4 : Memref sig .tc .vmem S276x8x256 .f32) (harg4 : arg4.IsWhole) (arg5 : Memref sig .tc .vmem S8x256 .f32) (harg5 : arg5.IsWhole)
    (X0 : BufTy.Contents (Elt F) arg0.view.ty) (X1 : BufTy.Contents (Elt F) arg1.view.ty) (X2 : BufTy.Contents (Elt F) arg2.view.ty)
    (g3 : BufTy.Contents (Elt F) arg3.view.ty) (g4 : BufTy.Contents (Elt F) arg4.view.ty) (g5 : BufTy.Contents (Elt F) arg5.view.ty) :
    iprop((arg0.view.loc (c : Thread nD τ) ↦[arg0.view.set]{fullShare} X0) ∗ (arg1.view.loc (c : Thread nD τ) ↦[arg1.view.set]{fullShare} X1)
      ∗ (arg2.view.loc (c : Thread nD τ) ↦[arg2.view.set]{fullShare} X2) ∗ (arg3.view.loc (c : Thread nD τ) ↦[arg3.view.set]{fullShare} g3)
      ∗ (arg4.view.loc (c : Thread nD τ) ↦[arg4.view.set]{fullShare} g4) ∗ (arg5.view.loc (c : Thread nD τ) ↦[arg5.view.set]{fullShare} g5))
    ⊢ wp frame (wpE (defs₀ (F := F)) Variants.none (c : Thread nD τ) none) Set.univ (cc0_ffm_combine (F := F) arg0 harg0 arg1 harg1 arg2 harg2 arg3 harg3 arg4 harg4 arg5 harg5)
        (fun _ => iprop((arg0.view.loc (c : Thread nD τ) ↦[arg0.view.set]{fullShare} X0)
          ∗ Inv (F := F) c arg1 arg2 arg4 arg5 X1 X2 276
          ∗ (∃ f, (arg3.view.loc (c : Thread nD τ) ↦[arg3.view.set]{fullShare} f)
              ∗ ⌜arg3.view.read (Elt F) f = k0_pay6 (arg0.view.read (Elt F) X0 (ValueIdx.ix1 (0 : Fin 1))) (total (arg1.view.read (Elt F) X1) (arg2.view.read (Elt F) X2) 276)⌝))) := by
  rw [cc0_ffm_combine_eq_skeleton]
  unfold cc0_ffm_combine_skel
  iintro ⟨H0, H1, H2, H3, H4, H5⟩
  sl_exec
  have w1 : kernelRun.sl.v11 arg2 arg5 X2 = linSum (arg2.view.read (Elt F) X2) 1 := by
    unfold kernelRun.sl.v11 kernelRun.sl.H5_2 kernelRun.sl.v4 kernelRun.sl.H5_1
    rw [View.readCov_full, View.readCov_full]
    simp only [k0_pay10, shapeCast_self]
    rw [show k0_pay9 (F := F) = linSum (arg2.view.read (Elt F) X2) 0 from shapeCast_self _ _]
    exact congrArg (addf _) (cast_sca_load arg2.view X2 0 _ _)
  have w2 : kernelRun.sl.v18 arg2 arg5 X2 = linSum (arg2.view.read (Elt F) X2) 2 := by
    unfold kernelRun.sl.v18 kernelRun.sl.H5_3
    rw [View.readCov_full]
    simp only [k0_pay11, shapeCast_self, w1]
    exact congrArg (addf _) (cast_sca_load arg2.view X2 25 _ _)
  have w3 : kernelRun.sl.v25 arg2 arg5 X2 = linSum (arg2.view.read (Elt F) X2) 3 := by
    unfold kernelRun.sl.v25 kernelRun.sl.H5_4
    rw [View.readCov_full]
    simp only [k0_pay12, shapeCast_self, w2]
    exact congrArg (addf _) (cast_sca_load arg2.view X2 50 _ _)
  have w4 : kernelRun.sl.v32 arg2 arg5 X2 = linSum (arg2.view.read (Elt F) X2) 4 := by
    unfold kernelRun.sl.v32 kernelRun.sl.H5_5
    rw [View.readCov_full]
    simp only [k0_pay13, shapeCast_self, w3]
    exact congrArg (addf _) (cast_sca_load arg2.view X2 75 _ _)
  have w5 : kernelRun.sl.v39 arg2 arg5 X2 = linSum (arg2.view.read (Elt F) X2) 5 := by
    unfold kernelRun.sl.v39 kernelRun.sl.H5_6
    rw [View.readCov_full]
    simp only [k0_pay14, shapeCast_self, w4]
    exact congrArg (addf _) (cast_sca_load arg2.view X2 100 _ _)
  have w6 : kernelRun.sl.v46 arg2 arg5 X2 = linSum (arg2.view.read (Elt F) X2) 6 := by
    unfold kernelRun.sl.v46 kernelRun.sl.H5_7
    rw [View.readCov_full]
    simp only [k0_pay15, shapeCast_self, w5]
    exact congrArg (addf _) (cast_sca_load arg2.view X2 125 _ _)
  have w7 : kernelRun.sl.v53 arg2 arg5 X2 = linSum (arg2.view.read (Elt F) X2) 7 := by
    unfold kernelRun.sl.v53 kernelRun.sl.H5_8
    rw [View.readCov_full]
    simp only [k0_pay16, shapeCast_self, w6]
    exact congrArg (addf _) (cast_sca_load arg2.view X2 150 _ _)
  have w8 : kernelRun.sl.v60 arg2 arg5 X2 = linSum (arg2.view.read (Elt F) X2) 8 := by
    unfold kernelRun.sl.v60 kernelRun.sl.H5_9
    rw [View.readCov_full]
    simp only [k0_pay17, shapeCast_self, w7]
    exact congrArg (addf _) (cast_sca_load arg2.view X2 175 _ _)
  have w9 : kernelRun.sl.v67 arg2 arg5 X2 = linSum (arg2.view.read (Elt F) X2) 9 := by
    unfold kernelRun.sl.v67 kernelRun.sl.H5_10
    rw [View.readCov_full]
    simp only [k0_pay18, shapeCast_self, w8]
    exact congrArg (addf _) (cast_sca_load arg2.view X2 200 _ _)
  have w10 : kernelRun.sl.v74 arg2 arg5 X2 = linSum (arg2.view.read (Elt F) X2) 10 := by
    unfold kernelRun.sl.v74 kernelRun.sl.H5_11
    rw [View.readCov_full]
    simp only [k0_pay19, shapeCast_self, w9]
    exact congrArg (addf _) (cast_sca_load arg2.view X2 225 _ _)
  have w11 : kernelRun.sl.v81 arg2 arg5 X2 = linSum (arg2.view.read (Elt F) X2) 11 := by
    unfold kernelRun.sl.v81 kernelRun.sl.H5_12
    rw [View.readCov_full]
    simp only [k0_pay20, shapeCast_self, w10]
    exact congrArg (addf _) (cast_sca_load arg2.view X2 250 _ _)
  have w12 : kernelRun.sl.v88 arg2 arg5 X2 = linSum (arg2.view.read (Elt F) X2) 12 := by
    unfold kernelRun.sl.v88 kernelRun.sl.H5_13
    rw [View.readCov_full]
    simp only [k0_pay21, shapeCast_self, w11]
    exact congrArg (addf _) (cast_sca_load arg2.view X2 275 _ _)
  have w13 : kernelRun.sl.v95 arg2 arg5 X2 = linSum (arg2.view.read (Elt F) X2) 13 := by
    unfold kernelRun.sl.v95 kernelRun.sl.H5_14
    rw [View.readCov_full]
    simp only [k0_pay22, shapeCast_self, w12]
    exact congrArg (addf _) (cast_sca_load arg2.view X2 300 _ _)
  have w14 : kernelRun.sl.v102 arg2 arg5 X2 = linSum (arg2.view.read (Elt F) X2) 14 := by
    unfold kernelRun.sl.v102 kernelRun.sl.H5_15
    rw [View.readCov_full]
    simp only [k0_pay23, shapeCast_self, w13]
    exact congrArg (addf _) (cast_sca_load arg2.view X2 325 _ _)
  have w15 : kernelRun.sl.v109 arg2 arg5 X2 = linSum (arg2.view.read (Elt F) X2) 15 := by
    unfold kernelRun.sl.v109 kernelRun.sl.H5_16
    rw [View.readCov_full]
    simp only [k0_pay24, shapeCast_self, w14]
    exact congrArg (addf _) (cast_sca_load arg2.view X2 350 _ _)
  have w16 : kernelRun.sl.v116 arg2 arg5 X2 = linSum (arg2.view.read (Elt F) X2) 16 := by
    unfold kernelRun.sl.v116 kernelRun.sl.H5_17
    rw [View.readCov_full]
    simp only [k0_pay25, shapeCast_self, w15]
    exact congrArg (addf _) (cast_sca_load arg2.view X2 375 _ _)
  have w17 : kernelRun.sl.v123 arg2 arg5 X2 = linSum (arg2.view.read (Elt F) X2) 17 := by
    unfold kernelRun.sl.v123 kernelRun.sl.H5_18
    rw [View.readCov_full]
    simp only [k0_pay26, shapeCast_self, w16]
    exact congrArg (addf _) (cast_sca_load arg2.view X2 400 _ _)
  have w18 : kernelRun.sl.v130 arg2 arg5 X2 = linSum (arg2.view.read (Elt F) X2) 18 := by
    unfold kernelRun.sl.v130 kernelRun.sl.H5_19
    rw [View.readCov_full]
    simp only [k0_pay27, shapeCast_self, w17]
    exact congrArg (addf _) (cast_sca_load arg2.view X2 425 _ _)
  have w19 : kernelRun.sl.v137 arg2 arg5 X2 = linSum (arg2.view.read (Elt F) X2) 19 := by
    unfold kernelRun.sl.v137 kernelRun.sl.H5_20
    rw [View.readCov_full]
    simp only [k0_pay28, shapeCast_self, w18]
    exact congrArg (addf _) (cast_sca_load arg2.view X2 450 _ _)
  have w20 : kernelRun.sl.v144 arg2 arg5 X2 = linSum (arg2.view.read (Elt F) X2) 20 := by
    unfold kernelRun.sl.v144 kernelRun.sl.H5_21
    rw [View.readCov_full]
    simp only [k0_pay29, shapeCast_self, w19]
    exact congrArg (addf _) (cast_sca_load arg2.view X2 475 _ _)
  have w21 : kernelRun.sl.v151 arg2 arg5 X2 = linSum (arg2.view.read (Elt F) X2) 21 := by
    unfold kernelRun.sl.v151 kernelRun.sl.H5_22
    rw [View.readCov_full]
    simp only [k0_pay30, shapeCast_self, w20]
    exact congrArg (addf _) (cast_sca_load arg2.view X2 500 _ _)
  have w22 : kernelRun.sl.v158 arg2 arg5 X2 = linSum (arg2.view.read (Elt F) X2) 22 := by
    unfold kernelRun.sl.v158 kernelRun.sl.H5_23
    rw [View.readCov_full]
    simp only [k0_pay31, shapeCast_self, w21]
    exact congrArg (addf _) (cast_sca_load arg2.view X2 525 _ _)
  have w23 : kernelRun.sl.v165 arg2 arg5 X2 = linSum (arg2.view.read (Elt F) X2) 23 := by
    unfold kernelRun.sl.v165 kernelRun.sl.H5_24
    rw [View.readCov_full]
    simp only [k0_pay32, shapeCast_self, w22]
    exact congrArg (addf _) (cast_sca_load arg2.view X2 550 _ _)
  have e5 : arg5.view.read (Elt F) (arg5.view.writes (Elt F) arg5.view.junk (kernelRun.sl.H5_25 arg2 arg5 X2)) = linSum (arg2.view.read (Elt F) X2) 24 := by
    unfold kernelRun.sl.H5_25
    rw [View.read_writes_full]
    simp only [k0_pay1, shapeCast_self, w23]
    exact congrArg (addf _) (cast_sca_load arg2.view X2 575 _ _)
  sl_for (fun k _ => Inv (F := F) c arg1 arg2 arg4 arg5 X1 X2 (base k)) $$ [H1 H2 H4 H5]
  case region => exact fun k _ => trip1 c arg0 harg0 arg1 harg1 arg2 harg2 arg3 harg3 arg4 harg4 arg5 harg5 X1 X2 k
  · unfold Inv
    isplitl [H1]; · iexact H1
    isplitl [H2]; · iexact H2
    isplitl [H4]
    · iexists _; isplitl [H4]; · iexact H4
      ipureintro
      intro p hp
      exact absurd hp (Nat.not_lt_zero p)
    · iexists _; isplitl [H5]; · iexact H5
      ipureintro
      exact e5
  iintro %_ H
  unfold Inv
  icases H with ⟨H1, H2, ⟨%f4, H4, %h4⟩, ⟨%f5, H5, %h5⟩⟩
  sl_exec
  sl_step
  have eb : base (Scf.trips k0_t1_loop.lb k0_t1_loop.ub k0_t1_loop.st) = 276 := by decide +kernel
  rw [eb] at h4 h5
  isplitl [H0]; · iexact H0
  isplitl [H1 H2 H4 H5]
  · isplitl [H1]; · iexact H1
    isplitl [H2]; · iexact H2
    isplitl [H4]
    · iexists _; isplitl [H4]; · iexact H4
      ipureintro; exact h4
    · iexists _; isplitl [H5]; · iexact H5
      ipureintro; exact h5
  · iexists _; isplitl [H3]; · iexact H3
    ipureintro
    rw [View.read_writes_full, View.readAt_full, h5]
    refine congrArg (fun x => k0_pay6 x _) ?_
    sl_unfold_run_names
    rw [View.readAt_full]
    exact congrArg _ (funext fun a => Fin.ext (by
      match a with
      | ⟨0, _⟩ => rfl))

/-! ## The proof data and the run -/

/-- What the pair array holds at the end. -/
def pairsAll (X1 : S276x8x256.Idx → Elt F .f32) (X2 : S576x8x256.Idx → Elt F .f32) : S276x8x256.Idx → Elt F .f32 :=
  fun j => pairRow X1 X2 (j 0).val (ValueIdx.ix2 (j 1) (j 2))

theorem PairsTo.all {X1 : S276x8x256.Idx → Elt F .f32} {X2 : S576x8x256.Idx → Elt F .f32} {Y : S276x8x256.Idx → Elt F .f32}
    (h : PairsTo X1 X2 276 Y) : Y = pairsAll X1 X2 := by
  funext j
  have h0 : (j 0).val < 276 := (j 0).isLt
  unfold pairsAll
  rw [← h _ h0 h0]
  unfold dotRow
  refine congrArg Y (funext fun a => Fin.ext ?_)
  match a with
  | ⟨0, _⟩ => exact (Nat.mod_eq_of_lt h0).symm
  | ⟨1, _⟩ => rfl
  | ⟨2, _⟩ => rfl

variable (m : (ℓ : Loc nD τ sig) → Buf (Elt F) ℓ) (ρ : Dev nD → PrngReg)

/-- What the body leaves in each window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay6 (iblk m c 0 t (ValueIdx.ix1 (0 : Fin 1))) (total (iblk m c 1 t) (iblk m c 2 t) 276)
    | ⟨4, _⟩ => pairsAll (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t
    = k0_pay6 (iblk m c 0 t (ValueIdx.ix1 (0 : Fin 1))) (total (iblk m c 1 t) (iblk m c 2 t) 276) := by dsimp only [dats]
theorem after4 (c : Dev nD) (t : Fin cfg0.N) : (dats m 0 c).after 4 t = pairsAll (iblk m c 1 t) (iblk m c 2 t) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- The windows and the accumulator as the body finds them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- The windows and the accumulator as the body leaves them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The accumulator's array whole is the accumulator's view. -/
theorem scratch_eq (c : Dev nD) (g : BufTy.Contents (Elt F) (Memref.whole cc0_scratch0).view.ty) :
    (((c.tc : Thread nD τ).loc cc0_scratch0 ↦{fullShare} g) : sProp 𝕄)
      = ((Memref.whole cc0_scratch0).view.loc (c : Thread nD τ) ↦[(Memref.whole cc0_scratch0).view.set]{fullShare} g) := by
  rw [show (Memref.whole cc0_scratch0).view.set = Finset.univ from View.set_whole _]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1, after2, after3, after4]
  rw [show (dats m 0 c).Φ t.castSucc = Pipeline.ΦA spec0 c from rfl]
  simp only [before0, before1, before2]
  unfold Pipeline.ΦA
  rw [scopedRest0_eq]
  rw [show (dats m 0 c).owesAt () t.succ = (dats m 0 c).owesAt () t.castSucc from rfl]
  unfold owns
  iintro ⟨⟨⟨%g5, HS⟩, Hg⟩, HW, ⟨%d0, %f0, %h0, H0⟩, ⟨%d1, %f1, %h1, H1⟩, ⟨%d2, %f2, %h2, H2⟩, ⟨%d3, %f3, %h3, H3⟩, ⟨%d4, %f4, %h4, H4⟩⟩
  iapply (wp_wand_r Idealize.ShloMosaic.frame (wpE (defs₀ (F := F)) Variants.none (c : Thread nD τ) none) Set.univ)
  isplitl [H0 H1 H2 H3 H4 HS]
  · iapply (kernelRun c _ _ _ _ _ _ _ _ _ _ _ _ f0 f1 f2 f3 f4 g5)
    isplitl [H0]; · iexact H0
    isplitl [H1]; · iexact H1
    isplitl [H2]; · iexact H2
    isplitl [H3]; · iexact H3
    isplitl [H4]; · iexact H4
    rw [← scratch_eq]; iexact HS
  iintro %_ ⟨H0, HI, ⟨%e3, H3, %p3⟩⟩
  unfold Inv
  icases HI with ⟨H1, H2, ⟨%e4, H4, %p4⟩, ⟨%e5, HS, %p5⟩⟩
  isplitl [HS Hg]
  · isplitl [HS]
    · iexists e5; rw [scratch_eq]; iexact HS
    iexact Hg
  isplitl [HW]; · iexact HW
  isplitl [H0]
  · iexists f0; isplitr
    · ipureintro; exact h0
    · iexact H0
  isplitl [H1]
  · iexists f1; isplitr
    · ipureintro; exact h1
    · iexact H1
  isplitl [H2]
  · iexists f2; isplitr
    · ipureintro; exact h2
    · iexact H2
  isplitl [H3]
  · iexists e3; isplitr
    · ipureintro; rw [← h0, ← h1, ← h2]; exact p3
    · iexact H3
  · iexists e4; isplitr
    · ipureintro; rw [← h1, ← h2]; exact p4.all
    · iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the proof data says, every semaphore at zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (Q' := fun r => Pipeline.FramePost cfgs (dats m) 0 (V m) r ∧ r.2.sem = fun _ => 0) (hQ' := fun _ h => h)

/-- The frame claim at any arithmetic: the arguments unchanged, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩, h.2⟩) (run_main m ρ)

end Cert.Proof.CombineIdeal

end
-- ==== Proof.CombineValue.lean ====
module

public import proofs.«01_k».proof.Proof.CombineIdealKernel
public import proofs.«01_k».proof.Proof.Gen.CombineRefIdeal
public import proofs.«01_k».proof.Proof.Gen.CombineRefIdeal.Run

@[expose] public section

set_option maxRecDepth 16384

noncomputable section

/-! # The combine call's result arrays, and the reference's, as the same sums -/

namespace Cert.Proof.CombineIdeal

open Cert.CombineIdeal Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

section Arrays
variable {F : FTy → Type} [FloatOps F]
variable (m : (ℓ : Loc nD τ sig) → Buf (Elt F) ℓ) (ρ : Dev nD → PrngReg)

/-- The bias window's block is the bias array. -/
theorem iblk0 (c : Dev nD) (t : Fin cfg0.N) : iblk m c 0 t = m ((c : Thread nD τ).loc main_arg0) :=
  Memref.read_access_unit_zero (Elt F) main_arg0 (off := fun a => win0_0.index t a * main_arg0.ty.shape.size a)
    (funext fun a => Nat.zero_mul _) (fun a => by simp; exact Or.inl rfl) (m ((c : Thread nD τ).loc main_arg0))
/-- The dots window's block is the array of dots. -/
theorem iblk1 (c : Dev nD) (t : Fin cfg0.N) : iblk m c 1 t = m ((c : Thread nD τ).loc main_arg1) :=
  Memref.read_access_unit_zero (Elt F) main_arg1 (off := fun a => win0_1.index t a * main_arg1.ty.shape.size a)
    (funext fun a => Nat.zero_mul _) (fun a => by simp; exact Or.inl rfl) (m ((c : Thread nD τ).loc main_arg1))
/-- The rows window's block is the array of scaled rows. -/
theorem iblk2 (c : Dev nD) (t : Fin cfg0.N) : iblk m c 2 t = m ((c : Thread nD τ).loc main_arg2) :=
  Memref.read_access_unit_zero (Elt F) main_arg2 (off := fun a => win0_2.index t a * main_arg2.ty.shape.size a)
    (funext fun a => Nat.zero_mul _) (fun a => by simp; exact Or.inl rfl) (m ((c : Thread nD τ).loc main_arg2))

/-- The logits the kernel leaves. -/
def logits (c : Dev nD) : S8x256.Idx → Elt F .f32 :=
  k0_pay6 (m ((c : Thread nD τ).loc main_arg0) (ValueIdx.ix1 (0 : Fin 1)))
    (total (m ((c : Thread nD τ).loc main_arg1)) (m ((c : Thread nD τ).loc main_arg2)) 276)

/-- What is written back first is the logits. -/
theorem flushed3 (c : Dev nD) (t : Fin cfg0.N) (hf : (cfg0.win 3).flush t = true) :
    (dats m 0 c).flushed 3 t = ((cfg0.win 3).blk t).view.read (Elt F) (logits m c) := by
  show (cfg0.win 3).cut (grid0.coords t) ((dats m 0 c).after 3 t) = _
  rw [after3, iblk0, iblk1, iblk2]
  exact (Memref.read_access_unit_zero (Elt F) main_v0_0 (off := fun a => win0_3.index t a * main_v0_0.ty.shape.size a)
    (funext fun a => Nat.zero_mul _) (fun a => by simp; exact Or.inl rfl) (logits m c)).symm
/-- What is written back second is the pair terms. -/
theorem flushed4 (c : Dev nD) (t : Fin cfg0.N) (hf : (cfg0.win 4).flush t = true) :
    (dats m 0 c).flushed 4 t = ((cfg0.win 4).blk t).view.read (Elt F)
      (pairsAll (m ((c : Thread nD τ).loc main_arg1)) (m ((c : Thread nD τ).loc main_arg2))) := by
  show (cfg0.win 4).cut (grid0.coords t) ((dats m 0 c).after 4 t) = _
  rw [after4, iblk1, iblk2]
  exact (Memref.read_access_unit_zero (Elt F) main_v0_1 (off := fun a => win0_4.index t a * main_v0_1.ty.shape.size a)
    (funext fun a => Nat.zero_mul _) (fun a => by simp; exact Or.inl rfl) _).symm

/-- The first result array ends at the logits. -/
theorem final3 (c : Dev nD) : (dats m 0 c).arrAt 3 cfg0.N = logits m c :=
  (dats m 0 c).arrAt_eq_of_cover 3 (logits m c) (flushed3 m c) fun i =>
    ⟨t0_0, flush0_3 t0_0, by
      show i ∈ ((View.whole main_v0_0).slice (win0_3.rect t0_0)).set
      rw [View.set_slice_whole, Rect.mem_set_unit]
      intro a
      refine ⟨by show 0 * _ ≤ _; simp, ?_⟩
      show (i a : ℕ) < 0 * _ + S8x256.size a
      rw [Nat.zero_mul, Nat.zero_add]; exact (i a).isLt⟩

/-- The second result array ends at the pair terms. -/
theorem final4 (c : Dev nD) : (dats m 0 c).arrAt 4 cfg0.N
    = pairsAll (m ((c : Thread nD τ).loc main_arg1)) (m ((c : Thread nD τ).loc main_arg2)) :=
  (dats m 0 c).arrAt_eq_of_cover 4 _ (flushed4 m c) fun i =>
    ⟨t0_0, flush0_4 t0_0, by
      show i ∈ ((View.whole main_v0_1).slice (win0_4.rect t0_0)).set
      rw [View.set_slice_whole, Rect.mem_set_unit]
      intro a
      refine ⟨by show 0 * _ ≤ _; simp, ?_⟩
      show (i a : ℕ) < 0 * _ + S276x8x256.size a
      rw [Nat.zero_mul, Nat.zero_add]; exact (i a).isLt⟩

/-- The run with its results: the logits and the pair terms, the arguments unchanged. -/
theorem run_values : θ_run defs (onTc (τ := τ) (main (F := F))) ⟨m, fun _ => 0, ρ⟩ (fun r => ∀ c : Dev nD,
      r.2.mem ((c.tc : Thread nD τ).loc main_v0_0) = logits m c
      ∧ r.2.mem ((c.tc : Thread nD τ).loc main_v0_1)
          = pairsAll (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final3 m c), ((h.1 c).1 4).trans (final4 m c),
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c)))⟩) (run_main m ρ)
end Arrays

/-! ## The sums at the ideal arithmetic -/

/-- The sum of the first `n` diagonal rows, at an index. -/
theorem linSum_apply (X2 : S576x8x256.Idx → Elt Ideal .f32) (n : ℕ) (j : S8x256.Idx) :
    linSum (F := Ideal) X2 n j = ∑ k ∈ Finset.range n, (scaRow X2 (25 * k) j : EReal) := by
  induction n with
  | zero =>
    rw [Finset.sum_range_zero]
    exact Ideal.ofBits_zero .f32
  | succ n ih =>
    rw [Finset.sum_range_succ, ← ih]; rfl

/-- The diagonal rows and the first `n` pair terms, at an index. -/
theorem total_apply (X1 : S276x8x256.Idx → Elt Ideal .f32) (X2 : S576x8x256.Idx → Elt Ideal .f32) (n : ℕ) (j : S8x256.Idx) :
    total (F := Ideal) X1 X2 n j = (linSum (F := Ideal) X2 24 j : EReal) + ∑ k ∈ Finset.range n, (pairRow X1 X2 k j : EReal) := by
  induction n with
  | zero => exact (add_zero _).symm
  | succ n ih =>
    rw [Finset.sum_range_succ, ← add_assoc, ← ih]; rfl

/-! ## The reference's gathers -/

/-- The dimension numbers of a gather of whole `[8, 256]` planes by two indices. -/
abbrev planeDims (n : ℕ) (wf : GatherDims.WF ⟨4, ![24, 24, 8, 256]⟩ ⟨2, ![n, 2]⟩ ⟨3, ![n, 8, 256]⟩ [1, 2] [0, 1] [] [0, 1] [] 1 ![1, 1, 8, 256]) :
    GatherDims ⟨4, ![24, 24, 8, 256]⟩ ⟨2, ![n, 2]⟩ ⟨3, ![n, 8, 256]⟩ where
  offsetDims := [1, 2]
  collapsedSliceDims := [0, 1]
  operandBatchingDims := []
  startIndicesBatchingDims := []
  startIndexMap := [0, 1]
  indexVectorDim := 1
  sliceSizes := ![1, 1, 8, 256]
  wf := wf

/-- That gather at an index: the plane its two start indices name. -/
theorem gather_plane {α : Type} {n : ℕ} (wf) (x : (⟨4, ![24, 24, 8, 256]⟩ : Shape).Idx → α) (idx : IVec ⟨2, ![n, 2]⟩ 32)
    (p : Fin n) (a b : Fin 24) (i : Fin 8) (l : Fin 256)
    (ha : min (idx (ValueIdx.ix2 p 0)).toInt.toNat 23 = a.val) (hb : min (idx (ValueIdx.ix2 p 1)).toInt.toNat 23 = b.val) :
    Host.gather (planeDims n wf) x idx (ValueIdx.ix3 p i l) = x (ValueIdx.ix4 a b i l) := by
  unfold Host.gather
  congr 1
  funext d
  refine Fin.ext ?_
  show (planeDims n wf).start (ValueIdx.ix3 p i l) idx d + (planeDims n wf).batchCoord (ValueIdx.ix3 p i l) d
    + (planeDims n wf).offCoord (ValueIdx.ix3 p i l) d = _
  rw [GatherDims.batchCoord_eq_zero _ _ _ List.not_mem_nil]
  have hs : ∀ q : Fin 2, (planeDims n wf).siIdx (ValueIdx.ix3 p i l) q = ValueIdx.ix2 p q := by
    intro q; funext e; refine Fin.ext ?_
    match e with
    | ⟨0, _⟩ => rfl
    | ⟨1, _⟩ => rfl
  match d with
  | ⟨0, _⟩ =>
    rw [GatherDims.offCoord_eq_zero _ _ _ (fun h => ((GatherDims.mem_sKept _ _).mp h).1 (by show (0 : Fin 4) ∈ ([0, 1] : List (Fin 4)); decide))]
    unfold GatherDims.start
    rw [dif_pos (by show (0 : Fin 4) ∈ ([0, 1] : List (Fin 4)); decide)]
    exact (congrArg (fun z => min (idx z).toInt.toNat 23) (hs 0)).trans ha
  | ⟨1, _⟩ =>
    rw [GatherDims.offCoord_eq_zero _ _ _ (fun h => ((GatherDims.mem_sKept _ _).mp h).1 (by show (1 : Fin 4) ∈ ([0, 1] : List (Fin 4)); decide))]
    unfold GatherDims.start
    rw [dif_pos (by show (1 : Fin 4) ∈ ([0, 1] : List (Fin 4)); decide)]
    exact (congrArg (fun z => min (idx z).toInt.toNat 23) (hs 1)).trans hb
  | ⟨2, _⟩ =>
    unfold GatherDims.start
    rw [dif_neg (by show ¬ (2 : Fin 4) ∈ ([0, 1] : List (Fin 4)); decide)]
    show 0 + 0 + _ = _
    unfold GatherDims.offCoord
    rw [dif_pos (by show (2 : Fin 4) ∈ (⟨4, ![24, 24, 8, 256]⟩ : Shape).kept ([0, 1] ++ []); decide)]; exact Nat.zero_add _
  | ⟨3, _⟩ =>
    unfold GatherDims.start
    rw [dif_neg (by show ¬ (3 : Fin 4) ∈ ([0, 1] : List (Fin 4)); decide)]
    show 0 + 0 + _ = _
    unfold GatherDims.offCoord
    rw [dif_pos (by show (3 : Fin 4) ∈ (⟨4, ![24, 24, 8, 256]⟩ : Shape).kept ([0, 1] ++ []); decide)]; exact Nat.zero_add _

/-- The rows as `[24, 24]` planes: plane `(a, b)` is row `24 a + b`. -/
theorem rows_apply (X2 : S576x8x256.Idx → Elt Ideal .f32) (h : S576x8x256.ShapeCasts Cert.CombineRefIdeal.S24x24x8x256)
    (a b : Fin 24) (i : Fin 8) (l : Fin 256) :
    shapeCast Cert.CombineRefIdeal.S24x24x8x256 X2 h (ValueIdx.ix4 a b i l) = scaRow X2 (24 * a.val + b.val) (ValueIdx.ix2 i l) := by
  refine Idealize.ShloMosaic.shapeCast_apply X2 h _ _ ?_
  rw [Shape.rowMajor_val_three, Shape.rowMajor_val_four]
  have := a.isLt; have := b.isLt
  show (((24 * a.val + b.val) % 576) * 8 + i.val) * 256 + l.val = ((a.val * 24 + b.val) * 8 + i.val) * 256 + l.val
  rw [Nat.mod_eq_of_lt (by omega)]; ring

end Cert.Proof.CombineIdeal

namespace Cert.Proof.CombineRefIdeal

open Cert.CombineRefIdeal Cert.CombineRefIdeal.Gen
open Idealize.ShloMosaic Idealize.ShloMosaic.TcCoe Idealize.ShloMosaic.Tactic
open Cert.Proof.CombineIdeal (fstOf sndOf dotRow scaRow pairRow pairsAll linSum total linSum_apply total_apply gather_plane rows_apply)

/-- The pairs' first fields as the reference gathers them. -/
abbrev idxA : IVec S276x1 32 :=
  broadcastInDim S276x1 ![0] Facts₀.bcast_S276_S276x1_0 (select (constantI S276 1 0#1) (addi ((fun i => lit0 (S276.rowMajor i))) (broadcastInDim S276 ![] Facts₀.bcast_S_S276 (constantI S_ 32 24#32))) ((fun i => lit0 (S276.rowMajor i))))
/-- The pairs' second fields, as the reference writes them. -/
abbrev idxB : IVec S276x1 32 :=
  broadcastInDim S276x1 ![0] Facts₀.bcast_S276_S276x1_0 (select (constantI S276 1 0#1) (addi ((fun i => lit1 (S276.rowMajor i))) (broadcastInDim S276 ![] Facts₀.bcast_S_S276 (constantI S_ 32 24#32))) ((fun i => lit1 (S276.rowMajor i))))
/-- The fields, as the reference writes them. -/
abbrev idxD : IVec S24x1 32 :=
  broadcastInDim S24x1 ![0] Facts₀.bcast_S24_S24x1_0 (select (constantI S24 1 0#1) (addi ((fun i => lit2 (S24.rowMajor i))) (broadcastInDim S24 ![] Facts₀.bcast_S_S24 (constantI S_ 32 24#32))) ((fun i => lit2 (S24.rowMajor i))))

/-- Each pair's first field. -/
theorem idxA_eq : ∀ p : Fin 276, idxA (ValueIdx.ix2 p 0) = BitVec.ofNat 32 (fstOf p.val) := by decide +kernel
/-- Each pair's second field. -/
theorem idxB_eq : ∀ p : Fin 276, idxB (ValueIdx.ix2 p 0) = BitVec.ofNat 32 (sndOf p.val) := by decide +kernel
/-- Each field. -/
theorem idxD_eq : ∀ p : Fin 24, idxD (ValueIdx.ix2 p 0) = BitVec.ofNat 32 p.val := by decide +kernel

/-- Two index columns side by side: the first, then the second. -/
theorem cols0 {n : ℕ} (a b : IVec ⟨2, ![n, 1]⟩ 32) (h) (p : Fin n) :
    concatenate ⟨2, ![n, 2]⟩ 1 [⟨⟨2, ![n, 1]⟩, a⟩, ⟨⟨2, ![n, 1]⟩, b⟩] h (ValueIdx.ix2 p 0) = a (ValueIdx.ix2 p 0) := by
  pointwise
  refine (dif_pos (show (0 : ℕ) < 1 by decide)).trans ?_
  refine congrArg a (funext fun d => Fin.ext ?_)
  match d with
  | ⟨0, _⟩ => rfl
  | ⟨1, _⟩ => rfl
/-- The second of two columns side by side. -/
theorem cols1 {n : ℕ} (a b : IVec ⟨2, ![n, 1]⟩ 32) (h) (p : Fin n) :
    concatenate ⟨2, ![n, 2]⟩ 1 [⟨⟨2, ![n, 1]⟩, a⟩, ⟨⟨2, ![n, 1]⟩, b⟩] h (ValueIdx.ix2 p 1) = b (ValueIdx.ix2 p 0) := by
  pointwise
  refine (dif_neg (show ¬ (1 : ℕ) < 1 by decide)).trans ?_
  refine congrArg b (funext fun d => Fin.ext ?_)
  match d with
  | ⟨0, _⟩ => rfl
  | ⟨1, _⟩ => rfl

/-- The planes the reference gathers by (first, second) field. -/
abbrev planesAB (X2 : S576x8x256.Idx → Elt Ideal .f32) : S276x8x256.Idx → Elt Ideal .f32 :=
  Host.gather gather_S24x24x8x256_S276x2_S276x8x256_12_01_n_n_01_1_118256 (shapeCast _ X2 Facts₀.shapeCasts_S576x8x256_S24x24x8x256)
    (concatenate S276x2 1 [⟨S276x1, idxA⟩, ⟨S276x1, idxB⟩] Facts₀.concatenates_S276x1_S276x1_S276x2_d1)
/-- The planes the reference gathers by (second, first) field. -/
abbrev planesBA (X2 : S576x8x256.Idx → Elt Ideal .f32) : S276x8x256.Idx → Elt Ideal .f32 :=
  Host.gather gather_S24x24x8x256_S276x2_S276x8x256_12_01_n_n_01_1_118256 (shapeCast _ X2 Facts₀.shapeCasts_S576x8x256_S24x24x8x256)
    (concatenate S276x2 1 [⟨S276x1, idxB⟩, ⟨S276x1, idxA⟩] Facts₀.concatenates_S276x1_S276x1_S276x2_d1)
/-- The diagonal planes the reference gathers. -/
abbrev planesD (X2 : S576x8x256.Idx → Elt Ideal .f32) : S24x8x256.Idx → Elt Ideal .f32 :=
  Host.gather gather_S24x24x8x256_S24x2_S24x8x256_12_01_n_n_01_1_118256 (shapeCast _ X2 Facts₀.shapeCasts_S576x8x256_S24x24x8x256)
    (concatenate S24x2 1 [⟨S24x1, idxD⟩, ⟨S24x1, idxD⟩] Facts₀.concatenates_S24x1_S24x1_S24x2_d1)

/-- A pair's first field is a field. -/
theorem fst_lt : ∀ p : Fin 276, fstOf p.val < 24 := by decide +kernel
/-- A pair's second field is a field. -/
theorem snd_lt : ∀ p : Fin 276, sndOf p.val < 24 := by decide +kernel

/-- A field number read as a start index is itself. -/
theorem clampField : ∀ f : Fin 24, min (BitVec.ofNat 32 f.val).toInt.toNat 23 = f.val := by decide +kernel

/-- The rows at (first, second) of each pair. -/
theorem planesAB_apply (X2 : S576x8x256.Idx → Elt Ideal .f32) (p : Fin 276) (i : Fin 8) (l : Fin 256) :
    planesAB X2 (ValueIdx.ix3 p i l) = scaRow X2 (24 * fstOf p.val + sndOf p.val) (ValueIdx.ix2 i l) := by
  refine (gather_plane _ _ _ p ⟨fstOf p.val, fst_lt p⟩ ⟨sndOf p.val, snd_lt p⟩ i l ?_ ?_).trans (rows_apply X2 _ _ _ i l)
  · rw [cols0, idxA_eq]; exact clampField ⟨fstOf p.val, fst_lt p⟩
  · rw [cols1, idxB_eq]; exact clampField ⟨sndOf p.val, snd_lt p⟩
/-- The rows at (second, first) of each pair. -/
theorem planesBA_apply (X2 : S576x8x256.Idx → Elt Ideal .f32) (p : Fin 276) (i : Fin 8) (l : Fin 256) :
    planesBA X2 (ValueIdx.ix3 p i l) = scaRow X2 (24 * sndOf p.val + fstOf p.val) (ValueIdx.ix2 i l) := by
  refine (gather_plane _ _ _ p ⟨sndOf p.val, snd_lt p⟩ ⟨fstOf p.val, fst_lt p⟩ i l ?_ ?_).trans (rows_apply X2 _ _ _ i l)
  · rw [cols0, idxB_eq]; exact clampField ⟨sndOf p.val, snd_lt p⟩
  · rw [cols1, idxA_eq]; exact clampField ⟨fstOf p.val, fst_lt p⟩
/-- The rows at (field, field). -/
theorem planesD_apply (X2 : S576x8x256.Idx → Elt Ideal .f32) (p : Fin 24) (i : Fin 8) (l : Fin 256) :
    planesD X2 (ValueIdx.ix3 p i l) = scaRow X2 (25 * p.val) (ValueIdx.ix2 i l) := by
  refine (gather_plane _ _ _ p p p i l ?_ ?_).trans ((rows_apply X2 _ _ _ i l).trans ?_)
  · rw [cols0, idxD_eq]; exact clampField p
  · rw [cols1, idxD_eq]; exact clampField p
  · rw [show 24 * p.val + p.val = 25 * p.val by ring]

/-- The reference's pair terms. -/
theorem ref_pairs (X1 : S276x8x256.Idx → Elt Ideal .f32) (X2 : S576x8x256.Idx → Elt Ideal .f32) :
    mulf (F := Ideal) (φ := .f32) (mulf (F := Ideal) (φ := .f32) X1 (planesAB X2)) (planesBA X2) = pairsAll X1 X2 := by
  funext j
  rw [ValueIdx.eq_ix3 j]
  show (X1 _ * planesAB X2 (ValueIdx.ix3 (j 0) (j 1) (j 2)) * planesBA X2 (ValueIdx.ix3 (j 0) (j 1) (j 2)) : EReal) = _
  rw [planesAB_apply X2 (j 0) (j 1) (j 2), planesBA_apply X2 (j 0) (j 1) (j 2)]
  have h0 : (j 0).val < 276 := (j 0).isLt
  refine congrArg (fun z : EReal => z * _ * _) (congrArg X1 (funext fun a => Fin.ext ?_))
  match a with
  | ⟨0, _⟩ => exact (Nat.mod_eq_of_lt h0).symm
  | ⟨1, _⟩ => rfl
  | ⟨2, _⟩ => rfl

/-- The reference's logits. -/
theorem ref_logits (X0 : S1.Idx → Elt Ideal .f32) (X1 : S276x8x256.Idx → Elt Ideal .f32) (X2 : S576x8x256.Idx → Elt Ideal .f32) :
    addf (F := Ideal) (φ := .f32) (addf (F := Ideal) (φ := .f32) (broadcastInDim S8x256 ![] Facts₀.bcast_S_S8x256 (shapeCast _ X0 Facts₀.shapeCasts_S1_S_))
        (Host.reduceAdd (planesD X2) (constant S_ .f32 0x00000000#32) Facts₀.reducesTo_S24x8x256_S8x256_d0 Facts₀.h_S_))
      (Host.reduceAdd (pairsAll X1 X2) (constant S_ .f32 0x00000000#32) Facts₀.reducesTo_S276x8x256_S8x256_d0 Facts₀.h_S_)
    = Cert.CombineIdeal.Gen.k0_pay6 (X0 (ValueIdx.ix1 (0 : Fin 1))) (total X1 X2 276) := by
  funext j
  have hD : (Host.reduceAdd (F := Ideal) (φ := .f32) (planesD X2) (constant S_ .f32 0x00000000#32) Facts₀.reducesTo_S24x8x256_S8x256_d0 Facts₀.h_S_ j : EReal)
      = ∑ k ∈ Finset.range 24, (scaRow X2 (25 * k) j : EReal) := by
    show Ideal.hostReduceAdd Facts₀.reducesTo_S24x8x256_S8x256_d0 (planesD X2) (Ideal.ofBits .f32 0x00000000#32) j = _
    rw [Ideal.hostReduceAdd_r3_a0, show Ideal.ofBits .f32 0x00000000#32 = (0 : EReal) from Ideal.ofBits_zero .f32, zero_add, Finset.sum_range]
    exact Finset.sum_congr rfl fun k _ => (planesD_apply X2 k (j 0) (j 1)).trans (congrArg (scaRow X2 (25 * k.val)) (ValueIdx.eq_ix2 j).symm)
  have hP : (Host.reduceAdd (F := Ideal) (φ := .f32) (pairsAll X1 X2) (constant S_ .f32 0x00000000#32) Facts₀.reducesTo_S276x8x256_S8x256_d0 Facts₀.h_S_ j : EReal)
      = ∑ k ∈ Finset.range 276, (pairRow X1 X2 k j : EReal) := by
    show Ideal.hostReduceAdd Facts₀.reducesTo_S276x8x256_S8x256_d0 (pairsAll X1 X2) (Ideal.ofBits .f32 0x00000000#32) j = _
    rw [Ideal.hostReduceAdd_r3_a0, show Ideal.ofBits .f32 0x00000000#32 = (0 : EReal) from Ideal.ofBits_zero .f32, zero_add, Finset.sum_range]
    exact Finset.sum_congr rfl fun k _ => (congrArg (pairRow X1 X2 k.val) (ValueIdx.eq_ix2 j).symm : pairRow X1 X2 k.val (ValueIdx.ix2 (j 0) (j 1)) = _)
  have h0 : shapeCast S_ X0 Facts₀.shapeCasts_S1_S_ ValueIdx.ix0 = X0 (ValueIdx.ix1 (0 : Fin 1)) :=
    Idealize.ShloMosaic.shapeCast_apply X0 _ _ _ rfl
  have ht := total_apply X1 X2 276 j
  rw [linSum_apply] at ht
  show (shapeCast S_ X0 Facts₀.shapeCasts_S1_S_ _ + Host.reduceAdd (F := Ideal) (φ := .f32) (planesD X2) (constant S_ .f32 0x00000000#32) Facts₀.reducesTo_S24x8x256_S8x256_d0 Facts₀.h_S_ j
    + Host.reduceAdd (F := Ideal) (φ := .f32) (pairsAll X1 X2) (constant S_ .f32 0x00000000#32) Facts₀.reducesTo_S276x8x256_S8x256_d0 Facts₀.h_S_ j : EReal)
    = X0 (ValueIdx.ix1 (0 : Fin 1)) + total (F := Ideal) X1 X2 276 j
  rw [hD, hP, ht, add_assoc]
  exact congrArg (fun z : EReal => z + _) ((congrArg _ (funext fun a => a.elim0)).trans h0)

end Cert.Proof.CombineRefIdeal

end
-- ==== Proof.DotsDefs.lean ====
module

public import Idealize.ShloMosaic.PureOps

@[expose] public section

/-! # The numbers the dots kernel addresses its buffers by -/

namespace Cert.Proof.DotsMath

/-- The first table column of field `f`'s strip. -/
def first (f : ℕ) : ℕ := min (30000 * f / 128) 5389 * 128
/-- The slot of the pair `(e, f)` in the buffer of upper words. -/
def slot (e f : ℕ) : ℕ :=
  if e < 12 ∧ 12 ≤ f then e * 12 + (f - 12) else (if f < 12 then f else f - 12) * 12 + (if e < 12 then e else e - 12)
/-- The index of the pair `(e, f)` among all pairs. -/
def pairIdx (e f : ℕ) : ℕ := e * (47 - e) / 2 + f - e - 1

end Cert.Proof.DotsMath

end
-- ==== Proof.DotsFacts.lean ====
module

public import proofs.«01_k».proof.Dots
public import proofs.«01_k».proof.Proof.DotsDefs
public import Mathlib.Tactic.FinCases
public import Idealize.ShloMosaic.Lib.Exec

@[expose] public section

/-! # The dots kernel: where each access lands, and how often each loop runs. -/
open Idealize.ShloMosaic Cert.Proof.DotsMath
set_option maxRecDepth 100000
namespace Cert.Proof.Dots
open Cert.Dots

theorem of1 {o : Fin 1 → ℕ} {a : ℕ} (h : o 0 = a) : o = ![a] := by funext i; fin_cases i; exact h
theorem of2 {o : Fin 2 → ℕ} {a b : ℕ} (h : o 0 = a ∧ o 1 = b) : o = ![a, b] := by funext i; fin_cases i; exacts [h.1, h.2]
theorem of3 {o : Fin 3 → ℕ} {a b c : ℕ} (h : o 0 = a ∧ o 1 = b ∧ o 2 = c) : o = ![a, b, c] := by funext i; fin_cases i; exacts [h.1, h.2.1, h.2.2]

theorem off1_eq_all : ∀ (j : Fin k0_t1_loop.trips), (k0_off1 j) 0 = j.val := by decide +kernel
/-- The semaphore of a chunk. -/
theorem off1_eq (j : Fin k0_t1_loop.trips) : k0_off1 j = ![j.val] := of1 (off1_eq_all j)

theorem off2_eq_all : ∀ (j : Fin k0_t1_loop.trips) (r : Fin k0_t2_loop.trips), (k0_off2 j r) 0 = j.val ∧ (k0_off2 j r) 1 = 32 * r.val ∧ (k0_off2 j r) 2 = 0 := by decide +kernel
/-- The part of the chunk buffer a copy fills. -/
theorem off2_eq (j : Fin k0_t1_loop.trips) (r : Fin k0_t2_loop.trips) : k0_off2 j r = ![j.val, 32 * r.val, 0] := of3 (off2_eq_all j r)

theorem off3_eq_all : ∀ (j : Fin k0_t1_loop.trips) (r : Fin k0_t2_loop.trips), (k0_off3 j r) 0 = 32 * r.val ∧ (k0_off3 j r) 1 = first (0) + 7552 * j.val := by decide +kernel
/-- The part of the table a copy reads. -/
theorem off3_eq (j : Fin k0_t1_loop.trips) (r : Fin k0_t2_loop.trips) : k0_off3 j r = ![32 * r.val, first (0) + 7552 * j.val] := of2 (off3_eq_all j r)

theorem off8_eq_all : ∀ (j : Fin k0_t4_loop.trips), (k0_off8 j) 0 = j.val := by decide +kernel
/-- The semaphore of a chunk. -/
theorem off8_eq (j : Fin k0_t4_loop.trips) : k0_off8 j = ![j.val] := of1 (off8_eq_all j)

theorem off9_eq_all : ∀ (j : Fin k0_t4_loop.trips) (r : Fin k0_t5_loop.trips), (k0_off9 j r) 0 = j.val ∧ (k0_off9 j r) 1 = 32 * r.val ∧ (k0_off9 j r) 2 = 0 := by decide +kernel
/-- The part of the chunk buffer a copy fills. -/
theorem off9_eq (j : Fin k0_t4_loop.trips) (r : Fin k0_t5_loop.trips) : k0_off9 j r = ![j.val, 32 * r.val, 0] := of3 (off9_eq_all j r)

theorem off13_eq_all : ∀ (j : Fin k0_t4_loop.trips), (k0_off13 j) 0 = j.val := by decide +kernel
/-- The semaphore of a chunk. -/
theorem off13_eq (j : Fin k0_t4_loop.trips) : k0_off13 j = ![j.val] := of1 (off13_eq_all j)

theorem off14_eq_all : ∀ (j : Fin k0_t4_loop.trips) (r : Fin k0_t7_loop.trips), (k0_off14 j r) 0 = j.val ∧ (k0_off14 j r) 1 = 32 * r.val ∧ (k0_off14 j r) 2 = 0 := by decide +kernel
/-- The part of the chunk buffer a copy fills. -/
theorem off14_eq (j : Fin k0_t4_loop.trips) (r : Fin k0_t7_loop.trips) : k0_off14 j r = ![j.val, 32 * r.val, 0] := of3 (off14_eq_all j r)

theorem off15_eq_all : ∀ (j : Fin k0_t4_loop.trips) (r : Fin k0_t7_loop.trips), (k0_off15 j r) 0 = 32 * r.val ∧ (k0_off15 j r) 1 = first (1) + 7552 * j.val := by decide +kernel
/-- The part of the table a copy reads. -/
theorem off15_eq (j : Fin k0_t4_loop.trips) (r : Fin k0_t7_loop.trips) : k0_off15 j r = ![32 * r.val, first (1) + 7552 * j.val] := of2 (off15_eq_all j r)

theorem off16_eq_all : ∀ (j : Fin k0_t9_loop.trips), (k0_off16 j) 0 = j.val := by decide +kernel
/-- The semaphore of a chunk. -/
theorem off16_eq (j : Fin k0_t9_loop.trips) : k0_off16 j = ![j.val] := of1 (off16_eq_all j)

theorem off17_eq_all : ∀ (j : Fin k0_t9_loop.trips) (r : Fin k0_t10_loop.trips), (k0_off17 j r) 0 = j.val ∧ (k0_off17 j r) 1 = 32 * r.val ∧ (k0_off17 j r) 2 = 0 := by decide +kernel
/-- The part of the chunk buffer a copy fills. -/
theorem off17_eq (j : Fin k0_t9_loop.trips) (r : Fin k0_t10_loop.trips) : k0_off17 j r = ![j.val, 32 * r.val, 0] := of3 (off17_eq_all j r)

theorem off27_eq_all : ∀ (j : Fin k0_t9_loop.trips), (k0_off27 j) 0 = j.val := by decide +kernel
/-- The semaphore of a chunk. -/
theorem off27_eq (j : Fin k0_t9_loop.trips) : k0_off27 j = ![j.val] := of1 (off27_eq_all j)

theorem off28_eq_all : ∀ (j : Fin k0_t9_loop.trips) (r : Fin k0_t14_loop.trips), (k0_off28 j r) 0 = j.val ∧ (k0_off28 j r) 1 = 32 * r.val ∧ (k0_off28 j r) 2 = 0 := by decide +kernel
/-- The part of the chunk buffer a copy fills. -/
theorem off28_eq (j : Fin k0_t9_loop.trips) (r : Fin k0_t14_loop.trips) : k0_off28 j r = ![j.val, 32 * r.val, 0] := of3 (off28_eq_all j r)

theorem off29_eq_all : ∀ (i : Fin k0_t8_loop.trips) (j : Fin k0_t9_loop.trips) (r : Fin k0_t14_loop.trips), (k0_off29 i j r) 0 = 32 * r.val ∧ (k0_off29 i j r) 1 = first (2 * i.val + 2) + 7552 * j.val := by decide +kernel
/-- The part of the table a copy reads. -/
theorem off29_eq (i : Fin k0_t8_loop.trips) (j : Fin k0_t9_loop.trips) (r : Fin k0_t14_loop.trips) : k0_off29 i j r = ![32 * r.val, first (2 * i.val + 2) + 7552 * j.val] := of2 (off29_eq_all i j r)

theorem off42_eq_all : ∀ (j : Fin k0_t24_loop.trips), (k0_off42 j) 0 = j.val := by decide +kernel
/-- The semaphore of a chunk. -/
theorem off42_eq (j : Fin k0_t24_loop.trips) : k0_off42 j = ![j.val] := of1 (off42_eq_all j)

theorem off43_eq_all : ∀ (j : Fin k0_t24_loop.trips) (r : Fin k0_t25_loop.trips), (k0_off43 j r) 0 = j.val ∧ (k0_off43 j r) 1 = 32 * r.val ∧ (k0_off43 j r) 2 = 0 := by decide +kernel
/-- The part of the chunk buffer a copy fills. -/
theorem off43_eq (j : Fin k0_t24_loop.trips) (r : Fin k0_t25_loop.trips) : k0_off43 j r = ![j.val, 32 * r.val, 0] := of3 (off43_eq_all j r)

theorem off53_eq_all : ∀ (j : Fin k0_t24_loop.trips), (k0_off53 j) 0 = j.val := by decide +kernel
/-- The semaphore of a chunk. -/
theorem off53_eq (j : Fin k0_t24_loop.trips) : k0_off53 j = ![j.val] := of1 (off53_eq_all j)

theorem off54_eq_all : ∀ (j : Fin k0_t24_loop.trips) (r : Fin k0_t29_loop.trips), (k0_off54 j r) 0 = j.val ∧ (k0_off54 j r) 1 = 32 * r.val ∧ (k0_off54 j r) 2 = 0 := by decide +kernel
/-- The part of the chunk buffer a copy fills. -/
theorem off54_eq (j : Fin k0_t24_loop.trips) (r : Fin k0_t29_loop.trips) : k0_off54 j r = ![j.val, 32 * r.val, 0] := of3 (off54_eq_all j r)

theorem off55_eq_all : ∀ (i : Fin k0_t8_loop.trips) (j : Fin k0_t24_loop.trips) (r : Fin k0_t29_loop.trips), (k0_off55 i j r) 0 = 32 * r.val ∧ (k0_off55 i j r) 1 = first (2 * i.val + 3) + 7552 * j.val := by decide +kernel
/-- The part of the table a copy reads. -/
theorem off55_eq (i : Fin k0_t8_loop.trips) (j : Fin k0_t24_loop.trips) (r : Fin k0_t29_loop.trips) : k0_off55 i j r = ![32 * r.val, first (2 * i.val + 3) + 7552 * j.val] := of2 (off55_eq_all i j r)

theorem off68_eq_all : ∀ (j : Fin k0_t39_loop.trips), (k0_off68 j) 0 = j.val := by decide +kernel
/-- The semaphore of a chunk. -/
theorem off68_eq (j : Fin k0_t39_loop.trips) : k0_off68 j = ![j.val] := of1 (off68_eq_all j)

theorem off69_eq_all : ∀ (j : Fin k0_t39_loop.trips) (r : Fin k0_t40_loop.trips), (k0_off69 j r) 0 = j.val ∧ (k0_off69 j r) 1 = 32 * r.val ∧ (k0_off69 j r) 2 = 0 := by decide +kernel
/-- The part of the chunk buffer a copy fills. -/
theorem off69_eq (j : Fin k0_t39_loop.trips) (r : Fin k0_t40_loop.trips) : k0_off69 j r = ![j.val, 32 * r.val, 0] := of3 (off69_eq_all j r)

theorem off11_eq_all : ∀ (j : Fin k0_t4_loop.trips) (u : Fin k0_t6_loop.trips), (k0_off11 j u) 0 = j.val ∧ (k0_off11 j u) 1 = 0 ∧ (k0_off11 j u) 2 = 128 * u.val := by decide +kernel
/-- The tile of the chunk buffer a step transposes. -/
theorem off11_eq (j : Fin k0_t4_loop.trips) (u : Fin k0_t6_loop.trips) : k0_off11 j u = ![j.val, 0, 128 * u.val] := of3 (off11_eq_all j u)

theorem off12_eq_all : ∀ (j : Fin k0_t4_loop.trips) (u : Fin k0_t6_loop.trips), (k0_off12 j u) 0 = (59 * j.val + u.val) * 128 ∧ (k0_off12 j u) 1 = 0 := by decide +kernel
/-- The rows a step writes. -/
theorem off12_eq (j : Fin k0_t4_loop.trips) (u : Fin k0_t6_loop.trips) : k0_off12 j u = ![(59 * j.val + u.val) * 128, 0] := of2 (off12_eq_all j u)

theorem off19_eq_all : ∀ (j : Fin k0_t9_loop.trips) (u : Fin k0_t11_loop.trips), (k0_off19 j u) 0 = j.val ∧ (k0_off19 j u) 1 = 0 ∧ (k0_off19 j u) 2 = 128 * u.val := by decide +kernel
/-- The tile of the chunk buffer a step transposes. -/
theorem off19_eq (j : Fin k0_t9_loop.trips) (u : Fin k0_t11_loop.trips) : k0_off19 j u = ![j.val, 0, 128 * u.val] := of3 (off19_eq_all j u)

theorem off20_eq_all : ∀ (j : Fin k0_t9_loop.trips) (u : Fin k0_t11_loop.trips), (k0_off20 j u) 0 = (59 * j.val + u.val) * 128 ∧ (k0_off20 j u) 1 = 0 := by decide +kernel
/-- The rows a step writes. -/
theorem off20_eq (j : Fin k0_t9_loop.trips) (u : Fin k0_t11_loop.trips) : k0_off20 j u = ![(59 * j.val + u.val) * 128, 0] := of2 (off20_eq_all j u)

theorem off45_eq_all : ∀ (j : Fin k0_t24_loop.trips) (u : Fin k0_t26_loop.trips), (k0_off45 j u) 0 = j.val ∧ (k0_off45 j u) 1 = 0 ∧ (k0_off45 j u) 2 = 128 * u.val := by decide +kernel
/-- The tile of the chunk buffer a step transposes. -/
theorem off45_eq (j : Fin k0_t24_loop.trips) (u : Fin k0_t26_loop.trips) : k0_off45 j u = ![j.val, 0, 128 * u.val] := of3 (off45_eq_all j u)

theorem off46_eq_all : ∀ (j : Fin k0_t24_loop.trips) (u : Fin k0_t26_loop.trips), (k0_off46 j u) 0 = (59 * j.val + u.val) * 128 ∧ (k0_off46 j u) 1 = 0 := by decide +kernel
/-- The rows a step writes. -/
theorem off46_eq (j : Fin k0_t24_loop.trips) (u : Fin k0_t26_loop.trips) : k0_off46 j u = ![(59 * j.val + u.val) * 128, 0] := of2 (off46_eq_all j u)

theorem off71_eq_all : ∀ (j : Fin k0_t39_loop.trips) (u : Fin k0_t41_loop.trips), (k0_off71 j u) 0 = j.val ∧ (k0_off71 j u) 1 = 0 ∧ (k0_off71 j u) 2 = 128 * u.val := by decide +kernel
/-- The tile of the chunk buffer a step transposes. -/
theorem off71_eq (j : Fin k0_t39_loop.trips) (u : Fin k0_t41_loop.trips) : k0_off71 j u = ![j.val, 0, 128 * u.val] := of3 (off71_eq_all j u)

theorem off72_eq_all : ∀ (j : Fin k0_t39_loop.trips) (u : Fin k0_t41_loop.trips), (k0_off72 j u) 0 = (59 * j.val + u.val) * 128 ∧ (k0_off72 j u) 1 = 0 := by decide +kernel
/-- The rows a step writes. -/
theorem off72_eq (j : Fin k0_t39_loop.trips) (u : Fin k0_t41_loop.trips) : k0_off72 j u = ![(59 * j.val + u.val) * 128, 0] := of2 (off72_eq_all j u)

/-- The trip count. -/
theorem t2_trips : (k0_t2_loop).trips = 15 := by decide +kernel

/-- The trip count. -/
theorem t5_trips : (k0_t5_loop).trips = 15 := by decide +kernel

/-- The trip count. -/
theorem t7_trips : (k0_t7_loop).trips = 15 := by decide +kernel

/-- The trip count. -/
theorem t10_trips : (k0_t10_loop).trips = 15 := by decide +kernel

/-- The trip count. -/
theorem t14_trips : (k0_t14_loop).trips = 15 := by decide +kernel

/-- The trip count. -/
theorem t25_trips : (k0_t25_loop).trips = 15 := by decide +kernel

/-- The trip count. -/
theorem t29_trips : (k0_t29_loop).trips = 15 := by decide +kernel

/-- The trip count. -/
theorem t40_trips : (k0_t40_loop).trips = 15 := by decide +kernel

/-- The trip count. -/
theorem t6_trips : (k0_t6_loop).trips = 59 := by decide +kernel

/-- The trip count. -/
theorem t11_trips : (k0_t11_loop).trips = 59 := by decide +kernel

/-- The trip count. -/
theorem t26_trips : (k0_t26_loop).trips = 59 := by decide +kernel

/-- The trip count. -/
theorem t41_trips : (k0_t41_loop).trips = 59 := by decide +kernel

/-- The trip count. -/
theorem t1_trips : (k0_t1_loop).trips = 4 := by decide +kernel

/-- The trip count. -/
theorem t4_trips : (k0_t4_loop).trips = 4 := by decide +kernel

/-- The trip count. -/
theorem t9_trips : (k0_t9_loop).trips = 4 := by decide +kernel

/-- The trip count. -/
theorem t24_trips : (k0_t24_loop).trips = 4 := by decide +kernel

/-- The trip count. -/
theorem t39_trips : (k0_t39_loop).trips = 4 := by decide +kernel

/-- The trip count. -/
theorem t48_trips : (k0_t48_loop).trips = 4 := by decide +kernel

/-- The trip count. -/
theorem t3_trips : (k0_t3_loop).trips = 16 := by decide +kernel

/-- The trip count. -/
theorem t15_trips : (k0_t15_loop).trips = 16 := by decide +kernel

/-- The trip count. -/
theorem t30_trips : (k0_t30_loop).trips = 16 := by decide +kernel

/-- The trip count. -/
theorem t44_trips : (k0_t44_loop).trips = 16 := by decide +kernel

/-- The trip count. -/
theorem t50_trips : (k0_t50_loop).trips = 16 := by decide +kernel

/-- The trip count. -/
theorem t17_trips : (k0_t17_loop).trips = 5 := by decide +kernel

/-- The trip count. -/
theorem t21_trips : (k0_t21_loop).trips = 5 := by decide +kernel

/-- The trip count. -/
theorem t32_trips : (k0_t32_loop).trips = 5 := by decide +kernel

/-- The trip count. -/
theorem t36_trips : (k0_t36_loop).trips = 5 := by decide +kernel

/-- The trip count. -/
theorem t46_trips : (k0_t46_loop).trips = 5 := by decide +kernel

/-- The trip count. -/
theorem t47_trips : (k0_t47_loop).trips = 5 := by decide +kernel

/-- The trip count. -/
theorem t52_trips : (k0_t52_loop).trips = 5 := by decide +kernel

/-- The trip count. -/
theorem t8_trips : (k0_t8_loop).trips = 11 := by decide +kernel

/-- The trip count. -/
theorem t49_trips : (k0_t49_loop).trips = 512 := by decide +kernel

/-- The trip count. -/
theorem t45_trips : (k0_t45_loop).trips = 22 := by decide +kernel

/-- The trip count. -/
theorem t51_trips : (k0_t51_loop).trips = 23 := by decide +kernel

/-- The trip count. -/
theorem t16_trips : ∀ (i : Fin k0_t8_loop.trips), (k0_t16_loop i).trips = 2 * i.val := by decide +kernel

/-- The trip count. -/
theorem t31_trips : ∀ (i : Fin k0_t8_loop.trips), (k0_t31_loop i).trips = 2 * i.val + 1 := by decide +kernel

/-- The trip count. -/
theorem t20_trips : ∀ (i : Fin k0_t8_loop.trips), (k0_t20_loop i).trips = 23 - 2 * i.val := by decide +kernel

/-- The trip count. -/
theorem t35_trips : ∀ (i : Fin k0_t8_loop.trips), (k0_t35_loop i).trips = 22 - 2 * i.val := by decide +kernel

/-- The trip count. -/
theorem t12_trips : ∀ (u : Fin k0_t11_loop.trips), (k0_t12_loop u).trips = 512 * (u.val + 1) / 59 - 512 * u.val / 59 := by decide +kernel

/-- The trip count. -/
theorem t13_trips : ∀ (u : Fin k0_t11_loop.trips), (k0_t13_loop u).trips = 0 := by decide +kernel

/-- The trip count. -/
theorem t27_trips : ∀ (u : Fin k0_t26_loop.trips), (k0_t27_loop u).trips = 512 * (u.val + 1) / 59 - 512 * u.val / 59 := by decide +kernel

/-- The trip count. -/
theorem t28_trips : ∀ (u : Fin k0_t26_loop.trips), (k0_t28_loop u).trips = 0 := by decide +kernel

/-- The trip count. -/
theorem t42_trips : ∀ (u : Fin k0_t41_loop.trips), (k0_t42_loop u).trips = 512 * (u.val + 1) / 59 - 512 * u.val / 59 := by decide +kernel

/-- The trip count. -/
theorem t43_trips : ∀ (u : Fin k0_t41_loop.trips), (k0_t43_loop u).trips = 0 := by decide +kernel

/-- The trip count. -/
theorem t18_trips : ∀ (i : Fin k0_t8_loop.trips), (k0_t18_loop i).trips = 0 := by decide +kernel

/-- The trip count. -/
theorem t22_trips : ∀ (i : Fin k0_t8_loop.trips), (k0_t22_loop i).trips = 0 := by decide +kernel

/-- The trip count. -/
theorem t33_trips : ∀ (i : Fin k0_t8_loop.trips), (k0_t33_loop i).trips = 0 := by decide +kernel

/-- The trip count. -/
theorem t37_trips : ∀ (i : Fin k0_t8_loop.trips), (k0_t37_loop i).trips = 0 := by decide +kernel

theorem off21_eq_all : ∀ (i : Fin k0_t8_loop.trips) (j : Fin k0_t9_loop.trips) (u : Fin k0_t11_loop.trips) (p : Fin (k0_t12_loop u).trips), (k0_off21 i j u p) 0 = (2 * i.val) * 16 + (512 * j.val + 512 * u.val / 59 + p.val) / 128 ∧ (k0_off21 i j u p) 1 = (512 * j.val + 512 * u.val / 59 + p.val) % 128 := by decide +kernel
/-- The id a pick reads. -/
theorem off21_eq (i : Fin k0_t8_loop.trips) (j : Fin k0_t9_loop.trips) (u : Fin k0_t11_loop.trips) (p : Fin (k0_t12_loop u).trips) : k0_off21 i j u p = ![(2 * i.val) * 16 + (512 * j.val + 512 * u.val / 59 + p.val) / 128, (512 * j.val + 512 * u.val / 59 + p.val) % 128] := of2 (off21_eq_all i j u p)

theorem off23_eq_all : ∀ (j : Fin k0_t9_loop.trips) (u : Fin k0_t11_loop.trips) (p : Fin (k0_t12_loop u).trips), (k0_off23 j u p) 0 = (512 * j.val + 512 * u.val / 59 + p.val) ∧ (k0_off23 j u p) 1 = 0 := by decide +kernel
/-- The row a pick writes. -/
theorem off23_eq (j : Fin k0_t9_loop.trips) (u : Fin k0_t11_loop.trips) (p : Fin (k0_t12_loop u).trips) : k0_off23 j u p = ![(512 * j.val + 512 * u.val / 59 + p.val), 0] := of2 (off23_eq_all j u p)

theorem off47_eq_all : ∀ (i : Fin k0_t8_loop.trips) (j : Fin k0_t24_loop.trips) (u : Fin k0_t26_loop.trips) (p : Fin (k0_t27_loop u).trips), (k0_off47 i j u p) 0 = (2 * i.val + 1) * 16 + (512 * j.val + 512 * u.val / 59 + p.val) / 128 ∧ (k0_off47 i j u p) 1 = (512 * j.val + 512 * u.val / 59 + p.val) % 128 := by decide +kernel
/-- The id a pick reads. -/
theorem off47_eq (i : Fin k0_t8_loop.trips) (j : Fin k0_t24_loop.trips) (u : Fin k0_t26_loop.trips) (p : Fin (k0_t27_loop u).trips) : k0_off47 i j u p = ![(2 * i.val + 1) * 16 + (512 * j.val + 512 * u.val / 59 + p.val) / 128, (512 * j.val + 512 * u.val / 59 + p.val) % 128] := of2 (off47_eq_all i j u p)

theorem off49_eq_all : ∀ (j : Fin k0_t24_loop.trips) (u : Fin k0_t26_loop.trips) (p : Fin (k0_t27_loop u).trips), (k0_off49 j u p) 0 = (512 * j.val + 512 * u.val / 59 + p.val) ∧ (k0_off49 j u p) 1 = 0 := by decide +kernel
/-- The row a pick writes. -/
theorem off49_eq (j : Fin k0_t24_loop.trips) (u : Fin k0_t26_loop.trips) (p : Fin (k0_t27_loop u).trips) : k0_off49 j u p = ![(512 * j.val + 512 * u.val / 59 + p.val), 0] := of2 (off49_eq_all j u p)

theorem off73_eq_all : ∀ (j : Fin k0_t39_loop.trips) (u : Fin k0_t41_loop.trips) (p : Fin (k0_t42_loop u).trips), (k0_off73 j u p) 0 = 22 * 16 + (512 * j.val + 512 * u.val / 59 + p.val) / 128 ∧ (k0_off73 j u p) 1 = (512 * j.val + 512 * u.val / 59 + p.val) % 128 := by decide +kernel
/-- The id a pick reads. -/
theorem off73_eq (j : Fin k0_t39_loop.trips) (u : Fin k0_t41_loop.trips) (p : Fin (k0_t42_loop u).trips) : k0_off73 j u p = ![22 * 16 + (512 * j.val + 512 * u.val / 59 + p.val) / 128, (512 * j.val + 512 * u.val / 59 + p.val) % 128] := of2 (off73_eq_all j u p)

theorem off75_eq_all : ∀ (j : Fin k0_t39_loop.trips) (u : Fin k0_t41_loop.trips) (p : Fin (k0_t42_loop u).trips), (k0_off75 j u p) 0 = (512 * j.val + 512 * u.val / 59 + p.val) ∧ (k0_off75 j u p) 1 = 0 := by decide +kernel
/-- The row a pick writes. -/
theorem off75_eq (j : Fin k0_t39_loop.trips) (u : Fin k0_t41_loop.trips) (p : Fin (k0_t42_loop u).trips) : k0_off75 j u p = ![(512 * j.val + 512 * u.val / 59 + p.val), 0] := of2 (off75_eq_all j u p)

theorem off86_eq_all : ∀ (j : Fin k0_t48_loop.trips) (p : Fin k0_t49_loop.trips), (k0_off86 j p) 0 = 23 * 16 + (512 * j.val + p.val) / 128 ∧ (k0_off86 j p) 1 = (512 * j.val + p.val) % 128 := by decide +kernel
/-- The id a pick reads. -/
theorem off86_eq (j : Fin k0_t48_loop.trips) (p : Fin k0_t49_loop.trips) : k0_off86 j p = ![23 * 16 + (512 * j.val + p.val) / 128, (512 * j.val + p.val) % 128] := of2 (off86_eq_all j p)

theorem off88_eq_all : ∀ (j : Fin k0_t48_loop.trips) (p : Fin k0_t49_loop.trips), (k0_off88 j p) 0 = (512 * j.val + p.val) ∧ (k0_off88 j p) 1 = 0 := by decide +kernel
/-- The row a pick writes. -/
theorem off88_eq (j : Fin k0_t48_loop.trips) (p : Fin k0_t49_loop.trips) : k0_off88 j p = ![(512 * j.val + p.val), 0] := of2 (off88_eq_all j p)

/-- The row an id names. -/
theorem off22_eq (v : BitVec 32) : k0_off22 v = ![v.toNat, 0] := rfl
/-- An id below the strip's length names a row of it. -/
theorem chk1_of {v : BitVec 32} (h : v.toNat < 30208) : k0_chk1 v := by
  intro a
  rw [off22_eq]
  fin_cases a
  · show v.toNat + 1 ≤ 30208; omega
  · show 0 + 128 ≤ 128; omega

/-- The row an id names. -/
theorem off48_eq (v : BitVec 32) : k0_off48 v = ![v.toNat, 0] := rfl
/-- An id below the strip's length names a row of it. -/
theorem chk3_of {v : BitVec 32} (h : v.toNat < 30208) : k0_chk3 v := by
  intro a
  rw [off48_eq]
  fin_cases a
  · show v.toNat + 1 ≤ 30208; omega
  · show 0 + 128 ≤ 128; omega

/-- The row an id names. -/
theorem off74_eq (v : BitVec 32) : k0_off74 v = ![v.toNat, 0] := rfl
/-- An id below the strip's length names a row of it. -/
theorem chk5_of {v : BitVec 32} (h : v.toNat < 30208) : k0_chk5 v := by
  intro a
  rw [off74_eq]
  fin_cases a
  · show v.toNat + 1 ≤ 30208; omega
  · show 0 + 128 ≤ 128; omega

/-- The row an id names. -/
theorem off87_eq (v : BitVec 32) : k0_off87 v = ![v.toNat, 0] := rfl
/-- An id below the strip's length names a row of it. -/
theorem chk7_of {v : BitVec 32} (h : v.toNat < 30208) : k0_chk7 v := by
  intro a
  rw [off87_eq]
  fin_cases a
  · show v.toNat + 1 ≤ 30208; omega
  · show 0 + 128 ≤ 128; omega

theorem off30_eq_all : ∀ (k : Fin k0_t15_loop.trips), (k0_off30 k) 0 = k.val * 128 ∧ (k0_off30 k) 1 = 0 := by decide +kernel
/-- The picked rows of a block. -/
theorem off30_eq (k : Fin k0_t15_loop.trips) : k0_off30 k = ![k.val * 128, 0] := of2 (off30_eq_all k)

theorem off31_all : ∀ (k : Fin k0_t15_loop.trips) (r : Fin 15), (k0_off31 k (BitVec.ofNat 32 (136 * r.val))) 0 = 136 * r.val + k.val ∧ (k0_off31 k (BitVec.ofNat 32 (136 * r.val))) 1 = 0 := by decide +kernel
/-- The words a store of a block fills. -/
theorem off31_eq (k : Fin k0_t15_loop.trips) (r : Fin 15) : k0_off31 k (BitVec.ofNat 32 (136 * r.val)) = ![136 * r.val + k.val, 0] := of2 (off31_all k r)

theorem off56_eq_all : ∀ (k : Fin k0_t30_loop.trips), (k0_off56 k) 0 = k.val * 128 ∧ (k0_off56 k) 1 = 0 := by decide +kernel
/-- The picked rows of a block. -/
theorem off56_eq (k : Fin k0_t30_loop.trips) : k0_off56 k = ![k.val * 128, 0] := of2 (off56_eq_all k)

theorem off57_all : ∀ (k : Fin k0_t30_loop.trips) (r : Fin 15), (k0_off57 k (BitVec.ofNat 32 (136 * r.val))) 0 = 136 * r.val + k.val ∧ (k0_off57 k (BitVec.ofNat 32 (136 * r.val))) 1 = 0 := by decide +kernel
/-- The words a store of a block fills. -/
theorem off57_eq (k : Fin k0_t30_loop.trips) (r : Fin 15) : k0_off57 k (BitVec.ofNat 32 (136 * r.val)) = ![136 * r.val + k.val, 0] := of2 (off57_all k r)

theorem off79_eq_all : ∀ (k : Fin k0_t44_loop.trips), (k0_off79 k) 0 = k.val * 128 ∧ (k0_off79 k) 1 = 0 := by decide +kernel
/-- The picked rows of a block. -/
theorem off79_eq (k : Fin k0_t44_loop.trips) : k0_off79 k = ![k.val * 128, 0] := of2 (off79_eq_all k)

theorem off80_all : ∀ (k : Fin k0_t44_loop.trips) (r : Fin 15), (k0_off80 k (BitVec.ofNat 32 (136 * r.val))) 0 = 136 * r.val + k.val ∧ (k0_off80 k (BitVec.ofNat 32 (136 * r.val))) 1 = 0 := by decide +kernel
/-- The words a store of a block fills. -/
theorem off80_eq (k : Fin k0_t44_loop.trips) (r : Fin 15) : k0_off80 k (BitVec.ofNat 32 (136 * r.val)) = ![136 * r.val + k.val, 0] := of2 (off80_all k r)

theorem off89_eq_all : ∀ (k : Fin k0_t50_loop.trips), (k0_off89 k) 0 = k.val * 128 ∧ (k0_off89 k) 1 = 0 := by decide +kernel
/-- The picked rows of a block. -/
theorem off89_eq (k : Fin k0_t50_loop.trips) : k0_off89 k = ![k.val * 128, 0] := of2 (off89_eq_all k)

theorem off90_all : ∀ (k : Fin k0_t50_loop.trips) (r : Fin 15), (k0_off90 k (BitVec.ofNat 32 (136 * r.val))) 0 = 136 * r.val + k.val ∧ (k0_off90 k (BitVec.ofNat 32 (136 * r.val))) 1 = 0 := by decide +kernel
/-- The words a store of a block fills. -/
theorem off90_eq (k : Fin k0_t50_loop.trips) (r : Fin 15) : k0_off90 k (BitVec.ofNat 32 (136 * r.val)) = ![136 * r.val + k.val, 0] := of2 (off90_all k r)

theorem off32_eq_all : ∀ (i : Fin k0_t8_loop.trips) (e : Fin (k0_t16_loop i).trips) (w : Fin k0_t17_loop.trips), (k0_off32 i e w) 0 = (slot e.val (2 * i.val) * 5 + w.val) * 16 ∧ (k0_off32 i e w) 1 = 0 := by decide +kernel
/-- The upper words a dot reads. -/
theorem off32_eq (i : Fin k0_t8_loop.trips) (e : Fin (k0_t16_loop i).trips) (w : Fin k0_t17_loop.trips) : k0_off32 i e w = ![(slot e.val (2 * i.val) * 5 + w.val) * 16, 0] := of2 (off32_eq_all i e w)

theorem off33_eq_all : ∀ (i : Fin k0_t8_loop.trips) (e : Fin (k0_t16_loop i).trips) (w : Fin k0_t17_loop.trips), (k0_off33 i e w) 0 = (e.val * 5 + w.val) * 17 ∧ (k0_off33 i e w) 1 = 0 := by decide +kernel
/-- The words a dot reads. -/
theorem off33_eq (i : Fin k0_t8_loop.trips) (e : Fin (k0_t16_loop i).trips) (w : Fin k0_t17_loop.trips) : k0_off33 i e w = ![(e.val * 5 + w.val) * 17, 0] := of2 (off33_eq_all i e w)

theorem off34_eq_all : ∀ (i : Fin k0_t8_loop.trips) (e : Fin (k0_t16_loop i).trips), (k0_off34 i e) 0 = pairIdx e.val (2 * i.val) * 16 ∧ (k0_off34 i e) 1 = 0 := by decide +kernel
/-- The rows of the result a dot fills. -/
theorem off34_eq (i : Fin k0_t8_loop.trips) (e : Fin (k0_t16_loop i).trips) : k0_off34 i e = ![pairIdx e.val (2 * i.val) * 16, 0] := of2 (off34_eq_all i e)

theorem off58_eq_all : ∀ (i : Fin k0_t8_loop.trips) (e : Fin (k0_t31_loop i).trips) (w : Fin k0_t32_loop.trips), (k0_off58 i e w) 0 = (slot e.val (2 * i.val + 1) * 5 + w.val) * 16 ∧ (k0_off58 i e w) 1 = 0 := by decide +kernel
/-- The upper words a dot reads. -/
theorem off58_eq (i : Fin k0_t8_loop.trips) (e : Fin (k0_t31_loop i).trips) (w : Fin k0_t32_loop.trips) : k0_off58 i e w = ![(slot e.val (2 * i.val + 1) * 5 + w.val) * 16, 0] := of2 (off58_eq_all i e w)

theorem off59_eq_all : ∀ (i : Fin k0_t8_loop.trips) (e : Fin (k0_t31_loop i).trips) (w : Fin k0_t32_loop.trips), (k0_off59 i e w) 0 = (e.val * 5 + w.val) * 17 ∧ (k0_off59 i e w) 1 = 0 := by decide +kernel
/-- The words a dot reads. -/
theorem off59_eq (i : Fin k0_t8_loop.trips) (e : Fin (k0_t31_loop i).trips) (w : Fin k0_t32_loop.trips) : k0_off59 i e w = ![(e.val * 5 + w.val) * 17, 0] := of2 (off59_eq_all i e w)

theorem off60_eq_all : ∀ (i : Fin k0_t8_loop.trips) (e : Fin (k0_t31_loop i).trips), (k0_off60 i e) 0 = pairIdx e.val (2 * i.val + 1) * 16 ∧ (k0_off60 i e) 1 = 0 := by decide +kernel
/-- The rows of the result a dot fills. -/
theorem off60_eq (i : Fin k0_t8_loop.trips) (e : Fin (k0_t31_loop i).trips) : k0_off60 i e = ![pairIdx e.val (2 * i.val + 1) * 16, 0] := of2 (off60_eq_all i e)

theorem off81_eq_all : ∀ (e : Fin k0_t45_loop.trips) (w : Fin k0_t46_loop.trips), (k0_off81 e w) 0 = (slot e.val (22) * 5 + w.val) * 16 ∧ (k0_off81 e w) 1 = 0 := by decide +kernel
/-- The upper words a dot reads. -/
theorem off81_eq (e : Fin k0_t45_loop.trips) (w : Fin k0_t46_loop.trips) : k0_off81 e w = ![(slot e.val (22) * 5 + w.val) * 16, 0] := of2 (off81_eq_all e w)

theorem off82_eq_all : ∀ (e : Fin k0_t45_loop.trips) (w : Fin k0_t46_loop.trips), (k0_off82 e w) 0 = (e.val * 5 + w.val) * 17 ∧ (k0_off82 e w) 1 = 0 := by decide +kernel
/-- The words a dot reads. -/
theorem off82_eq (e : Fin k0_t45_loop.trips) (w : Fin k0_t46_loop.trips) : k0_off82 e w = ![(e.val * 5 + w.val) * 17, 0] := of2 (off82_eq_all e w)

theorem off83_eq_all : ∀ (e : Fin k0_t45_loop.trips), (k0_off83 e) 0 = pairIdx e.val (22) * 16 ∧ (k0_off83 e) 1 = 0 := by decide +kernel
/-- The rows of the result a dot fills. -/
theorem off83_eq (e : Fin k0_t45_loop.trips) : k0_off83 e = ![pairIdx e.val (22) * 16, 0] := of2 (off83_eq_all e)

theorem off91_eq_all : ∀ (e : Fin k0_t51_loop.trips) (w : Fin k0_t52_loop.trips), (k0_off91 e w) 0 = (slot e.val (23) * 5 + w.val) * 16 ∧ (k0_off91 e w) 1 = 0 := by decide +kernel
/-- The upper words a dot reads. -/
theorem off91_eq (e : Fin k0_t51_loop.trips) (w : Fin k0_t52_loop.trips) : k0_off91 e w = ![(slot e.val (23) * 5 + w.val) * 16, 0] := of2 (off91_eq_all e w)

theorem off92_eq_all : ∀ (e : Fin k0_t51_loop.trips) (w : Fin k0_t52_loop.trips), (k0_off92 e w) 0 = (e.val * 5 + w.val) * 17 ∧ (k0_off92 e w) 1 = 0 := by decide +kernel
/-- The words a dot reads. -/
theorem off92_eq (e : Fin k0_t51_loop.trips) (w : Fin k0_t52_loop.trips) : k0_off92 e w = ![(e.val * 5 + w.val) * 17, 0] := of2 (off92_eq_all e w)

theorem off93_eq_all : ∀ (e : Fin k0_t51_loop.trips), (k0_off93 e) 0 = pairIdx e.val (23) * 16 ∧ (k0_off93 e) 1 = 0 := by decide +kernel
/-- The rows of the result a dot fills. -/
theorem off93_eq (e : Fin k0_t51_loop.trips) : k0_off93 e = ![pairIdx e.val (23) * 16, 0] := of2 (off93_eq_all e)

theorem off38_eq_all : ∀ (i : Fin k0_t8_loop.trips) (g : Fin (k0_t20_loop i).trips) (w : Fin k0_t21_loop.trips), (k0_off38 i g w) 0 = ((2 * i.val + 1 + g.val) * 5 + w.val) * 17 ∧ (k0_off38 i g w) 1 = 0 := by decide +kernel
/-- The words a copy reads. -/
theorem off38_eq (i : Fin k0_t8_loop.trips) (g : Fin (k0_t20_loop i).trips) (w : Fin k0_t21_loop.trips) : k0_off38 i g w = ![((2 * i.val + 1 + g.val) * 5 + w.val) * 17, 0] := of2 (off38_eq_all i g w)

theorem off39_eq_all : ∀ (i : Fin k0_t8_loop.trips) (g : Fin (k0_t20_loop i).trips) (w : Fin k0_t21_loop.trips), (k0_off39 i g w) 0 = (slot (2 * i.val) (2 * i.val + 1 + g.val) * 5 + w.val) * 16 ∧ (k0_off39 i g w) 1 = 0 := by decide +kernel
/-- The upper words a copy fills. -/
theorem off39_eq (i : Fin k0_t8_loop.trips) (g : Fin (k0_t20_loop i).trips) (w : Fin k0_t21_loop.trips) : k0_off39 i g w = ![(slot (2 * i.val) (2 * i.val + 1 + g.val) * 5 + w.val) * 16, 0] := of2 (off39_eq_all i g w)

theorem off64_eq_all : ∀ (i : Fin k0_t8_loop.trips) (g : Fin (k0_t35_loop i).trips) (w : Fin k0_t36_loop.trips), (k0_off64 i g w) 0 = ((2 * i.val + 1 + 1 + g.val) * 5 + w.val) * 17 ∧ (k0_off64 i g w) 1 = 0 := by decide +kernel
/-- The words a copy reads. -/
theorem off64_eq (i : Fin k0_t8_loop.trips) (g : Fin (k0_t35_loop i).trips) (w : Fin k0_t36_loop.trips) : k0_off64 i g w = ![((2 * i.val + 1 + 1 + g.val) * 5 + w.val) * 17, 0] := of2 (off64_eq_all i g w)

theorem off65_eq_all : ∀ (i : Fin k0_t8_loop.trips) (g : Fin (k0_t35_loop i).trips) (w : Fin k0_t36_loop.trips), (k0_off65 i g w) 0 = (slot (2 * i.val + 1) (2 * i.val + 1 + 1 + g.val) * 5 + w.val) * 16 ∧ (k0_off65 i g w) 1 = 0 := by decide +kernel
/-- The upper words a copy fills. -/
theorem off65_eq (i : Fin k0_t8_loop.trips) (g : Fin (k0_t35_loop i).trips) (w : Fin k0_t36_loop.trips) : k0_off65 i g w = ![(slot (2 * i.val + 1) (2 * i.val + 1 + 1 + g.val) * 5 + w.val) * 16, 0] := of2 (off65_eq_all i g w)

theorem off84_eq_all : ∀ (w : Fin k0_t47_loop.trips), (k0_off84 w) 0 = (23 * 5 + w.val) * 17 ∧ (k0_off84 w) 1 = 0 := by decide +kernel
/-- The words a copy reads. -/
theorem off84_eq (w : Fin k0_t47_loop.trips) : k0_off84 w = ![(23 * 5 + w.val) * 17, 0] := of2 (off84_eq_all w)

theorem off85_eq_all : ∀ (w : Fin k0_t47_loop.trips), (k0_off85 w) 0 = (slot 22 23 * 5 + w.val) * 16 ∧ (k0_off85 w) 1 = 0 := by decide +kernel
/-- The upper words a copy fills. -/
theorem off85_eq (w : Fin k0_t47_loop.trips) : k0_off85 w = ![(slot 22 23 * 5 + w.val) * 16, 0] := of2 (off85_eq_all w)

/-- There is a next field to fetch. -/
theorem cond1_true : ∀ (i : Fin k0_t8_loop.trips), k0_cond1 i = 1#1 := by decide +kernel

/-- There is a next field to fetch. -/
theorem cond2_true : ∀ (i : Fin k0_t8_loop.trips), k0_cond2 i = 1#1 := by decide +kernel

end Cert.Proof.Dots

end
-- ==== Proof.DotsMem.lean ====
module

public import proofs.«01_k».proof.Proof.Gen.Dots.Frame
public import proofs.«01_k».proof.Proof.Gen.Dots.Skeleton
public import proofs.«01_k».proof.Proof.DotsFacts
public import Idealize.ShloMosaic.Lib.VecWindow
public import Idealize.ShloMosaic.Lib.WritesUnit
public import Idealize.ShloMosaic.Lib.Pointwise
public import Idealize.ShloMosaic.Lib.ValueLayout
public import Idealize.ShloMosaic.Lib.Batch
public import Idealize.ShloMosaic.Lib.Ring
public import Idealize.ShloMosaic.Lib.Pipeline.ValueKit.Geometry
public import Idealize.ShloMosaic.Lib.Exec
public import Idealize.ShloMosaic.Lib.LoopRemainder

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The table's strips and the copies that stream them -/

/-- The table of codes, transposed, in HBM. -/
abbrev A1 : Memref sig .tc .hbm S480x720000 .i8 := Memref.whole main_v1
/-- The four chunk buffers. -/
abbrev A3 : Memref sig .tc .vmem S4x480x7552 .i8 := Memref.whole cc0_scratch0

theorem first_le (f : ℕ) : first f + 30208 ≤ 720000 := by
  unfold first; have := Nat.min_le_right (30000 * f / 128) 5389; omega

theorem src_inb (f : ℕ) (j : Fin 4) (r : Fin 15) :
    ∀ a, (![32 * r.val, first f + 7552 * j.val] : Fin 2 → ℕ) a + S32x7552.size a ≤ S480x720000.size a := by
  have h := first_le f; have hj := j.isLt; have hr := r.isLt
  intro a; fin_cases a
  · show 32 * r.val + 32 ≤ 480; omega
  · show first f + 7552 * j.val + 7552 ≤ 720000; omega

theorem dst_inb (j : Fin 4) (r : Fin 15) :
    ∀ a, (![j.val, 32 * r.val, 0] : Fin 3 → ℕ) a + S1x32x7552.size a ≤ S4x480x7552.size a := by
  have hj := j.isLt; have hr := r.isLt
  intro a; fin_cases a
  · show j.val + 1 ≤ 4; omega
  · show 32 * r.val + 32 ≤ 480; omega
  · show 0 + 7552 ≤ 7552; omega

theorem sem_inb (j : Fin 4) : ∀ a, (![j.val] : Fin 1 → ℕ) a + S1.size a ≤ S4.size a := by
  have hj := j.isLt; intro a; fin_cases a; show j.val + 1 ≤ 4; omega

/-- Copy `(f, j, r)`'s source: 32 rows of chunk `j` of field `f`'s strip. -/
def srcM (f : ℕ) (j : Fin 4) (r : Fin 15) : Memref sig .tc .hbm S32x7552 .i8 :=
  A1.slice (Rect.unit (s := S480x720000) ![32 * r.val, first f + 7552 * j.val] S32x7552.size (src_inb f j r)) (fun _ => rfl)

/-- Copy `(f, j, r)`'s destination: the same 32 rows of chunk buffer `j`. -/
def dstM (j : Fin 4) (r : Fin 15) : Memref sig .tc .vmem S32x7552 .i8 :=
  (A3.slice (Rect.unit (s := S4x480x7552) ![j.val, 32 * r.val, 0] S1x32x7552.size (dst_inb j r)) (fun _ => rfl)).squeeze S32x7552 squeezes_S1x32x7552_S32x7552

/-- Chunk `j`'s semaphore. -/
def semM (j : Fin 4) : DmaSem sig :=
  ((cc0_scratch8.slice (Rect.unit (s := S4) ![j.val] S1.size (sem_inb j))).squeeze S_ squeezes_S1_S_).sem

/-- The table elements copy `(f, j, r)` reads. -/
def srcSet (f : ℕ) (j : Fin 4) (r : Fin 15) : Finset S480x720000.Idx := (srcM f j r).view.set

/-- What the chunk buffers hold of field `f`'s strip. -/
def stripBuf (X : S480x720000.Idx → Elt F .i8) (f : ℕ) : S4x480x7552.Idx → Elt F .i8 := fun i =>
  X (ValueIdx.ix2 (⟨(i 1).val, (i 1).isLt⟩ : Fin 480)
    (⟨first f + 7552 * (i 0).val + (i 2).val, by
      have h := first_le f; have h0 : (i 0).val < 4 := (i 0).isLt; have h2 : (i 2).val < 7552 := (i 2).isLt; omega⟩ : Fin 720000))

/-- Chunk buffer `j`'s elements. -/
def chunkSet (j : Fin 4) : Finset S4x480x7552.Idx := Finset.univ.filter fun i => (i 0).val = j.val
/-- The elements copy `(j, r)` writes. -/
def pieceSet (j : Fin 4) (r : Fin 15) : Finset S4x480x7552.Idx := Finset.univ.filter fun i => (i 0).val = j.val ∧ (i 1).val / 32 = r.val

theorem dst_set (j : Fin 4) (r : Fin 15) : (dstM j r).view.set = pieceSet j r := by
  unfold dstM
  refine ((View.set_reshape _ _).trans (View.set_slice_whole _ _)).trans ?_
  ext i
  rw [Rect.mem_set_unit]; unfold pieceSet; simp only [Finset.mem_filter, Finset.mem_univ, true_and]
  have h2 : (i 2).val < 7552 := (i 2).isLt
  constructor
  · intro H
    have a0 : j.val ≤ (i 0).val ∧ (i 0).val < j.val + 1 := H 0
    have a1 : 32 * r.val ≤ (i 1).val ∧ (i 1).val < 32 * r.val + 32 := H 1
    omega
  · intro H a; fin_cases a
    · show j.val ≤ (i 0).val ∧ (i 0).val < j.val + 1; omega
    · show 32 * r.val ≤ (i 1).val ∧ (i 1).val < 32 * r.val + 32; omega
    · show 0 ≤ (i 2).val ∧ (i 2).val < 0 + 7552; omega

theorem piece_cover (j : Fin 4) : Finset.univ.biUnion (pieceSet j) = chunkSet j := by
  ext i
  have h1 : (i 1).val < 480 := (i 1).isLt
  simp only [pieceSet, chunkSet, Finset.mem_biUnion, Finset.mem_filter, Finset.mem_univ, true_and]
  exact ⟨fun ⟨_, h⟩ => h.1, fun h => ⟨⟨(i 1).val / 32, by omega⟩, h, rfl⟩⟩

theorem piece_disj (j : Fin 4) : ∀ r ∈ (Finset.univ : Finset (Fin 15)), ∀ r' ∈ (Finset.univ : Finset (Fin 15)), r ≠ r' → Disjoint (pieceSet j r) (pieceSet j r') := by
  intro r _ r' _ hne
  rw [Finset.disjoint_left]; intro i h h'
  simp only [pieceSet, Finset.mem_filter, Finset.mem_univ, true_and] at h h'
  exact hne (Fin.ext (by omega))

theorem chunk_cover : Finset.univ.biUnion chunkSet = Finset.univ := by
  ext i; simp only [chunkSet, Finset.mem_biUnion, Finset.mem_filter, Finset.mem_univ, true_and, iff_true]
  exact ⟨⟨(i 0).val, (i 0).isLt⟩, rfl⟩

theorem chunk_disj : ∀ r ∈ (Finset.univ : Finset (Fin 4)), ∀ r' ∈ (Finset.univ : Finset (Fin 4)), r ≠ r' → Disjoint (chunkSet r) (chunkSet r') := by
  intro r _ r' _ hne
  rw [Finset.disjoint_left]; intro i h h'
  simp only [chunkSet, Finset.mem_filter, Finset.mem_univ, true_and] at h h'
  exact hne (Fin.ext (by omega))

variable (c : Dev nD)

/-- The read share of copy `(j, r)`. -/
abbrev tok (j : Fin 4) (r : Fin 15) : PosShare TreeShare := Transfers.shareTokN fullShare (15 * j.val + r.val)

/-- The table at share `q`, whole. -/
abbrev tabAt (X : S480x720000.Idx → Elt F .i8) (q : PosShare TreeShare) : sProp 𝕄 :=
  A1.view.loc (c : Thread nD τ) ↦[Finset.univ]{q} X

/-- The chunk buffers' elements `S`, holding `g`. -/
abbrev bufAt (S : Finset S4x480x7552.Idx) (g : S4x480x7552.Idx → Elt F .i8) : sProp 𝕄 :=
  A3.view.loc (c : Thread nD τ) ↦[S]{fullShare} g

/-- What copy `(f, j, r)` delivers: its destination holding its part of the strip, and its source's share back. -/
def deliv (X : S480x720000.Idx → Elt F .i8) (f : ℕ) (j : Fin 4) (r : Fin 15) : sProp 𝕄 :=
  iprop(bufAt c (pieceSet j r) (stripBuf X f) ∗ (A1.view.loc (c : Thread nD τ) ↦[srcSet f j r]{tok j r} X))

/-- The part of the table copy `(f, j, r)`'s share does not lend. -/
abbrev restAt (X : S480x720000.Idx → Elt F .i8) (f : ℕ) (j : Fin 4) (r : Fin 15) : sProp 𝕄 :=
  A1.view.loc (c : Thread nD τ) ↦[Finset.univ \ srcSet f j r]{tok j r} X

instance deliv_storable (X : S480x720000.Idx → Elt F .i8) (f : ℕ) (j : Fin 4) (r : Fin 15) :
    BI.Storable (upEmb : UEmb _ 𝕄) (deliv c X f j r) := by
  unfold deliv bufAt
  have h1 : BI.Storable (upEmb : UEmb _ 𝕄) (A3.view.loc (c : Thread nD τ) ↦[pieceSet j r]{fullShare} stripBuf X f) := inferInstance
  have h2 : BI.Storable (upEmb : UEmb _ 𝕄) (A1.view.loc (c : Thread nD τ) ↦[srcSet f j r]{tok j r} X) := inferInstance
  infer_instance

/-- A copy's credit on its semaphore. -/
def NN : ℕ := (dstM 0 0).view.dmaCredit

/-- Chunk `j`'s copies of field `f`: `k` issued, `u` units consumed. -/
abbrev flight (X : S480x720000.Idx → Elt F .i8) (f : ℕ) (j : Fin 4) (k u : ℕ) : sProp 𝕄 :=
  Transfers.Batch (countersEmb (U := Pipeline.UD sig nD τ)) (c : Thread nD τ) (.dma (semM j)) () NN (deliv c X f j) k u

/-- Chunk `j` on its way: all copies of field `f` issued, none waited for. -/
def InFlight (X : S480x720000.Idx → Elt F .i8) (f : ℕ) (j : Fin 4) : sProp 𝕄 :=
  iprop(flight c X f j 15 0 ∗ bigSep Finset.univ (restAt c X f j))

/-- Chunk `j` at rest, its buffer holding `g` (of which chunk `j`'s elements matter). -/
def Home (X : S480x720000.Idx → Elt F .i8) (j : Fin 4) (g : S4x480x7552.Idx → Elt F .i8) : sProp 𝕄 :=
  iprop(semVal ((c : Thread nD τ), SemLoc.dma (semM j)) 0 ∗ bufAt c (chunkSet j) g ∗ bigSep Finset.univ (fun r => tabAt c X (tok j r)))

/-- A copy's source read through the table is its destination's part of the strip. -/
theorem read_strip (X : S480x720000.Idx → Elt F .i8) (f : ℕ) (j : Fin 4) (r : Fin 15) :
    (dstM j r).view.read (Elt F) (stripBuf X f) = (srcM f j r).view.read (Elt F) X := by
  funext x
  obtain ⟨a, b, rfl⟩ : ∃ (a : Fin 32) (b : Fin 7552), x = ValueIdx.ix2 a b := ⟨x 0, x 1, ValueIdx.eq_ix2 x⟩
  unfold dstM srcM
  show stripBuf X f ((Rect.unit (s := S4x480x7552) ![j.val, 32 * r.val, 0] S1x32x7552.size (dst_inb j r)).emb (Shape.reshapeEquiv _ (ValueIdx.ix2 a b)))
    = X ((Rect.unit (s := S480x720000) ![32 * r.val, first f + 7552 * j.val] S32x7552.size (src_inb f j r)).emb (ValueIdx.ix2 a b))
  rw [ValueIdx.reshapeEquiv_ix2_1ab]
  unfold stripBuf
  have e3 := Idealize.ShloMosaic.ValueKit.rect_emb_unit_val (s := S4x480x7552) ![j.val, 32 * r.val, 0] S1x32x7552.size (dst_inb j r) (ValueIdx.ix3 (⟨0, Nat.one_pos⟩ : Fin 1) a b)
  have e2 := Idealize.ShloMosaic.ValueKit.rect_emb_unit_val (s := S480x720000) ![32 * r.val, first f + 7552 * j.val] S32x7552.size (src_inb f j r) (ValueIdx.ix2 a b)
  refine congrArg X (funext fun k => Fin.ext ?_)
  fin_cases k
  · exact (e3 1).trans (e2 0).symm
  · refine (congrArg₂ (fun p q => first f + 7552 * p + q) (e3 0) (e3 2)).trans (Eq.trans ?_ (e2 1).symm)
    show first f + 7552 * (j.val + 0) + (0 + b.val) = first f + 7552 * j.val + b.val
    omega

theorem landed (X : S480x720000.Idx → Elt F .i8) (f : ℕ) (j : Fin 4) (r : Fin 15) (g : S4x480x7552.Idx → Elt F .i8) :
    iprop(((dstM j r).view.loc (c : Thread nD τ) ↦[pieceSet j r]{fullShare} ((dstM j r).view.write (Elt F) g (ReadAs.same.apply ((srcM f j r).view.read (Elt F) X)) Finset.univ))
      ∗ (A1.view.loc (c : Thread nD τ) ↦[srcSet f j r]{tok j r} X)) ⊢ (deliv c X f j r : sProp 𝕄) := by
  unfold deliv
  have e : (A3.view.loc (c : Thread nD τ) ↦[pieceSet j r]{fullShare} ((dstM j r).view.write (Elt F) g (ReadAs.same.apply ((srcM f j r).view.read (Elt F) X)) Finset.univ) : sProp 𝕄)
      = A3.view.loc (c : Thread nD τ) ↦[pieceSet j r]{fullShare} stripBuf X f := by
    refine pointsTo_congr fun i hi => ?_
    rw [← dst_set] at hi
    obtain ⟨x, -, rfl⟩ := (Finset.mem_map.mp hi)
    have h1 := congrFun (View.read_write_univ (v := (dstM j r).view) (Val := Elt F) g (ReadAs.same.apply ((srcM f j r).view.read (Elt F) X))) x
    have h2 := congrFun (read_strip X f j r) x
    exact h1.trans h2.symm
  exact sep_mono (Entails.of_eq e) .rfl

/-- One copy issued. -/
theorem start_one (X : S480x720000.Idx → Elt F .i8) (f : ℕ) (j : Fin 4) (r : Fin 15) (g : S4x480x7552.Idx → Elt F .i8)
    {o1 : Fin 1 → ℕ} {o3 : Fin 3 → ℕ} {o2 : Fin 2 → ℕ} (h1 : o1 = ![j.val]) (h3 : o3 = ![j.val, 32 * r.val, 0])
    (h2 : o2 = ![32 * r.val, first f + 7552 * j.val]) (i1) (i3) (i2) (hs) (hd) (ht) (k : PUnit → Prog (TpuEff nD τ sig (Elt F) Λ₀ .tc) Unit) (Q : Unit → sProp 𝕄) :
    iprop(flight c X f j r.val 0 ∗ bufAt c (pieceSet j r) g ∗ tabAt c X (tok j r)
        ∗ (iprop(flight c X f j (r.val + 1) 0 ∗ restAt c X f j r) -∗ wp frame (wpE (defs₀ (F := F)) Variants.none (c : Thread nD τ) none) Set.univ (k ⟨⟩) Q))
      ⊢ wp frame (wpE (defs₀ (F := F)) Variants.none (c : Thread nD τ) none) Set.univ
        (.op (.enqueueDma (A1.slice (Rect.unit (s := S480x720000) o2 S32x7552.size i2) (fun _ => rfl))
          (.here ((A3.slice (Rect.unit (s := S4x480x7552) o3 S1x32x7552.size i3) (fun _ => rfl)).squeeze S32x7552 squeezes_S1x32x7552_S32x7552))
          (.dma ((cc0_scratch8.slice (Rect.unit (s := S4) o1 S1.size i1)).squeeze S_ squeezes_S1_S_).sem) hs hd ht) k) Q := by
  subst h1 h3 h2
  iintro ⟨HB, HD, HT, Hk⟩
  ihave HT' := (pointsTo_split_subset (Finset.subset_univ (srcSet f j r))).1 $$ HT
  icases HT' with ⟨Hs, Hr⟩
  iapply (Transfers.wp_dmaBatch (countersEmb (U := Pipeline.UD sig nD τ)) Variants.none (c : Thread nD τ) none (src := srcM f j r) (dst := dstM j r) (Sd := pieceSet j r) () NN (by rfl)
    (dst_set j r).subset r.isLt (Nat.zero_le _) (landed c X f j r g)) $$ [Hs HD HB]
  · isplitl [Hs]; · iexact Hs
    isplitl [HD]; · iexact HD
    iexact HB
  iintro HB
  iapply Hk
  isplitl [HB]; · iexact HB
  iexact Hr

/-! ## Sequencing -/

/-- A program then its continuation. -/
theorem andThen {α β : Type} {P : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R)
    (h2 : ∀ x, R x ⊢ wp frame (wpE (defs₀ (F := F)) Variants.none (c : Thread nD τ) none) Set.univ (k x) Q) :
    P ⊢ wp frame (wpE (defs₀ (F := F)) Variants.none (c : Thread nD τ) none) Set.univ (p >>= k) Q := by
  rw [wp_bind]; exact h1.trans (wp_mono _ _ _ h2)

/-- A counted loop by an invariant over its trips. -/
theorem forInv {L : Scf.Loop 32} (ok : L.OK) {body : Fin L.trips → Unit → Prog (TpuEff nD τ sig (Elt F) Λ₀ .tc) Unit} (I : ℕ → sProp 𝕄)
    (h : ∀ (t : Fin L.trips) u, I t.val ⊢ wp frame (wpE (defs₀ (F := F)) Variants.none (c : Thread nD τ) none) Set.univ (body t u) (fun _ => I (t.val + 1))) :
    I 0 ⊢ wp frame (wpE (defs₀ (F := F)) Variants.none (c : Thread nD τ) none) Set.univ (Scf.Loop.for L ok ⟨⟩ body) (fun _ => I L.trips) := by
  have := Scf.wp_for frame (wpE (defs₀ (F := F)) Variants.none (c : Thread nD τ) none) Set.univ L.lb L.ub L.st ok (⟨⟩ : Unit) body (fun n _ => I n) h (Q := fun _ => I L.trips)
  refine BIBase.Entails.trans ?_ this
  iintro H
  isplitl [H]; · iexact H
  iintro %_ H; iexact H

/-! ## Issuing and awaiting a chunk -/

/-- Fifteen trips, each issuing one copy, put chunk `j` on its way. -/
theorem start_loop (X : S480x720000.Idx → Elt F .i8) (f : ℕ) (j : Fin 4) (g : S4x480x7552.Idx → Elt F .i8) {L : Scf.Loop 32} (ok : L.OK) (hL : L.trips = 15)
    {body : Fin L.trips → Unit → Prog (TpuEff nD τ sig (Elt F) Λ₀ .tc) Unit}
    (h : ∀ (t : Fin L.trips) u, iprop(flight c X f j t.val 0 ∗ bufAt c (pieceSet j (t.cast hL)) g ∗ tabAt c X (tok j (t.cast hL)))
        ⊢ wp frame (wpE (defs₀ (F := F)) Variants.none (c : Thread nD τ) none) Set.univ (body t u) (fun _ => iprop(flight c X f j (t.val + 1) 0 ∗ restAt c X f j (t.cast hL)))) :
    Home c X j g ⊢ wp frame (wpE (defs₀ (F := F)) Variants.none (c : Thread nD τ) none) Set.univ (Scf.Loop.for L ok ⟨⟩ body) (fun _ => InFlight c X f j) := by
  have main := forInv c ok (fun k => iprop(flight c X f j k 0 ∗ bigSep (Ring.rangeSet 15 k 15) (fun r => iprop(bufAt c (pieceSet j r) g ∗ tabAt c X (tok j r)))
      ∗ bigSep (Ring.rangeSet 15 0 k) (restAt c X f j))) (body := body) (by
    intro t u
    have ht : t.val < 15 := hL ▸ t.isLt
    rw [Ring.bigSep_rangeSet_head (NB := 15) (Φ := fun r => iprop(bufAt c (pieceSet j r) g ∗ tabAt c X (tok j r))) (lo := t.val) (by omega) (by omega),
      Ring.bigSep_rangeSet_last (NB := 15) (Φ := restAt c X f j) (lo := 0) (hi := t.val + 1) (by omega) (by omega)]
    iintro ⟨HB, ⟨⟨HD, HT⟩, Hs⟩, Hr⟩
    iapply wp_wand_r
    isplitl [HB HD HT]
    · iapply (h t u)
      isplitl [HB]; · iexact HB
      isplitl [HD]; · iexact HD
      iexact HT
    iintro %_ ⟨HB, HR⟩
    isplitl [HB]; · iexact HB
    isplitl [Hs]; · iexact Hs
    isplitl [HR]; · iexact HR
    iexact Hr)
  rw [hL] at main
  unfold Home InFlight
  iintro ⟨Hc, Hb, Ht⟩
  imod (Transfers.batch_alloc' (Lvl := ℕ) (countersEmb (U := Pipeline.UD sig nD τ)) (c : Thread nD τ) () NN (deliv c X f j) (sm := SemLoc.dma (semM j)) (E := Set.univ)) $$ Hc with HB
  ihave Hb' := (show bufAt c (chunkSet j) g ⊢ bigSep Finset.univ (fun r => bufAt c (pieceSet j r) g) from
    Entails.of_eq (by rw [← piece_cover]; exact pointsTo_biUnion _ _ (piece_disj j))) $$ Hb
  ihave Hbt := (show iprop(bigSep Finset.univ (fun r => bufAt c (pieceSet j r) g) ∗ bigSep Finset.univ (fun r => tabAt c X (tok j r)))
    ⊢ bigSep (Ring.rangeSet 15 0 15) (fun r => iprop(bufAt c (pieceSet j r) g ∗ tabAt c X (tok j r))) from
    Entails.of_eq (by rw [Ring.rangeSet_univ]; exact (BI.bigSep_sep _ _ _).symm)) $$ [Hb' Ht]
  · isplitl [Hb']; · iexact Hb'
    iexact Ht
  iapply wp_wand_r
  isplitl [HB Hbt]
  · iapply main
    isplitl [HB]; · iexact HB
    isplitl [Hbt]; · iexact Hbt
    rw [Ring.bigSep_rangeSet_empty (le_refl 0)]; iempintro
  iintro %_ ⟨HB, -, Hr⟩
  isplitl [HB]; · iexact HB
  rw [Ring.rangeSet_univ]; iexact Hr

/-- What the core still owes: nothing, whatever it has waited for. -/
abbrev Owes : sProp 𝕄 := iprop(∃ W, owes (c : Thread nD τ) 0 W)

/-- One copy of chunk `j` awaited: the state after `k` waits. -/
def Drain (X : S480x720000.Idx → Elt F .i8) (f : ℕ) (j : Fin 4) (k : ℕ) : sProp 𝕄 :=
  iprop(Owes c ∗ (if k < 15 then flight c X f j 15 (k * NN) else iprop(semVal ((c : Thread nD τ), SemLoc.dma (semM j)) 0 ∗ bigSep Finset.univ (deliv c X f j))))

theorem wait_one (X : S480x720000.Idx → Elt F .i8) (f : ℕ) (j : Fin 4) (r : Fin 15)
    {o1 : Fin 1 → ℕ} {o3 : Fin 3 → ℕ} {o2 : Fin 2 → ℕ} (h1 : o1 = ![j.val]) (h3 : o3 = ![j.val, 32 * r.val, 0]) (i1) (i3) (i2) (hs) (hd) (k : PUnit → Prog (TpuEff nD τ sig (Elt F) Λ₀ .tc) Unit) (Q : Unit → sProp 𝕄) :
    iprop(Drain c X f j r.val ∗ (Drain c X f j (r.val + 1) -∗ wp frame (wpE (defs₀ (F := F)) Variants.none (c : Thread nD τ) none) Set.univ (k ⟨⟩) Q))
      ⊢ wp frame (wpE (defs₀ (F := F)) Variants.none (c : Thread nD τ) none) Set.univ
        (.op (.waitDma2 ((cc0_scratch8.slice (Rect.unit (s := S4) o1 S1.size i1)).squeeze S_ squeezes_S1_S_).sem
          (A1.slice (Rect.unit (s := S480x720000) o2 S32x7552.size i2) (fun _ => rfl))
          ((A3.slice (Rect.unit (s := S4x480x7552) o3 S1x32x7552.size i3) (fun _ => rfl)).squeeze S32x7552 squeezes_S1x32x7552_S32x7552) hs hd) k) Q := by
  subst h1 h3
  have hr := r.isLt
  unfold Drain
  rw [if_pos hr]
  by_cases hl : r.val + 1 < 15
  · rw [if_pos hl]
    iintro ⟨⟨⟨%W, HO⟩, HB⟩, Hk⟩
    iapply (Transfers.wp_waitBatch (countersEmb (U := Pipeline.UD sig nD τ)) Variants.none (c : Thread nD τ) none (dstw := dstM j r) () (N := NN) (by rfl)
      (D := deliv c X f j) (u := r.val * NN) (by have h0 : 0 < NN := by decide
                                                 nlinarith)) $$ [HB HO]
    · isplitl [HB]; · iexact HB
      iexact HO
    iintro ⟨HB, HO⟩
    iapply Hk
    isplitl [HO]; · iexists _; iexact HO
    rw [show (r.val + 1) * NN = r.val * NN + NN by ring]; iexact HB
  · rw [if_neg hl]
    iintro ⟨⟨⟨%W, HO⟩, HB⟩, Hk⟩
    iapply (Transfers.wp_waitBatchLast (countersEmb (U := Pipeline.UD sig nD τ)) Variants.none (c : Thread nD τ) none (dstw := dstM j r) () (N := NN) (by rfl) (by decide)
      (D := deliv c X f j) (u := r.val * NN) (by rw [show r.val = 14 by omega]; ring)) $$ [HB HO]
    · isplitl [HB]; · iexact HB
      iexact HO
    iintro ⟨HD, Hc, HO⟩
    iapply Hk
    isplitl [HO]; · iexists _; iexact HO
    isplitl [Hc]; · iexact Hc
    iexact HD

/-- Fifteen trips, each awaiting one copy, bring chunk `j` home with field `f`'s codes. -/
theorem wait_loop (X : S480x720000.Idx → Elt F .i8) (f : ℕ) (j : Fin 4) {L : Scf.Loop 32} (ok : L.OK) (hL : L.trips = 15)
    {body : Fin L.trips → Unit → Prog (TpuEff nD τ sig (Elt F) Λ₀ .tc) Unit}
    (h : ∀ (t : Fin L.trips) u, Drain c X f j t.val
        ⊢ wp frame (wpE (defs₀ (F := F)) Variants.none (c : Thread nD τ) none) Set.univ (body t u) (fun _ => Drain c X f j (t.val + 1))) :
    iprop(Owes c ∗ InFlight c X f j) ⊢ wp frame (wpE (defs₀ (F := F)) Variants.none (c : Thread nD τ) none) Set.univ (Scf.Loop.for L ok ⟨⟩ body)
      (fun _ => iprop(Owes c ∗ Home c X j (stripBuf X f))) := by
  have main := forInv c ok (Drain c X f j) h
  rw [hL] at main
  unfold InFlight Home
  iintro ⟨HO, HB, Hr⟩
  iapply wp_wand_r
  isplitl [HO HB]
  · iapply main
    unfold Drain
    isplitl [HO]; · iexact HO
    rw [if_pos (by decide), Nat.zero_mul]; iexact HB
  unfold Drain
  rw [if_neg (by decide)]
  iintro %_ ⟨HO, Hc, HD⟩
  isplitl [HO]; · iexact HO
  isplitl [Hc]; · iexact Hc
  ihave HD' := (show bigSep Finset.univ (deliv c X f j) ⊢ iprop(bigSep Finset.univ (fun r => bufAt c (pieceSet j r) (stripBuf X f)) ∗ bigSep Finset.univ (fun r => (A1.view.loc (c : Thread nD τ) ↦[srcSet f j r]{tok j r} X : sProp 𝕄))) from
    Entails.of_eq (BI.bigSep_sep _ _ _)) $$ HD
  icases HD' with ⟨Hb, Hs⟩
  isplitl [Hb]
  · iapply (show bigSep Finset.univ (fun r => bufAt c (pieceSet j r) (stripBuf X f)) ⊢ bufAt c (chunkSet j) (stripBuf X f) from
      Entails.of_eq (by rw [← piece_cover]; exact (pointsTo_biUnion _ _ (piece_disj j)).symm))
    iexact Hb
  iapply (show iprop(bigSep Finset.univ (fun r => (A1.view.loc (c : Thread nD τ) ↦[srcSet f j r]{tok j r} X : sProp 𝕄)) ∗ bigSep Finset.univ (restAt c X f j)) ⊢ bigSep Finset.univ (fun r => tabAt c X (tok j r)) from
    (Entails.of_eq (BI.bigSep_sep _ _ _).symm).trans (BI.bigSep_mono fun r _ => (pointsTo_split_subset (Finset.subset_univ (srcSet f j r))).2))
  isplitl [Hs]; · iexact Hs
  iexact Hr

end Cert.Proof.Dots

end
-- ==== Proof.DotsMath.lean ====
module

public import proofs.«01_k».proof.Proof.DotsDefs
public import Mathlib.Tactic.FinCases
public import Mathlib.Tactic.IntervalCases
public import Idealize.ShloMosaic.Lib.VecWindow
public import Idealize.ShloMosaic.Lib.WritesUnit
public import Idealize.ShloMosaic.Lib.ValueLayout
public import Idealize.ShloMosaic.Lib.BitcastFour
public import Idealize.ShloMosaic.Lib.Pointwise
public import Idealize.ShloMosaic.Lib.Exec

@[expose] public section

/-! # What the dots kernel's buffers hold, and how each store extends it -/

noncomputable section

namespace Cert.Proof.DotsMath

open Idealize.ShloMosaic

variable {F : FTy → Type} [FloatOps F]

/-! ## Loads and stores of a rank-2 buffer, element by element -/

section Access

variable {sig : RefSig} {κ : Kind} {sp : Space} {e : EltTy} {Val : EltTy → Type} {N C : ℕ}
  (v : View sig κ sp (⟨2, ![N, C]⟩ : Shape) e) (f : v.ty.Contents Val)

/-- The rows a strided store writes. -/
abbrev rowsAt (N n st : ℕ) (off : Fin 2 → ℕ) (inb : ∀ a : Fin 2, (⟨2, ![n, 128]⟩ : Shape).size a = 0 ∨ off a + (![st, 1] : Fin 2 → ℕ) a * ((⟨2, ![n, 128]⟩ : Shape).size a - 1) < (⟨2, ![N, 128]⟩ : Shape).size a)
    (pos : ∀ a : Fin 2, 0 < (![st, 1] : Fin 2 → ℕ) a) : Rect (⟨2, ![N, 128]⟩ : Shape) :=
  ⟨(⟨off, (⟨2, ![n, 128]⟩ : Shape).size, ![st, 1], inb⟩ : LoadRect (⟨2, ![N, 128]⟩ : Shape)), pos⟩

/-- An element under the newest store reads its payload. -/
theorem hit2 (r : Rect (⟨2, ![N, C]⟩ : Shape)) (w : r.shape.Idx → Val e) (L : List (View.Piece Val (⟨2, ![N, C]⟩ : Shape) e)) {o st : ℕ}
    (ho : r.off = ![o, 0]) (hs0 : r.stride 0 = st) (hs1 : r.stride 1 = 1) (x : r.shape.Idx) (a : Fin N) (b : Fin C)
    (h0 : a.val = o + st * (x 0).val) (h1 : b.val = (x 1).val) :
    v.read Val (v.writes Val f (⟨r, w⟩ :: L)) (ValueIdx.ix2 a b) = w x := by
  rw [← Rect.emb_eq_of_coords r x (ValueIdx.ix2 a b) (fun i => by
    match i with
    | ⟨0, _⟩ => show a.val = r.off 0 + r.stride 0 * (x 0).val; rw [ho, hs0]; exact h0
    | ⟨1, _⟩ => show b.val = r.off 1 + r.stride 1 * (x 1).val; rw [ho, hs1]; show b.val = 0 + 1 * (x 1).val; omega)]
  exact View.read_writes_cons_emb v f r w L x

/-- An element outside the rows of the newest store reads what was there before. -/
theorem miss2 (r : Rect (⟨2, ![N, C]⟩ : Shape)) (w : r.shape.Idx → Val e) (L : List (View.Piece Val (⟨2, ![N, C]⟩ : Shape) e)) {o st : ℕ}
    (ho : r.off = ![o, 0]) (hs0 : r.stride 0 = st) (a : Fin N) (b : Fin C) (h : ∀ x, x < r.size 0 → a.val ≠ o + st * x) :
    v.read Val (v.writes Val f (⟨r, w⟩ :: L)) (ValueIdx.ix2 a b) = v.read Val (v.writes Val f L) (ValueIdx.ix2 a b) := by
  refine View.read_writes_cons_miss v f _ L _ fun hm => ?_
  obtain ⟨x, hx, he⟩ := (LoadRect.mem_set (r := r.toLoadRect)).mp hm 0
  refine h x hx ?_
  rw [ho, hs0] at he
  exact he

/-- A load's element is the buffer's. -/
theorem ld2 (r : LoadRect (⟨2, ![N, C]⟩ : Shape)) {o : ℕ}
    (ho : r.off = ![o, 0]) (hs0 : r.stride 0 = 1) (hs1 : r.stride 1 = 1) (x : r.shape.Idx) (a : Fin N) (b : Fin C)
    (h0 : a.val = o + (x 0).val) (h1 : b.val = (x 1).val) :
    v.readAt Val r f x = v.read Val f (ValueIdx.ix2 a b) := by
  rw [View.readAt_apply]
  refine congrArg _ (funext fun i => Fin.ext ?_)
  match i with
  | ⟨0, _⟩ => show r.off 0 + r.stride 0 * (x 0).val = a.val; rw [ho, hs0]; show o + 1 * (x 0).val = a.val; omega
  | ⟨1, _⟩ => show r.off 1 + r.stride 1 * (x 1).val = b.val; rw [ho, hs1]; show 0 + 1 * (x 1).val = b.val; omega

end Access

/-! ## The packed code words -/

/-- The code table, transposed: codes by table row. -/
abbrev Tab : Type := (⟨2, ![480, 720000]⟩ : Shape).Idx → BitVec 8
/-- The ids, fields before positions. -/
abbrev Ids : Type := (⟨3, ![8, 24, 256]⟩ : Shape).Idx → BitVec 32
/-- A block of words, one per token. -/
abbrev Blk : Type := (⟨2, ![16, 128]⟩ : Shape).Idx → BitVec 32

/-- Code `b` of table row `c`. -/
def byteAt (X : Tab) (c b : ℕ) : BitVec 8 :=
  X (ValueIdx.ix2 (⟨b % 480, Nat.mod_lt _ (by decide)⟩ : Fin 480) (⟨c % 720000, Nat.mod_lt _ (by decide)⟩ : Fin 720000))

/-- Four codes of table row `c` in one word, the first lowest. -/
def cw (X : Tab) (c w : ℕ) : BitVec 32 :=
  (byteAt X c (4 * w)).setWidth 32 ||| ((byteAt X c (4 * w + 1)).setWidth 32 <<< 8)
    ||| ((byteAt X c (4 * w + 2)).setWidth 32 <<< 16) ||| ((byteAt X c (4 * w + 3)).setWidth 32 <<< 24)

theorem cw_getLsbD (X : Tab) (c w q : ℕ) (hq : q < 32) :
    (cw X c w).getLsbD q = (byteAt X c (4 * w + q / 8)).getLsbD (q % 8) :=
  four_bytes_getLsbD (fun i => byteAt X c (4 * w + i.val)) q hq

/-- A tile of codes, read as words and transposed, holds each table row's packed words. -/
theorem tile_pay (X : Tab) (m : ℕ) (V : (⟨3, ![1, 480, 128]⟩ : Shape).Idx → BitVec 8)
    (hV : ∀ (c : Fin 480) (l : Fin 128), V (ValueIdx.ix3 0 c l) = byteAt X (m + l.val) c.val) (h1) (h2) (h3) (h4) (l : Fin 128) (w : Fin 120) :
    shapeCast (⟨2, ![128, 120]⟩ : Shape) (transpose (⟨2, ![128, 120]⟩ : Shape) [1, 0]
      (bitcast (⟨2, ![120, 128]⟩ : Shape) 32 (shapeCast (⟨2, ![480, 128]⟩ : Shape) V h1) h2) h3) h4 (ValueIdx.ix2 l w) = cw X (m + l.val) w.val := by
  rw [shapeCast_self]
  refine (ValueIdx.transpose_ix2_apply _ _ l w).trans ?_
  apply BitVec.eq_of_getLsbD_eq
  intro q hq
  have hw := w.isLt
  rw [cw_getLsbD X _ _ q hq, bitcast_8_32_getLsbD_ix2 _ h2 w l q hq (⟨4 * w.val + q / 8, by omega⟩ : Fin 480) rfl]
  refine congrArg (fun b : BitVec 8 => b.getLsbD (q % 8)) ?_
  refine (ValueIdx.shapeCast_1ab_ab_apply V h1 _ l).trans ?_
  exact hV _ l

/-! ## The ids -/

/-- Token `t`'s id in field `f`; tokens are numbered by blocks of 128 positions. -/
def idAt (I : Ids) (f t : ℕ) : BitVec 32 :=
  I (ValueIdx.ix3 (⟨t / 128 % 8, Nat.mod_lt _ (by decide)⟩ : Fin 8) (⟨f % 24, Nat.mod_lt _ (by decide)⟩ : Fin 24)
    (⟨(t / 1024 % 2) * 128 + t % 128, by omega⟩ : Fin 256))
/-- Its number. -/
def idn (I : Ids) (f t : ℕ) : ℕ := (idAt I f t).toNat

/-- Every id lies in its own field's range. -/
def InField (I : Ids) : Prop := ∀ (b : Fin 8) (f : Fin 24) (s : Fin 256),
  30000 * f.val ≤ (I (ValueIdx.ix3 b f s)).toNat ∧ (I (ValueIdx.ix3 b f s)).toNat < 30000 * f.val + 30000

theorem first_bounds : ∀ f : Fin 24, first f.val ≤ 30000 * f.val ∧ 30000 * f.val + 30000 ≤ first f.val + 30208 := by decide +kernel

/-- The row of its field's strip that a token's id names. -/
theorem row_of {I : Ids} (hI : InField I) {f : ℕ} (hf : f < 24) (t : ℕ) :
    first f ≤ idn I f t ∧ idn I f t - first f < 30208 ∧ (idAt I f t - BitVec.ofNat 32 (first f)).toNat = idn I f t - first f := by
  have h := hI (⟨t / 128 % 8, Nat.mod_lt _ (by decide)⟩ : Fin 8) (⟨f % 24, Nat.mod_lt _ (by decide)⟩ : Fin 24)
    (⟨(t / 1024 % 2) * 128 + t % 128, by omega⟩ : Fin 256)
  change 30000 * (f % 24) ≤ idn I f t ∧ idn I f t < 30000 * (f % 24) + 30000 at h
  rw [Nat.mod_eq_of_lt hf] at h
  have hb := first_bounds ⟨f, hf⟩
  simp only at hb
  refine ⟨by omega, by omega, ?_⟩
  rw [BitVec.toNat_sub, BitVec.toNat_ofNat]
  change (2 ^ 32 - first f % 2 ^ 32 + idn I f t) % 2 ^ 32 = _
  omega

/-- The strip row of every token of the first `k` blocks, and of block `k` the first `tt` groups of fields, is in place. -/
def RowIds (I : Ids) (k tt : ℕ) (B : (⟨2, ![384, 128]⟩ : Shape).Idx → BitVec 32) : Prop :=
  ∀ (f : Fin 24) (k' : Fin 16) (l : Fin 128), (k'.val < k ∨ (k'.val = k ∧ f.val < 8 * tt)) →
    B (ValueIdx.ix2 (⟨f.val * 16 + k'.val, by omega⟩ : Fin 384) l) = idAt I f.val (k'.val * 128 + l.val) - BitVec.ofNat 32 (first f.val)

/-- One strided store: one group of eight fields of block `k`. -/
theorem RowIds.step {I : Ids} {k tt : ℕ} (hk : k < 16) (htt : tt < 3) {sig : RefSig} {κ : Kind} {sp : Space}
    {v : View sig κ sp (⟨2, ![384, 128]⟩ : Shape) .i32} {f : v.ty.Contents (Elt F)} {L}
    (h : RowIds I k tt (v.read (Elt F) (v.writes (Elt F) f L))) {off : Fin 2 → ℕ} {inb} {pos} (ho : off = ![128 * tt + k, 0])
    {w : (⟨2, ![8, 128]⟩ : Shape).Idx → BitVec 32}
    (hw : ∀ (s : Fin 8) (l : Fin 128), w (ValueIdx.ix2 s l) = idAt I (8 * tt + s.val) (k * 128 + l.val) - BitVec.ofNat 32 (first (8 * tt + s.val))) :
    RowIds I k (tt + 1) (v.read (Elt F) (v.writes (Elt F) f
      (⟨rowsAt 384 8 16 off inb pos, w⟩ :: L))) := by
  intro g k' l hg
  by_cases hc : k'.val = k ∧ 8 * tt ≤ g.val
  · have hlt : g.val < 8 * tt + 8 := by omega
    refine (hit2 (Val := Elt F) v f (rowsAt 384 8 16 off inb pos) w L (o := 128 * tt + k) (st := 16) ho rfl rfl (ValueIdx.ix2 (⟨g.val - 8 * tt, by omega⟩ : Fin 8) l) (⟨g.val * 16 + k'.val, by omega⟩ : Fin 384) l
      (by show g.val * 16 + k'.val = 128 * tt + k + 16 * (g.val - 8 * tt); omega) rfl).trans ?_
    rw [hw]
    show idAt I (8 * tt + (g.val - 8 * tt)) _ - BitVec.ofNat 32 (first (8 * tt + (g.val - 8 * tt))) = _
    rw [show 8 * tt + (g.val - 8 * tt) = g.val by omega, hc.1]
  · refine (miss2 (Val := Elt F) v f (rowsAt 384 8 16 off inb pos) w L (o := 128 * tt + k) (st := 16) ho rfl (⟨g.val * 16 + k'.val, by omega⟩ : Fin 384) l (fun x hx => ?_)).trans (h g k' l (by omega))
    show g.val * 16 + k'.val ≠ 128 * tt + k + 16 * x
    have hx' : x < 8 := hx
    have := k'.isLt
    omega

theorem RowIds.next {I : Ids} {k : ℕ} {B} (h : RowIds I k 3 B) : RowIds I (k + 1) 0 B :=
  fun f k' l hl => h f k' l (by have := f.isLt; omega)

/-- The id a pick reads. -/
theorem RowIds.get {I : Ids} {B} (h : RowIds I 16 0 B) {f t : ℕ} (hf : f < 24) (ht : t < 2048) (a : Fin 384) (l : Fin 128)
    (ha : a.val = f * 16 + t / 128) (hl : l.val = t % 128) : B (ValueIdx.ix2 a l) = idAt I f t - BitVec.ofNat 32 (first f) := by
  have := h ⟨f, hf⟩ ⟨t / 128, by omega⟩ l (Or.inl (by show t / 128 < 16; omega))
  rw [show a = (⟨f * 16 + t / 128, by omega⟩ : Fin 384) from Fin.ext ha]
  refine this.trans ?_
  show idAt I f (t / 128 * 128 + l.val) - _ = _
  rw [hl, show t / 128 * 128 + t % 128 = t by omega]

/-! ## The strip of rows, the picked rows and the words by token -/

/-- The first `n` rows of field `f`'s strip are in place, each a row's packed words. -/
def Strip (X : Tab) (f n : ℕ) (A : (⟨2, ![30208, 128]⟩ : Shape).Idx → BitVec 32) : Prop :=
  ∀ (r : Fin 30208) (w : Fin 128), r.val < n → w.val < 120 → A (ValueIdx.ix2 r w) = cw X (first f + r.val) w.val

/-- A tile more. -/
theorem Strip.step {X : Tab} {f m : ℕ} (hm : m < 236) {sig : RefSig} {κ : Kind} {sp : Space}
    {v : View sig κ sp (⟨2, ![30208, 128]⟩ : Shape) .i32} {g : v.ty.Contents (Elt F)} {L}
    (h : Strip X f (m * 128) (v.read (Elt F) (v.writes (Elt F) g L))) {off : Fin 2 → ℕ} {inb} (ho : off = ![m * 128, 0])
    {w : (⟨2, ![128, 120]⟩ : Shape).Idx → BitVec 32}
    (hw : ∀ (l : Fin 128) (c : Fin 120), w (ValueIdx.ix2 l c) = cw X (first f + m * 128 + l.val) c.val) :
    Strip X f ((m + 1) * 128) (v.read (Elt F) (v.writes (Elt F) g
      (⟨Rect.unit (s := (⟨2, ![30208, 128]⟩ : Shape)) off (⟨2, ![128, 120]⟩ : Shape).size inb, w⟩ :: L))) := by
  intro r c hr hc
  by_cases hh : m * 128 ≤ r.val
  · refine (hit2 (Val := Elt F) v g (Rect.unit (s := (⟨2, ![30208, 128]⟩ : Shape)) off (⟨2, ![128, 120]⟩ : Shape).size inb) w L (o := m * 128) (st := 1) ho rfl rfl (ValueIdx.ix2 (⟨r.val - m * 128, by omega⟩ : Fin 128) (⟨c.val, hc⟩ : Fin 120)) r c
      (by show r.val = m * 128 + 1 * (r.val - m * 128); omega) rfl).trans ?_
    rw [hw]
    show cw X (first f + m * 128 + (r.val - m * 128)) c.val = _
    rw [show first f + m * 128 + (r.val - m * 128) = first f + r.val by omega]
  · refine (miss2 (Val := Elt F) v g (Rect.unit (s := (⟨2, ![30208, 128]⟩ : Shape)) off (⟨2, ![128, 120]⟩ : Shape).size inb) w L (o := m * 128) (st := 1) ho rfl r c (fun x hx => by omega)).trans (h r c (by omega) hc)

/-- The first `n` tokens' rows of field `f` have been picked. -/
def Picked (X : Tab) (I : Ids) (f n : ℕ) (P : (⟨2, ![2048, 128]⟩ : Shape).Idx → BitVec 32) : Prop :=
  ∀ (t : Fin 2048) (w : Fin 128), t.val < n → w.val < 120 → P (ValueIdx.ix2 t w) = cw X (idn I f t.val) w.val

/-- One pick. -/
theorem Picked.step {X : Tab} {I : Ids} (hI : InField I) {f t : ℕ} (hf : f < 24) (ht : t < 2048) {sig : RefSig} {κ : Kind} {sp : Space}
    {v : View sig κ sp (⟨2, ![2048, 128]⟩ : Shape) .i32} {g : v.ty.Contents (Elt F)} {L}
    (h : Picked X I f t (v.read (Elt F) (v.writes (Elt F) g L))) {off : Fin 2 → ℕ} {inb} (ho : off = ![t, 0])
    {w : (⟨2, ![1, 128]⟩ : Shape).Idx → BitVec 32} {A} (hA : Strip X f 30208 A)
    (hw : ∀ (c : Fin 128), w (ValueIdx.ix2 (0 : Fin 1) c) = A (ValueIdx.ix2 (⟨idn I f t - first f, (row_of hI hf t).2.1⟩ : Fin 30208) c)) :
    Picked X I f (t + 1) (v.read (Elt F) (v.writes (Elt F) g
      (⟨Rect.unit (s := (⟨2, ![2048, 128]⟩ : Shape)) off (⟨2, ![1, 128]⟩ : Shape).size inb, w⟩ :: L))) := by
  intro r c hr hc
  by_cases hh : r.val = t
  · refine (hit2 (Val := Elt F) v g (Rect.unit (s := (⟨2, ![2048, 128]⟩ : Shape)) off (⟨2, ![1, 128]⟩ : Shape).size inb) w L (o := t) (st := 1) ho rfl rfl (ValueIdx.ix2 (0 : Fin 1) c) r c
      (by show r.val = t + 1 * 0; omega) rfl).trans ?_
    rw [hw, hA _ _ (row_of hI hf t).2.1 hc]
    have := (row_of hI hf t).1
    show cw X (first f + (idn I f t - first f)) c.val = _
    rw [hh, show first f + (idn I f t - first f) = idn I f t by omega]
  · refine (miss2 (Val := Elt F) v g (Rect.unit (s := (⟨2, ![2048, 128]⟩ : Shape)) off (⟨2, ![1, 128]⟩ : Shape).size inb) w L (o := t) (st := 1) ho rfl r c (fun x hx => ?_)).trans (h r c (by omega) hc)
    have hx' : x < 1 := hx
    omega

/-- Field `f`'s words by token: all of the first `k` blocks, and of block `k` the first `8 q` words. -/
def Words (X : Tab) (I : Ids) (f k q : ℕ) (W : (⟨2, ![2040, 128]⟩ : Shape).Idx → BitVec 32) : Prop :=
  ∀ (w : Fin 120) (k' : Fin 16) (l : Fin 128), (k'.val < k ∨ (k'.val = k ∧ w.val < 8 * q)) →
    W (ValueIdx.ix2 (⟨w.val * 17 + k'.val, by omega⟩ : Fin 2040) l) = cw X (idn I f (k'.val * 128 + l.val)) w.val

/-- One strided store: eight words of block `k`. -/
theorem Words.step {X : Tab} {I : Ids} {f k q : ℕ} (hk : k < 16) (hq : q < 15) {sig : RefSig} {κ : Kind} {sp : Space}
    {v : View sig κ sp (⟨2, ![2040, 128]⟩ : Shape) .i32} {g : v.ty.Contents (Elt F)} {L}
    (h : Words X I f k q (v.read (Elt F) (v.writes (Elt F) g L))) {off : Fin 2 → ℕ} {inb} {pos} (ho : off = ![136 * q + k, 0])
    {w : (⟨2, ![8, 128]⟩ : Shape).Idx → BitVec 32}
    (hw : ∀ (s : Fin 8) (l : Fin 128), w (ValueIdx.ix2 s l) = cw X (idn I f (k * 128 + l.val)) (8 * q + s.val)) :
    Words X I f k (q + 1) (v.read (Elt F) (v.writes (Elt F) g
      (⟨rowsAt 2040 8 17 off inb pos, w⟩ :: L))) := by
  intro u k' l hg
  by_cases hc : k'.val = k ∧ 8 * q ≤ u.val
  · have hlt : u.val < 8 * q + 8 := by omega
    refine (hit2 (Val := Elt F) v g (rowsAt 2040 8 17 off inb pos) w L (o := 136 * q + k) (st := 17) ho rfl rfl (ValueIdx.ix2 (⟨u.val - 8 * q, by omega⟩ : Fin 8) l) (⟨u.val * 17 + k'.val, by omega⟩ : Fin 2040) l
      (by show u.val * 17 + k'.val = 136 * q + k + 17 * (u.val - 8 * q); omega) rfl).trans ?_
    rw [hw]
    show cw X (idn I f (k * 128 + l.val)) (8 * q + (u.val - 8 * q)) = _
    rw [show 8 * q + (u.val - 8 * q) = u.val by omega, hc.1]
  · refine (miss2 (Val := Elt F) v g (rowsAt 2040 8 17 off inb pos) w L (o := 136 * q + k) (st := 17) ho rfl (⟨u.val * 17 + k'.val, by omega⟩ : Fin 2040) l (fun x hx => ?_)).trans (h u k' l (by omega))
    show u.val * 17 + k'.val ≠ 136 * q + k + 17 * x
    have hx' : x < 8 := hx
    have := k'.isLt
    omega

theorem Words.next {X : Tab} {I : Ids} {f k : ℕ} {W} (h : Words X I f k 15 W) : Words X I f (k + 1) 0 W :=
  fun w k' l hl => h w k' l (by have := w.isLt; omega)

/-- Eight words of a transposed block of picked rows. -/
theorem words_pay {X : Tab} {I : Ids} {f k q : ℕ} (hk : k < 16) (hq : q < 15) {V : (⟨2, ![128, 128]⟩ : Shape).Idx → BitVec 32}
    (hV : ∀ (l : Fin 128) (w : Fin 128), w.val < 120 → V (ValueIdx.ix2 l w) = cw X (idn I f (k * 128 + l.val)) w.val) {o : Fin 2 → ℕ} (ho : o = ![8 * q, 0]) (h1) (h2)
    (s : Fin 8) (l : Fin 128) :
    extractStridedSlice (⟨2, ![8, 128]⟩ : Shape) o (transpose (⟨2, ![128, 128]⟩ : Shape) [1, 0] V h1) h2 (ValueIdx.ix2 s l) = cw X (idn I f (k * 128 + l.val)) (8 * q + s.val) := by
  subst ho
  have hs := s.isLt
  rw [extractStridedSlice_apply _ _ h2 (ValueIdx.ix2 s l) (ValueIdx.ix2 (⟨8 * q + s.val, by omega⟩ : Fin 128) l) (fun a => by
    match a with
    | ⟨0, _⟩ => rfl
    | ⟨1, _⟩ => show l.val = 0 + l.val; omega)]
  refine (ValueIdx.transpose_ix2_apply _ _ _ l).trans ?_
  exact hV l _ (by show 8 * q + s.val < 120; omega)

/-! ## The upper words and the dots -/

/-- Word `w` of field `g`'s slot, of every token's row in field `f`. -/
def wordBlk (X : Tab) (I : Ids) (f g w : ℕ) : Blk := fun i => cw X (idn I f ((i 0).val * 128 + (i 1).val)) (g * 5 + w)

/-- The words a dot or a copy reads. -/
theorem Words.get {X : Tab} {I : Ids} {f : ℕ} {sig : RefSig} {κ : Kind} {sp : Space}
    {v : View sig κ sp (⟨2, ![2040, 128]⟩ : Shape) .i32} {g : v.ty.Contents (Elt F)} (h : Words X I f 16 0 (v.read (Elt F) g))
    {e n : ℕ} (he : e < 24) (hn : n < 5) {off : Fin 2 → ℕ} {inb} (ho : off = ![(e * 5 + n) * 17, 0]) :
    v.readAt (Elt F) (Rect.unit (s := (⟨2, ![2040, 128]⟩ : Shape)) off (⟨2, ![16, 128]⟩ : Shape).size inb).toLoadRect g = wordBlk X I f e n := by
  funext x
  obtain ⟨a, b, rfl⟩ : ∃ (a : Fin 16) (b : Fin 128), x = ValueIdx.ix2 a b := ⟨x 0, x 1, ValueIdx.eq_ix2 x⟩
  refine (ld2 (Val := Elt F) v g (Rect.unit (s := (⟨2, ![2040, 128]⟩ : Shape)) off (⟨2, ![16, 128]⟩ : Shape).size inb).toLoadRect ho rfl rfl _ (⟨(e * 5 + n) * 17 + a.val, by omega⟩ : Fin 2040) b rfl rfl).trans ?_
  exact h (⟨e * 5 + n, by omega⟩ : Fin 120) a b (Or.inl a.isLt)

/-- What the buffer of upper words holds of the pairs `live`. -/
def Upper (X : Tab) (I : Ids) (live : ℕ → ℕ → ℕ → Prop) (U : (⟨2, ![11520, 128]⟩ : Shape).Idx → BitVec 32) : Prop :=
  ∀ (e g w : ℕ) (k : Fin 16) (l : Fin 128) (a : Fin 11520), e < g → g < 24 → w < 5 → live e g w → a.val = (slot e g * 5 + w) * 16 + k.val →
    U (ValueIdx.ix2 a l) = cw X (idn I e (k.val * 128 + l.val)) (g * 5 + w)

/-- The pairs whose words field `f`'s dots read, and later fields' will. -/
def liveE (f : ℕ) : ℕ → ℕ → ℕ → Prop := fun e g _ => e < f ∧ f ≤ g
/-- The pairs in place while field `f`'s own words are being stored. -/
def liveG (f g n : ℕ) : ℕ → ℕ → ℕ → Prop := fun e g' w => (e < f ∧ f < g') ∨ (e = f ∧ (g' < g ∨ (g' = g ∧ w < n)))

theorem Upper.enter {X : Tab} {I : Ids} {f : ℕ} {U} (h : Upper X I (liveE f) U) : Upper X I (liveG f (f + 1) 0) U :=
  fun e g w k l a h1 h2 h3 h4 h5 => h e g w k l a h1 h2 h3 (by unfold liveG at h4; unfold liveE; omega) h5
theorem Upper.next {X : Tab} {I : Ids} {f g : ℕ} {U} (h : Upper X I (liveG f g 5) U) : Upper X I (liveG f (g + 1) 0) U :=
  fun e g w k l a h1 h2 h3 h4 h5 => h e g w k l a h1 h2 h3 (by unfold liveG at *; omega) h5
theorem Upper.leave {X : Tab} {I : Ids} {f : ℕ} {U} (h : Upper X I (liveG f 24 0) U) : Upper X I (liveE (f + 1)) U :=
  fun e g w k l a h1 h2 h3 h4 h5 => h e g w k l a h1 h2 h3 (by unfold liveE at h4; unfold liveG; omega) h5
theorem Upper.none {X : Tab} {I : Ids} (U) : Upper X I (liveE 0) U :=
  fun e g w k l a h1 h2 h3 h4 h5 => absurd h4.1 (by omega)

theorem slot_lt {e f : ℕ} (h : e < f) (hf : f < 24) : slot e f < 144 := by unfold slot; split_ifs <;> omega

/-- Two pairs in place at once have slots of their own. -/
theorem slot_ne {f g e g' : ℕ} (hfg : f < g) (hg : g < 24) (heg : e < g') (hg' : g' < 24) (h : (e < f ∧ f < g') ∨ (e = f ∧ g' < g)) :
    slot e g' ≠ slot f g := by
  unfold slot
  rcases h with h | h
  · split_ifs <;> omega
  · split_ifs <;> omega

/-- The upper words a dot reads. -/
theorem Upper.get {X : Tab} {I : Ids} {f : ℕ} {sig : RefSig} {κ : Kind} {sp : Space}
    {v : View sig κ sp (⟨2, ![11520, 128]⟩ : Shape) .i32} {u : v.ty.Contents (Elt F)} (h : Upper X I (liveE f) (v.read (Elt F) u))
    {e n : ℕ} (hf : f < 24) (he : e < f) (hn : n < 5) {off : Fin 2 → ℕ} {inb} (ho : off = ![(slot e f * 5 + n) * 16, 0]) :
    v.readAt (Elt F) (Rect.unit (s := (⟨2, ![11520, 128]⟩ : Shape)) off (⟨2, ![16, 128]⟩ : Shape).size inb).toLoadRect u = wordBlk X I e f n := by
  funext x
  obtain ⟨a, b, rfl⟩ : ∃ (a : Fin 16) (b : Fin 128), x = ValueIdx.ix2 a b := ⟨x 0, x 1, ValueIdx.eq_ix2 x⟩
  have hs := slot_lt he hf
  refine (ld2 (Val := Elt F) v u (Rect.unit (s := (⟨2, ![11520, 128]⟩ : Shape)) off (⟨2, ![16, 128]⟩ : Shape).size inb).toLoadRect ho rfl rfl _ (⟨(slot e f * 5 + n) * 16 + a.val, by omega⟩ : Fin 11520) b rfl rfl).trans ?_
  exact h e f n a b _ he hf hn ⟨he, le_refl _⟩ rfl

/-- One copy of a field's word into its slot. -/
theorem Upper.step {X : Tab} {I : Ids} {f g n : ℕ} (hfg : f < g) (hg : g < 24) (hn : n < 5) {sig : RefSig} {κ : Kind} {sp : Space}
    {v : View sig κ sp (⟨2, ![11520, 128]⟩ : Shape) .i32} {u : v.ty.Contents (Elt F)} {L}
    (h : Upper X I (liveG f g n) (v.read (Elt F) (v.writes (Elt F) u L))) {off : Fin 2 → ℕ} {inb} (ho : off = ![(slot f g * 5 + n) * 16, 0]) :
    Upper X I (liveG f g (n + 1)) (v.read (Elt F) (v.writes (Elt F) u
      (⟨Rect.unit (s := (⟨2, ![11520, 128]⟩ : Shape)) off (⟨2, ![16, 128]⟩ : Shape).size inb, wordBlk X I f g n⟩ :: L))) := by
  intro e g' w k l a h1 h2 h3 h4 h5
  by_cases hh : e = f ∧ g' = g ∧ w = n
  · obtain ⟨rfl, rfl, rfl⟩ := hh
    exact (hit2 (Val := Elt F) v u (Rect.unit (s := (⟨2, ![11520, 128]⟩ : Shape)) off (⟨2, ![16, 128]⟩ : Shape).size inb) (wordBlk X I e g' w) L (o := (slot e g' * 5 + w) * 16) (st := 1) ho rfl rfl
      (ValueIdx.ix2 k l) a l (by show a.val = (slot e g' * 5 + w) * 16 + 1 * k.val; omega) rfl)
  · have h4' : liveG f g n e g' w := by unfold liveG at *; omega
    refine (miss2 (Val := Elt F) v u (Rect.unit (s := (⟨2, ![11520, 128]⟩ : Shape)) off (⟨2, ![16, 128]⟩ : Shape).size inb) _ L (o := (slot f g * 5 + n) * 16) (st := 1) ho rfl a l (fun x hx => ?_)).trans (h e g' w k l a h1 h2 h3 h4' h5)
    have hx' : x < 16 := hx
    have hk := k.isLt
    by_cases hs : e = f ∧ g' = g
    · obtain ⟨rfl, rfl⟩ := hs
      have : w ≠ n := fun h => hh ⟨rfl, rfl, h⟩
      omega
    · have := slot_ne (f := f) (g := g) (e := e) (g' := g') hfg hg h1 h2 (by unfold liveG at h4'; omega)
      omega

/-- The product of four codes by four, summed, as the kernel computes it. -/
def dot4 (a b : Blk) : Blk :=
  addi (addi (addi (muli (shrsi a (broadcast _ 24#32)) (shrsi b (broadcast _ 24#32)))
    (muli (shrsi (shli a (broadcast _ 24#32)) (broadcast _ 24#32)) (shrsi (shli b (broadcast _ 24#32)) (broadcast _ 24#32))))
    (muli (shrsi (shli a (broadcast _ 16#32)) (broadcast _ 24#32)) (shrsi (shli b (broadcast _ 16#32)) (broadcast _ 24#32))))
    (muli (shrsi (shli a (broadcast _ 8#32)) (broadcast _ 24#32)) (shrsi (shli b (broadcast _ 8#32)) (broadcast _ 24#32)))

/-- The dot of the pair `(e, f)` over its first `n` words. -/
def accum (X : Tab) (I : Ids) (e f : ℕ) : ℕ → Blk
  | 0 => broadcast _ 0#32
  | n + 1 => addi (accum X I e f n) (dot4 (wordBlk X I e f n) (wordBlk X I f e n))

theorem pair_base : ∀ e e' : Fin 24, e.val < e'.val → (e.val + 1) * (47 - (e.val + 1)) / 2 ≤ e'.val * (47 - e'.val) / 2 := by decide +kernel
theorem pair_next : ∀ e : Fin 24, (e.val + 1) * (47 - (e.val + 1)) / 2 = e.val * (47 - e.val) / 2 + 23 - e.val ∧ e.val * (47 - e.val) / 2 + 23 - e.val ≤ 276 := by decide +kernel

theorem pair_lt {e f : ℕ} (h : e < f) (hf : f < 24) : pairIdx e f < 276 := by
  have := pair_next ⟨e, by omega⟩
  unfold pairIdx
  simp only at this
  omega

/-- Different pairs have different indices. -/
theorem pair_ne {e f e' f' : ℕ} (h : e < f) (hf : f < 24) (h' : e' < f') (hf' : f' < 24) (hne : ¬ (e = e' ∧ f = f')) : pairIdx e f ≠ pairIdx e' f' := by
  have n1 := pair_next ⟨e, by omega⟩
  have n2 := pair_next ⟨e', by omega⟩
  have b1 := pair_base ⟨e, by omega⟩ ⟨e', by omega⟩
  have b2 := pair_base ⟨e', by omega⟩ ⟨e, by omega⟩
  simp only at n1 n2 b1 b2
  unfold pairIdx
  by_cases hl : e < e'
  · have := b1 hl; omega
  · by_cases hl' : e' < e
    · have := b2 hl'; omega
    · have : e = e' := by omega
      subst this
      omega

/-- All dots of the fields before `f`, and field `f`'s with the first `n` fields, are in place. -/
def DotsTo (X : Tab) (I : Ids) (f n : ℕ) (O : (⟨2, ![4416, 128]⟩ : Shape).Idx → Elt F .f32) : Prop :=
  ∀ (e f' : ℕ) (k : Fin 16) (l : Fin 128) (a : Fin 4416), e < f' → f' < 24 → (f' < f ∨ (f' = f ∧ e < n)) → a.val = pairIdx e f' * 16 + k.val →
    O (ValueIdx.ix2 a l) = sitofp (F := F) .f32 (accum X I e f' 5) (ValueIdx.ix2 k l)

theorem DotsTo.none {X : Tab} {I : Ids} (O : (⟨2, ![4416, 128]⟩ : Shape).Idx → Elt F .f32) : DotsTo X I 0 0 O :=
  fun e f' k l a h1 h2 h3 h4 => absurd h3 (by omega)
theorem DotsTo.next {X : Tab} {I : Ids} {f : ℕ} {O : (⟨2, ![4416, 128]⟩ : Shape).Idx → Elt F .f32} (h : DotsTo X I f f O) : DotsTo X I (f + 1) 0 O :=
  fun e f' k l a h1 h2 h3 h4 => h e f' k l a h1 h2 (by omega) h4

/-- One pair's dot more. -/
theorem DotsTo.step {X : Tab} {I : Ids} {f n : ℕ} (hf : f < 24) (hn : n < f) {sig : RefSig} {κ : Kind} {sp : Space}
    {v : View sig κ sp (⟨2, ![4416, 128]⟩ : Shape) .f32} {g : v.ty.Contents (Elt F)} {L}
    (h : DotsTo X I f n (v.read (Elt F) (v.writes (Elt F) g L))) {off : Fin 2 → ℕ} {inb} (ho : off = ![pairIdx n f * 16, 0]) :
    DotsTo X I f (n + 1) (v.read (Elt F) (v.writes (Elt F) g
      (⟨Rect.unit (s := (⟨2, ![4416, 128]⟩ : Shape)) off (⟨2, ![16, 128]⟩ : Shape).size inb, sitofp (F := F) .f32 (accum X I n f 5)⟩ :: L))) := by
  intro e f' k l a h1 h2 h3 h4
  by_cases hh : e = n ∧ f' = f
  · obtain ⟨rfl, rfl⟩ := hh
    exact (hit2 (Val := Elt F) v g (Rect.unit (s := (⟨2, ![4416, 128]⟩ : Shape)) off (⟨2, ![16, 128]⟩ : Shape).size inb) (sitofp (F := F) .f32 (accum X I e f' 5)) L (o := pairIdx e f' * 16) (st := 1) ho rfl rfl
      (ValueIdx.ix2 k l) a l (by show a.val = pairIdx e f' * 16 + 1 * k.val; omega) rfl)
  · refine (miss2 (Val := Elt F) v g (Rect.unit (s := (⟨2, ![4416, 128]⟩ : Shape)) off (⟨2, ![16, 128]⟩ : Shape).size inb) _ L (o := pairIdx n f * 16) (st := 1) ho rfl a l (fun x hx => ?_)).trans (h e f' k l a h1 h2 (by omega) h4)
    have hx' : x < 16 := hx
    have hk := k.isLt
    have := pair_ne h1 h2 hn hf hh
    omega

end Cert.Proof.DotsMath

end
-- ==== Proof.DotsBase.lean ====
module

public import proofs.«01_k».proof.Proof.DotsMem
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- A buffer held whole, its contents satisfying `P`. -/
def Holds {sp : Space} {s : Shape} {e : EltTy} (M : Memref sig .tc sp s e) (P : (s.Idx → Elt F e) → Prop) : sProp 𝕄 :=
  iprop(∃ f : BufTy.Contents (Elt F) M.view.ty, (M.view.loc (c : Thread nD τ) ↦[M.view.set]{fullShare} f) ∗ ⌜P (M.view.read (Elt F) f)⌝)

/-- What a buffer holds may be weakened. -/
theorem Holds.mono {sp : Space} {s : Shape} {e : EltTy} {M : Memref sig .tc sp s e} {P Q : (s.Idx → Elt F e) → Prop} (h : ∀ a, P a → Q a) :
    Holds c M P ⊢ Holds c M Q := by
  unfold Holds
  iintro ⟨%f, H, %hf⟩
  iexists f; isplitl [H]; · iexact H
  ipureintro; exact h _ hf

/-- A program that uses part of the state, then its continuation. -/
theorem seqF {α β : Type} {P G : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R)
    (h2 : ∀ x, iprop(R x ∗ G) ⊢ wp frame (wpE (defs₀ (F := F)) Variants.none (c : Thread nD τ) none) Set.univ (k x) Q) :
    iprop(P ∗ G) ⊢ wp frame (wpE (defs₀ (F := F)) Variants.none (c : Thread nD τ) none) Set.univ (p >>= k) Q := by
  refine andThen c (R := fun x => iprop(R x ∗ G)) ?_ h2
  iintro ⟨HP, HG⟩
  iapply wp_wand_r
  isplitl [HP]; · iapply h1; iexact HP
  iintro %x HR
  isplitl [HR]; · iexact HR
  iexact HG

/-- A program that uses part of the state, the rest kept. -/
theorem keep {α : Type} {P G : sProp 𝕄} {R : α → sProp 𝕄} {p : Prog (TpuEff nD τ sig (Elt F) Λ₀ .tc) α}
    (h1 : P ⊢ wp frame (wpE (defs₀ (F := F)) Variants.none (c : Thread nD τ) none) Set.univ p R) :
    iprop(P ∗ G) ⊢ wp frame (wpE (defs₀ (F := F)) Variants.none (c : Thread nD τ) none) Set.univ p (fun x => iprop(R x ∗ G)) := by
  iintro ⟨HP, HG⟩
  iapply wp_wand_r
  isplitl [HP]; · iapply h1; iexact HP
  iintro %x HR
  isplitl [HR]; · iexact HR
  iexact HG

/-- A program that uses part of the state; its continuation gets what it leaves. -/
theorem seqI {α β : Type} {P : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R) :
    iprop(P ∗ (∀ x, R x -∗ wp frame (wpE (defs₀ (F := F)) Variants.none (c : Thread nD τ) none) Set.univ (k x) Q))
      ⊢ wp frame (wpE (defs₀ (F := F)) Variants.none (c : Thread nD τ) none) Set.univ (p >>= k) Q := by
  rw [wp_bind]
  iintro ⟨HP, HG⟩
  iapply wp_wand_r
  isplitl [HP]; · iapply h1; iexact HP
  iexact HG

/-- A load leaves what a buffer held. -/
theorem load_keep {s : Shape} {e : EltTy} (M : Memref sig .tc .vmem s e) (P : (s.Idx → Elt F e) → Prop) (r : LoadRect s) (hl) :
    Holds c M P ⊢ wp frame (wpE (defs₀ (F := F)) Variants.none (c : Thread nD τ) none) Set.univ (Prog.lift (.load M r hl)) (fun _ => Holds c M P) := by
  unfold Holds
  iintro ⟨%f, H, %h⟩
  iapply (wp_load Variants.none (c : Thread nD τ) none Set.univ (View.setOn_subset_set M.view _)) $$ H
  iintro H
  sl_step
  iexists f; isplitl [H]; · iexact H
  ipureintro; exact h

/-- A program that returns. -/
theorem done {α : Type} {Q : α → sProp 𝕄} (x : α) :
    Q x ⊢ wp frame (wpE (defs₀ (F := F)) Variants.none (c : Thread nD τ) none) Set.univ (pure x) Q := by
  iintro H; sl_step; iexact H

/-- A counted loop of no trips. -/
theorem forNone {L : Scf.Loop 32} (ok : L.OK) (hL : L.trips = 0) {body : Fin L.trips → Unit → Prog (TpuEff nD τ sig (Elt F) Λ₀ .tc) Unit} (P : sProp 𝕄) :
    P ⊢ wp frame (wpE (defs₀ (F := F)) Variants.none (c : Thread nD τ) none) Set.univ (Scf.Loop.for L ok ⟨⟩ body) (fun _ => P) :=
  forInv c ok (fun _ => P) (fun t _ => absurd t.isLt (by omega))

/-- A loop over the four chunks, each changing its chunk's state and the shared one. -/
theorem four_loop {L : Scf.Loop 32} (ok : L.OK) (hL : L.trips = 4) {body : Fin L.trips → Unit → Prog (TpuEff nD τ sig (Elt F) Λ₀ .tc) Unit}
    (P P' : Fin 4 → sProp 𝕄) (I : ℕ → sProp 𝕄)
    (h : ∀ (t : Fin L.trips) u, iprop(P (t.cast hL) ∗ I t.val)
        ⊢ wp frame (wpE (defs₀ (F := F)) Variants.none (c : Thread nD τ) none) Set.univ (body t u) (fun _ => iprop(P' (t.cast hL) ∗ I (t.val + 1)))) :
    iprop(bigSep Finset.univ P ∗ I 0) ⊢ wp frame (wpE (defs₀ (F := F)) Variants.none (c : Thread nD τ) none) Set.univ (Scf.Loop.for L ok ⟨⟩ body)
      (fun _ => iprop(bigSep Finset.univ P' ∗ I 4)) := by
  have main := forInv c ok (fun k => iprop(bigSep (Ring.rangeSet 4 k 4) P ∗ I k ∗ bigSep (Ring.rangeSet 4 0 k) P')) (body := body) (by
    intro t u
    have ht : t.val < 4 := hL ▸ t.isLt
    rw [Ring.bigSep_rangeSet_head (NB := 4) (Φ := P) (lo := t.val) (by omega) (by omega),
      Ring.bigSep_rangeSet_last (NB := 4) (Φ := P') (lo := 0) (hi := t.val + 1) (by omega) (by omega)]
    simp only [show ∀ h, (⟨t.val, h⟩ : Fin 4) = t.cast hL from fun _ => rfl, show ∀ h, (⟨t.val + 1 - 1, h⟩ : Fin 4) = t.cast hL from fun _ => rfl]
    iintro ⟨⟨HP, Hs⟩, HI, Hr⟩
    iapply wp_wand_r
    isplitl [HP HI]
    · iapply (h t u)
      isplitl [HP]; · iexact HP
      iexact HI
    iintro %_ ⟨HP, HI⟩
    isplitl [Hs]; · iexact Hs
    isplitl [HI]; · iexact HI
    isplitl [HP]; · iexact HP
    iexact Hr)
  rw [hL] at main
  iintro ⟨HP, HI⟩
  iapply wp_wand_r
  isplitl [HP HI]
  · iapply main
    isplitl [HP]; · rw [Ring.rangeSet_univ]; iexact HP
    isplitl [HI]; · iexact HI
    rw [Ring.bigSep_rangeSet_empty (le_refl 0)]; iempintro
  iintro %_ ⟨-, HI, HP⟩
  isplitl [HP]; · rw [Ring.rangeSet_univ]; iexact HP
  iexact HI

/-- One copy issued, and nothing after it. -/
theorem start_last (X : S480x720000.Idx → Elt F .i8) (f : ℕ) (j : Fin 4) (r : Fin 15) (g : S4x480x7552.Idx → Elt F .i8)
    {o1 : Fin 1 → ℕ} {o3 : Fin 3 → ℕ} {o2 : Fin 2 → ℕ} (h1 : o1 = ![j.val]) (h3 : o3 = ![j.val, 32 * r.val, 0])
    (h2 : o2 = ![32 * r.val, first f + 7552 * j.val]) (i1) (i3) (i2) (hs) (hd) (ht) :
    iprop(flight c X f j r.val 0 ∗ bufAt c (pieceSet j r) g ∗ tabAt c X (tok j r))
      ⊢ wp frame (wpE (defs₀ (F := F)) Variants.none (c : Thread nD τ) none) Set.univ
        (Prog.lift (.enqueueDma (A1.slice (Rect.unit (s := S480x720000) o2 S32x7552.size i2) (fun _ => rfl))
          (.here ((A3.slice (Rect.unit (s := S4x480x7552) o3 S1x32x7552.size i3) (fun _ => rfl)).squeeze S32x7552 squeezes_S1x32x7552_S32x7552))
          (.dma ((cc0_scratch8.slice (Rect.unit (s := S4) o1 S1.size i1)).squeeze S_ squeezes_S1_S_).sem) hs hd ht) >>= fun _ => (pure () : Prog (TpuEff nD τ sig (Elt F) Λ₀ .tc) Unit))
        (fun _ => iprop(flight c X f j (r.val + 1) 0 ∗ restAt c X f j r)) := by
  refine BIBase.Entails.trans ?_ (start_one c X f j r g h1 h3 h2 i1 i3 i2 hs hd ht (fun _ => (pure () : Prog (TpuEff nD τ sig (Elt F) Λ₀ .tc) Unit)) _)
  iintro ⟨HB, HD, HT⟩
  isplitl [HB]; · iexact HB
  isplitl [HD]; · iexact HD
  isplitl [HT]; · iexact HT
  iintro H; sl_step; iexact H

/-- One copy awaited, and nothing after it. -/
theorem wait_last (X : S480x720000.Idx → Elt F .i8) (f : ℕ) (j : Fin 4) (r : Fin 15)
    {o1 : Fin 1 → ℕ} {o3 : Fin 3 → ℕ} {o2 : Fin 2 → ℕ} (h1 : o1 = ![j.val]) (h3 : o3 = ![j.val, 32 * r.val, 0]) (i1) (i3) (i2) (hs) (hd) :
    Drain c X f j r.val
      ⊢ wp frame (wpE (defs₀ (F := F)) Variants.none (c : Thread nD τ) none) Set.univ
        (Prog.lift (.waitDma2 ((cc0_scratch8.slice (Rect.unit (s := S4) o1 S1.size i1)).squeeze S_ squeezes_S1_S_).sem
          (A1.slice (Rect.unit (s := S480x720000) o2 S32x7552.size i2) (fun _ => rfl))
          ((A3.slice (Rect.unit (s := S4x480x7552) o3 S1x32x7552.size i3) (fun _ => rfl)).squeeze S32x7552 squeezes_S1x32x7552_S32x7552) hs hd) >>= fun _ => (pure () : Prog (TpuEff nD τ sig (Elt F) Λ₀ .tc) Unit))
        (fun _ => Drain c X f j (r.val + 1)) := by
  refine BIBase.Entails.trans ?_ (wait_one c X f j r h1 h3 i1 i3 i2 hs hd (fun _ => (pure () : Prog (TpuEff nD τ sig (Elt F) Λ₀ .tc) Unit)) _)
  iintro HB
  isplitl [HB]; · iexact HB
  iintro H; sl_step; iexact H

/-- A tile of a chunk read: 128 table columns' bytes. -/
theorem load_tile (X : Tab) (f : ℕ) (j : Fin 4) (u : ℕ) (hu : u < 59) {o3 : Fin 3 → ℕ} (h3 : o3 = ![j.val, 0, 128 * u]) (i3) (hl) :
    bufAt (F := F) c (chunkSet j) (stripBuf X f)
      ⊢ wp frame (wpE (defs₀ (F := F)) Variants.none (c : Thread nD τ) none) Set.univ
        (Prog.lift (.load A3 (Rect.unit (s := S4x480x7552) o3 S1x480x128.size i3).toLoadRect hl))
        (fun V => iprop(bufAt (F := F) c (chunkSet j) (stripBuf X f)
          ∗ ⌜∀ (cc : Fin 480) (l : Fin 128), V (ValueIdx.ix3 (0 : Fin 1) cc l) = byteAt X (first f + (59 * j.val + u) * 128 + l.val) cc.val⌝)) := by
  subst h3
  have hsub : A3.view.setOn (Rect.unit (s := S4x480x7552) ![j.val, 0, 128 * u] S1x480x128.size i3).toLoadRect.set ⊆ chunkSet j := by
    intro i hi
    obtain ⟨y, hy, rfl⟩ := Finset.mem_map.mp hi
    have hi' : y ∈ (Rect.unit (s := S4x480x7552) ![j.val, 0, 128 * u] S1x480x128.size i3).set := hy
    rw [Rect.mem_set_unit] at hi'
    have h0 : j.val ≤ (y 0).val ∧ (y 0).val < j.val + 1 := hi' 0
    refine Finset.mem_filter.mpr ⟨Finset.mem_univ _, ?_⟩
    show (y 0).val = j.val
    omega
  iintro H
  iapply (wp_load Variants.none (c : Thread nD τ) none Set.univ hsub) $$ H
  iintro H
  sl_step
  isplitl [H]; · iexact H
  ipureintro
  intro cc l
  have hf := first_le f
  have hj := j.isLt
  have hl := l.isLt
  have hc := cc.isLt
  rw [View.readAt_apply]
  have e3 := Idealize.ShloMosaic.ValueKit.rect_emb_unit_val (s := S4x480x7552) ![j.val, 0, 128 * u] S1x480x128.size i3 (ValueIdx.ix3 (0 : Fin 1) cc l)
  show stripBuf (F := F) X f ((Rect.unit (s := S4x480x7552) ![j.val, 0, 128 * u] S1x480x128.size i3).emb (ValueIdx.ix3 (0 : Fin 1) cc l)) = byteAt X _ _
  unfold stripBuf byteAt
  refine congrArg X (funext fun k => Fin.ext ?_)
  fin_cases k
  · refine (e3 1).trans ?_
    show 0 + cc.val = cc.val % 480; omega
  · refine (congrArg₂ (fun p q => first f + 7552 * p + q) (e3 0) (e3 2)).trans ?_
    show first f + 7552 * (j.val + 0) + (128 * u + l.val) = (first f + (59 * j.val + u) * 128 + l.val) % 720000
    omega

/-- A tile of words stored below the ones there. -/
theorem put_tile (M : Memref sig .tc .vmem S30208x128 .i32) (X : Tab) (f m : ℕ) (hm : m < 236) {o : Fin 2 → ℕ} (ho : o = ![m * 128, 0]) (inb) (w : S128x120.Idx → BitVec 32)
    (hw : ∀ (l : Fin 128) (cc : Fin 120), w (ValueIdx.ix2 l cc) = cw X (first f + m * 128 + l.val) cc.val) (hs) (h3) :
    Holds (F := F) c M (Strip X f (m * 128))
      ⊢ wp frame (wpE (defs₀ (F := F)) Variants.none (c : Thread nD τ) none) Set.univ
        (Prog.lift (.store M (Rect.unit (s := S30208x128) o S128x120.size inb) w Finset.univ hs h3)) (fun _ => Holds (F := F) c M (Strip X f ((m + 1) * 128))) := by
  unfold Holds
  iintro ⟨%g, H, %h⟩
  sl_exec
  sl_step
  iexists _; isplitl [H]; · iexact H
  ipureintro
  exact Strip.step (F := F) hm (L := []) h ho hw

end Cert.Proof.Dots

end
-- ==== Proof.DotsPicks.lean ====
module

public import proofs.«01_k».proof.Proof.DotsBase
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One pick: a token's row of the strip is copied to the token's place. -/
theorem pick49 (X : Tab) (I : Ids) (hI : InField I) (k0_t48 : Fin k0_t48_loop.trips) (k0_t49 : Fin k0_t49_loop.trips) (u0 : Unit) :
    iprop(Holds c y10 (RowIds I 16 0) ∗ Holds c y5 (Strip X (23) 30208) ∗ Holds c y6 (Picked X I (23) (512 * k0_t48.val + k0_t49.val)))
      ⊢ wp frame (wpE (defs₀ (F := F)) Variants.none (c : Thread nD τ) none) Set.univ (k0_t49_body (F := F) y0 w0 A1 w1 y2 w2 A3 w3 y4 w4 y5 w5 y6 w6 y7 w7 y8 w8 y9 w9 y10 w10 cc0_scratch8 cc0_scratch9 k0_t48 k0_t49 u0)
        (fun _ => iprop(Holds c y10 (RowIds I 16 0) ∗ Holds c y5 (Strip X (23) 30208) ∗ Holds c y6 (Picked X I (23) (512 * k0_t48.val + k0_t49.val + 1)))) := by
  have b48 : k0_t48.val < 4 := (t48_trips) ▸ k0_t48.isLt
  have b49 : k0_t49.val < 512 := (t49_trips) ▸ k0_t49.isLt
  have ht : 512 * k0_t48.val + k0_t49.val < 2048 := by omega
  have hf : 23 < 24 := by omega
  unfold k0_t49_body Holds
  iintro ⟨⟨%f10, H10, %h10⟩, ⟨%f5, H5, %h5⟩, ⟨%f6, H6, %h6⟩⟩
  sl_exec
  have hv : pick49.sl.r y10 k0_t48 k0_t49 f10 = idAt I (23) (512 * k0_t48.val + k0_t49.val) - BitVec.ofNat 32 (first (23)) := by
    refine Eq.trans ?_ (h10.get hf ht (⟨(23) * 16 + (512 * k0_t48.val + k0_t49.val) / 128, by omega⟩ : Fin 384) (⟨(512 * k0_t48.val + k0_t49.val) % 128, by omega⟩ : Fin 128) rfl rfl)
    refine congrArg (y10.view.read (Elt F) f10) (funext fun a => Fin.ext ?_)
    match a with
    | ⟨0, _⟩ => show k0_off86 k0_t48 k0_t49 0 + 1 * 0 = _; rw [off86_eq]; rfl
    | ⟨1, _⟩ => show k0_off86 k0_t48 k0_t49 1 + 1 * 0 = _; rw [off86_eq]; rfl
  have hrow := row_of hI hf (512 * k0_t48.val + k0_t49.val)
  have hn : (pick49.sl.r y10 k0_t48 k0_t49 f10).toNat = idn I (23) (512 * k0_t48.val + k0_t49.val) - first (23) := by rw [hv]; exact hrow.2.2
  have hchk : k0_chk7 (pick49.sl.r y10 k0_t48 k0_t49 f10) := chk7_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off88_eq k0_t48 k0_t49) h5 (fun cc => ?_)
  have pe : ∀ v, k0_pay2 (F := F) v = v := fun v => by unfold k0_pay2; exact shapeCast_self _ _
  rw [pe]
  exact ld2 (Val := Elt F) y5.view f5 (Rect.unit (s := S30208x128) (k0_off87 (pick49.sl.r y10 k0_t48 k0_t49 f10)) S1x128.size (k0_off87_inb _ hchk)).toLoadRect (o := (pick49.sl.r y10 k0_t48 k0_t49 f10).toNat) (off87_eq _) rfl rfl (ValueIdx.ix2 (0 : Fin 1) cc) (⟨idn I (23) (512 * k0_t48.val + k0_t49.val) - first (23), hrow.2.1⟩ : Fin 30208) cc (hn.symm.trans (Nat.add_zero _).symm) rfl

/-- One pick: a token's row of the strip is copied to the token's place. -/
theorem pick12 (X : Tab) (I : Ids) (hI : InField I) (c0_i32_8 : BitVec 32) (c1_i32_9 : BitVec 32) (k0_t8 : Fin k0_t8_loop.trips) (k0_t9 : Fin k0_t9_loop.trips) (k0_t11 : Fin k0_t11_loop.trips) (k0_t12 : Fin (k0_t12_loop k0_t11).trips) (u0 : Unit) :
    iprop(Holds c y10 (RowIds I 16 0) ∗ Holds c y4 (Strip X (2 * k0_t8.val) 30208) ∗ Holds c y6 (Picked X I (2 * k0_t8.val) (512 * k0_t9.val + 512 * k0_t11.val / 59 + k0_t12.val)))
      ⊢ wp frame (wpE (defs₀ (F := F)) Variants.none (c : Thread nD τ) none) Set.univ (k0_t12_body (F := F) y0 w0 A1 w1 y2 w2 A3 w3 y4 w4 y5 w5 y6 w6 y7 w7 y8 w8 y9 w9 y10 w10 cc0_scratch8 cc0_scratch9 c0_i32_8 c1_i32_9 k0_t8 k0_t9 k0_t11 k0_t12 u0)
        (fun _ => iprop(Holds c y10 (RowIds I 16 0) ∗ Holds c y4 (Strip X (2 * k0_t8.val) 30208) ∗ Holds c y6 (Picked X I (2 * k0_t8.val) (512 * k0_t9.val + 512 * k0_t11.val / 59 + k0_t12.val + 1)))) := by
  have b8 : k0_t8.val < 11 := (t8_trips) ▸ k0_t8.isLt
  have b9 : k0_t9.val < 4 := (t9_trips) ▸ k0_t9.isLt
  have b11 : k0_t11.val < 59 := (t11_trips) ▸ k0_t11.isLt
  have b12 : k0_t12.val < 512 * (k0_t11.val + 1) / 59 - 512 * k0_t11.val / 59 := (t12_trips k0_t11) ▸ k0_t12.isLt
  have ht : 512 * k0_t9.val + 512 * k0_t11.val / 59 + k0_t12.val < 2048 := by omega
  have hf : 2 * k0_t8.val < 24 := by omega
  unfold k0_t12_body Holds
  iintro ⟨⟨%f10, H10, %h10⟩, ⟨%f5, H5, %h5⟩, ⟨%f6, H6, %h6⟩⟩
  sl_exec
  have hv : pick12.sl.r y10 k0_t8 k0_t9 k0_t11 k0_t12 f10 = idAt I (2 * k0_t8.val) (512 * k0_t9.val + 512 * k0_t11.val / 59 + k0_t12.val) - BitVec.ofNat 32 (first (2 * k0_t8.val)) := by
    refine Eq.trans ?_ (h10.get hf ht (⟨(2 * k0_t8.val) * 16 + (512 * k0_t9.val + 512 * k0_t11.val / 59 + k0_t12.val) / 128, by omega⟩ : Fin 384) (⟨(512 * k0_t9.val + 512 * k0_t11.val / 59 + k0_t12.val) % 128, by omega⟩ : Fin 128) rfl rfl)
    refine congrArg (y10.view.read (Elt F) f10) (funext fun a => Fin.ext ?_)
    match a with
    | ⟨0, _⟩ => show k0_off21 k0_t8 k0_t9 k0_t11 k0_t12 0 + 1 * 0 = _; rw [off21_eq]; rfl
    | ⟨1, _⟩ => show k0_off21 k0_t8 k0_t9 k0_t11 k0_t12 1 + 1 * 0 = _; rw [off21_eq]; rfl
  have hrow := row_of hI hf (512 * k0_t9.val + 512 * k0_t11.val / 59 + k0_t12.val)
  have hn : (pick12.sl.r y10 k0_t8 k0_t9 k0_t11 k0_t12 f10).toNat = idn I (2 * k0_t8.val) (512 * k0_t9.val + 512 * k0_t11.val / 59 + k0_t12.val) - first (2 * k0_t8.val) := by rw [hv]; exact hrow.2.2
  have hchk : k0_chk1 (pick12.sl.r y10 k0_t8 k0_t9 k0_t11 k0_t12 f10) := chk1_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off23_eq k0_t9 k0_t11 k0_t12) h5 (fun cc => ?_)
  have pe : ∀ v, k0_pay67 (F := F) v = v := fun v => by unfold k0_pay67; exact shapeCast_self _ _
  rw [pe]
  exact ld2 (Val := Elt F) y4.view f5 (Rect.unit (s := S30208x128) (k0_off22 (pick12.sl.r y10 k0_t8 k0_t9 k0_t11 k0_t12 f10)) S1x128.size (k0_off22_inb _ hchk)).toLoadRect (o := (pick12.sl.r y10 k0_t8 k0_t9 k0_t11 k0_t12 f10).toNat) (off22_eq _) rfl rfl (ValueIdx.ix2 (0 : Fin 1) cc) (⟨idn I (2 * k0_t8.val) (512 * k0_t9.val + 512 * k0_t11.val / 59 + k0_t12.val) - first (2 * k0_t8.val), hrow.2.1⟩ : Fin 30208) cc (hn.symm.trans (Nat.add_zero _).symm) rfl

/-- One pick: a token's row of the strip is copied to the token's place. -/
theorem pick27 (X : Tab) (I : Ids) (hI : InField I) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t26 : Fin k0_t26_loop.trips) (k0_t27 : Fin (k0_t27_loop k0_t26).trips) (u0 : Unit) :
    iprop(Holds c y10 (RowIds I 16 0) ∗ Holds c y5 (Strip X (2 * k0_t8.val + 1) 30208) ∗ Holds c y6 (Picked X I (2 * k0_t8.val + 1) (512 * k0_t24.val + 512 * k0_t26.val / 59 + k0_t27.val)))
      ⊢ wp frame (wpE (defs₀ (F := F)) Variants.none (c : Thread nD τ) none) Set.univ (k0_t27_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t26 k0_t27 u0)
        (fun _ => iprop(Holds c y10 (RowIds I 16 0) ∗ Holds c y5 (Strip X (2 * k0_t8.val + 1) 30208) ∗ Holds c y6 (Picked X I (2 * k0_t8.val + 1) (512 * k0_t24.val + 512 * k0_t26.val / 59 + k0_t27.val + 1)))) := by
  have b8 : k0_t8.val < 11 := (t8_trips) ▸ k0_t8.isLt
  have b24 : k0_t24.val < 4 := (t24_trips) ▸ k0_t24.isLt
  have b26 : k0_t26.val < 59 := (t26_trips) ▸ k0_t26.isLt
  have b27 : k0_t27.val < 512 * (k0_t26.val + 1) / 59 - 512 * k0_t26.val / 59 := (t27_trips k0_t26) ▸ k0_t27.isLt
  have ht : 512 * k0_t24.val + 512 * k0_t26.val / 59 + k0_t27.val < 2048 := by omega
  have hf : 2 * k0_t8.val + 1 < 24 := by omega
  unfold k0_t27_body Holds
  iintro ⟨⟨%f10, H10, %h10⟩, ⟨%f5, H5, %h5⟩, ⟨%f6, H6, %h6⟩⟩
  sl_exec
  have hv : pick27.sl.r y10 k0_t8 k0_t24 k0_t26 k0_t27 f10 = idAt I (2 * k0_t8.val + 1) (512 * k0_t24.val + 512 * k0_t26.val / 59 + k0_t27.val) - BitVec.ofNat 32 (first (2 * k0_t8.val + 1)) := by
    refine Eq.trans ?_ (h10.get hf ht (⟨(2 * k0_t8.val + 1) * 16 + (512 * k0_t24.val + 512 * k0_t26.val / 59 + k0_t27.val) / 128, by omega⟩ : Fin 384) (⟨(512 * k0_t24.val + 512 * k0_t26.val / 59 + k0_t27.val) % 128, by omega⟩ : Fin 128) rfl rfl)
    refine congrArg (y10.view.read (Elt F) f10) (funext fun a => Fin.ext ?_)
    match a with
    | ⟨0, _⟩ => show k0_off47 k0_t8 k0_t24 k0_t26 k0_t27 0 + 1 * 0 = _; rw [off47_eq]; rfl
    | ⟨1, _⟩ => show k0_off47 k0_t8 k0_t24 k0_t26 k0_t27 1 + 1 * 0 = _; rw [off47_eq]; rfl
  have hrow := row_of hI hf (512 * k0_t24.val + 512 * k0_t26.val / 59 + k0_t27.val)
  have hn : (pick27.sl.r y10 k0_t8 k0_t24 k0_t26 k0_t27 f10).toNat = idn I (2 * k0_t8.val + 1) (512 * k0_t24.val + 512 * k0_t26.val / 59 + k0_t27.val) - first (2 * k0_t8.val + 1) := by rw [hv]; exact hrow.2.2
  have hchk : k0_chk3 (pick27.sl.r y10 k0_t8 k0_t24 k0_t26 k0_t27 f10) := chk3_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off49_eq k0_t24 k0_t26 k0_t27) h5 (fun cc => ?_)
  have pe : ∀ v, k0_pay75 (F := F) v = v := fun v => by unfold k0_pay75; exact shapeCast_self _ _
  rw [pe]
  exact ld2 (Val := Elt F) y5.view f5 (Rect.unit (s := S30208x128) (k0_off48 (pick27.sl.r y10 k0_t8 k0_t24 k0_t26 k0_t27 f10)) S1x128.size (k0_off48_inb _ hchk)).toLoadRect (o := (pick27.sl.r y10 k0_t8 k0_t24 k0_t26 k0_t27 f10).toNat) (off48_eq _) rfl rfl (ValueIdx.ix2 (0 : Fin 1) cc) (⟨idn I (2 * k0_t8.val + 1) (512 * k0_t24.val + 512 * k0_t26.val / 59 + k0_t27.val) - first (2 * k0_t8.val + 1), hrow.2.1⟩ : Fin 30208) cc (hn.symm.trans (Nat.add_zero _).symm) rfl

/-- One pick: a token's row of the strip is copied to the token's place. -/
theorem pick42 (X : Tab) (I : Ids) (hI : InField I) (k0_t39 : Fin k0_t39_loop.trips) (k0_t41 : Fin k0_t41_loop.trips) (k0_t42 : Fin (k0_t42_loop k0_t41).trips) (u0 : Unit) :
    iprop(Holds c y10 (RowIds I 16 0) ∗ Holds c y4 (Strip X (22) 30208) ∗ Holds c y6 (Picked X I (22) (512 * k0_t39.val + 512 * k0_t41.val / 59 + k0_t42.val)))
      ⊢ wp frame (wpE (defs₀ (F := F)) Variants.none (c : Thread nD τ) none) Set.univ (k0_t42_body (F := F) y0 w0 A1 w1 y2 w2 A3 w3 y4 w4 y5 w5 y6 w6 y7 w7 y8 w8 y9 w9 y10 w10 cc0_scratch8 cc0_scratch9 k0_t39 k0_t41 k0_t42 u0)
        (fun _ => iprop(Holds c y10 (RowIds I 16 0) ∗ Holds c y4 (Strip X (22) 30208) ∗ Holds c y6 (Picked X I (22) (512 * k0_t39.val + 512 * k0_t41.val / 59 + k0_t42.val + 1)))) := by
  have b39 : k0_t39.val < 4 := (t39_trips) ▸ k0_t39.isLt
  have b41 : k0_t41.val < 59 := (t41_trips) ▸ k0_t41.isLt
  have b42 : k0_t42.val < 512 * (k0_t41.val + 1) / 59 - 512 * k0_t41.val / 59 := (t42_trips k0_t41) ▸ k0_t42.isLt
  have ht : 512 * k0_t39.val + 512 * k0_t41.val / 59 + k0_t42.val < 2048 := by omega
  have hf : 22 < 24 := by omega
  unfold k0_t42_body Holds
  iintro ⟨⟨%f10, H10, %h10⟩, ⟨%f5, H5, %h5⟩, ⟨%f6, H6, %h6⟩⟩
  sl_exec
  have hv : pick42.sl.r y10 k0_t39 k0_t41 k0_t42 f10 = idAt I (22) (512 * k0_t39.val + 512 * k0_t41.val / 59 + k0_t42.val) - BitVec.ofNat 32 (first (22)) := by
    refine Eq.trans ?_ (h10.get hf ht (⟨(22) * 16 + (512 * k0_t39.val + 512 * k0_t41.val / 59 + k0_t42.val) / 128, by omega⟩ : Fin 384) (⟨(512 * k0_t39.val + 512 * k0_t41.val / 59 + k0_t42.val) % 128, by omega⟩ : Fin 128) rfl rfl)
    refine congrArg (y10.view.read (Elt F) f10) (funext fun a => Fin.ext ?_)
    match a with
    | ⟨0, _⟩ => show k0_off73 k0_t39 k0_t41 k0_t42 0 + 1 * 0 = _; rw [off73_eq]; rfl
    | ⟨1, _⟩ => show k0_off73 k0_t39 k0_t41 k0_t42 1 + 1 * 0 = _; rw [off73_eq]; rfl
  have hrow := row_of hI hf (512 * k0_t39.val + 512 * k0_t41.val / 59 + k0_t42.val)
  have hn : (pick42.sl.r y10 k0_t39 k0_t41 k0_t42 f10).toNat = idn I (22) (512 * k0_t39.val + 512 * k0_t41.val / 59 + k0_t42.val) - first (22) := by rw [hv]; exact hrow.2.2
  have hchk : k0_chk5 (pick42.sl.r y10 k0_t39 k0_t41 k0_t42 f10) := chk5_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off75_eq k0_t39 k0_t41 k0_t42) h5 (fun cc => ?_)
  have pe : ∀ v, k0_pay125 (F := F) v = v := fun v => by unfold k0_pay125; exact shapeCast_self _ _
  rw [pe]
  exact ld2 (Val := Elt F) y4.view f5 (Rect.unit (s := S30208x128) (k0_off74 (pick42.sl.r y10 k0_t39 k0_t41 k0_t42 f10)) S1x128.size (k0_off74_inb _ hchk)).toLoadRect (o := (pick42.sl.r y10 k0_t39 k0_t41 k0_t42 f10).toNat) (off74_eq _) rfl rfl (ValueIdx.ix2 (0 : Fin 1) cc) (⟨idn I (22) (512 * k0_t39.val + 512 * k0_t41.val / 59 + k0_t42.val) - first (22), hrow.2.1⟩ : Fin 30208) cc (hn.symm.trans (Nat.add_zero _).symm) rfl

end Cert.Proof.Dots

end
-- ==== Proof.DotsChunks.lean ====
module

public import proofs.«01_k».proof.Proof.DotsBase
public import proofs.«01_k».proof.Proof.DotsPicks
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One copy of field 0's strip issued. -/
theorem start2 (X : Tab) (j : Fin 4) (g : S4x480x7552.Idx → Elt F .i8) (k0_t1 : Fin k0_t1_loop.trips) (k0_t2 : Fin k0_t2_loop.trips) (hj : k0_t1.val = j.val) (u0 : Unit) :
    iprop(flight c X (0) j k0_t2.val 0 ∗ bufAt c (pieceSet j (k0_t2.cast t2_trips)) g ∗ tabAt c X (tok j (k0_t2.cast t2_trips)))
      ⊢ wp frame (wpE (defs₀ (F := F)) Variants.none (c : Thread nD τ) none) Set.univ (k0_t2_body (F := F) y0 w0 A1 w1 y2 w2 A3 w3 y4 w4 y5 w5 y6 w6 y7 w7 y8 w8 y9 w9 y10 w10 cc0_scratch8 cc0_scratch9 k0_t1 k0_t2 u0)
        (fun _ => iprop(flight c X (0) j (k0_t2.val + 1) 0 ∗ restAt c X (0) j (k0_t2.cast t2_trips))) := by
  unfold k0_t2_body
  exact start_last c X (0) j (k0_t2.cast t2_trips) g (by rw [off1_eq, hj]) (by rw [off2_eq, hj]; rfl) (by rw [off3_eq, hj]; rfl) _ _ _ _ _ _

/-- One copy of field 1's strip issued. -/
theorem start7 (X : Tab) (j : Fin 4) (g : S4x480x7552.Idx → Elt F .i8) (k0_t4 : Fin k0_t4_loop.trips) (k0_t7 : Fin k0_t7_loop.trips) (hj : k0_t4.val = j.val) (u0 : Unit) :
    iprop(flight c X (1) j k0_t7.val 0 ∗ bufAt c (pieceSet j (k0_t7.cast t7_trips)) g ∗ tabAt c X (tok j (k0_t7.cast t7_trips)))
      ⊢ wp frame (wpE (defs₀ (F := F)) Variants.none (c : Thread nD τ) none) Set.univ (k0_t7_body (F := F) y0 w0 A1 w1 y2 w2 A3 w3 y4 w4 y5 w5 y6 w6 y7 w7 y8 w8 y9 w9 y10 w10 cc0_scratch8 cc0_scratch9 k0_t4 k0_t7 u0)
        (fun _ => iprop(flight c X (1) j (k0_t7.val + 1) 0 ∗ restAt c X (1) j (k0_t7.cast t7_trips))) := by
  unfold k0_t7_body
  exact start_last c X (1) j (k0_t7.cast t7_trips) g (by rw [off13_eq, hj]) (by rw [off14_eq, hj]; rfl) (by rw [off15_eq, hj]; rfl) _ _ _ _ _ _

/-- One copy of field 2 * k0_t8.val + 2's strip issued. -/
theorem start14 (X : Tab) (j : Fin 4) (g : S4x480x7552.Idx → Elt F .i8) (c0_i32_8 : BitVec 32) (c1_i32_9 : BitVec 32) (k0_t8 : Fin k0_t8_loop.trips) (k0_t9 : Fin k0_t9_loop.trips) (k0_h : k0_cond1 k0_t8 = 1#1) (k0_t14 : Fin k0_t14_loop.trips) (hj : k0_t9.val = j.val) (u0 : Unit) :
    iprop(flight c X (2 * k0_t8.val + 2) j k0_t14.val 0 ∗ bufAt c (pieceSet j (k0_t14.cast t14_trips)) g ∗ tabAt c X (tok j (k0_t14.cast t14_trips)))
      ⊢ wp frame (wpE (defs₀ (F := F)) Variants.none (c : Thread nD τ) none) Set.univ (k0_t14_body (F := F) y0 w0 A1 w1 y2 w2 A3 w3 y4 w4 y5 w5 y6 w6 y7 w7 y8 w8 y9 w9 y10 w10 cc0_scratch8 cc0_scratch9 c0_i32_8 c1_i32_9 k0_t8 k0_t9 k0_h k0_t14 u0)
        (fun _ => iprop(flight c X (2 * k0_t8.val + 2) j (k0_t14.val + 1) 0 ∗ restAt c X (2 * k0_t8.val + 2) j (k0_t14.cast t14_trips))) := by
  unfold k0_t14_body
  exact start_last c X (2 * k0_t8.val + 2) j (k0_t14.cast t14_trips) g (by rw [off27_eq, hj]) (by rw [off28_eq, hj]; rfl) (by rw [off29_eq, hj]; rfl) _ _ _ _ _ _

/-- One copy of field 2 * k0_t8.val + 3's strip issued. -/
theorem start29 (X : Tab) (j : Fin 4) (g : S4x480x7552.Idx → Elt F .i8) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_h : k0_cond2 k0_t8 = 1#1) (k0_t29 : Fin k0_t29_loop.trips) (hj : k0_t24.val = j.val) (u0 : Unit) :
    iprop(flight c X (2 * k0_t8.val + 3) j k0_t29.val 0 ∗ bufAt c (pieceSet j (k0_t29.cast t29_trips)) g ∗ tabAt c X (tok j (k0_t29.cast t29_trips)))
      ⊢ wp frame (wpE (defs₀ (F := F)) Variants.none (c : Thread nD τ) none) Set.univ (k0_t29_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_h k0_t29 u0)
        (fun _ => iprop(flight c X (2 * k0_t8.val + 3) j (k0_t29.val + 1) 0 ∗ restAt c X (2 * k0_t8.val + 3) j (k0_t29.cast t29_trips))) := by
  unfold k0_t29_body
  exact start_last c X (2 * k0_t8.val + 3) j (k0_t29.cast t29_trips) g (by rw [off53_eq, hj]) (by rw [off54_eq, hj]; rfl) (by rw [off55_eq, hj]; rfl) _ _ _ _ _ _

/-- One copy of field 0's strip awaited. -/
theorem wait5 (X : Tab) (j : Fin 4) (k0_t4 : Fin k0_t4_loop.trips) (k0_t5 : Fin k0_t5_loop.trips) (hj : k0_t4.val = j.val) (u0 : Unit) :
    Drain c X (0) j k0_t5.val
      ⊢ wp frame (wpE (defs₀ (F := F)) Variants.none (c : Thread nD τ) none) Set.univ (k0_t5_body (F := F) y0 w0 A1 w1 y2 w2 A3 w3 y4 w4 y5 w5 y6 w6 y7 w7 y8 w8 y9 w9 y10 w10 cc0_scratch8 cc0_scratch9 k0_t4 k0_t5 u0) (fun _ => Drain c X (0) j (k0_t5.val + 1)) := by
  unfold k0_t5_body
  exact wait_last c X (0) j (k0_t5.cast t5_trips) (by rw [off8_eq, hj]) (by rw [off9_eq, hj]; rfl) _ _ _ _ _

/-- One copy of field 2 * k0_t8.val + 1's strip awaited. -/
theorem wait10 (X : Tab) (j : Fin 4) (c0_i32_8 : BitVec 32) (c1_i32_9 : BitVec 32) (k0_t8 : Fin k0_t8_loop.trips) (k0_t9 : Fin k0_t9_loop.trips) (k0_t10 : Fin k0_t10_loop.trips) (hj : k0_t9.val = j.val) (u0 : Unit) :
    Drain c X (2 * k0_t8.val + 1) j k0_t10.val
      ⊢ wp frame (wpE (defs₀ (F := F)) Variants.none (c : Thread nD τ) none) Set.univ (k0_t10_body (F := F) y0 w0 A1 w1 y2 w2 A3 w3 y4 w4 y5 w5 y6 w6 y7 w7 y8 w8 y9 w9 y10 w10 cc0_scratch8 cc0_scratch9 c0_i32_8 c1_i32_9 k0_t8 k0_t9 k0_t10 u0) (fun _ => Drain c X (2 * k0_t8.val + 1) j (k0_t10.val + 1)) := by
  unfold k0_t10_body
  exact wait_last c X (2 * k0_t8.val + 1) j (k0_t10.cast t10_trips) (by rw [off16_eq, hj]) (by rw [off17_eq, hj]; rfl) _ _ _ _ _

/-- One copy of field 2 * k0_t8.val + 2's strip awaited. -/
theorem wait25 (X : Tab) (j : Fin 4) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t25 : Fin k0_t25_loop.trips) (hj : k0_t24.val = j.val) (u0 : Unit) :
    Drain c X (2 * k0_t8.val + 2) j k0_t25.val
      ⊢ wp frame (wpE (defs₀ (F := F)) Variants.none (c : Thread nD τ) none) Set.univ (k0_t25_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t25 u0) (fun _ => Drain c X (2 * k0_t8.val + 2) j (k0_t25.val + 1)) := by
  unfold k0_t25_body
  exact wait_last c X (2 * k0_t8.val + 2) j (k0_t25.cast t25_trips) (by rw [off42_eq, hj]) (by rw [off43_eq, hj]; rfl) _ _ _ _ _

/-- One copy of field 23's strip awaited. -/
theorem wait40 (X : Tab) (j : Fin 4) (k0_t39 : Fin k0_t39_loop.trips) (k0_t40 : Fin k0_t40_loop.trips) (hj : k0_t39.val = j.val) (u0 : Unit) :
    Drain c X (23) j k0_t40.val
      ⊢ wp frame (wpE (defs₀ (F := F)) Variants.none (c : Thread nD τ) none) Set.univ (k0_t40_body (F := F) y0 w0 A1 w1 y2 w2 A3 w3 y4 w4 y5 w5 y6 w6 y7 w7 y8 w8 y9 w9 y10 w10 cc0_scratch8 cc0_scratch9 k0_t39 k0_t40 u0) (fun _ => Drain c X (23) j (k0_t40.val + 1)) := by
  unfold k0_t40_body
  exact wait_last c X (23) j (k0_t40.cast t40_trips) (by rw [off68_eq, hj]) (by rw [off69_eq, hj]; rfl) _ _ _ _ _

/-- One tile of field 0's strip transposed. -/
theorem tile6 (X : Tab) (j : Fin 4) (k0_t4 : Fin k0_t4_loop.trips) (k0_t6 : Fin k0_t6_loop.trips) (hj : k0_t4.val = j.val) (u0 : Unit) :
    iprop(bufAt c (chunkSet j) (stripBuf X (0)) ∗ Holds c y4 (Strip X (0) ((59 * k0_t4.val + k0_t6.val) * 128)))
      ⊢ wp frame (wpE (defs₀ (F := F)) Variants.none (c : Thread nD τ) none) Set.univ (k0_t6_body (F := F) y0 w0 A1 w1 y2 w2 A3 w3 y4 w4 y5 w5 y6 w6 y7 w7 y8 w8 y9 w9 y10 w10 cc0_scratch8 cc0_scratch9 k0_t4 k0_t6 u0)
        (fun _ => iprop(bufAt c (chunkSet j) (stripBuf X (0)) ∗ Holds c y4 (Strip X (0) ((59 * k0_t4.val + k0_t6.val + 1) * 128)))) := by
  have b4 : k0_t4.val < 4 := (t4_trips) ▸ k0_t4.isLt
  have b6 : k0_t6.val < 59 := (t6_trips) ▸ k0_t6.isLt
  unfold k0_t6_body
  iintro ⟨HB, H5⟩
  iapply (seqI c (load_tile c X (0) j k0_t6.val b6 (by rw [off11_eq, hj]) _ _))
  isplitl [HB]; · iexact HB
  iintro %V ⟨HB, %hV⟩
  iapply (seqI c (load_keep c y4 _ _ _))
  isplitl [H5]; · iexact H5
  iintro %_ H5
  iapply (seqI c (put_tile c y4 X (0) (59 * k0_t4.val + k0_t6.val) (by omega) (off12_eq _ _) _ _ (by
    intro l cc
    unfold k0_pay121
    refine (tile_pay X (first (0) + (59 * k0_t4.val + k0_t6.val) * 128) V ?_ _ _ _ _ l cc).trans rfl
    intro cc l; rw [hj]; exact hV cc l) _ _))
  isplitl [H5]; · iexact H5
  iintro %_ H5
  iapply (done c)
  isplitl [HB]; · iexact HB
  iexact H5

/-- One tile of field 2 * k0_t8.val + 1's strip transposed, and its share of the tokens’ rows picked. -/
theorem tile11 (X : Tab) (I : Ids) (hI : InField I) (j : Fin 4) (c0_i32_8 : BitVec 32) (c1_i32_9 : BitVec 32) (k0_t8 : Fin k0_t8_loop.trips) (k0_t9 : Fin k0_t9_loop.trips) (k0_t11 : Fin k0_t11_loop.trips) (hj : k0_t9.val = j.val) (u0 : Unit) :
    iprop(bufAt c (chunkSet j) (stripBuf X (2 * k0_t8.val + 1)) ∗ Holds c y5 (Strip X (2 * k0_t8.val + 1) ((59 * k0_t9.val + k0_t11.val) * 128)) ∗ Holds c y10 (RowIds I 16 0) ∗ Holds c y4 (Strip X (2 * k0_t8.val) 30208) ∗ Holds c y6 (Picked X I (2 * k0_t8.val) (512 * k0_t9.val + 512 * (k0_t11.val) / 59)))
      ⊢ wp frame (wpE (defs₀ (F := F)) Variants.none (c : Thread nD τ) none) Set.univ (k0_t11_body (F := F) y0 w0 A1 w1 y2 w2 A3 w3 y4 w4 y5 w5 y6 w6 y7 w7 y8 w8 y9 w9 y10 w10 cc0_scratch8 cc0_scratch9 c0_i32_8 c1_i32_9 k0_t8 k0_t9 k0_t11 u0)
        (fun _ => iprop(bufAt c (chunkSet j) (stripBuf X (2 * k0_t8.val + 1)) ∗ Holds c y5 (Strip X (2 * k0_t8.val + 1) ((59 * k0_t9.val + k0_t11.val + 1) * 128)) ∗ Holds c y10 (RowIds I 16 0) ∗ Holds c y4 (Strip X (2 * k0_t8.val) 30208) ∗ Holds c y6 (Picked X I (2 * k0_t8.val) (512 * k0_t9.val + 512 * (k0_t11.val + 1) / 59)))) := by
  have b8 : k0_t8.val < 11 := (t8_trips) ▸ k0_t8.isLt
  have b9 : k0_t9.val < 4 := (t9_trips) ▸ k0_t9.isLt
  have b11 : k0_t11.val < 59 := (t11_trips) ▸ k0_t11.isLt
  unfold k0_t11_body
  iintro ⟨HB, H5, H10, H4, H6⟩
  iapply (seqI c (load_tile c X (2 * k0_t8.val + 1) j k0_t11.val b11 (by rw [off19_eq, hj]) _ _))
  isplitl [HB]; · iexact HB
  iintro %V ⟨HB, %hV⟩
  iapply (seqI c (load_keep c y5 _ _ _))
  isplitl [H5]; · iexact H5
  iintro %_ H5
  iapply (seqI c (put_tile c y5 X (2 * k0_t8.val + 1) (59 * k0_t9.val + k0_t11.val) (by omega) (off20_eq _ _) _ _ (by
    intro l cc
    unfold k0_pay66
    refine (tile_pay X (first (2 * k0_t8.val + 1) + (59 * k0_t9.val + k0_t11.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y4 (Strip X (2 * k0_t8.val) 30208) ∗ Holds c y6 (Picked X I (2 * k0_t8.val) (512 * k0_t9.val + 512 * k0_t11.val / 59 + n))))
    (fun t u => pick12 c y0 w0 w1 y2 w2 w3 y4 w4 y5 w5 y6 w6 y7 w7 y8 w8 y9 w9 y10 w10 X I hI c0_i32_8 c1_i32_9 k0_t8 k0_t9 k0_t11 t u)))
  isplitl [H10 H4 H6]
  · isplitl [H10]; · iexact H10
    isplitl [H4]; · iexact H4
    iexact H6
  iintro %_ ⟨H10, H4, H6⟩
  iapply (seqI c (forNone c _ (t13_trips _) iprop(emp)))
  isplitr; · iempintro
  iintro %_ -
  iapply (done c)
  isplitl [HB]; · iexact HB
  isplitl [H5]; · iexact H5
  isplitl [H10]; · iexact H10
  isplitl [H4]; · iexact H4
  rw [t12_trips k0_t11, show 512 * k0_t9.val + 512 * k0_t11.val / 59 + (512 * (k0_t11.val + 1) / 59 - 512 * k0_t11.val / 59) = 512 * k0_t9.val + 512 * (k0_t11.val + 1) / 59 by omega]
  iexact H6

/-- One tile of field 2 * k0_t8.val + 2's strip transposed, and its share of the tokens’ rows picked. -/
theorem tile26 (X : Tab) (I : Ids) (hI : InField I) (j : Fin 4) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t26 : Fin k0_t26_loop.trips) (hj : k0_t24.val = j.val) (u0 : Unit) :
    iprop(bufAt c (chunkSet j) (stripBuf X (2 * k0_t8.val + 2)) ∗ Holds c y4 (Strip X (2 * k0_t8.val + 2) ((59 * k0_t24.val + k0_t26.val) * 128)) ∗ Holds c y10 (RowIds I 16 0) ∗ Holds c y5 (Strip X (2 * k0_t8.val + 1) 30208) ∗ Holds c y6 (Picked X I (2 * k0_t8.val + 1) (512 * k0_t24.val + 512 * (k0_t26.val) / 59)))
      ⊢ wp frame (wpE (defs₀ (F := F)) Variants.none (c : Thread nD τ) none) Set.univ (k0_t26_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t26 u0)
        (fun _ => iprop(bufAt c (chunkSet j) (stripBuf X (2 * k0_t8.val + 2)) ∗ Holds c y4 (Strip X (2 * k0_t8.val + 2) ((59 * k0_t24.val + k0_t26.val + 1) * 128)) ∗ Holds c y10 (RowIds I 16 0) ∗ Holds c y5 (Strip X (2 * k0_t8.val + 1) 30208) ∗ Holds c y6 (Picked X I (2 * k0_t8.val + 1) (512 * k0_t24.val + 512 * (k0_t26.val + 1) / 59)))) := by
  have b8 : k0_t8.val < 11 := (t8_trips) ▸ k0_t8.isLt
  have b24 : k0_t24.val < 4 := (t24_trips) ▸ k0_t24.isLt
  have b26 : k0_t26.val < 59 := (t26_trips) ▸ k0_t26.isLt
  unfold k0_t26_body
  iintro ⟨HB, H5, H10, H4, H6⟩
  iapply (seqI c (load_tile c X (2 * k0_t8.val + 2) j k0_t26.val b26 (by rw [off45_eq, hj]) _ _))
  isplitl [HB]; · iexact HB
  iintro %V ⟨HB, %hV⟩
  iapply (seqI c (load_keep c y4 _ _ _))
  isplitl [H5]; · iexact H5
  iintro %_ H5
  iapply (seqI c (put_tile c y4 X (2 * k0_t8.val + 2) (59 * k0_t24.val + k0_t26.val) (by omega) (off46_eq _ _) _ _ (by
    intro l cc
    unfold k0_pay74
    refine (tile_pay X (first (2 * k0_t8.val + 2) + (59 * k0_t24.val + k0_t26.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y5 (Strip X (2 * k0_t8.val + 1) 30208) ∗ Holds c y6 (Picked X I (2 * k0_t8.val + 1) (512 * k0_t24.val + 512 * k0_t26.val / 59 + n))))
    (fun t u => pick27 c y0 w0 w1 y2 w2 w3 y4 w4 y5 w5 y6 w6 y7 w7 y8 w8 y9 w9 y10 w10 X I hI k0_t8 v28 v32 v43 c1_i32_76 c0_i32_77 c1_i32_78 v50 k0_t24 k0_t26 t u)))
  isplitl [H10 H4 H6]
  · isplitl [H10]; · iexact H10
    isplitl [H4]; · iexact H4
    iexact H6
  iintro %_ ⟨H10, H4, H6⟩
  iapply (seqI c (forNone c _ (t28_trips _) iprop(emp)))
  isplitr; · iempintro
  iintro %_ -
  iapply (done c)
  isplitl [HB]; · iexact HB
  isplitl [H5]; · iexact H5
  isplitl [H10]; · iexact H10
  isplitl [H4]; · iexact H4
  rw [t27_trips k0_t26, show 512 * k0_t24.val + 512 * k0_t26.val / 59 + (512 * (k0_t26.val + 1) / 59 - 512 * k0_t26.val / 59) = 512 * k0_t24.val + 512 * (k0_t26.val + 1) / 59 by omega]
  iexact H6

/-- One tile of field 23's strip transposed, and its share of the tokens’ rows picked. -/
theorem tile41 (X : Tab) (I : Ids) (hI : InField I) (j : Fin 4) (k0_t39 : Fin k0_t39_loop.trips) (k0_t41 : Fin k0_t41_loop.trips) (hj : k0_t39.val = j.val) (u0 : Unit) :
    iprop(bufAt c (chunkSet j) (stripBuf X (23)) ∗ Holds c y5 (Strip X (23) ((59 * k0_t39.val + k0_t41.val) * 128)) ∗ Holds c y10 (RowIds I 16 0) ∗ Holds c y4 (Strip X (22) 30208) ∗ Holds c y6 (Picked X I (22) (512 * k0_t39.val + 512 * (k0_t41.val) / 59)))
      ⊢ wp frame (wpE (defs₀ (F := F)) Variants.none (c : Thread nD τ) none) Set.univ (k0_t41_body (F := F) y0 w0 A1 w1 y2 w2 A3 w3 y4 w4 y5 w5 y6 w6 y7 w7 y8 w8 y9 w9 y10 w10 cc0_scratch8 cc0_scratch9 k0_t39 k0_t41 u0)
        (fun _ => iprop(bufAt c (chunkSet j) (stripBuf X (23)) ∗ Holds c y5 (Strip X (23) ((59 * k0_t39.val + k0_t41.val + 1) * 128)) ∗ Holds c y10 (RowIds I 16 0) ∗ Holds c y4 (Strip X (22) 30208) ∗ Holds c y6 (Picked X I (22) (512 * k0_t39.val + 512 * (k0_t41.val + 1) / 59)))) := by
  have b39 : k0_t39.val < 4 := (t39_trips) ▸ k0_t39.isLt
  have b41 : k0_t41.val < 59 := (t41_trips) ▸ k0_t41.isLt
  unfold k0_t41_body
  iintro ⟨HB, H5, H10, H4, H6⟩
  iapply (seqI c (load_tile c X (23) j k0_t41.val b41 (by rw [off71_eq, hj]) _ _))
  isplitl [HB]; · iexact HB
  iintro %V ⟨HB, %hV⟩
  iapply (seqI c (load_keep c y5 _ _ _))
  isplitl [H5]; · iexact H5
  iintro %_ H5
  iapply (seqI c (put_tile c y5 X (23) (59 * k0_t39.val + k0_t41.val) (by omega) (off72_eq _ _) _ _ (by
    intro l cc
    unfold k0_pay124
    refine (tile_pay X (first (23) + (59 * k0_t39.val + k0_t41.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y4 (Strip X (22) 30208) ∗ Holds c y6 (Picked X I (22) (512 * k0_t39.val + 512 * k0_t41.val / 59 + n))))
    (fun t u => pick42 c y0 w0 w1 y2 w2 w3 y4 w4 y5 w5 y6 w6 y7 w7 y8 w8 y9 w9 y10 w10 X I hI k0_t39 k0_t41 t u)))
  isplitl [H10 H4 H6]
  · isplitl [H10]; · iexact H10
    isplitl [H4]; · iexact H4
    iexact H6
  iintro %_ ⟨H10, H4, H6⟩
  iapply (seqI c (forNone c _ (t43_trips _) iprop(emp)))
  isplitr; · iempintro
  iintro %_ -
  iapply (done c)
  isplitl [HB]; · iexact HB
  isplitl [H5]; · iexact H5
  isplitl [H10]; · iexact H10
  isplitl [H4]; · iexact H4
  rw [t42_trips k0_t41, show 512 * k0_t39.val + 512 * k0_t41.val / 59 + (512 * (k0_t41.val + 1) / 59 - 512 * k0_t41.val / 59) = 512 * k0_t39.val + 512 * (k0_t41.val + 1) / 59 by omega]
  iexact H6

/-- The four chunks of field 0's strip received and transposed, the next field’s requested. -/
theorem chunks4 (X : Tab)  :
    iprop(bigSep Finset.univ (InFlight c X (0)) ∗ Owes c ∗ Holds c y4 (Strip X (0) 0))
      ⊢ wp frame (wpE (defs₀ (F := F)) Variants.none (c : Thread nD τ) none) Set.univ (Scf.Loop.for k0_t4_loop k0_t4_ok ⟨⟩ (k0_t4_body (F := F) y0 w0 A1 w1 y2 w2 A3 w3 y4 w4 y5 w5 y6 w6 y7 w7 y8 w8 y9 w9 y10 w10 cc0_scratch8 cc0_scratch9 ))
        (fun _ => iprop(bigSep Finset.univ (InFlight c X (1)) ∗ Owes c ∗ Holds c y4 (Strip X (0) 30208))) := by
  refine four_loop c _ t4_trips (InFlight c X (0)) (InFlight c X (1)) (fun n => iprop(Owes c ∗ Holds c y4 (Strip X (0) (59 * n * 128)))) (fun t u0 => ?_)
  unfold k0_t4_body
  iintro ⟨HF, HO, H5⟩
  iapply (seqI c (wait_loop c X (0) (t.cast t4_trips) _ t5_trips (fun r u => wait5 c y0 w0 w1 y2 w2 w3 y4 w4 y5 w5 y6 w6 y7 w7 y8 w8 y9 w9 y10 w10 X (t.cast t4_trips)  t r rfl u)))
  isplitl [HO HF]
  · isplitl [HO]; · iexact HO
    iexact HF
  unfold Home
  iintro %_ ⟨HO, Hs, HB, HT⟩
  iapply (seqI c (forInv c _ (fun n => iprop(bufAt c (chunkSet (t.cast t4_trips)) (stripBuf X (0)) ∗ Holds c y4 (Strip X (0) ((59 * t.val + n) * 128))))
    (fun u u0 => tile6 c y0 w0 w1 y2 w2 w3 y4 w4 y5 w5 y6 w6 y7 w7 y8 w8 y9 w9 y10 w10 X (t.cast t4_trips)  t u rfl u0)))
  isplitl [HB H5]
  · isplitl [HB]; · iexact HB
    iexact H5
  rw [t6_trips, show (59 * t.val + 59) * 128 = 59 * (t.val + 1) * 128 by ring]
  iintro %_ ⟨HB, H5⟩
  iapply (seqI c ((start_loop c X (1) (t.cast t4_trips) (stripBuf X (0)) _ t7_trips (fun r u => start7 c y0 w0 w1 y2 w2 w3 y4 w4 y5 w5 y6 w6 y7 w7 y8 w8 y9 w9 y10 w10 X (t.cast t4_trips) (stripBuf X (0))  t r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  iexact H5

/-- The four chunks of field 2 * k0_t8.val + 1's strip received and transposed, the next field’s requested, and field 2 * k0_t8.val’s rows picked. -/
theorem chunks9 (X : Tab) (I : Ids) (hI : InField I) (c0_i32_8 : BitVec 32) (c1_i32_9 : BitVec 32) (k0_t8 : Fin k0_t8_loop.trips) :
    iprop(bigSep Finset.univ (InFlight c X (2 * k0_t8.val + 1)) ∗ Owes c ∗ Holds c y5 (Strip X (2 * k0_t8.val + 1) 0) ∗ Holds c y10 (RowIds I 16 0) ∗ Holds c y4 (Strip X (2 * k0_t8.val) 30208) ∗ Holds c y6 (Picked X I (2 * k0_t8.val) (512 * (0))))
      ⊢ wp frame (wpE (defs₀ (F := F)) Variants.none (c : Thread nD τ) none) Set.univ (Scf.Loop.for k0_t9_loop k0_t9_ok ⟨⟩ (k0_t9_body (F := F) y0 w0 A1 w1 y2 w2 A3 w3 y4 w4 y5 w5 y6 w6 y7 w7 y8 w8 y9 w9 y10 w10 cc0_scratch8 cc0_scratch9 c0_i32_8 c1_i32_9 k0_t8))
        (fun _ => iprop(bigSep Finset.univ (InFlight c X (2 * k0_t8.val + 2)) ∗ Owes c ∗ Holds c y5 (Strip X (2 * k0_t8.val + 1) 30208) ∗ Holds c y10 (RowIds I 16 0) ∗ Holds c y4 (Strip X (2 * k0_t8.val) 30208) ∗ Holds c y6 (Picked X I (2 * k0_t8.val) (512 * (4))))) := by
  refine four_loop c _ t9_trips (InFlight c X (2 * k0_t8.val + 1)) (InFlight c X (2 * k0_t8.val + 2)) (fun n => iprop(Owes c ∗ Holds c y5 (Strip X (2 * k0_t8.val + 1) (59 * n * 128)) ∗ Holds c y10 (RowIds I 16 0) ∗ Holds c y4 (Strip X (2 * k0_t8.val) 30208) ∗ Holds c y6 (Picked X I (2 * k0_t8.val) (512 * (n))))) (fun t u0 => ?_)
  unfold k0_t9_body
  iintro ⟨HF, HO, H5, H10, H4, H6⟩
  iapply (seqI c (wait_loop c X (2 * k0_t8.val + 1) (t.cast t9_trips) _ t10_trips (fun r u => wait10 c y0 w0 w1 y2 w2 w3 y4 w4 y5 w5 y6 w6 y7 w7 y8 w8 y9 w9 y10 w10 X (t.cast t9_trips) c0_i32_8 c1_i32_9 k0_t8 t r rfl u)))
  isplitl [HO HF]
  · isplitl [HO]; · iexact HO
    iexact HF
  unfold Home
  iintro %_ ⟨HO, Hs, HB, HT⟩
  iapply (seqI c (forInv c _ (fun n => iprop(bufAt c (chunkSet (t.cast t9_trips)) (stripBuf X (2 * k0_t8.val + 1)) ∗ Holds c y5 (Strip X (2 * k0_t8.val + 1) ((59 * t.val + n) * 128)) ∗ Holds c y10 (RowIds I 16 0) ∗ Holds c y4 (Strip X (2 * k0_t8.val) 30208) ∗ Holds c y6 (Picked X I (2 * k0_t8.val) (512 * t.val + 512 * n / 59))))
    (fun u u0 => tile11 c y0 w0 w1 y2 w2 w3 y4 w4 y5 w5 y6 w6 y7 w7 y8 w8 y9 w9 y10 w10 X I hI (t.cast t9_trips) c0_i32_8 c1_i32_9 k0_t8 t u rfl u0)))
  isplitl [HB H5 H10 H4 H6]
  · isplitl [HB]; · iexact HB
    isplitl [H5]; · iexact H5
    isplitl [H10]; · iexact H10
    isplitl [H4]; · iexact H4
    iexact H6
  rw [t11_trips, show (59 * t.val + 59) * 128 = 59 * (t.val + 1) * 128 by ring, show 512 * t.val + 512 * 59 / 59 = 512 * (t.val + 1) by omega]
  iintro %_ ⟨HB, H5, H10, H4, H6⟩
  rw [dif_pos (cond1_true k0_t8)]
  iapply (seqI c ((start_loop c X (2 * k0_t8.val + 2) (t.cast t9_trips) (stripBuf X (2 * k0_t8.val + 1)) _ t14_trips (fun r u => start14 c y0 w0 w1 y2 w2 w3 y4 w4 y5 w5 y6 w6 y7 w7 y8 w8 y9 w9 y10 w10 X (t.cast t9_trips) (stripBuf X (2 * k0_t8.val + 1)) c0_i32_8 c1_i32_9 k0_t8 t (cond1_true k0_t8) r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  isplitl [H5]; · iexact H5
  isplitl [H10]; · iexact H10
  isplitl [H4]; · iexact H4
  iexact H6

/-- The four chunks of field 2 * k0_t8.val + 2's strip received and transposed, the next field’s requested, and field 2 * k0_t8.val + 1’s rows picked. -/
theorem chunks24 (X : Tab) (I : Ids) (hI : InField I) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(bigSep Finset.univ (InFlight c X (2 * k0_t8.val + 2)) ∗ Owes c ∗ Holds c y4 (Strip X (2 * k0_t8.val + 2) 0) ∗ Holds c y10 (RowIds I 16 0) ∗ Holds c y5 (Strip X (2 * k0_t8.val + 1) 30208) ∗ Holds c y6 (Picked X I (2 * k0_t8.val + 1) (512 * (0))))
      ⊢ wp frame (wpE (defs₀ (F := F)) Variants.none (c : Thread nD τ) none) Set.univ (Scf.Loop.for k0_t24_loop k0_t24_ok ⟨⟩ (k0_t24_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50))
        (fun _ => iprop(bigSep Finset.univ (InFlight c X (2 * k0_t8.val + 3)) ∗ Owes c ∗ Holds c y4 (Strip X (2 * k0_t8.val + 2) 30208) ∗ Holds c y10 (RowIds I 16 0) ∗ Holds c y5 (Strip X (2 * k0_t8.val + 1) 30208) ∗ Holds c y6 (Picked X I (2 * k0_t8.val + 1) (512 * (4))))) := by
  refine four_loop c _ t24_trips (InFlight c X (2 * k0_t8.val + 2)) (InFlight c X (2 * k0_t8.val + 3)) (fun n => iprop(Owes c ∗ Holds c y4 (Strip X (2 * k0_t8.val + 2) (59 * n * 128)) ∗ Holds c y10 (RowIds I 16 0) ∗ Holds c y5 (Strip X (2 * k0_t8.val + 1) 30208) ∗ Holds c y6 (Picked X I (2 * k0_t8.val + 1) (512 * (n))))) (fun t u0 => ?_)
  unfold k0_t24_body
  iintro ⟨HF, HO, H5, H10, H4, H6⟩
  iapply (seqI c (wait_loop c X (2 * k0_t8.val + 2) (t.cast t24_trips) _ t25_trips (fun r u => wait25 c y0 w0 w1 y2 w2 w3 y4 w4 y5 w5 y6 w6 y7 w7 y8 w8 y9 w9 y10 w10 X (t.cast t24_trips) k0_t8 v28 v32 v43 c1_i32_76 c0_i32_77 c1_i32_78 v50 t r rfl u)))
  isplitl [HO HF]
  · isplitl [HO]; · iexact HO
    iexact HF
  unfold Home
  iintro %_ ⟨HO, Hs, HB, HT⟩
  iapply (seqI c (forInv c _ (fun n => iprop(bufAt c (chunkSet (t.cast t24_trips)) (stripBuf X (2 * k0_t8.val + 2)) ∗ Holds c y4 (Strip X (2 * k0_t8.val + 2) ((59 * t.val + n) * 128)) ∗ Holds c y10 (RowIds I 16 0) ∗ Holds c y5 (Strip X (2 * k0_t8.val + 1) 30208) ∗ Holds c y6 (Picked X I (2 * k0_t8.val + 1) (512 * t.val + 512 * n / 59))))
    (fun u u0 => tile26 c y0 w0 w1 y2 w2 w3 y4 w4 y5 w5 y6 w6 y7 w7 y8 w8 y9 w9 y10 w10 X I hI (t.cast t24_trips) k0_t8 v28 v32 v43 c1_i32_76 c0_i32_77 c1_i32_78 v50 t u rfl u0)))
  isplitl [HB H5 H10 H4 H6]
  · isplitl [HB]; · iexact HB
    isplitl [H5]; · iexact H5
    isplitl [H10]; · iexact H10
    isplitl [H4]; · iexact H4
    iexact H6
  rw [t26_trips, show (59 * t.val + 59) * 128 = 59 * (t.val + 1) * 128 by ring, show 512 * t.val + 512 * 59 / 59 = 512 * (t.val + 1) by omega]
  iintro %_ ⟨HB, H5, H10, H4, H6⟩
  rw [dif_pos (cond2_true k0_t8)]
  iapply (seqI c ((start_loop c X (2 * k0_t8.val + 3) (t.cast t24_trips) (stripBuf X (2 * k0_t8.val + 2)) _ t29_trips (fun r u => start29 c y0 w0 w1 y2 w2 w3 y4 w4 y5 w5 y6 w6 y7 w7 y8 w8 y9 w9 y10 w10 X (t.cast t24_trips) (stripBuf X (2 * k0_t8.val + 2)) k0_t8 v28 v32 v43 c1_i32_76 c0_i32_77 c1_i32_78 v50 t (cond2_true k0_t8) r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  isplitl [H5]; · iexact H5
  isplitl [H10]; · iexact H10
  isplitl [H4]; · iexact H4
  iexact H6

/-- The four chunks of field 23's strip received and transposed, and field 22’s rows picked. -/
theorem chunks39 (X : Tab) (I : Ids) (hI : InField I)  :
    iprop(bigSep Finset.univ (InFlight c X (23)) ∗ Owes c ∗ Holds c y5 (Strip X (23) 0) ∗ Holds c y10 (RowIds I 16 0) ∗ Holds c y4 (Strip X (22) 30208) ∗ Holds c y6 (Picked X I (22) (512 * (0))))
      ⊢ wp frame (wpE (defs₀ (F := F)) Variants.none (c : Thread nD τ) none) Set.univ (Scf.Loop.for k0_t39_loop k0_t39_ok ⟨⟩ (k0_t39_body (F := F) y0 w0 A1 w1 y2 w2 A3 w3 y4 w4 y5 w5 y6 w6 y7 w7 y8 w8 y9 w9 y10 w10 cc0_scratch8 cc0_scratch9 ))
        (fun _ => iprop(bigSep Finset.univ (fun j => Home c X j (stripBuf X (23))) ∗ Owes c ∗ Holds c y5 (Strip X (23) 30208) ∗ Holds c y10 (RowIds I 16 0) ∗ Holds c y4 (Strip X (22) 30208) ∗ Holds c y6 (Picked X I (22) (512 * (4))))) := by
  refine four_loop c _ t39_trips (InFlight c X (23)) (fun j => Home c X j (stripBuf X (23))) (fun n => iprop(Owes c ∗ Holds c y5 (Strip X (23) (59 * n * 128)) ∗ Holds c y10 (RowIds I 16 0) ∗ Holds c y4 (Strip X (22) 30208) ∗ Holds c y6 (Picked X I (22) (512 * (n))))) (fun t u0 => ?_)
  unfold k0_t39_body
  iintro ⟨HF, HO, H5, H10, H4, H6⟩
  iapply (seqI c (wait_loop c X (23) (t.cast t39_trips) _ t40_trips (fun r u => wait40 c y0 w0 w1 y2 w2 w3 y4 w4 y5 w5 y6 w6 y7 w7 y8 w8 y9 w9 y10 w10 X (t.cast t39_trips)  t r rfl u)))
  isplitl [HO HF]
  · isplitl [HO]; · iexact HO
    iexact HF
  unfold Home
  iintro %_ ⟨HO, Hs, HB, HT⟩
  iapply (seqI c (forInv c _ (fun n => iprop(bufAt c (chunkSet (t.cast t39_trips)) (stripBuf X (23)) ∗ Holds c y5 (Strip X (23) ((59 * t.val + n) * 128)) ∗ Holds c y10 (RowIds I 16 0) ∗ Holds c y4 (Strip X (22) 30208) ∗ Holds c y6 (Picked X I (22) (512 * t.val + 512 * n / 59))))
    (fun u u0 => tile41 c y0 w0 w1 y2 w2 w3 y4 w4 y5 w5 y6 w6 y7 w7 y8 w8 y9 w9 y10 w10 X I hI (t.cast t39_trips)  t u rfl u0)))
  isplitl [HB H5 H10 H4 H6]
  · isplitl [HB]; · iexact HB
    isplitl [H5]; · iexact H5
    isplitl [H10]; · iexact H10
    isplitl [H4]; · iexact H4
    iexact H6
  rw [t41_trips, show (59 * t.val + 59) * 128 = 59 * (t.val + 1) * 128 by ring, show 512 * t.val + 512 * 59 / 59 = 512 * (t.val + 1) by omega]
  iintro %_ ⟨HB, H5, H10, H4, H6⟩
  iapply (done c)
  isplitl [Hs HB HT]
  · isplitl [Hs]; · iexact Hs
    isplitl [HB]; · iexact HB
    iexact HT
  isplitl [HO]; · iexact HO
  isplitl [H5]; · iexact H5
  isplitl [H10]; · iexact H10
  isplitl [H4]; · iexact H4
  iexact H6

end Cert.Proof.Dots

end
-- ==== Proof.DotsWords.lean ====
module

public import proofs.«01_k».proof.Proof.DotsBase
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One block of picked rows, transposed into words by token. -/
theorem words15 (X : Tab) (I : Ids) (c0_i32_8 : BitVec 32) (c1_i32_9 : BitVec 32) (k0_t8 : Fin k0_t8_loop.trips) (k0_t15 : Fin k0_t15_loop.trips) (u0 : Unit) :
    iprop(Holds c y6 (Picked X I (2 * k0_t8.val) 2048) ∗ Holds c y7 (Words X I (2 * k0_t8.val) k0_t15.val 0))
      ⊢ wp frame (wpE (defs₀ (F := F)) Variants.none (c : Thread nD τ) none) Set.univ (k0_t15_body (F := F) y0 w0 A1 w1 y2 w2 A3 w3 y4 w4 y5 w5 y6 w6 y7 w7 y8 w8 y9 w9 y10 w10 cc0_scratch8 cc0_scratch9 c0_i32_8 c1_i32_9 k0_t8 k0_t15 u0)
        (fun _ => iprop(Holds c y6 (Picked X I (2 * k0_t8.val) 2048) ∗ Holds c y7 (Words X I (2 * k0_t8.val) (k0_t15.val + 1) 0))) := by
  have b8 : k0_t8.val < 11 := (t8_trips) ▸ k0_t8.isLt
  have b15 : k0_t15.val < 16 := (t15_trips) ▸ k0_t15.isLt
  unfold k0_t15_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off30 k0_t15) S128x128.size (k0_off30_inb k0_t15)).toLoadRect f6) (ValueIdx.ix2 l w) = cw X (idn I (2 * k0_t8.val) (k0_t15.val * 128 + l.val)) w.val := by
    intro l w hw
    refine (ld2 (Val := Elt F) y6.view f6 (Rect.unit (s := S2048x128) (k0_off30 k0_t15) S128x128.size (k0_off30_inb k0_t15)).toLoadRect (o := k0_t15.val * 128) (off30_eq k0_t15) rfl rfl (ValueIdx.ix2 l w) (⟨k0_t15.val * 128 + l.val, by omega⟩ : Fin 2048) w rfl rfl).trans ?_
    exact h6 _ w (by show k0_t15.val * 128 + l.val < 2048; omega) hw
  refine Words.next ?_
  refine Words.step (F := F) (q := 14) b15 (by decide) ?_ (off31_eq k0_t15 14) (fun s l => ?_)
  swap
  · simp only [k0_pay71, shapeCast_self]
    exact words_pay (q := 14) b15 (by decide) hV rfl _ _ s l
  refine Words.step (F := F) (q := 13) b15 (by decide) ?_ (off31_eq k0_t15 13) (fun s l => ?_)
  swap
  · simp only [k0_pay70, shapeCast_self]
    exact words_pay (q := 13) b15 (by decide) hV rfl _ _ s l
  refine Words.step (F := F) (q := 12) b15 (by decide) ?_ (off31_eq k0_t15 12) (fun s l => ?_)
  swap
  · simp only [k0_pay69, shapeCast_self]
    exact words_pay (q := 12) b15 (by decide) hV rfl _ _ s l
  refine Words.step (F := F) (q := 11) b15 (by decide) ?_ (off31_eq k0_t15 11) (fun s l => ?_)
  swap
  · try unfold words15.sl.v155
    try unfold words15.sl.v150
    try unfold words15.sl.v83
    simp only [shapeCast_self]
    exact words_pay (q := 11) b15 (by decide) hV rfl _ _ s l
  refine Words.step (F := F) (q := 10) b15 (by decide) ?_ (off31_eq k0_t15 10) (fun s l => ?_)
  swap
  · try unfold words15.sl.v149
    try unfold words15.sl.v144
    try unfold words15.sl.v83
    simp only [shapeCast_self]
    exact words_pay (q := 10) b15 (by decide) hV rfl _ _ s l
  refine Words.step (F := F) (q := 9) b15 (by decide) ?_ (off31_eq k0_t15 9) (fun s l => ?_)
  swap
  · try unfold words15.sl.v143
    try unfold words15.sl.v138
    try unfold words15.sl.v83
    simp only [shapeCast_self]
    exact words_pay (q := 9) b15 (by decide) hV rfl _ _ s l
  refine Words.step (F := F) (q := 8) b15 (by decide) ?_ (off31_eq k0_t15 8) (fun s l => ?_)
  swap
  · try unfold words15.sl.v137
    try unfold words15.sl.v132
    try unfold words15.sl.v83
    simp only [shapeCast_self]
    exact words_pay (q := 8) b15 (by decide) hV rfl _ _ s l
  refine Words.step (F := F) (q := 7) b15 (by decide) ?_ (off31_eq k0_t15 7) (fun s l => ?_)
  swap
  · try unfold words15.sl.v131
    try unfold words15.sl.v126
    try unfold words15.sl.v83
    simp only [shapeCast_self]
    exact words_pay (q := 7) b15 (by decide) hV rfl _ _ s l
  refine Words.step (F := F) (q := 6) b15 (by decide) ?_ (off31_eq k0_t15 6) (fun s l => ?_)
  swap
  · try unfold words15.sl.v125
    try unfold words15.sl.v120
    try unfold words15.sl.v83
    simp only [shapeCast_self]
    exact words_pay (q := 6) b15 (by decide) hV rfl _ _ s l
  refine Words.step (F := F) (q := 5) b15 (by decide) ?_ (off31_eq k0_t15 5) (fun s l => ?_)
  swap
  · try unfold words15.sl.v119
    try unfold words15.sl.v114
    try unfold words15.sl.v83
    simp only [shapeCast_self]
    exact words_pay (q := 5) b15 (by decide) hV rfl _ _ s l
  refine Words.step (F := F) (q := 4) b15 (by decide) ?_ (off31_eq k0_t15 4) (fun s l => ?_)
  swap
  · try unfold words15.sl.v113
    try unfold words15.sl.v108
    try unfold words15.sl.v83
    simp only [shapeCast_self]
    exact words_pay (q := 4) b15 (by decide) hV rfl _ _ s l
  refine Words.step (F := F) (q := 3) b15 (by decide) ?_ (off31_eq k0_t15 3) (fun s l => ?_)
  swap
  · try unfold words15.sl.v107
    try unfold words15.sl.v102
    try unfold words15.sl.v83
    simp only [shapeCast_self]
    exact words_pay (q := 3) b15 (by decide) hV rfl _ _ s l
  refine Words.step (F := F) (q := 2) b15 (by decide) ?_ (off31_eq k0_t15 2) (fun s l => ?_)
  swap
  · try unfold words15.sl.v101
    try unfold words15.sl.v96
    try unfold words15.sl.v83
    simp only [shapeCast_self]
    exact words_pay (q := 2) b15 (by decide) hV rfl _ _ s l
  refine Words.step (F := F) (q := 1) b15 (by decide) ?_ (off31_eq k0_t15 1) (fun s l => ?_)
  swap
  · try unfold words15.sl.v95
    try unfold words15.sl.v90
    try unfold words15.sl.v83
    simp only [shapeCast_self]
    exact words_pay (q := 1) b15 (by decide) hV rfl _ _ s l
  refine Words.step (F := F) (q := 0) b15 (by decide) ?_ (off31_eq k0_t15 0) (fun s l => ?_)
  swap
  · try unfold words15.sl.v89
    try unfold words15.sl.v84
    try unfold words15.sl.v83
    simp only [shapeCast_self]
    exact words_pay (q := 0) b15 (by decide) hV rfl _ _ s l
  exact h7

/-- One block of picked rows, transposed into words by token. -/
theorem words30 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t30 : Fin k0_t30_loop.trips) (u0 : Unit) :
    iprop(Holds c y6 (Picked X I (2 * k0_t8.val + 1) 2048) ∗ Holds c y7 (Words X I (2 * k0_t8.val + 1) k0_t30.val 0))
      ⊢ wp frame (wpE (defs₀ (F := F)) Variants.none (c : Thread nD τ) none) Set.univ (k0_t30_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t30 u0)
        (fun _ => iprop(Holds c y6 (Picked X I (2 * k0_t8.val + 1) 2048) ∗ Holds c y7 (Words X I (2 * k0_t8.val + 1) (k0_t30.val + 1) 0))) := by
  have b8 : k0_t8.val < 11 := (t8_trips) ▸ k0_t8.isLt
  have b30 : k0_t30.val < 16 := (t30_trips) ▸ k0_t30.isLt
  unfold k0_t30_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off56 k0_t30) S128x128.size (k0_off56_inb k0_t30)).toLoadRect f6) (ValueIdx.ix2 l w) = cw X (idn I (2 * k0_t8.val + 1) (k0_t30.val * 128 + l.val)) w.val := by
    intro l w hw
    refine (ld2 (Val := Elt F) y6.view f6 (Rect.unit (s := S2048x128) (k0_off56 k0_t30) S128x128.size (k0_off56_inb k0_t30)).toLoadRect (o := k0_t30.val * 128) (off56_eq k0_t30) rfl rfl (ValueIdx.ix2 l w) (⟨k0_t30.val * 128 + l.val, by omega⟩ : Fin 2048) w rfl rfl).trans ?_
    exact h6 _ w (by show k0_t30.val * 128 + l.val < 2048; omega) hw
  refine Words.next ?_
  refine Words.step (F := F) (q := 14) b30 (by decide) ?_ (off57_eq k0_t30 14) (fun s l => ?_)
  swap
  · simp only [k0_pay79, shapeCast_self]
    exact words_pay (q := 14) b30 (by decide) hV rfl _ _ s l
  refine Words.step (F := F) (q := 13) b30 (by decide) ?_ (off57_eq k0_t30 13) (fun s l => ?_)
  swap
  · simp only [k0_pay78, shapeCast_self]
    exact words_pay (q := 13) b30 (by decide) hV rfl _ _ s l
  refine Words.step (F := F) (q := 12) b30 (by decide) ?_ (off57_eq k0_t30 12) (fun s l => ?_)
  swap
  · simp only [k0_pay77, shapeCast_self]
    exact words_pay (q := 12) b30 (by decide) hV rfl _ _ s l
  refine Words.step (F := F) (q := 11) b30 (by decide) ?_ (off57_eq k0_t30 11) (fun s l => ?_)
  swap
  · try unfold words30.sl.v155
    try unfold words30.sl.v150
    try unfold words30.sl.v83
    simp only [shapeCast_self]
    exact words_pay (q := 11) b30 (by decide) hV rfl _ _ s l
  refine Words.step (F := F) (q := 10) b30 (by decide) ?_ (off57_eq k0_t30 10) (fun s l => ?_)
  swap
  · try unfold words30.sl.v149
    try unfold words30.sl.v144
    try unfold words30.sl.v83
    simp only [shapeCast_self]
    exact words_pay (q := 10) b30 (by decide) hV rfl _ _ s l
  refine Words.step (F := F) (q := 9) b30 (by decide) ?_ (off57_eq k0_t30 9) (fun s l => ?_)
  swap
  · try unfold words30.sl.v143
    try unfold words30.sl.v138
    try unfold words30.sl.v83
    simp only [shapeCast_self]
    exact words_pay (q := 9) b30 (by decide) hV rfl _ _ s l
  refine Words.step (F := F) (q := 8) b30 (by decide) ?_ (off57_eq k0_t30 8) (fun s l => ?_)
  swap
  · try unfold words30.sl.v137
    try unfold words30.sl.v132
    try unfold words30.sl.v83
    simp only [shapeCast_self]
    exact words_pay (q := 8) b30 (by decide) hV rfl _ _ s l
  refine Words.step (F := F) (q := 7) b30 (by decide) ?_ (off57_eq k0_t30 7) (fun s l => ?_)
  swap
  · try unfold words30.sl.v131
    try unfold words30.sl.v126
    try unfold words30.sl.v83
    simp only [shapeCast_self]
    exact words_pay (q := 7) b30 (by decide) hV rfl _ _ s l
  refine Words.step (F := F) (q := 6) b30 (by decide) ?_ (off57_eq k0_t30 6) (fun s l => ?_)
  swap
  · try unfold words30.sl.v125
    try unfold words30.sl.v120
    try unfold words30.sl.v83
    simp only [shapeCast_self]
    exact words_pay (q := 6) b30 (by decide) hV rfl _ _ s l
  refine Words.step (F := F) (q := 5) b30 (by decide) ?_ (off57_eq k0_t30 5) (fun s l => ?_)
  swap
  · try unfold words30.sl.v119
    try unfold words30.sl.v114
    try unfold words30.sl.v83
    simp only [shapeCast_self]
    exact words_pay (q := 5) b30 (by decide) hV rfl _ _ s l
  refine Words.step (F := F) (q := 4) b30 (by decide) ?_ (off57_eq k0_t30 4) (fun s l => ?_)
  swap
  · try unfold words30.sl.v113
    try unfold words30.sl.v108
    try unfold words30.sl.v83
    simp only [shapeCast_self]
    exact words_pay (q := 4) b30 (by decide) hV rfl _ _ s l
  refine Words.step (F := F) (q := 3) b30 (by decide) ?_ (off57_eq k0_t30 3) (fun s l => ?_)
  swap
  · try unfold words30.sl.v107
    try unfold words30.sl.v102
    try unfold words30.sl.v83
    simp only [shapeCast_self]
    exact words_pay (q := 3) b30 (by decide) hV rfl _ _ s l
  refine Words.step (F := F) (q := 2) b30 (by decide) ?_ (off57_eq k0_t30 2) (fun s l => ?_)
  swap
  · try unfold words30.sl.v101
    try unfold words30.sl.v96
    try unfold words30.sl.v83
    simp only [shapeCast_self]
    exact words_pay (q := 2) b30 (by decide) hV rfl _ _ s l
  refine Words.step (F := F) (q := 1) b30 (by decide) ?_ (off57_eq k0_t30 1) (fun s l => ?_)
  swap
  · try unfold words30.sl.v95
    try unfold words30.sl.v90
    try unfold words30.sl.v83
    simp only [shapeCast_self]
    exact words_pay (q := 1) b30 (by decide) hV rfl _ _ s l
  refine Words.step (F := F) (q := 0) b30 (by decide) ?_ (off57_eq k0_t30 0) (fun s l => ?_)
  swap
  · try unfold words30.sl.v89
    try unfold words30.sl.v84
    try unfold words30.sl.v83
    simp only [shapeCast_self]
    exact words_pay (q := 0) b30 (by decide) hV rfl _ _ s l
  exact h7

/-- One block of picked rows, transposed into words by token. -/
theorem words44 (X : Tab) (I : Ids)  (k0_t44 : Fin k0_t44_loop.trips) (u0 : Unit) :
    iprop(Holds c y6 (Picked X I (22) 2048) ∗ Holds c y7 (Words X I (22) k0_t44.val 0))
      ⊢ wp frame (wpE (defs₀ (F := F)) Variants.none (c : Thread nD τ) none) Set.univ (k0_t44_body (F := F) y0 w0 A1 w1 y2 w2 A3 w3 y4 w4 y5 w5 y6 w6 y7 w7 y8 w8 y9 w9 y10 w10 cc0_scratch8 cc0_scratch9 k0_t44 u0)
        (fun _ => iprop(Holds c y6 (Picked X I (22) 2048) ∗ Holds c y7 (Words X I (22) (k0_t44.val + 1) 0))) := by
  have b44 : k0_t44.val < 16 := (t44_trips) ▸ k0_t44.isLt
  unfold k0_t44_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off79 k0_t44) S128x128.size (k0_off79_inb k0_t44)).toLoadRect f6) (ValueIdx.ix2 l w) = cw X (idn I (22) (k0_t44.val * 128 + l.val)) w.val := by
    intro l w hw
    refine (ld2 (Val := Elt F) y6.view f6 (Rect.unit (s := S2048x128) (k0_off79 k0_t44) S128x128.size (k0_off79_inb k0_t44)).toLoadRect (o := k0_t44.val * 128) (off79_eq k0_t44) rfl rfl (ValueIdx.ix2 l w) (⟨k0_t44.val * 128 + l.val, by omega⟩ : Fin 2048) w rfl rfl).trans ?_
    exact h6 _ w (by show k0_t44.val * 128 + l.val < 2048; omega) hw
  refine Words.next ?_
  refine Words.step (F := F) (q := 14) b44 (by decide) ?_ (off80_eq k0_t44 14) (fun s l => ?_)
  swap
  · simp only [k0_pay129, shapeCast_self]
    exact words_pay (q := 14) b44 (by decide) hV rfl _ _ s l
  refine Words.step (F := F) (q := 13) b44 (by decide) ?_ (off80_eq k0_t44 13) (fun s l => ?_)
  swap
  · simp only [k0_pay128, shapeCast_self]
    exact words_pay (q := 13) b44 (by decide) hV rfl _ _ s l
  refine Words.step (F := F) (q := 12) b44 (by decide) ?_ (off80_eq k0_t44 12) (fun s l => ?_)
  swap
  · simp only [k0_pay127, shapeCast_self]
    exact words_pay (q := 12) b44 (by decide) hV rfl _ _ s l
  refine Words.step (F := F) (q := 11) b44 (by decide) ?_ (off80_eq k0_t44 11) (fun s l => ?_)
  swap
  · try unfold words44.sl.v105
    try unfold words44.sl.v100
    try unfold words44.sl.v33
    simp only [shapeCast_self]
    exact words_pay (q := 11) b44 (by decide) hV rfl _ _ s l
  refine Words.step (F := F) (q := 10) b44 (by decide) ?_ (off80_eq k0_t44 10) (fun s l => ?_)
  swap
  · try unfold words44.sl.v99
    try unfold words44.sl.v94
    try unfold words44.sl.v33
    simp only [shapeCast_self]
    exact words_pay (q := 10) b44 (by decide) hV rfl _ _ s l
  refine Words.step (F := F) (q := 9) b44 (by decide) ?_ (off80_eq k0_t44 9) (fun s l => ?_)
  swap
  · try unfold words44.sl.v93
    try unfold words44.sl.v88
    try unfold words44.sl.v33
    simp only [shapeCast_self]
    exact words_pay (q := 9) b44 (by decide) hV rfl _ _ s l
  refine Words.step (F := F) (q := 8) b44 (by decide) ?_ (off80_eq k0_t44 8) (fun s l => ?_)
  swap
  · try unfold words44.sl.v87
    try unfold words44.sl.v82
    try unfold words44.sl.v33
    simp only [shapeCast_self]
    exact words_pay (q := 8) b44 (by decide) hV rfl _ _ s l
  refine Words.step (F := F) (q := 7) b44 (by decide) ?_ (off80_eq k0_t44 7) (fun s l => ?_)
  swap
  · try unfold words44.sl.v81
    try unfold words44.sl.v76
    try unfold words44.sl.v33
    simp only [shapeCast_self]
    exact words_pay (q := 7) b44 (by decide) hV rfl _ _ s l
  refine Words.step (F := F) (q := 6) b44 (by decide) ?_ (off80_eq k0_t44 6) (fun s l => ?_)
  swap
  · try unfold words44.sl.v75
    try unfold words44.sl.v70
    try unfold words44.sl.v33
    simp only [shapeCast_self]
    exact words_pay (q := 6) b44 (by decide) hV rfl _ _ s l
  refine Words.step (F := F) (q := 5) b44 (by decide) ?_ (off80_eq k0_t44 5) (fun s l => ?_)
  swap
  · try unfold words44.sl.v69
    try unfold words44.sl.v64
    try unfold words44.sl.v33
    simp only [shapeCast_self]
    exact words_pay (q := 5) b44 (by decide) hV rfl _ _ s l
  refine Words.step (F := F) (q := 4) b44 (by decide) ?_ (off80_eq k0_t44 4) (fun s l => ?_)
  swap
  · try unfold words44.sl.v63
    try unfold words44.sl.v58
    try unfold words44.sl.v33
    simp only [shapeCast_self]
    exact words_pay (q := 4) b44 (by decide) hV rfl _ _ s l
  refine Words.step (F := F) (q := 3) b44 (by decide) ?_ (off80_eq k0_t44 3) (fun s l => ?_)
  swap
  · try unfold words44.sl.v57
    try unfold words44.sl.v52
    try unfold words44.sl.v33
    simp only [shapeCast_self]
    exact words_pay (q := 3) b44 (by decide) hV rfl _ _ s l
  refine Words.step (F := F) (q := 2) b44 (by decide) ?_ (off80_eq k0_t44 2) (fun s l => ?_)
  swap
  · try unfold words44.sl.v51
    try unfold words44.sl.v46
    try unfold words44.sl.v33
    simp only [shapeCast_self]
    exact words_pay (q := 2) b44 (by decide) hV rfl _ _ s l
  refine Words.step (F := F) (q := 1) b44 (by decide) ?_ (off80_eq k0_t44 1) (fun s l => ?_)
  swap
  · try unfold words44.sl.v45
    try unfold words44.sl.v40
    try unfold words44.sl.v33
    simp only [shapeCast_self]
    exact words_pay (q := 1) b44 (by decide) hV rfl _ _ s l
  refine Words.step (F := F) (q := 0) b44 (by decide) ?_ (off80_eq k0_t44 0) (fun s l => ?_)
  swap
  · try unfold words44.sl.v39
    try unfold words44.sl.v34
    try unfold words44.sl.v33
    simp only [shapeCast_self]
    exact words_pay (q := 0) b44 (by decide) hV rfl _ _ s l
  exact h7

/-- One block of picked rows, transposed into words by token. -/
theorem words50 (X : Tab) (I : Ids)  (k0_t50 : Fin k0_t50_loop.trips) (u0 : Unit) :
    iprop(Holds c y6 (Picked X I (23) 2048) ∗ Holds c y7 (Words X I (23) k0_t50.val 0))
      ⊢ wp frame (wpE (defs₀ (F := F)) Variants.none (c : Thread nD τ) none) Set.univ (k0_t50_body (F := F) y0 w0 A1 w1 y2 w2 A3 w3 y4 w4 y5 w5 y6 w6 y7 w7 y8 w8 y9 w9 y10 w10 cc0_scratch8 cc0_scratch9 k0_t50 u0)
        (fun _ => iprop(Holds c y6 (Picked X I (23) 2048) ∗ Holds c y7 (Words X I (23) (k0_t50.val + 1) 0))) := by
  have b50 : k0_t50.val < 16 := (t50_trips) ▸ k0_t50.isLt
  unfold k0_t50_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off89 k0_t50) S128x128.size (k0_off89_inb k0_t50)).toLoadRect f6) (ValueIdx.ix2 l w) = cw X (idn I (23) (k0_t50.val * 128 + l.val)) w.val := by
    intro l w hw
    refine (ld2 (Val := Elt F) y6.view f6 (Rect.unit (s := S2048x128) (k0_off89 k0_t50) S128x128.size (k0_off89_inb k0_t50)).toLoadRect (o := k0_t50.val * 128) (off89_eq k0_t50) rfl rfl (ValueIdx.ix2 l w) (⟨k0_t50.val * 128 + l.val, by omega⟩ : Fin 2048) w rfl rfl).trans ?_
    exact h6 _ w (by show k0_t50.val * 128 + l.val < 2048; omega) hw
  refine Words.next ?_
  refine Words.step (F := F) (q := 14) b50 (by decide) ?_ (off90_eq k0_t50 14) (fun s l => ?_)
  swap
  · simp only [k0_pay5, shapeCast_self]
    exact words_pay (q := 14) b50 (by decide) hV rfl _ _ s l
  refine Words.step (F := F) (q := 13) b50 (by decide) ?_ (off90_eq k0_t50 13) (fun s l => ?_)
  swap
  · simp only [k0_pay4, shapeCast_self]
    exact words_pay (q := 13) b50 (by decide) hV rfl _ _ s l
  refine Words.step (F := F) (q := 12) b50 (by decide) ?_ (off90_eq k0_t50 12) (fun s l => ?_)
  swap
  · simp only [k0_pay3, shapeCast_self]
    exact words_pay (q := 12) b50 (by decide) hV rfl _ _ s l
  refine Words.step (F := F) (q := 11) b50 (by decide) ?_ (off90_eq k0_t50 11) (fun s l => ?_)
  swap
  · try unfold words50.sl.v105
    try unfold words50.sl.v100
    try unfold words50.sl.v33
    simp only [shapeCast_self]
    exact words_pay (q := 11) b50 (by decide) hV rfl _ _ s l
  refine Words.step (F := F) (q := 10) b50 (by decide) ?_ (off90_eq k0_t50 10) (fun s l => ?_)
  swap
  · try unfold words50.sl.v99
    try unfold words50.sl.v94
    try unfold words50.sl.v33
    simp only [shapeCast_self]
    exact words_pay (q := 10) b50 (by decide) hV rfl _ _ s l
  refine Words.step (F := F) (q := 9) b50 (by decide) ?_ (off90_eq k0_t50 9) (fun s l => ?_)
  swap
  · try unfold words50.sl.v93
    try unfold words50.sl.v88
    try unfold words50.sl.v33
    simp only [shapeCast_self]
    exact words_pay (q := 9) b50 (by decide) hV rfl _ _ s l
  refine Words.step (F := F) (q := 8) b50 (by decide) ?_ (off90_eq k0_t50 8) (fun s l => ?_)
  swap
  · try unfold words50.sl.v87
    try unfold words50.sl.v82
    try unfold words50.sl.v33
    simp only [shapeCast_self]
    exact words_pay (q := 8) b50 (by decide) hV rfl _ _ s l
  refine Words.step (F := F) (q := 7) b50 (by decide) ?_ (off90_eq k0_t50 7) (fun s l => ?_)
  swap
  · try unfold words50.sl.v81
    try unfold words50.sl.v76
    try unfold words50.sl.v33
    simp only [shapeCast_self]
    exact words_pay (q := 7) b50 (by decide) hV rfl _ _ s l
  refine Words.step (F := F) (q := 6) b50 (by decide) ?_ (off90_eq k0_t50 6) (fun s l => ?_)
  swap
  · try unfold words50.sl.v75
    try unfold words50.sl.v70
    try unfold words50.sl.v33
    simp only [shapeCast_self]
    exact words_pay (q := 6) b50 (by decide) hV rfl _ _ s l
  refine Words.step (F := F) (q := 5) b50 (by decide) ?_ (off90_eq k0_t50 5) (fun s l => ?_)
  swap
  · try unfold words50.sl.v69
    try unfold words50.sl.v64
    try unfold words50.sl.v33
    simp only [shapeCast_self]
    exact words_pay (q := 5) b50 (by decide) hV rfl _ _ s l
  refine Words.step (F := F) (q := 4) b50 (by decide) ?_ (off90_eq k0_t50 4) (fun s l => ?_)
  swap
  · try unfold words50.sl.v63
    try unfold words50.sl.v58
    try unfold words50.sl.v33
    simp only [shapeCast_self]
    exact words_pay (q := 4) b50 (by decide) hV rfl _ _ s l
  refine Words.step (F := F) (q := 3) b50 (by decide) ?_ (off90_eq k0_t50 3) (fun s l => ?_)
  swap
  · try unfold words50.sl.v57
    try unfold words50.sl.v52
    try unfold words50.sl.v33
    simp only [shapeCast_self]
    exact words_pay (q := 3) b50 (by decide) hV rfl _ _ s l
  refine Words.step (F := F) (q := 2) b50 (by decide) ?_ (off90_eq k0_t50 2) (fun s l => ?_)
  swap
  · try unfold words50.sl.v51
    try unfold words50.sl.v46
    try unfold words50.sl.v33
    simp only [shapeCast_self]
    exact words_pay (q := 2) b50 (by decide) hV rfl _ _ s l
  refine Words.step (F := F) (q := 1) b50 (by decide) ?_ (off90_eq k0_t50 1) (fun s l => ?_)
  swap
  · try unfold words50.sl.v45
    try unfold words50.sl.v40
    try unfold words50.sl.v33
    simp only [shapeCast_self]
    exact words_pay (q := 1) b50 (by decide) hV rfl _ _ s l
  refine Words.step (F := F) (q := 0) b50 (by decide) ?_ (off90_eq k0_t50 0) (fun s l => ?_)
  swap
  · try unfold words50.sl.v39
    try unfold words50.sl.v34
    try unfold words50.sl.v33
    simp only [shapeCast_self]
    exact words_pay (q := 0) b50 (by decide) hV rfl _ _ s l
  exact h7

end Cert.Proof.Dots

end
-- ==== Proof.DotsSums.lean ====
module

public import proofs.«01_k».proof.Proof.DotsBase
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One word of field 2 * k0_t8.val's dot with an earlier field. -/
theorem word17 (X : Tab) (I : Ids) (k0_t8 : Fin k0_t8_loop.trips) (v32 : BitVec 32) (c1_i32_66 : BitVec 32) (c0_i32_67 : BitVec 32) (c0_i32_68 : BitVec 32) (c1_i32_70 : BitVec 32) (k0_t16 : Fin (k0_t16_loop k0_t8).trips) (v78 : BitVec 32) (v93 : BitVec 32) (k0_t17 : Fin k0_t17_loop.trips) (acc : IVec S16x128 32) (f7 : BufTy.Contents (Elt F) y7.view.ty) (f8 : BufTy.Contents (Elt F) y8.view.ty)
    (h7 : Words X I (2 * k0_t8.val) 16 0 (y7.view.read (Elt F) f7)) (h8 : Upper X I (liveE (2 * k0_t8.val)) (y8.view.read (Elt F) f8)) (hacc : acc = accum X I k0_t16.val (2 * k0_t8.val) k0_t17.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t17_body (F := F) y0 w0 A1 w1 y2 w2 A3 w3 y4 w4 y5 w5 y6 w6 y7 w7 y8 w8 y9 w9 y10 w10 cc0_scratch8 cc0_scratch9 k0_t8 v32 c1_i32_66 c0_i32_67 c0_i32_68 c1_i32_70 k0_t16 v78 v93 k0_t17 acc)
        (fun a => iprop((y7.view.loc (c : Thread nD τ) ↦[y7.view.set]{fullShare} f7) ∗ (y8.view.loc (c : Thread nD τ) ↦[y8.view.set]{fullShare} f8) ∗ ⌜a = accum X I k0_t16.val (2 * k0_t8.val) (k0_t17.val + 1)⌝)) := by
  have b8 : k0_t8.val < 11 := (t8_trips) ▸ k0_t8.isLt
  have b16 : k0_t16.val < 2 * k0_t8.val := (t16_trips k0_t8) ▸ k0_t16.isLt
  have b17 : k0_t17.val < 5 := (t17_trips) ▸ k0_t17.isLt
  have hf : 2 * k0_t8.val < 24 := by omega
  have he : k0_t16.val < 2 * k0_t8.val := by omega
  have e8 := Upper.get (F := F) h8 hf he b17 (inb := k0_off32_inb k0_t8 k0_t16 k0_t17) (off32_eq k0_t8 k0_t16 k0_t17)
  have e7 := Words.get (F := F) h7 (by omega) b17 (inb := k0_off33_inb k0_t8 k0_t16 k0_t17) (off33_eq k0_t8 k0_t16 k0_t17)
  unfold k0_t17_body
  iintro ⟨H7, H8⟩
  sl_exec
  sl_step
  isplitl [H7]; · iexact H7
  isplitl [H8]; · iexact H8
  ipureintro
  rw [hacc]
  try unfold word17.sl.v164
  try unfold word17.sl.v163
  try unfold word17.sl.v162
  try unfold word17.sl.v161
  try unfold word17.sl.v160
  try unfold word17.sl.v159
  try unfold word17.sl.v158
  try unfold word17.sl.v157
  try unfold word17.sl.v156
  try unfold word17.sl.v155
  try unfold word17.sl.v154
  try unfold word17.sl.v153
  try unfold word17.sl.v152
  try unfold word17.sl.v151
  try unfold word17.sl.v150
  try unfold word17.sl.v149
  try unfold word17.sl.v148
  try unfold word17.sl.v147
  try unfold word17.sl.v146
  try unfold word17.sl.v145
  try unfold word17.sl.v144
  try unfold word17.sl.v143
  try unfold word17.sl.v142
  try unfold word17.sl.v141
  try unfold word17.sl.v140
  try unfold word17.sl.v139
  try unfold word17.sl.v138
  try unfold word17.sl.v137
  try unfold word17.sl.v136
  try unfold word17.sl.v135
  try unfold word17.sl.v134
  simp only [k0_pay28, k0_pay29, k0_pay30, k0_pay32, accum, dot4]

/-- Field 2 * k0_t8.val's dot with one earlier field: five words, four codes each. -/
theorem dots16 (X : Tab) (I : Ids) (c0_i32_8 : BitVec 32) (c1_i32_9 : BitVec 32) (k0_t8 : Fin k0_t8_loop.trips) (v32 : BitVec 32) (k0_t16 : Fin (k0_t16_loop k0_t8).trips) (u0 : Unit) :
    iprop(Holds c y7 (Words X I (2 * k0_t8.val) 16 0) ∗ Holds c y8 (Upper X I (liveE (2 * k0_t8.val))) ∗ Holds c y2 (DotsTo (F := F) X I (2 * k0_t8.val) k0_t16.val))
      ⊢ wp frame (wpE (defs₀ (F := F)) Variants.none (c : Thread nD τ) none) Set.univ (k0_t16_body (F := F) y0 w0 A1 w1 y2 w2 A3 w3 y4 w4 y5 w5 y6 w6 y7 w7 y8 w8 y9 w9 y10 w10 cc0_scratch8 cc0_scratch9 c0_i32_8 c1_i32_9 k0_t8 v32 k0_t16 u0)
        (fun _ => iprop(Holds c y7 (Words X I (2 * k0_t8.val) 16 0) ∗ Holds c y8 (Upper X I (liveE (2 * k0_t8.val))) ∗ Holds c y2 (DotsTo (F := F) X I (2 * k0_t8.val) (k0_t16.val + 1)))) := by
  have b8 : k0_t8.val < 11 := (t8_trips) ▸ k0_t8.isLt
  have b16 : k0_t16.val < 2 * k0_t8.val := (t16_trips k0_t8) ▸ k0_t16.isLt
  have hf : 2 * k0_t8.val < 24 := by omega
  have he : k0_t16.val < 2 * k0_t8.val := by omega
  unfold k0_t16_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t16.val (2 * k0_t8.val) k⌝)) $$ [H7 H8]
  case region =>
    intro k acc
    iintro ⟨H7, H8, %hacc⟩
    iapply (word17 c y0 w0 w1 y2 w2 w3 y4 w4 y5 w5 y6 w6 y7 w7 y8 w8 y9 w9 y10 w10 X I k0_t8 _ _ _ _ _ k0_t16 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off34_eq k0_t8 k0_t16)

/-- One word of field 2 * k0_t8.val + 1's dot with an earlier field. -/
theorem word32 (X : Tab) (I : Ids) (k0_t8 : Fin k0_t8_loop.trips) (v56 : BitVec 32) (c1_i32_96 : BitVec 32) (c0_i32_97 : BitVec 32) (c0_i32_98 : BitVec 32) (c1_i32_100 : BitVec 32) (k0_t31 : Fin (k0_t31_loop k0_t8).trips) (v78 : BitVec 32) (v93 : BitVec 32) (k0_t32 : Fin k0_t32_loop.trips) (acc : IVec S16x128 32) (f7 : BufTy.Contents (Elt F) y7.view.ty) (f8 : BufTy.Contents (Elt F) y8.view.ty)
    (h7 : Words X I (2 * k0_t8.val + 1) 16 0 (y7.view.read (Elt F) f7)) (h8 : Upper X I (liveE (2 * k0_t8.val + 1)) (y8.view.read (Elt F) f8)) (hacc : acc = accum X I k0_t31.val (2 * k0_t8.val + 1) k0_t32.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t32_body (F := F) y0 w0 A1 w1 y2 w2 A3 w3 y4 w4 y5 w5 y6 w6 y7 w7 y8 w8 y9 w9 y10 w10 cc0_scratch8 cc0_scratch9 k0_t8 v56 c1_i32_96 c0_i32_97 c0_i32_98 c1_i32_100 k0_t31 v78 v93 k0_t32 acc)
        (fun a => iprop((y7.view.loc (c : Thread nD τ) ↦[y7.view.set]{fullShare} f7) ∗ (y8.view.loc (c : Thread nD τ) ↦[y8.view.set]{fullShare} f8) ∗ ⌜a = accum X I k0_t31.val (2 * k0_t8.val + 1) (k0_t32.val + 1)⌝)) := by
  have b8 : k0_t8.val < 11 := (t8_trips) ▸ k0_t8.isLt
  have b31 : k0_t31.val < 2 * k0_t8.val + 1 := (t31_trips k0_t8) ▸ k0_t31.isLt
  have b32 : k0_t32.val < 5 := (t32_trips) ▸ k0_t32.isLt
  have hf : 2 * k0_t8.val + 1 < 24 := by omega
  have he : k0_t31.val < 2 * k0_t8.val + 1 := by omega
  have e8 := Upper.get (F := F) h8 hf he b32 (inb := k0_off58_inb k0_t8 k0_t31 k0_t32) (off58_eq k0_t8 k0_t31 k0_t32)
  have e7 := Words.get (F := F) h7 (by omega) b32 (inb := k0_off59_inb k0_t8 k0_t31 k0_t32) (off59_eq k0_t8 k0_t31 k0_t32)
  unfold k0_t32_body
  iintro ⟨H7, H8⟩
  sl_exec
  sl_step
  isplitl [H7]; · iexact H7
  isplitl [H8]; · iexact H8
  ipureintro
  rw [hacc]
  try unfold word32.sl.v164
  try unfold word32.sl.v163
  try unfold word32.sl.v162
  try unfold word32.sl.v161
  try unfold word32.sl.v160
  try unfold word32.sl.v159
  try unfold word32.sl.v158
  try unfold word32.sl.v157
  try unfold word32.sl.v156
  try unfold word32.sl.v155
  try unfold word32.sl.v154
  try unfold word32.sl.v153
  try unfold word32.sl.v152
  try unfold word32.sl.v151
  try unfold word32.sl.v150
  try unfold word32.sl.v149
  try unfold word32.sl.v148
  try unfold word32.sl.v147
  try unfold word32.sl.v146
  try unfold word32.sl.v145
  try unfold word32.sl.v144
  try unfold word32.sl.v143
  try unfold word32.sl.v142
  try unfold word32.sl.v141
  try unfold word32.sl.v140
  try unfold word32.sl.v139
  try unfold word32.sl.v138
  try unfold word32.sl.v137
  try unfold word32.sl.v136
  try unfold word32.sl.v135
  try unfold word32.sl.v134
  simp only [k0_pay54, k0_pay55, k0_pay56, k0_pay58, accum, dot4]

/-- Field 2 * k0_t8.val + 1's dot with one earlier field: five words, four codes each. -/
theorem dots31 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (v56 : BitVec 32) (k0_t31 : Fin (k0_t31_loop k0_t8).trips) (u0 : Unit) :
    iprop(Holds c y7 (Words X I (2 * k0_t8.val + 1) 16 0) ∗ Holds c y8 (Upper X I (liveE (2 * k0_t8.val + 1))) ∗ Holds c y2 (DotsTo (F := F) X I (2 * k0_t8.val + 1) k0_t31.val))
      ⊢ wp frame (wpE (defs₀ (F := F)) Variants.none (c : Thread nD τ) none) Set.univ (k0_t31_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 v56 k0_t31 u0)
        (fun _ => iprop(Holds c y7 (Words X I (2 * k0_t8.val + 1) 16 0) ∗ Holds c y8 (Upper X I (liveE (2 * k0_t8.val + 1))) ∗ Holds c y2 (DotsTo (F := F) X I (2 * k0_t8.val + 1) (k0_t31.val + 1)))) := by
  have b8 : k0_t8.val < 11 := (t8_trips) ▸ k0_t8.isLt
  have b31 : k0_t31.val < 2 * k0_t8.val + 1 := (t31_trips k0_t8) ▸ k0_t31.isLt
  have hf : 2 * k0_t8.val + 1 < 24 := by omega
  have he : k0_t31.val < 2 * k0_t8.val + 1 := by omega
  unfold k0_t31_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t31.val (2 * k0_t8.val + 1) k⌝)) $$ [H7 H8]
  case region =>
    intro k acc
    iintro ⟨H7, H8, %hacc⟩
    iapply (word32 c y0 w0 w1 y2 w2 w3 y4 w4 y5 w5 y6 w6 y7 w7 y8 w8 y9 w9 y10 w10 X I k0_t8 _ _ _ _ _ k0_t31 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off60_eq k0_t8 k0_t31)

/-- One word of field 22's dot with an earlier field. -/
theorem word46 (X : Tab) (I : Ids) (c0_i32_19 : BitVec 32) (c1_i32_20 : BitVec 32) (k0_t45 : Fin k0_t45_loop.trips) (v28 : BitVec 32) (v40 : BitVec 32) (k0_t46 : Fin k0_t46_loop.trips) (acc : IVec S16x128 32) (f7 : BufTy.Contents (Elt F) y7.view.ty) (f8 : BufTy.Contents (Elt F) y8.view.ty)
    (h7 : Words X I (22) 16 0 (y7.view.read (Elt F) f7)) (h8 : Upper X I (liveE (22)) (y8.view.read (Elt F) f8)) (hacc : acc = accum X I k0_t45.val (22) k0_t46.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t46_body (F := F) y0 w0 A1 w1 y2 w2 A3 w3 y4 w4 y5 w5 y6 w6 y7 w7 y8 w8 y9 w9 y10 w10 cc0_scratch8 cc0_scratch9 c0_i32_19 c1_i32_20 k0_t45 v28 v40 k0_t46 acc)
        (fun a => iprop((y7.view.loc (c : Thread nD τ) ↦[y7.view.set]{fullShare} f7) ∗ (y8.view.loc (c : Thread nD τ) ↦[y8.view.set]{fullShare} f8) ∗ ⌜a = accum X I k0_t45.val (22) (k0_t46.val + 1)⌝)) := by
  have b45 : k0_t45.val < 22 := (t45_trips) ▸ k0_t45.isLt
  have b46 : k0_t46.val < 5 := (t46_trips) ▸ k0_t46.isLt
  have hf : 22 < 24 := by omega
  have he : k0_t45.val < 22 := by omega
  have e8 := Upper.get (F := F) h8 hf he b46 (inb := k0_off81_inb k0_t45 k0_t46) (off81_eq k0_t45 k0_t46)
  have e7 := Words.get (F := F) h7 (by omega) b46 (inb := k0_off82_inb k0_t45 k0_t46) (off82_eq k0_t45 k0_t46)
  unfold k0_t46_body
  iintro ⟨H7, H8⟩
  sl_exec
  sl_step
  isplitl [H7]; · iexact H7
  isplitl [H8]; · iexact H8
  ipureintro
  rw [hacc]
  try unfold word46.sl.v111
  try unfold word46.sl.v110
  try unfold word46.sl.v109
  try unfold word46.sl.v108
  try unfold word46.sl.v107
  try unfold word46.sl.v106
  try unfold word46.sl.v105
  try unfold word46.sl.v104
  try unfold word46.sl.v103
  try unfold word46.sl.v102
  try unfold word46.sl.v101
  try unfold word46.sl.v100
  try unfold word46.sl.v99
  try unfold word46.sl.v98
  try unfold word46.sl.v97
  try unfold word46.sl.v96
  try unfold word46.sl.v95
  try unfold word46.sl.v94
  try unfold word46.sl.v93
  try unfold word46.sl.v92
  try unfold word46.sl.v91
  try unfold word46.sl.v90
  try unfold word46.sl.v89
  try unfold word46.sl.v88
  try unfold word46.sl.v87
  try unfold word46.sl.v86
  try unfold word46.sl.v85
  try unfold word46.sl.v84
  try unfold word46.sl.v83
  try unfold word46.sl.v82
  try unfold word46.sl.v81
  simp only [k0_pay94, k0_pay95, k0_pay96, k0_pay98, accum, dot4]

/-- Field 22's dot with one earlier field: five words, four codes each. -/
theorem dots45 (X : Tab) (I : Ids)  (k0_t45 : Fin k0_t45_loop.trips) (u0 : Unit) :
    iprop(Holds c y7 (Words X I (22) 16 0) ∗ Holds c y8 (Upper X I (liveE (22))) ∗ Holds c y2 (DotsTo (F := F) X I (22) k0_t45.val))
      ⊢ wp frame (wpE (defs₀ (F := F)) Variants.none (c : Thread nD τ) none) Set.univ (k0_t45_body (F := F) y0 w0 A1 w1 y2 w2 A3 w3 y4 w4 y5 w5 y6 w6 y7 w7 y8 w8 y9 w9 y10 w10 cc0_scratch8 cc0_scratch9 k0_t45 u0)
        (fun _ => iprop(Holds c y7 (Words X I (22) 16 0) ∗ Holds c y8 (Upper X I (liveE (22))) ∗ Holds c y2 (DotsTo (F := F) X I (22) (k0_t45.val + 1)))) := by
  have b45 : k0_t45.val < 22 := (t45_trips) ▸ k0_t45.isLt
  have hf : 22 < 24 := by omega
  have he : k0_t45.val < 22 := by omega
  unfold k0_t45_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t45.val (22) k⌝)) $$ [H7 H8]
  case region =>
    intro k acc
    iintro ⟨H7, H8, %hacc⟩
    iapply (word46 c y0 w0 w1 y2 w2 w3 y4 w4 y5 w5 y6 w6 y7 w7 y8 w8 y9 w9 y10 w10 X I _ _ k0_t45 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off83_eq k0_t45)

/-- One word of field 23's dot with an earlier field. -/
theorem word52 (X : Tab) (I : Ids) (c0_i32_43 : BitVec 32) (c1_i32_45 : BitVec 32) (k0_t51 : Fin k0_t51_loop.trips) (v28 : BitVec 32) (v40 : BitVec 32) (k0_t52 : Fin k0_t52_loop.trips) (acc : IVec S16x128 32) (f7 : BufTy.Contents (Elt F) y7.view.ty) (f8 : BufTy.Contents (Elt F) y8.view.ty)
    (h7 : Words X I (23) 16 0 (y7.view.read (Elt F) f7)) (h8 : Upper X I (liveE (23)) (y8.view.read (Elt F) f8)) (hacc : acc = accum X I k0_t51.val (23) k0_t52.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t52_body (F := F) y0 w0 A1 w1 y2 w2 A3 w3 y4 w4 y5 w5 y6 w6 y7 w7 y8 w8 y9 w9 y10 w10 cc0_scratch8 cc0_scratch9 c0_i32_43 c1_i32_45 k0_t51 v28 v40 k0_t52 acc)
        (fun a => iprop((y7.view.loc (c : Thread nD τ) ↦[y7.view.set]{fullShare} f7) ∗ (y8.view.loc (c : Thread nD τ) ↦[y8.view.set]{fullShare} f8) ∗ ⌜a = accum X I k0_t51.val (23) (k0_t52.val + 1)⌝)) := by
  have b51 : k0_t51.val < 23 := (t51_trips) ▸ k0_t51.isLt
  have b52 : k0_t52.val < 5 := (t52_trips) ▸ k0_t52.isLt
  have hf : 23 < 24 := by omega
  have he : k0_t51.val < 23 := by omega
  have e8 := Upper.get (F := F) h8 hf he b52 (inb := k0_off91_inb k0_t51 k0_t52) (off91_eq k0_t51 k0_t52)
  have e7 := Words.get (F := F) h7 (by omega) b52 (inb := k0_off92_inb k0_t51 k0_t52) (off92_eq k0_t51 k0_t52)
  unfold k0_t52_body
  iintro ⟨H7, H8⟩
  sl_exec
  sl_step
  isplitl [H7]; · iexact H7
  isplitl [H8]; · iexact H8
  ipureintro
  rw [hacc]
  try unfold word52.sl.v111
  try unfold word52.sl.v110
  try unfold word52.sl.v109
  try unfold word52.sl.v108
  try unfold word52.sl.v107
  try unfold word52.sl.v106
  try unfold word52.sl.v105
  try unfold word52.sl.v104
  try unfold word52.sl.v103
  try unfold word52.sl.v102
  try unfold word52.sl.v101
  try unfold word52.sl.v100
  try unfold word52.sl.v99
  try unfold word52.sl.v98
  try unfold word52.sl.v97
  try unfold word52.sl.v96
  try unfold word52.sl.v95
  try unfold word52.sl.v94
  try unfold word52.sl.v93
  try unfold word52.sl.v92
  try unfold word52.sl.v91
  try unfold word52.sl.v90
  try unfold word52.sl.v89
  try unfold word52.sl.v88
  try unfold word52.sl.v87
  try unfold word52.sl.v86
  try unfold word52.sl.v85
  try unfold word52.sl.v84
  try unfold word52.sl.v83
  try unfold word52.sl.v82
  try unfold word52.sl.v81
  simp only [k0_pay114, k0_pay115, k0_pay116, k0_pay118, accum, dot4]

/-- Field 23's dot with one earlier field: five words, four codes each. -/
theorem dots51 (X : Tab) (I : Ids)  (k0_t51 : Fin k0_t51_loop.trips) (u0 : Unit) :
    iprop(Holds c y7 (Words X I (23) 16 0) ∗ Holds c y8 (Upper X I (liveE (23))) ∗ Holds c y2 (DotsTo (F := F) X I (23) k0_t51.val))
      ⊢ wp frame (wpE (defs₀ (F := F)) Variants.none (c : Thread nD τ) none) Set.univ (k0_t51_body (F := F) y0 w0 A1 w1 y2 w2 A3 w3 y4 w4 y5 w5 y6 w6 y7 w7 y8 w8 y9 w9 y10 w10 cc0_scratch8 cc0_scratch9 k0_t51 u0)
        (fun _ => iprop(Holds c y7 (Words X I (23) 16 0) ∗ Holds c y8 (Upper X I (liveE (23))) ∗ Holds c y2 (DotsTo (F := F) X I (23) (k0_t51.val + 1)))) := by
  have b51 : k0_t51.val < 23 := (t51_trips) ▸ k0_t51.isLt
  have hf : 23 < 24 := by omega
  have he : k0_t51.val < 23 := by omega
  unfold k0_t51_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t51.val (23) k⌝)) $$ [H7 H8]
  case region =>
    intro k acc
    iintro ⟨H7, H8, %hacc⟩
    iapply (word52 c y0 w0 w1 y2 w2 w3 y4 w4 y5 w5 y6 w6 y7 w7 y8 w8 y9 w9 y10 w10 X I _ _ k0_t51 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off93_eq k0_t51)

/-- One of field 2 * k0_t8.val's words is put where a later field's dots will read it. -/
theorem copy21 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t20 : Fin (k0_t20_loop k0_t8).trips) (k0_t21 : Fin k0_t21_loop.trips) (u0 : Unit) :
    iprop(Holds c y7 (Words X I (2 * k0_t8.val) 16 0) ∗ Holds c y8 (Upper X I (liveG (2 * k0_t8.val) (2 * k0_t8.val + 1 + k0_t20.val) k0_t21.val)))
      ⊢ wp frame (wpE (defs₀ (F := F)) Variants.none (c : Thread nD τ) none) Set.univ (k0_t21_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t20 k0_t21 u0)
        (fun _ => iprop(Holds c y7 (Words X I (2 * k0_t8.val) 16 0) ∗ Holds c y8 (Upper X I (liveG (2 * k0_t8.val) (2 * k0_t8.val + 1 + k0_t20.val) (k0_t21.val + 1))))) := by
  have b8 : k0_t8.val < 11 := (t8_trips) ▸ k0_t8.isLt
  have b20 : k0_t20.val < 23 - 2 * k0_t8.val := (t20_trips k0_t8) ▸ k0_t20.isLt
  have b21 : k0_t21.val < 5 := (t21_trips) ▸ k0_t21.isLt
  have hg : 2 * k0_t8.val + 1 + k0_t20.val < 24 := by omega
  unfold k0_t21_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b21 (inb := k0_off38_inb k0_t8 k0_t20 k0_t21) (off38_eq k0_t8 k0_t20 k0_t21)
  have pe : ∀ v, k0_pay72 (F := F) v = v := fun v => by unfold k0_pay72; exact shapeCast_self _ _
  rw [pe, e7]
  exact Upper.step (F := F) (by omega) hg b21 (L := []) h8 (off39_eq k0_t8 k0_t20 k0_t21)

/-- One of field 2 * k0_t8.val + 1's words is put where a later field's dots will read it. -/
theorem copy36 (X : Tab) (I : Ids) (k0_t8 : Fin k0_t8_loop.trips) (k0_t35 : Fin (k0_t35_loop k0_t8).trips) (k0_t36 : Fin k0_t36_loop.trips) (u0 : Unit) :
    iprop(Holds c y7 (Words X I (2 * k0_t8.val + 1) 16 0) ∗ Holds c y8 (Upper X I (liveG (2 * k0_t8.val + 1) (2 * k0_t8.val + 1 + 1 + k0_t35.val) k0_t36.val)))
      ⊢ wp frame (wpE (defs₀ (F := F)) Variants.none (c : Thread nD τ) none) Set.univ (k0_t36_body (F := F) y0 w0 A1 w1 y2 w2 A3 w3 y4 w4 y5 w5 y6 w6 y7 w7 y8 w8 y9 w9 y10 w10 cc0_scratch8 cc0_scratch9 k0_t8 k0_t35 k0_t36 u0)
        (fun _ => iprop(Holds c y7 (Words X I (2 * k0_t8.val + 1) 16 0) ∗ Holds c y8 (Upper X I (liveG (2 * k0_t8.val + 1) (2 * k0_t8.val + 1 + 1 + k0_t35.val) (k0_t36.val + 1))))) := by
  have b8 : k0_t8.val < 11 := (t8_trips) ▸ k0_t8.isLt
  have b35 : k0_t35.val < 22 - 2 * k0_t8.val := (t35_trips k0_t8) ▸ k0_t35.isLt
  have b36 : k0_t36.val < 5 := (t36_trips) ▸ k0_t36.isLt
  have hg : 2 * k0_t8.val + 1 + 1 + k0_t35.val < 24 := by omega
  unfold k0_t36_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b36 (inb := k0_off64_inb k0_t8 k0_t35 k0_t36) (off64_eq k0_t8 k0_t35 k0_t36)
  have pe : ∀ v, k0_pay122 (F := F) v = v := fun v => by unfold k0_pay122; exact shapeCast_self _ _
  rw [pe, e7]
  exact Upper.step (F := F) (by omega) hg b36 (L := []) h8 (off65_eq k0_t8 k0_t35 k0_t36)

/-- One of field 22's words is put where a later field's dots will read it. -/
theorem copy47 (X : Tab) (I : Ids)  (k0_t47 : Fin k0_t47_loop.trips) (u0 : Unit) :
    iprop(Holds c y7 (Words X I (22) 16 0) ∗ Holds c y8 (Upper X I (liveG (22) (23) k0_t47.val)))
      ⊢ wp frame (wpE (defs₀ (F := F)) Variants.none (c : Thread nD τ) none) Set.univ (k0_t47_body (F := F) y0 w0 A1 w1 y2 w2 A3 w3 y4 w4 y5 w5 y6 w6 y7 w7 y8 w8 y9 w9 y10 w10 cc0_scratch8 cc0_scratch9 k0_t47 u0)
        (fun _ => iprop(Holds c y7 (Words X I (22) 16 0) ∗ Holds c y8 (Upper X I (liveG (22) (23) (k0_t47.val + 1))))) := by
  have b47 : k0_t47.val < 5 := (t47_trips) ▸ k0_t47.isLt
  have hg : 23 < 24 := by omega
  unfold k0_t47_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b47 (inb := k0_off84_inb k0_t47) (off84_eq k0_t47)
  have pe : ∀ v, k0_pay1 (F := F) v = v := fun v => by unfold k0_pay1; exact shapeCast_self _ _
  rw [pe, e7]
  exact Upper.step (F := F) (by omega) hg b47 (L := []) h8 (off85_eq k0_t47)

end Cert.Proof.Dots

end
-- ==== Proof.DotsStart.lean ====
module

public import proofs.«01_k».proof.Proof.DotsMath
public import Mathlib.Tactic.FinCases
public import Mathlib.Tactic.IntervalCases
public import Idealize.ShloMosaic.Lib.VecWindow
public import Idealize.ShloMosaic.Lib.WritesUnit
public import Idealize.ShloMosaic.Lib.ValueLayout
public import Idealize.ShloMosaic.Lib.BitcastFour
public import Idealize.ShloMosaic.Lib.Pointwise
public import Idealize.ShloMosaic.Lib.Exec

@[expose] public section

/-! # What the dots kernel's buffers hold, and how each store extends it -/

noncomputable section

namespace Cert.Proof.DotsMath

open Idealize.ShloMosaic

variable {F : FTy → Type} [FloatOps F]

/-- No row is claimed of a strip not begun. -/
theorem Strip.start (X : Tab) (f : ℕ) (A : (⟨2, ![30208, 128]⟩ : Shape).Idx → BitVec 32) : Strip X f 0 A :=
  fun _ _ h _ => absurd h (Nat.not_lt_zero _)
/-- No row is claimed of tokens none of which is picked. -/
theorem Picked.start {X : Tab} {I : Ids} {f : ℕ} (P : (⟨2, ![2048, 128]⟩ : Shape).Idx → BitVec 32) : Picked X I f 0 P :=
  fun _ _ h _ => absurd h (Nat.not_lt_zero _)
/-- No word is claimed of tokens none of which is transposed. -/
theorem Words.start {X : Tab} {I : Ids} {f : ℕ} (W : (⟨2, ![2040, 128]⟩ : Shape).Idx → BitVec 32) : Words X I f 0 0 W :=
  fun _ _ _ h => absurd h (by omega)
/-- No id is claimed of blocks none of which is done. -/
theorem RowIds.start {I : Ids} (B : (⟨2, ![384, 128]⟩ : Shape).Idx → BitVec 32) : RowIds I 0 0 B :=
  fun _ _ _ h => absurd h (by omega)

end Cert.Proof.DotsMath

end
-- ==== Proof.DotsFields.lean ====
module

public import proofs.«01_k».proof.Proof.DotsBase
public import proofs.«01_k».proof.Proof.DotsChunks
public import proofs.«01_k».proof.Proof.DotsWords
public import proofs.«01_k».proof.Proof.DotsSums
public import proofs.«01_k».proof.Proof.DotsStart
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- The picked rows of field 2 * k0_t8.val transposed into words by token. -/
theorem allWords15 (X : Tab) (I : Ids) (c0_i32_8 : BitVec 32) (c1_i32_9 : BitVec 32) (k0_t8 : Fin k0_t8_loop.trips) :
    iprop(Holds c y6 (Picked X I (2 * k0_t8.val) 2048) ∗ Holds c y7 (fun _ => True))
      ⊢ wp frame (wpE (defs₀ (F := F)) Variants.none (c : Thread nD τ) none) Set.univ (Scf.Loop.for k0_t15_loop k0_t15_ok ⟨⟩ (k0_t15_body (F := F) y0 w0 A1 w1 y2 w2 A3 w3 y4 w4 y5 w5 y6 w6 y7 w7 y8 w8 y9 w9 y10 w10 cc0_scratch8 cc0_scratch9 c0_i32_8 c1_i32_9 k0_t8)) (fun _ => iprop(Holds c y6 (Picked X I (2 * k0_t8.val) 2048) ∗ Holds c y7 (Words X I (2 * k0_t8.val) 16 0))) := by
  have main := forInv (F := F) c k0_t15_ok (fun k => iprop(Holds c y6 (Picked X I (2 * k0_t8.val) 2048) ∗ Holds c y7 (Words X I (2 * k0_t8.val) k 0)))
    (fun t u => words15 c y0 w0 w1 y2 w2 w3 y4 w4 y5 w5 y6 w6 y7 w7 y8 w8 y9 w9 y10 w10 X I c0_i32_8 c1_i32_9 k0_t8 t u)
  rw [t15_trips] at main
  exact (sep_mono .rfl (Holds.mono c fun W _ => Words.start W)).trans main

/-- The picked rows of field 2 * k0_t8.val + 1 transposed into words by token. -/
theorem allWords30 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(Holds c y6 (Picked X I (2 * k0_t8.val + 1) 2048) ∗ Holds c y7 (fun _ => True))
      ⊢ wp frame (wpE (defs₀ (F := F)) Variants.none (c : Thread nD τ) none) Set.univ (Scf.Loop.for k0_t30_loop k0_t30_ok ⟨⟩ (k0_t30_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50)) (fun _ => iprop(Holds c y6 (Picked X I (2 * k0_t8.val + 1) 2048) ∗ Holds c y7 (Words X I (2 * k0_t8.val + 1) 16 0))) := by
  have main := forInv (F := F) c k0_t30_ok (fun k => iprop(Holds c y6 (Picked X I (2 * k0_t8.val + 1) 2048) ∗ Holds c y7 (Words X I (2 * k0_t8.val + 1) k 0)))
    (fun t u => words30 c y0 w0 w1 y2 w2 w3 y4 w4 y5 w5 y6 w6 y7 w7 y8 w8 y9 w9 y10 w10 X I k0_t8 v28 v32 v43 c1_i32_76 c0_i32_77 c1_i32_78 v50 t u)
  rw [t30_trips] at main
  exact (sep_mono .rfl (Holds.mono c fun W _ => Words.start W)).trans main

/-- The picked rows of field 22 transposed into words by token. -/
theorem allWords44 (X : Tab) (I : Ids)  :
    iprop(Holds c y6 (Picked X I (22) 2048) ∗ Holds c y7 (fun _ => True))
      ⊢ wp frame (wpE (defs₀ (F := F)) Variants.none (c : Thread nD τ) none) Set.univ (Scf.Loop.for k0_t44_loop k0_t44_ok ⟨⟩ (k0_t44_body (F := F) y0 w0 A1 w1 y2 w2 A3 w3 y4 w4 y5 w5 y6 w6 y7 w7 y8 w8 y9 w9 y10 w10 cc0_scratch8 cc0_scratch9 )) (fun _ => iprop(Holds c y6 (Picked X I (22) 2048) ∗ Holds c y7 (Words X I (22) 16 0))) := by
  have main := forInv (F := F) c k0_t44_ok (fun k => iprop(Holds c y6 (Picked X I (22) 2048) ∗ Holds c y7 (Words X I (22) k 0)))
    (fun t u => words44 c y0 w0 w1 y2 w2 w3 y4 w4 y5 w5 y6 w6 y7 w7 y8 w8 y9 w9 y10 w10 X I  t u)
  rw [t44_trips] at main
  exact (sep_mono .rfl (Holds.mono c fun W _ => Words.start W)).trans main

/-- The picked rows of field 23 transposed into words by token. -/
theorem allWords50 (X : Tab) (I : Ids)  :
    iprop(Holds c y6 (Picked X I (23) 2048) ∗ Holds c y7 (fun _ => True))
      ⊢ wp frame (wpE (defs₀ (F := F)) Variants.none (c : Thread nD τ) none) Set.univ (Scf.Loop.for k0_t50_loop k0_t50_ok ⟨⟩ (k0_t50_body (F := F) y0 w0 A1 w1 y2 w2 A3 w3 y4 w4 y5 w5 y6 w6 y7 w7 y8 w8 y9 w9 y10 w10 cc0_scratch8 cc0_scratch9 )) (fun _ => iprop(Holds c y6 (Picked X I (23) 2048) ∗ Holds c y7 (Words X I (23) 16 0))) := by
  have main := forInv (F := F) c k0_t50_ok (fun k => iprop(Holds c y6 (Picked X I (23) 2048) ∗ Holds c y7 (Words X I (23) k 0)))
    (fun t u => words50 c y0 w0 w1 y2 w2 w3 y4 w4 y5 w5 y6 w6 y7 w7 y8 w8 y9 w9 y10 w10 X I  t u)
  rw [t50_trips] at main
  exact (sep_mono .rfl (Holds.mono c fun W _ => Words.start W)).trans main

/-- Field 2 * k0_t8.val's dots with every earlier field. -/
theorem allDots16 (X : Tab) (I : Ids) (c0_i32_8 : BitVec 32) (c1_i32_9 : BitVec 32) (k0_t8 : Fin k0_t8_loop.trips) (v32 : BitVec 32) :
    iprop(Holds c y7 (Words X I (2 * k0_t8.val) 16 0) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (Scf.Loop.for (k0_t16_loop k0_t8) (k0_t16_ok k0_t8) ⟨⟩ (k0_t16_body (F := F) y0 w0 A1 w1 y2 w2 A3 w3 y4 w4 y5 w5 y6 w6 y7 w7 y8 w8 y9 w9 y10 w10 cc0_scratch8 cc0_scratch9 c0_i32_8 c1_i32_9 k0_t8 v32)) (fun _ => iprop(Holds c y7 (Words X I (2 * k0_t8.val) 16 0) ∗ Holds c y8 (Upper X I (liveE (2 * k0_t8.val))) ∗ Holds c y2 (DotsTo (F := F) X I (2 * k0_t8.val + 1) 0))) := by
  have main := forInv (F := F) c (k0_t16_ok k0_t8) (fun k => iprop(Holds c y7 (Words X I (2 * k0_t8.val) 16 0) ∗ Holds c y8 (Upper X I (liveE (2 * k0_t8.val))) ∗ Holds c y2 (DotsTo (F := F) X I (2 * k0_t8.val) k)))
    (fun t u => dots16 c y0 w0 w1 y2 w2 w3 y4 w4 y5 w5 y6 w6 y7 w7 y8 w8 y9 w9 y10 w10 X I c0_i32_8 c1_i32_9 k0_t8 v32 t u)
  rw [t16_trips k0_t8] at main
  exact main.trans (wp_mono _ _ _ fun _ => sep_mono .rfl (sep_mono .rfl (Holds.mono c fun O h => h.next)))

/-- Field 2 * k0_t8.val + 1's dots with every earlier field. -/
theorem allDots31 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (v56 : BitVec 32) :
    iprop(Holds c y7 (Words X I (2 * k0_t8.val + 1) 16 0) ∗ Holds c y8 (Upper X I (liveE (2 * k0_t8.val + 1))) ∗ Holds c y2 (DotsTo (F := F) X I (2 * k0_t8.val + 1) 0))
      ⊢ wp frame (wpE (defs₀ (F := F)) Variants.none (c : Thread nD τ) none) Set.univ (Scf.Loop.for (k0_t31_loop k0_t8) (k0_t31_ok k0_t8) ⟨⟩ (k0_t31_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 v56)) (fun _ => iprop(Holds c y7 (Words X I (2 * k0_t8.val + 1) 16 0) ∗ Holds c y8 (Upper X I (liveE (2 * k0_t8.val + 1))) ∗ Holds c y2 (DotsTo (F := F) X I (2 * k0_t8.val + 1 + 1) 0))) := by
  have main := forInv (F := F) c (k0_t31_ok k0_t8) (fun k => iprop(Holds c y7 (Words X I (2 * k0_t8.val + 1) 16 0) ∗ Holds c y8 (Upper X I (liveE (2 * k0_t8.val + 1))) ∗ Holds c y2 (DotsTo (F := F) X I (2 * k0_t8.val + 1) k)))
    (fun t u => dots31 c y0 w0 w1 y2 w2 w3 y4 w4 y5 w5 y6 w6 y7 w7 y8 w8 y9 w9 y10 w10 X I k0_t8 v28 v32 v43 c1_i32_76 c0_i32_77 c1_i32_78 v50 v56 t u)
  rw [t31_trips k0_t8] at main
  exact main.trans (wp_mono _ _ _ fun _ => sep_mono .rfl (sep_mono .rfl (Holds.mono c fun O h => h.next)))

/-- Field 22's dots with every earlier field. -/
theorem allDots45 (X : Tab) (I : Ids)  :
    iprop(Holds c y7 (Words X I (22) 16 0) ∗ Holds c y8 (Upper X I (liveE (22))) ∗ Holds c y2 (DotsTo (F := F) X I (22) 0))
      ⊢ wp frame (wpE (defs₀ (F := F)) Variants.none (c : Thread nD τ) none) Set.univ (Scf.Loop.for k0_t45_loop k0_t45_ok ⟨⟩ (k0_t45_body (F := F) y0 w0 A1 w1 y2 w2 A3 w3 y4 w4 y5 w5 y6 w6 y7 w7 y8 w8 y9 w9 y10 w10 cc0_scratch8 cc0_scratch9 )) (fun _ => iprop(Holds c y7 (Words X I (22) 16 0) ∗ Holds c y8 (Upper X I (liveE (22))) ∗ Holds c y2 (DotsTo (F := F) X I (22 + 1) 0))) := by
  have main := forInv (F := F) c k0_t45_ok (fun k => iprop(Holds c y7 (Words X I (22) 16 0) ∗ Holds c y8 (Upper X I (liveE (22))) ∗ Holds c y2 (DotsTo (F := F) X I (22) k)))
    (fun t u => dots45 c y0 w0 w1 y2 w2 w3 y4 w4 y5 w5 y6 w6 y7 w7 y8 w8 y9 w9 y10 w10 X I  t u)
  rw [t45_trips] at main
  exact main.trans (wp_mono _ _ _ fun _ => sep_mono .rfl (sep_mono .rfl (Holds.mono c fun O h => h.next)))

/-- Field 23's dots with every earlier field. -/
theorem allDots51 (X : Tab) (I : Ids)  :
    iprop(Holds c y7 (Words X I (23) 16 0) ∗ Holds c y8 (Upper X I (liveE (23))) ∗ Holds c y2 (DotsTo (F := F) X I (23) 0))
      ⊢ wp frame (wpE (defs₀ (F := F)) Variants.none (c : Thread nD τ) none) Set.univ (Scf.Loop.for k0_t51_loop k0_t51_ok ⟨⟩ (k0_t51_body (F := F) y0 w0 A1 w1 y2 w2 A3 w3 y4 w4 y5 w5 y6 w6 y7 w7 y8 w8 y9 w9 y10 w10 cc0_scratch8 cc0_scratch9 )) (fun _ => iprop(Holds c y7 (Words X I (23) 16 0) ∗ Holds c y8 (Upper X I (liveE (23))) ∗ Holds c y2 (DotsTo (F := F) X I (23 + 1) 0))) := by
  have main := forInv (F := F) c k0_t51_ok (fun k => iprop(Holds c y7 (Words X I (23) 16 0) ∗ Holds c y8 (Upper X I (liveE (23))) ∗ Holds c y2 (DotsTo (F := F) X I (23) k)))
    (fun t u => dots51 c y0 w0 w1 y2 w2 w3 y4 w4 y5 w5 y6 w6 y7 w7 y8 w8 y9 w9 y10 w10 X I  t u)
  rw [t51_trips] at main
  exact main.trans (wp_mono _ _ _ fun _ => sep_mono .rfl (sep_mono .rfl (Holds.mono c fun O h => h.next)))

/-- Field 2 * k0_t8.val's words for the fields after it kept. -/
theorem allKept20 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(Holds c y7 (Words X I (2 * k0_t8.val) 16 0) ∗ Holds c y8 (Upper X I (liveE (2 * k0_t8.val))))
      ⊢ wp frame (wpE (defs₀ (F := F)) Variants.none (c : Thread nD τ) none) Set.univ (Scf.Loop.for (k0_t20_loop k0_t8) (k0_t20_ok k0_t8) ⟨⟩ (k0_t20_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50)) (fun _ => iprop(Holds c y7 (Words X I (2 * k0_t8.val) 16 0) ∗ Holds c y8 (Upper X I (liveE (2 * k0_t8.val + 1))))) := by
  have b8 : k0_t8.val < 11 := t8_trips ▸ k0_t8.isLt
  have main := forInv (F := F) c (k0_t20_ok k0_t8) (fun g => iprop(Holds c y7 (Words X I (2 * k0_t8.val) 16 0) ∗ Holds c y8 (Upper X I (liveG (2 * k0_t8.val) (2 * k0_t8.val + 1 + g) 0))))
    (body := k0_t20_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50) (fun t u => by
      have inner := forInv (F := F) c k0_t21_ok (fun w => iprop(Holds c y7 (Words X I (2 * k0_t8.val) 16 0) ∗ Holds c y8 (Upper X I (liveG (2 * k0_t8.val) (2 * k0_t8.val + 1 + t.val) w))))
        (fun w u => copy21 c y0 w0 w1 y2 w2 w3 y4 w4 y5 w5 y6 w6 y7 w7 y8 w8 y9 w9 y10 w10 X I k0_t8 v28 v32 v43 c1_i32_76 c0_i32_77 c1_i32_78 v50 t w u)
      rw [t21_trips] at inner
      unfold k0_t20_body
      refine andThen c inner (fun _ => BIBase.Entails.trans ?_ (done c _))
      exact sep_mono .rfl (Holds.mono c fun U h => h.next))
  rw [t20_trips k0_t8, show 2 * k0_t8.val + 1 + (23 - 2 * k0_t8.val) = 24 by omega] at main
  exact (sep_mono .rfl (Holds.mono c fun U h => h.enter)).trans (main.trans (wp_mono _ _ _ fun _ => sep_mono .rfl (Holds.mono c fun U h => h.leave)))

/-- Field 2 * k0_t8.val + 1's words for the fields after it kept. -/
theorem allKept35 (X : Tab) (I : Ids) (k0_t8 : Fin k0_t8_loop.trips) :
    iprop(Holds c y7 (Words X I (2 * k0_t8.val + 1) 16 0) ∗ Holds c y8 (Upper X I (liveE (2 * k0_t8.val + 1))))
      ⊢ wp frame (wpE (defs₀ (F := F)) Variants.none (c : Thread nD τ) none) Set.univ (Scf.Loop.for (k0_t35_loop k0_t8) (k0_t35_ok k0_t8) ⟨⟩ (k0_t35_body (F := F) y0 w0 A1 w1 y2 w2 A3 w3 y4 w4 y5 w5 y6 w6 y7 w7 y8 w8 y9 w9 y10 w10 cc0_scratch8 cc0_scratch9 k0_t8)) (fun _ => iprop(Holds c y7 (Words X I (2 * k0_t8.val + 1) 16 0) ∗ Holds c y8 (Upper X I (liveE (2 * k0_t8.val + 1 + 1))))) := by
  have b8 : k0_t8.val < 11 := t8_trips ▸ k0_t8.isLt
  have main := forInv (F := F) c (k0_t35_ok k0_t8) (fun g => iprop(Holds c y7 (Words X I (2 * k0_t8.val + 1) 16 0) ∗ Holds c y8 (Upper X I (liveG (2 * k0_t8.val + 1) (2 * k0_t8.val + 1 + 1 + g) 0))))
    (body := k0_t35_body (F := F) y0 w0 A1 w1 y2 w2 A3 w3 y4 w4 y5 w5 y6 w6 y7 w7 y8 w8 y9 w9 y10 w10 cc0_scratch8 cc0_scratch9 k0_t8) (fun t u => by
      have inner := forInv (F := F) c k0_t36_ok (fun w => iprop(Holds c y7 (Words X I (2 * k0_t8.val + 1) 16 0) ∗ Holds c y8 (Upper X I (liveG (2 * k0_t8.val + 1) (2 * k0_t8.val + 1 + 1 + t.val) w))))
        (fun w u => copy36 c y0 w0 w1 y2 w2 w3 y4 w4 y5 w5 y6 w6 y7 w7 y8 w8 y9 w9 y10 w10 X I k0_t8 t w u)
      rw [t36_trips] at inner
      unfold k0_t35_body
      refine andThen c inner (fun _ => BIBase.Entails.trans ?_ (done c _))
      exact sep_mono .rfl (Holds.mono c fun U h => h.next))
  rw [t35_trips k0_t8, show 2 * k0_t8.val + 1 + 1 + (22 - 2 * k0_t8.val) = 24 by omega] at main
  exact (sep_mono .rfl (Holds.mono c fun U h => h.enter)).trans (main.trans (wp_mono _ _ _ fun _ => sep_mono .rfl (Holds.mono c fun U h => h.leave)))

/-- Field 22's words for field 23 kept. -/
theorem allKept47 (X : Tab) (I : Ids) :
    iprop(Holds c y7 (Words X I 22 16 0) ∗ Holds c y8 (Upper X I (liveE 22)))
      ⊢ wp frame (wpE (defs₀ (F := F)) Variants.none (c : Thread nD τ) none) Set.univ (Scf.Loop.for k0_t47_loop k0_t47_ok ⟨⟩ (k0_t47_body (F := F) y0 w0 A1 w1 y2 w2 A3 w3 y4 w4 y5 w5 y6 w6 y7 w7 y8 w8 y9 w9 y10 w10 cc0_scratch8 cc0_scratch9 )) (fun _ => iprop(Holds c y7 (Words X I 22 16 0) ∗ Holds c y8 (Upper X I (liveE 23)))) := by
  have main := forInv (F := F) c k0_t47_ok (fun w => iprop(Holds c y7 (Words X I 22 16 0) ∗ Holds c y8 (Upper X I (liveG 22 23 w))))
    (fun w u => copy47 c y0 w0 w1 y2 w2 w3 y4 w4 y5 w5 y6 w6 y7 w7 y8 w8 y9 w9 y10 w10 X I w u)
  rw [t47_trips] at main
  exact (sep_mono .rfl (Holds.mono c fun U h => h.enter)).trans (main.trans (wp_mono _ _ _ fun _ => sep_mono .rfl (Holds.mono c fun U h => h.next.leave)))

/-- Field 23's rows picked. -/
theorem allPicked48 (X : Tab) (I : Ids) (hI : InField I) :
    iprop(Holds c y10 (RowIds I 16 0) ∗ Holds c y5 (Strip X 23 30208) ∗ Holds c y6 (fun _ => True))
      ⊢ wp frame (wpE (defs₀ (F := F)) Variants.none (c : Thread nD τ) none) Set.univ (Scf.Loop.for k0_t48_loop k0_t48_ok ⟨⟩ (k0_t48_body (F := F) y0 w0 A1 w1 y2 w2 A3 w3 y4 w4 y5 w5 y6 w6 y7 w7 y8 w8 y9 w9 y10 w10 cc0_scratch8 cc0_scratch9 )) (fun _ => iprop(Holds c y10 (RowIds I 16 0) ∗ Holds c y5 (Strip X 23 30208) ∗ Holds c y6 (Picked X I 23 2048))) := by
  have main := forInv (F := F) c k0_t48_ok (fun j => iprop(Holds c y10 (RowIds I 16 0) ∗ Holds c y5 (Strip X 23 30208) ∗ Holds c y6 (Picked X I 23 (512 * j))))
    (body := k0_t48_body (F := F) y0 w0 A1 w1 y2 w2 A3 w3 y4 w4 y5 w5 y6 w6 y7 w7 y8 w8 y9 w9 y10 w10 cc0_scratch8 cc0_scratch9) (fun t u => by
      have inner := forInv (F := F) c k0_t49_ok (fun p => iprop(Holds c y10 (RowIds I 16 0) ∗ Holds c y5 (Strip X 23 30208) ∗ Holds c y6 (Picked X I 23 (512 * t.val + p))))
        (fun p u => pick49 c y0 w0 w1 y2 w2 w3 y4 w4 y5 w5 y6 w6 y7 w7 y8 w8 y9 w9 y10 w10 X I hI t p u)
      rw [t49_trips] at inner
      unfold k0_t48_body
      exact andThen c inner (fun _ => done c _))
  rw [t48_trips] at main
  exact (sep_mono .rfl (sep_mono .rfl (Holds.mono c fun P _ => Picked.start P))).trans main

/-- The first half of a pair of fields: the odd field received while the even one is finished. -/
theorem half16 (X : Tab) (I : Ids) (hI : InField I) (c0_i32_8 c1_i32_9 : BitVec 32) (k0_t8 : Fin k0_t8_loop.trips) :
    iprop(bigSep Finset.univ (InFlight c X (2 * k0_t8.val + 1)) ∗ Owes c ∗ Holds c y4 (Strip X (2 * k0_t8.val) 30208) ∗ Holds c y5 (fun _ => True) ∗ Holds c y10 (RowIds I 16 0) ∗ Holds c y6 (fun _ => True) ∗ Holds c y7 (fun _ => True) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (k0_part16 (F := F) y0 w0 A1 w1 y2 w2 A3 w3 y4 w4 y5 w5 y6 w6 y7 w7 y8 w8 y9 w9 y10 w10 cc0_scratch8 cc0_scratch9 c0_i32_8 c1_i32_9 k0_t8) (fun _ => iprop(bigSep Finset.univ (InFlight c X (2 * k0_t8.val + 2)) ∗ Owes c ∗ Holds c y4 (fun _ => True) ∗ Holds c y5 (Strip X (2 * k0_t8.val + 1) 30208) ∗ Holds c y10 (RowIds I 16 0) ∗ Holds c y6 (fun _ => True) ∗ Holds c y7 (Words X I (2 * k0_t8.val) 16 0) ∗ Holds c y8 (Upper X I (liveE (2 * k0_t8.val))) ∗ Holds c y2 (DotsTo (F := F) X I (2 * k0_t8.val + 1) 0))) := by
  rw [k0_part16_eq_skeleton]; unfold k0_part16_skel
  iintro ⟨HF, HO, H4, H5, H10, H6, H7, H8, H2⟩
  ihave H5 := (Holds.mono c (M := y5) (fun a _ => Strip.start X (2 * k0_t8.val + 1) a)) $$ H5
  ihave H6 := (Holds.mono c (M := y6) (fun a _ => Picked.start (X := X) (I := I) (f := 2 * k0_t8.val) a)) $$ H6
  iapply (seqI c (chunks9 c y0 w0 w1 y2 w2 w3 y4 w4 y5 w5 y6 w6 y7 w7 y8 w8 y9 w9 y10 w10 X I hI c0_i32_8 c1_i32_9 k0_t8))
  isplitl [HF HO H5 H10 H4 H6]
  · isplitl [HF]; · iexact HF
    isplitl [HO]; · iexact HO
    isplitl [H5]; · iexact H5
    isplitl [H10]; · iexact H10
    isplitl [H4]; · iexact H4
    iexact H6
  iintro %_ ⟨HF, HO, H5, H10, H4, H6⟩
  iapply (seqI c (allWords15 c y0 w0 w1 y2 w2 w3 y4 w4 y5 w5 y6 w6 y7 w7 y8 w8 y9 w9 y10 w10 X I c0_i32_8 c1_i32_9 k0_t8))
  isplitl [H6 H7]
  · isplitl [H6]; · iexact H6
    iexact H7
  iintro %_ ⟨H6, H7⟩
  iapply (seqI c (allDots16 c y0 w0 w1 y2 w2 w3 y4 w4 y5 w5 y6 w6 y7 w7 y8 w8 y9 w9 y10 w10 X I c0_i32_8 c1_i32_9 k0_t8 _))
  isplitl [H7 H8 H2]
  · isplitl [H7]; · iexact H7
    isplitl [H8]; · iexact H8
    iexact H2
  iintro %_ ⟨H7, H8, H2⟩
  iapply (seqI c (forNone c _ (t18_trips _) iprop(emp)))
  isplitr; · iempintro
  iintro %_ -
  ihave H4 := (Holds.mono c (M := y4) (Q := (fun _ => True)) (fun _ _ => trivial)) $$ H4
  ihave H6 := (Holds.mono c (M := y6) (Q := (fun _ => True)) (fun _ _ => trivial)) $$ H6
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- The second half of a pair of fields: the next even field received while the odd one is finished. -/
theorem half17 (X : Tab) (I : Ids) (hI : InField I) (k0_t8 : Fin k0_t8_loop.trips) (v28 v32 v43 c1_i32_76 c0_i32_77 c1_i32_78 v50 : BitVec 32) :
    iprop(bigSep Finset.univ (InFlight c X (2 * k0_t8.val + 2)) ∗ Owes c ∗ Holds c y4 (fun _ => True) ∗ Holds c y5 (Strip X (2 * k0_t8.val + 1) 30208) ∗ Holds c y10 (RowIds I 16 0) ∗ Holds c y6 (fun _ => True) ∗ Holds c y7 (Words X I (2 * k0_t8.val) 16 0) ∗ Holds c y8 (Upper X I (liveE (2 * k0_t8.val))) ∗ Holds c y2 (DotsTo (F := F) X I (2 * k0_t8.val + 1) 0))
      ⊢ wp frame (wpE (defs₀ (F := F)) Variants.none (c : Thread nD τ) none) Set.univ (k0_part17 (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50) (fun _ => iprop(bigSep Finset.univ (InFlight c X (2 * k0_t8.val + 3)) ∗ Owes c ∗ Holds c y4 (Strip X (2 * k0_t8.val + 2) 30208) ∗ Holds c y5 (fun _ => True) ∗ Holds c y10 (RowIds I 16 0) ∗ Holds c y6 (fun _ => True) ∗ Holds c y7 (Words X I (2 * k0_t8.val + 1) 16 0) ∗ Holds c y8 (Upper X I (liveE (2 * k0_t8.val + 1))) ∗ Holds c y2 (DotsTo (F := F) X I (2 * k0_t8.val + 2) 0))) := by
  rw [k0_part17_eq_skeleton]; unfold k0_part17_skel
  iintro ⟨HF, HO, H4, H5, H10, H6, H7, H8, H2⟩
  iapply (seqI c (allKept20 c y0 w0 w1 y2 w2 w3 y4 w4 y5 w5 y6 w6 y7 w7 y8 w8 y9 w9 y10 w10 X I k0_t8 v28 v32 v43 c1_i32_76 c0_i32_77 c1_i32_78 v50))
  isplitl [H7 H8]
  · isplitl [H7]; · iexact H7
    iexact H8
  iintro %_ ⟨H7, H8⟩
  iapply (seqI c (forNone c _ (t22_trips _) iprop(emp)))
  isplitr; · iempintro
  iintro %_ -
  ihave H4 := (Holds.mono c (M := y4) (fun a _ => Strip.start X (2 * k0_t8.val + 2) a)) $$ H4
  ihave H6 := (Holds.mono c (M := y6) (fun a _ => Picked.start (X := X) (I := I) (f := 2 * k0_t8.val + 1) a)) $$ H6
  ihave H7 := (Holds.mono c (M := y7) (Q := (fun _ => True)) (fun _ _ => trivial)) $$ H7
  iapply (seqI c (chunks24 c y0 w0 w1 y2 w2 w3 y4 w4 y5 w5 y6 w6 y7 w7 y8 w8 y9 w9 y10 w10 X I hI k0_t8 v28 v32 v43 c1_i32_76 c0_i32_77 c1_i32_78 v50))
  isplitl [HF HO H4 H10 H5 H6]
  · isplitl [HF]; · iexact HF
    isplitl [HO]; · iexact HO
    isplitl [H4]; · iexact H4
    isplitl [H10]; · iexact H10
    isplitl [H5]; · iexact H5
    iexact H6
  iintro %_ ⟨HF, HO, H4, H10, H5, H6⟩
  iapply (seqI c (allWords30 c y0 w0 w1 y2 w2 w3 y4 w4 y5 w5 y6 w6 y7 w7 y8 w8 y9 w9 y10 w10 X I k0_t8 v28 v32 v43 c1_i32_76 c0_i32_77 c1_i32_78 v50))
  isplitl [H6 H7]
  · isplitl [H6]; · iexact H6
    iexact H7
  iintro %_ ⟨H6, H7⟩
  iapply (seqI c (allDots31 c y0 w0 w1 y2 w2 w3 y4 w4 y5 w5 y6 w6 y7 w7 y8 w8 y9 w9 y10 w10 X I k0_t8 v28 v32 v43 c1_i32_76 c0_i32_77 c1_i32_78 v50 _))
  isplitl [H7 H8 H2]
  · isplitl [H7]; · iexact H7
    isplitl [H8]; · iexact H8
    iexact H2
  iintro %_ ⟨H7, H8, H2⟩
  iapply (seqI c (forNone c _ (t33_trips _) iprop(emp)))
  isplitr; · iempintro
  iintro %_ -
  ihave H5 := (Holds.mono c (M := y5) (Q := (fun _ => True)) (fun _ _ => trivial)) $$ H5
  ihave H6 := (Holds.mono c (M := y6) (Q := (fun _ => True)) (fun _ _ => trivial)) $$ H6
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- A pair of fields. -/
theorem pair8 (X : Tab) (I : Ids) (hI : InField I) (k0_t8 : Fin k0_t8_loop.trips) (u0 : Unit) :
    iprop(bigSep Finset.univ (InFlight c X (2 * k0_t8.val + 1)) ∗ Owes c ∗ Holds c y4 (Strip X (2 * k0_t8.val) 30208) ∗ Holds c y5 (fun _ => True) ∗ Holds c y10 (RowIds I 16 0) ∗ Holds c y6 (fun _ => True) ∗ Holds c y7 (fun _ => True) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (k0_t8_body (F := F) y0 w0 A1 w1 y2 w2 A3 w3 y4 w4 y5 w5 y6 w6 y7 w7 y8 w8 y9 w9 y10 w10 cc0_scratch8 cc0_scratch9 k0_t8 u0) (fun _ => iprop(bigSep Finset.univ (InFlight c X (2 * (k0_t8.val + 1) + 1)) ∗ Owes c ∗ Holds c y4 (Strip X (2 * (k0_t8.val + 1)) 30208) ∗ Holds c y5 (fun _ => True) ∗ Holds c y10 (RowIds I 16 0) ∗ Holds c y6 (fun _ => True) ∗ Holds c y7 (fun _ => True) ∗ Holds c y8 (Upper X I (liveE (2 * (k0_t8.val + 1)))) ∗ Holds c y2 (DotsTo (F := F) X I (2 * (k0_t8.val + 1)) 0))) := by
  unfold k0_t8_body
  refine andThen c (half16 c y0 w0 w1 y2 w2 w3 y4 w4 y5 w5 y6 w6 y7 w7 y8 w8 y9 w9 y10 w10 X I hI _ _ k0_t8) (fun r => ?_)
  obtain ⟨v28, v32, v43, c1_i32_76, c0_i32_77, c1_i32_78, v50⟩ := r
  refine andThen c (half17 c y0 w0 w1 y2 w2 w3 y4 w4 y5 w5 y6 w6 y7 w7 y8 w8 y9 w9 y10 w10 X I hI k0_t8 v28 v32 v43 c1_i32_76 c0_i32_77 c1_i32_78 v50) (fun r => ?_)
  obtain ⟨v56, v67, c1_i32_107, c0_i32_108, v72, c1_i32_109⟩ := r
  iintro ⟨HF, HO, H4, H5, H10, H6, H7, H8, H2⟩
  iapply (seqI c (allKept35 c y0 w0 w1 y2 w2 w3 y4 w4 y5 w5 y6 w6 y7 w7 y8 w8 y9 w9 y10 w10 X I k0_t8))
  isplitl [H7 H8]
  · isplitl [H7]; · iexact H7
    iexact H8
  iintro %_ ⟨H7, H8⟩
  iapply (seqI c (forNone c _ (t37_trips _) iprop(emp)))
  isplitr; · iempintro
  iintro %_ -
  ihave H7 := (Holds.mono c (M := y7) (Q := (fun _ => True)) (fun _ _ => trivial)) $$ H7
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- Eleven pairs of fields. -/
theorem pairs8 (X : Tab) (I : Ids) (hI : InField I) :
    iprop(bigSep Finset.univ (InFlight c X (0 + 1)) ∗ Owes c ∗ Holds c y4 (Strip X (0) 30208) ∗ Holds c y5 (fun _ => True) ∗ Holds c y10 (RowIds I 16 0) ∗ Holds c y6 (fun _ => True) ∗ Holds c y7 (fun _ => True) ∗ Holds c y8 (Upper X I (liveE (0))) ∗ Holds c y2 (DotsTo (F := F) X I (0) 0))
      ⊢ wp frame (wpE (defs₀ (F := F)) Variants.none (c : Thread nD τ) none) Set.univ (Scf.Loop.for k0_t8_loop k0_t8_ok ⟨⟩ (k0_t8_body (F := F) y0 w0 A1 w1 y2 w2 A3 w3 y4 w4 y5 w5 y6 w6 y7 w7 y8 w8 y9 w9 y10 w10 cc0_scratch8 cc0_scratch9 )) (fun _ => iprop(bigSep Finset.univ (InFlight c X (22 + 1)) ∗ Owes c ∗ Holds c y4 (Strip X (22) 30208) ∗ Holds c y5 (fun _ => True) ∗ Holds c y10 (RowIds I 16 0) ∗ Holds c y6 (fun _ => True) ∗ Holds c y7 (fun _ => True) ∗ Holds c y8 (Upper X I (liveE (22))) ∗ Holds c y2 (DotsTo (F := F) X I (22) 0))) := by
  have main := forInv (F := F) c k0_t8_ok (fun i => iprop(bigSep Finset.univ (InFlight c X (2 * i + 1)) ∗ Owes c ∗ Holds c y4 (Strip X (2 * i) 30208) ∗ Holds c y5 (fun _ => True) ∗ Holds c y10 (RowIds I 16 0) ∗ Holds c y6 (fun _ => True) ∗ Holds c y7 (fun _ => True) ∗ Holds c y8 (Upper X I (liveE (2 * i))) ∗ Holds c y2 (DotsTo (F := F) X I (2 * i) 0))) (fun t u => pair8 c y0 w0 w1 y2 w2 w3 y4 w4 y5 w5 y6 w6 y7 w7 y8 w8 y9 w9 y10 w10 X I hI t u)
  rw [t8_trips] at main
  exact main

end Cert.Proof.Dots

end
-- ==== Proof.DotsIds.lean ====
module

public import proofs.«01_k».proof.Proof.DotsBase
public import proofs.«01_k».proof.Proof.DotsStart
public import proofs.«01_k».proof.Proof.DotsMath

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

theorem off4_all : ∀ (k : Fin k0_t3_loop.trips), (k0_off4 k) 0 = k.val % 8 ∧ (k0_off4 k) 1 = 0 ∧ (k0_off4 k) 2 = k.val / 8 * 128 := by decide +kernel
theorem off6_all : ∀ (k : Fin k0_t3_loop.trips), (k0_off6 k) 0 = k.val % 8 ∧ (k0_off6 k) 1 = 8 ∧ (k0_off6 k) 2 = k.val / 8 * 128 := by decide +kernel
theorem off7_all : ∀ (k : Fin k0_t3_loop.trips), (k0_off7 k) 0 = k.val % 8 ∧ (k0_off7 k) 1 = 16 ∧ (k0_off7 k) 2 = k.val / 8 * 128 := by decide +kernel
theorem off5_all : ∀ (k : Fin k0_t3_loop.trips) (q : Fin 3), (k0_off5 k (BitVec.ofNat 32 (128 * q.val))) 0 = 128 * q.val + k.val ∧ (k0_off5 k (BitVec.ofNat 32 (128 * q.val))) 1 = 0 := by decide +kernel

/-- The rows of fields. -/
abbrev rowIota : IVec S8x128 32 := iota .tc S8x128 32 [0] iota_S8x128_d0_w32

theorem first_pay0 : ∀ (s : Fin 8) (l : Fin 128), k0_pay6 rowIota (ValueIdx.ix2 s l) = BitVec.ofNat 32 (first (8 * 0 + s.val)) := by decide +kernel
theorem first_pay1 : ∀ (s : Fin 8) (l : Fin 128), k0_pay9 rowIota (ValueIdx.ix2 s l) = BitVec.ofNat 32 (first (8 * 1 + s.val)) := by decide +kernel
theorem first_pay2 : ∀ (s : Fin 8) (l : Fin 128), k0_pay12 rowIota (ValueIdx.ix2 s l) = BitVec.ofNat 32 (first (8 * 2 + s.val)) := by decide +kernel

/-- A block of ids read from the window. -/
theorem ids_read (I : Ids) (k tt : ℕ) (hk : k < 16) (htt : tt < 3) (f0 : BufTy.Contents (Elt F) y0.view.ty) (h0 : y0.view.read (Elt F) f0 = I) {o : Fin 3 → ℕ} (ho : o 0 = k % 8 ∧ o 1 = 8 * tt ∧ o 2 = k / 8 * 128) (inb)
    (s : Fin 8) (l : Fin 128) : y0.view.readAt (Elt F) (Rect.unit (s := S8x24x256) o S1x8x128.size inb).toLoadRect f0 (ValueIdx.ix3 (0 : Fin 1) s l) = idAt I (8 * tt + s.val) (k * 128 + l.val) := by
  rw [View.readAt_apply, h0]
  have e3 := Idealize.ShloMosaic.ValueKit.rect_emb_unit_val (s := S8x24x256) o S1x8x128.size inb (ValueIdx.ix3 (0 : Fin 1) s l)
  show I ((Rect.unit (s := S8x24x256) o S1x8x128.size inb).emb (ValueIdx.ix3 (0 : Fin 1) s l)) = _
  unfold idAt
  have hs := s.isLt
  have hl := l.isLt
  refine congrArg I (funext fun a => Fin.ext ?_)
  fin_cases a
  · refine (e3 0).trans ?_
    show o 0 + 0 = (k * 128 + l.val) / 128 % 8
    rw [ho.1]; omega
  · refine (e3 1).trans ?_
    show o 1 + s.val = (8 * tt + s.val) % 24
    rw [ho.2.1]; omega
  · refine (e3 2).trans ?_
    show o 2 + l.val = ((k * 128 + l.val) / 1024 % 2) * 128 + (k * 128 + l.val) % 128
    rw [ho.2.2]; omega

theorem ids_pay (I : Ids) (k tt : ℕ) (V : S1x8x128.Idx → BitVec 32) (P : IVec S8x128 32) (hV : ∀ (s : Fin 8) (l : Fin 128), V (ValueIdx.ix3 (0 : Fin 1) s l) = idAt I (8 * tt + s.val) (k * 128 + l.val))
    (hP : ∀ (s : Fin 8) (l : Fin 128), P (ValueIdx.ix2 s l) = BitVec.ofNat 32 (first (8 * tt + s.val))) (h1) (h2) (s : Fin 8) (l : Fin 128) :
    shapeCast S8x128 (subi (shapeCast S8x128 V h1) P) h2 (ValueIdx.ix2 s l) = idAt I (8 * tt + s.val) (k * 128 + l.val) - BitVec.ofNat 32 (first (8 * tt + s.val)) := by
  rw [shapeCast_self]
  show shapeCast S8x128 V h1 (ValueIdx.ix2 s l) - P (ValueIdx.ix2 s l) = _
  rw [hP]
  refine congrArg (· - _) ?_
  exact (ValueIdx.shapeCast_1ab_ab_apply V h1 s l).trans (hV s l)

/-- One block of ids made rows of their strips. -/
theorem ids3 (I : Ids) (k0_t3 : Fin k0_t3_loop.trips) (u0 : Unit) :
    iprop(Holds c y0 (fun a => a = I) ∗ Holds c y9 (RowIds I k0_t3.val 0))
      ⊢ wp frame (wpE (defs₀ (F := F)) Variants.none (c : Thread nD τ) none) Set.univ (k0_t3_body (F := F) y0 w0 A1 w1 y2 w2 A3 w3 y4 w4 y5 w5 y6 w6 y7 w7 y8 w8 y9 w9 y10 w10 cc0_scratch8 cc0_scratch9 rowIota k0_t3 u0)
        (fun _ => iprop(Holds c y0 (fun a => a = I) ∗ Holds c y9 (RowIds I (k0_t3.val + 1) 0))) := by
  have b3 : k0_t3.val < 16 := t3_trips ▸ k0_t3.isLt
  unfold k0_t3_body Holds
  rw [k0_part1_eq_skeleton, k0_part2_eq_skeleton, k0_part3_eq_skeleton]
  unfold k0_part1_skel k0_part2_skel k0_part3_skel
  iintro ⟨⟨%f0, H0, %h0⟩, ⟨%f9, H9, %h9⟩⟩
  sl_exec
  sl_step
  isplitl [H0]
  · iexists _; isplitl [H0]; · iexact H0
    ipureintro; exact h0
  iexists _; isplitl [H9]; · iexact H9
  ipureintro
  refine RowIds.next ?_
  refine RowIds.step (F := F) (tt := 2) b3 (by decide) ?_ (of2 (off5_all k0_t3 2)) (ids_pay I k0_t3.val 2 _ _ (ids_read y0 I k0_t3.val 2 b3 (by decide) f0 h0 (off7_all k0_t3) _) first_pay2 _ _)
  refine RowIds.step (F := F) (tt := 1) b3 (by decide) ?_ (of2 (off5_all k0_t3 1)) (ids_pay I k0_t3.val 1 _ _ (ids_read y0 I k0_t3.val 1 b3 (by decide) f0 h0 (off6_all k0_t3) _) first_pay1 _ _)
  refine RowIds.step (F := F) (tt := 0) (L := []) b3 (by decide) ?_ (of2 (off5_all k0_t3 0)) (ids_pay I k0_t3.val 0 _ _ (ids_read y0 I k0_t3.val 0 b3 (by decide) f0 h0 (off4_all k0_t3) _) first_pay0 _ _)
  exact h9

/-- All sixteen blocks. -/
theorem allIds3 (I : Ids) :
    iprop(Holds c y0 (fun a => a = I) ∗ Holds c y9 (fun _ => True))
      ⊢ wp frame (wpE (defs₀ (F := F)) Variants.none (c : Thread nD τ) none) Set.univ (Scf.Loop.for k0_t3_loop k0_t3_ok ⟨⟩ (k0_t3_body (F := F) y0 w0 A1 w1 y2 w2 A3 w3 y4 w4 y5 w5 y6 w6 y7 w7 y8 w8 y9 w9 y10 w10 cc0_scratch8 cc0_scratch9 rowIota))
        (fun _ => iprop(Holds c y0 (fun a => a = I) ∗ Holds c y9 (RowIds I 16 0))) := by
  have main := forInv (F := F) c k0_t3_ok (fun k => iprop(Holds c y0 (fun a => a = I) ∗ Holds c y9 (RowIds I k 0)))
    (fun t u => ids3 c y0 w0 w1 y2 w2 w3 y4 w4 y5 w5 y6 w6 y7 w7 y8 w8 y9 w9 y10 w10 I t u)
  rw [t3_trips] at main
  exact (sep_mono .rfl (Holds.mono c fun B _ => RowIds.start B)).trans main

/-- The ids copied into scalar memory. -/
theorem idsCopy {β : Type} (I : Ids) (h1) (h2) (h3) (h4) (h5) (k : PUnit → Prog (TpuEff nD τ sig (Elt F) Λ₀ .tc) β) (Q : β → sProp 𝕄) :
    iprop(Owes c ∗ semVal ((c : Thread nD τ), SemLoc.dma cc0_scratch9.sem) 0 ∗ Holds c y9 (RowIds I 16 0) ∗ Holds c y10 (fun _ => True)
      ∗ (iprop(Owes c ∗ semVal ((c : Thread nD τ), SemLoc.dma cc0_scratch9.sem) 0 ∗ Holds c y9 (RowIds I 16 0) ∗ Holds c y10 (RowIds I 16 0)) -∗ wp frame (wpE (defs₀ (F := F)) Variants.none (c : Thread nD τ) none) Set.univ (k ⟨⟩) Q))
      ⊢ wp frame (wpE (defs₀ (F := F)) Variants.none (c : Thread nD τ) none) Set.univ (Prog.lift (.enqueueDma y9 (.here y10) (.dma cc0_scratch9.sem) h1 h2 h3) >>= fun _ => Prog.lift (.waitDma2 cc0_scratch9.sem y9 y10 h4 h5) >>= k) Q := by
  unfold Holds
  iintro ⟨⟨%W, HO⟩, Hs, ⟨%f9, H9, %h9⟩, ⟨%f10, H10, %h10⟩, Hk⟩
  sl_exec
  iapply Hk
  isplitl [HO]; · iexists _; iexact HO
  isplitl [Hs]; · iexact Hs
  isplitl [H9]
  · iexists _; isplitl [H9]; · iexact H9
    ipureintro; exact h9
  iexists _; isplitl [H10]; · iexact H10
  ipureintro
  rw [View.read_writes_whole]
  exact h9

end Cert.Proof.Dots

end
-- ==== Proof.DotsKernel.lean ====
module

public import proofs.«01_k».proof.Proof.DotsBase
public import proofs.«01_k».proof.Proof.DotsFields
public import proofs.«01_k».proof.Proof.DotsIds

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole kernel -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- The first field's copies started, all four chunks. -/
theorem startAll (X : Tab) (g : S4x480x7552.Idx → Elt F .i8) :
    bigSep Finset.univ (fun j => Home c X j g)
      ⊢ wp frame (wpE (defs₀ (F := F)) Variants.none (c : Thread nD τ) none) Set.univ (Scf.Loop.for k0_t1_loop k0_t1_ok ⟨⟩ (k0_t1_body (F := F) y0 w0 A1 w1 y2 w2 A3 w3 y4 w4 y5 w5 y6 w6 y7 w7 y8 w8 y9 w9 y10 w10 cc0_scratch8 cc0_scratch9))
        (fun _ => bigSep Finset.univ (InFlight c X 0)) := by
  have main := four_loop (F := F) c k0_t1_ok t1_trips (fun j => Home c X j g) (InFlight c X 0) (fun _ => iprop(emp))
    (body := k0_t1_body (F := F) y0 w0 A1 w1 y2 w2 A3 w3 y4 w4 y5 w5 y6 w6 y7 w7 y8 w8 y9 w9 y10 w10 cc0_scratch8 cc0_scratch9) (fun t u => by
      unfold k0_t1_body
      iintro ⟨H, -⟩
      iapply (seqI c (start_loop c X 0 (t.cast t1_trips) g k0_t2_ok t2_trips (fun r u => start2 c y0 w0 w1 y2 w2 w3 y4 w4 y5 w5 y6 w6 y7 w7 y8 w8 y9 w9 y10 w10 X (t.cast t1_trips) g t r rfl u)))
      isplitl [H]; · iexact H
      iintro %_ H
      iapply (done c)
      isplitl [H]; · iexact H
      iempintro)
  iintro H
  iapply wp_wand_r
  isplitl [H]
  · iapply main
    isplitl [H]; · iexact H
    iempintro
  iintro %_ ⟨H, -⟩
  iexact H

/-- The kernel up to the last field: its row ids, the first twenty-three fields' pairs, the last field's strip. -/
theorem part26Run (X : Tab) (I : Ids) (hI : InField I) (g : S4x480x7552.Idx → Elt F .i8) :
    iprop(bigSep Finset.univ (fun j => Home c X j g) ∗ Owes c ∗ semVal ((c : Thread nD τ), SemLoc.dma cc0_scratch9.sem) 0
      ∗ Holds c y0 (fun a => a = I) ∗ Holds c y2 (fun _ => True) ∗ Holds c y4 (fun _ => True) ∗ Holds c y5 (fun _ => True) ∗ Holds c y6 (fun _ => True)
      ∗ Holds c y7 (fun _ => True) ∗ Holds c y8 (fun _ => True) ∗ Holds c y9 (fun _ => True) ∗ Holds c y10 (fun _ => True))
      ⊢ wp frame (wpE (defs₀ (F := F)) Variants.none (c : Thread nD τ) none) Set.univ (k0_part26 (F := F) y0 w0 A1 w1 y2 w2 A3 w3 y4 w4 y5 w5 y6 w6 y7 w7 y8 w8 y9 w9 y10 w10 cc0_scratch8 cc0_scratch9)
        (fun _ => iprop(bigSep Finset.univ (fun j => Home c X j (stripBuf X 23)) ∗ Owes c ∗ semVal ((c : Thread nD τ), SemLoc.dma cc0_scratch9.sem) 0
          ∗ Holds c y0 (fun a => a = I) ∗ Holds c y2 (DotsTo (F := F) X I 23 0) ∗ Holds c y4 (fun _ => True) ∗ Holds c y5 (Strip X 23 30208) ∗ Holds c y6 (fun _ => True)
          ∗ Holds c y7 (Words X I 22 16 0) ∗ Holds c y8 (Upper X I (liveE 22)) ∗ Holds c y9 (fun _ => True) ∗ Holds c y10 (RowIds I 16 0))) := by
  rw [k0_part26_eq_skeleton]; unfold k0_part26_skel
  iintro ⟨HF, HO, Hs, H0, H2, H4, H5, H6, H7, H8, H9, H10⟩
  iapply (seqI c (startAll c y0 w0 w1 y2 w2 w3 y4 w4 y5 w5 y6 w6 y7 w7 y8 w8 y9 w9 y10 w10 X g))
  isplitl [HF]
  · iexact HF
  iintro %_ HF
  iapply (seqI c (allIds3 c y0 w0 w1 y2 w2 w3 y4 w4 y5 w5 y6 w6 y7 w7 y8 w8 y9 w9 y10 w10 I))
  isplitl [H0 H9]
  · isplitl [H0]; · iexact H0
    iexact H9
  iintro %_ ⟨H0, H9⟩
  iapply (idsCopy c y9 y10 I _ _ _ _ _)
  isplitl [HO]; · iexact HO
  isplitl [Hs]; · iexact Hs
  isplitl [H9]; · iexact H9
  isplitl [H10]; · iexact H10
  iintro ⟨HO, Hs, H9, H10⟩
  ihave H4 := (Holds.mono (F := F) c fun A _ => Strip.start X 0 A) $$ H4
  iapply (seqI c (chunks4 c y0 w0 w1 y2 w2 w3 y4 w4 y5 w5 y6 w6 y7 w7 y8 w8 y9 w9 y10 w10 X))
  isplitl [HF HO H4]
  · isplitl [HF]; · iexact HF
    isplitl [HO]; · iexact HO
    iexact H4
  iintro %_ ⟨HF, HO, H4⟩
  ihave H8 := (Holds.mono (F := F) c fun A _ => Upper.none (X := X) (I := I) A) $$ H8
  ihave H2 := (Holds.mono (F := F) c fun A _ => DotsTo.none (X := X) (I := I) A) $$ H2
  iapply (seqI c (pairs8 c y0 w0 w1 y2 w2 w3 y4 w4 y5 w5 y6 w6 y7 w7 y8 w8 y9 w9 y10 w10 X I hI))
  isplitl [HF HO H4 H5 H10 H6 H7 H8 H2]
  · isplitl [HF]; · iexact HF
    isplitl [HO]; · iexact HO
    isplitl [H4]; · iexact H4
    isplitl [H5]; · iexact H5
    isplitl [H10]; · iexact H10
    isplitl [H6]; · iexact H6
    isplitl [H7]; · iexact H7
    isplitl [H8]; · iexact H8
    iexact H2
  iintro %_ ⟨HF, HO, H4, H5, H10, H6, H7, H8, H2⟩
  ihave H5 := (Holds.mono (F := F) c fun A _ => Strip.start X 23 A) $$ H5
  ihave H6 := (Holds.mono (F := F) c fun A _ => Picked.start (X := X) (I := I) (f := 22) A) $$ H6
  iapply (seqI c (chunks39 c y0 w0 w1 y2 w2 w3 y4 w4 y5 w5 y6 w6 y7 w7 y8 w8 y9 w9 y10 w10 X I hI))
  isplitl [HF HO H5 H10 H4 H6]
  · isplitl [HF]; · iexact HF
    isplitl [HO]; · iexact HO
    isplitl [H5]; · iexact H5
    isplitl [H10]; · iexact H10
    isplitl [H4]; · iexact H4
    iexact H6
  iintro %_ ⟨HF, HO, H5, H10, H4, H6⟩
  iapply (seqI c (allWords44 c y0 w0 w1 y2 w2 w3 y4 w4 y5 w5 y6 w6 y7 w7 y8 w8 y9 w9 y10 w10 X I))
  isplitl [H6 H7]
  · isplitl [H6]; · iexact H6
    iexact H7
  iintro %_ ⟨H6, H7⟩
  iapply (seqI c (allDots45 c y0 w0 w1 y2 w2 w3 y4 w4 y5 w5 y6 w6 y7 w7 y8 w8 y9 w9 y10 w10 X I))
  isplitl [H7 H8 H2]
  · isplitl [H7]; · iexact H7
    isplitl [H8]; · iexact H8
    iexact H2
  iintro %_ ⟨H7, H8, H2⟩
  iapply (done c)
  isplitl [HF]; · iexact HF
  isplitl [HO]; · iexact HO
  isplitl [Hs]; · iexact Hs
  isplitl [H0]; · iexact H0
  isplitl [H2]; · iexact H2
  isplitl [H4]; · iapply (Holds.mono (F := F) c fun _ _ => trivial) $$ H4
  isplitl [H5]; · iexact H5
  isplitl [H6]; · iapply (Holds.mono (F := F) c fun _ _ => trivial) $$ H6
  isplitl [H7]; · iexact H7
  isplitl [H8]; · iexact H8
  isplitl [H9]; · iapply (Holds.mono (F := F) c fun _ _ => trivial) $$ H9
  iexact H10

/-- The whole kernel: from the table and the ids, every pair's dot product. -/
theorem kernelRun (X : Tab) (I : Ids) (hI : InField I) (g : S4x480x7552.Idx → Elt F .i8) :
    iprop(bigSep Finset.univ (fun j => Home c X j g) ∗ Owes c ∗ semVal ((c : Thread nD τ), SemLoc.dma cc0_scratch9.sem) 0
      ∗ Holds c y0 (fun a => a = I) ∗ Holds c y2 (fun _ => True) ∗ Holds c y4 (fun _ => True) ∗ Holds c y5 (fun _ => True) ∗ Holds c y6 (fun _ => True)
      ∗ Holds c y7 (fun _ => True) ∗ Holds c y8 (fun _ => True) ∗ Holds c y9 (fun _ => True) ∗ Holds c y10 (fun _ => True))
      ⊢ wp frame (wpE (defs₀ (F := F)) Variants.none (c : Thread nD τ) none) Set.univ (cc0_ffm_dots (F := F) y0 w0 A1 w1 y2 w2 A3 w3 y4 w4 y5 w5 y6 w6 y7 w7 y8 w8 y9 w9 y10 w10 cc0_scratch8 cc0_scratch9)
        (fun _ => iprop(bigSep Finset.univ (fun j => Home c X j (stripBuf X 23)) ∗ Owes c ∗ semVal ((c : Thread nD τ), SemLoc.dma cc0_scratch9.sem) 0
          ∗ Holds c y0 (fun a => a = I) ∗ Holds c y2 (DotsTo (F := F) X I 24 0) ∗ Holds c y4 (fun _ => True) ∗ Holds c y5 (fun _ => True) ∗ Holds c y6 (fun _ => True)
          ∗ Holds c y7 (fun _ => True) ∗ Holds c y8 (fun _ => True) ∗ Holds c y9 (fun _ => True) ∗ Holds c y10 (fun _ => True))) := by
  rw [cc0_ffm_dots_eq_skeleton]; unfold cc0_ffm_dots_skel
  refine andThen c (part26Run c y0 w0 w1 y2 w2 w3 y4 w4 y5 w5 y6 w6 y7 w7 y8 w8 y9 w9 y10 w10 X I hI g) fun r => ?_
  obtain ⟨v9, v10, v13, v12⟩ := r
  iintro ⟨HF, HO, Hs, H0, H2, H4, H5, H6, H7, H8, H9, H10⟩
  iapply (seqI c (allKept47 c y0 w0 w1 y2 w2 w3 y4 w4 y5 w5 y6 w6 y7 w7 y8 w8 y9 w9 y10 w10 X I))
  isplitl [H7 H8]
  · isplitl [H7]; · iexact H7
    iexact H8
  iintro %_ ⟨H7, H8⟩
  iapply (seqI c (allPicked48 c y0 w0 w1 y2 w2 w3 y4 w4 y5 w5 y6 w6 y7 w7 y8 w8 y9 w9 y10 w10 X I hI))
  isplitl [H10 H5 H6]
  · isplitl [H10]; · iexact H10
    isplitl [H5]; · iexact H5
    iexact H6
  iintro %_ ⟨H10, H5, H6⟩
  ihave H7 := (Holds.mono (F := F) c (Q := fun _ => True) fun _ _ => trivial) $$ H7
  iapply (seqI c (allWords50 c y0 w0 w1 y2 w2 w3 y4 w4 y5 w5 y6 w6 y7 w7 y8 w8 y9 w9 y10 w10 X I))
  isplitl [H6 H7]
  · isplitl [H6]; · iexact H6
    iexact H7
  iintro %_ ⟨H6, H7⟩
  iapply (seqI c (allDots51 c y0 w0 w1 y2 w2 w3 y4 w4 y5 w5 y6 w6 y7 w7 y8 w8 y9 w9 y10 w10 X I))
  isplitl [H7 H8 H2]
  · isplitl [H7]; · iexact H7
    isplitl [H8]; · iexact H8
    iexact H2
  iintro %_ ⟨H7, H8, H2⟩
  iapply (done c)
  isplitl [HF]; · iexact HF
  isplitl [HO]; · iexact HO
  isplitl [Hs]; · iexact Hs
  isplitl [H0]; · iexact H0
  isplitl [H2]; · iexact H2
  isplitl [H4]; · iexact H4
  isplitl [H5]; · iapply (Holds.mono (F := F) c fun _ _ => trivial) $$ H5
  isplitl [H6]; · iapply (Holds.mono (F := F) c fun _ _ => trivial) $$ H6
  isplitl [H7]; · iapply (Holds.mono (F := F) c fun _ _ => trivial) $$ H7
  isplitl [H8]; · iapply (Holds.mono (F := F) c fun _ _ => trivial) $$ H8
  isplitl [H9]; · iexact H9
  iapply (Holds.mono (F := F) c fun _ _ => trivial) $$ H10

end Cert.Proof.Dots

end
-- ==== Proof.DotsOut.lean ====
module

public import proofs.«01_k».proof.Proof.DotsMath
public import Mathlib.Tactic.FinCases
public import Mathlib.Tactic.IntervalCases
public import Idealize.ShloMosaic.Lib.VecWindow
public import Idealize.ShloMosaic.Lib.WritesUnit
public import Idealize.ShloMosaic.Lib.ValueLayout
public import Idealize.ShloMosaic.Lib.BitcastFour
public import Idealize.ShloMosaic.Lib.Pointwise
public import Idealize.ShloMosaic.Lib.Exec

@[expose] public section

/-! # What the dots kernel's buffers hold, and how each store extends it -/

noncomputable section

namespace Cert.Proof.DotsMath

open Idealize.ShloMosaic

variable {F : FTy → Type} [FloatOps F]

/-- The first field of pair number `p`. -/
def pFst (p : ℕ) : ℕ := ((List.range 23).filter fun f => (f + 1) * (46 - f) / 2 ≤ p).length
/-- The second field of pair number `p`. -/
def pSnd (p : ℕ) : ℕ := p + pFst p + 1 - pFst p * (47 - pFst p) / 2

/-- Every pair number is the number of its two fields. -/
theorem pair_of : ∀ p : Fin 276, pFst p.val < pSnd p.val ∧ pSnd p.val < 24 ∧ pairIdx (pFst p.val) (pSnd p.val) = p.val := by decide +kernel

/-- What the array of dots holds at the end. -/
def outAll (X : Tab) (I : Ids) : (⟨2, ![4416, 128]⟩ : Shape).Idx → Elt F .f32 := fun i =>
  sitofp (F := F) .f32 (accum X I (pFst ((i 0).val / 16)) (pSnd ((i 0).val / 16)) 5)
    (ValueIdx.ix2 (⟨(i 0).val % 16, Nat.mod_lt _ (by decide)⟩ : Fin 16) (i 1))

/-- With every dot in place the array is the array of dots. -/
theorem DotsTo.all {X : Tab} {I : Ids} {O : (⟨2, ![4416, 128]⟩ : Shape).Idx → Elt F .f32} (h : DotsTo X I 24 0 O) : O = outAll X I := by
  funext i
  obtain ⟨a, l, rfl⟩ : ∃ (a : Fin 4416) (l : Fin 128), i = ValueIdx.ix2 a l := ⟨i 0, i 1, ValueIdx.eq_ix2 i⟩
  have ha := a.isLt
  obtain ⟨h1, h2, h3⟩ := pair_of ⟨a.val / 16, by omega⟩
  simp only at h1 h2 h3
  exact h _ _ (⟨a.val % 16, Nat.mod_lt _ (by decide)⟩ : Fin 16) l a h1 h2 (Or.inl h2) (by
    show a.val = pairIdx (pFst (a.val / 16)) (pSnd (a.val / 16)) * 16 + a.val % 16
    rw [h3]; omega)

end Cert.Proof.DotsMath

end
-- ==== Proof.DotsRun.lean ====
module

public import proofs.«01_k».proof.Proof.DotsKernel
public import proofs.«01_k».proof.Proof.DotsOut
public import Idealize.ShloMosaic.Lib.Pipeline.FrameBody
public import Idealize.ShloMosaic.Lib.PageRing.Basic

@[expose] public section

set_option maxRecDepth 16384

noncomputable section

namespace Cert.Proof.Dots

open Cert.Dots Cert.Dots.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at the transfers' algebra -/

set_option maxHeartbeats 800000 in
/-- @main up to the region: the two transposes, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The ids' window holds its block whatever was in its buffer. -/
theorem beforeD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores and the table -/

/-- The four chunks' semaphores and the ids' one. -/
abbrev osem0 : Fin 5 → SemLoc sig := fun j => (![SemLoc.dma 2, SemLoc.dma 3, SemLoc.dma 4, SemLoc.dma 5, SemLoc.dma 6] : Fin 5 → SemLoc sig) j
/-- The kernel's own semaphores are well placed. -/
theorem ownSemFacts0 : Pipeline.OwnSemFacts spec0 osem0 := by decide

/-- The kernel's semaphores are the four chunks' and the ids'. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semM 0)) 0 ∗ semVal ((c : Thread nD τ), SemLoc.dma (semM 1)) 0
          ∗ semVal ((c : Thread nD τ), SemLoc.dma (semM 2)) 0 ∗ semVal ((c : Thread nD τ), SemLoc.dma (semM 3)) 0
          ∗ semVal ((c : Thread nD τ), SemLoc.dma cc0_scratch9.sem) 0) := by
  rw [Pipeline.ownSems0_eq_of_list c osem0 [0, 1, 2, 3, 4] (by decide) (by decide)]
  rw [show semM 0 = 2 by decide, show semM 1 = 3 by decide, show semM 2 = 4 by decide, show semM 3 = 5 by decide, show cc0_scratch9.sem = 6 by decide]
  rfl

/-- The transposed table, which the kernel's copies read. -/
def H0 : Finset (Ref sig .tc) := {main_v1}
/-- The table is an array beside the call's blocks. -/
theorem H0_sub : H0 ⊆ Pipeline.restRefs sig spec0 := by decide
/-- The arrays beside the blocks are the table alone. -/
theorem hbmPts0_eq (c : Dev nD) :
    (bigSep H0 (fun b => ((c : Thread nD τ).loc b) ↦{fullShare} V m c b) : sProp 𝕄)
      = (A1.view.loc (c : Thread nD τ) ↦[Finset.univ]{fullShare} V m c main_v1) := by
  rw [BI.bigSep_eq_bigSepL_of_eq [main_v1] (by decide) (by decide)]; rfl
/-- No buffer left in HBM is written by the kernel. -/
def R0 : Finset (Ref sig .tc) := ∅
/-- So that empty set is among the rest. -/
theorem R0_sub : R0 ⊆ Pipeline.restRefs sig spec0 \ H0 := by decide

/-- The table whole is a remainder and a read share for every copy. -/
theorem table_split (c : Dev nD) (X : S480x720000.Idx → Elt F .i8) :
    (tabAt c X fullShare : sProp 𝕄) ⊣⊢ iprop(tabAt c X (Transfers.shareDrop fullShare 60)
      ∗ bigSep Finset.univ (fun j : Fin 4 => bigSep Finset.univ (fun r : Fin 15 => tabAt c X (tok j r)))) := by
  have h := PageRing.toks_by_cell (nD := nD) (τ := τ) (sig := sig) (F := F) (U := Pipeline.UD sig nD τ) (Lvl := ℕ) (ℓ := A1.view.loc (c : Thread nD τ)) (S := Finset.univ) (f := X) fullShare 4 15
  rw [Ring.bigSep_fin_eq_range 4 (fun j : Fin 4 => bigSep Finset.univ (fun r : Fin 15 => (tabAt c X (tok j r) : sProp 𝕄)))
    (fun k => bigSep (Finset.range 15) (fun r => (tabAt c X (Transfers.shareTokN fullShare (15 * k + r)) : sProp 𝕄)))
    (fun j hj => (Ring.bigSep_fin_eq_range 15 (fun r : Fin 15 => (tabAt c X (tok ⟨j, hj⟩ r) : sProp 𝕄))
      (fun r => (tabAt c X (Transfers.shareTokN fullShare (15 * j + r)) : sProp 𝕄)) (fun r hr => rfl)).symm)]
  exact h

/-- The chunk buffers whole are the four chunks. -/
theorem chunks_split (c : Dev nD) (g : S4x480x7552.Idx → Elt F .i8) :
    ((A3.view.loc (c : Thread nD τ) ↦[Finset.univ]{fullShare} g) : sProp 𝕄) = bigSep Finset.univ (fun j => bufAt c (chunkSet j) g) := by
  rw [← chunk_cover]; exact pointsTo_biUnion _ _ chunk_disj

/-- The four chunks at rest are their semaphores at zero, their buffers, and the copies' read shares. -/
theorem homes_eq (c : Dev nD) (X : S480x720000.Idx → Elt F .i8) (g : S4x480x7552.Idx → Elt F .i8) :
    bigSep Finset.univ (fun j => Home c X j g)
      = (iprop(iprop(semVal ((c : Thread nD τ), SemLoc.dma (semM 0)) 0 ∗ semVal ((c : Thread nD τ), SemLoc.dma (semM 1)) 0
          ∗ semVal ((c : Thread nD τ), SemLoc.dma (semM 2)) 0 ∗ semVal ((c : Thread nD τ), SemLoc.dma (semM 3)) 0)
        ∗ (A3.view.loc (c : Thread nD τ) ↦[Finset.univ]{fullShare} g)
        ∗ bigSep Finset.univ (fun j : Fin 4 => bigSep Finset.univ (fun r : Fin 15 => tabAt c X (tok j r)))) : sProp 𝕄) := by
  unfold Home
  refine (BI.bigSep_sep _ _ _).trans (congrArg₂ BIBase.sep ?_ ((BI.bigSep_sep _ _ _).trans (congrArg₂ BIBase.sep (chunks_split c g).symm rfl)))
  exact bigSep_univ_eq_bigSepL [(0 : Fin 4), 1, 2, 3] (by decide) (by decide) (fun j => (semVal ((c : Thread nD τ), SemLoc.dma (semM j)) 0 : sProp 𝕄))

/-! ## The proof data and the body -/

/-- What the body leaves in each window: the ids as they were, and every pair's dot. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAll (V m c main_v1) (iblk m c 0 t)
  Φ _ := Pipeline.ΦDR osem0 spec0 H0 R0 (V m) c
  q _ := fullShare
  owed _ := 0

/-- An array of the call is read at entry. -/
theorem A_eq (c : Dev nD) (w : Fin cfg0.W) : (dats m 0 c).A w = V m c (Pipeline.arrRef spec0 w) := by
  dsimp only [dats]
/-- The id block is unchanged by the body. -/
theorem after0 (c : Dev nD) (t : Fin cfg0.N) : (dats m 0 c).after 0 t = iblk m c 0 t := by dsimp only [dats]
/-- The output block ends holding every dot product. -/
theorem after1 (c : Dev nD) (t : Fin cfg0.N) : (dats m 0 c).after 1 t = outAll (V m c main_v1) (iblk m c 0 t) := by dsimp only [dats]
/-- The id block before the body is the ids. -/
theorem before0 (c : Dev nD) (t : Fin cfg0.N) (d) : (dats m 0 c).before 0 t d = iblk m c 0 t :=
  beforeD m (dats m 0 c) (A_eq m c 0) (after0 m c) t d

/-- The windows and the scratch as the body finds them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- The windows and the scratch as the body leaves them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A scratch array whole, at some contents, is its view held at some contents. -/
theorem scratch_in (c : Dev nD) (b : Ref sig .tc) :
    (iprop(∃ f : Buf (Elt F) ((c : Thread nD τ).loc b), ((c : Thread nD τ).loc b) ↦{fullShare} f) : sProp 𝕄)
      ⊢ Holds c (Memref.whole b) (fun _ => True) := by
  unfold Holds
  iintro ⟨%f, H⟩
  iexists f
  isplitl [H]
  · rw [show (Memref.whole b).view.set = Finset.univ from View.set_whole _]; iexact H
  ipureintro; trivial
/-- And back. -/
theorem scratch_out (c : Dev nD) (b : Ref sig .tc) :
    Holds c (Memref.whole b) (fun _ => True)
      ⊢ (iprop(∃ f : Buf (Elt F) ((c : Thread nD τ).loc b), ((c : Thread nD τ).loc b) ↦{fullShare} f) : sProp 𝕄) := by
  unfold Holds
  iintro ⟨%f, H, -⟩
  iexists f
  rw [show (Memref.whole b).view.set = Finset.univ from View.set_whole _]; iexact H

/-- One run of the body, from the ids and the table, writes every dot product. -/
theorem sound_body (c : Dev nD) (hI : ∀ t, InField (iblk m c 0 t)) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1]
  rw [show (dats m 0 c).Φ t.castSucc = Pipeline.ΦDR osem0 spec0 H0 R0 (V m) c from rfl]
  simp only [before0]
  rw [Pipeline.ΦDR_eq, scopedRest0_eq, ownSems0_eq, hbmPts0_eq]
  unfold Dat.owesAt Pipeline.owesWithin
  rw [show (dats m 0 c).owed t.castSucc = 0 from rfl, show (dats m 0 c).owed t.succ = 0 from rfl]
  unfold owns
  iintro ⟨⟨⟨⟨%g, HS0⟩, HS1, HS2, HS3, HS4, HS5, HS6, HS7⟩, Hg, ⟨Hq0, Hq1, Hq2, Hq3, Hq⟩, HT, HR⟩, ⟨%W, -, HW⟩, ⟨%d0, %f0, %h0, H0⟩, ⟨%d1, %f1, -, H1⟩⟩
  ihave HT' := (table_split c (V m c main_v1)).1 $$ HT
  icases HT' with ⟨Hd, Ht⟩
  iapply (wp_wand_r Idealize.ShloMosaic.frame (wpE (defs₀ (F := F)) Variants.none (c : Thread nD τ) none) Set.univ)
  isplitl [Hq0 Hq1 Hq2 Hq3 Hq HS0 HS1 HS2 HS3 HS4 HS5 HS6 HS7 Ht HW H0 H1]
  · iapply (kernelRun c _ _ _ _ _ _ _ _ _ _ _ _ _ _ _ _ _ _ _ _ (V m c main_v1) (iblk m c 0 t) (hI t) g)
    isplitl [Hq0 Hq1 Hq2 Hq3 HS0 Ht]
    · rw [homes_eq]
      isplitl [Hq0 Hq1 Hq2 Hq3]
      · isplitl [Hq0]; · iexact Hq0
        isplitl [Hq1]; · iexact Hq1
        isplitl [Hq2]; · iexact Hq2
        iexact Hq3
      isplitl [HS0]; · iexact HS0
      iexact Ht
    isplitl [HW]; · iexists W; iexact HW
    isplitl [Hq]; · iexact Hq
    isplitl [H0]
    · unfold Holds; iexists f0
      isplitl [H0]; · iexact H0
      ipureintro; exact h0
    isplitl [H1]
    · unfold Holds; iexists f1
      isplitl [H1]; · iexact H1
      ipureintro; trivial
    isplitl [HS1]; · iapply (scratch_in c cc0_scratch1); iexact HS1
    isplitl [HS2]; · iapply (scratch_in c cc0_scratch2); iexact HS2
    isplitl [HS3]; · iapply (scratch_in c cc0_scratch3); iexact HS3
    isplitl [HS4]; · iapply (scratch_in c cc0_scratch4); iexact HS4
    isplitl [HS5]; · iapply (scratch_in c cc0_scratch5); iexact HS5
    isplitl [HS6]; · iapply (scratch_in c cc0_scratch6); iexact HS6
    iapply (scratch_in c cc0_scratch7); iexact HS7
  iintro %_ ⟨HF, ⟨%W', HW⟩, Hq, H0, H1, HS1, HS2, HS3, HS4, HS5, HS6, HS7⟩
  ihave HF' := (Entails.of_eq (homes_eq c (V m c main_v1) (stripBuf (V m c main_v1) 23))) $$ HF
  icases HF' with ⟨⟨Hq0, Hq1, Hq2, Hq3⟩, HS0, Ht⟩
  isplitl [HS0 HS1 HS2 HS3 HS4 HS5 HS6 HS7 Hg Hq0 Hq1 Hq2 Hq3 Hq Hd Ht HR]
  · isplitl [HS0 HS1 HS2 HS3 HS4 HS5 HS6 HS7]
    · isplitl [HS0]; · iexists _; iexact HS0
      isplitl [HS1]; · iapply (scratch_out c cc0_scratch1); iexact HS1
      isplitl [HS2]; · iapply (scratch_out c cc0_scratch2); iexact HS2
      isplitl [HS3]; · iapply (scratch_out c cc0_scratch3); iexact HS3
      isplitl [HS4]; · iapply (scratch_out c cc0_scratch4); iexact HS4
      isplitl [HS5]; · iapply (scratch_out c cc0_scratch5); iexact HS5
      isplitl [HS6]; · iapply (scratch_out c cc0_scratch6); iexact HS6
      iapply (scratch_out c cc0_scratch7); iexact HS7
    isplitl [Hg]; · iexact Hg
    isplitl [Hq0 Hq1 Hq2 Hq3 Hq]
    · isplitl [Hq0]; · iexact Hq0
      isplitl [Hq1]; · iexact Hq1
      isplitl [Hq2]; · iexact Hq2
      isplitl [Hq3]; · iexact Hq3
      iexact Hq
    isplitl [Hd Ht]
    · iapply (table_split c (V m c main_v1)).2
      isplitl [Hd]; · iexact Hd
      iexact Ht
    iexact HR
  isplitl [HW]
  · iexists W'; isplitr; · ipureintro; exact fun _ _ => Or.inl trivial
    iexact HW
  unfold Holds
  icases H0 with ⟨%e0, H0, %p0⟩
  icases H1 with ⟨%e1, H1, %p1⟩
  isplitl [H0]
  · iexists e0; isplitr
    · ipureintro; exact p0
    · iexact H0
  · iexists e1; isplitr
    · ipureintro; exact p1.all
    · iexact H1

/-- The body the call runs at a step. -/
theorem defs₀_row (t : Fin cfg0.N) :
    defs₀ (F := F) .tc cfg0.body (cfg0.bodyArgs t (cfg0.slots t)) = bodyAt0 t := by
  unfold defs₀; rw [Defs.onTc_tc]

/-- The call's body meets its contract, with ids in their fields. -/
theorem body_obligation (c : Dev nD) (hI : ∀ t, InField (iblk m c 0 t)) : BodyObligation (dats (F := F) m 0 c) (defs₀ (F := F)) Variants.none () Set.univ := fun t => by
  rw [bigSep_W0, bigSep_W0, defs₀_row]
  exact triple_restated (sound_body m c hI t) rfl .rfl fun _ => .rfl

set_option backward.isDefEq.respectTransparency.types false in
/-- The run: the arrays end as the proof data says, every semaphore at zero. -/
theorem run_main (hI : ∀ c t, InField (iblk m c 0 t)) :
    θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c (hI c)).loose) (hshare := fun c => (dats m 0 c).share_full fun _ => rfl)
    (howed := fun _ _ => rfl) (V := V m) (hmain := hmainD m Variants.none) (hA := A_eq m)
    (hin := fun _ => .rfl) (hout := fun _ => .rfl)

/-! ## The ids' window, the result, the claims -/

/-- The ids' window is the transposed ids. -/
theorem iblk0 (c : Dev nD) (t : Fin cfg0.N) : iblk m c 0 t = V m c main_v0 :=
  Memref.read_access_unit_zero (Elt F) main_v0 (off := fun a => win0_0.index t a * main_v0.ty.shape.size a)
    (funext fun a => Nat.zero_mul _) (fun a => by simp; exact Or.inl rfl) (V m c main_v0)

/-- The transposed ids are the ids, transposed. -/
theorem V_v0 (c : Dev nD) : V m c main_v0 = (transpose S8x24x256 [0, 2, 1] (m ((c : Thread nD τ).loc main_arg0)) transposes_S8x256x24_S8x24x256_0_2_1) := by
  rfl
/-- The transposed table is the table, transposed. -/
theorem V_v1 (c : Dev nD) : V m c main_v1 = (transpose S480x720000 [1, 0] (m ((c : Thread nD τ).loc main_arg1)) transposes_S720000x480_S480x720000_1_0) := by
  rfl

/-- What is written back is the array of the dot products. -/
theorem flushed1 (c : Dev nD) (t : Fin cfg0.N) (hf : (cfg0.win 1).flush t = true) :
    (dats m 0 c).flushed 1 t = ((cfg0.win 1).blk t).view.read (Elt F) (outAll (V m c main_v1) (V m c main_v0)) := by
  show (cfg0.win 1).cut (grid0.coords t) ((dats m 0 c).after 1 t) = _
  rw [after1, iblk0]
  exact (Memref.read_access_unit_zero (Elt F) main_v2 (off := fun a => win0_1.index t a * main_v2.ty.shape.size a)
    (funext fun a => Nat.zero_mul _) (fun a => by simp; exact Or.inl rfl) _).symm

/-- The result array ends at the dots. -/
theorem final1 (c : Dev nD) : (dats m 0 c).arrAt 1 cfg0.N = outAll (V m c main_v1) (V m c main_v0) :=
  (dats m 0 c).arrAt_eq_of_cover 1 _ (flushed1 m c) fun i =>
    ⟨t0_0, flush0_1 t0_0, by
      show i ∈ ((View.whole main_v2).slice (win0_1.rect t0_0)).set
      rw [View.set_slice_whole, Rect.mem_set_unit]
      intro a
      refine ⟨by show 0 * _ ≤ _; simp, ?_⟩
      show (i a : ℕ) < 0 * _ + S4416x128.size a
      rw [Nat.zero_mul, Nat.zero_add]; exact (i a).isLt⟩

/-- The frame at any arithmetic: with every id in its field's range the arguments end unchanged and every semaphore at zero. -/
theorem frame (hI : ∀ c, InField (V m c main_v0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩, h.2⟩)
    (run_main m ρ fun c t => by rw [iblk0]; exact hI c)

/-- The run with its result: the dots, the arguments unchanged. -/
theorem run_values (hI : ∀ c, InField (V m c main_v0)) :
    θ_run defs (onTc (τ := τ) (main (F := F))) ⟨m, fun _ => 0, ρ⟩ (fun r => ∀ c : Dev nD,
      r.2.mem ((c.tc : Thread nD τ).loc main_v2) = outAll (V m c main_v1) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (final1 m c),
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩)
    (run_main m ρ fun c t => by rw [iblk0]; exact hI c)

end Cert.Proof.Dots

end
-- ==== Proof.DotsIdealFacts.lean ====
module

public import proofs.«01_k».proof.DotsIdeal
public import proofs.«01_k».proof.Proof.DotsDefs
public import Mathlib.Tactic.FinCases
public import Idealize.ShloMosaic.Lib.Exec

@[expose] public section

/-! # The dots kernel: where each access lands, and how often each loop runs. -/
open Idealize.ShloMosaic Cert.Proof.DotsMath
set_option maxRecDepth 100000
namespace Cert.Proof.DotsIdeal
open Cert.DotsIdeal

theorem of1 {o : Fin 1 → ℕ} {a : ℕ} (h : o 0 = a) : o = ![a] := by funext i; fin_cases i; exact h
theorem of2 {o : Fin 2 → ℕ} {a b : ℕ} (h : o 0 = a ∧ o 1 = b) : o = ![a, b] := by funext i; fin_cases i; exacts [h.1, h.2]
theorem of3 {o : Fin 3 → ℕ} {a b c : ℕ} (h : o 0 = a ∧ o 1 = b ∧ o 2 = c) : o = ![a, b, c] := by funext i; fin_cases i; exacts [h.1, h.2.1, h.2.2]

theorem off1_eq_all : ∀ (j : Fin k0_t1_loop.trips), (k0_off1 j) 0 = j.val := by decide +kernel
/-- The semaphore of a chunk. -/
theorem off1_eq (j : Fin k0_t1_loop.trips) : k0_off1 j = ![j.val] := of1 (off1_eq_all j)

theorem off2_eq_all : ∀ (j : Fin k0_t1_loop.trips) (r : Fin k0_t2_loop.trips), (k0_off2 j r) 0 = j.val ∧ (k0_off2 j r) 1 = 32 * r.val ∧ (k0_off2 j r) 2 = 0 := by decide +kernel
/-- The part of the chunk buffer a copy fills. -/
theorem off2_eq (j : Fin k0_t1_loop.trips) (r : Fin k0_t2_loop.trips) : k0_off2 j r = ![j.val, 32 * r.val, 0] := of3 (off2_eq_all j r)

theorem off3_eq_all : ∀ (j : Fin k0_t1_loop.trips) (r : Fin k0_t2_loop.trips), (k0_off3 j r) 0 = 32 * r.val ∧ (k0_off3 j r) 1 = first (0) + 7552 * j.val := by decide +kernel
/-- The part of the table a copy reads. -/
theorem off3_eq (j : Fin k0_t1_loop.trips) (r : Fin k0_t2_loop.trips) : k0_off3 j r = ![32 * r.val, first (0) + 7552 * j.val] := of2 (off3_eq_all j r)

theorem off8_eq_all : ∀ (j : Fin k0_t4_loop.trips), (k0_off8 j) 0 = j.val := by decide +kernel
/-- The semaphore of a chunk. -/
theorem off8_eq (j : Fin k0_t4_loop.trips) : k0_off8 j = ![j.val] := of1 (off8_eq_all j)

theorem off9_eq_all : ∀ (j : Fin k0_t4_loop.trips) (r : Fin k0_t5_loop.trips), (k0_off9 j r) 0 = j.val ∧ (k0_off9 j r) 1 = 32 * r.val ∧ (k0_off9 j r) 2 = 0 := by decide +kernel
/-- The part of the chunk buffer a copy fills. -/
theorem off9_eq (j : Fin k0_t4_loop.trips) (r : Fin k0_t5_loop.trips) : k0_off9 j r = ![j.val, 32 * r.val, 0] := of3 (off9_eq_all j r)

theorem off13_eq_all : ∀ (j : Fin k0_t4_loop.trips), (k0_off13 j) 0 = j.val := by decide +kernel
/-- The semaphore of a chunk. -/
theorem off13_eq (j : Fin k0_t4_loop.trips) : k0_off13 j = ![j.val] := of1 (off13_eq_all j)

theorem off14_eq_all : ∀ (j : Fin k0_t4_loop.trips) (r : Fin k0_t7_loop.trips), (k0_off14 j r) 0 = j.val ∧ (k0_off14 j r) 1 = 32 * r.val ∧ (k0_off14 j r) 2 = 0 := by decide +kernel
/-- The part of the chunk buffer a copy fills. -/
theorem off14_eq (j : Fin k0_t4_loop.trips) (r : Fin k0_t7_loop.trips) : k0_off14 j r = ![j.val, 32 * r.val, 0] := of3 (off14_eq_all j r)

theorem off15_eq_all : ∀ (j : Fin k0_t4_loop.trips) (r : Fin k0_t7_loop.trips), (k0_off15 j r) 0 = 32 * r.val ∧ (k0_off15 j r) 1 = first (1) + 7552 * j.val := by decide +kernel
/-- The part of the table a copy reads. -/
theorem off15_eq (j : Fin k0_t4_loop.trips) (r : Fin k0_t7_loop.trips) : k0_off15 j r = ![32 * r.val, first (1) + 7552 * j.val] := of2 (off15_eq_all j r)

theorem off16_eq_all : ∀ (j : Fin k0_t9_loop.trips), (k0_off16 j) 0 = j.val := by decide +kernel
/-- The semaphore of a chunk. -/
theorem off16_eq (j : Fin k0_t9_loop.trips) : k0_off16 j = ![j.val] := of1 (off16_eq_all j)

theorem off17_eq_all : ∀ (j : Fin k0_t9_loop.trips) (r : Fin k0_t10_loop.trips), (k0_off17 j r) 0 = j.val ∧ (k0_off17 j r) 1 = 32 * r.val ∧ (k0_off17 j r) 2 = 0 := by decide +kernel
/-- The part of the chunk buffer a copy fills. -/
theorem off17_eq (j : Fin k0_t9_loop.trips) (r : Fin k0_t10_loop.trips) : k0_off17 j r = ![j.val, 32 * r.val, 0] := of3 (off17_eq_all j r)

theorem off27_eq_all : ∀ (j : Fin k0_t9_loop.trips), (k0_off27 j) 0 = j.val := by decide +kernel
/-- The semaphore of a chunk. -/
theorem off27_eq (j : Fin k0_t9_loop.trips) : k0_off27 j = ![j.val] := of1 (off27_eq_all j)

theorem off28_eq_all : ∀ (j : Fin k0_t9_loop.trips) (r : Fin k0_t14_loop.trips), (k0_off28 j r) 0 = j.val ∧ (k0_off28 j r) 1 = 32 * r.val ∧ (k0_off28 j r) 2 = 0 := by decide +kernel
/-- The part of the chunk buffer a copy fills. -/
theorem off28_eq (j : Fin k0_t9_loop.trips) (r : Fin k0_t14_loop.trips) : k0_off28 j r = ![j.val, 32 * r.val, 0] := of3 (off28_eq_all j r)

theorem off29_eq_all : ∀ (i : Fin k0_t8_loop.trips) (j : Fin k0_t9_loop.trips) (r : Fin k0_t14_loop.trips), (k0_off29 i j r) 0 = 32 * r.val ∧ (k0_off29 i j r) 1 = first (2 * i.val + 2) + 7552 * j.val := by decide +kernel
/-- The part of the table a copy reads. -/
theorem off29_eq (i : Fin k0_t8_loop.trips) (j : Fin k0_t9_loop.trips) (r : Fin k0_t14_loop.trips) : k0_off29 i j r = ![32 * r.val, first (2 * i.val + 2) + 7552 * j.val] := of2 (off29_eq_all i j r)

theorem off42_eq_all : ∀ (j : Fin k0_t24_loop.trips), (k0_off42 j) 0 = j.val := by decide +kernel
/-- The semaphore of a chunk. -/
theorem off42_eq (j : Fin k0_t24_loop.trips) : k0_off42 j = ![j.val] := of1 (off42_eq_all j)

theorem off43_eq_all : ∀ (j : Fin k0_t24_loop.trips) (r : Fin k0_t25_loop.trips), (k0_off43 j r) 0 = j.val ∧ (k0_off43 j r) 1 = 32 * r.val ∧ (k0_off43 j r) 2 = 0 := by decide +kernel
/-- The part of the chunk buffer a copy fills. -/
theorem off43_eq (j : Fin k0_t24_loop.trips) (r : Fin k0_t25_loop.trips) : k0_off43 j r = ![j.val, 32 * r.val, 0] := of3 (off43_eq_all j r)

theorem off53_eq_all : ∀ (j : Fin k0_t24_loop.trips), (k0_off53 j) 0 = j.val := by decide +kernel
/-- The semaphore of a chunk. -/
theorem off53_eq (j : Fin k0_t24_loop.trips) : k0_off53 j = ![j.val] := of1 (off53_eq_all j)

theorem off54_eq_all : ∀ (j : Fin k0_t24_loop.trips) (r : Fin k0_t29_loop.trips), (k0_off54 j r) 0 = j.val ∧ (k0_off54 j r) 1 = 32 * r.val ∧ (k0_off54 j r) 2 = 0 := by decide +kernel
/-- The part of the chunk buffer a copy fills. -/
theorem off54_eq (j : Fin k0_t24_loop.trips) (r : Fin k0_t29_loop.trips) : k0_off54 j r = ![j.val, 32 * r.val, 0] := of3 (off54_eq_all j r)

theorem off55_eq_all : ∀ (i : Fin k0_t8_loop.trips) (j : Fin k0_t24_loop.trips) (r : Fin k0_t29_loop.trips), (k0_off55 i j r) 0 = 32 * r.val ∧ (k0_off55 i j r) 1 = first (2 * i.val + 3) + 7552 * j.val := by decide +kernel
/-- The part of the table a copy reads. -/
theorem off55_eq (i : Fin k0_t8_loop.trips) (j : Fin k0_t24_loop.trips) (r : Fin k0_t29_loop.trips) : k0_off55 i j r = ![32 * r.val, first (2 * i.val + 3) + 7552 * j.val] := of2 (off55_eq_all i j r)

theorem off68_eq_all : ∀ (j : Fin k0_t39_loop.trips), (k0_off68 j) 0 = j.val := by decide +kernel
/-- The semaphore of a chunk. -/
theorem off68_eq (j : Fin k0_t39_loop.trips) : k0_off68 j = ![j.val] := of1 (off68_eq_all j)

theorem off69_eq_all : ∀ (j : Fin k0_t39_loop.trips) (r : Fin k0_t40_loop.trips), (k0_off69 j r) 0 = j.val ∧ (k0_off69 j r) 1 = 32 * r.val ∧ (k0_off69 j r) 2 = 0 := by decide +kernel
/-- The part of the chunk buffer a copy fills. -/
theorem off69_eq (j : Fin k0_t39_loop.trips) (r : Fin k0_t40_loop.trips) : k0_off69 j r = ![j.val, 32 * r.val, 0] := of3 (off69_eq_all j r)

theorem off11_eq_all : ∀ (j : Fin k0_t4_loop.trips) (u : Fin k0_t6_loop.trips), (k0_off11 j u) 0 = j.val ∧ (k0_off11 j u) 1 = 0 ∧ (k0_off11 j u) 2 = 128 * u.val := by decide +kernel
/-- The tile of the chunk buffer a step transposes. -/
theorem off11_eq (j : Fin k0_t4_loop.trips) (u : Fin k0_t6_loop.trips) : k0_off11 j u = ![j.val, 0, 128 * u.val] := of3 (off11_eq_all j u)

theorem off12_eq_all : ∀ (j : Fin k0_t4_loop.trips) (u : Fin k0_t6_loop.trips), (k0_off12 j u) 0 = (59 * j.val + u.val) * 128 ∧ (k0_off12 j u) 1 = 0 := by decide +kernel
/-- The rows a step writes. -/
theorem off12_eq (j : Fin k0_t4_loop.trips) (u : Fin k0_t6_loop.trips) : k0_off12 j u = ![(59 * j.val + u.val) * 128, 0] := of2 (off12_eq_all j u)

theorem off19_eq_all : ∀ (j : Fin k0_t9_loop.trips) (u : Fin k0_t11_loop.trips), (k0_off19 j u) 0 = j.val ∧ (k0_off19 j u) 1 = 0 ∧ (k0_off19 j u) 2 = 128 * u.val := by decide +kernel
/-- The tile of the chunk buffer a step transposes. -/
theorem off19_eq (j : Fin k0_t9_loop.trips) (u : Fin k0_t11_loop.trips) : k0_off19 j u = ![j.val, 0, 128 * u.val] := of3 (off19_eq_all j u)

theorem off20_eq_all : ∀ (j : Fin k0_t9_loop.trips) (u : Fin k0_t11_loop.trips), (k0_off20 j u) 0 = (59 * j.val + u.val) * 128 ∧ (k0_off20 j u) 1 = 0 := by decide +kernel
/-- The rows a step writes. -/
theorem off20_eq (j : Fin k0_t9_loop.trips) (u : Fin k0_t11_loop.trips) : k0_off20 j u = ![(59 * j.val + u.val) * 128, 0] := of2 (off20_eq_all j u)

theorem off45_eq_all : ∀ (j : Fin k0_t24_loop.trips) (u : Fin k0_t26_loop.trips), (k0_off45 j u) 0 = j.val ∧ (k0_off45 j u) 1 = 0 ∧ (k0_off45 j u) 2 = 128 * u.val := by decide +kernel
/-- The tile of the chunk buffer a step transposes. -/
theorem off45_eq (j : Fin k0_t24_loop.trips) (u : Fin k0_t26_loop.trips) : k0_off45 j u = ![j.val, 0, 128 * u.val] := of3 (off45_eq_all j u)

theorem off46_eq_all : ∀ (j : Fin k0_t24_loop.trips) (u : Fin k0_t26_loop.trips), (k0_off46 j u) 0 = (59 * j.val + u.val) * 128 ∧ (k0_off46 j u) 1 = 0 := by decide +kernel
/-- The rows a step writes. -/
theorem off46_eq (j : Fin k0_t24_loop.trips) (u : Fin k0_t26_loop.trips) : k0_off46 j u = ![(59 * j.val + u.val) * 128, 0] := of2 (off46_eq_all j u)

theorem off71_eq_all : ∀ (j : Fin k0_t39_loop.trips) (u : Fin k0_t41_loop.trips), (k0_off71 j u) 0 = j.val ∧ (k0_off71 j u) 1 = 0 ∧ (k0_off71 j u) 2 = 128 * u.val := by decide +kernel
/-- The tile of the chunk buffer a step transposes. -/
theorem off71_eq (j : Fin k0_t39_loop.trips) (u : Fin k0_t41_loop.trips) : k0_off71 j u = ![j.val, 0, 128 * u.val] := of3 (off71_eq_all j u)

theorem off72_eq_all : ∀ (j : Fin k0_t39_loop.trips) (u : Fin k0_t41_loop.trips), (k0_off72 j u) 0 = (59 * j.val + u.val) * 128 ∧ (k0_off72 j u) 1 = 0 := by decide +kernel
/-- The rows a step writes. -/
theorem off72_eq (j : Fin k0_t39_loop.trips) (u : Fin k0_t41_loop.trips) : k0_off72 j u = ![(59 * j.val + u.val) * 128, 0] := of2 (off72_eq_all j u)

/-- The trip count. -/
theorem t2_trips : (k0_t2_loop).trips = 15 := by decide +kernel

/-- The trip count. -/
theorem t5_trips : (k0_t5_loop).trips = 15 := by decide +kernel

/-- The trip count. -/
theorem t7_trips : (k0_t7_loop).trips = 15 := by decide +kernel

/-- The trip count. -/
theorem t10_trips : (k0_t10_loop).trips = 15 := by decide +kernel

/-- The trip count. -/
theorem t14_trips : (k0_t14_loop).trips = 15 := by decide +kernel

/-- The trip count. -/
theorem t25_trips : (k0_t25_loop).trips = 15 := by decide +kernel

/-- The trip count. -/
theorem t29_trips : (k0_t29_loop).trips = 15 := by decide +kernel

/-- The trip count. -/
theorem t40_trips : (k0_t40_loop).trips = 15 := by decide +kernel

/-- The trip count. -/
theorem t6_trips : (k0_t6_loop).trips = 59 := by decide +kernel

/-- The trip count. -/
theorem t11_trips : (k0_t11_loop).trips = 59 := by decide +kernel

/-- The trip count. -/
theorem t26_trips : (k0_t26_loop).trips = 59 := by decide +kernel

/-- The trip count. -/
theorem t41_trips : (k0_t41_loop).trips = 59 := by decide +kernel

/-- The trip count. -/
theorem t1_trips : (k0_t1_loop).trips = 4 := by decide +kernel

/-- The trip count. -/
theorem t4_trips : (k0_t4_loop).trips = 4 := by decide +kernel

/-- The trip count. -/
theorem t9_trips : (k0_t9_loop).trips = 4 := by decide +kernel

/-- The trip count. -/
theorem t24_trips : (k0_t24_loop).trips = 4 := by decide +kernel

/-- The trip count. -/
theorem t39_trips : (k0_t39_loop).trips = 4 := by decide +kernel

/-- The trip count. -/
theorem t48_trips : (k0_t48_loop).trips = 4 := by decide +kernel

/-- The trip count. -/
theorem t3_trips : (k0_t3_loop).trips = 16 := by decide +kernel

/-- The trip count. -/
theorem t15_trips : (k0_t15_loop).trips = 16 := by decide +kernel

/-- The trip count. -/
theorem t30_trips : (k0_t30_loop).trips = 16 := by decide +kernel

/-- The trip count. -/
theorem t44_trips : (k0_t44_loop).trips = 16 := by decide +kernel

/-- The trip count. -/
theorem t50_trips : (k0_t50_loop).trips = 16 := by decide +kernel

/-- The trip count. -/
theorem t17_trips : (k0_t17_loop).trips = 5 := by decide +kernel

/-- The trip count. -/
theorem t21_trips : (k0_t21_loop).trips = 5 := by decide +kernel

/-- The trip count. -/
theorem t32_trips : (k0_t32_loop).trips = 5 := by decide +kernel

/-- The trip count. -/
theorem t36_trips : (k0_t36_loop).trips = 5 := by decide +kernel

/-- The trip count. -/
theorem t46_trips : (k0_t46_loop).trips = 5 := by decide +kernel

/-- The trip count. -/
theorem t47_trips : (k0_t47_loop).trips = 5 := by decide +kernel

/-- The trip count. -/
theorem t52_trips : (k0_t52_loop).trips = 5 := by decide +kernel

/-- The trip count. -/
theorem t8_trips : (k0_t8_loop).trips = 11 := by decide +kernel

/-- The trip count. -/
theorem t49_trips : (k0_t49_loop).trips = 512 := by decide +kernel

/-- The trip count. -/
theorem t45_trips : (k0_t45_loop).trips = 22 := by decide +kernel

/-- The trip count. -/
theorem t51_trips : (k0_t51_loop).trips = 23 := by decide +kernel

/-- The trip count. -/
theorem t16_trips : ∀ (i : Fin k0_t8_loop.trips), (k0_t16_loop i).trips = 2 * i.val := by decide +kernel

/-- The trip count. -/
theorem t31_trips : ∀ (i : Fin k0_t8_loop.trips), (k0_t31_loop i).trips = 2 * i.val + 1 := by decide +kernel

/-- The trip count. -/
theorem t20_trips : ∀ (i : Fin k0_t8_loop.trips), (k0_t20_loop i).trips = 23 - 2 * i.val := by decide +kernel

/-- The trip count. -/
theorem t35_trips : ∀ (i : Fin k0_t8_loop.trips), (k0_t35_loop i).trips = 22 - 2 * i.val := by decide +kernel

/-- The trip count. -/
theorem t12_trips : ∀ (u : Fin k0_t11_loop.trips), (k0_t12_loop u).trips = 512 * (u.val + 1) / 59 - 512 * u.val / 59 := by decide +kernel

/-- The trip count. -/
theorem t13_trips : ∀ (u : Fin k0_t11_loop.trips), (k0_t13_loop u).trips = 0 := by decide +kernel

/-- The trip count. -/
theorem t27_trips : ∀ (u : Fin k0_t26_loop.trips), (k0_t27_loop u).trips = 512 * (u.val + 1) / 59 - 512 * u.val / 59 := by decide +kernel

/-- The trip count. -/
theorem t28_trips : ∀ (u : Fin k0_t26_loop.trips), (k0_t28_loop u).trips = 0 := by decide +kernel

/-- The trip count. -/
theorem t42_trips : ∀ (u : Fin k0_t41_loop.trips), (k0_t42_loop u).trips = 512 * (u.val + 1) / 59 - 512 * u.val / 59 := by decide +kernel

/-- The trip count. -/
theorem t43_trips : ∀ (u : Fin k0_t41_loop.trips), (k0_t43_loop u).trips = 0 := by decide +kernel

/-- The trip count. -/
theorem t18_trips : ∀ (i : Fin k0_t8_loop.trips), (k0_t18_loop i).trips = 0 := by decide +kernel

/-- The trip count. -/
theorem t22_trips : ∀ (i : Fin k0_t8_loop.trips), (k0_t22_loop i).trips = 0 := by decide +kernel

/-- The trip count. -/
theorem t33_trips : ∀ (i : Fin k0_t8_loop.trips), (k0_t33_loop i).trips = 0 := by decide +kernel

/-- The trip count. -/
theorem t37_trips : ∀ (i : Fin k0_t8_loop.trips), (k0_t37_loop i).trips = 0 := by decide +kernel

theorem off21_eq_all : ∀ (i : Fin k0_t8_loop.trips) (j : Fin k0_t9_loop.trips) (u : Fin k0_t11_loop.trips) (p : Fin (k0_t12_loop u).trips), (k0_off21 i j u p) 0 = (2 * i.val) * 16 + (512 * j.val + 512 * u.val / 59 + p.val) / 128 ∧ (k0_off21 i j u p) 1 = (512 * j.val + 512 * u.val / 59 + p.val) % 128 := by decide +kernel
/-- The id a pick reads. -/
theorem off21_eq (i : Fin k0_t8_loop.trips) (j : Fin k0_t9_loop.trips) (u : Fin k0_t11_loop.trips) (p : Fin (k0_t12_loop u).trips) : k0_off21 i j u p = ![(2 * i.val) * 16 + (512 * j.val + 512 * u.val / 59 + p.val) / 128, (512 * j.val + 512 * u.val / 59 + p.val) % 128] := of2 (off21_eq_all i j u p)

theorem off23_eq_all : ∀ (j : Fin k0_t9_loop.trips) (u : Fin k0_t11_loop.trips) (p : Fin (k0_t12_loop u).trips), (k0_off23 j u p) 0 = (512 * j.val + 512 * u.val / 59 + p.val) ∧ (k0_off23 j u p) 1 = 0 := by decide +kernel
/-- The row a pick writes. -/
theorem off23_eq (j : Fin k0_t9_loop.trips) (u : Fin k0_t11_loop.trips) (p : Fin (k0_t12_loop u).trips) : k0_off23 j u p = ![(512 * j.val + 512 * u.val / 59 + p.val), 0] := of2 (off23_eq_all j u p)

theorem off47_eq_all : ∀ (i : Fin k0_t8_loop.trips) (j : Fin k0_t24_loop.trips) (u : Fin k0_t26_loop.trips) (p : Fin (k0_t27_loop u).trips), (k0_off47 i j u p) 0 = (2 * i.val + 1) * 16 + (512 * j.val + 512 * u.val / 59 + p.val) / 128 ∧ (k0_off47 i j u p) 1 = (512 * j.val + 512 * u.val / 59 + p.val) % 128 := by decide +kernel
/-- The id a pick reads. -/
theorem off47_eq (i : Fin k0_t8_loop.trips) (j : Fin k0_t24_loop.trips) (u : Fin k0_t26_loop.trips) (p : Fin (k0_t27_loop u).trips) : k0_off47 i j u p = ![(2 * i.val + 1) * 16 + (512 * j.val + 512 * u.val / 59 + p.val) / 128, (512 * j.val + 512 * u.val / 59 + p.val) % 128] := of2 (off47_eq_all i j u p)

theorem off49_eq_all : ∀ (j : Fin k0_t24_loop.trips) (u : Fin k0_t26_loop.trips) (p : Fin (k0_t27_loop u).trips), (k0_off49 j u p) 0 = (512 * j.val + 512 * u.val / 59 + p.val) ∧ (k0_off49 j u p) 1 = 0 := by decide +kernel
/-- The row a pick writes. -/
theorem off49_eq (j : Fin k0_t24_loop.trips) (u : Fin k0_t26_loop.trips) (p : Fin (k0_t27_loop u).trips) : k0_off49 j u p = ![(512 * j.val + 512 * u.val / 59 + p.val), 0] := of2 (off49_eq_all j u p)

theorem off73_eq_all : ∀ (j : Fin k0_t39_loop.trips) (u : Fin k0_t41_loop.trips) (p : Fin (k0_t42_loop u).trips), (k0_off73 j u p) 0 = 22 * 16 + (512 * j.val + 512 * u.val / 59 + p.val) / 128 ∧ (k0_off73 j u p) 1 = (512 * j.val + 512 * u.val / 59 + p.val) % 128 := by decide +kernel
/-- The id a pick reads. -/
theorem off73_eq (j : Fin k0_t39_loop.trips) (u : Fin k0_t41_loop.trips) (p : Fin (k0_t42_loop u).trips) : k0_off73 j u p = ![22 * 16 + (512 * j.val + 512 * u.val / 59 + p.val) / 128, (512 * j.val + 512 * u.val / 59 + p.val) % 128] := of2 (off73_eq_all j u p)

theorem off75_eq_all : ∀ (j : Fin k0_t39_loop.trips) (u : Fin k0_t41_loop.trips) (p : Fin (k0_t42_loop u).trips), (k0_off75 j u p) 0 = (512 * j.val + 512 * u.val / 59 + p.val) ∧ (k0_off75 j u p) 1 = 0 := by decide +kernel
/-- The row a pick writes. -/
theorem off75_eq (j : Fin k0_t39_loop.trips) (u : Fin k0_t41_loop.trips) (p : Fin (k0_t42_loop u).trips) : k0_off75 j u p = ![(512 * j.val + 512 * u.val / 59 + p.val), 0] := of2 (off75_eq_all j u p)

theorem off86_eq_all : ∀ (j : Fin k0_t48_loop.trips) (p : Fin k0_t49_loop.trips), (k0_off86 j p) 0 = 23 * 16 + (512 * j.val + p.val) / 128 ∧ (k0_off86 j p) 1 = (512 * j.val + p.val) % 128 := by decide +kernel
/-- The id a pick reads. -/
theorem off86_eq (j : Fin k0_t48_loop.trips) (p : Fin k0_t49_loop.trips) : k0_off86 j p = ![23 * 16 + (512 * j.val + p.val) / 128, (512 * j.val + p.val) % 128] := of2 (off86_eq_all j p)

theorem off88_eq_all : ∀ (j : Fin k0_t48_loop.trips) (p : Fin k0_t49_loop.trips), (k0_off88 j p) 0 = (512 * j.val + p.val) ∧ (k0_off88 j p) 1 = 0 := by decide +kernel
/-- The row a pick writes. -/
theorem off88_eq (j : Fin k0_t48_loop.trips) (p : Fin k0_t49_loop.trips) : k0_off88 j p = ![(512 * j.val + p.val), 0] := of2 (off88_eq_all j p)

/-- The row an id names. -/
theorem off22_eq (v : BitVec 32) : k0_off22 v = ![v.toNat, 0] := rfl
/-- An id below the strip's length names a row of it. -/
theorem chk1_of {v : BitVec 32} (h : v.toNat < 30208) : k0_chk1 v := by
  intro a
  rw [off22_eq]
  fin_cases a
  · show v.toNat + 1 ≤ 30208; omega
  · show 0 + 128 ≤ 128; omega

/-- The row an id names. -/
theorem off48_eq (v : BitVec 32) : k0_off48 v = ![v.toNat, 0] := rfl
/-- An id below the strip's length names a row of it. -/
theorem chk3_of {v : BitVec 32} (h : v.toNat < 30208) : k0_chk3 v := by
  intro a
  rw [off48_eq]
  fin_cases a
  · show v.toNat + 1 ≤ 30208; omega
  · show 0 + 128 ≤ 128; omega

/-- The row an id names. -/
theorem off74_eq (v : BitVec 32) : k0_off74 v = ![v.toNat, 0] := rfl
/-- An id below the strip's length names a row of it. -/
theorem chk5_of {v : BitVec 32} (h : v.toNat < 30208) : k0_chk5 v := by
  intro a
  rw [off74_eq]
  fin_cases a
  · show v.toNat + 1 ≤ 30208; omega
  · show 0 + 128 ≤ 128; omega

/-- The row an id names. -/
theorem off87_eq (v : BitVec 32) : k0_off87 v = ![v.toNat, 0] := rfl
/-- An id below the strip's length names a row of it. -/
theorem chk7_of {v : BitVec 32} (h : v.toNat < 30208) : k0_chk7 v := by
  intro a
  rw [off87_eq]
  fin_cases a
  · show v.toNat + 1 ≤ 30208; omega
  · show 0 + 128 ≤ 128; omega

theorem off30_eq_all : ∀ (k : Fin k0_t15_loop.trips), (k0_off30 k) 0 = k.val * 128 ∧ (k0_off30 k) 1 = 0 := by decide +kernel
/-- The picked rows of a block. -/
theorem off30_eq (k : Fin k0_t15_loop.trips) : k0_off30 k = ![k.val * 128, 0] := of2 (off30_eq_all k)

theorem off31_all : ∀ (k : Fin k0_t15_loop.trips) (r : Fin 15), (k0_off31 k (BitVec.ofNat 32 (136 * r.val))) 0 = 136 * r.val + k.val ∧ (k0_off31 k (BitVec.ofNat 32 (136 * r.val))) 1 = 0 := by decide +kernel
/-- The words a store of a block fills. -/
theorem off31_eq (k : Fin k0_t15_loop.trips) (r : Fin 15) : k0_off31 k (BitVec.ofNat 32 (136 * r.val)) = ![136 * r.val + k.val, 0] := of2 (off31_all k r)

theorem off56_eq_all : ∀ (k : Fin k0_t30_loop.trips), (k0_off56 k) 0 = k.val * 128 ∧ (k0_off56 k) 1 = 0 := by decide +kernel
/-- The picked rows of a block. -/
theorem off56_eq (k : Fin k0_t30_loop.trips) : k0_off56 k = ![k.val * 128, 0] := of2 (off56_eq_all k)

theorem off57_all : ∀ (k : Fin k0_t30_loop.trips) (r : Fin 15), (k0_off57 k (BitVec.ofNat 32 (136 * r.val))) 0 = 136 * r.val + k.val ∧ (k0_off57 k (BitVec.ofNat 32 (136 * r.val))) 1 = 0 := by decide +kernel
/-- The words a store of a block fills. -/
theorem off57_eq (k : Fin k0_t30_loop.trips) (r : Fin 15) : k0_off57 k (BitVec.ofNat 32 (136 * r.val)) = ![136 * r.val + k.val, 0] := of2 (off57_all k r)

theorem off79_eq_all : ∀ (k : Fin k0_t44_loop.trips), (k0_off79 k) 0 = k.val * 128 ∧ (k0_off79 k) 1 = 0 := by decide +kernel
/-- The picked rows of a block. -/
theorem off79_eq (k : Fin k0_t44_loop.trips) : k0_off79 k = ![k.val * 128, 0] := of2 (off79_eq_all k)

theorem off80_all : ∀ (k : Fin k0_t44_loop.trips) (r : Fin 15), (k0_off80 k (BitVec.ofNat 32 (136 * r.val))) 0 = 136 * r.val + k.val ∧ (k0_off80 k (BitVec.ofNat 32 (136 * r.val))) 1 = 0 := by decide +kernel
/-- The words a store of a block fills. -/
theorem off80_eq (k : Fin k0_t44_loop.trips) (r : Fin 15) : k0_off80 k (BitVec.ofNat 32 (136 * r.val)) = ![136 * r.val + k.val, 0] := of2 (off80_all k r)

theorem off89_eq_all : ∀ (k : Fin k0_t50_loop.trips), (k0_off89 k) 0 = k.val * 128 ∧ (k0_off89 k) 1 = 0 := by decide +kernel
/-- The picked rows of a block. -/
theorem off89_eq (k : Fin k0_t50_loop.trips) : k0_off89 k = ![k.val * 128, 0] := of2 (off89_eq_all k)

theorem off90_all : ∀ (k : Fin k0_t50_loop.trips) (r : Fin 15), (k0_off90 k (BitVec.ofNat 32 (136 * r.val))) 0 = 136 * r.val + k.val ∧ (k0_off90 k (BitVec.ofNat 32 (136 * r.val))) 1 = 0 := by decide +kernel
/-- The words a store of a block fills. -/
theorem off90_eq (k : Fin k0_t50_loop.trips) (r : Fin 15) : k0_off90 k (BitVec.ofNat 32 (136 * r.val)) = ![136 * r.val + k.val, 0] := of2 (off90_all k r)

theorem off32_eq_all : ∀ (i : Fin k0_t8_loop.trips) (e : Fin (k0_t16_loop i).trips) (w : Fin k0_t17_loop.trips), (k0_off32 i e w) 0 = (slot e.val (2 * i.val) * 5 + w.val) * 16 ∧ (k0_off32 i e w) 1 = 0 := by decide +kernel
/-- The upper words a dot reads. -/
theorem off32_eq (i : Fin k0_t8_loop.trips) (e : Fin (k0_t16_loop i).trips) (w : Fin k0_t17_loop.trips) : k0_off32 i e w = ![(slot e.val (2 * i.val) * 5 + w.val) * 16, 0] := of2 (off32_eq_all i e w)

theorem off33_eq_all : ∀ (i : Fin k0_t8_loop.trips) (e : Fin (k0_t16_loop i).trips) (w : Fin k0_t17_loop.trips), (k0_off33 i e w) 0 = (e.val * 5 + w.val) * 17 ∧ (k0_off33 i e w) 1 = 0 := by decide +kernel
/-- The words a dot reads. -/
theorem off33_eq (i : Fin k0_t8_loop.trips) (e : Fin (k0_t16_loop i).trips) (w : Fin k0_t17_loop.trips) : k0_off33 i e w = ![(e.val * 5 + w.val) * 17, 0] := of2 (off33_eq_all i e w)

theorem off34_eq_all : ∀ (i : Fin k0_t8_loop.trips) (e : Fin (k0_t16_loop i).trips), (k0_off34 i e) 0 = pairIdx e.val (2 * i.val) * 16 ∧ (k0_off34 i e) 1 = 0 := by decide +kernel
/-- The rows of the result a dot fills. -/
theorem off34_eq (i : Fin k0_t8_loop.trips) (e : Fin (k0_t16_loop i).trips) : k0_off34 i e = ![pairIdx e.val (2 * i.val) * 16, 0] := of2 (off34_eq_all i e)

theorem off58_eq_all : ∀ (i : Fin k0_t8_loop.trips) (e : Fin (k0_t31_loop i).trips) (w : Fin k0_t32_loop.trips), (k0_off58 i e w) 0 = (slot e.val (2 * i.val + 1) * 5 + w.val) * 16 ∧ (k0_off58 i e w) 1 = 0 := by decide +kernel
/-- The upper words a dot reads. -/
theorem off58_eq (i : Fin k0_t8_loop.trips) (e : Fin (k0_t31_loop i).trips) (w : Fin k0_t32_loop.trips) : k0_off58 i e w = ![(slot e.val (2 * i.val + 1) * 5 + w.val) * 16, 0] := of2 (off58_eq_all i e w)

theorem off59_eq_all : ∀ (i : Fin k0_t8_loop.trips) (e : Fin (k0_t31_loop i).trips) (w : Fin k0_t32_loop.trips), (k0_off59 i e w) 0 = (e.val * 5 + w.val) * 17 ∧ (k0_off59 i e w) 1 = 0 := by decide +kernel
/-- The words a dot reads. -/
theorem off59_eq (i : Fin k0_t8_loop.trips) (e : Fin (k0_t31_loop i).trips) (w : Fin k0_t32_loop.trips) : k0_off59 i e w = ![(e.val * 5 + w.val) * 17, 0] := of2 (off59_eq_all i e w)

theorem off60_eq_all : ∀ (i : Fin k0_t8_loop.trips) (e : Fin (k0_t31_loop i).trips), (k0_off60 i e) 0 = pairIdx e.val (2 * i.val + 1) * 16 ∧ (k0_off60 i e) 1 = 0 := by decide +kernel
/-- The rows of the result a dot fills. -/
theorem off60_eq (i : Fin k0_t8_loop.trips) (e : Fin (k0_t31_loop i).trips) : k0_off60 i e = ![pairIdx e.val (2 * i.val + 1) * 16, 0] := of2 (off60_eq_all i e)

theorem off81_eq_all : ∀ (e : Fin k0_t45_loop.trips) (w : Fin k0_t46_loop.trips), (k0_off81 e w) 0 = (slot e.val (22) * 5 + w.val) * 16 ∧ (k0_off81 e w) 1 = 0 := by decide +kernel
/-- The upper words a dot reads. -/
theorem off81_eq (e : Fin k0_t45_loop.trips) (w : Fin k0_t46_loop.trips) : k0_off81 e w = ![(slot e.val (22) * 5 + w.val) * 16, 0] := of2 (off81_eq_all e w)

theorem off82_eq_all : ∀ (e : Fin k0_t45_loop.trips) (w : Fin k0_t46_loop.trips), (k0_off82 e w) 0 = (e.val * 5 + w.val) * 17 ∧ (k0_off82 e w) 1 = 0 := by decide +kernel
/-- The words a dot reads. -/
theorem off82_eq (e : Fin k0_t45_loop.trips) (w : Fin k0_t46_loop.trips) : k0_off82 e w = ![(e.val * 5 + w.val) * 17, 0] := of2 (off82_eq_all e w)

theorem off83_eq_all : ∀ (e : Fin k0_t45_loop.trips), (k0_off83 e) 0 = pairIdx e.val (22) * 16 ∧ (k0_off83 e) 1 = 0 := by decide +kernel
/-- The rows of the result a dot fills. -/
theorem off83_eq (e : Fin k0_t45_loop.trips) : k0_off83 e = ![pairIdx e.val (22) * 16, 0] := of2 (off83_eq_all e)

theorem off91_eq_all : ∀ (e : Fin k0_t51_loop.trips) (w : Fin k0_t52_loop.trips), (k0_off91 e w) 0 = (slot e.val (23) * 5 + w.val) * 16 ∧ (k0_off91 e w) 1 = 0 := by decide +kernel
/-- The upper words a dot reads. -/
theorem off91_eq (e : Fin k0_t51_loop.trips) (w : Fin k0_t52_loop.trips) : k0_off91 e w = ![(slot e.val (23) * 5 + w.val) * 16, 0] := of2 (off91_eq_all e w)

theorem off92_eq_all : ∀ (e : Fin k0_t51_loop.trips) (w : Fin k0_t52_loop.trips), (k0_off92 e w) 0 = (e.val * 5 + w.val) * 17 ∧ (k0_off92 e w) 1 = 0 := by decide +kernel
/-- The words a dot reads. -/
theorem off92_eq (e : Fin k0_t51_loop.trips) (w : Fin k0_t52_loop.trips) : k0_off92 e w = ![(e.val * 5 + w.val) * 17, 0] := of2 (off92_eq_all e w)

theorem off93_eq_all : ∀ (e : Fin k0_t51_loop.trips), (k0_off93 e) 0 = pairIdx e.val (23) * 16 ∧ (k0_off93 e) 1 = 0 := by decide +kernel
/-- The rows of the result a dot fills. -/
theorem off93_eq (e : Fin k0_t51_loop.trips) : k0_off93 e = ![pairIdx e.val (23) * 16, 0] := of2 (off93_eq_all e)

theorem off38_eq_all : ∀ (i : Fin k0_t8_loop.trips) (g : Fin (k0_t20_loop i).trips) (w : Fin k0_t21_loop.trips), (k0_off38 i g w) 0 = ((2 * i.val + 1 + g.val) * 5 + w.val) * 17 ∧ (k0_off38 i g w) 1 = 0 := by decide +kernel
/-- The words a copy reads. -/
theorem off38_eq (i : Fin k0_t8_loop.trips) (g : Fin (k0_t20_loop i).trips) (w : Fin k0_t21_loop.trips) : k0_off38 i g w = ![((2 * i.val + 1 + g.val) * 5 + w.val) * 17, 0] := of2 (off38_eq_all i g w)

theorem off39_eq_all : ∀ (i : Fin k0_t8_loop.trips) (g : Fin (k0_t20_loop i).trips) (w : Fin k0_t21_loop.trips), (k0_off39 i g w) 0 = (slot (2 * i.val) (2 * i.val + 1 + g.val) * 5 + w.val) * 16 ∧ (k0_off39 i g w) 1 = 0 := by decide +kernel
/-- The upper words a copy fills. -/
theorem off39_eq (i : Fin k0_t8_loop.trips) (g : Fin (k0_t20_loop i).trips) (w : Fin k0_t21_loop.trips) : k0_off39 i g w = ![(slot (2 * i.val) (2 * i.val + 1 + g.val) * 5 + w.val) * 16, 0] := of2 (off39_eq_all i g w)

theorem off64_eq_all : ∀ (i : Fin k0_t8_loop.trips) (g : Fin (k0_t35_loop i).trips) (w : Fin k0_t36_loop.trips), (k0_off64 i g w) 0 = ((2 * i.val + 1 + 1 + g.val) * 5 + w.val) * 17 ∧ (k0_off64 i g w) 1 = 0 := by decide +kernel
/-- The words a copy reads. -/
theorem off64_eq (i : Fin k0_t8_loop.trips) (g : Fin (k0_t35_loop i).trips) (w : Fin k0_t36_loop.trips) : k0_off64 i g w = ![((2 * i.val + 1 + 1 + g.val) * 5 + w.val) * 17, 0] := of2 (off64_eq_all i g w)

theorem off65_eq_all : ∀ (i : Fin k0_t8_loop.trips) (g : Fin (k0_t35_loop i).trips) (w : Fin k0_t36_loop.trips), (k0_off65 i g w) 0 = (slot (2 * i.val + 1) (2 * i.val + 1 + 1 + g.val) * 5 + w.val) * 16 ∧ (k0_off65 i g w) 1 = 0 := by decide +kernel
/-- The upper words a copy fills. -/
theorem off65_eq (i : Fin k0_t8_loop.trips) (g : Fin (k0_t35_loop i).trips) (w : Fin k0_t36_loop.trips) : k0_off65 i g w = ![(slot (2 * i.val + 1) (2 * i.val + 1 + 1 + g.val) * 5 + w.val) * 16, 0] := of2 (off65_eq_all i g w)

theorem off84_eq_all : ∀ (w : Fin k0_t47_loop.trips), (k0_off84 w) 0 = (23 * 5 + w.val) * 17 ∧ (k0_off84 w) 1 = 0 := by decide +kernel
/-- The words a copy reads. -/
theorem off84_eq (w : Fin k0_t47_loop.trips) : k0_off84 w = ![(23 * 5 + w.val) * 17, 0] := of2 (off84_eq_all w)

theorem off85_eq_all : ∀ (w : Fin k0_t47_loop.trips), (k0_off85 w) 0 = (slot 22 23 * 5 + w.val) * 16 ∧ (k0_off85 w) 1 = 0 := by decide +kernel
/-- The upper words a copy fills. -/
theorem off85_eq (w : Fin k0_t47_loop.trips) : k0_off85 w = ![(slot 22 23 * 5 + w.val) * 16, 0] := of2 (off85_eq_all w)

/-- There is a next field to fetch. -/
theorem cond1_true : ∀ (i : Fin k0_t8_loop.trips), k0_cond1 i = 1#1 := by decide +kernel

/-- There is a next field to fetch. -/
theorem cond2_true : ∀ (i : Fin k0_t8_loop.trips), k0_cond2 i = 1#1 := by decide +kernel

end Cert.Proof.DotsIdeal

end
-- ==== Proof.DotsIdealMem.lean ====
module

public import proofs.«01_k».proof.Proof.Gen.DotsIdeal.Frame
public import proofs.«01_k».proof.Proof.Gen.DotsIdeal.Skeleton
public import proofs.«01_k».proof.Proof.DotsIdealFacts
public import Idealize.ShloMosaic.Lib.VecWindow
public import Idealize.ShloMosaic.Lib.WritesUnit
public import Idealize.ShloMosaic.Lib.Pointwise
public import Idealize.ShloMosaic.Lib.ValueLayout
public import Idealize.ShloMosaic.Lib.Batch
public import Idealize.ShloMosaic.Lib.Ring
public import Idealize.ShloMosaic.Lib.Pipeline.ValueKit.Geometry
public import Idealize.ShloMosaic.Lib.Exec
public import Idealize.ShloMosaic.Lib.LoopRemainder

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The table's strips and the copies that stream them -/

/-- The table of codes, transposed, in HBM. -/
abbrev A1 : Memref sig .tc .hbm S480x720000 .i8 := Memref.whole main_v1
/-- The four chunk buffers. -/
abbrev A3 : Memref sig .tc .vmem S4x480x7552 .i8 := Memref.whole cc0_scratch0

theorem first_le (f : ℕ) : first f + 30208 ≤ 720000 := by
  unfold first; have := Nat.min_le_right (30000 * f / 128) 5389; omega

theorem src_inb (f : ℕ) (j : Fin 4) (r : Fin 15) :
    ∀ a, (![32 * r.val, first f + 7552 * j.val] : Fin 2 → ℕ) a + S32x7552.size a ≤ S480x720000.size a := by
  have h := first_le f; have hj := j.isLt; have hr := r.isLt
  intro a; fin_cases a
  · show 32 * r.val + 32 ≤ 480; omega
  · show first f + 7552 * j.val + 7552 ≤ 720000; omega

theorem dst_inb (j : Fin 4) (r : Fin 15) :
    ∀ a, (![j.val, 32 * r.val, 0] : Fin 3 → ℕ) a + S1x32x7552.size a ≤ S4x480x7552.size a := by
  have hj := j.isLt; have hr := r.isLt
  intro a; fin_cases a
  · show j.val + 1 ≤ 4; omega
  · show 32 * r.val + 32 ≤ 480; omega
  · show 0 + 7552 ≤ 7552; omega

theorem sem_inb (j : Fin 4) : ∀ a, (![j.val] : Fin 1 → ℕ) a + S1.size a ≤ S4.size a := by
  have hj := j.isLt; intro a; fin_cases a; show j.val + 1 ≤ 4; omega

/-- Copy `(f, j, r)`'s source: 32 rows of chunk `j` of field `f`'s strip. -/
def srcM (f : ℕ) (j : Fin 4) (r : Fin 15) : Memref sig .tc .hbm S32x7552 .i8 :=
  A1.slice (Rect.unit (s := S480x720000) ![32 * r.val, first f + 7552 * j.val] S32x7552.size (src_inb f j r)) (fun _ => rfl)

/-- Copy `(f, j, r)`'s destination: the same 32 rows of chunk buffer `j`. -/
def dstM (j : Fin 4) (r : Fin 15) : Memref sig .tc .vmem S32x7552 .i8 :=
  (A3.slice (Rect.unit (s := S4x480x7552) ![j.val, 32 * r.val, 0] S1x32x7552.size (dst_inb j r)) (fun _ => rfl)).squeeze S32x7552 squeezes_S1x32x7552_S32x7552

/-- Chunk `j`'s semaphore. -/
def semM (j : Fin 4) : DmaSem sig :=
  ((cc0_scratch8.slice (Rect.unit (s := S4) ![j.val] S1.size (sem_inb j))).squeeze S_ squeezes_S1_S_).sem

/-- The table elements copy `(f, j, r)` reads. -/
def srcSet (f : ℕ) (j : Fin 4) (r : Fin 15) : Finset S480x720000.Idx := (srcM f j r).view.set

/-- What the chunk buffers hold of field `f`'s strip. -/
def stripBuf (X : S480x720000.Idx → Elt F .i8) (f : ℕ) : S4x480x7552.Idx → Elt F .i8 := fun i =>
  X (ValueIdx.ix2 (⟨(i 1).val, (i 1).isLt⟩ : Fin 480)
    (⟨first f + 7552 * (i 0).val + (i 2).val, by
      have h := first_le f; have h0 : (i 0).val < 4 := (i 0).isLt; have h2 : (i 2).val < 7552 := (i 2).isLt; omega⟩ : Fin 720000))

/-- Chunk buffer `j`'s elements. -/
def chunkSet (j : Fin 4) : Finset S4x480x7552.Idx := Finset.univ.filter fun i => (i 0).val = j.val
/-- The elements copy `(j, r)` writes. -/
def pieceSet (j : Fin 4) (r : Fin 15) : Finset S4x480x7552.Idx := Finset.univ.filter fun i => (i 0).val = j.val ∧ (i 1).val / 32 = r.val

theorem dst_set (j : Fin 4) (r : Fin 15) : (dstM j r).view.set = pieceSet j r := by
  unfold dstM
  refine ((View.set_reshape _ _).trans (View.set_slice_whole _ _)).trans ?_
  ext i
  rw [Rect.mem_set_unit]; unfold pieceSet; simp only [Finset.mem_filter, Finset.mem_univ, true_and]
  have h2 : (i 2).val < 7552 := (i 2).isLt
  constructor
  · intro H
    have a0 : j.val ≤ (i 0).val ∧ (i 0).val < j.val + 1 := H 0
    have a1 : 32 * r.val ≤ (i 1).val ∧ (i 1).val < 32 * r.val + 32 := H 1
    omega
  · intro H a; fin_cases a
    · show j.val ≤ (i 0).val ∧ (i 0).val < j.val + 1; omega
    · show 32 * r.val ≤ (i 1).val ∧ (i 1).val < 32 * r.val + 32; omega
    · show 0 ≤ (i 2).val ∧ (i 2).val < 0 + 7552; omega

theorem piece_cover (j : Fin 4) : Finset.univ.biUnion (pieceSet j) = chunkSet j := by
  ext i
  have h1 : (i 1).val < 480 := (i 1).isLt
  simp only [pieceSet, chunkSet, Finset.mem_biUnion, Finset.mem_filter, Finset.mem_univ, true_and]
  exact ⟨fun ⟨_, h⟩ => h.1, fun h => ⟨⟨(i 1).val / 32, by omega⟩, h, rfl⟩⟩

theorem piece_disj (j : Fin 4) : ∀ r ∈ (Finset.univ : Finset (Fin 15)), ∀ r' ∈ (Finset.univ : Finset (Fin 15)), r ≠ r' → Disjoint (pieceSet j r) (pieceSet j r') := by
  intro r _ r' _ hne
  rw [Finset.disjoint_left]; intro i h h'
  simp only [pieceSet, Finset.mem_filter, Finset.mem_univ, true_and] at h h'
  exact hne (Fin.ext (by omega))

theorem chunk_cover : Finset.univ.biUnion chunkSet = Finset.univ := by
  ext i; simp only [chunkSet, Finset.mem_biUnion, Finset.mem_filter, Finset.mem_univ, true_and, iff_true]
  exact ⟨⟨(i 0).val, (i 0).isLt⟩, rfl⟩

theorem chunk_disj : ∀ r ∈ (Finset.univ : Finset (Fin 4)), ∀ r' ∈ (Finset.univ : Finset (Fin 4)), r ≠ r' → Disjoint (chunkSet r) (chunkSet r') := by
  intro r _ r' _ hne
  rw [Finset.disjoint_left]; intro i h h'
  simp only [chunkSet, Finset.mem_filter, Finset.mem_univ, true_and] at h h'
  exact hne (Fin.ext (by omega))

variable (c : Dev nD)

/-- The read share of copy `(j, r)`. -/
abbrev tok (j : Fin 4) (r : Fin 15) : PosShare TreeShare := Transfers.shareTokN fullShare (15 * j.val + r.val)

/-- The table at share `q`, whole. -/
abbrev tabAt (X : S480x720000.Idx → Elt F .i8) (q : PosShare TreeShare) : sProp 𝕄 :=
  A1.view.loc (c : Thread nD τ) ↦[Finset.univ]{q} X

/-- The chunk buffers' elements `S`, holding `g`. -/
abbrev bufAt (S : Finset S4x480x7552.Idx) (g : S4x480x7552.Idx → Elt F .i8) : sProp 𝕄 :=
  A3.view.loc (c : Thread nD τ) ↦[S]{fullShare} g

/-- What copy `(f, j, r)` delivers: its destination holding its part of the strip, and its source's share back. -/
def deliv (X : S480x720000.Idx → Elt F .i8) (f : ℕ) (j : Fin 4) (r : Fin 15) : sProp 𝕄 :=
  iprop(bufAt c (pieceSet j r) (stripBuf X f) ∗ (A1.view.loc (c : Thread nD τ) ↦[srcSet f j r]{tok j r} X))

/-- The part of the table copy `(f, j, r)`'s share does not lend. -/
abbrev restAt (X : S480x720000.Idx → Elt F .i8) (f : ℕ) (j : Fin 4) (r : Fin 15) : sProp 𝕄 :=
  A1.view.loc (c : Thread nD τ) ↦[Finset.univ \ srcSet f j r]{tok j r} X

instance deliv_storable (X : S480x720000.Idx → Elt F .i8) (f : ℕ) (j : Fin 4) (r : Fin 15) :
    BI.Storable (upEmb : UEmb _ 𝕄) (deliv c X f j r) := by
  unfold deliv bufAt
  have h1 : BI.Storable (upEmb : UEmb _ 𝕄) (A3.view.loc (c : Thread nD τ) ↦[pieceSet j r]{fullShare} stripBuf X f) := inferInstance
  have h2 : BI.Storable (upEmb : UEmb _ 𝕄) (A1.view.loc (c : Thread nD τ) ↦[srcSet f j r]{tok j r} X) := inferInstance
  infer_instance

/-- A copy's credit on its semaphore. -/
def NN : ℕ := (dstM 0 0).view.dmaCredit

/-- Chunk `j`'s copies of field `f`: `k` issued, `u` units consumed. -/
abbrev flight (X : S480x720000.Idx → Elt F .i8) (f : ℕ) (j : Fin 4) (k u : ℕ) : sProp 𝕄 :=
  Transfers.Batch (countersEmb (U := Pipeline.UD sig nD τ)) (c : Thread nD τ) (.dma (semM j)) () NN (deliv c X f j) k u

/-- Chunk `j` on its way: all copies of field `f` issued, none waited for. -/
def InFlight (X : S480x720000.Idx → Elt F .i8) (f : ℕ) (j : Fin 4) : sProp 𝕄 :=
  iprop(flight c X f j 15 0 ∗ bigSep Finset.univ (restAt c X f j))

/-- Chunk `j` at rest, its buffer holding `g` (of which chunk `j`'s elements matter). -/
def Home (X : S480x720000.Idx → Elt F .i8) (j : Fin 4) (g : S4x480x7552.Idx → Elt F .i8) : sProp 𝕄 :=
  iprop(semVal ((c : Thread nD τ), SemLoc.dma (semM j)) 0 ∗ bufAt c (chunkSet j) g ∗ bigSep Finset.univ (fun r => tabAt c X (tok j r)))

/-- A copy's source read through the table is its destination's part of the strip. -/
theorem read_strip (X : S480x720000.Idx → Elt F .i8) (f : ℕ) (j : Fin 4) (r : Fin 15) :
    (dstM j r).view.read (Elt F) (stripBuf X f) = (srcM f j r).view.read (Elt F) X := by
  funext x
  obtain ⟨a, b, rfl⟩ : ∃ (a : Fin 32) (b : Fin 7552), x = ValueIdx.ix2 a b := ⟨x 0, x 1, ValueIdx.eq_ix2 x⟩
  unfold dstM srcM
  show stripBuf X f ((Rect.unit (s := S4x480x7552) ![j.val, 32 * r.val, 0] S1x32x7552.size (dst_inb j r)).emb (Shape.reshapeEquiv _ (ValueIdx.ix2 a b)))
    = X ((Rect.unit (s := S480x720000) ![32 * r.val, first f + 7552 * j.val] S32x7552.size (src_inb f j r)).emb (ValueIdx.ix2 a b))
  rw [ValueIdx.reshapeEquiv_ix2_1ab]
  unfold stripBuf
  have e3 := Idealize.ShloMosaic.ValueKit.rect_emb_unit_val (s := S4x480x7552) ![j.val, 32 * r.val, 0] S1x32x7552.size (dst_inb j r) (ValueIdx.ix3 (⟨0, Nat.one_pos⟩ : Fin 1) a b)
  have e2 := Idealize.ShloMosaic.ValueKit.rect_emb_unit_val (s := S480x720000) ![32 * r.val, first f + 7552 * j.val] S32x7552.size (src_inb f j r) (ValueIdx.ix2 a b)
  refine congrArg X (funext fun k => Fin.ext ?_)
  fin_cases k
  · exact (e3 1).trans (e2 0).symm
  · refine (congrArg₂ (fun p q => first f + 7552 * p + q) (e3 0) (e3 2)).trans (Eq.trans ?_ (e2 1).symm)
    show first f + 7552 * (j.val + 0) + (0 + b.val) = first f + 7552 * j.val + b.val
    omega

theorem landed (X : S480x720000.Idx → Elt F .i8) (f : ℕ) (j : Fin 4) (r : Fin 15) (g : S4x480x7552.Idx → Elt F .i8) :
    iprop(((dstM j r).view.loc (c : Thread nD τ) ↦[pieceSet j r]{fullShare} ((dstM j r).view.write (Elt F) g (ReadAs.same.apply ((srcM f j r).view.read (Elt F) X)) Finset.univ))
      ∗ (A1.view.loc (c : Thread nD τ) ↦[srcSet f j r]{tok j r} X)) ⊢ (deliv c X f j r : sProp 𝕄) := by
  unfold deliv
  have e : (A3.view.loc (c : Thread nD τ) ↦[pieceSet j r]{fullShare} ((dstM j r).view.write (Elt F) g (ReadAs.same.apply ((srcM f j r).view.read (Elt F) X)) Finset.univ) : sProp 𝕄)
      = A3.view.loc (c : Thread nD τ) ↦[pieceSet j r]{fullShare} stripBuf X f := by
    refine pointsTo_congr fun i hi => ?_
    rw [← dst_set] at hi
    obtain ⟨x, -, rfl⟩ := (Finset.mem_map.mp hi)
    have h1 := congrFun (View.read_write_univ (v := (dstM j r).view) (Val := Elt F) g (ReadAs.same.apply ((srcM f j r).view.read (Elt F) X))) x
    have h2 := congrFun (read_strip X f j r) x
    exact h1.trans h2.symm
  exact sep_mono (Entails.of_eq e) .rfl

/-- One copy issued. -/
theorem start_one (X : S480x720000.Idx → Elt F .i8) (f : ℕ) (j : Fin 4) (r : Fin 15) (g : S4x480x7552.Idx → Elt F .i8)
    {o1 : Fin 1 → ℕ} {o3 : Fin 3 → ℕ} {o2 : Fin 2 → ℕ} (h1 : o1 = ![j.val]) (h3 : o3 = ![j.val, 32 * r.val, 0])
    (h2 : o2 = ![32 * r.val, first f + 7552 * j.val]) (i1) (i3) (i2) (hs) (hd) (ht) (k : PUnit → Prog (TpuEff nD τ sig (Elt F) Λ₀ .tc) Unit) (Q : Unit → sProp 𝕄) :
    iprop(flight c X f j r.val 0 ∗ bufAt c (pieceSet j r) g ∗ tabAt c X (tok j r)
        ∗ (iprop(flight c X f j (r.val + 1) 0 ∗ restAt c X f j r) -∗ wp frame (wpE (defs₀ (F := F)) Variants.none (c : Thread nD τ) none) Set.univ (k ⟨⟩) Q))
      ⊢ wp frame (wpE (defs₀ (F := F)) Variants.none (c : Thread nD τ) none) Set.univ
        (.op (.enqueueDma (A1.slice (Rect.unit (s := S480x720000) o2 S32x7552.size i2) (fun _ => rfl))
          (.here ((A3.slice (Rect.unit (s := S4x480x7552) o3 S1x32x7552.size i3) (fun _ => rfl)).squeeze S32x7552 squeezes_S1x32x7552_S32x7552))
          (.dma ((cc0_scratch8.slice (Rect.unit (s := S4) o1 S1.size i1)).squeeze S_ squeezes_S1_S_).sem) hs hd ht) k) Q := by
  subst h1 h3 h2
  iintro ⟨HB, HD, HT, Hk⟩
  ihave HT' := (pointsTo_split_subset (Finset.subset_univ (srcSet f j r))).1 $$ HT
  icases HT' with ⟨Hs, Hr⟩
  iapply (Transfers.wp_dmaBatch (countersEmb (U := Pipeline.UD sig nD τ)) Variants.none (c : Thread nD τ) none (src := srcM f j r) (dst := dstM j r) (Sd := pieceSet j r) () NN (by rfl)
    (dst_set j r).subset r.isLt (Nat.zero_le _) (landed c X f j r g)) $$ [Hs HD HB]
  · isplitl [Hs]; · iexact Hs
    isplitl [HD]; · iexact HD
    iexact HB
  iintro HB
  iapply Hk
  isplitl [HB]; · iexact HB
  iexact Hr

/-! ## Sequencing -/

/-- A program then its continuation. -/
theorem andThen {α β : Type} {P : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R)
    (h2 : ∀ x, R x ⊢ wp frame (wpE (defs₀ (F := F)) Variants.none (c : Thread nD τ) none) Set.univ (k x) Q) :
    P ⊢ wp frame (wpE (defs₀ (F := F)) Variants.none (c : Thread nD τ) none) Set.univ (p >>= k) Q := by
  rw [wp_bind]; exact h1.trans (wp_mono _ _ _ h2)

/-- A counted loop by an invariant over its trips. -/
theorem forInv {L : Scf.Loop 32} (ok : L.OK) {body : Fin L.trips → Unit → Prog (TpuEff nD τ sig (Elt F) Λ₀ .tc) Unit} (I : ℕ → sProp 𝕄)
    (h : ∀ (t : Fin L.trips) u, I t.val ⊢ wp frame (wpE (defs₀ (F := F)) Variants.none (c : Thread nD τ) none) Set.univ (body t u) (fun _ => I (t.val + 1))) :
    I 0 ⊢ wp frame (wpE (defs₀ (F := F)) Variants.none (c : Thread nD τ) none) Set.univ (Scf.Loop.for L ok ⟨⟩ body) (fun _ => I L.trips) := by
  have := Scf.wp_for frame (wpE (defs₀ (F := F)) Variants.none (c : Thread nD τ) none) Set.univ L.lb L.ub L.st ok (⟨⟩ : Unit) body (fun n _ => I n) h (Q := fun _ => I L.trips)
  refine BIBase.Entails.trans ?_ this
  iintro H
  isplitl [H]; · iexact H
  iintro %_ H; iexact H

/-! ## Issuing and awaiting a chunk -/

/-- Fifteen trips, each issuing one copy, put chunk `j` on its way. -/
theorem start_loop (X : S480x720000.Idx → Elt F .i8) (f : ℕ) (j : Fin 4) (g : S4x480x7552.Idx → Elt F .i8) {L : Scf.Loop 32} (ok : L.OK) (hL : L.trips = 15)
    {body : Fin L.trips → Unit → Prog (TpuEff nD τ sig (Elt F) Λ₀ .tc) Unit}
    (h : ∀ (t : Fin L.trips) u, iprop(flight c X f j t.val 0 ∗ bufAt c (pieceSet j (t.cast hL)) g ∗ tabAt c X (tok j (t.cast hL)))
        ⊢ wp frame (wpE (defs₀ (F := F)) Variants.none (c : Thread nD τ) none) Set.univ (body t u) (fun _ => iprop(flight c X f j (t.val + 1) 0 ∗ restAt c X f j (t.cast hL)))) :
    Home c X j g ⊢ wp frame (wpE (defs₀ (F := F)) Variants.none (c : Thread nD τ) none) Set.univ (Scf.Loop.for L ok ⟨⟩ body) (fun _ => InFlight c X f j) := by
  have main := forInv c ok (fun k => iprop(flight c X f j k 0 ∗ bigSep (Ring.rangeSet 15 k 15) (fun r => iprop(bufAt c (pieceSet j r) g ∗ tabAt c X (tok j r)))
      ∗ bigSep (Ring.rangeSet 15 0 k) (restAt c X f j))) (body := body) (by
    intro t u
    have ht : t.val < 15 := hL ▸ t.isLt
    rw [Ring.bigSep_rangeSet_head (NB := 15) (Φ := fun r => iprop(bufAt c (pieceSet j r) g ∗ tabAt c X (tok j r))) (lo := t.val) (by omega) (by omega),
      Ring.bigSep_rangeSet_last (NB := 15) (Φ := restAt c X f j) (lo := 0) (hi := t.val + 1) (by omega) (by omega)]
    iintro ⟨HB, ⟨⟨HD, HT⟩, Hs⟩, Hr⟩
    iapply wp_wand_r
    isplitl [HB HD HT]
    · iapply (h t u)
      isplitl [HB]; · iexact HB
      isplitl [HD]; · iexact HD
      iexact HT
    iintro %_ ⟨HB, HR⟩
    isplitl [HB]; · iexact HB
    isplitl [Hs]; · iexact Hs
    isplitl [HR]; · iexact HR
    iexact Hr)
  rw [hL] at main
  unfold Home InFlight
  iintro ⟨Hc, Hb, Ht⟩
  imod (Transfers.batch_alloc' (Lvl := ℕ) (countersEmb (U := Pipeline.UD sig nD τ)) (c : Thread nD τ) () NN (deliv c X f j) (sm := SemLoc.dma (semM j)) (E := Set.univ)) $$ Hc with HB
  ihave Hb' := (show bufAt c (chunkSet j) g ⊢ bigSep Finset.univ (fun r => bufAt c (pieceSet j r) g) from
    Entails.of_eq (by rw [← piece_cover]; exact pointsTo_biUnion _ _ (piece_disj j))) $$ Hb
  ihave Hbt := (show iprop(bigSep Finset.univ (fun r => bufAt c (pieceSet j r) g) ∗ bigSep Finset.univ (fun r => tabAt c X (tok j r)))
    ⊢ bigSep (Ring.rangeSet 15 0 15) (fun r => iprop(bufAt c (pieceSet j r) g ∗ tabAt c X (tok j r))) from
    Entails.of_eq (by rw [Ring.rangeSet_univ]; exact (BI.bigSep_sep _ _ _).symm)) $$ [Hb' Ht]
  · isplitl [Hb']; · iexact Hb'
    iexact Ht
  iapply wp_wand_r
  isplitl [HB Hbt]
  · iapply main
    isplitl [HB]; · iexact HB
    isplitl [Hbt]; · iexact Hbt
    rw [Ring.bigSep_rangeSet_empty (le_refl 0)]; iempintro
  iintro %_ ⟨HB, -, Hr⟩
  isplitl [HB]; · iexact HB
  rw [Ring.rangeSet_univ]; iexact Hr

/-- What the core still owes: nothing, whatever it has waited for. -/
abbrev Owes : sProp 𝕄 := iprop(∃ W, owes (c : Thread nD τ) 0 W)

/-- One copy of chunk `j` awaited: the state after `k` waits. -/
def Drain (X : S480x720000.Idx → Elt F .i8) (f : ℕ) (j : Fin 4) (k : ℕ) : sProp 𝕄 :=
  iprop(Owes c ∗ (if k < 15 then flight c X f j 15 (k * NN) else iprop(semVal ((c : Thread nD τ), SemLoc.dma (semM j)) 0 ∗ bigSep Finset.univ (deliv c X f j))))

theorem wait_one (X : S480x720000.Idx → Elt F .i8) (f : ℕ) (j : Fin 4) (r : Fin 15)
    {o1 : Fin 1 → ℕ} {o3 : Fin 3 → ℕ} {o2 : Fin 2 → ℕ} (h1 : o1 = ![j.val]) (h3 : o3 = ![j.val, 32 * r.val, 0]) (i1) (i3) (i2) (hs) (hd) (k : PUnit → Prog (TpuEff nD τ sig (Elt F) Λ₀ .tc) Unit) (Q : Unit → sProp 𝕄) :
    iprop(Drain c X f j r.val ∗ (Drain c X f j (r.val + 1) -∗ wp frame (wpE (defs₀ (F := F)) Variants.none (c : Thread nD τ) none) Set.univ (k ⟨⟩) Q))
      ⊢ wp frame (wpE (defs₀ (F := F)) Variants.none (c : Thread nD τ) none) Set.univ
        (.op (.waitDma2 ((cc0_scratch8.slice (Rect.unit (s := S4) o1 S1.size i1)).squeeze S_ squeezes_S1_S_).sem
          (A1.slice (Rect.unit (s := S480x720000) o2 S32x7552.size i2) (fun _ => rfl))
          ((A3.slice (Rect.unit (s := S4x480x7552) o3 S1x32x7552.size i3) (fun _ => rfl)).squeeze S32x7552 squeezes_S1x32x7552_S32x7552) hs hd) k) Q := by
  subst h1 h3
  have hr := r.isLt
  unfold Drain
  rw [if_pos hr]
  by_cases hl : r.val + 1 < 15
  · rw [if_pos hl]
    iintro ⟨⟨⟨%W, HO⟩, HB⟩, Hk⟩
    iapply (Transfers.wp_waitBatch (countersEmb (U := Pipeline.UD sig nD τ)) Variants.none (c : Thread nD τ) none (dstw := dstM j r) () (N := NN) (by rfl)
      (D := deliv c X f j) (u := r.val * NN) (by have h0 : 0 < NN := by decide
                                                 nlinarith)) $$ [HB HO]
    · isplitl [HB]; · iexact HB
      iexact HO
    iintro ⟨HB, HO⟩
    iapply Hk
    isplitl [HO]; · iexists _; iexact HO
    rw [show (r.val + 1) * NN = r.val * NN + NN by ring]; iexact HB
  · rw [if_neg hl]
    iintro ⟨⟨⟨%W, HO⟩, HB⟩, Hk⟩
    iapply (Transfers.wp_waitBatchLast (countersEmb (U := Pipeline.UD sig nD τ)) Variants.none (c : Thread nD τ) none (dstw := dstM j r) () (N := NN) (by rfl) (by decide)
      (D := deliv c X f j) (u := r.val * NN) (by rw [show r.val = 14 by omega]; ring)) $$ [HB HO]
    · isplitl [HB]; · iexact HB
      iexact HO
    iintro ⟨HD, Hc, HO⟩
    iapply Hk
    isplitl [HO]; · iexists _; iexact HO
    isplitl [Hc]; · iexact Hc
    iexact HD

/-- Fifteen trips, each awaiting one copy, bring chunk `j` home with field `f`'s codes. -/
theorem wait_loop (X : S480x720000.Idx → Elt F .i8) (f : ℕ) (j : Fin 4) {L : Scf.Loop 32} (ok : L.OK) (hL : L.trips = 15)
    {body : Fin L.trips → Unit → Prog (TpuEff nD τ sig (Elt F) Λ₀ .tc) Unit}
    (h : ∀ (t : Fin L.trips) u, Drain c X f j t.val
        ⊢ wp frame (wpE (defs₀ (F := F)) Variants.none (c : Thread nD τ) none) Set.univ (body t u) (fun _ => Drain c X f j (t.val + 1))) :
    iprop(Owes c ∗ InFlight c X f j) ⊢ wp frame (wpE (defs₀ (F := F)) Variants.none (c : Thread nD τ) none) Set.univ (Scf.Loop.for L ok ⟨⟩ body)
      (fun _ => iprop(Owes c ∗ Home c X j (stripBuf X f))) := by
  have main := forInv c ok (Drain c X f j) h
  rw [hL] at main
  unfold InFlight Home
  iintro ⟨HO, HB, Hr⟩
  iapply wp_wand_r
  isplitl [HO HB]
  · iapply main
    unfold Drain
    isplitl [HO]; · iexact HO
    rw [if_pos (by decide), Nat.zero_mul]; iexact HB
  unfold Drain
  rw [if_neg (by decide)]
  iintro %_ ⟨HO, Hc, HD⟩
  isplitl [HO]; · iexact HO
  isplitl [Hc]; · iexact Hc
  ihave HD' := (show bigSep Finset.univ (deliv c X f j) ⊢ iprop(bigSep Finset.univ (fun r => bufAt c (pieceSet j r) (stripBuf X f)) ∗ bigSep Finset.univ (fun r => (A1.view.loc (c : Thread nD τ) ↦[srcSet f j r]{tok j r} X : sProp 𝕄))) from
    Entails.of_eq (BI.bigSep_sep _ _ _)) $$ HD
  icases HD' with ⟨Hb, Hs⟩
  isplitl [Hb]
  · iapply (show bigSep Finset.univ (fun r => bufAt c (pieceSet j r) (stripBuf X f)) ⊢ bufAt c (chunkSet j) (stripBuf X f) from
      Entails.of_eq (by rw [← piece_cover]; exact (pointsTo_biUnion _ _ (piece_disj j)).symm))
    iexact Hb
  iapply (show iprop(bigSep Finset.univ (fun r => (A1.view.loc (c : Thread nD τ) ↦[srcSet f j r]{tok j r} X : sProp 𝕄)) ∗ bigSep Finset.univ (restAt c X f j)) ⊢ bigSep Finset.univ (fun r => tabAt c X (tok j r)) from
    (Entails.of_eq (BI.bigSep_sep _ _ _).symm).trans (BI.bigSep_mono fun r _ => (pointsTo_split_subset (Finset.subset_univ (srcSet f j r))).2))
  isplitl [Hs]; · iexact Hs
  iexact Hr

end Cert.Proof.DotsIdeal

end
-- ==== Proof.DotsIdealBase.lean ====
module

public import proofs.«01_k».proof.Proof.DotsIdealMem
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD)

/-- A buffer held whole, its contents satisfying `P`. -/
def Holds {sp : Space} {s : Shape} {e : EltTy} (M : Memref sig .tc sp s e) (P : (s.Idx → Elt F e) → Prop) : sProp 𝕄 :=
  iprop(∃ f : BufTy.Contents (Elt F) M.view.ty, (M.view.loc (c : Thread nD τ) ↦[M.view.set]{fullShare} f) ∗ ⌜P (M.view.read (Elt F) f)⌝)

/-- What a buffer holds may be weakened. -/
theorem Holds.mono {sp : Space} {s : Shape} {e : EltTy} {M : Memref sig .tc sp s e} {P Q : (s.Idx → Elt F e) → Prop} (h : ∀ a, P a → Q a) :
    Holds c M P ⊢ Holds c M Q := by
  unfold Holds
  iintro ⟨%f, H, %hf⟩
  iexists f; isplitl [H]; · iexact H
  ipureintro; exact h _ hf

/-- A program that uses part of the state, then its continuation. -/
theorem seqF {α β : Type} {P G : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R)
    (h2 : ∀ x, iprop(R x ∗ G) ⊢ wp frame (wpE (defs₀ (F := F)) Variants.none (c : Thread nD τ) none) Set.univ (k x) Q) :
    iprop(P ∗ G) ⊢ wp frame (wpE (defs₀ (F := F)) Variants.none (c : Thread nD τ) none) Set.univ (p >>= k) Q := by
  refine andThen c (R := fun x => iprop(R x ∗ G)) ?_ h2
  iintro ⟨HP, HG⟩
  iapply wp_wand_r
  isplitl [HP]; · iapply h1; iexact HP
  iintro %x HR
  isplitl [HR]; · iexact HR
  iexact HG

/-- A program that uses part of the state, the rest kept. -/
theorem keep {α : Type} {P G : sProp 𝕄} {R : α → sProp 𝕄} {p : Prog (TpuEff nD τ sig (Elt F) Λ₀ .tc) α}
    (h1 : P ⊢ wp frame (wpE (defs₀ (F := F)) Variants.none (c : Thread nD τ) none) Set.univ p R) :
    iprop(P ∗ G) ⊢ wp frame (wpE (defs₀ (F := F)) Variants.none (c : Thread nD τ) none) Set.univ p (fun x => iprop(R x ∗ G)) := by
  iintro ⟨HP, HG⟩
  iapply wp_wand_r
  isplitl [HP]; · iapply h1; iexact HP
  iintro %x HR
  isplitl [HR]; · iexact HR
  iexact HG

/-- A program that uses part of the state; its continuation gets what it leaves. -/
theorem seqI {α β : Type} {P : sProp 𝕄} {R : α → sProp 𝕄} {p : Prog (TpuEff nD τ sig (Elt F) Λ₀ .tc) α} {k : α → Prog (TpuEff nD τ sig (Elt F) Λ₀ .tc) β} {Q : β → sProp 𝕄}
    (h1 : P ⊢ wp frame (wpE (defs₀ (F := F)) Variants.none (c : Thread nD τ) none) Set.univ p R) :
    iprop(P ∗ (∀ x, R x -∗ wp frame (wpE (defs₀ (F := F)) Variants.none (c : Thread nD τ) none) Set.univ (k x) Q))
      ⊢ wp frame (wpE (defs₀ (F := F)) Variants.none (c : Thread nD τ) none) Set.univ (p >>= k) Q := by
  rw [wp_bind]
  iintro ⟨HP, HG⟩
  iapply wp_wand_r
  isplitl [HP]; · iapply h1; iexact HP
  iexact HG

/-- A load leaves what a buffer held. -/
theorem load_keep {s : Shape} {e : EltTy} (M : Memref sig .tc .vmem s e) (P : (s.Idx → Elt F e) → Prop) (r : LoadRect s) (hl) :
    Holds c M P ⊢ wp frame (wpE (defs₀ (F := F)) Variants.none (c : Thread nD τ) none) Set.univ (Prog.lift (.load M r hl)) (fun _ => Holds c M P) := by
  unfold Holds
  iintro ⟨%f, H, %h⟩
  iapply (wp_load Variants.none (c : Thread nD τ) none Set.univ (View.setOn_subset_set M.view _)) $$ H
  iintro H
  sl_step
  iexists f; isplitl [H]; · iexact H
  ipureintro; exact h

/-- A program that returns. -/
theorem done {α : Type} {Q : α → sProp 𝕄} (x : α) :
    Q x ⊢ wp frame (wpE (defs₀ (F := F)) Variants.none (c : Thread nD τ) none) Set.univ (pure x) Q := by
  iintro H; sl_step; iexact H

/-- A counted loop of no trips. -/
theorem forNone {L : Scf.Loop 32} (ok : L.OK) (hL : L.trips = 0) {body : Fin L.trips → Unit → Prog (TpuEff nD τ sig (Elt F) Λ₀ .tc) Unit} (P : sProp 𝕄) :
    P ⊢ wp frame (wpE (defs₀ (F := F)) Variants.none (c : Thread nD τ) none) Set.univ (Scf.Loop.for L ok ⟨⟩ body) (fun _ => P) :=
  forInv c ok (fun _ => P) (fun t _ => absurd t.isLt (by omega))

/-- A loop over the four chunks, each changing its chunk's state and the shared one. -/
theorem four_loop {L : Scf.Loop 32} (ok : L.OK) (hL : L.trips = 4) {body : Fin L.trips → Unit → Prog (TpuEff nD τ sig (Elt F) Λ₀ .tc) Unit}
    (P P' : Fin 4 → sProp 𝕄) (I : ℕ → sProp 𝕄)
    (h : ∀ (t : Fin L.trips) u, iprop(P (t.cast hL) ∗ I t.val)
        ⊢ wp frame (wpE (defs₀ (F := F)) Variants.none (c : Thread nD τ) none) Set.univ (body t u) (fun _ => iprop(P' (t.cast hL) ∗ I (t.val + 1)))) :
    iprop(bigSep Finset.univ P ∗ I 0) ⊢ wp frame (wpE (defs₀ (F := F)) Variants.none (c : Thread nD τ) none) Set.univ (Scf.Loop.for L ok ⟨⟩ body)
      (fun _ => iprop(bigSep Finset.univ P' ∗ I 4)) := by
  have main := forInv c ok (fun k => iprop(bigSep (Ring.rangeSet 4 k 4) P ∗ I k ∗ bigSep (Ring.rangeSet 4 0 k) P')) (body := body) (by
    intro t u
    have ht : t.val < 4 := hL ▸ t.isLt
    rw [Ring.bigSep_rangeSet_head (NB := 4) (Φ := P) (lo := t.val) (by omega) (by omega),
      Ring.bigSep_rangeSet_last (NB := 4) (Φ := P') (lo := 0) (hi := t.val + 1) (by omega) (by omega)]
    simp only [show ∀ h, (⟨t.val, h⟩ : Fin 4) = t.cast hL from fun _ => rfl, show ∀ h, (⟨t.val + 1 - 1, h⟩ : Fin 4) = t.cast hL from fun _ => rfl]
    iintro ⟨⟨HP, Hs⟩, HI, Hr⟩
    iapply wp_wand_r
    isplitl [HP HI]
    · iapply (h t u)
      isplitl [HP]; · iexact HP
      iexact HI
    iintro %_ ⟨HP, HI⟩
    isplitl [Hs]; · iexact Hs
    isplitl [HI]; · iexact HI
    isplitl [HP]; · iexact HP
    iexact Hr)
  rw [hL] at main
  iintro ⟨HP, HI⟩
  iapply wp_wand_r
  isplitl [HP HI]
  · iapply main
    isplitl [HP]; · rw [Ring.rangeSet_univ]; iexact HP
    isplitl [HI]; · iexact HI
    rw [Ring.bigSep_rangeSet_empty (le_refl 0)]; iempintro
  iintro %_ ⟨-, HI, HP⟩
  isplitl [HP]; · rw [Ring.rangeSet_univ]; iexact HP
  iexact HI

/-- One copy issued, and nothing after it. -/
theorem start_last (X : S480x720000.Idx → Elt F .i8) (f : ℕ) (j : Fin 4) (r : Fin 15) (g : S4x480x7552.Idx → Elt F .i8)
    {o1 : Fin 1 → ℕ} {o3 : Fin 3 → ℕ} {o2 : Fin 2 → ℕ} (h1 : o1 = ![j.val]) (h3 : o3 = ![j.val, 32 * r.val, 0])
    (h2 : o2 = ![32 * r.val, first f + 7552 * j.val]) (i1) (i3) (i2) (hs) (hd) (ht) :
    iprop(flight c X f j r.val 0 ∗ bufAt c (pieceSet j r) g ∗ tabAt c X (tok j r))
      ⊢ wp frame (wpE (defs₀ (F := F)) Variants.none (c : Thread nD τ) none) Set.univ
        (Prog.lift (.enqueueDma (A1.slice (Rect.unit (s := S480x720000) o2 S32x7552.size i2) (fun _ => rfl))
          (.here ((A3.slice (Rect.unit (s := S4x480x7552) o3 S1x32x7552.size i3) (fun _ => rfl)).squeeze S32x7552 squeezes_S1x32x7552_S32x7552))
          (.dma ((cc0_scratch8.slice (Rect.unit (s := S4) o1 S1.size i1)).squeeze S_ squeezes_S1_S_).sem) hs hd ht) >>= fun _ => (pure () : Prog (TpuEff nD τ sig (Elt F) Λ₀ .tc) Unit))
        (fun _ => iprop(flight c X f j (r.val + 1) 0 ∗ restAt c X f j r)) := by
  refine BIBase.Entails.trans ?_ (start_one c X f j r g h1 h3 h2 i1 i3 i2 hs hd ht (fun _ => (pure () : Prog (TpuEff nD τ sig (Elt F) Λ₀ .tc) Unit)) _)
  iintro ⟨HB, HD, HT⟩
  isplitl [HB]; · iexact HB
  isplitl [HD]; · iexact HD
  isplitl [HT]; · iexact HT
  iintro H; sl_step; iexact H

/-- One copy awaited, and nothing after it. -/
theorem wait_last (X : S480x720000.Idx → Elt F .i8) (f : ℕ) (j : Fin 4) (r : Fin 15)
    {o1 : Fin 1 → ℕ} {o3 : Fin 3 → ℕ} {o2 : Fin 2 → ℕ} (h1 : o1 = ![j.val]) (h3 : o3 = ![j.val, 32 * r.val, 0]) (i1) (i3) (i2) (hs) (hd) :
    Drain c X f j r.val
      ⊢ wp frame (wpE (defs₀ (F := F)) Variants.none (c : Thread nD τ) none) Set.univ
        (Prog.lift (.waitDma2 ((cc0_scratch8.slice (Rect.unit (s := S4) o1 S1.size i1)).squeeze S_ squeezes_S1_S_).sem
          (A1.slice (Rect.unit (s := S480x720000) o2 S32x7552.size i2) (fun _ => rfl))
          ((A3.slice (Rect.unit (s := S4x480x7552) o3 S1x32x7552.size i3) (fun _ => rfl)).squeeze S32x7552 squeezes_S1x32x7552_S32x7552) hs hd) >>= fun _ => (pure () : Prog (TpuEff nD τ sig (Elt F) Λ₀ .tc) Unit))
        (fun _ => Drain c X f j (r.val + 1)) := by
  refine BIBase.Entails.trans ?_ (wait_one c X f j r h1 h3 i1 i3 i2 hs hd (fun _ => (pure () : Prog (TpuEff nD τ sig (Elt F) Λ₀ .tc) Unit)) _)
  iintro HB
  isplitl [HB]; · iexact HB
  iintro H; sl_step; iexact H

/-- A tile of a chunk read: 128 table columns' bytes. -/
theorem load_tile (X : Tab) (f : ℕ) (j : Fin 4) (u : ℕ) (hu : u < 59) {o3 : Fin 3 → ℕ} (h3 : o3 = ![j.val, 0, 128 * u]) (i3) (hl) :
    bufAt (F := F) c (chunkSet j) (stripBuf X f)
      ⊢ wp frame (wpE (defs₀ (F := F)) Variants.none (c : Thread nD τ) none) Set.univ
        (Prog.lift (.load A3 (Rect.unit (s := S4x480x7552) o3 S1x480x128.size i3).toLoadRect hl))
        (fun V => iprop(bufAt (F := F) c (chunkSet j) (stripBuf X f)
          ∗ ⌜∀ (cc : Fin 480) (l : Fin 128), V (ValueIdx.ix3 (0 : Fin 1) cc l) = byteAt X (first f + (59 * j.val + u) * 128 + l.val) cc.val⌝)) := by
  subst h3
  have hsub : A3.view.setOn (Rect.unit (s := S4x480x7552) ![j.val, 0, 128 * u] S1x480x128.size i3).toLoadRect.set ⊆ chunkSet j := by
    intro i hi
    obtain ⟨y, hy, rfl⟩ := Finset.mem_map.mp hi
    have hi' : y ∈ (Rect.unit (s := S4x480x7552) ![j.val, 0, 128 * u] S1x480x128.size i3).set := hy
    rw [Rect.mem_set_unit] at hi'
    have h0 : j.val ≤ (y 0).val ∧ (y 0).val < j.val + 1 := hi' 0
    refine Finset.mem_filter.mpr ⟨Finset.mem_univ _, ?_⟩
    show (y 0).val = j.val
    omega
  iintro H
  iapply (wp_load Variants.none (c : Thread nD τ) none Set.univ hsub) $$ H
  iintro H
  sl_step
  isplitl [H]; · iexact H
  ipureintro
  intro cc l
  have hf := first_le f
  have hj := j.isLt
  have hl := l.isLt
  have hc := cc.isLt
  rw [View.readAt_apply]
  have e3 := Idealize.ShloMosaic.ValueKit.rect_emb_unit_val (s := S4x480x7552) ![j.val, 0, 128 * u] S1x480x128.size i3 (ValueIdx.ix3 (0 : Fin 1) cc l)
  show stripBuf (F := F) X f ((Rect.unit (s := S4x480x7552) ![j.val, 0, 128 * u] S1x480x128.size i3).emb (ValueIdx.ix3 (0 : Fin 1) cc l)) = byteAt X _ _
  unfold stripBuf byteAt
  refine congrArg X (funext fun k => Fin.ext ?_)
  fin_cases k
  · refine (e3 1).trans ?_
    show 0 + cc.val = cc.val % 480; omega
  · refine (congrArg₂ (fun p q => first f + 7552 * p + q) (e3 0) (e3 2)).trans ?_
    show first f + 7552 * (j.val + 0) + (128 * u + l.val) = (first f + (59 * j.val + u) * 128 + l.val) % 720000
    omega

/-- A tile of words stored below the ones there. -/
theorem put_tile (M : Memref sig .tc .vmem S30208x128 .i32) (X : Tab) (f m : ℕ) (hm : m < 236) {o : Fin 2 → ℕ} (ho : o = ![m * 128, 0]) (inb) (w : S128x120.Idx → BitVec 32)
    (hw : ∀ (l : Fin 128) (cc : Fin 120), w (ValueIdx.ix2 l cc) = cw X (first f + m * 128 + l.val) cc.val) (hs) (h3) :
    Holds (F := F) c M (Strip X f (m * 128))
      ⊢ wp frame (wpE (defs₀ (F := F)) Variants.none (c : Thread nD τ) none) Set.univ
        (Prog.lift (.store M (Rect.unit (s := S30208x128) o S128x120.size inb) w Finset.univ hs h3)) (fun _ => Holds (F := F) c M (Strip X f ((m + 1) * 128))) := by
  unfold Holds
  iintro ⟨%g, H, %h⟩
  sl_exec
  sl_step
  iexists _; isplitl [H]; · iexact H
  ipureintro
  exact Strip.step (F := F) hm (L := []) h ho hw

end Cert.Proof.DotsIdeal

end
-- ==== Proof.DotsIdealPicks.lean ====
module

public import proofs.«01_k».proof.Proof.DotsIdealBase
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One pick: a token's row of the strip is copied to the token's place. -/
theorem pick49 (X : Tab) (I : Ids) (hI : InField I) (k0_t48 : Fin k0_t48_loop.trips) (k0_t49 : Fin k0_t49_loop.trips) (u0 : Unit) :
    iprop(Holds c y10 (RowIds I 16 0) ∗ Holds c y5 (Strip X (23) 30208) ∗ Holds c y6 (Picked X I (23) (512 * k0_t48.val + k0_t49.val)))
      ⊢ wp frame (wpE (defs₀ (F := F)) Variants.none (c : Thread nD τ) none) Set.univ (k0_t49_body (F := F) y0 w0 A1 w1 y2 w2 A3 w3 y4 w4 y5 w5 y6 w6 y7 w7 y8 w8 y9 w9 y10 w10 cc0_scratch8 cc0_scratch9 k0_t48 k0_t49 u0)
        (fun _ => iprop(Holds c y10 (RowIds I 16 0) ∗ Holds c y5 (Strip X (23) 30208) ∗ Holds c y6 (Picked X I (23) (512 * k0_t48.val + k0_t49.val + 1)))) := by
  have b48 : k0_t48.val < 4 := (t48_trips) ▸ k0_t48.isLt
  have b49 : k0_t49.val < 512 := (t49_trips) ▸ k0_t49.isLt
  have ht : 512 * k0_t48.val + k0_t49.val < 2048 := by omega
  have hf : 23 < 24 := by omega
  unfold k0_t49_body Holds
  iintro ⟨⟨%f10, H10, %h10⟩, ⟨%f5, H5, %h5⟩, ⟨%f6, H6, %h6⟩⟩
  sl_exec
  have hv : pick49.sl.r y10 k0_t48 k0_t49 f10 = idAt I (23) (512 * k0_t48.val + k0_t49.val) - BitVec.ofNat 32 (first (23)) := by
    refine Eq.trans ?_ (h10.get hf ht (⟨(23) * 16 + (512 * k0_t48.val + k0_t49.val) / 128, by omega⟩ : Fin 384) (⟨(512 * k0_t48.val + k0_t49.val) % 128, by omega⟩ : Fin 128) rfl rfl)
    refine congrArg (y10.view.read (Elt F) f10) (funext fun a => Fin.ext ?_)
    match a with
    | ⟨0, _⟩ => show k0_off86 k0_t48 k0_t49 0 + 1 * 0 = _; rw [off86_eq]; rfl
    | ⟨1, _⟩ => show k0_off86 k0_t48 k0_t49 1 + 1 * 0 = _; rw [off86_eq]; rfl
  have hrow := row_of hI hf (512 * k0_t48.val + k0_t49.val)
  have hn : (pick49.sl.r y10 k0_t48 k0_t49 f10).toNat = idn I (23) (512 * k0_t48.val + k0_t49.val) - first (23) := by rw [hv]; exact hrow.2.2
  have hchk : k0_chk7 (pick49.sl.r y10 k0_t48 k0_t49 f10) := chk7_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off88_eq k0_t48 k0_t49) h5 (fun cc => ?_)
  have pe : ∀ v, k0_pay2 (F := F) v = v := fun v => by unfold k0_pay2; exact shapeCast_self _ _
  rw [pe]
  exact ld2 (Val := Elt F) y5.view f5 (Rect.unit (s := S30208x128) (k0_off87 (pick49.sl.r y10 k0_t48 k0_t49 f10)) S1x128.size (k0_off87_inb _ hchk)).toLoadRect (o := (pick49.sl.r y10 k0_t48 k0_t49 f10).toNat) (off87_eq _) rfl rfl (ValueIdx.ix2 (0 : Fin 1) cc) (⟨idn I (23) (512 * k0_t48.val + k0_t49.val) - first (23), hrow.2.1⟩ : Fin 30208) cc (hn.symm.trans (Nat.add_zero _).symm) rfl

/-- One pick: a token's row of the strip is copied to the token's place. -/
theorem pick12 (X : Tab) (I : Ids) (hI : InField I) (c0_i32_8 : BitVec 32) (c1_i32_9 : BitVec 32) (k0_t8 : Fin k0_t8_loop.trips) (k0_t9 : Fin k0_t9_loop.trips) (k0_t11 : Fin k0_t11_loop.trips) (k0_t12 : Fin (k0_t12_loop k0_t11).trips) (u0 : Unit) :
    iprop(Holds c y10 (RowIds I 16 0) ∗ Holds c y4 (Strip X (2 * k0_t8.val) 30208) ∗ Holds c y6 (Picked X I (2 * k0_t8.val) (512 * k0_t9.val + 512 * k0_t11.val / 59 + k0_t12.val)))
      ⊢ wp frame (wpE (defs₀ (F := F)) Variants.none (c : Thread nD τ) none) Set.univ (k0_t12_body (F := F) y0 w0 A1 w1 y2 w2 A3 w3 y4 w4 y5 w5 y6 w6 y7 w7 y8 w8 y9 w9 y10 w10 cc0_scratch8 cc0_scratch9 c0_i32_8 c1_i32_9 k0_t8 k0_t9 k0_t11 k0_t12 u0)
        (fun _ => iprop(Holds c y10 (RowIds I 16 0) ∗ Holds c y4 (Strip X (2 * k0_t8.val) 30208) ∗ Holds c y6 (Picked X I (2 * k0_t8.val) (512 * k0_t9.val + 512 * k0_t11.val / 59 + k0_t12.val + 1)))) := by
  have b8 : k0_t8.val < 11 := (t8_trips) ▸ k0_t8.isLt
  have b9 : k0_t9.val < 4 := (t9_trips) ▸ k0_t9.isLt
  have b11 : k0_t11.val < 59 := (t11_trips) ▸ k0_t11.isLt
  have b12 : k0_t12.val < 512 * (k0_t11.val + 1) / 59 - 512 * k0_t11.val / 59 := (t12_trips k0_t11) ▸ k0_t12.isLt
  have ht : 512 * k0_t9.val + 512 * k0_t11.val / 59 + k0_t12.val < 2048 := by omega
  have hf : 2 * k0_t8.val < 24 := by omega
  unfold k0_t12_body Holds
  iintro ⟨⟨%f10, H10, %h10⟩, ⟨%f5, H5, %h5⟩, ⟨%f6, H6, %h6⟩⟩
  sl_exec
  have hv : pick12.sl.r y10 k0_t8 k0_t9 k0_t11 k0_t12 f10 = idAt I (2 * k0_t8.val) (512 * k0_t9.val + 512 * k0_t11.val / 59 + k0_t12.val) - BitVec.ofNat 32 (first (2 * k0_t8.val)) := by
    refine Eq.trans ?_ (h10.get hf ht (⟨(2 * k0_t8.val) * 16 + (512 * k0_t9.val + 512 * k0_t11.val / 59 + k0_t12.val) / 128, by omega⟩ : Fin 384) (⟨(512 * k0_t9.val + 512 * k0_t11.val / 59 + k0_t12.val) % 128, by omega⟩ : Fin 128) rfl rfl)
    refine congrArg (y10.view.read (Elt F) f10) (funext fun a => Fin.ext ?_)
    match a with
    | ⟨0, _⟩ => show k0_off21 k0_t8 k0_t9 k0_t11 k0_t12 0 + 1 * 0 = _; rw [off21_eq]; rfl
    | ⟨1, _⟩ => show k0_off21 k0_t8 k0_t9 k0_t11 k0_t12 1 + 1 * 0 = _; rw [off21_eq]; rfl
  have hrow := row_of hI hf (512 * k0_t9.val + 512 * k0_t11.val / 59 + k0_t12.val)
  have hn : (pick12.sl.r y10 k0_t8 k0_t9 k0_t11 k0_t12 f10).toNat = idn I (2 * k0_t8.val) (512 * k0_t9.val + 512 * k0_t11.val / 59 + k0_t12.val) - first (2 * k0_t8.val) := by rw [hv]; exact hrow.2.2
  have hchk : k0_chk1 (pick12.sl.r y10 k0_t8 k0_t9 k0_t11 k0_t12 f10) := chk1_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off23_eq k0_t9 k0_t11 k0_t12) h5 (fun cc => ?_)
  have pe : ∀ v, k0_pay67 (F := F) v = v := fun v => by unfold k0_pay67; exact shapeCast_self _ _
  rw [pe]
  exact ld2 (Val := Elt F) y4.view f5 (Rect.unit (s := S30208x128) (k0_off22 (pick12.sl.r y10 k0_t8 k0_t9 k0_t11 k0_t12 f10)) S1x128.size (k0_off22_inb _ hchk)).toLoadRect (o := (pick12.sl.r y10 k0_t8 k0_t9 k0_t11 k0_t12 f10).toNat) (off22_eq _) rfl rfl (ValueIdx.ix2 (0 : Fin 1) cc) (⟨idn I (2 * k0_t8.val) (512 * k0_t9.val + 512 * k0_t11.val / 59 + k0_t12.val) - first (2 * k0_t8.val), hrow.2.1⟩ : Fin 30208) cc (hn.symm.trans (Nat.add_zero _).symm) rfl

/-- One pick: a token's row of the strip is copied to the token's place. -/
theorem pick27 (X : Tab) (I : Ids) (hI : InField I) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t26 : Fin k0_t26_loop.trips) (k0_t27 : Fin (k0_t27_loop k0_t26).trips) (u0 : Unit) :
    iprop(Holds c y10 (RowIds I 16 0) ∗ Holds c y5 (Strip X (2 * k0_t8.val + 1) 30208) ∗ Holds c y6 (Picked X I (2 * k0_t8.val + 1) (512 * k0_t24.val + 512 * k0_t26.val / 59 + k0_t27.val)))
      ⊢ wp frame (wpE (defs₀ (F := F)) Variants.none (c : Thread nD τ) none) Set.univ (k0_t27_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t26 k0_t27 u0)
        (fun _ => iprop(Holds c y10 (RowIds I 16 0) ∗ Holds c y5 (Strip X (2 * k0_t8.val + 1) 30208) ∗ Holds c y6 (Picked X I (2 * k0_t8.val + 1) (512 * k0_t24.val + 512 * k0_t26.val / 59 + k0_t27.val + 1)))) := by
  have b8 : k0_t8.val < 11 := (t8_trips) ▸ k0_t8.isLt
  have b24 : k0_t24.val < 4 := (t24_trips) ▸ k0_t24.isLt
  have b26 : k0_t26.val < 59 := (t26_trips) ▸ k0_t26.isLt
  have b27 : k0_t27.val < 512 * (k0_t26.val + 1) / 59 - 512 * k0_t26.val / 59 := (t27_trips k0_t26) ▸ k0_t27.isLt
  have ht : 512 * k0_t24.val + 512 * k0_t26.val / 59 + k0_t27.val < 2048 := by omega
  have hf : 2 * k0_t8.val + 1 < 24 := by omega
  unfold k0_t27_body Holds
  iintro ⟨⟨%f10, H10, %h10⟩, ⟨%f5, H5, %h5⟩, ⟨%f6, H6, %h6⟩⟩
  sl_exec
  have hv : pick27.sl.r y10 k0_t8 k0_t24 k0_t26 k0_t27 f10 = idAt I (2 * k0_t8.val + 1) (512 * k0_t24.val + 512 * k0_t26.val / 59 + k0_t27.val) - BitVec.ofNat 32 (first (2 * k0_t8.val + 1)) := by
    refine Eq.trans ?_ (h10.get hf ht (⟨(2 * k0_t8.val + 1) * 16 + (512 * k0_t24.val + 512 * k0_t26.val / 59 + k0_t27.val) / 128, by omega⟩ : Fin 384) (⟨(512 * k0_t24.val + 512 * k0_t26.val / 59 + k0_t27.val) % 128, by omega⟩ : Fin 128) rfl rfl)
    refine congrArg (y10.view.read (Elt F) f10) (funext fun a => Fin.ext ?_)
    match a with
    | ⟨0, _⟩ => show k0_off47 k0_t8 k0_t24 k0_t26 k0_t27 0 + 1 * 0 = _; rw [off47_eq]; rfl
    | ⟨1, _⟩ => show k0_off47 k0_t8 k0_t24 k0_t26 k0_t27 1 + 1 * 0 = _; rw [off47_eq]; rfl
  have hrow := row_of hI hf (512 * k0_t24.val + 512 * k0_t26.val / 59 + k0_t27.val)
  have hn : (pick27.sl.r y10 k0_t8 k0_t24 k0_t26 k0_t27 f10).toNat = idn I (2 * k0_t8.val + 1) (512 * k0_t24.val + 512 * k0_t26.val / 59 + k0_t27.val) - first (2 * k0_t8.val + 1) := by rw [hv]; exact hrow.2.2
  have hchk : k0_chk3 (pick27.sl.r y10 k0_t8 k0_t24 k0_t26 k0_t27 f10) := chk3_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off49_eq k0_t24 k0_t26 k0_t27) h5 (fun cc => ?_)
  have pe : ∀ v, k0_pay75 (F := F) v = v := fun v => by unfold k0_pay75; exact shapeCast_self _ _
  rw [pe]
  exact ld2 (Val := Elt F) y5.view f5 (Rect.unit (s := S30208x128) (k0_off48 (pick27.sl.r y10 k0_t8 k0_t24 k0_t26 k0_t27 f10)) S1x128.size (k0_off48_inb _ hchk)).toLoadRect (o := (pick27.sl.r y10 k0_t8 k0_t24 k0_t26 k0_t27 f10).toNat) (off48_eq _) rfl rfl (ValueIdx.ix2 (0 : Fin 1) cc) (⟨idn I (2 * k0_t8.val + 1) (512 * k0_t24.val + 512 * k0_t26.val / 59 + k0_t27.val) - first (2 * k0_t8.val + 1), hrow.2.1⟩ : Fin 30208) cc (hn.symm.trans (Nat.add_zero _).symm) rfl

/-- One pick: a token's row of the strip is copied to the token's place. -/
theorem pick42 (X : Tab) (I : Ids) (hI : InField I) (k0_t39 : Fin k0_t39_loop.trips) (k0_t41 : Fin k0_t41_loop.trips) (k0_t42 : Fin (k0_t42_loop k0_t41).trips) (u0 : Unit) :
    iprop(Holds c y10 (RowIds I 16 0) ∗ Holds c y4 (Strip X (22) 30208) ∗ Holds c y6 (Picked X I (22) (512 * k0_t39.val + 512 * k0_t41.val / 59 + k0_t42.val)))
      ⊢ wp frame (wpE (defs₀ (F := F)) Variants.none (c : Thread nD τ) none) Set.univ (k0_t42_body (F := F) y0 w0 A1 w1 y2 w2 A3 w3 y4 w4 y5 w5 y6 w6 y7 w7 y8 w8 y9 w9 y10 w10 cc0_scratch8 cc0_scratch9 k0_t39 k0_t41 k0_t42 u0)
        (fun _ => iprop(Holds c y10 (RowIds I 16 0) ∗ Holds c y4 (Strip X (22) 30208) ∗ Holds c y6 (Picked X I (22) (512 * k0_t39.val + 512 * k0_t41.val / 59 + k0_t42.val + 1)))) := by
  have b39 : k0_t39.val < 4 := (t39_trips) ▸ k0_t39.isLt
  have b41 : k0_t41.val < 59 := (t41_trips) ▸ k0_t41.isLt
  have b42 : k0_t42.val < 512 * (k0_t41.val + 1) / 59 - 512 * k0_t41.val / 59 := (t42_trips k0_t41) ▸ k0_t42.isLt
  have ht : 512 * k0_t39.val + 512 * k0_t41.val / 59 + k0_t42.val < 2048 := by omega
  have hf : 22 < 24 := by omega
  unfold k0_t42_body Holds
  iintro ⟨⟨%f10, H10, %h10⟩, ⟨%f5, H5, %h5⟩, ⟨%f6, H6, %h6⟩⟩
  sl_exec
  have hv : pick42.sl.r y10 k0_t39 k0_t41 k0_t42 f10 = idAt I (22) (512 * k0_t39.val + 512 * k0_t41.val / 59 + k0_t42.val) - BitVec.ofNat 32 (first (22)) := by
    refine Eq.trans ?_ (h10.get hf ht (⟨(22) * 16 + (512 * k0_t39.val + 512 * k0_t41.val / 59 + k0_t42.val) / 128, by omega⟩ : Fin 384) (⟨(512 * k0_t39.val + 512 * k0_t41.val / 59 + k0_t42.val) % 128, by omega⟩ : Fin 128) rfl rfl)
    refine congrArg (y10.view.read (Elt F) f10) (funext fun a => Fin.ext ?_)
    match a with
    | ⟨0, _⟩ => show k0_off73 k0_t39 k0_t41 k0_t42 0 + 1 * 0 = _; rw [off73_eq]; rfl
    | ⟨1, _⟩ => show k0_off73 k0_t39 k0_t41 k0_t42 1 + 1 * 0 = _; rw [off73_eq]; rfl
  have hrow := row_of hI hf (512 * k0_t39.val + 512 * k0_t41.val / 59 + k0_t42.val)
  have hn : (pick42.sl.r y10 k0_t39 k0_t41 k0_t42 f10).toNat = idn I (22) (512 * k0_t39.val + 512 * k0_t41.val / 59 + k0_t42.val) - first (22) := by rw [hv]; exact hrow.2.2
  have hchk : k0_chk5 (pick42.sl.r y10 k0_t39 k0_t41 k0_t42 f10) := chk5_of (by rw [hn]; exact hrow.2.1)
  sl_exec
  sl_step
  isplitl [H10]
  · iexists _; isplitl [H10]; · iexact H10
    ipureintro; exact h10
  isplitl [H5]
  · iexists _; isplitl [H5]; · iexact H5
    ipureintro; exact h5
  iexists _; isplitl [H6]; · iexact H6
  ipureintro
  refine Picked.step (F := F) hI hf ht (L := []) h6 (off75_eq k0_t39 k0_t41 k0_t42) h5 (fun cc => ?_)
  have pe : ∀ v, k0_pay125 (F := F) v = v := fun v => by unfold k0_pay125; exact shapeCast_self _ _
  rw [pe]
  exact ld2 (Val := Elt F) y4.view f5 (Rect.unit (s := S30208x128) (k0_off74 (pick42.sl.r y10 k0_t39 k0_t41 k0_t42 f10)) S1x128.size (k0_off74_inb _ hchk)).toLoadRect (o := (pick42.sl.r y10 k0_t39 k0_t41 k0_t42 f10).toNat) (off74_eq _) rfl rfl (ValueIdx.ix2 (0 : Fin 1) cc) (⟨idn I (22) (512 * k0_t39.val + 512 * k0_t41.val / 59 + k0_t42.val) - first (22), hrow.2.1⟩ : Fin 30208) cc (hn.symm.trans (Nat.add_zero _).symm) rfl

end Cert.Proof.DotsIdeal

end
-- ==== Proof.DotsIdealChunks.lean ====
module

public import proofs.«01_k».proof.Proof.DotsIdealBase
public import proofs.«01_k».proof.Proof.DotsIdealPicks
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One copy of field 0's strip issued. -/
theorem start2 (X : Tab) (j : Fin 4) (g : S4x480x7552.Idx → Elt F .i8) (k0_t1 : Fin k0_t1_loop.trips) (k0_t2 : Fin k0_t2_loop.trips) (hj : k0_t1.val = j.val) (u0 : Unit) :
    iprop(flight c X (0) j k0_t2.val 0 ∗ bufAt c (pieceSet j (k0_t2.cast t2_trips)) g ∗ tabAt c X (tok j (k0_t2.cast t2_trips)))
      ⊢ wp frame (wpE (defs₀ (F := F)) Variants.none (c : Thread nD τ) none) Set.univ (k0_t2_body (F := F) y0 w0 A1 w1 y2 w2 A3 w3 y4 w4 y5 w5 y6 w6 y7 w7 y8 w8 y9 w9 y10 w10 cc0_scratch8 cc0_scratch9 k0_t1 k0_t2 u0)
        (fun _ => iprop(flight c X (0) j (k0_t2.val + 1) 0 ∗ restAt c X (0) j (k0_t2.cast t2_trips))) := by
  unfold k0_t2_body
  exact start_last c X (0) j (k0_t2.cast t2_trips) g (by rw [off1_eq, hj]) (by rw [off2_eq, hj]; rfl) (by rw [off3_eq, hj]; rfl) _ _ _ _ _ _

/-- One copy of field 1's strip issued. -/
theorem start7 (X : Tab) (j : Fin 4) (g : S4x480x7552.Idx → Elt F .i8) (k0_t4 : Fin k0_t4_loop.trips) (k0_t7 : Fin k0_t7_loop.trips) (hj : k0_t4.val = j.val) (u0 : Unit) :
    iprop(flight c X (1) j k0_t7.val 0 ∗ bufAt c (pieceSet j (k0_t7.cast t7_trips)) g ∗ tabAt c X (tok j (k0_t7.cast t7_trips)))
      ⊢ wp frame (wpE (defs₀ (F := F)) Variants.none (c : Thread nD τ) none) Set.univ (k0_t7_body (F := F) y0 w0 A1 w1 y2 w2 A3 w3 y4 w4 y5 w5 y6 w6 y7 w7 y8 w8 y9 w9 y10 w10 cc0_scratch8 cc0_scratch9 k0_t4 k0_t7 u0)
        (fun _ => iprop(flight c X (1) j (k0_t7.val + 1) 0 ∗ restAt c X (1) j (k0_t7.cast t7_trips))) := by
  unfold k0_t7_body
  exact start_last c X (1) j (k0_t7.cast t7_trips) g (by rw [off13_eq, hj]) (by rw [off14_eq, hj]; rfl) (by rw [off15_eq, hj]; rfl) _ _ _ _ _ _

/-- One copy of field 2 * k0_t8.val + 2's strip issued. -/
theorem start14 (X : Tab) (j : Fin 4) (g : S4x480x7552.Idx → Elt F .i8) (c0_i32_8 : BitVec 32) (c1_i32_9 : BitVec 32) (k0_t8 : Fin k0_t8_loop.trips) (k0_t9 : Fin k0_t9_loop.trips) (k0_h : k0_cond1 k0_t8 = 1#1) (k0_t14 : Fin k0_t14_loop.trips) (hj : k0_t9.val = j.val) (u0 : Unit) :
    iprop(flight c X (2 * k0_t8.val + 2) j k0_t14.val 0 ∗ bufAt c (pieceSet j (k0_t14.cast t14_trips)) g ∗ tabAt c X (tok j (k0_t14.cast t14_trips)))
      ⊢ wp frame (wpE (defs₀ (F := F)) Variants.none (c : Thread nD τ) none) Set.univ (k0_t14_body (F := F) y0 w0 A1 w1 y2 w2 A3 w3 y4 w4 y5 w5 y6 w6 y7 w7 y8 w8 y9 w9 y10 w10 cc0_scratch8 cc0_scratch9 c0_i32_8 c1_i32_9 k0_t8 k0_t9 k0_h k0_t14 u0)
        (fun _ => iprop(flight c X (2 * k0_t8.val + 2) j (k0_t14.val + 1) 0 ∗ restAt c X (2 * k0_t8.val + 2) j (k0_t14.cast t14_trips))) := by
  unfold k0_t14_body
  exact start_last c X (2 * k0_t8.val + 2) j (k0_t14.cast t14_trips) g (by rw [off27_eq, hj]) (by rw [off28_eq, hj]; rfl) (by rw [off29_eq, hj]; rfl) _ _ _ _ _ _

/-- One copy of field 2 * k0_t8.val + 3's strip issued. -/
theorem start29 (X : Tab) (j : Fin 4) (g : S4x480x7552.Idx → Elt F .i8) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_h : k0_cond2 k0_t8 = 1#1) (k0_t29 : Fin k0_t29_loop.trips) (hj : k0_t24.val = j.val) (u0 : Unit) :
    iprop(flight c X (2 * k0_t8.val + 3) j k0_t29.val 0 ∗ bufAt c (pieceSet j (k0_t29.cast t29_trips)) g ∗ tabAt c X (tok j (k0_t29.cast t29_trips)))
      ⊢ wp frame (wpE (defs₀ (F := F)) Variants.none (c : Thread nD τ) none) Set.univ (k0_t29_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_h k0_t29 u0)
        (fun _ => iprop(flight c X (2 * k0_t8.val + 3) j (k0_t29.val + 1) 0 ∗ restAt c X (2 * k0_t8.val + 3) j (k0_t29.cast t29_trips))) := by
  unfold k0_t29_body
  exact start_last c X (2 * k0_t8.val + 3) j (k0_t29.cast t29_trips) g (by rw [off53_eq, hj]) (by rw [off54_eq, hj]; rfl) (by rw [off55_eq, hj]; rfl) _ _ _ _ _ _

/-- One copy of field 0's strip awaited. -/
theorem wait5 (X : Tab) (j : Fin 4) (k0_t4 : Fin k0_t4_loop.trips) (k0_t5 : Fin k0_t5_loop.trips) (hj : k0_t4.val = j.val) (u0 : Unit) :
    Drain c X (0) j k0_t5.val
      ⊢ wp frame (wpE (defs₀ (F := F)) Variants.none (c : Thread nD τ) none) Set.univ (k0_t5_body (F := F) y0 w0 A1 w1 y2 w2 A3 w3 y4 w4 y5 w5 y6 w6 y7 w7 y8 w8 y9 w9 y10 w10 cc0_scratch8 cc0_scratch9 k0_t4 k0_t5 u0) (fun _ => Drain c X (0) j (k0_t5.val + 1)) := by
  unfold k0_t5_body
  exact wait_last c X (0) j (k0_t5.cast t5_trips) (by rw [off8_eq, hj]) (by rw [off9_eq, hj]; rfl) _ _ _ _ _

/-- One copy of field 2 * k0_t8.val + 1's strip awaited. -/
theorem wait10 (X : Tab) (j : Fin 4) (c0_i32_8 : BitVec 32) (c1_i32_9 : BitVec 32) (k0_t8 : Fin k0_t8_loop.trips) (k0_t9 : Fin k0_t9_loop.trips) (k0_t10 : Fin k0_t10_loop.trips) (hj : k0_t9.val = j.val) (u0 : Unit) :
    Drain c X (2 * k0_t8.val + 1) j k0_t10.val
      ⊢ wp frame (wpE (defs₀ (F := F)) Variants.none (c : Thread nD τ) none) Set.univ (k0_t10_body (F := F) y0 w0 A1 w1 y2 w2 A3 w3 y4 w4 y5 w5 y6 w6 y7 w7 y8 w8 y9 w9 y10 w10 cc0_scratch8 cc0_scratch9 c0_i32_8 c1_i32_9 k0_t8 k0_t9 k0_t10 u0) (fun _ => Drain c X (2 * k0_t8.val + 1) j (k0_t10.val + 1)) := by
  unfold k0_t10_body
  exact wait_last c X (2 * k0_t8.val + 1) j (k0_t10.cast t10_trips) (by rw [off16_eq, hj]) (by rw [off17_eq, hj]; rfl) _ _ _ _ _

/-- One copy of field 2 * k0_t8.val + 2's strip awaited. -/
theorem wait25 (X : Tab) (j : Fin 4) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t25 : Fin k0_t25_loop.trips) (hj : k0_t24.val = j.val) (u0 : Unit) :
    Drain c X (2 * k0_t8.val + 2) j k0_t25.val
      ⊢ wp frame (wpE (defs₀ (F := F)) Variants.none (c : Thread nD τ) none) Set.univ (k0_t25_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t25 u0) (fun _ => Drain c X (2 * k0_t8.val + 2) j (k0_t25.val + 1)) := by
  unfold k0_t25_body
  exact wait_last c X (2 * k0_t8.val + 2) j (k0_t25.cast t25_trips) (by rw [off42_eq, hj]) (by rw [off43_eq, hj]; rfl) _ _ _ _ _

/-- One copy of field 23's strip awaited. -/
theorem wait40 (X : Tab) (j : Fin 4) (k0_t39 : Fin k0_t39_loop.trips) (k0_t40 : Fin k0_t40_loop.trips) (hj : k0_t39.val = j.val) (u0 : Unit) :
    Drain c X (23) j k0_t40.val
      ⊢ wp frame (wpE (defs₀ (F := F)) Variants.none (c : Thread nD τ) none) Set.univ (k0_t40_body (F := F) y0 w0 A1 w1 y2 w2 A3 w3 y4 w4 y5 w5 y6 w6 y7 w7 y8 w8 y9 w9 y10 w10 cc0_scratch8 cc0_scratch9 k0_t39 k0_t40 u0) (fun _ => Drain c X (23) j (k0_t40.val + 1)) := by
  unfold k0_t40_body
  exact wait_last c X (23) j (k0_t40.cast t40_trips) (by rw [off68_eq, hj]) (by rw [off69_eq, hj]; rfl) _ _ _ _ _

/-- One tile of field 0's strip transposed. -/
theorem tile6 (X : Tab) (j : Fin 4) (k0_t4 : Fin k0_t4_loop.trips) (k0_t6 : Fin k0_t6_loop.trips) (hj : k0_t4.val = j.val) (u0 : Unit) :
    iprop(bufAt c (chunkSet j) (stripBuf X (0)) ∗ Holds c y4 (Strip X (0) ((59 * k0_t4.val + k0_t6.val) * 128)))
      ⊢ wp frame (wpE (defs₀ (F := F)) Variants.none (c : Thread nD τ) none) Set.univ (k0_t6_body (F := F) y0 w0 A1 w1 y2 w2 A3 w3 y4 w4 y5 w5 y6 w6 y7 w7 y8 w8 y9 w9 y10 w10 cc0_scratch8 cc0_scratch9 k0_t4 k0_t6 u0)
        (fun _ => iprop(bufAt c (chunkSet j) (stripBuf X (0)) ∗ Holds c y4 (Strip X (0) ((59 * k0_t4.val + k0_t6.val + 1) * 128)))) := by
  have b4 : k0_t4.val < 4 := (t4_trips) ▸ k0_t4.isLt
  have b6 : k0_t6.val < 59 := (t6_trips) ▸ k0_t6.isLt
  unfold k0_t6_body
  iintro ⟨HB, H5⟩
  iapply (seqI c (load_tile c X (0) j k0_t6.val b6 (by rw [off11_eq, hj]) _ _))
  isplitl [HB]; · iexact HB
  iintro %V ⟨HB, %hV⟩
  iapply (seqI c (load_keep c y4 _ _ _))
  isplitl [H5]; · iexact H5
  iintro %_ H5
  iapply (seqI c (put_tile c y4 X (0) (59 * k0_t4.val + k0_t6.val) (by omega) (off12_eq _ _) _ _ (by
    intro l cc
    unfold k0_pay121
    refine (tile_pay X (first (0) + (59 * k0_t4.val + k0_t6.val) * 128) V ?_ _ _ _ _ l cc).trans rfl
    intro cc l; rw [hj]; exact hV cc l) _ _))
  isplitl [H5]; · iexact H5
  iintro %_ H5
  iapply (done c)
  isplitl [HB]; · iexact HB
  iexact H5

/-- One tile of field 2 * k0_t8.val + 1's strip transposed, and its share of the tokens’ rows picked. -/
theorem tile11 (X : Tab) (I : Ids) (hI : InField I) (j : Fin 4) (c0_i32_8 : BitVec 32) (c1_i32_9 : BitVec 32) (k0_t8 : Fin k0_t8_loop.trips) (k0_t9 : Fin k0_t9_loop.trips) (k0_t11 : Fin k0_t11_loop.trips) (hj : k0_t9.val = j.val) (u0 : Unit) :
    iprop(bufAt c (chunkSet j) (stripBuf X (2 * k0_t8.val + 1)) ∗ Holds c y5 (Strip X (2 * k0_t8.val + 1) ((59 * k0_t9.val + k0_t11.val) * 128)) ∗ Holds c y10 (RowIds I 16 0) ∗ Holds c y4 (Strip X (2 * k0_t8.val) 30208) ∗ Holds c y6 (Picked X I (2 * k0_t8.val) (512 * k0_t9.val + 512 * (k0_t11.val) / 59)))
      ⊢ wp frame (wpE (defs₀ (F := F)) Variants.none (c : Thread nD τ) none) Set.univ (k0_t11_body (F := F) y0 w0 A1 w1 y2 w2 A3 w3 y4 w4 y5 w5 y6 w6 y7 w7 y8 w8 y9 w9 y10 w10 cc0_scratch8 cc0_scratch9 c0_i32_8 c1_i32_9 k0_t8 k0_t9 k0_t11 u0)
        (fun _ => iprop(bufAt c (chunkSet j) (stripBuf X (2 * k0_t8.val + 1)) ∗ Holds c y5 (Strip X (2 * k0_t8.val + 1) ((59 * k0_t9.val + k0_t11.val + 1) * 128)) ∗ Holds c y10 (RowIds I 16 0) ∗ Holds c y4 (Strip X (2 * k0_t8.val) 30208) ∗ Holds c y6 (Picked X I (2 * k0_t8.val) (512 * k0_t9.val + 512 * (k0_t11.val + 1) / 59)))) := by
  have b8 : k0_t8.val < 11 := (t8_trips) ▸ k0_t8.isLt
  have b9 : k0_t9.val < 4 := (t9_trips) ▸ k0_t9.isLt
  have b11 : k0_t11.val < 59 := (t11_trips) ▸ k0_t11.isLt
  unfold k0_t11_body
  iintro ⟨HB, H5, H10, H4, H6⟩
  iapply (seqI c (load_tile c X (2 * k0_t8.val + 1) j k0_t11.val b11 (by rw [off19_eq, hj]) _ _))
  isplitl [HB]; · iexact HB
  iintro %V ⟨HB, %hV⟩
  iapply (seqI c (load_keep c y5 _ _ _))
  isplitl [H5]; · iexact H5
  iintro %_ H5
  iapply (seqI c (put_tile c y5 X (2 * k0_t8.val + 1) (59 * k0_t9.val + k0_t11.val) (by omega) (off20_eq _ _) _ _ (by
    intro l cc
    unfold k0_pay66
    refine (tile_pay X (first (2 * k0_t8.val + 1) + (59 * k0_t9.val + k0_t11.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y4 (Strip X (2 * k0_t8.val) 30208) ∗ Holds c y6 (Picked X I (2 * k0_t8.val) (512 * k0_t9.val + 512 * k0_t11.val / 59 + n))))
    (fun t u => pick12 c y0 w0 w1 y2 w2 w3 y4 w4 y5 w5 y6 w6 y7 w7 y8 w8 y9 w9 y10 w10 X I hI c0_i32_8 c1_i32_9 k0_t8 k0_t9 k0_t11 t u)))
  isplitl [H10 H4 H6]
  · isplitl [H10]; · iexact H10
    isplitl [H4]; · iexact H4
    iexact H6
  iintro %_ ⟨H10, H4, H6⟩
  iapply (seqI c (forNone c _ (t13_trips _) iprop(emp)))
  isplitr; · iempintro
  iintro %_ -
  iapply (done c)
  isplitl [HB]; · iexact HB
  isplitl [H5]; · iexact H5
  isplitl [H10]; · iexact H10
  isplitl [H4]; · iexact H4
  rw [t12_trips k0_t11, show 512 * k0_t9.val + 512 * k0_t11.val / 59 + (512 * (k0_t11.val + 1) / 59 - 512 * k0_t11.val / 59) = 512 * k0_t9.val + 512 * (k0_t11.val + 1) / 59 by omega]
  iexact H6

/-- One tile of field 2 * k0_t8.val + 2's strip transposed, and its share of the tokens’ rows picked. -/
theorem tile26 (X : Tab) (I : Ids) (hI : InField I) (j : Fin 4) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t24 : Fin k0_t24_loop.trips) (k0_t26 : Fin k0_t26_loop.trips) (hj : k0_t24.val = j.val) (u0 : Unit) :
    iprop(bufAt c (chunkSet j) (stripBuf X (2 * k0_t8.val + 2)) ∗ Holds c y4 (Strip X (2 * k0_t8.val + 2) ((59 * k0_t24.val + k0_t26.val) * 128)) ∗ Holds c y10 (RowIds I 16 0) ∗ Holds c y5 (Strip X (2 * k0_t8.val + 1) 30208) ∗ Holds c y6 (Picked X I (2 * k0_t8.val + 1) (512 * k0_t24.val + 512 * (k0_t26.val) / 59)))
      ⊢ wp frame (wpE (defs₀ (F := F)) Variants.none (c : Thread nD τ) none) Set.univ (k0_t26_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t24 k0_t26 u0)
        (fun _ => iprop(bufAt c (chunkSet j) (stripBuf X (2 * k0_t8.val + 2)) ∗ Holds c y4 (Strip X (2 * k0_t8.val + 2) ((59 * k0_t24.val + k0_t26.val + 1) * 128)) ∗ Holds c y10 (RowIds I 16 0) ∗ Holds c y5 (Strip X (2 * k0_t8.val + 1) 30208) ∗ Holds c y6 (Picked X I (2 * k0_t8.val + 1) (512 * k0_t24.val + 512 * (k0_t26.val + 1) / 59)))) := by
  have b8 : k0_t8.val < 11 := (t8_trips) ▸ k0_t8.isLt
  have b24 : k0_t24.val < 4 := (t24_trips) ▸ k0_t24.isLt
  have b26 : k0_t26.val < 59 := (t26_trips) ▸ k0_t26.isLt
  unfold k0_t26_body
  iintro ⟨HB, H5, H10, H4, H6⟩
  iapply (seqI c (load_tile c X (2 * k0_t8.val + 2) j k0_t26.val b26 (by rw [off45_eq, hj]) _ _))
  isplitl [HB]; · iexact HB
  iintro %V ⟨HB, %hV⟩
  iapply (seqI c (load_keep c y4 _ _ _))
  isplitl [H5]; · iexact H5
  iintro %_ H5
  iapply (seqI c (put_tile c y4 X (2 * k0_t8.val + 2) (59 * k0_t24.val + k0_t26.val) (by omega) (off46_eq _ _) _ _ (by
    intro l cc
    unfold k0_pay74
    refine (tile_pay X (first (2 * k0_t8.val + 2) + (59 * k0_t24.val + k0_t26.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y5 (Strip X (2 * k0_t8.val + 1) 30208) ∗ Holds c y6 (Picked X I (2 * k0_t8.val + 1) (512 * k0_t24.val + 512 * k0_t26.val / 59 + n))))
    (fun t u => pick27 c y0 w0 w1 y2 w2 w3 y4 w4 y5 w5 y6 w6 y7 w7 y8 w8 y9 w9 y10 w10 X I hI k0_t8 v28 v32 v43 c1_i32_76 c0_i32_77 c1_i32_78 v50 k0_t24 k0_t26 t u)))
  isplitl [H10 H4 H6]
  · isplitl [H10]; · iexact H10
    isplitl [H4]; · iexact H4
    iexact H6
  iintro %_ ⟨H10, H4, H6⟩
  iapply (seqI c (forNone c _ (t28_trips _) iprop(emp)))
  isplitr; · iempintro
  iintro %_ -
  iapply (done c)
  isplitl [HB]; · iexact HB
  isplitl [H5]; · iexact H5
  isplitl [H10]; · iexact H10
  isplitl [H4]; · iexact H4
  rw [t27_trips k0_t26, show 512 * k0_t24.val + 512 * k0_t26.val / 59 + (512 * (k0_t26.val + 1) / 59 - 512 * k0_t26.val / 59) = 512 * k0_t24.val + 512 * (k0_t26.val + 1) / 59 by omega]
  iexact H6

/-- One tile of field 23's strip transposed, and its share of the tokens’ rows picked. -/
theorem tile41 (X : Tab) (I : Ids) (hI : InField I) (j : Fin 4) (k0_t39 : Fin k0_t39_loop.trips) (k0_t41 : Fin k0_t41_loop.trips) (hj : k0_t39.val = j.val) (u0 : Unit) :
    iprop(bufAt c (chunkSet j) (stripBuf X (23)) ∗ Holds c y5 (Strip X (23) ((59 * k0_t39.val + k0_t41.val) * 128)) ∗ Holds c y10 (RowIds I 16 0) ∗ Holds c y4 (Strip X (22) 30208) ∗ Holds c y6 (Picked X I (22) (512 * k0_t39.val + 512 * (k0_t41.val) / 59)))
      ⊢ wp frame (wpE (defs₀ (F := F)) Variants.none (c : Thread nD τ) none) Set.univ (k0_t41_body (F := F) y0 w0 A1 w1 y2 w2 A3 w3 y4 w4 y5 w5 y6 w6 y7 w7 y8 w8 y9 w9 y10 w10 cc0_scratch8 cc0_scratch9 k0_t39 k0_t41 u0)
        (fun _ => iprop(bufAt c (chunkSet j) (stripBuf X (23)) ∗ Holds c y5 (Strip X (23) ((59 * k0_t39.val + k0_t41.val + 1) * 128)) ∗ Holds c y10 (RowIds I 16 0) ∗ Holds c y4 (Strip X (22) 30208) ∗ Holds c y6 (Picked X I (22) (512 * k0_t39.val + 512 * (k0_t41.val + 1) / 59)))) := by
  have b39 : k0_t39.val < 4 := (t39_trips) ▸ k0_t39.isLt
  have b41 : k0_t41.val < 59 := (t41_trips) ▸ k0_t41.isLt
  unfold k0_t41_body
  iintro ⟨HB, H5, H10, H4, H6⟩
  iapply (seqI c (load_tile c X (23) j k0_t41.val b41 (by rw [off71_eq, hj]) _ _))
  isplitl [HB]; · iexact HB
  iintro %V ⟨HB, %hV⟩
  iapply (seqI c (load_keep c y5 _ _ _))
  isplitl [H5]; · iexact H5
  iintro %_ H5
  iapply (seqI c (put_tile c y5 X (23) (59 * k0_t39.val + k0_t41.val) (by omega) (off72_eq _ _) _ _ (by
    intro l cc
    unfold k0_pay124
    refine (tile_pay X (first (23) + (59 * k0_t39.val + k0_t41.val) * 128) V ?_ _ _ _ _ l cc).trans rfl
    intro cc l; rw [hj]; exact hV cc l) _ _))
  isplitl [H5]; · iexact H5
  iintro %_ H5
  iapply (seqI c (forInv c _ (fun n => iprop(Holds c y10 (RowIds I 16 0) ∗ Holds c y4 (Strip X (22) 30208) ∗ Holds c y6 (Picked X I (22) (512 * k0_t39.val + 512 * k0_t41.val / 59 + n))))
    (fun t u => pick42 c y0 w0 w1 y2 w2 w3 y4 w4 y5 w5 y6 w6 y7 w7 y8 w8 y9 w9 y10 w10 X I hI k0_t39 k0_t41 t u)))
  isplitl [H10 H4 H6]
  · isplitl [H10]; · iexact H10
    isplitl [H4]; · iexact H4
    iexact H6
  iintro %_ ⟨H10, H4, H6⟩
  iapply (seqI c (forNone c _ (t43_trips _) iprop(emp)))
  isplitr; · iempintro
  iintro %_ -
  iapply (done c)
  isplitl [HB]; · iexact HB
  isplitl [H5]; · iexact H5
  isplitl [H10]; · iexact H10
  isplitl [H4]; · iexact H4
  rw [t42_trips k0_t41, show 512 * k0_t39.val + 512 * k0_t41.val / 59 + (512 * (k0_t41.val + 1) / 59 - 512 * k0_t41.val / 59) = 512 * k0_t39.val + 512 * (k0_t41.val + 1) / 59 by omega]
  iexact H6

/-- The four chunks of field 0's strip received and transposed, the next field’s requested. -/
theorem chunks4 (X : Tab)  :
    iprop(bigSep Finset.univ (InFlight c X (0)) ∗ Owes c ∗ Holds c y4 (Strip X (0) 0))
      ⊢ wp frame (wpE (defs₀ (F := F)) Variants.none (c : Thread nD τ) none) Set.univ (Scf.Loop.for k0_t4_loop k0_t4_ok ⟨⟩ (k0_t4_body (F := F) y0 w0 A1 w1 y2 w2 A3 w3 y4 w4 y5 w5 y6 w6 y7 w7 y8 w8 y9 w9 y10 w10 cc0_scratch8 cc0_scratch9 ))
        (fun _ => iprop(bigSep Finset.univ (InFlight c X (1)) ∗ Owes c ∗ Holds c y4 (Strip X (0) 30208))) := by
  refine four_loop c _ t4_trips (InFlight c X (0)) (InFlight c X (1)) (fun n => iprop(Owes c ∗ Holds c y4 (Strip X (0) (59 * n * 128)))) (fun t u0 => ?_)
  unfold k0_t4_body
  iintro ⟨HF, HO, H5⟩
  iapply (seqI c (wait_loop c X (0) (t.cast t4_trips) _ t5_trips (fun r u => wait5 c y0 w0 w1 y2 w2 w3 y4 w4 y5 w5 y6 w6 y7 w7 y8 w8 y9 w9 y10 w10 X (t.cast t4_trips)  t r rfl u)))
  isplitl [HO HF]
  · isplitl [HO]; · iexact HO
    iexact HF
  unfold Home
  iintro %_ ⟨HO, Hs, HB, HT⟩
  iapply (seqI c (forInv c _ (fun n => iprop(bufAt c (chunkSet (t.cast t4_trips)) (stripBuf X (0)) ∗ Holds c y4 (Strip X (0) ((59 * t.val + n) * 128))))
    (fun u u0 => tile6 c y0 w0 w1 y2 w2 w3 y4 w4 y5 w5 y6 w6 y7 w7 y8 w8 y9 w9 y10 w10 X (t.cast t4_trips)  t u rfl u0)))
  isplitl [HB H5]
  · isplitl [HB]; · iexact HB
    iexact H5
  rw [t6_trips, show (59 * t.val + 59) * 128 = 59 * (t.val + 1) * 128 by ring]
  iintro %_ ⟨HB, H5⟩
  iapply (seqI c ((start_loop c X (1) (t.cast t4_trips) (stripBuf X (0)) _ t7_trips (fun r u => start7 c y0 w0 w1 y2 w2 w3 y4 w4 y5 w5 y6 w6 y7 w7 y8 w8 y9 w9 y10 w10 X (t.cast t4_trips) (stripBuf X (0))  t r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  iexact H5

/-- The four chunks of field 2 * k0_t8.val + 1's strip received and transposed, the next field’s requested, and field 2 * k0_t8.val’s rows picked. -/
theorem chunks9 (X : Tab) (I : Ids) (hI : InField I) (c0_i32_8 : BitVec 32) (c1_i32_9 : BitVec 32) (k0_t8 : Fin k0_t8_loop.trips) :
    iprop(bigSep Finset.univ (InFlight c X (2 * k0_t8.val + 1)) ∗ Owes c ∗ Holds c y5 (Strip X (2 * k0_t8.val + 1) 0) ∗ Holds c y10 (RowIds I 16 0) ∗ Holds c y4 (Strip X (2 * k0_t8.val) 30208) ∗ Holds c y6 (Picked X I (2 * k0_t8.val) (512 * (0))))
      ⊢ wp frame (wpE (defs₀ (F := F)) Variants.none (c : Thread nD τ) none) Set.univ (Scf.Loop.for k0_t9_loop k0_t9_ok ⟨⟩ (k0_t9_body (F := F) y0 w0 A1 w1 y2 w2 A3 w3 y4 w4 y5 w5 y6 w6 y7 w7 y8 w8 y9 w9 y10 w10 cc0_scratch8 cc0_scratch9 c0_i32_8 c1_i32_9 k0_t8))
        (fun _ => iprop(bigSep Finset.univ (InFlight c X (2 * k0_t8.val + 2)) ∗ Owes c ∗ Holds c y5 (Strip X (2 * k0_t8.val + 1) 30208) ∗ Holds c y10 (RowIds I 16 0) ∗ Holds c y4 (Strip X (2 * k0_t8.val) 30208) ∗ Holds c y6 (Picked X I (2 * k0_t8.val) (512 * (4))))) := by
  refine four_loop c _ t9_trips (InFlight c X (2 * k0_t8.val + 1)) (InFlight c X (2 * k0_t8.val + 2)) (fun n => iprop(Owes c ∗ Holds c y5 (Strip X (2 * k0_t8.val + 1) (59 * n * 128)) ∗ Holds c y10 (RowIds I 16 0) ∗ Holds c y4 (Strip X (2 * k0_t8.val) 30208) ∗ Holds c y6 (Picked X I (2 * k0_t8.val) (512 * (n))))) (fun t u0 => ?_)
  unfold k0_t9_body
  iintro ⟨HF, HO, H5, H10, H4, H6⟩
  iapply (seqI c (wait_loop c X (2 * k0_t8.val + 1) (t.cast t9_trips) _ t10_trips (fun r u => wait10 c y0 w0 w1 y2 w2 w3 y4 w4 y5 w5 y6 w6 y7 w7 y8 w8 y9 w9 y10 w10 X (t.cast t9_trips) c0_i32_8 c1_i32_9 k0_t8 t r rfl u)))
  isplitl [HO HF]
  · isplitl [HO]; · iexact HO
    iexact HF
  unfold Home
  iintro %_ ⟨HO, Hs, HB, HT⟩
  iapply (seqI c (forInv c _ (fun n => iprop(bufAt c (chunkSet (t.cast t9_trips)) (stripBuf X (2 * k0_t8.val + 1)) ∗ Holds c y5 (Strip X (2 * k0_t8.val + 1) ((59 * t.val + n) * 128)) ∗ Holds c y10 (RowIds I 16 0) ∗ Holds c y4 (Strip X (2 * k0_t8.val) 30208) ∗ Holds c y6 (Picked X I (2 * k0_t8.val) (512 * t.val + 512 * n / 59))))
    (fun u u0 => tile11 c y0 w0 w1 y2 w2 w3 y4 w4 y5 w5 y6 w6 y7 w7 y8 w8 y9 w9 y10 w10 X I hI (t.cast t9_trips) c0_i32_8 c1_i32_9 k0_t8 t u rfl u0)))
  isplitl [HB H5 H10 H4 H6]
  · isplitl [HB]; · iexact HB
    isplitl [H5]; · iexact H5
    isplitl [H10]; · iexact H10
    isplitl [H4]; · iexact H4
    iexact H6
  rw [t11_trips, show (59 * t.val + 59) * 128 = 59 * (t.val + 1) * 128 by ring, show 512 * t.val + 512 * 59 / 59 = 512 * (t.val + 1) by omega]
  iintro %_ ⟨HB, H5, H10, H4, H6⟩
  rw [dif_pos (cond1_true k0_t8)]
  iapply (seqI c ((start_loop c X (2 * k0_t8.val + 2) (t.cast t9_trips) (stripBuf X (2 * k0_t8.val + 1)) _ t14_trips (fun r u => start14 c y0 w0 w1 y2 w2 w3 y4 w4 y5 w5 y6 w6 y7 w7 y8 w8 y9 w9 y10 w10 X (t.cast t9_trips) (stripBuf X (2 * k0_t8.val + 1)) c0_i32_8 c1_i32_9 k0_t8 t (cond1_true k0_t8) r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  isplitl [H5]; · iexact H5
  isplitl [H10]; · iexact H10
  isplitl [H4]; · iexact H4
  iexact H6

/-- The four chunks of field 2 * k0_t8.val + 2's strip received and transposed, the next field’s requested, and field 2 * k0_t8.val + 1’s rows picked. -/
theorem chunks24 (X : Tab) (I : Ids) (hI : InField I) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(bigSep Finset.univ (InFlight c X (2 * k0_t8.val + 2)) ∗ Owes c ∗ Holds c y4 (Strip X (2 * k0_t8.val + 2) 0) ∗ Holds c y10 (RowIds I 16 0) ∗ Holds c y5 (Strip X (2 * k0_t8.val + 1) 30208) ∗ Holds c y6 (Picked X I (2 * k0_t8.val + 1) (512 * (0))))
      ⊢ wp frame (wpE (defs₀ (F := F)) Variants.none (c : Thread nD τ) none) Set.univ (Scf.Loop.for k0_t24_loop k0_t24_ok ⟨⟩ (k0_t24_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50))
        (fun _ => iprop(bigSep Finset.univ (InFlight c X (2 * k0_t8.val + 3)) ∗ Owes c ∗ Holds c y4 (Strip X (2 * k0_t8.val + 2) 30208) ∗ Holds c y10 (RowIds I 16 0) ∗ Holds c y5 (Strip X (2 * k0_t8.val + 1) 30208) ∗ Holds c y6 (Picked X I (2 * k0_t8.val + 1) (512 * (4))))) := by
  refine four_loop c _ t24_trips (InFlight c X (2 * k0_t8.val + 2)) (InFlight c X (2 * k0_t8.val + 3)) (fun n => iprop(Owes c ∗ Holds c y4 (Strip X (2 * k0_t8.val + 2) (59 * n * 128)) ∗ Holds c y10 (RowIds I 16 0) ∗ Holds c y5 (Strip X (2 * k0_t8.val + 1) 30208) ∗ Holds c y6 (Picked X I (2 * k0_t8.val + 1) (512 * (n))))) (fun t u0 => ?_)
  unfold k0_t24_body
  iintro ⟨HF, HO, H5, H10, H4, H6⟩
  iapply (seqI c (wait_loop c X (2 * k0_t8.val + 2) (t.cast t24_trips) _ t25_trips (fun r u => wait25 c y0 w0 w1 y2 w2 w3 y4 w4 y5 w5 y6 w6 y7 w7 y8 w8 y9 w9 y10 w10 X (t.cast t24_trips) k0_t8 v28 v32 v43 c1_i32_76 c0_i32_77 c1_i32_78 v50 t r rfl u)))
  isplitl [HO HF]
  · isplitl [HO]; · iexact HO
    iexact HF
  unfold Home
  iintro %_ ⟨HO, Hs, HB, HT⟩
  iapply (seqI c (forInv c _ (fun n => iprop(bufAt c (chunkSet (t.cast t24_trips)) (stripBuf X (2 * k0_t8.val + 2)) ∗ Holds c y4 (Strip X (2 * k0_t8.val + 2) ((59 * t.val + n) * 128)) ∗ Holds c y10 (RowIds I 16 0) ∗ Holds c y5 (Strip X (2 * k0_t8.val + 1) 30208) ∗ Holds c y6 (Picked X I (2 * k0_t8.val + 1) (512 * t.val + 512 * n / 59))))
    (fun u u0 => tile26 c y0 w0 w1 y2 w2 w3 y4 w4 y5 w5 y6 w6 y7 w7 y8 w8 y9 w9 y10 w10 X I hI (t.cast t24_trips) k0_t8 v28 v32 v43 c1_i32_76 c0_i32_77 c1_i32_78 v50 t u rfl u0)))
  isplitl [HB H5 H10 H4 H6]
  · isplitl [HB]; · iexact HB
    isplitl [H5]; · iexact H5
    isplitl [H10]; · iexact H10
    isplitl [H4]; · iexact H4
    iexact H6
  rw [t26_trips, show (59 * t.val + 59) * 128 = 59 * (t.val + 1) * 128 by ring, show 512 * t.val + 512 * 59 / 59 = 512 * (t.val + 1) by omega]
  iintro %_ ⟨HB, H5, H10, H4, H6⟩
  rw [dif_pos (cond2_true k0_t8)]
  iapply (seqI c ((start_loop c X (2 * k0_t8.val + 3) (t.cast t24_trips) (stripBuf X (2 * k0_t8.val + 2)) _ t29_trips (fun r u => start29 c y0 w0 w1 y2 w2 w3 y4 w4 y5 w5 y6 w6 y7 w7 y8 w8 y9 w9 y10 w10 X (t.cast t24_trips) (stripBuf X (2 * k0_t8.val + 2)) k0_t8 v28 v32 v43 c1_i32_76 c0_i32_77 c1_i32_78 v50 t (cond2_true k0_t8) r rfl u))))
  isplitl [Hs HB HT]
  · unfold Home
    isplitl [Hs]; · iexact Hs
    isplitl [HB]; · iexact HB
    iexact HT
  iintro %_ HF
  iapply (done c)
  isplitl [HF]
  · iexact HF
  isplitl [HO]; · iexact HO
  isplitl [H5]; · iexact H5
  isplitl [H10]; · iexact H10
  isplitl [H4]; · iexact H4
  iexact H6

/-- The four chunks of field 23's strip received and transposed, and field 22’s rows picked. -/
theorem chunks39 (X : Tab) (I : Ids) (hI : InField I)  :
    iprop(bigSep Finset.univ (InFlight c X (23)) ∗ Owes c ∗ Holds c y5 (Strip X (23) 0) ∗ Holds c y10 (RowIds I 16 0) ∗ Holds c y4 (Strip X (22) 30208) ∗ Holds c y6 (Picked X I (22) (512 * (0))))
      ⊢ wp frame (wpE (defs₀ (F := F)) Variants.none (c : Thread nD τ) none) Set.univ (Scf.Loop.for k0_t39_loop k0_t39_ok ⟨⟩ (k0_t39_body (F := F) y0 w0 A1 w1 y2 w2 A3 w3 y4 w4 y5 w5 y6 w6 y7 w7 y8 w8 y9 w9 y10 w10 cc0_scratch8 cc0_scratch9 ))
        (fun _ => iprop(bigSep Finset.univ (fun j => Home c X j (stripBuf X (23))) ∗ Owes c ∗ Holds c y5 (Strip X (23) 30208) ∗ Holds c y10 (RowIds I 16 0) ∗ Holds c y4 (Strip X (22) 30208) ∗ Holds c y6 (Picked X I (22) (512 * (4))))) := by
  refine four_loop c _ t39_trips (InFlight c X (23)) (fun j => Home c X j (stripBuf X (23))) (fun n => iprop(Owes c ∗ Holds c y5 (Strip X (23) (59 * n * 128)) ∗ Holds c y10 (RowIds I 16 0) ∗ Holds c y4 (Strip X (22) 30208) ∗ Holds c y6 (Picked X I (22) (512 * (n))))) (fun t u0 => ?_)
  unfold k0_t39_body
  iintro ⟨HF, HO, H5, H10, H4, H6⟩
  iapply (seqI c (wait_loop c X (23) (t.cast t39_trips) _ t40_trips (fun r u => wait40 c y0 w0 w1 y2 w2 w3 y4 w4 y5 w5 y6 w6 y7 w7 y8 w8 y9 w9 y10 w10 X (t.cast t39_trips)  t r rfl u)))
  isplitl [HO HF]
  · isplitl [HO]; · iexact HO
    iexact HF
  unfold Home
  iintro %_ ⟨HO, Hs, HB, HT⟩
  iapply (seqI c (forInv c _ (fun n => iprop(bufAt c (chunkSet (t.cast t39_trips)) (stripBuf X (23)) ∗ Holds c y5 (Strip X (23) ((59 * t.val + n) * 128)) ∗ Holds c y10 (RowIds I 16 0) ∗ Holds c y4 (Strip X (22) 30208) ∗ Holds c y6 (Picked X I (22) (512 * t.val + 512 * n / 59))))
    (fun u u0 => tile41 c y0 w0 w1 y2 w2 w3 y4 w4 y5 w5 y6 w6 y7 w7 y8 w8 y9 w9 y10 w10 X I hI (t.cast t39_trips)  t u rfl u0)))
  isplitl [HB H5 H10 H4 H6]
  · isplitl [HB]; · iexact HB
    isplitl [H5]; · iexact H5
    isplitl [H10]; · iexact H10
    isplitl [H4]; · iexact H4
    iexact H6
  rw [t41_trips, show (59 * t.val + 59) * 128 = 59 * (t.val + 1) * 128 by ring, show 512 * t.val + 512 * 59 / 59 = 512 * (t.val + 1) by omega]
  iintro %_ ⟨HB, H5, H10, H4, H6⟩
  iapply (done c)
  isplitl [Hs HB HT]
  · isplitl [Hs]; · iexact Hs
    isplitl [HB]; · iexact HB
    iexact HT
  isplitl [HO]; · iexact HO
  isplitl [H5]; · iexact H5
  isplitl [H10]; · iexact H10
  isplitl [H4]; · iexact H4
  iexact H6

end Cert.Proof.DotsIdeal

end
-- ==== Proof.DotsIdealWords.lean ====
module

public import proofs.«01_k».proof.Proof.DotsIdealBase
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One block of picked rows, transposed into words by token. -/
theorem words15 (X : Tab) (I : Ids) (c0_i32_8 : BitVec 32) (c1_i32_9 : BitVec 32) (k0_t8 : Fin k0_t8_loop.trips) (k0_t15 : Fin k0_t15_loop.trips) (u0 : Unit) :
    iprop(Holds c y6 (Picked X I (2 * k0_t8.val) 2048) ∗ Holds c y7 (Words X I (2 * k0_t8.val) k0_t15.val 0))
      ⊢ wp frame (wpE (defs₀ (F := F)) Variants.none (c : Thread nD τ) none) Set.univ (k0_t15_body (F := F) y0 w0 A1 w1 y2 w2 A3 w3 y4 w4 y5 w5 y6 w6 y7 w7 y8 w8 y9 w9 y10 w10 cc0_scratch8 cc0_scratch9 c0_i32_8 c1_i32_9 k0_t8 k0_t15 u0)
        (fun _ => iprop(Holds c y6 (Picked X I (2 * k0_t8.val) 2048) ∗ Holds c y7 (Words X I (2 * k0_t8.val) (k0_t15.val + 1) 0))) := by
  have b8 : k0_t8.val < 11 := (t8_trips) ▸ k0_t8.isLt
  have b15 : k0_t15.val < 16 := (t15_trips) ▸ k0_t15.isLt
  unfold k0_t15_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off30 k0_t15) S128x128.size (k0_off30_inb k0_t15)).toLoadRect f6) (ValueIdx.ix2 l w) = cw X (idn I (2 * k0_t8.val) (k0_t15.val * 128 + l.val)) w.val := by
    intro l w hw
    refine (ld2 (Val := Elt F) y6.view f6 (Rect.unit (s := S2048x128) (k0_off30 k0_t15) S128x128.size (k0_off30_inb k0_t15)).toLoadRect (o := k0_t15.val * 128) (off30_eq k0_t15) rfl rfl (ValueIdx.ix2 l w) (⟨k0_t15.val * 128 + l.val, by omega⟩ : Fin 2048) w rfl rfl).trans ?_
    exact h6 _ w (by show k0_t15.val * 128 + l.val < 2048; omega) hw
  refine Words.next ?_
  refine Words.step (F := F) (q := 14) b15 (by decide) ?_ (off31_eq k0_t15 14) (fun s l => ?_)
  swap
  · simp only [k0_pay71, shapeCast_self]
    exact words_pay (q := 14) b15 (by decide) hV rfl _ _ s l
  refine Words.step (F := F) (q := 13) b15 (by decide) ?_ (off31_eq k0_t15 13) (fun s l => ?_)
  swap
  · simp only [k0_pay70, shapeCast_self]
    exact words_pay (q := 13) b15 (by decide) hV rfl _ _ s l
  refine Words.step (F := F) (q := 12) b15 (by decide) ?_ (off31_eq k0_t15 12) (fun s l => ?_)
  swap
  · simp only [k0_pay69, shapeCast_self]
    exact words_pay (q := 12) b15 (by decide) hV rfl _ _ s l
  refine Words.step (F := F) (q := 11) b15 (by decide) ?_ (off31_eq k0_t15 11) (fun s l => ?_)
  swap
  · try unfold words15.sl.v155
    try unfold words15.sl.v150
    try unfold words15.sl.v83
    simp only [shapeCast_self]
    exact words_pay (q := 11) b15 (by decide) hV rfl _ _ s l
  refine Words.step (F := F) (q := 10) b15 (by decide) ?_ (off31_eq k0_t15 10) (fun s l => ?_)
  swap
  · try unfold words15.sl.v149
    try unfold words15.sl.v144
    try unfold words15.sl.v83
    simp only [shapeCast_self]
    exact words_pay (q := 10) b15 (by decide) hV rfl _ _ s l
  refine Words.step (F := F) (q := 9) b15 (by decide) ?_ (off31_eq k0_t15 9) (fun s l => ?_)
  swap
  · try unfold words15.sl.v143
    try unfold words15.sl.v138
    try unfold words15.sl.v83
    simp only [shapeCast_self]
    exact words_pay (q := 9) b15 (by decide) hV rfl _ _ s l
  refine Words.step (F := F) (q := 8) b15 (by decide) ?_ (off31_eq k0_t15 8) (fun s l => ?_)
  swap
  · try unfold words15.sl.v137
    try unfold words15.sl.v132
    try unfold words15.sl.v83
    simp only [shapeCast_self]
    exact words_pay (q := 8) b15 (by decide) hV rfl _ _ s l
  refine Words.step (F := F) (q := 7) b15 (by decide) ?_ (off31_eq k0_t15 7) (fun s l => ?_)
  swap
  · try unfold words15.sl.v131
    try unfold words15.sl.v126
    try unfold words15.sl.v83
    simp only [shapeCast_self]
    exact words_pay (q := 7) b15 (by decide) hV rfl _ _ s l
  refine Words.step (F := F) (q := 6) b15 (by decide) ?_ (off31_eq k0_t15 6) (fun s l => ?_)
  swap
  · try unfold words15.sl.v125
    try unfold words15.sl.v120
    try unfold words15.sl.v83
    simp only [shapeCast_self]
    exact words_pay (q := 6) b15 (by decide) hV rfl _ _ s l
  refine Words.step (F := F) (q := 5) b15 (by decide) ?_ (off31_eq k0_t15 5) (fun s l => ?_)
  swap
  · try unfold words15.sl.v119
    try unfold words15.sl.v114
    try unfold words15.sl.v83
    simp only [shapeCast_self]
    exact words_pay (q := 5) b15 (by decide) hV rfl _ _ s l
  refine Words.step (F := F) (q := 4) b15 (by decide) ?_ (off31_eq k0_t15 4) (fun s l => ?_)
  swap
  · try unfold words15.sl.v113
    try unfold words15.sl.v108
    try unfold words15.sl.v83
    simp only [shapeCast_self]
    exact words_pay (q := 4) b15 (by decide) hV rfl _ _ s l
  refine Words.step (F := F) (q := 3) b15 (by decide) ?_ (off31_eq k0_t15 3) (fun s l => ?_)
  swap
  · try unfold words15.sl.v107
    try unfold words15.sl.v102
    try unfold words15.sl.v83
    simp only [shapeCast_self]
    exact words_pay (q := 3) b15 (by decide) hV rfl _ _ s l
  refine Words.step (F := F) (q := 2) b15 (by decide) ?_ (off31_eq k0_t15 2) (fun s l => ?_)
  swap
  · try unfold words15.sl.v101
    try unfold words15.sl.v96
    try unfold words15.sl.v83
    simp only [shapeCast_self]
    exact words_pay (q := 2) b15 (by decide) hV rfl _ _ s l
  refine Words.step (F := F) (q := 1) b15 (by decide) ?_ (off31_eq k0_t15 1) (fun s l => ?_)
  swap
  · try unfold words15.sl.v95
    try unfold words15.sl.v90
    try unfold words15.sl.v83
    simp only [shapeCast_self]
    exact words_pay (q := 1) b15 (by decide) hV rfl _ _ s l
  refine Words.step (F := F) (q := 0) b15 (by decide) ?_ (off31_eq k0_t15 0) (fun s l => ?_)
  swap
  · try unfold words15.sl.v89
    try unfold words15.sl.v84
    try unfold words15.sl.v83
    simp only [shapeCast_self]
    exact words_pay (q := 0) b15 (by decide) hV rfl _ _ s l
  exact h7

/-- One block of picked rows, transposed into words by token. -/
theorem words30 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t30 : Fin k0_t30_loop.trips) (u0 : Unit) :
    iprop(Holds c y6 (Picked X I (2 * k0_t8.val + 1) 2048) ∗ Holds c y7 (Words X I (2 * k0_t8.val + 1) k0_t30.val 0))
      ⊢ wp frame (wpE (defs₀ (F := F)) Variants.none (c : Thread nD τ) none) Set.univ (k0_t30_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t30 u0)
        (fun _ => iprop(Holds c y6 (Picked X I (2 * k0_t8.val + 1) 2048) ∗ Holds c y7 (Words X I (2 * k0_t8.val + 1) (k0_t30.val + 1) 0))) := by
  have b8 : k0_t8.val < 11 := (t8_trips) ▸ k0_t8.isLt
  have b30 : k0_t30.val < 16 := (t30_trips) ▸ k0_t30.isLt
  unfold k0_t30_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off56 k0_t30) S128x128.size (k0_off56_inb k0_t30)).toLoadRect f6) (ValueIdx.ix2 l w) = cw X (idn I (2 * k0_t8.val + 1) (k0_t30.val * 128 + l.val)) w.val := by
    intro l w hw
    refine (ld2 (Val := Elt F) y6.view f6 (Rect.unit (s := S2048x128) (k0_off56 k0_t30) S128x128.size (k0_off56_inb k0_t30)).toLoadRect (o := k0_t30.val * 128) (off56_eq k0_t30) rfl rfl (ValueIdx.ix2 l w) (⟨k0_t30.val * 128 + l.val, by omega⟩ : Fin 2048) w rfl rfl).trans ?_
    exact h6 _ w (by show k0_t30.val * 128 + l.val < 2048; omega) hw
  refine Words.next ?_
  refine Words.step (F := F) (q := 14) b30 (by decide) ?_ (off57_eq k0_t30 14) (fun s l => ?_)
  swap
  · simp only [k0_pay79, shapeCast_self]
    exact words_pay (q := 14) b30 (by decide) hV rfl _ _ s l
  refine Words.step (F := F) (q := 13) b30 (by decide) ?_ (off57_eq k0_t30 13) (fun s l => ?_)
  swap
  · simp only [k0_pay78, shapeCast_self]
    exact words_pay (q := 13) b30 (by decide) hV rfl _ _ s l
  refine Words.step (F := F) (q := 12) b30 (by decide) ?_ (off57_eq k0_t30 12) (fun s l => ?_)
  swap
  · simp only [k0_pay77, shapeCast_self]
    exact words_pay (q := 12) b30 (by decide) hV rfl _ _ s l
  refine Words.step (F := F) (q := 11) b30 (by decide) ?_ (off57_eq k0_t30 11) (fun s l => ?_)
  swap
  · try unfold words30.sl.v155
    try unfold words30.sl.v150
    try unfold words30.sl.v83
    simp only [shapeCast_self]
    exact words_pay (q := 11) b30 (by decide) hV rfl _ _ s l
  refine Words.step (F := F) (q := 10) b30 (by decide) ?_ (off57_eq k0_t30 10) (fun s l => ?_)
  swap
  · try unfold words30.sl.v149
    try unfold words30.sl.v144
    try unfold words30.sl.v83
    simp only [shapeCast_self]
    exact words_pay (q := 10) b30 (by decide) hV rfl _ _ s l
  refine Words.step (F := F) (q := 9) b30 (by decide) ?_ (off57_eq k0_t30 9) (fun s l => ?_)
  swap
  · try unfold words30.sl.v143
    try unfold words30.sl.v138
    try unfold words30.sl.v83
    simp only [shapeCast_self]
    exact words_pay (q := 9) b30 (by decide) hV rfl _ _ s l
  refine Words.step (F := F) (q := 8) b30 (by decide) ?_ (off57_eq k0_t30 8) (fun s l => ?_)
  swap
  · try unfold words30.sl.v137
    try unfold words30.sl.v132
    try unfold words30.sl.v83
    simp only [shapeCast_self]
    exact words_pay (q := 8) b30 (by decide) hV rfl _ _ s l
  refine Words.step (F := F) (q := 7) b30 (by decide) ?_ (off57_eq k0_t30 7) (fun s l => ?_)
  swap
  · try unfold words30.sl.v131
    try unfold words30.sl.v126
    try unfold words30.sl.v83
    simp only [shapeCast_self]
    exact words_pay (q := 7) b30 (by decide) hV rfl _ _ s l
  refine Words.step (F := F) (q := 6) b30 (by decide) ?_ (off57_eq k0_t30 6) (fun s l => ?_)
  swap
  · try unfold words30.sl.v125
    try unfold words30.sl.v120
    try unfold words30.sl.v83
    simp only [shapeCast_self]
    exact words_pay (q := 6) b30 (by decide) hV rfl _ _ s l
  refine Words.step (F := F) (q := 5) b30 (by decide) ?_ (off57_eq k0_t30 5) (fun s l => ?_)
  swap
  · try unfold words30.sl.v119
    try unfold words30.sl.v114
    try unfold words30.sl.v83
    simp only [shapeCast_self]
    exact words_pay (q := 5) b30 (by decide) hV rfl _ _ s l
  refine Words.step (F := F) (q := 4) b30 (by decide) ?_ (off57_eq k0_t30 4) (fun s l => ?_)
  swap
  · try unfold words30.sl.v113
    try unfold words30.sl.v108
    try unfold words30.sl.v83
    simp only [shapeCast_self]
    exact words_pay (q := 4) b30 (by decide) hV rfl _ _ s l
  refine Words.step (F := F) (q := 3) b30 (by decide) ?_ (off57_eq k0_t30 3) (fun s l => ?_)
  swap
  · try unfold words30.sl.v107
    try unfold words30.sl.v102
    try unfold words30.sl.v83
    simp only [shapeCast_self]
    exact words_pay (q := 3) b30 (by decide) hV rfl _ _ s l
  refine Words.step (F := F) (q := 2) b30 (by decide) ?_ (off57_eq k0_t30 2) (fun s l => ?_)
  swap
  · try unfold words30.sl.v101
    try unfold words30.sl.v96
    try unfold words30.sl.v83
    simp only [shapeCast_self]
    exact words_pay (q := 2) b30 (by decide) hV rfl _ _ s l
  refine Words.step (F := F) (q := 1) b30 (by decide) ?_ (off57_eq k0_t30 1) (fun s l => ?_)
  swap
  · try unfold words30.sl.v95
    try unfold words30.sl.v90
    try unfold words30.sl.v83
    simp only [shapeCast_self]
    exact words_pay (q := 1) b30 (by decide) hV rfl _ _ s l
  refine Words.step (F := F) (q := 0) b30 (by decide) ?_ (off57_eq k0_t30 0) (fun s l => ?_)
  swap
  · try unfold words30.sl.v89
    try unfold words30.sl.v84
    try unfold words30.sl.v83
    simp only [shapeCast_self]
    exact words_pay (q := 0) b30 (by decide) hV rfl _ _ s l
  exact h7

/-- One block of picked rows, transposed into words by token. -/
theorem words44 (X : Tab) (I : Ids)  (k0_t44 : Fin k0_t44_loop.trips) (u0 : Unit) :
    iprop(Holds c y6 (Picked X I (22) 2048) ∗ Holds c y7 (Words X I (22) k0_t44.val 0))
      ⊢ wp frame (wpE (defs₀ (F := F)) Variants.none (c : Thread nD τ) none) Set.univ (k0_t44_body (F := F) y0 w0 A1 w1 y2 w2 A3 w3 y4 w4 y5 w5 y6 w6 y7 w7 y8 w8 y9 w9 y10 w10 cc0_scratch8 cc0_scratch9 k0_t44 u0)
        (fun _ => iprop(Holds c y6 (Picked X I (22) 2048) ∗ Holds c y7 (Words X I (22) (k0_t44.val + 1) 0))) := by
  have b44 : k0_t44.val < 16 := (t44_trips) ▸ k0_t44.isLt
  unfold k0_t44_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off79 k0_t44) S128x128.size (k0_off79_inb k0_t44)).toLoadRect f6) (ValueIdx.ix2 l w) = cw X (idn I (22) (k0_t44.val * 128 + l.val)) w.val := by
    intro l w hw
    refine (ld2 (Val := Elt F) y6.view f6 (Rect.unit (s := S2048x128) (k0_off79 k0_t44) S128x128.size (k0_off79_inb k0_t44)).toLoadRect (o := k0_t44.val * 128) (off79_eq k0_t44) rfl rfl (ValueIdx.ix2 l w) (⟨k0_t44.val * 128 + l.val, by omega⟩ : Fin 2048) w rfl rfl).trans ?_
    exact h6 _ w (by show k0_t44.val * 128 + l.val < 2048; omega) hw
  refine Words.next ?_
  refine Words.step (F := F) (q := 14) b44 (by decide) ?_ (off80_eq k0_t44 14) (fun s l => ?_)
  swap
  · simp only [k0_pay129, shapeCast_self]
    exact words_pay (q := 14) b44 (by decide) hV rfl _ _ s l
  refine Words.step (F := F) (q := 13) b44 (by decide) ?_ (off80_eq k0_t44 13) (fun s l => ?_)
  swap
  · simp only [k0_pay128, shapeCast_self]
    exact words_pay (q := 13) b44 (by decide) hV rfl _ _ s l
  refine Words.step (F := F) (q := 12) b44 (by decide) ?_ (off80_eq k0_t44 12) (fun s l => ?_)
  swap
  · simp only [k0_pay127, shapeCast_self]
    exact words_pay (q := 12) b44 (by decide) hV rfl _ _ s l
  refine Words.step (F := F) (q := 11) b44 (by decide) ?_ (off80_eq k0_t44 11) (fun s l => ?_)
  swap
  · try unfold words44.sl.v105
    try unfold words44.sl.v100
    try unfold words44.sl.v33
    simp only [shapeCast_self]
    exact words_pay (q := 11) b44 (by decide) hV rfl _ _ s l
  refine Words.step (F := F) (q := 10) b44 (by decide) ?_ (off80_eq k0_t44 10) (fun s l => ?_)
  swap
  · try unfold words44.sl.v99
    try unfold words44.sl.v94
    try unfold words44.sl.v33
    simp only [shapeCast_self]
    exact words_pay (q := 10) b44 (by decide) hV rfl _ _ s l
  refine Words.step (F := F) (q := 9) b44 (by decide) ?_ (off80_eq k0_t44 9) (fun s l => ?_)
  swap
  · try unfold words44.sl.v93
    try unfold words44.sl.v88
    try unfold words44.sl.v33
    simp only [shapeCast_self]
    exact words_pay (q := 9) b44 (by decide) hV rfl _ _ s l
  refine Words.step (F := F) (q := 8) b44 (by decide) ?_ (off80_eq k0_t44 8) (fun s l => ?_)
  swap
  · try unfold words44.sl.v87
    try unfold words44.sl.v82
    try unfold words44.sl.v33
    simp only [shapeCast_self]
    exact words_pay (q := 8) b44 (by decide) hV rfl _ _ s l
  refine Words.step (F := F) (q := 7) b44 (by decide) ?_ (off80_eq k0_t44 7) (fun s l => ?_)
  swap
  · try unfold words44.sl.v81
    try unfold words44.sl.v76
    try unfold words44.sl.v33
    simp only [shapeCast_self]
    exact words_pay (q := 7) b44 (by decide) hV rfl _ _ s l
  refine Words.step (F := F) (q := 6) b44 (by decide) ?_ (off80_eq k0_t44 6) (fun s l => ?_)
  swap
  · try unfold words44.sl.v75
    try unfold words44.sl.v70
    try unfold words44.sl.v33
    simp only [shapeCast_self]
    exact words_pay (q := 6) b44 (by decide) hV rfl _ _ s l
  refine Words.step (F := F) (q := 5) b44 (by decide) ?_ (off80_eq k0_t44 5) (fun s l => ?_)
  swap
  · try unfold words44.sl.v69
    try unfold words44.sl.v64
    try unfold words44.sl.v33
    simp only [shapeCast_self]
    exact words_pay (q := 5) b44 (by decide) hV rfl _ _ s l
  refine Words.step (F := F) (q := 4) b44 (by decide) ?_ (off80_eq k0_t44 4) (fun s l => ?_)
  swap
  · try unfold words44.sl.v63
    try unfold words44.sl.v58
    try unfold words44.sl.v33
    simp only [shapeCast_self]
    exact words_pay (q := 4) b44 (by decide) hV rfl _ _ s l
  refine Words.step (F := F) (q := 3) b44 (by decide) ?_ (off80_eq k0_t44 3) (fun s l => ?_)
  swap
  · try unfold words44.sl.v57
    try unfold words44.sl.v52
    try unfold words44.sl.v33
    simp only [shapeCast_self]
    exact words_pay (q := 3) b44 (by decide) hV rfl _ _ s l
  refine Words.step (F := F) (q := 2) b44 (by decide) ?_ (off80_eq k0_t44 2) (fun s l => ?_)
  swap
  · try unfold words44.sl.v51
    try unfold words44.sl.v46
    try unfold words44.sl.v33
    simp only [shapeCast_self]
    exact words_pay (q := 2) b44 (by decide) hV rfl _ _ s l
  refine Words.step (F := F) (q := 1) b44 (by decide) ?_ (off80_eq k0_t44 1) (fun s l => ?_)
  swap
  · try unfold words44.sl.v45
    try unfold words44.sl.v40
    try unfold words44.sl.v33
    simp only [shapeCast_self]
    exact words_pay (q := 1) b44 (by decide) hV rfl _ _ s l
  refine Words.step (F := F) (q := 0) b44 (by decide) ?_ (off80_eq k0_t44 0) (fun s l => ?_)
  swap
  · try unfold words44.sl.v39
    try unfold words44.sl.v34
    try unfold words44.sl.v33
    simp only [shapeCast_self]
    exact words_pay (q := 0) b44 (by decide) hV rfl _ _ s l
  exact h7

/-- One block of picked rows, transposed into words by token. -/
theorem words50 (X : Tab) (I : Ids)  (k0_t50 : Fin k0_t50_loop.trips) (u0 : Unit) :
    iprop(Holds c y6 (Picked X I (23) 2048) ∗ Holds c y7 (Words X I (23) k0_t50.val 0))
      ⊢ wp frame (wpE (defs₀ (F := F)) Variants.none (c : Thread nD τ) none) Set.univ (k0_t50_body (F := F) y0 w0 A1 w1 y2 w2 A3 w3 y4 w4 y5 w5 y6 w6 y7 w7 y8 w8 y9 w9 y10 w10 cc0_scratch8 cc0_scratch9 k0_t50 u0)
        (fun _ => iprop(Holds c y6 (Picked X I (23) 2048) ∗ Holds c y7 (Words X I (23) (k0_t50.val + 1) 0))) := by
  have b50 : k0_t50.val < 16 := (t50_trips) ▸ k0_t50.isLt
  unfold k0_t50_body Holds
  iintro ⟨⟨%f6, H6, %h6⟩, ⟨%f7, H7, %h7⟩⟩
  sl_exec
  sl_step
  isplitl [H6]
  · iexists _; isplitl [H6]; · iexact H6
    ipureintro; exact h6
  iexists _; isplitl [H7]; · iexact H7
  ipureintro
  have hV : ∀ (l : Fin 128) (w : Fin 128), w.val < 120 → (View.readAt (Elt F) y6.view (Rect.unit (s := S2048x128) (k0_off89 k0_t50) S128x128.size (k0_off89_inb k0_t50)).toLoadRect f6) (ValueIdx.ix2 l w) = cw X (idn I (23) (k0_t50.val * 128 + l.val)) w.val := by
    intro l w hw
    refine (ld2 (Val := Elt F) y6.view f6 (Rect.unit (s := S2048x128) (k0_off89 k0_t50) S128x128.size (k0_off89_inb k0_t50)).toLoadRect (o := k0_t50.val * 128) (off89_eq k0_t50) rfl rfl (ValueIdx.ix2 l w) (⟨k0_t50.val * 128 + l.val, by omega⟩ : Fin 2048) w rfl rfl).trans ?_
    exact h6 _ w (by show k0_t50.val * 128 + l.val < 2048; omega) hw
  refine Words.next ?_
  refine Words.step (F := F) (q := 14) b50 (by decide) ?_ (off90_eq k0_t50 14) (fun s l => ?_)
  swap
  · simp only [k0_pay5, shapeCast_self]
    exact words_pay (q := 14) b50 (by decide) hV rfl _ _ s l
  refine Words.step (F := F) (q := 13) b50 (by decide) ?_ (off90_eq k0_t50 13) (fun s l => ?_)
  swap
  · simp only [k0_pay4, shapeCast_self]
    exact words_pay (q := 13) b50 (by decide) hV rfl _ _ s l
  refine Words.step (F := F) (q := 12) b50 (by decide) ?_ (off90_eq k0_t50 12) (fun s l => ?_)
  swap
  · simp only [k0_pay3, shapeCast_self]
    exact words_pay (q := 12) b50 (by decide) hV rfl _ _ s l
  refine Words.step (F := F) (q := 11) b50 (by decide) ?_ (off90_eq k0_t50 11) (fun s l => ?_)
  swap
  · try unfold words50.sl.v105
    try unfold words50.sl.v100
    try unfold words50.sl.v33
    simp only [shapeCast_self]
    exact words_pay (q := 11) b50 (by decide) hV rfl _ _ s l
  refine Words.step (F := F) (q := 10) b50 (by decide) ?_ (off90_eq k0_t50 10) (fun s l => ?_)
  swap
  · try unfold words50.sl.v99
    try unfold words50.sl.v94
    try unfold words50.sl.v33
    simp only [shapeCast_self]
    exact words_pay (q := 10) b50 (by decide) hV rfl _ _ s l
  refine Words.step (F := F) (q := 9) b50 (by decide) ?_ (off90_eq k0_t50 9) (fun s l => ?_)
  swap
  · try unfold words50.sl.v93
    try unfold words50.sl.v88
    try unfold words50.sl.v33
    simp only [shapeCast_self]
    exact words_pay (q := 9) b50 (by decide) hV rfl _ _ s l
  refine Words.step (F := F) (q := 8) b50 (by decide) ?_ (off90_eq k0_t50 8) (fun s l => ?_)
  swap
  · try unfold words50.sl.v87
    try unfold words50.sl.v82
    try unfold words50.sl.v33
    simp only [shapeCast_self]
    exact words_pay (q := 8) b50 (by decide) hV rfl _ _ s l
  refine Words.step (F := F) (q := 7) b50 (by decide) ?_ (off90_eq k0_t50 7) (fun s l => ?_)
  swap
  · try unfold words50.sl.v81
    try unfold words50.sl.v76
    try unfold words50.sl.v33
    simp only [shapeCast_self]
    exact words_pay (q := 7) b50 (by decide) hV rfl _ _ s l
  refine Words.step (F := F) (q := 6) b50 (by decide) ?_ (off90_eq k0_t50 6) (fun s l => ?_)
  swap
  · try unfold words50.sl.v75
    try unfold words50.sl.v70
    try unfold words50.sl.v33
    simp only [shapeCast_self]
    exact words_pay (q := 6) b50 (by decide) hV rfl _ _ s l
  refine Words.step (F := F) (q := 5) b50 (by decide) ?_ (off90_eq k0_t50 5) (fun s l => ?_)
  swap
  · try unfold words50.sl.v69
    try unfold words50.sl.v64
    try unfold words50.sl.v33
    simp only [shapeCast_self]
    exact words_pay (q := 5) b50 (by decide) hV rfl _ _ s l
  refine Words.step (F := F) (q := 4) b50 (by decide) ?_ (off90_eq k0_t50 4) (fun s l => ?_)
  swap
  · try unfold words50.sl.v63
    try unfold words50.sl.v58
    try unfold words50.sl.v33
    simp only [shapeCast_self]
    exact words_pay (q := 4) b50 (by decide) hV rfl _ _ s l
  refine Words.step (F := F) (q := 3) b50 (by decide) ?_ (off90_eq k0_t50 3) (fun s l => ?_)
  swap
  · try unfold words50.sl.v57
    try unfold words50.sl.v52
    try unfold words50.sl.v33
    simp only [shapeCast_self]
    exact words_pay (q := 3) b50 (by decide) hV rfl _ _ s l
  refine Words.step (F := F) (q := 2) b50 (by decide) ?_ (off90_eq k0_t50 2) (fun s l => ?_)
  swap
  · try unfold words50.sl.v51
    try unfold words50.sl.v46
    try unfold words50.sl.v33
    simp only [shapeCast_self]
    exact words_pay (q := 2) b50 (by decide) hV rfl _ _ s l
  refine Words.step (F := F) (q := 1) b50 (by decide) ?_ (off90_eq k0_t50 1) (fun s l => ?_)
  swap
  · try unfold words50.sl.v45
    try unfold words50.sl.v40
    try unfold words50.sl.v33
    simp only [shapeCast_self]
    exact words_pay (q := 1) b50 (by decide) hV rfl _ _ s l
  refine Words.step (F := F) (q := 0) b50 (by decide) ?_ (off90_eq k0_t50 0) (fun s l => ?_)
  swap
  · try unfold words50.sl.v39
    try unfold words50.sl.v34
    try unfold words50.sl.v33
    simp only [shapeCast_self]
    exact words_pay (q := 0) b50 (by decide) hV rfl _ _ s l
  exact h7

end Cert.Proof.DotsIdeal

end
-- ==== Proof.DotsIdealSums.lean ====
module

public import proofs.«01_k».proof.Proof.DotsIdealBase
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- One word of field 2 * k0_t8.val's dot with an earlier field. -/
theorem word17 (X : Tab) (I : Ids) (k0_t8 : Fin k0_t8_loop.trips) (v32 : BitVec 32) (c1_i32_66 : BitVec 32) (c0_i32_67 : BitVec 32) (c0_i32_68 : BitVec 32) (c1_i32_70 : BitVec 32) (k0_t16 : Fin (k0_t16_loop k0_t8).trips) (v78 : BitVec 32) (v93 : BitVec 32) (k0_t17 : Fin k0_t17_loop.trips) (acc : IVec S16x128 32) (f7 : BufTy.Contents (Elt F) y7.view.ty) (f8 : BufTy.Contents (Elt F) y8.view.ty)
    (h7 : Words X I (2 * k0_t8.val) 16 0 (y7.view.read (Elt F) f7)) (h8 : Upper X I (liveE (2 * k0_t8.val)) (y8.view.read (Elt F) f8)) (hacc : acc = accum X I k0_t16.val (2 * k0_t8.val) k0_t17.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t17_body (F := F) y0 w0 A1 w1 y2 w2 A3 w3 y4 w4 y5 w5 y6 w6 y7 w7 y8 w8 y9 w9 y10 w10 cc0_scratch8 cc0_scratch9 k0_t8 v32 c1_i32_66 c0_i32_67 c0_i32_68 c1_i32_70 k0_t16 v78 v93 k0_t17 acc)
        (fun a => iprop((y7.view.loc (c : Thread nD τ) ↦[y7.view.set]{fullShare} f7) ∗ (y8.view.loc (c : Thread nD τ) ↦[y8.view.set]{fullShare} f8) ∗ ⌜a = accum X I k0_t16.val (2 * k0_t8.val) (k0_t17.val + 1)⌝)) := by
  have b8 : k0_t8.val < 11 := (t8_trips) ▸ k0_t8.isLt
  have b16 : k0_t16.val < 2 * k0_t8.val := (t16_trips k0_t8) ▸ k0_t16.isLt
  have b17 : k0_t17.val < 5 := (t17_trips) ▸ k0_t17.isLt
  have hf : 2 * k0_t8.val < 24 := by omega
  have he : k0_t16.val < 2 * k0_t8.val := by omega
  have e8 := Upper.get (F := F) h8 hf he b17 (inb := k0_off32_inb k0_t8 k0_t16 k0_t17) (off32_eq k0_t8 k0_t16 k0_t17)
  have e7 := Words.get (F := F) h7 (by omega) b17 (inb := k0_off33_inb k0_t8 k0_t16 k0_t17) (off33_eq k0_t8 k0_t16 k0_t17)
  unfold k0_t17_body
  iintro ⟨H7, H8⟩
  sl_exec
  sl_step
  isplitl [H7]; · iexact H7
  isplitl [H8]; · iexact H8
  ipureintro
  rw [hacc]
  try unfold word17.sl.v164
  try unfold word17.sl.v163
  try unfold word17.sl.v162
  try unfold word17.sl.v161
  try unfold word17.sl.v160
  try unfold word17.sl.v159
  try unfold word17.sl.v158
  try unfold word17.sl.v157
  try unfold word17.sl.v156
  try unfold word17.sl.v155
  try unfold word17.sl.v154
  try unfold word17.sl.v153
  try unfold word17.sl.v152
  try unfold word17.sl.v151
  try unfold word17.sl.v150
  try unfold word17.sl.v149
  try unfold word17.sl.v148
  try unfold word17.sl.v147
  try unfold word17.sl.v146
  try unfold word17.sl.v145
  try unfold word17.sl.v144
  try unfold word17.sl.v143
  try unfold word17.sl.v142
  try unfold word17.sl.v141
  try unfold word17.sl.v140
  try unfold word17.sl.v139
  try unfold word17.sl.v138
  try unfold word17.sl.v137
  try unfold word17.sl.v136
  try unfold word17.sl.v135
  try unfold word17.sl.v134
  simp only [k0_pay28, k0_pay29, k0_pay30, k0_pay32, accum, dot4]

/-- Field 2 * k0_t8.val's dot with one earlier field: five words, four codes each. -/
theorem dots16 (X : Tab) (I : Ids) (c0_i32_8 : BitVec 32) (c1_i32_9 : BitVec 32) (k0_t8 : Fin k0_t8_loop.trips) (v32 : BitVec 32) (k0_t16 : Fin (k0_t16_loop k0_t8).trips) (u0 : Unit) :
    iprop(Holds c y7 (Words X I (2 * k0_t8.val) 16 0) ∗ Holds c y8 (Upper X I (liveE (2 * k0_t8.val))) ∗ Holds c y2 (DotsTo (F := F) X I (2 * k0_t8.val) k0_t16.val))
      ⊢ wp frame (wpE (defs₀ (F := F)) Variants.none (c : Thread nD τ) none) Set.univ (k0_t16_body (F := F) y0 w0 A1 w1 y2 w2 A3 w3 y4 w4 y5 w5 y6 w6 y7 w7 y8 w8 y9 w9 y10 w10 cc0_scratch8 cc0_scratch9 c0_i32_8 c1_i32_9 k0_t8 v32 k0_t16 u0)
        (fun _ => iprop(Holds c y7 (Words X I (2 * k0_t8.val) 16 0) ∗ Holds c y8 (Upper X I (liveE (2 * k0_t8.val))) ∗ Holds c y2 (DotsTo (F := F) X I (2 * k0_t8.val) (k0_t16.val + 1)))) := by
  have b8 : k0_t8.val < 11 := (t8_trips) ▸ k0_t8.isLt
  have b16 : k0_t16.val < 2 * k0_t8.val := (t16_trips k0_t8) ▸ k0_t16.isLt
  have hf : 2 * k0_t8.val < 24 := by omega
  have he : k0_t16.val < 2 * k0_t8.val := by omega
  unfold k0_t16_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t16.val (2 * k0_t8.val) k⌝)) $$ [H7 H8]
  case region =>
    intro k acc
    iintro ⟨H7, H8, %hacc⟩
    iapply (word17 c y0 w0 w1 y2 w2 w3 y4 w4 y5 w5 y6 w6 y7 w7 y8 w8 y9 w9 y10 w10 X I k0_t8 _ _ _ _ _ k0_t16 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off34_eq k0_t8 k0_t16)

/-- One word of field 2 * k0_t8.val + 1's dot with an earlier field. -/
theorem word32 (X : Tab) (I : Ids) (k0_t8 : Fin k0_t8_loop.trips) (v56 : BitVec 32) (c1_i32_96 : BitVec 32) (c0_i32_97 : BitVec 32) (c0_i32_98 : BitVec 32) (c1_i32_100 : BitVec 32) (k0_t31 : Fin (k0_t31_loop k0_t8).trips) (v78 : BitVec 32) (v93 : BitVec 32) (k0_t32 : Fin k0_t32_loop.trips) (acc : IVec S16x128 32) (f7 : BufTy.Contents (Elt F) y7.view.ty) (f8 : BufTy.Contents (Elt F) y8.view.ty)
    (h7 : Words X I (2 * k0_t8.val + 1) 16 0 (y7.view.read (Elt F) f7)) (h8 : Upper X I (liveE (2 * k0_t8.val + 1)) (y8.view.read (Elt F) f8)) (hacc : acc = accum X I k0_t31.val (2 * k0_t8.val + 1) k0_t32.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t32_body (F := F) y0 w0 A1 w1 y2 w2 A3 w3 y4 w4 y5 w5 y6 w6 y7 w7 y8 w8 y9 w9 y10 w10 cc0_scratch8 cc0_scratch9 k0_t8 v56 c1_i32_96 c0_i32_97 c0_i32_98 c1_i32_100 k0_t31 v78 v93 k0_t32 acc)
        (fun a => iprop((y7.view.loc (c : Thread nD τ) ↦[y7.view.set]{fullShare} f7) ∗ (y8.view.loc (c : Thread nD τ) ↦[y8.view.set]{fullShare} f8) ∗ ⌜a = accum X I k0_t31.val (2 * k0_t8.val + 1) (k0_t32.val + 1)⌝)) := by
  have b8 : k0_t8.val < 11 := (t8_trips) ▸ k0_t8.isLt
  have b31 : k0_t31.val < 2 * k0_t8.val + 1 := (t31_trips k0_t8) ▸ k0_t31.isLt
  have b32 : k0_t32.val < 5 := (t32_trips) ▸ k0_t32.isLt
  have hf : 2 * k0_t8.val + 1 < 24 := by omega
  have he : k0_t31.val < 2 * k0_t8.val + 1 := by omega
  have e8 := Upper.get (F := F) h8 hf he b32 (inb := k0_off58_inb k0_t8 k0_t31 k0_t32) (off58_eq k0_t8 k0_t31 k0_t32)
  have e7 := Words.get (F := F) h7 (by omega) b32 (inb := k0_off59_inb k0_t8 k0_t31 k0_t32) (off59_eq k0_t8 k0_t31 k0_t32)
  unfold k0_t32_body
  iintro ⟨H7, H8⟩
  sl_exec
  sl_step
  isplitl [H7]; · iexact H7
  isplitl [H8]; · iexact H8
  ipureintro
  rw [hacc]
  try unfold word32.sl.v164
  try unfold word32.sl.v163
  try unfold word32.sl.v162
  try unfold word32.sl.v161
  try unfold word32.sl.v160
  try unfold word32.sl.v159
  try unfold word32.sl.v158
  try unfold word32.sl.v157
  try unfold word32.sl.v156
  try unfold word32.sl.v155
  try unfold word32.sl.v154
  try unfold word32.sl.v153
  try unfold word32.sl.v152
  try unfold word32.sl.v151
  try unfold word32.sl.v150
  try unfold word32.sl.v149
  try unfold word32.sl.v148
  try unfold word32.sl.v147
  try unfold word32.sl.v146
  try unfold word32.sl.v145
  try unfold word32.sl.v144
  try unfold word32.sl.v143
  try unfold word32.sl.v142
  try unfold word32.sl.v141
  try unfold word32.sl.v140
  try unfold word32.sl.v139
  try unfold word32.sl.v138
  try unfold word32.sl.v137
  try unfold word32.sl.v136
  try unfold word32.sl.v135
  try unfold word32.sl.v134
  simp only [k0_pay54, k0_pay55, k0_pay56, k0_pay58, accum, dot4]

/-- Field 2 * k0_t8.val + 1's dot with one earlier field: five words, four codes each. -/
theorem dots31 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (v56 : BitVec 32) (k0_t31 : Fin (k0_t31_loop k0_t8).trips) (u0 : Unit) :
    iprop(Holds c y7 (Words X I (2 * k0_t8.val + 1) 16 0) ∗ Holds c y8 (Upper X I (liveE (2 * k0_t8.val + 1))) ∗ Holds c y2 (DotsTo (F := F) X I (2 * k0_t8.val + 1) k0_t31.val))
      ⊢ wp frame (wpE (defs₀ (F := F)) Variants.none (c : Thread nD τ) none) Set.univ (k0_t31_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 v56 k0_t31 u0)
        (fun _ => iprop(Holds c y7 (Words X I (2 * k0_t8.val + 1) 16 0) ∗ Holds c y8 (Upper X I (liveE (2 * k0_t8.val + 1))) ∗ Holds c y2 (DotsTo (F := F) X I (2 * k0_t8.val + 1) (k0_t31.val + 1)))) := by
  have b8 : k0_t8.val < 11 := (t8_trips) ▸ k0_t8.isLt
  have b31 : k0_t31.val < 2 * k0_t8.val + 1 := (t31_trips k0_t8) ▸ k0_t31.isLt
  have hf : 2 * k0_t8.val + 1 < 24 := by omega
  have he : k0_t31.val < 2 * k0_t8.val + 1 := by omega
  unfold k0_t31_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t31.val (2 * k0_t8.val + 1) k⌝)) $$ [H7 H8]
  case region =>
    intro k acc
    iintro ⟨H7, H8, %hacc⟩
    iapply (word32 c y0 w0 w1 y2 w2 w3 y4 w4 y5 w5 y6 w6 y7 w7 y8 w8 y9 w9 y10 w10 X I k0_t8 _ _ _ _ _ k0_t31 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off60_eq k0_t8 k0_t31)

/-- One word of field 22's dot with an earlier field. -/
theorem word46 (X : Tab) (I : Ids) (c0_i32_19 : BitVec 32) (c1_i32_20 : BitVec 32) (k0_t45 : Fin k0_t45_loop.trips) (v28 : BitVec 32) (v40 : BitVec 32) (k0_t46 : Fin k0_t46_loop.trips) (acc : IVec S16x128 32) (f7 : BufTy.Contents (Elt F) y7.view.ty) (f8 : BufTy.Contents (Elt F) y8.view.ty)
    (h7 : Words X I (22) 16 0 (y7.view.read (Elt F) f7)) (h8 : Upper X I (liveE (22)) (y8.view.read (Elt F) f8)) (hacc : acc = accum X I k0_t45.val (22) k0_t46.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t46_body (F := F) y0 w0 A1 w1 y2 w2 A3 w3 y4 w4 y5 w5 y6 w6 y7 w7 y8 w8 y9 w9 y10 w10 cc0_scratch8 cc0_scratch9 c0_i32_19 c1_i32_20 k0_t45 v28 v40 k0_t46 acc)
        (fun a => iprop((y7.view.loc (c : Thread nD τ) ↦[y7.view.set]{fullShare} f7) ∗ (y8.view.loc (c : Thread nD τ) ↦[y8.view.set]{fullShare} f8) ∗ ⌜a = accum X I k0_t45.val (22) (k0_t46.val + 1)⌝)) := by
  have b45 : k0_t45.val < 22 := (t45_trips) ▸ k0_t45.isLt
  have b46 : k0_t46.val < 5 := (t46_trips) ▸ k0_t46.isLt
  have hf : 22 < 24 := by omega
  have he : k0_t45.val < 22 := by omega
  have e8 := Upper.get (F := F) h8 hf he b46 (inb := k0_off81_inb k0_t45 k0_t46) (off81_eq k0_t45 k0_t46)
  have e7 := Words.get (F := F) h7 (by omega) b46 (inb := k0_off82_inb k0_t45 k0_t46) (off82_eq k0_t45 k0_t46)
  unfold k0_t46_body
  iintro ⟨H7, H8⟩
  sl_exec
  sl_step
  isplitl [H7]; · iexact H7
  isplitl [H8]; · iexact H8
  ipureintro
  rw [hacc]
  try unfold word46.sl.v111
  try unfold word46.sl.v110
  try unfold word46.sl.v109
  try unfold word46.sl.v108
  try unfold word46.sl.v107
  try unfold word46.sl.v106
  try unfold word46.sl.v105
  try unfold word46.sl.v104
  try unfold word46.sl.v103
  try unfold word46.sl.v102
  try unfold word46.sl.v101
  try unfold word46.sl.v100
  try unfold word46.sl.v99
  try unfold word46.sl.v98
  try unfold word46.sl.v97
  try unfold word46.sl.v96
  try unfold word46.sl.v95
  try unfold word46.sl.v94
  try unfold word46.sl.v93
  try unfold word46.sl.v92
  try unfold word46.sl.v91
  try unfold word46.sl.v90
  try unfold word46.sl.v89
  try unfold word46.sl.v88
  try unfold word46.sl.v87
  try unfold word46.sl.v86
  try unfold word46.sl.v85
  try unfold word46.sl.v84
  try unfold word46.sl.v83
  try unfold word46.sl.v82
  try unfold word46.sl.v81
  simp only [k0_pay94, k0_pay95, k0_pay96, k0_pay98, accum, dot4]

/-- Field 22's dot with one earlier field: five words, four codes each. -/
theorem dots45 (X : Tab) (I : Ids)  (k0_t45 : Fin k0_t45_loop.trips) (u0 : Unit) :
    iprop(Holds c y7 (Words X I (22) 16 0) ∗ Holds c y8 (Upper X I (liveE (22))) ∗ Holds c y2 (DotsTo (F := F) X I (22) k0_t45.val))
      ⊢ wp frame (wpE (defs₀ (F := F)) Variants.none (c : Thread nD τ) none) Set.univ (k0_t45_body (F := F) y0 w0 A1 w1 y2 w2 A3 w3 y4 w4 y5 w5 y6 w6 y7 w7 y8 w8 y9 w9 y10 w10 cc0_scratch8 cc0_scratch9 k0_t45 u0)
        (fun _ => iprop(Holds c y7 (Words X I (22) 16 0) ∗ Holds c y8 (Upper X I (liveE (22))) ∗ Holds c y2 (DotsTo (F := F) X I (22) (k0_t45.val + 1)))) := by
  have b45 : k0_t45.val < 22 := (t45_trips) ▸ k0_t45.isLt
  have hf : 22 < 24 := by omega
  have he : k0_t45.val < 22 := by omega
  unfold k0_t45_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t45.val (22) k⌝)) $$ [H7 H8]
  case region =>
    intro k acc
    iintro ⟨H7, H8, %hacc⟩
    iapply (word46 c y0 w0 w1 y2 w2 w3 y4 w4 y5 w5 y6 w6 y7 w7 y8 w8 y9 w9 y10 w10 X I _ _ k0_t45 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off83_eq k0_t45)

/-- One word of field 23's dot with an earlier field. -/
theorem word52 (X : Tab) (I : Ids) (c0_i32_43 : BitVec 32) (c1_i32_45 : BitVec 32) (k0_t51 : Fin k0_t51_loop.trips) (v28 : BitVec 32) (v40 : BitVec 32) (k0_t52 : Fin k0_t52_loop.trips) (acc : IVec S16x128 32) (f7 : BufTy.Contents (Elt F) y7.view.ty) (f8 : BufTy.Contents (Elt F) y8.view.ty)
    (h7 : Words X I (23) 16 0 (y7.view.read (Elt F) f7)) (h8 : Upper X I (liveE (23)) (y8.view.read (Elt F) f8)) (hacc : acc = accum X I k0_t51.val (23) k0_t52.val) :
    (iprop((y7.view.loc (c : Thread nD τ) ↦[y7.view.set]{fullShare} f7) ∗ (y8.view.loc (c : Thread nD τ) ↦[y8.view.set]{fullShare} f8)) : sProp 𝕄)
      ⊢ wp frame (wpE (defs₀ (F := F)) Variants.none (c : Thread nD τ) none) Set.univ (k0_t52_body (F := F) y0 w0 A1 w1 y2 w2 A3 w3 y4 w4 y5 w5 y6 w6 y7 w7 y8 w8 y9 w9 y10 w10 cc0_scratch8 cc0_scratch9 c0_i32_43 c1_i32_45 k0_t51 v28 v40 k0_t52 acc)
        (fun a => iprop((y7.view.loc (c : Thread nD τ) ↦[y7.view.set]{fullShare} f7) ∗ (y8.view.loc (c : Thread nD τ) ↦[y8.view.set]{fullShare} f8) ∗ ⌜a = accum X I k0_t51.val (23) (k0_t52.val + 1)⌝)) := by
  have b51 : k0_t51.val < 23 := (t51_trips) ▸ k0_t51.isLt
  have b52 : k0_t52.val < 5 := (t52_trips) ▸ k0_t52.isLt
  have hf : 23 < 24 := by omega
  have he : k0_t51.val < 23 := by omega
  have e8 := Upper.get (F := F) h8 hf he b52 (inb := k0_off91_inb k0_t51 k0_t52) (off91_eq k0_t51 k0_t52)
  have e7 := Words.get (F := F) h7 (by omega) b52 (inb := k0_off92_inb k0_t51 k0_t52) (off92_eq k0_t51 k0_t52)
  unfold k0_t52_body
  iintro ⟨H7, H8⟩
  sl_exec
  sl_step
  isplitl [H7]; · iexact H7
  isplitl [H8]; · iexact H8
  ipureintro
  rw [hacc]
  try unfold word52.sl.v111
  try unfold word52.sl.v110
  try unfold word52.sl.v109
  try unfold word52.sl.v108
  try unfold word52.sl.v107
  try unfold word52.sl.v106
  try unfold word52.sl.v105
  try unfold word52.sl.v104
  try unfold word52.sl.v103
  try unfold word52.sl.v102
  try unfold word52.sl.v101
  try unfold word52.sl.v100
  try unfold word52.sl.v99
  try unfold word52.sl.v98
  try unfold word52.sl.v97
  try unfold word52.sl.v96
  try unfold word52.sl.v95
  try unfold word52.sl.v94
  try unfold word52.sl.v93
  try unfold word52.sl.v92
  try unfold word52.sl.v91
  try unfold word52.sl.v90
  try unfold word52.sl.v89
  try unfold word52.sl.v88
  try unfold word52.sl.v87
  try unfold word52.sl.v86
  try unfold word52.sl.v85
  try unfold word52.sl.v84
  try unfold word52.sl.v83
  try unfold word52.sl.v82
  try unfold word52.sl.v81
  simp only [k0_pay114, k0_pay115, k0_pay116, k0_pay118, accum, dot4]

/-- Field 23's dot with one earlier field: five words, four codes each. -/
theorem dots51 (X : Tab) (I : Ids)  (k0_t51 : Fin k0_t51_loop.trips) (u0 : Unit) :
    iprop(Holds c y7 (Words X I (23) 16 0) ∗ Holds c y8 (Upper X I (liveE (23))) ∗ Holds c y2 (DotsTo (F := F) X I (23) k0_t51.val))
      ⊢ wp frame (wpE (defs₀ (F := F)) Variants.none (c : Thread nD τ) none) Set.univ (k0_t51_body (F := F) y0 w0 A1 w1 y2 w2 A3 w3 y4 w4 y5 w5 y6 w6 y7 w7 y8 w8 y9 w9 y10 w10 cc0_scratch8 cc0_scratch9 k0_t51 u0)
        (fun _ => iprop(Holds c y7 (Words X I (23) 16 0) ∗ Holds c y8 (Upper X I (liveE (23))) ∗ Holds c y2 (DotsTo (F := F) X I (23) (k0_t51.val + 1)))) := by
  have b51 : k0_t51.val < 23 := (t51_trips) ▸ k0_t51.isLt
  have hf : 23 < 24 := by omega
  have he : k0_t51.val < 23 := by omega
  unfold k0_t51_body Holds
  iintro ⟨⟨%f7, H7, %h7⟩, ⟨%f8, H8, %h8⟩, ⟨%f2, H2, %h2⟩⟩
  sl_exec
  sl_for (fun k acc => iprop((y7.view.loc (c : Thread nD τ) ↦[y7.view.set]{fullShare} f7) ∗ (y8.view.loc (c : Thread nD τ) ↦[y8.view.set]{fullShare} f8)
    ∗ ⌜acc = accum X I k0_t51.val (23) k⌝)) $$ [H7 H8]
  case region =>
    intro k acc
    iintro ⟨H7, H8, %hacc⟩
    iapply (word52 c y0 w0 w1 y2 w2 w3 y4 w4 y5 w5 y6 w6 y7 w7 y8 w8 y9 w9 y10 w10 X I _ _ k0_t51 _ _ k acc f7 f8 h7 h8 hacc)
    isplitl [H7]; · iexact H7
    iexact H8
  · isplitl [H7]; · iexact H7
    isplitl [H8]; · iexact H8
    ipureintro; rfl
  iintro %acc ⟨H7, H8, %hacc⟩
  subst hacc
  sl_exec
  sl_step
  isplitl [H7]
  · iexists _; isplitl [H7]; · iexact H7
    ipureintro; exact h7
  isplitl [H8]
  · iexists _; isplitl [H8]; · iexact H8
    ipureintro; exact h8
  iexists _; isplitl [H2]; · iexact H2
  ipureintro
  refine DotsTo.step (F := F) hf he (L := []) h2 (off93_eq k0_t51)

/-- One of field 2 * k0_t8.val's words is put where a later field's dots will read it. -/
theorem copy21 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (k0_t20 : Fin (k0_t20_loop k0_t8).trips) (k0_t21 : Fin k0_t21_loop.trips) (u0 : Unit) :
    iprop(Holds c y7 (Words X I (2 * k0_t8.val) 16 0) ∗ Holds c y8 (Upper X I (liveG (2 * k0_t8.val) (2 * k0_t8.val + 1 + k0_t20.val) k0_t21.val)))
      ⊢ wp frame (wpE (defs₀ (F := F)) Variants.none (c : Thread nD τ) none) Set.univ (k0_t21_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 k0_t20 k0_t21 u0)
        (fun _ => iprop(Holds c y7 (Words X I (2 * k0_t8.val) 16 0) ∗ Holds c y8 (Upper X I (liveG (2 * k0_t8.val) (2 * k0_t8.val + 1 + k0_t20.val) (k0_t21.val + 1))))) := by
  have b8 : k0_t8.val < 11 := (t8_trips) ▸ k0_t8.isLt
  have b20 : k0_t20.val < 23 - 2 * k0_t8.val := (t20_trips k0_t8) ▸ k0_t20.isLt
  have b21 : k0_t21.val < 5 := (t21_trips) ▸ k0_t21.isLt
  have hg : 2 * k0_t8.val + 1 + k0_t20.val < 24 := by omega
  unfold k0_t21_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b21 (inb := k0_off38_inb k0_t8 k0_t20 k0_t21) (off38_eq k0_t8 k0_t20 k0_t21)
  have pe : ∀ v, k0_pay72 (F := F) v = v := fun v => by unfold k0_pay72; exact shapeCast_self _ _
  rw [pe, e7]
  exact Upper.step (F := F) (by omega) hg b21 (L := []) h8 (off39_eq k0_t8 k0_t20 k0_t21)

/-- One of field 2 * k0_t8.val + 1's words is put where a later field's dots will read it. -/
theorem copy36 (X : Tab) (I : Ids) (k0_t8 : Fin k0_t8_loop.trips) (k0_t35 : Fin (k0_t35_loop k0_t8).trips) (k0_t36 : Fin k0_t36_loop.trips) (u0 : Unit) :
    iprop(Holds c y7 (Words X I (2 * k0_t8.val + 1) 16 0) ∗ Holds c y8 (Upper X I (liveG (2 * k0_t8.val + 1) (2 * k0_t8.val + 1 + 1 + k0_t35.val) k0_t36.val)))
      ⊢ wp frame (wpE (defs₀ (F := F)) Variants.none (c : Thread nD τ) none) Set.univ (k0_t36_body (F := F) y0 w0 A1 w1 y2 w2 A3 w3 y4 w4 y5 w5 y6 w6 y7 w7 y8 w8 y9 w9 y10 w10 cc0_scratch8 cc0_scratch9 k0_t8 k0_t35 k0_t36 u0)
        (fun _ => iprop(Holds c y7 (Words X I (2 * k0_t8.val + 1) 16 0) ∗ Holds c y8 (Upper X I (liveG (2 * k0_t8.val + 1) (2 * k0_t8.val + 1 + 1 + k0_t35.val) (k0_t36.val + 1))))) := by
  have b8 : k0_t8.val < 11 := (t8_trips) ▸ k0_t8.isLt
  have b35 : k0_t35.val < 22 - 2 * k0_t8.val := (t35_trips k0_t8) ▸ k0_t35.isLt
  have b36 : k0_t36.val < 5 := (t36_trips) ▸ k0_t36.isLt
  have hg : 2 * k0_t8.val + 1 + 1 + k0_t35.val < 24 := by omega
  unfold k0_t36_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b36 (inb := k0_off64_inb k0_t8 k0_t35 k0_t36) (off64_eq k0_t8 k0_t35 k0_t36)
  have pe : ∀ v, k0_pay122 (F := F) v = v := fun v => by unfold k0_pay122; exact shapeCast_self _ _
  rw [pe, e7]
  exact Upper.step (F := F) (by omega) hg b36 (L := []) h8 (off65_eq k0_t8 k0_t35 k0_t36)

/-- One of field 22's words is put where a later field's dots will read it. -/
theorem copy47 (X : Tab) (I : Ids)  (k0_t47 : Fin k0_t47_loop.trips) (u0 : Unit) :
    iprop(Holds c y7 (Words X I (22) 16 0) ∗ Holds c y8 (Upper X I (liveG (22) (23) k0_t47.val)))
      ⊢ wp frame (wpE (defs₀ (F := F)) Variants.none (c : Thread nD τ) none) Set.univ (k0_t47_body (F := F) y0 w0 A1 w1 y2 w2 A3 w3 y4 w4 y5 w5 y6 w6 y7 w7 y8 w8 y9 w9 y10 w10 cc0_scratch8 cc0_scratch9 k0_t47 u0)
        (fun _ => iprop(Holds c y7 (Words X I (22) 16 0) ∗ Holds c y8 (Upper X I (liveG (22) (23) (k0_t47.val + 1))))) := by
  have b47 : k0_t47.val < 5 := (t47_trips) ▸ k0_t47.isLt
  have hg : 23 < 24 := by omega
  unfold k0_t47_body Holds
  iintro ⟨⟨%f7, H7, %h7⟩, ⟨%f8, H8, %h8⟩⟩
  sl_exec
  sl_step
  isplitl [H7]
  · iexists _; isplitl [H7]; · iexact H7
    ipureintro; exact h7
  iexists _; isplitl [H8]; · iexact H8
  ipureintro
  have e7 := Words.get (F := F) h7 hg b47 (inb := k0_off84_inb k0_t47) (off84_eq k0_t47)
  have pe : ∀ v, k0_pay1 (F := F) v = v := fun v => by unfold k0_pay1; exact shapeCast_self _ _
  rw [pe, e7]
  exact Upper.step (F := F) (by omega) hg b47 (L := []) h8 (off85_eq k0_t47)

end Cert.Proof.DotsIdeal

end
-- ==== Proof.DotsIdealFields.lean ====
module

public import proofs.«01_k».proof.Proof.DotsIdealBase
public import proofs.«01_k».proof.Proof.DotsIdealChunks
public import proofs.«01_k».proof.Proof.DotsIdealWords
public import proofs.«01_k».proof.Proof.DotsIdealSums
public import proofs.«01_k».proof.Proof.DotsStart
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- The picked rows of field 2 * k0_t8.val transposed into words by token. -/
theorem allWords15 (X : Tab) (I : Ids) (c0_i32_8 : BitVec 32) (c1_i32_9 : BitVec 32) (k0_t8 : Fin k0_t8_loop.trips) :
    iprop(Holds c y6 (Picked X I (2 * k0_t8.val) 2048) ∗ Holds c y7 (fun _ => True))
      ⊢ wp frame (wpE (defs₀ (F := F)) Variants.none (c : Thread nD τ) none) Set.univ (Scf.Loop.for k0_t15_loop k0_t15_ok ⟨⟩ (k0_t15_body (F := F) y0 w0 A1 w1 y2 w2 A3 w3 y4 w4 y5 w5 y6 w6 y7 w7 y8 w8 y9 w9 y10 w10 cc0_scratch8 cc0_scratch9 c0_i32_8 c1_i32_9 k0_t8)) (fun _ => iprop(Holds c y6 (Picked X I (2 * k0_t8.val) 2048) ∗ Holds c y7 (Words X I (2 * k0_t8.val) 16 0))) := by
  have main := forInv (F := F) c k0_t15_ok (fun k => iprop(Holds c y6 (Picked X I (2 * k0_t8.val) 2048) ∗ Holds c y7 (Words X I (2 * k0_t8.val) k 0)))
    (fun t u => words15 c y0 w0 w1 y2 w2 w3 y4 w4 y5 w5 y6 w6 y7 w7 y8 w8 y9 w9 y10 w10 X I c0_i32_8 c1_i32_9 k0_t8 t u)
  rw [t15_trips] at main
  exact (sep_mono .rfl (Holds.mono c fun W _ => Words.start W)).trans main

/-- The picked rows of field 2 * k0_t8.val + 1 transposed into words by token. -/
theorem allWords30 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(Holds c y6 (Picked X I (2 * k0_t8.val + 1) 2048) ∗ Holds c y7 (fun _ => True))
      ⊢ wp frame (wpE (defs₀ (F := F)) Variants.none (c : Thread nD τ) none) Set.univ (Scf.Loop.for k0_t30_loop k0_t30_ok ⟨⟩ (k0_t30_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50)) (fun _ => iprop(Holds c y6 (Picked X I (2 * k0_t8.val + 1) 2048) ∗ Holds c y7 (Words X I (2 * k0_t8.val + 1) 16 0))) := by
  have main := forInv (F := F) c k0_t30_ok (fun k => iprop(Holds c y6 (Picked X I (2 * k0_t8.val + 1) 2048) ∗ Holds c y7 (Words X I (2 * k0_t8.val + 1) k 0)))
    (fun t u => words30 c y0 w0 w1 y2 w2 w3 y4 w4 y5 w5 y6 w6 y7 w7 y8 w8 y9 w9 y10 w10 X I k0_t8 v28 v32 v43 c1_i32_76 c0_i32_77 c1_i32_78 v50 t u)
  rw [t30_trips] at main
  exact (sep_mono .rfl (Holds.mono c fun W _ => Words.start W)).trans main

/-- The picked rows of field 22 transposed into words by token. -/
theorem allWords44 (X : Tab) (I : Ids)  :
    iprop(Holds c y6 (Picked X I (22) 2048) ∗ Holds c y7 (fun _ => True))
      ⊢ wp frame (wpE (defs₀ (F := F)) Variants.none (c : Thread nD τ) none) Set.univ (Scf.Loop.for k0_t44_loop k0_t44_ok ⟨⟩ (k0_t44_body (F := F) y0 w0 A1 w1 y2 w2 A3 w3 y4 w4 y5 w5 y6 w6 y7 w7 y8 w8 y9 w9 y10 w10 cc0_scratch8 cc0_scratch9 )) (fun _ => iprop(Holds c y6 (Picked X I (22) 2048) ∗ Holds c y7 (Words X I (22) 16 0))) := by
  have main := forInv (F := F) c k0_t44_ok (fun k => iprop(Holds c y6 (Picked X I (22) 2048) ∗ Holds c y7 (Words X I (22) k 0)))
    (fun t u => words44 c y0 w0 w1 y2 w2 w3 y4 w4 y5 w5 y6 w6 y7 w7 y8 w8 y9 w9 y10 w10 X I  t u)
  rw [t44_trips] at main
  exact (sep_mono .rfl (Holds.mono c fun W _ => Words.start W)).trans main

/-- The picked rows of field 23 transposed into words by token. -/
theorem allWords50 (X : Tab) (I : Ids)  :
    iprop(Holds c y6 (Picked X I (23) 2048) ∗ Holds c y7 (fun _ => True))
      ⊢ wp frame (wpE (defs₀ (F := F)) Variants.none (c : Thread nD τ) none) Set.univ (Scf.Loop.for k0_t50_loop k0_t50_ok ⟨⟩ (k0_t50_body (F := F) y0 w0 A1 w1 y2 w2 A3 w3 y4 w4 y5 w5 y6 w6 y7 w7 y8 w8 y9 w9 y10 w10 cc0_scratch8 cc0_scratch9 )) (fun _ => iprop(Holds c y6 (Picked X I (23) 2048) ∗ Holds c y7 (Words X I (23) 16 0))) := by
  have main := forInv (F := F) c k0_t50_ok (fun k => iprop(Holds c y6 (Picked X I (23) 2048) ∗ Holds c y7 (Words X I (23) k 0)))
    (fun t u => words50 c y0 w0 w1 y2 w2 w3 y4 w4 y5 w5 y6 w6 y7 w7 y8 w8 y9 w9 y10 w10 X I  t u)
  rw [t50_trips] at main
  exact (sep_mono .rfl (Holds.mono c fun W _ => Words.start W)).trans main

/-- Field 2 * k0_t8.val's dots with every earlier field. -/
theorem allDots16 (X : Tab) (I : Ids) (c0_i32_8 : BitVec 32) (c1_i32_9 : BitVec 32) (k0_t8 : Fin k0_t8_loop.trips) (v32 : BitVec 32) :
    iprop(Holds c y7 (Words X I (2 * k0_t8.val) 16 0) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (Scf.Loop.for (k0_t16_loop k0_t8) (k0_t16_ok k0_t8) ⟨⟩ (k0_t16_body (F := F) y0 w0 A1 w1 y2 w2 A3 w3 y4 w4 y5 w5 y6 w6 y7 w7 y8 w8 y9 w9 y10 w10 cc0_scratch8 cc0_scratch9 c0_i32_8 c1_i32_9 k0_t8 v32)) (fun _ => iprop(Holds c y7 (Words X I (2 * k0_t8.val) 16 0) ∗ Holds c y8 (Upper X I (liveE (2 * k0_t8.val))) ∗ Holds c y2 (DotsTo (F := F) X I (2 * k0_t8.val + 1) 0))) := by
  have main := forInv (F := F) c (k0_t16_ok k0_t8) (fun k => iprop(Holds c y7 (Words X I (2 * k0_t8.val) 16 0) ∗ Holds c y8 (Upper X I (liveE (2 * k0_t8.val))) ∗ Holds c y2 (DotsTo (F := F) X I (2 * k0_t8.val) k)))
    (fun t u => dots16 c y0 w0 w1 y2 w2 w3 y4 w4 y5 w5 y6 w6 y7 w7 y8 w8 y9 w9 y10 w10 X I c0_i32_8 c1_i32_9 k0_t8 v32 t u)
  rw [t16_trips k0_t8] at main
  exact main.trans (wp_mono _ _ _ fun _ => sep_mono .rfl (sep_mono .rfl (Holds.mono c fun O h => h.next)))

/-- Field 2 * k0_t8.val + 1's dots with every earlier field. -/
theorem allDots31 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) (v56 : BitVec 32) :
    iprop(Holds c y7 (Words X I (2 * k0_t8.val + 1) 16 0) ∗ Holds c y8 (Upper X I (liveE (2 * k0_t8.val + 1))) ∗ Holds c y2 (DotsTo (F := F) X I (2 * k0_t8.val + 1) 0))
      ⊢ wp frame (wpE (defs₀ (F := F)) Variants.none (c : Thread nD τ) none) Set.univ (Scf.Loop.for (k0_t31_loop k0_t8) (k0_t31_ok k0_t8) ⟨⟩ (k0_t31_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50 v56)) (fun _ => iprop(Holds c y7 (Words X I (2 * k0_t8.val + 1) 16 0) ∗ Holds c y8 (Upper X I (liveE (2 * k0_t8.val + 1))) ∗ Holds c y2 (DotsTo (F := F) X I (2 * k0_t8.val + 1 + 1) 0))) := by
  have main := forInv (F := F) c (k0_t31_ok k0_t8) (fun k => iprop(Holds c y7 (Words X I (2 * k0_t8.val + 1) 16 0) ∗ Holds c y8 (Upper X I (liveE (2 * k0_t8.val + 1))) ∗ Holds c y2 (DotsTo (F := F) X I (2 * k0_t8.val + 1) k)))
    (fun t u => dots31 c y0 w0 w1 y2 w2 w3 y4 w4 y5 w5 y6 w6 y7 w7 y8 w8 y9 w9 y10 w10 X I k0_t8 v28 v32 v43 c1_i32_76 c0_i32_77 c1_i32_78 v50 v56 t u)
  rw [t31_trips k0_t8] at main
  exact main.trans (wp_mono _ _ _ fun _ => sep_mono .rfl (sep_mono .rfl (Holds.mono c fun O h => h.next)))

/-- Field 22's dots with every earlier field. -/
theorem allDots45 (X : Tab) (I : Ids)  :
    iprop(Holds c y7 (Words X I (22) 16 0) ∗ Holds c y8 (Upper X I (liveE (22))) ∗ Holds c y2 (DotsTo (F := F) X I (22) 0))
      ⊢ wp frame (wpE (defs₀ (F := F)) Variants.none (c : Thread nD τ) none) Set.univ (Scf.Loop.for k0_t45_loop k0_t45_ok ⟨⟩ (k0_t45_body (F := F) y0 w0 A1 w1 y2 w2 A3 w3 y4 w4 y5 w5 y6 w6 y7 w7 y8 w8 y9 w9 y10 w10 cc0_scratch8 cc0_scratch9 )) (fun _ => iprop(Holds c y7 (Words X I (22) 16 0) ∗ Holds c y8 (Upper X I (liveE (22))) ∗ Holds c y2 (DotsTo (F := F) X I (22 + 1) 0))) := by
  have main := forInv (F := F) c k0_t45_ok (fun k => iprop(Holds c y7 (Words X I (22) 16 0) ∗ Holds c y8 (Upper X I (liveE (22))) ∗ Holds c y2 (DotsTo (F := F) X I (22) k)))
    (fun t u => dots45 c y0 w0 w1 y2 w2 w3 y4 w4 y5 w5 y6 w6 y7 w7 y8 w8 y9 w9 y10 w10 X I  t u)
  rw [t45_trips] at main
  exact main.trans (wp_mono _ _ _ fun _ => sep_mono .rfl (sep_mono .rfl (Holds.mono c fun O h => h.next)))

/-- Field 23's dots with every earlier field. -/
theorem allDots51 (X : Tab) (I : Ids)  :
    iprop(Holds c y7 (Words X I (23) 16 0) ∗ Holds c y8 (Upper X I (liveE (23))) ∗ Holds c y2 (DotsTo (F := F) X I (23) 0))
      ⊢ wp frame (wpE (defs₀ (F := F)) Variants.none (c : Thread nD τ) none) Set.univ (Scf.Loop.for k0_t51_loop k0_t51_ok ⟨⟩ (k0_t51_body (F := F) y0 w0 A1 w1 y2 w2 A3 w3 y4 w4 y5 w5 y6 w6 y7 w7 y8 w8 y9 w9 y10 w10 cc0_scratch8 cc0_scratch9 )) (fun _ => iprop(Holds c y7 (Words X I (23) 16 0) ∗ Holds c y8 (Upper X I (liveE (23))) ∗ Holds c y2 (DotsTo (F := F) X I (23 + 1) 0))) := by
  have main := forInv (F := F) c k0_t51_ok (fun k => iprop(Holds c y7 (Words X I (23) 16 0) ∗ Holds c y8 (Upper X I (liveE (23))) ∗ Holds c y2 (DotsTo (F := F) X I (23) k)))
    (fun t u => dots51 c y0 w0 w1 y2 w2 w3 y4 w4 y5 w5 y6 w6 y7 w7 y8 w8 y9 w9 y10 w10 X I  t u)
  rw [t51_trips] at main
  exact main.trans (wp_mono _ _ _ fun _ => sep_mono .rfl (sep_mono .rfl (Holds.mono c fun O h => h.next)))

/-- Field 2 * k0_t8.val's words for the fields after it kept. -/
theorem allKept20 (X : Tab) (I : Ids) (k0_t8 : Fin k0_t8_loop.trips) (v28 : BitVec 32) (v32 : BitVec 32) (v43 : BitVec 32) (c1_i32_76 : BitVec 32) (c0_i32_77 : BitVec 32) (c1_i32_78 : BitVec 32) (v50 : BitVec 32) :
    iprop(Holds c y7 (Words X I (2 * k0_t8.val) 16 0) ∗ Holds c y8 (Upper X I (liveE (2 * k0_t8.val))))
      ⊢ wp frame (wpE (defs₀ (F := F)) Variants.none (c : Thread nD τ) none) Set.univ (Scf.Loop.for (k0_t20_loop k0_t8) (k0_t20_ok k0_t8) ⟨⟩ (k0_t20_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50)) (fun _ => iprop(Holds c y7 (Words X I (2 * k0_t8.val) 16 0) ∗ Holds c y8 (Upper X I (liveE (2 * k0_t8.val + 1))))) := by
  have b8 : k0_t8.val < 11 := t8_trips ▸ k0_t8.isLt
  have main := forInv (F := F) c (k0_t20_ok k0_t8) (fun g => iprop(Holds c y7 (Words X I (2 * k0_t8.val) 16 0) ∗ Holds c y8 (Upper X I (liveG (2 * k0_t8.val) (2 * k0_t8.val + 1 + g) 0))))
    (body := k0_t20_body (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50) (fun t u => by
      have inner := forInv (F := F) c k0_t21_ok (fun w => iprop(Holds c y7 (Words X I (2 * k0_t8.val) 16 0) ∗ Holds c y8 (Upper X I (liveG (2 * k0_t8.val) (2 * k0_t8.val + 1 + t.val) w))))
        (fun w u => copy21 c y0 w0 w1 y2 w2 w3 y4 w4 y5 w5 y6 w6 y7 w7 y8 w8 y9 w9 y10 w10 X I k0_t8 v28 v32 v43 c1_i32_76 c0_i32_77 c1_i32_78 v50 t w u)
      rw [t21_trips] at inner
      unfold k0_t20_body
      refine andThen c inner (fun _ => BIBase.Entails.trans ?_ (done c _))
      exact sep_mono .rfl (Holds.mono c fun U h => h.next))
  rw [t20_trips k0_t8, show 2 * k0_t8.val + 1 + (23 - 2 * k0_t8.val) = 24 by omega] at main
  exact (sep_mono .rfl (Holds.mono c fun U h => h.enter)).trans (main.trans (wp_mono _ _ _ fun _ => sep_mono .rfl (Holds.mono c fun U h => h.leave)))

/-- Field 2 * k0_t8.val + 1's words for the fields after it kept. -/
theorem allKept35 (X : Tab) (I : Ids) (k0_t8 : Fin k0_t8_loop.trips) :
    iprop(Holds c y7 (Words X I (2 * k0_t8.val + 1) 16 0) ∗ Holds c y8 (Upper X I (liveE (2 * k0_t8.val + 1))))
      ⊢ wp frame (wpE (defs₀ (F := F)) Variants.none (c : Thread nD τ) none) Set.univ (Scf.Loop.for (k0_t35_loop k0_t8) (k0_t35_ok k0_t8) ⟨⟩ (k0_t35_body (F := F) y0 w0 A1 w1 y2 w2 A3 w3 y4 w4 y5 w5 y6 w6 y7 w7 y8 w8 y9 w9 y10 w10 cc0_scratch8 cc0_scratch9 k0_t8)) (fun _ => iprop(Holds c y7 (Words X I (2 * k0_t8.val + 1) 16 0) ∗ Holds c y8 (Upper X I (liveE (2 * k0_t8.val + 1 + 1))))) := by
  have b8 : k0_t8.val < 11 := t8_trips ▸ k0_t8.isLt
  have main := forInv (F := F) c (k0_t35_ok k0_t8) (fun g => iprop(Holds c y7 (Words X I (2 * k0_t8.val + 1) 16 0) ∗ Holds c y8 (Upper X I (liveG (2 * k0_t8.val + 1) (2 * k0_t8.val + 1 + 1 + g) 0))))
    (body := k0_t35_body (F := F) y0 w0 A1 w1 y2 w2 A3 w3 y4 w4 y5 w5 y6 w6 y7 w7 y8 w8 y9 w9 y10 w10 cc0_scratch8 cc0_scratch9 k0_t8) (fun t u => by
      have inner := forInv (F := F) c k0_t36_ok (fun w => iprop(Holds c y7 (Words X I (2 * k0_t8.val + 1) 16 0) ∗ Holds c y8 (Upper X I (liveG (2 * k0_t8.val + 1) (2 * k0_t8.val + 1 + 1 + t.val) w))))
        (fun w u => copy36 c y0 w0 w1 y2 w2 w3 y4 w4 y5 w5 y6 w6 y7 w7 y8 w8 y9 w9 y10 w10 X I k0_t8 t w u)
      rw [t36_trips] at inner
      unfold k0_t35_body
      refine andThen c inner (fun _ => BIBase.Entails.trans ?_ (done c _))
      exact sep_mono .rfl (Holds.mono c fun U h => h.next))
  rw [t35_trips k0_t8, show 2 * k0_t8.val + 1 + 1 + (22 - 2 * k0_t8.val) = 24 by omega] at main
  exact (sep_mono .rfl (Holds.mono c fun U h => h.enter)).trans (main.trans (wp_mono _ _ _ fun _ => sep_mono .rfl (Holds.mono c fun U h => h.leave)))

/-- Field 22's words for field 23 kept. -/
theorem allKept47 (X : Tab) (I : Ids) :
    iprop(Holds c y7 (Words X I 22 16 0) ∗ Holds c y8 (Upper X I (liveE 22)))
      ⊢ wp frame (wpE (defs₀ (F := F)) Variants.none (c : Thread nD τ) none) Set.univ (Scf.Loop.for k0_t47_loop k0_t47_ok ⟨⟩ (k0_t47_body (F := F) y0 w0 A1 w1 y2 w2 A3 w3 y4 w4 y5 w5 y6 w6 y7 w7 y8 w8 y9 w9 y10 w10 cc0_scratch8 cc0_scratch9 )) (fun _ => iprop(Holds c y7 (Words X I 22 16 0) ∗ Holds c y8 (Upper X I (liveE 23)))) := by
  have main := forInv (F := F) c k0_t47_ok (fun w => iprop(Holds c y7 (Words X I 22 16 0) ∗ Holds c y8 (Upper X I (liveG 22 23 w))))
    (fun w u => copy47 c y0 w0 w1 y2 w2 w3 y4 w4 y5 w5 y6 w6 y7 w7 y8 w8 y9 w9 y10 w10 X I w u)
  rw [t47_trips] at main
  exact (sep_mono .rfl (Holds.mono c fun U h => h.enter)).trans (main.trans (wp_mono _ _ _ fun _ => sep_mono .rfl (Holds.mono c fun U h => h.next.leave)))

/-- Field 23's rows picked. -/
theorem allPicked48 (X : Tab) (I : Ids) (hI : InField I) :
    iprop(Holds c y10 (RowIds I 16 0) ∗ Holds c y5 (Strip X 23 30208) ∗ Holds c y6 (fun _ => True))
      ⊢ wp frame (wpE (defs₀ (F := F)) Variants.none (c : Thread nD τ) none) Set.univ (Scf.Loop.for k0_t48_loop k0_t48_ok ⟨⟩ (k0_t48_body (F := F) y0 w0 A1 w1 y2 w2 A3 w3 y4 w4 y5 w5 y6 w6 y7 w7 y8 w8 y9 w9 y10 w10 cc0_scratch8 cc0_scratch9 )) (fun _ => iprop(Holds c y10 (RowIds I 16 0) ∗ Holds c y5 (Strip X 23 30208) ∗ Holds c y6 (Picked X I 23 2048))) := by
  have main := forInv (F := F) c k0_t48_ok (fun j => iprop(Holds c y10 (RowIds I 16 0) ∗ Holds c y5 (Strip X 23 30208) ∗ Holds c y6 (Picked X I 23 (512 * j))))
    (body := k0_t48_body (F := F) y0 w0 A1 w1 y2 w2 A3 w3 y4 w4 y5 w5 y6 w6 y7 w7 y8 w8 y9 w9 y10 w10 cc0_scratch8 cc0_scratch9) (fun t u => by
      have inner := forInv (F := F) c k0_t49_ok (fun p => iprop(Holds c y10 (RowIds I 16 0) ∗ Holds c y5 (Strip X 23 30208) ∗ Holds c y6 (Picked X I 23 (512 * t.val + p))))
        (fun p u => pick49 c y0 w0 w1 y2 w2 w3 y4 w4 y5 w5 y6 w6 y7 w7 y8 w8 y9 w9 y10 w10 X I hI t p u)
      rw [t49_trips] at inner
      unfold k0_t48_body
      exact andThen c inner (fun _ => done c _))
  rw [t48_trips] at main
  exact (sep_mono .rfl (sep_mono .rfl (Holds.mono c fun P _ => Picked.start P))).trans main

/-- The first half of a pair of fields: the odd field received while the even one is finished. -/
theorem half16 (X : Tab) (I : Ids) (hI : InField I) (c0_i32_8 c1_i32_9 : BitVec 32) (k0_t8 : Fin k0_t8_loop.trips) :
    iprop(bigSep Finset.univ (InFlight c X (2 * k0_t8.val + 1)) ∗ Owes c ∗ Holds c y4 (Strip X (2 * k0_t8.val) 30208) ∗ Holds c y5 (fun _ => True) ∗ Holds c y10 (RowIds I 16 0) ∗ Holds c y6 (fun _ => True) ∗ Holds c y7 (fun _ => True) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (k0_part16 (F := F) y0 w0 A1 w1 y2 w2 A3 w3 y4 w4 y5 w5 y6 w6 y7 w7 y8 w8 y9 w9 y10 w10 cc0_scratch8 cc0_scratch9 c0_i32_8 c1_i32_9 k0_t8) (fun _ => iprop(bigSep Finset.univ (InFlight c X (2 * k0_t8.val + 2)) ∗ Owes c ∗ Holds c y4 (fun _ => True) ∗ Holds c y5 (Strip X (2 * k0_t8.val + 1) 30208) ∗ Holds c y10 (RowIds I 16 0) ∗ Holds c y6 (fun _ => True) ∗ Holds c y7 (Words X I (2 * k0_t8.val) 16 0) ∗ Holds c y8 (Upper X I (liveE (2 * k0_t8.val))) ∗ Holds c y2 (DotsTo (F := F) X I (2 * k0_t8.val + 1) 0))) := by
  rw [k0_part16_eq_skeleton]; unfold k0_part16_skel
  iintro ⟨HF, HO, H4, H5, H10, H6, H7, H8, H2⟩
  ihave H5 := (Holds.mono c (M := y5) (fun a _ => Strip.start X (2 * k0_t8.val + 1) a)) $$ H5
  ihave H6 := (Holds.mono c (M := y6) (fun a _ => Picked.start (X := X) (I := I) (f := 2 * k0_t8.val) a)) $$ H6
  iapply (seqI c (chunks9 c y0 w0 w1 y2 w2 w3 y4 w4 y5 w5 y6 w6 y7 w7 y8 w8 y9 w9 y10 w10 X I hI c0_i32_8 c1_i32_9 k0_t8))
  isplitl [HF HO H5 H10 H4 H6]
  · isplitl [HF]; · iexact HF
    isplitl [HO]; · iexact HO
    isplitl [H5]; · iexact H5
    isplitl [H10]; · iexact H10
    isplitl [H4]; · iexact H4
    iexact H6
  iintro %_ ⟨HF, HO, H5, H10, H4, H6⟩
  iapply (seqI c (allWords15 c y0 w0 w1 y2 w2 w3 y4 w4 y5 w5 y6 w6 y7 w7 y8 w8 y9 w9 y10 w10 X I c0_i32_8 c1_i32_9 k0_t8))
  isplitl [H6 H7]
  · isplitl [H6]; · iexact H6
    iexact H7
  iintro %_ ⟨H6, H7⟩
  iapply (seqI c (allDots16 c y0 w0 w1 y2 w2 w3 y4 w4 y5 w5 y6 w6 y7 w7 y8 w8 y9 w9 y10 w10 X I c0_i32_8 c1_i32_9 k0_t8 _))
  isplitl [H7 H8 H2]
  · isplitl [H7]; · iexact H7
    isplitl [H8]; · iexact H8
    iexact H2
  iintro %_ ⟨H7, H8, H2⟩
  iapply (seqI c (forNone c _ (t18_trips _) iprop(emp)))
  isplitr; · iempintro
  iintro %_ -
  ihave H4 := (Holds.mono c (M := y4) (Q := (fun _ => True)) (fun _ _ => trivial)) $$ H4
  ihave H6 := (Holds.mono c (M := y6) (Q := (fun _ => True)) (fun _ _ => trivial)) $$ H6
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- The second half of a pair of fields: the next even field received while the odd one is finished. -/
theorem half17 (X : Tab) (I : Ids) (hI : InField I) (k0_t8 : Fin k0_t8_loop.trips) (v28 v32 v43 c1_i32_76 c0_i32_77 c1_i32_78 v50 : BitVec 32) :
    iprop(bigSep Finset.univ (InFlight c X (2 * k0_t8.val + 2)) ∗ Owes c ∗ Holds c y4 (fun _ => True) ∗ Holds c y5 (Strip X (2 * k0_t8.val + 1) 30208) ∗ Holds c y10 (RowIds I 16 0) ∗ Holds c y6 (fun _ => True) ∗ Holds c y7 (Words X I (2 * k0_t8.val) 16 0) ∗ Holds c y8 (Upper X I (liveE (2 * k0_t8.val))) ∗ Holds c y2 (DotsTo (F := F) X I (2 * k0_t8.val + 1) 0))
      ⊢ wp frame (wpE (defs₀ (F := F)) Variants.none (c : Thread nD τ) none) Set.univ (k0_part17 (F := F) y0 w0 A1 w1 y2 w2 A3 w3 y4 w4 y5 w5 y6 w6 y7 w7 y8 w8 y9 w9 y10 w10 cc0_scratch8 cc0_scratch9 k0_t8 v28 v32 v43 c1_i32_76 c0_i32_77 c1_i32_78 v50) (fun _ => iprop(bigSep Finset.univ (InFlight c X (2 * k0_t8.val + 3)) ∗ Owes c ∗ Holds c y4 (Strip X (2 * k0_t8.val + 2) 30208) ∗ Holds c y5 (fun _ => True) ∗ Holds c y10 (RowIds I 16 0) ∗ Holds c y6 (fun _ => True) ∗ Holds c y7 (Words X I (2 * k0_t8.val + 1) 16 0) ∗ Holds c y8 (Upper X I (liveE (2 * k0_t8.val + 1))) ∗ Holds c y2 (DotsTo (F := F) X I (2 * k0_t8.val + 2) 0))) := by
  rw [k0_part17_eq_skeleton]; unfold k0_part17_skel
  iintro ⟨HF, HO, H4, H5, H10, H6, H7, H8, H2⟩
  iapply (seqI c (allKept20 c y0 w0 w1 y2 w2 w3 y4 w4 y5 w5 y6 w6 y7 w7 y8 w8 y9 w9 y10 w10 X I k0_t8 v28 v32 v43 c1_i32_76 c0_i32_77 c1_i32_78 v50))
  isplitl [H7 H8]
  · isplitl [H7]; · iexact H7
    iexact H8
  iintro %_ ⟨H7, H8⟩
  iapply (seqI c (forNone c _ (t22_trips _) iprop(emp)))
  isplitr; · iempintro
  iintro %_ -
  ihave H4 := (Holds.mono c (M := y4) (fun a _ => Strip.start X (2 * k0_t8.val + 2) a)) $$ H4
  ihave H6 := (Holds.mono c (M := y6) (fun a _ => Picked.start (X := X) (I := I) (f := 2 * k0_t8.val + 1) a)) $$ H6
  ihave H7 := (Holds.mono c (M := y7) (Q := (fun _ => True)) (fun _ _ => trivial)) $$ H7
  iapply (seqI c (chunks24 c y0 w0 w1 y2 w2 w3 y4 w4 y5 w5 y6 w6 y7 w7 y8 w8 y9 w9 y10 w10 X I hI k0_t8 v28 v32 v43 c1_i32_76 c0_i32_77 c1_i32_78 v50))
  isplitl [HF HO H4 H10 H5 H6]
  · isplitl [HF]; · iexact HF
    isplitl [HO]; · iexact HO
    isplitl [H4]; · iexact H4
    isplitl [H10]; · iexact H10
    isplitl [H5]; · iexact H5
    iexact H6
  iintro %_ ⟨HF, HO, H4, H10, H5, H6⟩
  iapply (seqI c (allWords30 c y0 w0 w1 y2 w2 w3 y4 w4 y5 w5 y6 w6 y7 w7 y8 w8 y9 w9 y10 w10 X I k0_t8 v28 v32 v43 c1_i32_76 c0_i32_77 c1_i32_78 v50))
  isplitl [H6 H7]
  · isplitl [H6]; · iexact H6
    iexact H7
  iintro %_ ⟨H6, H7⟩
  iapply (seqI c (allDots31 c y0 w0 w1 y2 w2 w3 y4 w4 y5 w5 y6 w6 y7 w7 y8 w8 y9 w9 y10 w10 X I k0_t8 v28 v32 v43 c1_i32_76 c0_i32_77 c1_i32_78 v50 _))
  isplitl [H7 H8 H2]
  · isplitl [H7]; · iexact H7
    isplitl [H8]; · iexact H8
    iexact H2
  iintro %_ ⟨H7, H8, H2⟩
  iapply (seqI c (forNone c _ (t33_trips _) iprop(emp)))
  isplitr; · iempintro
  iintro %_ -
  ihave H5 := (Holds.mono c (M := y5) (Q := (fun _ => True)) (fun _ _ => trivial)) $$ H5
  ihave H6 := (Holds.mono c (M := y6) (Q := (fun _ => True)) (fun _ _ => trivial)) $$ H6
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- A pair of fields. -/
theorem pair8 (X : Tab) (I : Ids) (hI : InField I) (k0_t8 : Fin k0_t8_loop.trips) (u0 : Unit) :
    iprop(bigSep Finset.univ (InFlight c X (2 * k0_t8.val + 1)) ∗ Owes c ∗ Holds c y4 (Strip X (2 * k0_t8.val) 30208) ∗ Holds c y5 (fun _ => True) ∗ Holds c y10 (RowIds I 16 0) ∗ Holds c y6 (fun _ => True) ∗ Holds c y7 (fun _ => True) ∗ Holds c y8 (Upper X I (liveE (2 * k0_t8.val))) ∗ Holds c y2 (DotsTo (F := F) X I (2 * k0_t8.val) 0))
      ⊢ wp frame (wpE (defs₀ (F := F)) Variants.none (c : Thread nD τ) none) Set.univ (k0_t8_body (F := F) y0 w0 A1 w1 y2 w2 A3 w3 y4 w4 y5 w5 y6 w6 y7 w7 y8 w8 y9 w9 y10 w10 cc0_scratch8 cc0_scratch9 k0_t8 u0) (fun _ => iprop(bigSep Finset.univ (InFlight c X (2 * (k0_t8.val + 1) + 1)) ∗ Owes c ∗ Holds c y4 (Strip X (2 * (k0_t8.val + 1)) 30208) ∗ Holds c y5 (fun _ => True) ∗ Holds c y10 (RowIds I 16 0) ∗ Holds c y6 (fun _ => True) ∗ Holds c y7 (fun _ => True) ∗ Holds c y8 (Upper X I (liveE (2 * (k0_t8.val + 1)))) ∗ Holds c y2 (DotsTo (F := F) X I (2 * (k0_t8.val + 1)) 0))) := by
  unfold k0_t8_body
  refine andThen c (half16 c y0 w0 w1 y2 w2 w3 y4 w4 y5 w5 y6 w6 y7 w7 y8 w8 y9 w9 y10 w10 X I hI _ _ k0_t8) (fun r => ?_)
  obtain ⟨v28, v32, v43, c1_i32_76, c0_i32_77, c1_i32_78, v50⟩ := r
  refine andThen c (half17 c y0 w0 w1 y2 w2 w3 y4 w4 y5 w5 y6 w6 y7 w7 y8 w8 y9 w9 y10 w10 X I hI k0_t8 v28 v32 v43 c1_i32_76 c0_i32_77 c1_i32_78 v50) (fun r => ?_)
  obtain ⟨v56, v67, c1_i32_107, c0_i32_108, v72, c1_i32_109⟩ := r
  iintro ⟨HF, HO, H4, H5, H10, H6, H7, H8, H2⟩
  iapply (seqI c (allKept35 c y0 w0 w1 y2 w2 w3 y4 w4 y5 w5 y6 w6 y7 w7 y8 w8 y9 w9 y10 w10 X I k0_t8))
  isplitl [H7 H8]
  · isplitl [H7]; · iexact H7
    iexact H8
  iintro %_ ⟨H7, H8⟩
  iapply (seqI c (forNone c _ (t37_trips _) iprop(emp)))
  isplitr; · iempintro
  iintro %_ -
  ihave H7 := (Holds.mono c (M := y7) (Q := (fun _ => True)) (fun _ _ => trivial)) $$ H7
  iapply (done c)
  isplitl [HF]; · iexact HF
  isplitl [HO]; · iexact HO
  isplitl [H4]; · iexact H4
  isplitl [H5]; · iexact H5
  isplitl [H10]; · iexact H10
  isplitl [H6]; · iexact H6
  isplitl [H7]; · iexact H7
  isplitl [H8]; · iexact H8
  iexact H2

/-- Eleven pairs of fields. -/
theorem pairs8 (X : Tab) (I : Ids) (hI : InField I) :
    iprop(bigSep Finset.univ (InFlight c X (0 + 1)) ∗ Owes c ∗ Holds c y4 (Strip X (0) 30208) ∗ Holds c y5 (fun _ => True) ∗ Holds c y10 (RowIds I 16 0) ∗ Holds c y6 (fun _ => True) ∗ Holds c y7 (fun _ => True) ∗ Holds c y8 (Upper X I (liveE (0))) ∗ Holds c y2 (DotsTo (F := F) X I (0) 0))
      ⊢ wp frame (wpE (defs₀ (F := F)) Variants.none (c : Thread nD τ) none) Set.univ (Scf.Loop.for k0_t8_loop k0_t8_ok ⟨⟩ (k0_t8_body (F := F) y0 w0 A1 w1 y2 w2 A3 w3 y4 w4 y5 w5 y6 w6 y7 w7 y8 w8 y9 w9 y10 w10 cc0_scratch8 cc0_scratch9 )) (fun _ => iprop(bigSep Finset.univ (InFlight c X (22 + 1)) ∗ Owes c ∗ Holds c y4 (Strip X (22) 30208) ∗ Holds c y5 (fun _ => True) ∗ Holds c y10 (RowIds I 16 0) ∗ Holds c y6 (fun _ => True) ∗ Holds c y7 (fun _ => True) ∗ Holds c y8 (Upper X I (liveE (22))) ∗ Holds c y2 (DotsTo (F := F) X I (22) 0))) := by
  have main := forInv (F := F) c k0_t8_ok (fun i => iprop(bigSep Finset.univ (InFlight c X (2 * i + 1)) ∗ Owes c ∗ Holds c y4 (Strip X (2 * i) 30208) ∗ Holds c y5 (fun _ => True) ∗ Holds c y10 (RowIds I 16 0) ∗ Holds c y6 (fun _ => True) ∗ Holds c y7 (fun _ => True) ∗ Holds c y8 (Upper X I (liveE (2 * i))) ∗ Holds c y2 (DotsTo (F := F) X I (2 * i) 0))) (fun t u => pair8 c y0 w0 w1 y2 w2 w3 y4 w4 y5 w5 y6 w6 y7 w7 y8 w8 y9 w9 y10 w10 X I hI t u)
  rw [t8_trips] at main
  exact main

end Cert.Proof.DotsIdeal

end
-- ==== Proof.DotsIdealIds.lean ====
module

public import proofs.«01_k».proof.Proof.DotsIdealBase
public import proofs.«01_k».proof.Proof.DotsStart
public import proofs.«01_k».proof.Proof.DotsMath

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's inner loops, one trip at a time -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

theorem off4_all : ∀ (k : Fin k0_t3_loop.trips), (k0_off4 k) 0 = k.val % 8 ∧ (k0_off4 k) 1 = 0 ∧ (k0_off4 k) 2 = k.val / 8 * 128 := by decide +kernel
theorem off6_all : ∀ (k : Fin k0_t3_loop.trips), (k0_off6 k) 0 = k.val % 8 ∧ (k0_off6 k) 1 = 8 ∧ (k0_off6 k) 2 = k.val / 8 * 128 := by decide +kernel
theorem off7_all : ∀ (k : Fin k0_t3_loop.trips), (k0_off7 k) 0 = k.val % 8 ∧ (k0_off7 k) 1 = 16 ∧ (k0_off7 k) 2 = k.val / 8 * 128 := by decide +kernel
theorem off5_all : ∀ (k : Fin k0_t3_loop.trips) (q : Fin 3), (k0_off5 k (BitVec.ofNat 32 (128 * q.val))) 0 = 128 * q.val + k.val ∧ (k0_off5 k (BitVec.ofNat 32 (128 * q.val))) 1 = 0 := by decide +kernel

/-- The rows of fields. -/
abbrev rowIota : IVec S8x128 32 := iota .tc S8x128 32 [0] iota_S8x128_d0_w32

theorem first_pay0 : ∀ (s : Fin 8) (l : Fin 128), k0_pay6 rowIota (ValueIdx.ix2 s l) = BitVec.ofNat 32 (first (8 * 0 + s.val)) := by decide +kernel
theorem first_pay1 : ∀ (s : Fin 8) (l : Fin 128), k0_pay9 rowIota (ValueIdx.ix2 s l) = BitVec.ofNat 32 (first (8 * 1 + s.val)) := by decide +kernel
theorem first_pay2 : ∀ (s : Fin 8) (l : Fin 128), k0_pay12 rowIota (ValueIdx.ix2 s l) = BitVec.ofNat 32 (first (8 * 2 + s.val)) := by decide +kernel

/-- A block of ids read from the window. -/
theorem ids_read (I : Ids) (k tt : ℕ) (hk : k < 16) (htt : tt < 3) (f0 : BufTy.Contents (Elt F) y0.view.ty) (h0 : y0.view.read (Elt F) f0 = I) {o : Fin 3 → ℕ} (ho : o 0 = k % 8 ∧ o 1 = 8 * tt ∧ o 2 = k / 8 * 128) (inb)
    (s : Fin 8) (l : Fin 128) : y0.view.readAt (Elt F) (Rect.unit (s := S8x24x256) o S1x8x128.size inb).toLoadRect f0 (ValueIdx.ix3 (0 : Fin 1) s l) = idAt I (8 * tt + s.val) (k * 128 + l.val) := by
  rw [View.readAt_apply, h0]
  have e3 := Idealize.ShloMosaic.ValueKit.rect_emb_unit_val (s := S8x24x256) o S1x8x128.size inb (ValueIdx.ix3 (0 : Fin 1) s l)
  show I ((Rect.unit (s := S8x24x256) o S1x8x128.size inb).emb (ValueIdx.ix3 (0 : Fin 1) s l)) = _
  unfold idAt
  have hs := s.isLt
  have hl := l.isLt
  refine congrArg I (funext fun a => Fin.ext ?_)
  fin_cases a
  · refine (e3 0).trans ?_
    show o 0 + 0 = (k * 128 + l.val) / 128 % 8
    rw [ho.1]; omega
  · refine (e3 1).trans ?_
    show o 1 + s.val = (8 * tt + s.val) % 24
    rw [ho.2.1]; omega
  · refine (e3 2).trans ?_
    show o 2 + l.val = ((k * 128 + l.val) / 1024 % 2) * 128 + (k * 128 + l.val) % 128
    rw [ho.2.2]; omega

theorem ids_pay (I : Ids) (k tt : ℕ) (V : S1x8x128.Idx → BitVec 32) (P : IVec S8x128 32) (hV : ∀ (s : Fin 8) (l : Fin 128), V (ValueIdx.ix3 (0 : Fin 1) s l) = idAt I (8 * tt + s.val) (k * 128 + l.val))
    (hP : ∀ (s : Fin 8) (l : Fin 128), P (ValueIdx.ix2 s l) = BitVec.ofNat 32 (first (8 * tt + s.val))) (h1) (h2) (s : Fin 8) (l : Fin 128) :
    shapeCast S8x128 (subi (shapeCast S8x128 V h1) P) h2 (ValueIdx.ix2 s l) = idAt I (8 * tt + s.val) (k * 128 + l.val) - BitVec.ofNat 32 (first (8 * tt + s.val)) := by
  rw [shapeCast_self]
  show shapeCast S8x128 V h1 (ValueIdx.ix2 s l) - P (ValueIdx.ix2 s l) = _
  rw [hP]
  refine congrArg (· - _) ?_
  exact (ValueIdx.shapeCast_1ab_ab_apply V h1 s l).trans (hV s l)

/-- One block of ids made rows of their strips. -/
theorem ids3 (I : Ids) (k0_t3 : Fin k0_t3_loop.trips) (u0 : Unit) :
    iprop(Holds c y0 (fun a => a = I) ∗ Holds c y9 (RowIds I k0_t3.val 0))
      ⊢ wp frame (wpE (defs₀ (F := F)) Variants.none (c : Thread nD τ) none) Set.univ (k0_t3_body (F := F) y0 w0 A1 w1 y2 w2 A3 w3 y4 w4 y5 w5 y6 w6 y7 w7 y8 w8 y9 w9 y10 w10 cc0_scratch8 cc0_scratch9 rowIota k0_t3 u0)
        (fun _ => iprop(Holds c y0 (fun a => a = I) ∗ Holds c y9 (RowIds I (k0_t3.val + 1) 0))) := by
  have b3 : k0_t3.val < 16 := t3_trips ▸ k0_t3.isLt
  unfold k0_t3_body Holds
  rw [k0_part1_eq_skeleton, k0_part2_eq_skeleton, k0_part3_eq_skeleton]
  unfold k0_part1_skel k0_part2_skel k0_part3_skel
  iintro ⟨⟨%f0, H0, %h0⟩, ⟨%f9, H9, %h9⟩⟩
  sl_exec
  sl_step
  isplitl [H0]
  · iexists _; isplitl [H0]; · iexact H0
    ipureintro; exact h0
  iexists _; isplitl [H9]; · iexact H9
  ipureintro
  refine RowIds.next ?_
  refine RowIds.step (F := F) (tt := 2) b3 (by decide) ?_ (of2 (off5_all k0_t3 2)) (ids_pay I k0_t3.val 2 _ _ (ids_read y0 I k0_t3.val 2 b3 (by decide) f0 h0 (off7_all k0_t3) _) first_pay2 _ _)
  refine RowIds.step (F := F) (tt := 1) b3 (by decide) ?_ (of2 (off5_all k0_t3 1)) (ids_pay I k0_t3.val 1 _ _ (ids_read y0 I k0_t3.val 1 b3 (by decide) f0 h0 (off6_all k0_t3) _) first_pay1 _ _)
  refine RowIds.step (F := F) (tt := 0) (L := []) b3 (by decide) ?_ (of2 (off5_all k0_t3 0)) (ids_pay I k0_t3.val 0 _ _ (ids_read y0 I k0_t3.val 0 b3 (by decide) f0 h0 (off4_all k0_t3) _) first_pay0 _ _)
  exact h9

/-- All sixteen blocks. -/
theorem allIds3 (I : Ids) :
    iprop(Holds c y0 (fun a => a = I) ∗ Holds c y9 (fun _ => True))
      ⊢ wp frame (wpE (defs₀ (F := F)) Variants.none (c : Thread nD τ) none) Set.univ (Scf.Loop.for k0_t3_loop k0_t3_ok ⟨⟩ (k0_t3_body (F := F) y0 w0 A1 w1 y2 w2 A3 w3 y4 w4 y5 w5 y6 w6 y7 w7 y8 w8 y9 w9 y10 w10 cc0_scratch8 cc0_scratch9 rowIota))
        (fun _ => iprop(Holds c y0 (fun a => a = I) ∗ Holds c y9 (RowIds I 16 0))) := by
  have main := forInv (F := F) c k0_t3_ok (fun k => iprop(Holds c y0 (fun a => a = I) ∗ Holds c y9 (RowIds I k 0)))
    (fun t u => ids3 c y0 w0 w1 y2 w2 w3 y4 w4 y5 w5 y6 w6 y7 w7 y8 w8 y9 w9 y10 w10 I t u)
  rw [t3_trips] at main
  exact (sep_mono .rfl (Holds.mono c fun B _ => RowIds.start B)).trans main

/-- The ids copied into scalar memory. -/
theorem idsCopy {β : Type} (I : Ids) (h1) (h2) (h3) (h4) (h5) (k : PUnit → Prog (TpuEff nD τ sig (Elt F) Λ₀ .tc) β) (Q : β → sProp 𝕄) :
    iprop(Owes c ∗ semVal ((c : Thread nD τ), SemLoc.dma cc0_scratch9.sem) 0 ∗ Holds c y9 (RowIds I 16 0) ∗ Holds c y10 (fun _ => True)
      ∗ (iprop(Owes c ∗ semVal ((c : Thread nD τ), SemLoc.dma cc0_scratch9.sem) 0 ∗ Holds c y9 (RowIds I 16 0) ∗ Holds c y10 (RowIds I 16 0)) -∗ wp frame (wpE (defs₀ (F := F)) Variants.none (c : Thread nD τ) none) Set.univ (k ⟨⟩) Q))
      ⊢ wp frame (wpE (defs₀ (F := F)) Variants.none (c : Thread nD τ) none) Set.univ (Prog.lift (.enqueueDma y9 (.here y10) (.dma cc0_scratch9.sem) h1 h2 h3) >>= fun _ => Prog.lift (.waitDma2 cc0_scratch9.sem y9 y10 h4 h5) >>= k) Q := by
  unfold Holds
  iintro ⟨⟨%W, HO⟩, Hs, ⟨%f9, H9, %h9⟩, ⟨%f10, H10, %h10⟩, Hk⟩
  sl_exec
  iapply Hk
  isplitl [HO]; · iexists _; iexact HO
  isplitl [Hs]; · iexact Hs
  isplitl [H9]
  · iexists _; isplitl [H9]; · iexact H9
    ipureintro; exact h9
  iexists _; isplitl [H10]; · iexact H10
  ipureintro
  rw [View.read_writes_whole]
  exact h9

end Cert.Proof.DotsIdeal

end
-- ==== Proof.DotsIdealKernel.lean ====
module

public import proofs.«01_k».proof.Proof.DotsIdealBase
public import proofs.«01_k».proof.Proof.DotsIdealFields
public import proofs.«01_k».proof.Proof.DotsIdealIds

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The whole kernel -/

variable (c : Dev nD) (y0 : Memref sig .tc .vmem S8x24x256 .i32) (w0 : y0.IsWhole) (w1 : A1.IsWhole) (y2 : Memref sig .tc .vmem S4416x128 .f32) (w2 : y2.IsWhole) (w3 : A3.IsWhole)
  (y4 : Memref sig .tc .vmem S30208x128 .i32) (w4 : y4.IsWhole) (y5 : Memref sig .tc .vmem S30208x128 .i32) (w5 : y5.IsWhole) (y6 : Memref sig .tc .vmem S2048x128 .i32) (w6 : y6.IsWhole)
  (y7 : Memref sig .tc .vmem S2040x128 .i32) (w7 : y7.IsWhole) (y8 : Memref sig .tc .vmem S11520x128 .i32) (w8 : y8.IsWhole) (y9 : Memref sig .tc .vmem S384x128 .i32) (w9 : y9.IsWhole)
  (y10 : Memref sig .tc .smem S384x128 .i32) (w10 : y10.IsWhole)

/-- The first field's copies started, all four chunks. -/
theorem startAll (X : Tab) (g : S4x480x7552.Idx → Elt F .i8) :
    bigSep Finset.univ (fun j => Home c X j g)
      ⊢ wp frame (wpE (defs₀ (F := F)) Variants.none (c : Thread nD τ) none) Set.univ (Scf.Loop.for k0_t1_loop k0_t1_ok ⟨⟩ (k0_t1_body (F := F) y0 w0 A1 w1 y2 w2 A3 w3 y4 w4 y5 w5 y6 w6 y7 w7 y8 w8 y9 w9 y10 w10 cc0_scratch8 cc0_scratch9))
        (fun _ => bigSep Finset.univ (InFlight c X 0)) := by
  have main := four_loop (F := F) c k0_t1_ok t1_trips (fun j => Home c X j g) (InFlight c X 0) (fun _ => iprop(emp))
    (body := k0_t1_body (F := F) y0 w0 A1 w1 y2 w2 A3 w3 y4 w4 y5 w5 y6 w6 y7 w7 y8 w8 y9 w9 y10 w10 cc0_scratch8 cc0_scratch9) (fun t u => by
      unfold k0_t1_body
      iintro ⟨H, -⟩
      iapply (seqI c (start_loop c X 0 (t.cast t1_trips) g k0_t2_ok t2_trips (fun r u => start2 c y0 w0 w1 y2 w2 w3 y4 w4 y5 w5 y6 w6 y7 w7 y8 w8 y9 w9 y10 w10 X (t.cast t1_trips) g t r rfl u)))
      isplitl [H]; · iexact H
      iintro %_ H
      iapply (done c)
      isplitl [H]; · iexact H
      iempintro)
  iintro H
  iapply wp_wand_r
  isplitl [H]
  · iapply main
    isplitl [H]; · iexact H
    iempintro
  iintro %_ ⟨H, -⟩
  iexact H

/-- The kernel up to the last field: its row ids, the first twenty-three fields' pairs, the last field's strip. -/
theorem part26Run (X : Tab) (I : Ids) (hI : InField I) (g : S4x480x7552.Idx → Elt F .i8) :
    iprop(bigSep Finset.univ (fun j => Home c X j g) ∗ Owes c ∗ semVal ((c : Thread nD τ), SemLoc.dma cc0_scratch9.sem) 0
      ∗ Holds c y0 (fun a => a = I) ∗ Holds c y2 (fun _ => True) ∗ Holds c y4 (fun _ => True) ∗ Holds c y5 (fun _ => True) ∗ Holds c y6 (fun _ => True)
      ∗ Holds c y7 (fun _ => True) ∗ Holds c y8 (fun _ => True) ∗ Holds c y9 (fun _ => True) ∗ Holds c y10 (fun _ => True))
      ⊢ wp frame (wpE (defs₀ (F := F)) Variants.none (c : Thread nD τ) none) Set.univ (k0_part26 (F := F) y0 w0 A1 w1 y2 w2 A3 w3 y4 w4 y5 w5 y6 w6 y7 w7 y8 w8 y9 w9 y10 w10 cc0_scratch8 cc0_scratch9)
        (fun _ => iprop(bigSep Finset.univ (fun j => Home c X j (stripBuf X 23)) ∗ Owes c ∗ semVal ((c : Thread nD τ), SemLoc.dma cc0_scratch9.sem) 0
          ∗ Holds c y0 (fun a => a = I) ∗ Holds c y2 (DotsTo (F := F) X I 23 0) ∗ Holds c y4 (fun _ => True) ∗ Holds c y5 (Strip X 23 30208) ∗ Holds c y6 (fun _ => True)
          ∗ Holds c y7 (Words X I 22 16 0) ∗ Holds c y8 (Upper X I (liveE 22)) ∗ Holds c y9 (fun _ => True) ∗ Holds c y10 (RowIds I 16 0))) := by
  rw [k0_part26_eq_skeleton]; unfold k0_part26_skel
  iintro ⟨HF, HO, Hs, H0, H2, H4, H5, H6, H7, H8, H9, H10⟩
  iapply (seqI c (startAll c y0 w0 w1 y2 w2 w3 y4 w4 y5 w5 y6 w6 y7 w7 y8 w8 y9 w9 y10 w10 X g))
  isplitl [HF]
  · iexact HF
  iintro %_ HF
  iapply (seqI c (allIds3 c y0 w0 w1 y2 w2 w3 y4 w4 y5 w5 y6 w6 y7 w7 y8 w8 y9 w9 y10 w10 I))
  isplitl [H0 H9]
  · isplitl [H0]; · iexact H0
    iexact H9
  iintro %_ ⟨H0, H9⟩
  iapply (idsCopy c y9 y10 I _ _ _ _ _)
  isplitl [HO]; · iexact HO
  isplitl [Hs]; · iexact Hs
  isplitl [H9]; · iexact H9
  isplitl [H10]; · iexact H10
  iintro ⟨HO, Hs, H9, H10⟩
  ihave H4 := (Holds.mono (F := F) c fun A _ => Strip.start X 0 A) $$ H4
  iapply (seqI c (chunks4 c y0 w0 w1 y2 w2 w3 y4 w4 y5 w5 y6 w6 y7 w7 y8 w8 y9 w9 y10 w10 X))
  isplitl [HF HO H4]
  · isplitl [HF]; · iexact HF
    isplitl [HO]; · iexact HO
    iexact H4
  iintro %_ ⟨HF, HO, H4⟩
  ihave H8 := (Holds.mono (F := F) c fun A _ => Upper.none (X := X) (I := I) A) $$ H8
  ihave H2 := (Holds.mono (F := F) c fun A _ => DotsTo.none (X := X) (I := I) A) $$ H2
  iapply (seqI c (pairs8 c y0 w0 w1 y2 w2 w3 y4 w4 y5 w5 y6 w6 y7 w7 y8 w8 y9 w9 y10 w10 X I hI))
  isplitl [HF HO H4 H5 H10 H6 H7 H8 H2]
  · isplitl [HF]; · iexact HF
    isplitl [HO]; · iexact HO
    isplitl [H4]; · iexact H4
    isplitl [H5]; · iexact H5
    isplitl [H10]; · iexact H10
    isplitl [H6]; · iexact H6
    isplitl [H7]; · iexact H7
    isplitl [H8]; · iexact H8
    iexact H2
  iintro %_ ⟨HF, HO, H4, H5, H10, H6, H7, H8, H2⟩
  ihave H5 := (Holds.mono (F := F) c fun A _ => Strip.start X 23 A) $$ H5
  ihave H6 := (Holds.mono (F := F) c fun A _ => Picked.start (X := X) (I := I) (f := 22) A) $$ H6
  iapply (seqI c (chunks39 c y0 w0 w1 y2 w2 w3 y4 w4 y5 w5 y6 w6 y7 w7 y8 w8 y9 w9 y10 w10 X I hI))
  isplitl [HF HO H5 H10 H4 H6]
  · isplitl [HF]; · iexact HF
    isplitl [HO]; · iexact HO
    isplitl [H5]; · iexact H5
    isplitl [H10]; · iexact H10
    isplitl [H4]; · iexact H4
    iexact H6
  iintro %_ ⟨HF, HO, H5, H10, H4, H6⟩
  iapply (seqI c (allWords44 c y0 w0 w1 y2 w2 w3 y4 w4 y5 w5 y6 w6 y7 w7 y8 w8 y9 w9 y10 w10 X I))
  isplitl [H6 H7]
  · isplitl [H6]; · iexact H6
    iexact H7
  iintro %_ ⟨H6, H7⟩
  iapply (seqI c (allDots45 c y0 w0 w1 y2 w2 w3 y4 w4 y5 w5 y6 w6 y7 w7 y8 w8 y9 w9 y10 w10 X I))
  isplitl [H7 H8 H2]
  · isplitl [H7]; · iexact H7
    isplitl [H8]; · iexact H8
    iexact H2
  iintro %_ ⟨H7, H8, H2⟩
  iapply (done c)
  isplitl [HF]; · iexact HF
  isplitl [HO]; · iexact HO
  isplitl [Hs]; · iexact Hs
  isplitl [H0]; · iexact H0
  isplitl [H2]; · iexact H2
  isplitl [H4]; · iapply (Holds.mono (F := F) c fun _ _ => trivial) $$ H4
  isplitl [H5]; · iexact H5
  isplitl [H6]; · iapply (Holds.mono (F := F) c fun _ _ => trivial) $$ H6
  isplitl [H7]; · iexact H7
  isplitl [H8]; · iexact H8
  isplitl [H9]; · iapply (Holds.mono (F := F) c fun _ _ => trivial) $$ H9
  iexact H10

/-- The whole kernel: from the table and the ids, every pair's dot product. -/
theorem kernelRun (X : Tab) (I : Ids) (hI : InField I) (g : S4x480x7552.Idx → Elt F .i8) :
    iprop(bigSep Finset.univ (fun j => Home c X j g) ∗ Owes c ∗ semVal ((c : Thread nD τ), SemLoc.dma cc0_scratch9.sem) 0
      ∗ Holds c y0 (fun a => a = I) ∗ Holds c y2 (fun _ => True) ∗ Holds c y4 (fun _ => True) ∗ Holds c y5 (fun _ => True) ∗ Holds c y6 (fun _ => True)
      ∗ Holds c y7 (fun _ => True) ∗ Holds c y8 (fun _ => True) ∗ Holds c y9 (fun _ => True) ∗ Holds c y10 (fun _ => True))
      ⊢ wp frame (wpE (defs₀ (F := F)) Variants.none (c : Thread nD τ) none) Set.univ (cc0_ffm_dots (F := F) y0 w0 A1 w1 y2 w2 A3 w3 y4 w4 y5 w5 y6 w6 y7 w7 y8 w8 y9 w9 y10 w10 cc0_scratch8 cc0_scratch9)
        (fun _ => iprop(bigSep Finset.univ (fun j => Home c X j (stripBuf X 23)) ∗ Owes c ∗ semVal ((c : Thread nD τ), SemLoc.dma cc0_scratch9.sem) 0
          ∗ Holds c y0 (fun a => a = I) ∗ Holds c y2 (DotsTo (F := F) X I 24 0) ∗ Holds c y4 (fun _ => True) ∗ Holds c y5 (fun _ => True) ∗ Holds c y6 (fun _ => True)
          ∗ Holds c y7 (fun _ => True) ∗ Holds c y8 (fun _ => True) ∗ Holds c y9 (fun _ => True) ∗ Holds c y10 (fun _ => True))) := by
  rw [cc0_ffm_dots_eq_skeleton]; unfold cc0_ffm_dots_skel
  refine andThen c (part26Run c y0 w0 w1 y2 w2 w3 y4 w4 y5 w5 y6 w6 y7 w7 y8 w8 y9 w9 y10 w10 X I hI g) fun r => ?_
  obtain ⟨v9, v10, v13, v12⟩ := r
  iintro ⟨HF, HO, Hs, H0, H2, H4, H5, H6, H7, H8, H9, H10⟩
  iapply (seqI c (allKept47 c y0 w0 w1 y2 w2 w3 y4 w4 y5 w5 y6 w6 y7 w7 y8 w8 y9 w9 y10 w10 X I))
  isplitl [H7 H8]
  · isplitl [H7]; · iexact H7
    iexact H8
  iintro %_ ⟨H7, H8⟩
  iapply (seqI c (allPicked48 c y0 w0 w1 y2 w2 w3 y4 w4 y5 w5 y6 w6 y7 w7 y8 w8 y9 w9 y10 w10 X I hI))
  isplitl [H10 H5 H6]
  · isplitl [H10]; · iexact H10
    isplitl [H5]; · iexact H5
    iexact H6
  iintro %_ ⟨H10, H5, H6⟩
  ihave H7 := (Holds.mono (F := F) c (Q := fun _ => True) fun _ _ => trivial) $$ H7
  iapply (seqI c (allWords50 c y0 w0 w1 y2 w2 w3 y4 w4 y5 w5 y6 w6 y7 w7 y8 w8 y9 w9 y10 w10 X I))
  isplitl [H6 H7]
  · isplitl [H6]; · iexact H6
    iexact H7
  iintro %_ ⟨H6, H7⟩
  iapply (seqI c (allDots51 c y0 w0 w1 y2 w2 w3 y4 w4 y5 w5 y6 w6 y7 w7 y8 w8 y9 w9 y10 w10 X I))
  isplitl [H7 H8 H2]
  · isplitl [H7]; · iexact H7
    isplitl [H8]; · iexact H8
    iexact H2
  iintro %_ ⟨H7, H8, H2⟩
  iapply (done c)
  isplitl [HF]; · iexact HF
  isplitl [HO]; · iexact HO
  isplitl [Hs]; · iexact Hs
  isplitl [H0]; · iexact H0
  isplitl [H2]; · iexact H2
  isplitl [H4]; · iexact H4
  isplitl [H5]; · iapply (Holds.mono (F := F) c fun _ _ => trivial) $$ H5
  isplitl [H6]; · iapply (Holds.mono (F := F) c fun _ _ => trivial) $$ H6
  isplitl [H7]; · iapply (Holds.mono (F := F) c fun _ _ => trivial) $$ H7
  isplitl [H8]; · iapply (Holds.mono (F := F) c fun _ _ => trivial) $$ H8
  isplitl [H9]; · iexact H9
  iapply (Holds.mono (F := F) c fun _ _ => trivial) $$ H10

end Cert.Proof.DotsIdeal

end
-- ==== Proof.DotsIdealRun.lean ====
module

public import proofs.«01_k».proof.Proof.DotsIdealKernel
public import proofs.«01_k».proof.Proof.DotsOut
public import Idealize.ShloMosaic.Lib.Pipeline.FrameBody
public import Idealize.ShloMosaic.Lib.PageRing.Basic

@[expose] public section

set_option maxRecDepth 16384

noncomputable section

namespace Cert.Proof.DotsIdeal

open Cert.DotsIdeal Cert.DotsIdeal.Gen Cert.Proof.DotsMath
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at the transfers' algebra -/

set_option maxHeartbeats 800000 in
/-- @main up to the region: the two transposes, then the region. -/
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The ids' window holds its block whatever was in its buffer. -/
theorem beforeD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The kernel's own semaphores and the table -/

/-- The four chunks' semaphores and the ids' one. -/
abbrev osem0 : Fin 5 → SemLoc sig := fun j => (![SemLoc.dma 2, SemLoc.dma 3, SemLoc.dma 4, SemLoc.dma 5, SemLoc.dma 6] : Fin 5 → SemLoc sig) j
/-- The kernel's own semaphores are well placed. -/
theorem ownSemFacts0 : Pipeline.OwnSemFacts spec0 osem0 := by decide

/-- The kernel's semaphores are the four chunks' and the ids'. -/
theorem ownSems0_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (semM 0)) 0 ∗ semVal ((c : Thread nD τ), SemLoc.dma (semM 1)) 0
          ∗ semVal ((c : Thread nD τ), SemLoc.dma (semM 2)) 0 ∗ semVal ((c : Thread nD τ), SemLoc.dma (semM 3)) 0
          ∗ semVal ((c : Thread nD τ), SemLoc.dma cc0_scratch9.sem) 0) := by
  rw [Pipeline.ownSems0_eq_of_list c osem0 [0, 1, 2, 3, 4] (by decide) (by decide)]
  rw [show semM 0 = 2 by decide, show semM 1 = 3 by decide, show semM 2 = 4 by decide, show semM 3 = 5 by decide, show cc0_scratch9.sem = 6 by decide]
  rfl

/-- The transposed table, which the kernel's copies read. -/
def H0 : Finset (Ref sig .tc) := {main_v1}
/-- The table is an array beside the call's blocks. -/
theorem H0_sub : H0 ⊆ Pipeline.restRefs sig spec0 := by decide
/-- The arrays beside the blocks are the table alone. -/
theorem hbmPts0_eq (c : Dev nD) :
    (bigSep H0 (fun b => ((c : Thread nD τ).loc b) ↦{fullShare} V m c b) : sProp 𝕄)
      = (A1.view.loc (c : Thread nD τ) ↦[Finset.univ]{fullShare} V m c main_v1) := by
  rw [BI.bigSep_eq_bigSepL_of_eq [main_v1] (by decide) (by decide)]; rfl
/-- No buffer left in HBM is written by the kernel. -/
def R0 : Finset (Ref sig .tc) := ∅
/-- So that empty set is among the rest. -/
theorem R0_sub : R0 ⊆ Pipeline.restRefs sig spec0 \ H0 := by decide

/-- The table whole is a remainder and a read share for every copy. -/
theorem table_split (c : Dev nD) (X : S480x720000.Idx → Elt F .i8) :
    (tabAt c X fullShare : sProp 𝕄) ⊣⊢ iprop(tabAt c X (Transfers.shareDrop fullShare 60)
      ∗ bigSep Finset.univ (fun j : Fin 4 => bigSep Finset.univ (fun r : Fin 15 => tabAt c X (tok j r)))) := by
  have h := PageRing.toks_by_cell (nD := nD) (τ := τ) (sig := sig) (F := F) (U := Pipeline.UD sig nD τ) (Lvl := ℕ) (ℓ := A1.view.loc (c : Thread nD τ)) (S := Finset.univ) (f := X) fullShare 4 15
  rw [Ring.bigSep_fin_eq_range 4 (fun j : Fin 4 => bigSep Finset.univ (fun r : Fin 15 => (tabAt c X (tok j r) : sProp 𝕄)))
    (fun k => bigSep (Finset.range 15) (fun r => (tabAt c X (Transfers.shareTokN fullShare (15 * k + r)) : sProp 𝕄)))
    (fun j hj => (Ring.bigSep_fin_eq_range 15 (fun r : Fin 15 => (tabAt c X (tok ⟨j, hj⟩ r) : sProp 𝕄))
      (fun r => (tabAt c X (Transfers.shareTokN fullShare (15 * j + r)) : sProp 𝕄)) (fun r hr => rfl)).symm)]
  exact h

/-- The chunk buffers whole are the four chunks. -/
theorem chunks_split (c : Dev nD) (g : S4x480x7552.Idx → Elt F .i8) :
    ((A3.view.loc (c : Thread nD τ) ↦[Finset.univ]{fullShare} g) : sProp 𝕄) = bigSep Finset.univ (fun j => bufAt c (chunkSet j) g) := by
  rw [← chunk_cover]; exact pointsTo_biUnion _ _ chunk_disj

/-- The four chunks at rest are their semaphores at zero, their buffers, and the copies' read shares. -/
theorem homes_eq (c : Dev nD) (X : S480x720000.Idx → Elt F .i8) (g : S4x480x7552.Idx → Elt F .i8) :
    bigSep Finset.univ (fun j => Home c X j g)
      = (iprop(iprop(semVal ((c : Thread nD τ), SemLoc.dma (semM 0)) 0 ∗ semVal ((c : Thread nD τ), SemLoc.dma (semM 1)) 0
          ∗ semVal ((c : Thread nD τ), SemLoc.dma (semM 2)) 0 ∗ semVal ((c : Thread nD τ), SemLoc.dma (semM 3)) 0)
        ∗ (A3.view.loc (c : Thread nD τ) ↦[Finset.univ]{fullShare} g)
        ∗ bigSep Finset.univ (fun j : Fin 4 => bigSep Finset.univ (fun r : Fin 15 => tabAt c X (tok j r)))) : sProp 𝕄) := by
  unfold Home
  refine (BI.bigSep_sep _ _ _).trans (congrArg₂ BIBase.sep ?_ ((BI.bigSep_sep _ _ _).trans (congrArg₂ BIBase.sep (chunks_split c g).symm rfl)))
  exact bigSep_univ_eq_bigSepL [(0 : Fin 4), 1, 2, 3] (by decide) (by decide) (fun j => (semVal ((c : Thread nD τ), SemLoc.dma (semM j)) 0 : sProp 𝕄))

/-! ## The proof data and the body -/

/-- What the body leaves in each window: the ids as they were, and every pair's dot. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outAll (V m c main_v1) (iblk m c 0 t)
  Φ _ := Pipeline.ΦDR osem0 spec0 H0 R0 (V m) c
  q _ := fullShare
  owed _ := 0

/-- An array of the call is read at entry. -/
theorem A_eq (c : Dev nD) (w : Fin cfg0.W) : (dats m 0 c).A w = V m c (Pipeline.arrRef spec0 w) := by
  dsimp only [dats]
/-- The id block is unchanged by the body. -/
theorem after0 (c : Dev nD) (t : Fin cfg0.N) : (dats m 0 c).after 0 t = iblk m c 0 t := by dsimp only [dats]
/-- The output block ends holding every dot product. -/
theorem after1 (c : Dev nD) (t : Fin cfg0.N) : (dats m 0 c).after 1 t = outAll (V m c main_v1) (iblk m c 0 t) := by dsimp only [dats]
/-- The id block before the body is the ids. -/
theorem before0 (c : Dev nD) (t : Fin cfg0.N) (d) : (dats m 0 c).before 0 t d = iblk m c 0 t :=
  beforeD m (dats m 0 c) (A_eq m c 0) (after0 m c) t d

/-- The windows and the scratch as the body finds them. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
/-- The windows and the scratch as the body leaves them. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A scratch array whole, at some contents, is its view held at some contents. -/
theorem scratch_in (c : Dev nD) (b : Ref sig .tc) :
    (iprop(∃ f : Buf (Elt F) ((c : Thread nD τ).loc b), ((c : Thread nD τ).loc b) ↦{fullShare} f) : sProp 𝕄)
      ⊢ Holds c (Memref.whole b) (fun _ => True) := by
  unfold Holds
  iintro ⟨%f, H⟩
  iexists f
  isplitl [H]
  · rw [show (Memref.whole b).view.set = Finset.univ from View.set_whole _]; iexact H
  ipureintro; trivial
/-- And back. -/
theorem scratch_out (c : Dev nD) (b : Ref sig .tc) :
    Holds c (Memref.whole b) (fun _ => True)
      ⊢ (iprop(∃ f : Buf (Elt F) ((c : Thread nD τ).loc b), ((c : Thread nD τ).loc b) ↦{fullShare} f) : sProp 𝕄) := by
  unfold Holds
  iintro ⟨%f, H, -⟩
  iexists f
  rw [show (Memref.whole b).view.set = Finset.univ from View.set_whole _]; iexact H

/-- One run of the body, from the ids and the table, writes every dot product. -/
theorem sound_body (c : Dev nD) (hI : ∀ t, InField (iblk m c 0 t)) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl, after0, after1]
  rw [show (dats m 0 c).Φ t.castSucc = Pipeline.ΦDR osem0 spec0 H0 R0 (V m) c from rfl]
  simp only [before0]
  rw [Pipeline.ΦDR_eq, scopedRest0_eq, ownSems0_eq, hbmPts0_eq]
  unfold Dat.owesAt Pipeline.owesWithin
  rw [show (dats m 0 c).owed t.castSucc = 0 from rfl, show (dats m 0 c).owed t.succ = 0 from rfl]
  unfold owns
  iintro ⟨⟨⟨⟨%g, HS0⟩, HS1, HS2, HS3, HS4, HS5, HS6, HS7⟩, Hg, ⟨Hq0, Hq1, Hq2, Hq3, Hq⟩, HT, HR⟩, ⟨%W, -, HW⟩, ⟨%d0, %f0, %h0, H0⟩, ⟨%d1, %f1, -, H1⟩⟩
  ihave HT' := (table_split c (V m c main_v1)).1 $$ HT
  icases HT' with ⟨Hd, Ht⟩
  iapply (wp_wand_r Idealize.ShloMosaic.frame (wpE (defs₀ (F := F)) Variants.none (c : Thread nD τ) none) Set.univ)
  isplitl [Hq0 Hq1 Hq2 Hq3 Hq HS0 HS1 HS2 HS3 HS4 HS5 HS6 HS7 Ht HW H0 H1]
  · iapply (kernelRun c _ _ _ _ _ _ _ _ _ _ _ _ _ _ _ _ _ _ _ _ (V m c main_v1) (iblk m c 0 t) (hI t) g)
    isplitl [Hq0 Hq1 Hq2 Hq3 HS0 Ht]
    · rw [homes_eq]
      isplitl [Hq0 Hq1 Hq2 Hq3]
      · isplitl [Hq0]; · iexact Hq0
        isplitl [Hq1]; · iexact Hq1
        isplitl [Hq2]; · iexact Hq2
        iexact Hq3
      isplitl [HS0]; · iexact HS0
      iexact Ht
    isplitl [HW]; · iexists W; iexact HW
    isplitl [Hq]; · iexact Hq
    isplitl [H0]
    · unfold Holds; iexists f0
      isplitl [H0]; · iexact H0
      ipureintro; exact h0
    isplitl [H1]
    · unfold Holds; iexists f1
      isplitl [H1]; · iexact H1
      ipureintro; trivial
    isplitl [HS1]; · iapply (scratch_in c cc0_scratch1); iexact HS1
    isplitl [HS2]; · iapply (scratch_in c cc0_scratch2); iexact HS2
    isplitl [HS3]; · iapply (scratch_in c cc0_scratch3); iexact HS3
    isplitl [HS4]; · iapply (scratch_in c cc0_scratch4); iexact HS4
    isplitl [HS5]; · iapply (scratch_in c cc0_scratch5); iexact HS5
    isplitl [HS6]; · iapply (scratch_in c cc0_scratch6); iexact HS6
    iapply (scratch_in c cc0_scratch7); iexact HS7
  iintro %_ ⟨HF, ⟨%W', HW⟩, Hq, H0, H1, HS1, HS2, HS3, HS4, HS5, HS6, HS7⟩
  ihave HF' := (Entails.of_eq (homes_eq c (V m c main_v1) (stripBuf (V m c main_v1) 23))) $$ HF
  icases HF' with ⟨⟨Hq0, Hq1, Hq2, Hq3⟩, HS0, Ht⟩
  isplitl [HS0 HS1 HS2 HS3 HS4 HS5 HS6 HS7 Hg Hq0 Hq1 Hq2 Hq3 Hq Hd Ht HR]
  · isplitl [HS0 HS1 HS2 HS3 HS4 HS5 HS6 HS7]
    · isplitl [HS0]; · iexists _; iexact HS0
      isplitl [HS1]; · iapply (scratch_out c cc0_scratch1); iexact HS1
      isplitl [HS2]; · iapply (scratch_out c cc0_scratch2); iexact HS2
      isplitl [HS3]; · iapply (scratch_out c cc0_scratch3); iexact HS3
      isplitl [HS4]; · iapply (scratch_out c cc0_scratch4); iexact HS4
      isplitl [HS5]; · iapply (scratch_out c cc0_scratch5); iexact HS5
      isplitl [HS6]; · iapply (scratch_out c cc0_scratch6); iexact HS6
      iapply (scratch_out c cc0_scratch7); iexact HS7
    isplitl [Hg]; · iexact Hg
    isplitl [Hq0 Hq1 Hq2 Hq3 Hq]
    · isplitl [Hq0]; · iexact Hq0
      isplitl [Hq1]; · iexact Hq1
      isplitl [Hq2]; · iexact Hq2
      isplitl [Hq3]; · iexact Hq3
      iexact Hq
    isplitl [Hd Ht]
    · iapply (table_split c (V m c main_v1)).2
      isplitl [Hd]; · iexact Hd
      iexact Ht
    iexact HR
  isplitl [HW]
  · iexists W'; isplitr; · ipureintro; exact fun _ _ => Or.inl trivial
    iexact HW
  unfold Holds
  icases H0 with ⟨%e0, H0, %p0⟩
  icases H1 with ⟨%e1, H1, %p1⟩
  isplitl [H0]
  · iexists e0; isplitr
    · ipureintro; exact p0
    · iexact H0
  · iexists e1; isplitr
    · ipureintro; exact p1.all
    · iexact H1

/-- The body the call runs at a step. -/
theorem defs₀_row (t : Fin cfg0.N) :
    defs₀ (F := F) .tc cfg0.body (cfg0.bodyArgs t (cfg0.slots t)) = bodyAt0 t := by
  unfold defs₀; rw [Defs.onTc_tc]

/-- The call's body meets its contract, with ids in their fields. -/
theorem body_obligation (c : Dev nD) (hI : ∀ t, InField (iblk m c 0 t)) : BodyObligation (dats (F := F) m 0 c) (defs₀ (F := F)) Variants.none () Set.univ := fun t => by
  rw [bigSep_W0, bigSep_W0, defs₀_row]
  exact triple_restated (sound_body m c hI t) rfl .rfl fun _ => .rfl

set_option backward.isDefEq.respectTransparency.types false in
/-- The run: the arrays end as the proof data says, every semaphore at zero. -/
theorem run_main (hI : ∀ c t, InField (iblk m c 0 t)) :
    θ_run defs (onTc (τ := τ) (main (F := F))) (s₀ m ρ) (fun r => Pipeline.FramePostR cfgs (dats m) 0 R0 (V m) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c (hI c)).loose) (hshare := fun c => (dats m 0 c).share_full fun _ => rfl)
    (howed := fun _ _ => rfl) (V := V m) (hmain := hmainD m Variants.none) (hA := A_eq m)
    (hin := fun _ => .rfl) (hout := fun _ => .rfl)

/-! ## The ids' window, the result, the claims -/

/-- The ids' window is the transposed ids. -/
theorem iblk0 (c : Dev nD) (t : Fin cfg0.N) : iblk m c 0 t = V m c main_v0 :=
  Memref.read_access_unit_zero (Elt F) main_v0 (off := fun a => win0_0.index t a * main_v0.ty.shape.size a)
    (funext fun a => Nat.zero_mul _) (fun a => by simp; exact Or.inl rfl) (V m c main_v0)

/-- The transposed ids are the ids, transposed. -/
theorem V_v0 (c : Dev nD) : V m c main_v0 = (transpose S8x24x256 [0, 2, 1] (m ((c : Thread nD τ).loc main_arg0)) transposes_S8x256x24_S8x24x256_0_2_1) := by
  rfl
/-- The transposed table is the table, transposed. -/
theorem V_v1 (c : Dev nD) : V m c main_v1 = (transpose S480x720000 [1, 0] (m ((c : Thread nD τ).loc main_arg1)) transposes_S720000x480_S480x720000_1_0) := by
  rfl

/-- What is written back is the array of the dot products. -/
theorem flushed1 (c : Dev nD) (t : Fin cfg0.N) (hf : (cfg0.win 1).flush t = true) :
    (dats m 0 c).flushed 1 t = ((cfg0.win 1).blk t).view.read (Elt F) (outAll (V m c main_v1) (V m c main_v0)) := by
  show (cfg0.win 1).cut (grid0.coords t) ((dats m 0 c).after 1 t) = _
  rw [after1, iblk0]
  exact (Memref.read_access_unit_zero (Elt F) main_v2 (off := fun a => win0_1.index t a * main_v2.ty.shape.size a)
    (funext fun a => Nat.zero_mul _) (fun a => by simp; exact Or.inl rfl) _).symm

/-- The result array ends at the dots. -/
theorem final1 (c : Dev nD) : (dats m 0 c).arrAt 1 cfg0.N = outAll (V m c main_v1) (V m c main_v0) :=
  (dats m 0 c).arrAt_eq_of_cover 1 _ (flushed1 m c) fun i =>
    ⟨t0_0, flush0_1 t0_0, by
      show i ∈ ((View.whole main_v2).slice (win0_1.rect t0_0)).set
      rw [View.set_slice_whole, Rect.mem_set_unit]
      intro a
      refine ⟨by show 0 * _ ≤ _; simp, ?_⟩
      show (i a : ℕ) < 0 * _ + S4416x128.size a
      rw [Nat.zero_mul, Nat.zero_add]; exact (i a).isLt⟩

/-- The frame at any arithmetic: with every id in its field's range the arguments end unchanged and every semaphore at zero. -/
theorem frame (hI : ∀ c, InField (V m c main_v0)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩, h.2⟩)
    (run_main m ρ fun c t => by rw [iblk0]; exact hI c)

/-- The run with its result: the dots, the arguments unchanged. -/
theorem run_values (hI : ∀ c, InField (V m c main_v0)) :
    θ_run defs (onTc (τ := τ) (main (F := F))) ⟨m, fun _ => 0, ρ⟩ (fun r => ∀ c : Dev nD,
      r.2.mem ((c.tc : Thread nD τ).loc main_v2) = outAll (V m c main_v1) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h.1 c).1 1).trans (final1 m c),
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c)⟩)
    (run_main m ρ fun c t => by rw [iblk0]; exact hI c)

end Cert.Proof.DotsIdeal

end
-- ==== Proof.DotsSum.lean ====
module

public import proofs.«01_k».proof.Proof.DotsOut

@[expose] public section

/-! # The words' dot as a sum of products of codes -/

noncomputable section

namespace Cert.Proof.DotsMath

open Idealize.ShloMosaic

/-! ## A word's four codes -/

/-- Byte `i` of a word, sign-extended: shifted to the top and back. -/
theorem sext_byte (w : BitVec 32) (b : BitVec 8) (i : ℕ) (hi : i < 4) (h : ∀ q, q < 8 → w.getLsbD (8 * i + q) = b.getLsbD q) :
    (w <<< (24 - 8 * i)).sshiftRight 24 = BitVec.ofInt 32 b.toInt := by
  show _ = BitVec.signExtend 32 b
  apply BitVec.eq_of_getLsbD_eq
  intro q hq
  rw [BitVec.getLsbD_sshiftRight, BitVec.getLsbD_signExtend, BitVec.msb_eq_getLsbD_last, BitVec.msb_eq_getLsbD_last]
  simp only [BitVec.getLsbD_shiftLeft]
  by_cases h8 : q < 8
  · have := h q h8
    have e : 24 + q - (24 - 8 * i) = 8 * i + q := by omega
    simp [h8, hq, e, this, show 24 + q < 32 by omega, show ¬ (24 + q < 24 - 8 * i) by omega]
  · have := h 7 (by omega)
    have e : 31 - (24 - 8 * i) = 8 * i + 7 := by omega
    simp [h8, hq, e, this, show ¬ 24 + q < 32 by omega, show ¬ (31 < 24 - 8 * i) by omega]

/-- The codes of word `w` of a row, sign-extended. -/
theorem sext_cw (X : Tab) (c w i : ℕ) (hi : i < 4) :
    (cw X c w <<< (24 - 8 * i)).sshiftRight 24 = BitVec.ofInt 32 (byteAt X c (4 * w + i)).toInt :=
  sext_byte _ _ i hi fun q hq => by
    rw [cw_getLsbD X c w _ (by omega), show (8 * i + q) / 8 = i by omega, show (8 * i + q) % 8 = q by omega]

/-- Code `b` of table row `c`, as an integer. -/
def codeZ (X : Tab) (c b : ℕ) : ℤ := (byteAt X c b).toInt

/-- The integer dot of the first `n` words of two rows' groups. -/
def dotZ (X : Tab) (c1 o1 c2 o2 n : ℕ) : ℤ := ∑ k ∈ Finset.range (4 * n), codeZ X c1 (4 * o1 + k) * codeZ X c2 (4 * o2 + k)

/-- Shift right by 24. -/
theorem shr24 (x : BitVec 32) : IntOp.shrsi .vector x 24#32 = x.sshiftRight 24 := by
  unfold IntOp.shrsi; rw [if_pos (by decide)]; rfl
/-- Shift left by 24. -/
theorem shl24 (x : BitVec 32) : IntOp.shli .vector x 24#32 = x <<< 24 := by
  unfold IntOp.shli; rw [if_pos (by decide)]; rfl
/-- Shift left by 16. -/
theorem shl16 (x : BitVec 32) : IntOp.shli .vector x 16#32 = x <<< 16 := by
  unfold IntOp.shli; rw [if_pos (by decide)]; rfl
/-- Shift left by 8. -/
theorem shl8 (x : BitVec 32) : IntOp.shli .vector x 8#32 = x <<< 8 := by
  unfold IntOp.shli; rw [if_pos (by decide)]; rfl

/-- The dot of two words' codes, as the kernel computes it. -/
def dotW (A B : BitVec 32) : BitVec 32 :=
  IntOp.shrsi .vector A 24#32 * IntOp.shrsi .vector B 24#32
    + IntOp.shrsi .vector (IntOp.shli .vector A 24#32) 24#32 * IntOp.shrsi .vector (IntOp.shli .vector B 24#32) 24#32
    + IntOp.shrsi .vector (IntOp.shli .vector A 16#32) 24#32 * IntOp.shrsi .vector (IntOp.shli .vector B 16#32) 24#32
    + IntOp.shrsi .vector (IntOp.shli .vector A 8#32) 24#32 * IntOp.shrsi .vector (IntOp.shli .vector B 8#32) 24#32

/-- Four terms added from the second on. -/
theorem rot4 (p q r s : BitVec 32) : p + q + r + s = q + r + s + p := by
  rw [BitVec.add_comm (q + r + s) p, ← BitVec.add_assoc, ← BitVec.add_assoc]

/-- The same with the codes in order. -/
theorem dotW_eq (A B : BitVec 32) : dotW A B =
    (A <<< (24 - 8 * 0)).sshiftRight 24 * (B <<< (24 - 8 * 0)).sshiftRight 24
      + (A <<< (24 - 8 * 1)).sshiftRight 24 * (B <<< (24 - 8 * 1)).sshiftRight 24
      + (A <<< (24 - 8 * 2)).sshiftRight 24 * (B <<< (24 - 8 * 2)).sshiftRight 24
      + (A <<< (24 - 8 * 3)).sshiftRight 24 * (B <<< (24 - 8 * 3)).sshiftRight 24 := by
  unfold dotW
  rw [shr24, shr24, shr24, shr24, shr24, shr24, shr24, shr24, shl24, shl24, shl16, shl16, shl8, shl8]
  show _ = (A <<< 24).sshiftRight 24 * (B <<< 24).sshiftRight 24 + (A <<< 16).sshiftRight 24 * (B <<< 16).sshiftRight 24
      + (A <<< 8).sshiftRight 24 * (B <<< 8).sshiftRight 24 + (A <<< 0).sshiftRight 24 * (B <<< 0).sshiftRight 24
  rw [BitVec.shiftLeft_zero, BitVec.shiftLeft_zero]
  exact rot4 _ _ _ _

/-- A block of dots is the words' dots. -/
theorem dot4_word (a b : Blk) (i) : dot4 a b i = dotW (a i) (b i) := rfl

/-- A word's product is the sum over its four codes. -/
theorem dot4_apply (X : Tab) (I : Ids) (e f g1 g2 w : ℕ) (i) :
    dot4 (wordBlk X I e g1 w) (wordBlk X I f g2 w) i
      = BitVec.ofInt 32 (∑ k ∈ Finset.range 4, codeZ X (idn I e ((i 0).val * 128 + (i 1).val)) (4 * (g1 * 5 + w) + k)
          * codeZ X (idn I f ((i 0).val * 128 + (i 1).val)) (4 * (g2 * 5 + w) + k)) := by
  rw [dot4_word, Finset.sum_range_succ, Finset.sum_range_succ, Finset.sum_range_succ, Finset.sum_range_one,
    BitVec.ofInt_add, BitVec.ofInt_add, BitVec.ofInt_add, BitVec.ofInt_mul, BitVec.ofInt_mul, BitVec.ofInt_mul, BitVec.ofInt_mul]
  unfold codeZ
  rw [← sext_cw X _ _ 0 (by decide), ← sext_cw X _ _ 1 (by decide), ← sext_cw X _ _ 2 (by decide), ← sext_cw X _ _ 3 (by decide),
    ← sext_cw X _ _ 0 (by decide), ← sext_cw X _ _ 1 (by decide), ← sext_cw X _ _ 2 (by decide), ← sext_cw X _ _ 3 (by decide)]
  show dotW (cw X (idn I e ((i 0).val * 128 + (i 1).val)) (g1 * 5 + w)) (cw X (idn I f ((i 0).val * 128 + (i 1).val)) (g2 * 5 + w)) = _
  generalize cw X (idn I e ((i 0).val * 128 + (i 1).val)) (g1 * 5 + w) = A
  generalize cw X (idn I f ((i 0).val * 128 + (i 1).val)) (g2 * 5 + w) = B
  exact dotW_eq A B

/-- The accumulated words hold the integer dot, to 32 bits. -/
theorem accum_apply (X : Tab) (I : Ids) (e f n : ℕ) (i) :
    accum X I e f n i = BitVec.ofInt 32 (dotZ X (idn I e ((i 0).val * 128 + (i 1).val)) (5 * f)
      (idn I f ((i 0).val * 128 + (i 1).val)) (5 * e) n) := by
  induction n with
  | zero => rfl
  | succ n ih =>
    show accum X I e f n i + dot4 (wordBlk X I e f n) (wordBlk X I f e n) i = _
    rw [ih, dot4_apply, ← BitVec.ofInt_add]
    congr 1
    unfold dotZ
    rw [show 4 * (n + 1) = 4 * n + 4 by ring, Finset.sum_range_add]
    congr 1
    refine Finset.sum_congr rfl fun k _ => ?_
    rw [show 4 * (f * 5 + n) + k = 4 * (5 * f) + (4 * n + k) by ring, show 4 * (e * 5 + n) + k = 4 * (5 * e) + (4 * n + k) by ring]

/-- A code is at most 128 in size. -/
theorem codeZ_bound (X : Tab) (c b : ℕ) : |codeZ X c b| ≤ 128 := by
  unfold codeZ
  have h1 := BitVec.toInt_lt (x := byteAt X c b)
  have h2 := BitVec.le_toInt (byteAt X c b)
  rw [abs_le]; constructor <;> omega

/-- Twenty products of codes do not leave 32 bits. -/
theorem dotZ_bound (X : Tab) (c1 o1 c2 o2 : ℕ) : |dotZ X c1 o1 c2 o2 5| ≤ 327680 := by
  unfold dotZ
  refine (Finset.abs_sum_le_sum_abs _ _).trans ?_
  refine (Finset.sum_le_sum (g := fun _ => (16384 : ℤ)) fun k _ => ?_).trans (by simp)
  rw [abs_mul]
  have := mul_le_mul (codeZ_bound X c1 (4 * o1 + k)) (codeZ_bound X c2 (4 * o2 + k)) (abs_nonneg _) (by norm_num)
  exact this.trans (by norm_num)

/-- The accumulated word, as an integer, is the integer dot. -/
theorem accum_toInt (X : Tab) (I : Ids) (e f : ℕ) (i) :
    (accum X I e f 5 i).toInt = dotZ X (idn I e ((i 0).val * 128 + (i 1).val)) (5 * f)
      (idn I f ((i 0).val * 128 + (i 1).val)) (5 * e) 5 := by
  rw [accum_apply, BitVec.toInt_ofInt]
  have h := dotZ_bound X (idn I e ((i 0).val * 128 + (i 1).val)) (5 * f) (idn I f ((i 0).val * 128 + (i 1).val)) (5 * e)
  rw [abs_le] at h
  exact Int.bmod_eq_of_le (by norm_num; omega) (by norm_num; omega)

/-- A sum of products of integers, at the ideal values. -/
theorem coe_sum_mul (n : ℕ) (a b : ℕ → ℤ) :
    ∑ k : Fin n, (((a k : ℤ) : ℝ) : EReal) * (((b k : ℤ) : ℝ) : EReal) = (((∑ k ∈ Finset.range n, a k * b k : ℤ) : ℝ) : EReal) := by
  rw [Finset.sum_range]
  induction n with
  | zero => simp
  | succ n ih =>
    rw [Fin.sum_univ_castSucc, Fin.sum_univ_castSucc]
    simp only [Fin.val_castSucc, Fin.val_last]
    rw [ih]
    push_cast
    rfl

end Cert.Proof.DotsMath

end
-- ==== Proof.DotsValue.lean ====
module

public import proofs.«01_k».proof.Defs
public import proofs.«01_k».proof.Proof.DotsSum
public import proofs.«01_k».proof.Proof.CombineValue
public import proofs.«01_k».proof.Proof.Gen.DotsRefIdeal
public import proofs.«01_k».proof.Proof.Gen.DotsRefIdeal.Run
public import Idealize.ShloMosaic.Lib.StackMember

@[expose] public section

/-! # The dots' reference at an index, and the kernel's result beside it -/

set_option maxRecDepth 16384

noncomputable section

namespace Cert.Proof.DotsRefIdeal

open Cert.DotsRefIdeal Cert.DotsRefIdeal.Gen Cert.Proof.DotsMath
open Idealize.ShloMosaic Idealize.ShloMosaic.TcCoe Idealize.ShloMosaic.Tactic
open Cert.Proof.CombineRefIdeal (cols0 cols1 clampField)

/-! ## The reference's gathers -/

/-- The dimension numbers of the gather of whole table rows by the ids. -/
abbrev rowDims (wf : GatherDims.WF ⟨2, ![720000, 480]⟩ ⟨4, ![8, 256, 24, 1]⟩ ⟨4, ![8, 256, 24, 480]⟩ [3] [0] [] [0] [] 3 ![1, 480]) :
    GatherDims ⟨2, ![720000, 480]⟩ ⟨4, ![8, 256, 24, 1]⟩ ⟨4, ![8, 256, 24, 480]⟩ where
  offsetDims := [3]
  collapsedSliceDims := [0]
  operandBatchingDims := []
  startIndicesBatchingDims := []
  startIndexMap := [0]
  indexVectorDim := 3
  sliceSizes := ![1, 480]
  wf := wf

/-- That gather at an index: the table row the id names. -/
theorem gather_row {α : Type} (wf) (x : (⟨2, ![720000, 480]⟩ : Shape).Idx → α) (idx : IVec ⟨4, ![8, 256, 24, 1]⟩ 32)
    (b : Fin 8) (s : Fin 256) (f : Fin 24) (k : Fin 480) (r : Fin 720000) (hr : min (idx (ValueIdx.ix4 b s f 0)).toInt.toNat 719999 = r.val) :
    Host.gather (rowDims wf) x idx (ValueIdx.ix4 b s f k) = x (ValueIdx.ix2 r k) := by
  unfold Host.gather
  congr 1
  funext d
  refine Fin.ext ?_
  show (rowDims wf).start (ValueIdx.ix4 b s f k) idx d + (rowDims wf).batchCoord (ValueIdx.ix4 b s f k) d + (rowDims wf).offCoord (ValueIdx.ix4 b s f k) d = _
  rw [GatherDims.batchCoord_eq_zero _ _ _ List.not_mem_nil]
  have hs : (rowDims wf).siIdx (ValueIdx.ix4 b s f k) 0 = ValueIdx.ix4 b s f 0 := by
    funext e; refine Fin.ext ?_
    match e with
    | ⟨0, _⟩ => rfl
    | ⟨1, _⟩ => rfl
    | ⟨2, _⟩ => rfl
    | ⟨3, _⟩ => rfl
  match d with
  | ⟨0, _⟩ =>
    rw [GatherDims.offCoord_eq_zero _ _ _ (fun h => ((GatherDims.mem_sKept _ _).mp h).1 (by show (0 : Fin 2) ∈ ([0] : List (Fin 2)); decide))]
    unfold GatherDims.start
    rw [dif_pos (by show (0 : Fin 2) ∈ ([0] : List (Fin 2)); decide)]
    exact (congrArg (fun z => min (idx z).toInt.toNat 719999) hs).trans hr
  | ⟨1, _⟩ =>
    unfold GatherDims.start
    rw [dif_neg (by show ¬ (1 : Fin 2) ∈ ([0] : List (Fin 2)); decide)]
    show 0 + 0 + _ = _
    unfold GatherDims.offCoord
    rw [dif_pos (by show (1 : Fin 2) ∈ (⟨2, ![720000, 480]⟩ : Shape).kept ([0] ++ []); decide)]; exact Nat.zero_add _

/-- The dimension numbers of the gather of code groups by two fields. -/
abbrev pairDims (wf : GatherDims.WF ⟨5, ![8, 256, 24, 24, 20]⟩ ⟨2, ![276, 2]⟩ ⟨4, ![8, 256, 276, 20]⟩ [0, 1, 3] [2, 3] [] [2, 3] [] 1 ![8, 256, 1, 1, 20]) :
    GatherDims ⟨5, ![8, 256, 24, 24, 20]⟩ ⟨2, ![276, 2]⟩ ⟨4, ![8, 256, 276, 20]⟩ where
  offsetDims := [0, 1, 3]
  collapsedSliceDims := [2, 3]
  operandBatchingDims := []
  startIndicesBatchingDims := []
  startIndexMap := [2, 3]
  indexVectorDim := 1
  sliceSizes := ![8, 256, 1, 1, 20]
  wf := wf

/-- That gather at an index: the group its two start indices name. -/
theorem gather_pair {α : Type} (wf) (x : (⟨5, ![8, 256, 24, 24, 20]⟩ : Shape).Idx → α) (idx : IVec ⟨2, ![276, 2]⟩ 32)
    (b : Fin 8) (s : Fin 256) (p : Fin 276) (k : Fin 20) (e f : Fin 24)
    (he : min (idx (ValueIdx.ix2 p 0)).toInt.toNat 23 = e.val) (hf : min (idx (ValueIdx.ix2 p 1)).toInt.toNat 23 = f.val) :
    Host.gather (pairDims wf) x idx (ValueIdx.ix4 b s p k) = x (ValueIdx.ix5 b s e f k) := by
  unfold Host.gather
  congr 1
  funext d
  refine Fin.ext ?_
  show (pairDims wf).start (ValueIdx.ix4 b s p k) idx d + (pairDims wf).batchCoord (ValueIdx.ix4 b s p k) d + (pairDims wf).offCoord (ValueIdx.ix4 b s p k) d = _
  rw [GatherDims.batchCoord_eq_zero _ _ _ List.not_mem_nil]
  have hs : ∀ q : Fin 2, (pairDims wf).siIdx (ValueIdx.ix4 b s p k) q = ValueIdx.ix2 p q := by
    intro q; funext e; refine Fin.ext ?_
    match e with
    | ⟨0, _⟩ => rfl
    | ⟨1, _⟩ => rfl
  match d with
  | ⟨0, _⟩ =>
    unfold GatherDims.start
    rw [dif_neg (by show ¬ (0 : Fin 5) ∈ ([2, 3] : List (Fin 5)); decide)]
    show 0 + 0 + _ = _
    unfold GatherDims.offCoord
    rw [dif_pos (by show (0 : Fin 5) ∈ (⟨5, ![8, 256, 24, 24, 20]⟩ : Shape).kept ([2, 3] ++ []); decide)]; exact Nat.zero_add _
  | ⟨1, _⟩ =>
    unfold GatherDims.start
    rw [dif_neg (by show ¬ (1 : Fin 5) ∈ ([2, 3] : List (Fin 5)); decide)]
    show 0 + 0 + _ = _
    unfold GatherDims.offCoord
    rw [dif_pos (by show (1 : Fin 5) ∈ (⟨5, ![8, 256, 24, 24, 20]⟩ : Shape).kept ([2, 3] ++ []); decide)]; exact Nat.zero_add _
  | ⟨2, _⟩ =>
    rw [GatherDims.offCoord_eq_zero _ _ _ (fun h => ((GatherDims.mem_sKept _ _).mp h).1 (by show (2 : Fin 5) ∈ ([2, 3] : List (Fin 5)); decide))]
    unfold GatherDims.start
    rw [dif_pos (by show (2 : Fin 5) ∈ ([2, 3] : List (Fin 5)); decide)]
    exact (congrArg (fun z => min (idx z).toInt.toNat 23) (hs 0)).trans he
  | ⟨3, _⟩ =>
    rw [GatherDims.offCoord_eq_zero _ _ _ (fun h => ((GatherDims.mem_sKept _ _).mp h).1 (by show (3 : Fin 5) ∈ ([2, 3] : List (Fin 5)); decide))]
    unfold GatherDims.start
    rw [dif_pos (by show (3 : Fin 5) ∈ ([2, 3] : List (Fin 5)); decide)]
    exact (congrArg (fun z => min (idx z).toInt.toNat 23) (hs 1)).trans hf
  | ⟨4, _⟩ =>
    unfold GatherDims.start
    rw [dif_neg (by show ¬ (4 : Fin 5) ∈ ([2, 3] : List (Fin 5)); decide)]
    show 0 + 0 + _ = _
    unfold GatherDims.offCoord
    rw [dif_pos (by show (4 : Fin 5) ∈ (⟨5, ![8, 256, 24, 24, 20]⟩ : Shape).kept ([2, 3] ++ []); decide)]; exact Nat.zero_add _

/-- The reference's dot product at an index: a sum over the twenty codes. -/
theorem dot_apply (w : DotDims.WF ⟨4, ![8, 256, 276, 20]⟩ ⟨4, ![8, 256, 276, 20]⟩ ⟨3, ![8, 256, 276]⟩ [3] [3] [] [] [0, 1, 2] [0, 1, 2])
    {φ₁ φ₂ : FTy} (prec : Option ContractPrecision) (A : FVec Ideal ⟨4, ![8, 256, 276, 20]⟩ φ₁) (B : FVec Ideal ⟨4, ![8, 256, 276, 20]⟩ φ₂)
    (b : Fin 8) (s : Fin 256) (p : Fin 276) :
    Host.dotGeneral (⟨[3], [3], [], [], [0, 1, 2], [0, 1, 2], w⟩ : DotDims _ _ _) prec A B (ValueIdx.ix3 b s p)
      = ∑ c : Fin 20, A (ValueIdx.ix4 b s p c) * B (ValueIdx.ix4 b s p c) := by
  show FloatOps.dotGeneral _ prec _ A B (ValueIdx.ix3 b s p) = _
  rw [Ideal.dotGeneral_apply,
    ← Equiv.sum_comp (ValueIdx.contrEquiv1 (⟨[3], [3], [], [], [0, 1, 2], [0, 1, 2], w⟩ : DotDims _ _ _) 20 rfl rfl).symm]
  refine Finset.sum_congr rfl fun c _ => ?_
  have c3 := ValueIdx.contrEquiv1_symm_val
    (⟨[3], [3], [], [], [0, 1, 2], [0, 1, 2], w⟩ : DotDims ⟨4, ![8, 256, 276, 20]⟩ ⟨4, ![8, 256, 276, 20]⟩ ⟨3, ![8, 256, 276]⟩) 20 rfl rfl c
  have l3 : (⟨[3], [3], [], [], [0, 1, 2], [0, 1, 2], w⟩ : DotDims ⟨4, ![8, 256, 276, 20]⟩ ⟨4, ![8, 256, 276, 20]⟩ ⟨3, ![8, 256, 276]⟩).lhsIdx (ValueIdx.ix3 b s p)
      ((ValueIdx.contrEquiv1 _ 20 rfl rfl).symm c) = ValueIdx.ix4 b s p c := by
    funext ax; apply Fin.ext
    match ax with
    | ⟨0, _⟩ => rfl
    | ⟨1, _⟩ => rfl
    | ⟨2, _⟩ => rfl
    | ⟨3, _⟩ => exact c3
  have r3 : (⟨[3], [3], [], [], [0, 1, 2], [0, 1, 2], w⟩ : DotDims ⟨4, ![8, 256, 276, 20]⟩ ⟨4, ![8, 256, 276, 20]⟩ ⟨3, ![8, 256, 276]⟩).rhsIdx (ValueIdx.ix3 b s p)
      ((ValueIdx.contrEquiv1 _ 20 rfl rfl).symm c) = ValueIdx.ix4 b s p c := by
    funext ax; apply Fin.ext
    match ax with
    | ⟨0, _⟩ => rfl
    | ⟨1, _⟩ => rfl
    | ⟨2, _⟩ => rfl
    | ⟨3, _⟩ => exact c3
  rw [l3, r3]

/-! ## The reference's intermediate arrays -/

/-- The pairs' first fields as the reference gathers them. -/
abbrev colA : IVec S276x1 32 :=
  broadcastInDim S276x1 ![0] Facts₀.bcast_S276_S276x1_0 (select (constantI S276 1 0#1) (addi ((fun i => lit0 (S276.rowMajor i))) (broadcastInDim S276 ![] Facts₀.bcast_S_S276 (constantI S_ 32 24#32))) ((fun i => lit0 (S276.rowMajor i))))
/-- The pairs' second fields as the reference gathers them. -/
abbrev colB : IVec S276x1 32 :=
  broadcastInDim S276x1 ![0] Facts₀.bcast_S276_S276x1_0 (select (constantI S276 1 0#1) (addi ((fun i => lit1 (S276.rowMajor i))) (broadcastInDim S276 ![] Facts₀.bcast_S_S276 (constantI S_ 32 24#32))) ((fun i => lit1 (S276.rowMajor i))))
/-- The reference's first column lists each pair's first field. -/
theorem colA_eq : ∀ p : Fin 276, colA (ValueIdx.ix2 p 0) = BitVec.ofNat 32 (pFst p.val) := by decide +kernel
/-- The second column lists each pair's second field. -/
theorem colB_eq : ∀ p : Fin 276, colB (ValueIdx.ix2 p 0) = BitVec.ofNat 32 (pSnd p.val) := by decide +kernel
/-- A pair's first field is a field. -/
theorem pFst_lt (p : Fin 276) : pFst p.val < 24 := by have := pair_of p; omega
/-- A pair's second field is a field. -/
theorem pSnd_lt (p : Fin 276) : pSnd p.val < 24 := (pair_of p).2.1

/-- The ids as the reference reads them. -/
abbrev starts (x0 : IVec S8x256x24 32) : IVec S8x256x24x1 32 :=
  broadcastInDim S8x256x24x1 ![0, 1, 2] Facts₀.bcast_S8x256x24_S8x256x24x1_0_1_2 (select (cmpi .slt x0 (broadcastInDim S8x256x24 ![] Facts₀.bcast_S_S8x256x24 (constantI S_ 32 0#32)))
    (addi x0 (broadcastInDim S8x256x24 ![] Facts₀.bcast_S_S8x256x24 (constantI S_ 32 720000#32))) x0)
/-- The codes gathered by id, by field of the partner. -/
abbrev groups (x0 : IVec S8x256x24 32) (x1 : IVec S720000x480 8) : IVec S8x256x24x24x20 8 :=
  shapeCast _ (Host.gather gather_S720000x480_S8x256x24x1_S8x256x24x480_3_0_n_n_0_3_1480 x1 (starts x0)) Facts₀.shapeCasts_S8x256x24x480_S8x256x24x24x20
/-- The first operand's codes. -/
abbrev codesA (x0 : IVec S8x256x24 32) (x1 : IVec S720000x480 8) : IVec S8x256x276x20 8 :=
  Host.gather gather_S8x256x24x24x20_S276x2_S8x256x276x20_013_23_n_n_23_1_82561120 (groups x0 x1) (concatenate S276x2 1 [⟨S276x1, colA⟩, ⟨S276x1, colB⟩] Facts₀.concatenates_S276x1_S276x1_S276x2_d1)
/-- The second operand's codes. -/
abbrev codesB (x0 : IVec S8x256x24 32) (x1 : IVec S720000x480 8) : IVec S8x256x276x20 8 :=
  Host.gather gather_S8x256x24x24x20_S276x2_S8x256x276x20_013_23_n_n_23_1_82561120 (groups x0 x1) (concatenate S276x2 1 [⟨S276x1, colB⟩, ⟨S276x1, colA⟩] Facts₀.concatenates_S276x1_S276x1_S276x2_d1)
/-- The reference's dots, position by position. -/
abbrev refDots (x0 : IVec S8x256x24 32) (x1 : IVec S720000x480 8) : FVec Ideal S8x256x276 .f32 :=
  Host.dotGeneral dot_S8x256x276x20_S8x256x276x20_S8x256x276_3_3_n_n_012_012 none (sitofp (F := Ideal) .bf16 (extsi 32 (codesA x0 x1) Facts₀.natLt_8_32)) (sitofp (F := Ideal) .bf16 (extsi 32 (codesB x0 x1) Facts₀.natLt_8_32))
/-- The reference's result. -/
abbrev refOut (x0 : IVec S8x256x24 32) (x1 : IVec S720000x480 8) : FVec Ideal S4416x128 .f32 :=
  shapeCast _ (transpose S276x2x8x128 [3, 1, 0, 2] (shapeCast _ (refDots x0 x1) Facts₀.shapeCasts_S8x256x276_S8x2x128x276) Facts₀.transposes_S8x2x128x276_S276x2x8x128_3_1_0_2) Facts₀.shapeCasts_S276x2x8x128_S4416x128

/-- Every id lies in its own field's range. -/
def IdsOk (x0 : IVec S8x256x24 32) : Prop := ∀ (b : Fin 8) (s : Fin 256) (f : Fin 24),
  30000 * f.val ≤ (x0 (ValueIdx.ix3 b s f)).toNat ∧ (x0 (ValueIdx.ix3 b s f)).toNat < 30000 * f.val + 30000

/-- An id in range is read as itself. -/
theorem starts_apply {x0 : IVec S8x256x24 32} (h : IdsOk x0) (b : Fin 8) (s : Fin 256) (f : Fin 24) :
    min (starts x0 (ValueIdx.ix4 b s f 0)).toInt.toNat 719999 = (x0 (ValueIdx.ix3 b s f)).toNat := by
  have hx := h b s f
  have hf := f.isLt
  have e : starts x0 (ValueIdx.ix4 b s f 0) = (if (BitVec.ofBool ((x0 (ValueIdx.ix3 b s f)).slt 0#32)) = 1#1 then x0 (ValueIdx.ix3 b s f) + 720000#32 else x0 (ValueIdx.ix3 b s f)) := by
    show (select (cmpi .slt x0 (broadcastInDim S8x256x24 ![] Facts₀.bcast_S_S8x256x24 (constantI S_ 32 0#32)))
      (addi x0 (broadcastInDim S8x256x24 ![] Facts₀.bcast_S_S8x256x24 (constantI S_ 32 720000#32))) x0) _ = _
    refine (congrArg _ (funext fun d => Fin.ext ?_ : _ = ValueIdx.ix3 b s f)).trans rfl
    match d with
    | ⟨0, _⟩ => rfl
    | ⟨1, _⟩ => rfl
    | ⟨2, _⟩ => rfl
  have hi : (x0 (ValueIdx.ix3 b s f)).toInt = ((x0 (ValueIdx.ix3 b s f)).toNat : ℤ) := BitVec.toInt_eq_toNat_of_lt (by omega)
  rw [e, if_neg, hi]
  · rw [Int.toNat_natCast]; omega
  · have : (x0 (ValueIdx.ix3 b s f)).slt 0#32 = false := by
      rw [BitVec.slt, hi]; simp
    rw [this]; decide

/-- A gathered code is the table's. -/
theorem groups_apply {x0 : IVec S8x256x24 32} (h : IdsOk x0) (x1 : IVec S720000x480 8) (b : Fin 8) (s : Fin 256) (e f : Fin 24) (k : Fin 20) :
    groups x0 x1 (ValueIdx.ix5 b s e f k) = x1 (ValueIdx.ix2 (⟨(x0 (ValueIdx.ix3 b s e)).toNat, by have := h b s e; omega⟩ : Fin 720000) (⟨20 * f.val + k.val, by omega⟩ : Fin 480)) := by
  refine (Idealize.ShloMosaic.shapeCast_apply _ _ _ (ValueIdx.ix4 b s e (⟨20 * f.val + k.val, by omega⟩ : Fin 480)) ?_).trans (gather_row _ _ _ b s e _ _ (starts_apply h b s e))
  rw [Shape.rowMajor_val_four, Shape.rowMajor_val_five]
  show (((b.val * 256 + s.val) * 24 + e.val) * 480 + (20 * f.val + k.val)) = ((((b.val * 256 + s.val) * 24 + e.val) * 24 + f.val) * 20 + k.val)
  ring

/-- The first gather, at an entry. -/
theorem codesA_apply {x0 : IVec S8x256x24 32} (x1 : IVec S720000x480 8) (b : Fin 8) (s : Fin 256) (p : Fin 276) (k : Fin 20) :
    codesA x0 x1 (ValueIdx.ix4 b s p k) = groups x0 x1 (ValueIdx.ix5 b s ⟨pFst p.val, pFst_lt p⟩ ⟨pSnd p.val, pSnd_lt p⟩ k) := by
  refine gather_pair _ _ _ b s p k _ _ ?_ ?_
  · rw [cols0, colA_eq]; exact clampField ⟨pFst p.val, pFst_lt p⟩
  · rw [cols1, colB_eq]; exact clampField ⟨pSnd p.val, pSnd_lt p⟩
/-- The second gather, at an entry. -/
theorem codesB_apply {x0 : IVec S8x256x24 32} (x1 : IVec S720000x480 8) (b : Fin 8) (s : Fin 256) (p : Fin 276) (k : Fin 20) :
    codesB x0 x1 (ValueIdx.ix4 b s p k) = groups x0 x1 (ValueIdx.ix5 b s ⟨pSnd p.val, pSnd_lt p⟩ ⟨pFst p.val, pFst_lt p⟩ k) := by
  refine gather_pair _ _ _ b s p k _ _ ?_ ?_
  · rw [cols0, colB_eq]; exact clampField ⟨pSnd p.val, pSnd_lt p⟩
  · rw [cols1, colA_eq]; exact clampField ⟨pFst p.val, pFst_lt p⟩

/-- The table transposed. -/
abbrev tabOf (x1 : IVec S720000x480 8) (h : S720000x480.Transposes [1, 0] (⟨2, ![480, 720000]⟩ : Shape)) : Tab := transpose (⟨2, ![480, 720000]⟩ : Shape) [1, 0] x1 h
/-- The ids transposed. -/
abbrev idsOf (x0 : IVec S8x256x24 32) (h : S8x256x24.Transposes [0, 2, 1] (⟨3, ![8, 24, 256]⟩ : Shape)) : Ids := transpose (⟨3, ![8, 24, 256]⟩ : Shape) [0, 2, 1] x0 h

/-- The ids as the kernel reads them, at an entry. -/
theorem idsOf_apply (x0 : IVec S8x256x24 32) (h) (b : Fin 8) (f : Fin 24) (s : Fin 256) : idsOf x0 h (ValueIdx.ix3 b f s) = x0 (ValueIdx.ix3 b s f) :=
  Idealize.ShloMosaic.transpose_apply _ x0 h _ _ fun a => by
    match a with
    | ⟨0, _⟩ => rfl
    | ⟨1, _⟩ => rfl
    | ⟨2, _⟩ => rfl

/-- The precondition puts every id in its field. -/
theorem inField_of {x0 : IVec S8x256x24 32} (hx : IdsOk x0) (h) : InField (idsOf x0 h) := fun b f s => by
  rw [idsOf_apply]; exact hx b s f

/-- A code of the transposed table by number. -/
theorem codeZ_apply (x1 : IVec S720000x480 8) (h) (r : Fin 720000) (k : Fin 480) : codeZ (tabOf x1 h) r.val k.val = (x1 (ValueIdx.ix2 r k)).toInt := by
  unfold codeZ byteAt
  refine congrArg BitVec.toInt ((ValueIdx.transpose_ix2_apply x1 h _ _).trans (congrArg x1 ?_))
  funext a
  refine Fin.ext ?_
  match a with
  | ⟨0, _⟩ => exact Nat.mod_eq_of_lt r.isLt
  | ⟨1, _⟩ => exact Nat.mod_eq_of_lt k.isLt

/-- A code converted, at the ideal values, is the integer. -/
theorem conv_apply (v : IVec S8x256x276x20 8) (j : S8x256x276x20.Idx) :
    sitofp (F := Ideal) .bf16 (extsi 32 v Facts₀.natLt_8_32) j = ((((v j).toInt : ℤ) : ℝ) : EReal) := by
  show ((((v j).signExtend 32).toInt : ℝ) : EReal) = _
  rw [BitVec.toInt_signExtend_of_le (by decide)]

/-- The reference's dot at an index is the integer dot. -/
theorem refDots_apply {x0 : IVec S8x256x24 32} (hx : IdsOk x0) (x1 : IVec S720000x480 8) (h) (b : Fin 8) (s : Fin 256) (p : Fin 276) :
    refDots x0 x1 (ValueIdx.ix3 b s p) = (((dotZ (tabOf x1 h) (x0 (ValueIdx.ix3 b s ⟨pFst p.val, pFst_lt p⟩)).toNat (5 * pSnd p.val)
      (x0 (ValueIdx.ix3 b s ⟨pSnd p.val, pSnd_lt p⟩)).toNat (5 * pFst p.val) 5 : ℤ) : ℝ) : EReal) := by
  refine (dot_apply _ none _ _ b s p).trans ?_
  unfold dotZ
  refine Eq.trans (Finset.sum_congr rfl fun c _ => ?_) (coe_sum_mul 20 _ _)
  rw [conv_apply, conv_apply, codesA_apply, codesB_apply, groups_apply hx, groups_apply hx, ← codeZ_apply x1 h, ← codeZ_apply x1 h]
  show _ = ((codeZ _ _ (4 * (5 * pSnd p.val) + c.val) : ℝ) : EReal) * ((codeZ _ _ (4 * (5 * pFst p.val) + c.val) : ℝ) : EReal)
  rw [show 4 * (5 * pSnd p.val) = 20 * pSnd p.val by ring, show 4 * (5 * pFst p.val) = 20 * pFst p.val by ring]

/-- The reference's result is the kernel's. -/
theorem refOut_eq {x0 : IVec S8x256x24 32} (hx : IdsOk x0) (x1 : IVec S720000x480 8) (h0) (h1) :
    refOut x0 x1 = outAll (F := Ideal) (tabOf x1 h1) (idsOf x0 h0) := by
  funext i
  obtain ⟨a, l, rfl⟩ : ∃ (a : Fin 4416) (l : Fin 128), i = ValueIdx.ix2 a l := ⟨i 0, i 1, ValueIdx.eq_ix2 i⟩
  have ha := a.isLt
  have hl := l.isLt
  have key : refOut x0 x1 (ValueIdx.ix2 a l) = refDots x0 x1 (ValueIdx.ix3 (⟨a.val % 8, by omega⟩ : Fin 8) (⟨(a.val % 16 / 8) * 128 + l.val, by omega⟩ : Fin 256) (⟨a.val / 16, by omega⟩ : Fin 276)) := by
    refine (Idealize.ShloMosaic.shapeCast_apply _ _ _ (ValueIdx.ix4 (⟨a.val / 16, by omega⟩ : Fin 276) (⟨a.val % 16 / 8, by omega⟩ : Fin 2) (⟨a.val % 8, by omega⟩ : Fin 8) l) ?_).trans ?_
    · rw [Shape.rowMajor_val_four, Shape.rowMajor_val_two]
      show (((a.val / 16) * 2 + a.val % 16 / 8) * 8 + a.val % 8) * 128 + l.val = a.val * 128 + l.val
      omega
    refine (Idealize.ShloMosaic.transpose_apply _ _ _ _ (ValueIdx.ix4 (⟨a.val % 8, by omega⟩ : Fin 8) (⟨a.val % 16 / 8, by omega⟩ : Fin 2) l (⟨a.val / 16, by omega⟩ : Fin 276)) fun d => ?_).trans ?_
    · match d with
      | ⟨0, _⟩ => rfl
      | ⟨1, _⟩ => rfl
      | ⟨2, _⟩ => rfl
      | ⟨3, _⟩ => rfl
    refine Idealize.ShloMosaic.shapeCast_apply _ _ _ _ ?_
    rw [Shape.rowMajor_val_four, Shape.rowMajor_val_three]
    show ((a.val % 8) * 256 + ((a.val % 16 / 8) * 128 + l.val)) * 276 + a.val / 16 = (((a.val % 8) * 2 + a.val % 16 / 8) * 128 + l.val) * 276 + a.val / 16
    ring
  refine key.trans ((refDots_apply hx x1 h1 _ _ _).trans ?_)
  show _ = (((accum (tabOf x1 h1) (idsOf x0 h0) (pFst (a.val / 16)) (pSnd (a.val / 16)) 5 (ValueIdx.ix2 (⟨a.val % 16, Nat.mod_lt _ (by decide)⟩ : Fin 16) l)).toInt : ℝ) : EReal)
  rw [accum_toInt]
  have hid : ∀ f : Fin 24, idn (idsOf x0 h0) f.val (a.val % 16 * 128 + l.val)
      = (x0 (ValueIdx.ix3 (⟨a.val % 8, by omega⟩ : Fin 8) (⟨(a.val % 16 / 8) * 128 + l.val, by omega⟩ : Fin 256) f)).toNat := fun f => by
    unfold idn idAt
    rw [idsOf_apply]
    refine congrArg (fun z => (x0 z).toNat) (funext fun d => Fin.ext ?_)
    have hf := f.isLt
    match d with
    | ⟨0, _⟩ => show (a.val % 16 * 128 + l.val) / 128 % 8 = a.val % 8; omega
    | ⟨1, _⟩ => show ((a.val % 16 * 128 + l.val) / 1024 % 2) * 128 + (a.val % 16 * 128 + l.val) % 128 = (a.val % 16 / 8) * 128 + l.val; omega
    | ⟨2, _⟩ => show f.val % 24 = f.val; omega
  have e1 := hid ⟨pFst (a.val / 16), pFst_lt ⟨a.val / 16, by omega⟩⟩
  have e2 := hid ⟨pSnd (a.val / 16), pSnd_lt ⟨a.val / 16, by omega⟩⟩
  show _ = ((dotZ _ (idn _ (pFst (a.val / 16)) (a.val % 16 * 128 + l.val)) _ (idn _ (pSnd (a.val / 16)) (a.val % 16 * 128 + l.val)) _ 5 : ℝ) : EReal)
  simp only at e1 e2
  rw [e1, e2]

end Cert.Proof.DotsRefIdeal

end
-- ==== Proof.lean ====
module

public import proofs.«01_k».proof.Defs
public import proofs.«01_k».proof.Proof.Gen.Dots
public import proofs.«01_k».proof.Proof.Gen.Dots.Skeleton
public import proofs.«01_k».proof.Proof.Gen.Dots.Launch
public import proofs.«01_k».proof.Proof.Gen.Dots.Points
public import proofs.«01_k».proof.Proof.Gen.Dots.Frame
public import proofs.«01_k».proof.Proof.Gen.DotsIdeal
public import proofs.«01_k».proof.Proof.Gen.DotsIdeal.Skeleton
public import proofs.«01_k».proof.Proof.Gen.DotsIdeal.Launch
public import proofs.«01_k».proof.Proof.Gen.DotsIdeal.Points
public import proofs.«01_k».proof.Proof.Gen.DotsIdeal.Frame
public import proofs.«01_k».proof.Proof.Gen.DotsRefIdeal
public import proofs.«01_k».proof.Proof.Gen.DotsRefIdeal.Run
public import proofs.«01_k».proof.Proof.Gen.Pre_in_field
public import proofs.«01_k».proof.Proof.CombineKernel
public import proofs.«01_k».proof.Proof.CombineValue
public import proofs.«01_k».proof.Proof.DotsRun
public import proofs.«01_k».proof.Proof.DotsIdealRun
public import proofs.«01_k».proof.Proof.DotsValue

@[expose] public section

set_option maxRecDepth 16384

noncomputable section

namespace Cert.Proof

open Idealize.ShloMosaic Idealize.ShloMosaic.TcCoe Idealize.SL.Sem

/-- The reference's combination of dots and rows leaves its arguments and its semaphores as they were. -/
theorem combine_ref_frame (m : (ℓ : Loc Cert.CombineRefIdeal.nD Cert.CombineRefIdeal.τ Cert.CombineRefIdeal.sig) → Buf (Elt Ideal) ℓ)
    (ρ : Dev Cert.CombineRefIdeal.nD → PrngReg) :
    θ_run (Cert.CombineRefIdeal.defs (F := Ideal)) (onTc (τ := Cert.CombineRefIdeal.τ) (Cert.CombineRefIdeal.main (F := Ideal))) ⟨m, fun _ => 0, ρ⟩
      (fun r => (∀ c : Dev Cert.CombineRefIdeal.nD,
          r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2))
        ∧ r.2.sem = fun _ => 0) :=
  (θ_run Cert.CombineRefIdeal.defs _ _).mono (fun r h =>
    ⟨fun c => (h c).2.2, Idealize.ShloMosaic.sem_eq_zero_of_no_sems (by decide) r.2⟩)
    (Cert.CombineRefIdeal.Value.run m ρ)

/-- The combine call and its reference leave equal arrays at the ideal arithmetic. -/
theorem combine_algebraic : Cert.algebraic_CombineIdeal_CombineRefIdeal := by
  intro m g m' g' _ hargs
  refine ⟨fun c => Cert.Proof.CombineIdeal.logits m c, fun c => Cert.Proof.CombineIdeal.pairsAll _ _,
    Cert.Proof.CombineIdeal.run_values m g, ?_⟩
  refine (θ_run Cert.CombineRefIdeal.defs _ _).mono (fun r h c => ?_) (Cert.CombineRefIdeal.Value.run m' g')
  obtain ⟨a0, a1, a2⟩ := hargs c
  have hp := Cert.Proof.CombineRefIdeal.ref_pairs (m ((c.tc : Thread Cert.CombineIdeal.nD Cert.CombineIdeal.τ).loc Cert.CombineIdeal.main_arg1)) (m ((c.tc : Thread Cert.CombineIdeal.nD Cert.CombineIdeal.τ).loc Cert.CombineIdeal.main_arg2))
  have hl := Cert.Proof.CombineRefIdeal.ref_logits (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2))
  rw [← hp] at hl
  obtain ⟨h1, h2, h3⟩ := h c
  rw [a0, a1, a2] at h1
  rw [a1, a2] at h2
  exact ⟨h1.trans hl, h2.trans hp, h3⟩

/-- `in_field` of the ids, all ones, says every id lies in its own field's range. -/
theorem idsOk_of {F : FTy → Type} [FloatOps F] (x0 : IVec Cert.Pre_in_field.S8x256x24 32) (x1 : IVec Cert.Pre_in_field.S720000x480 8)
    (h : Cert.Pre_in_field.fn (F := F) x0 x1 = fun _ => 1#1) : Cert.Proof.DotsRefIdeal.IdsOk x0 := by
  intro b s f
  have hf := f.isLt
  have hj := congrFun h (ValueIdx.ix3 b s f)
  have e : Cert.Pre_in_field.fn (F := F) x0 x1 (ValueIdx.ix3 b s f)
      = BitVec.ofBool ((30000#32 * BitVec.ofNat 32 f.val).sle (x0 (ValueIdx.ix3 b s f)))
        &&& BitVec.ofBool ((x0 (ValueIdx.ix3 b s f)).slt (30000#32 * BitVec.ofNat 32 f.val + 30000#32)) := rfl
  rw [e] at hj
  have h1 : (30000#32 * BitVec.ofNat 32 f.val).sle (x0 (ValueIdx.ix3 b s f)) = true := by
    by_contra hc
    rw [Bool.not_eq_true] at hc
    rw [hc] at hj
    exact absurd hj (by cases ((x0 (ValueIdx.ix3 b s f)).slt (30000#32 * BitVec.ofNat 32 f.val + 30000#32)) <;> decide)
  have h2 : (x0 (ValueIdx.ix3 b s f)).slt (30000#32 * BitVec.ofNat 32 f.val + 30000#32) = true := by
    by_contra hc
    rw [Bool.not_eq_true] at hc
    rw [hc] at hj
    exact absurd hj (by cases ((30000#32 * BitVec.ofNat 32 f.val).sle (x0 (ValueIdx.ix3 b s f))) <;> decide)
  have n1 : (30000#32 * BitVec.ofNat 32 f.val).toNat = 30000 * f.val := by
    rw [BitVec.toNat_mul, BitVec.toNat_ofNat, BitVec.toNat_ofNat]
    omega
  have n2 : (30000#32 * BitVec.ofNat 32 f.val + 30000#32).toNat = 30000 * f.val + 30000 := by
    rw [BitVec.toNat_add, n1, BitVec.toNat_ofNat]
    omega
  rw [BitVec.sle, decide_eq_true_eq, BitVec.toInt_eq_toNat_of_lt (x := 30000#32 * BitVec.ofNat 32 f.val) (by omega), n1] at h1
  rw [BitVec.slt, decide_eq_true_eq, BitVec.toInt_eq_toNat_of_lt (x := 30000#32 * BitVec.ofNat 32 f.val + 30000#32) (by omega), n2] at h2
  have h3 : (x0 (ValueIdx.ix3 b s f)).toInt = ((x0 (ValueIdx.ix3 b s f)).toNat : ℤ) := by
    have := BitVec.toInt_eq_toNat_cond (x0 (ValueIdx.ix3 b s f))
    have := (x0 (ValueIdx.ix3 b s f)).isLt
    split at * <;> omega
  omega

/-- The dots call's frame: with every id in its field's range it runs, its arguments unchanged, its semaphores at zero. -/
theorem dots_frame : Cert.quiescent_Dots := fun m ρ hpre =>
  Cert.Proof.Dots.frame m ρ fun c => by
    rw [Cert.Proof.Dots.V_v0]
    exact Cert.Proof.DotsRefIdeal.inField_of (idsOk_of _ _ (hpre c)) _

/-- The same at the ideal arithmetic. -/
theorem dots_ideal_frame : Cert.quiescent_DotsIdeal := fun m ρ hpre =>
  Cert.Proof.DotsIdeal.frame m ρ fun c => by
    rw [Cert.Proof.DotsIdeal.V_v0]
    exact Cert.Proof.DotsRefIdeal.inField_of (idsOk_of _ _ (hpre c)) _

/-- The dots' reference leaves its arguments and its semaphores as they were. -/
theorem dots_ref_frame : Cert.quiescent_DotsRefIdeal := fun m ρ _ =>
  (θ_run Cert.DotsRefIdeal.defs _ _).mono (fun r h =>
    ⟨fun c => (h c).2, Idealize.ShloMosaic.sem_eq_zero_of_no_sems (by decide) r.2⟩)
    (Cert.DotsRefIdeal.Value.run m ρ)

/-- The dots call and its reference leave equal arrays at the ideal arithmetic. -/
theorem dots_algebraic : Cert.algebraic_DotsIdeal_DotsRefIdeal := by
  intro m g m' g' hpre hargs
  have hx := fun c => idsOk_of _ _ (hpre c)
  refine ⟨_, Cert.Proof.DotsIdeal.run_values m g fun c => by
    rw [Cert.Proof.DotsIdeal.V_v0]
    exact Cert.Proof.DotsRefIdeal.inField_of (hx c) _, ?_⟩
  refine (θ_run Cert.DotsRefIdeal.defs _ _).mono (fun r h c => ?_) (Cert.DotsRefIdeal.Value.run m' g')
  obtain ⟨a0, a1⟩ := hargs c
  obtain ⟨h1, h2⟩ := h c
  rw [a0, a1] at h1
  rw [Cert.Proof.DotsIdeal.V_v0, Cert.Proof.DotsIdeal.V_v1]
  exact ⟨h1.trans (Cert.Proof.DotsRefIdeal.refOut_eq (hx c) _ _ _), h2⟩

/-- Every claim, together. -/
theorem claim : Cert.Claim :=
  ⟨Cert.Dots.Gen.facts, Cert.DotsIdeal.Gen.facts, Cert.DotsRefIdeal.Gen.facts,
    Cert.Combine.Gen.facts, Cert.CombineIdeal.Gen.facts, Cert.CombineRefIdeal.Gen.facts, Cert.Pre_in_field.Gen.facts,
    dots_frame, dots_ideal_frame, dots_ref_frame, fun m ρ _ => dots_ref_frame m ρ trivial,
    fun m ρ _ => Cert.Proof.Combine.frame m ρ, fun m ρ _ => Cert.Proof.CombineIdeal.frame m ρ,
    fun m ρ _ => combine_ref_frame m ρ, trivial, dots_algebraic, trivial, combine_algebraic⟩

end Cert.Proof

end
